-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoIdeal_wo_finite [hPre_wo_finite : Cert.Pre_wo_finite.Facts] (m : (ℓ : Loc Cert.WoIdeal.nD Cert.WoIdeal.τ Cert.WoIdeal.sig) → Buf (Elt Ideal) ℓ) : Prop :=
  ∀ c : Dev Cert.WoIdeal.nD,
    (Cert.Pre_wo_finite.fn (F := Ideal) (m ((c.tc : Thread Cert.WoIdeal.nD Cert.WoIdeal.τ).loc Cert.WoIdeal.main_arg0)) (m ((c.tc : Thread Cert.WoIdeal.nD Cert.WoIdeal.τ).loc Cert.WoIdeal.main_arg1)) (m ((c.tc : Thread Cert.WoIdeal.nD Cert.WoIdeal.τ).loc Cert.WoIdeal.main_arg2)) (m ((c.tc : Thread Cert.WoIdeal.nD Cert.WoIdeal.τ).loc Cert.WoIdeal.main_arg3)) (m ((c.tc : Thread Cert.WoIdeal.nD Cert.WoIdeal.τ).loc Cert.WoIdeal.main_arg4)) (m ((c.tc : Thread Cert.WoIdeal.nD Cert.WoIdeal.τ).loc Cert.WoIdeal.main_arg5))) = (fun _ => 1#1)

def Pre_WoRefIdeal (m : (ℓ : Loc Cert.WoRefIdeal.nD Cert.WoRefIdeal.τ Cert.WoRefIdeal.sig) → Buf (Elt Ideal) ℓ) : Prop :=
  True

def Pre_WoRefIdeal_wo_finite [hPre_wo_finite : Cert.Pre_wo_finite.Facts] (m : (ℓ : Loc Cert.WoRefIdeal.nD Cert.WoRefIdeal.τ Cert.WoRefIdeal.sig) → Buf (Elt Ideal) ℓ) : Prop :=
  ∀ c : Dev Cert.WoRefIdeal.nD,
    (Cert.Pre_wo_finite.fn (F := Ideal) (m ((c.tc : Thread Cert.WoRefIdeal.nD Cert.WoRefIdeal.τ).loc Cert.WoRefIdeal.main_arg0)) (m ((c.tc : Thread Cert.WoRefIdeal.nD Cert.WoRefIdeal.τ).loc Cert.WoRefIdeal.main_arg1)) (m ((c.tc : Thread Cert.WoRefIdeal.nD Cert.WoRefIdeal.τ).loc Cert.WoRefIdeal.main_arg2)) (m ((c.tc : Thread Cert.WoRefIdeal.nD Cert.WoRefIdeal.τ).loc Cert.WoRefIdeal.main_arg3)) (m ((c.tc : Thread Cert.WoRefIdeal.nD Cert.WoRefIdeal.τ).loc Cert.WoRefIdeal.main_arg4)) (m ((c.tc : Thread Cert.WoRefIdeal.nD Cert.WoRefIdeal.τ).loc Cert.WoRefIdeal.main_arg5))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_ffnup_finite [hPre_ffnup_finite : Cert.Pre_ffnup_finite.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_ffnup_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_ffnup_finite [hPre_ffnup_finite : Cert.Pre_ffnup_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_ffnup_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3))) = (fun _ => 1#1)

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRefIdeal (m : (ℓ : Loc Cert.ProductRefIdeal.nD Cert.ProductRefIdeal.τ Cert.ProductRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3)
      ∧ r.2.mem ((c.tc : Thread Cert.Wo.nD Cert.Wo.τ).loc Cert.Wo.main_arg4) = m ((c.tc : Thread Cert.Wo.nD Cert.Wo.τ).loc Cert.Wo.main_arg4)
      ∧ r.2.mem ((c.tc : Thread Cert.Wo.nD Cert.Wo.τ).loc Cert.Wo.main_arg5) = m ((c.tc : Thread Cert.Wo.nD Cert.Wo.τ).loc Cert.Wo.main_arg5))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
      ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ r.2.sem = fun _ => 0)

def quiescent_WoIdeal_pre_wo_finite [hWoIdeal : Cert.WoIdeal.Facts] [hPre_wo_finite : Cert.Pre_wo_finite.Facts] : Prop :=
  ∀ (m : (ℓ : Loc Cert.WoIdeal.nD Cert.WoIdeal.τ Cert.WoIdeal.sig) → Buf (Elt Ideal) ℓ) (g : Dev Cert.WoIdeal.nD → PrngReg), Pre_WoIdeal_wo_finite m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
      ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3)
      ∧ r.2.mem ((c.tc : Thread Cert.WoRefIdeal.nD Cert.WoRefIdeal.τ).loc Cert.WoRefIdeal.main_arg4) = m ((c.tc : Thread Cert.WoRefIdeal.nD Cert.WoRefIdeal.τ).loc Cert.WoRefIdeal.main_arg4)
      ∧ r.2.mem ((c.tc : Thread Cert.WoRefIdeal.nD Cert.WoRefIdeal.τ).loc Cert.WoRefIdeal.main_arg5) = m ((c.tc : Thread Cert.WoRefIdeal.nD Cert.WoRefIdeal.τ).loc Cert.WoRefIdeal.main_arg5))
      ∧ r.2.sem = fun _ => 0)

def quiescent_WoRefIdeal_pre_wo_finite [hWoRefIdeal : Cert.WoRefIdeal.Facts] [hPre_wo_finite : Cert.Pre_wo_finite.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal_wo_finite m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3)
      ∧ r.2.mem ((c.tc : Thread Cert.WoRefIdeal.nD Cert.WoRefIdeal.τ).loc Cert.WoRefIdeal.main_arg4) = m ((c.tc : Thread Cert.WoRefIdeal.nD Cert.WoRefIdeal.τ).loc Cert.WoRefIdeal.main_arg4)
      ∧ r.2.mem ((c.tc : Thread Cert.WoRefIdeal.nD Cert.WoRefIdeal.τ).loc Cert.WoRefIdeal.main_arg5) = m ((c.tc : Thread Cert.WoRefIdeal.nD Cert.WoRefIdeal.τ).loc Cert.WoRefIdeal.main_arg5))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpIdeal_pre_ffnup_finite [hFfnUpIdeal : Cert.FfnUpIdeal.Facts] [hPre_ffnup_finite : Cert.Pre_ffnup_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_ffnup_finite m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_FfnUpRefIdeal_pre_ffnup_finite [hFfnUpRefIdeal : Cert.FfnUpRefIdeal.Facts] [hPre_ffnup_finite : Cert.Pre_ffnup_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_ffnup_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1)
      ∧ r.2.mem ((c.tc : Thread Cert.Bias.nD Cert.Bias.τ).loc Cert.Bias.main_arg2) = m ((c.tc : Thread Cert.Bias.nD Cert.Bias.τ).loc Cert.Bias.main_arg2)
      ∧ r.2.mem ((c.tc : Thread Cert.Bias.nD Cert.Bias.τ).loc Cert.Bias.main_arg3) = m ((c.tc : Thread Cert.Bias.nD Cert.Bias.τ).loc Cert.Bias.main_arg3))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
      ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1)
      ∧ r.2.mem ((c.tc : Thread Cert.BiasRefIdeal.nD Cert.BiasRefIdeal.τ).loc Cert.BiasRefIdeal.main_arg2) = m ((c.tc : Thread Cert.BiasRefIdeal.nD Cert.BiasRefIdeal.τ).loc Cert.BiasRefIdeal.main_arg2)
      ∧ r.2.mem ((c.tc : Thread Cert.BiasRefIdeal.nD Cert.BiasRefIdeal.τ).loc Cert.BiasRefIdeal.main_arg3) = m ((c.tc : Thread Cert.BiasRefIdeal.nD Cert.BiasRefIdeal.τ).loc Cert.BiasRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Ffn_FfnIdeal : Prop :=
  IdealRules.named_const.Statement Cert.FfnIdeal.κ "exp2_scale" .f32 0xBFB8AA3B#32 ((-((Real.log 2)⁻¹) : ℝ) : EReal)

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v23_0)) (v1 : (c : Dev Cert.FfnIdeal.nD) → Buf (Elt Ideal) ((c.tc : Thread Cert.FfnIdeal.nD Cert.FfnIdeal.τ).loc Cert.FfnIdeal.main_v23_1)) (v2 : (c : Dev Cert.FfnIdeal.nD) → Buf (Elt Ideal) ((c.tc : Thread Cert.FfnIdeal.nD Cert.FfnIdeal.τ).loc Cert.FfnIdeal.main_v23_2)) (v3 : (c : Dev Cert.FfnIdeal.nD) → Buf (Elt Ideal) ((c.tc : Thread Cert.FfnIdeal.nD Cert.FfnIdeal.τ).loc Cert.FfnIdeal.main_v23_3)) (v4 : (c : Dev Cert.FfnIdeal.nD) → Buf (Elt Ideal) ((c.tc : Thread Cert.FfnIdeal.nD Cert.FfnIdeal.τ).loc Cert.FfnIdeal.main_v23_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v23_0) = v0 c
          ∧ r.2.mem ((c.tc : Thread Cert.FfnIdeal.nD Cert.FfnIdeal.τ).loc Cert.FfnIdeal.main_v23_1) = v1 c
          ∧ r.2.mem ((c.tc : Thread Cert.FfnIdeal.nD Cert.FfnIdeal.τ).loc Cert.FfnIdeal.main_v23_2) = v2 c
          ∧ r.2.mem ((c.tc : Thread Cert.FfnIdeal.nD Cert.FfnIdeal.τ).loc Cert.FfnIdeal.main_v23_3) = v3 c
          ∧ r.2.mem ((c.tc : Thread Cert.FfnIdeal.nD Cert.FfnIdeal.τ).loc Cert.FfnIdeal.main_v23_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v49) = v0 c
          ∧ r.2.mem ((c.tc : Thread Cert.FfnRefIdeal.nD Cert.FfnRefIdeal.τ).loc Cert.FfnRefIdeal.main_v50) = v1 c
          ∧ r.2.mem ((c.tc : Thread Cert.FfnRefIdeal.nD Cert.FfnRefIdeal.τ).loc Cert.FfnRefIdeal.main_v48) = v2 c
          ∧ r.2.mem ((c.tc : Thread Cert.FfnRefIdeal.nD Cert.FfnRefIdeal.τ).loc Cert.FfnRefIdeal.main_v51) = v3 c
          ∧ r.2.mem ((c.tc : Thread Cert.FfnRefIdeal.nD Cert.FfnRefIdeal.τ).loc Cert.FfnRefIdeal.main_v52) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Wo_WoIdeal : Prop :=
  True

def algebraic_WoIdeal_WoRefIdeal_pre_wo_finite [hWoIdeal : Cert.WoIdeal.Facts] [hWoRefIdeal : Cert.WoRefIdeal.Facts] [hPre_wo_finite : Cert.Pre_wo_finite.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal_wo_finite m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)
      ∧ m' ((c.tc : Thread Cert.WoRefIdeal.nD Cert.WoRefIdeal.τ).loc Cert.WoRefIdeal.main_arg4) = m ((c.tc : Thread Cert.WoIdeal.nD Cert.WoIdeal.τ).loc Cert.WoIdeal.main_arg4)
      ∧ m' ((c.tc : Thread Cert.WoRefIdeal.nD Cert.WoRefIdeal.τ).loc Cert.WoRefIdeal.main_arg5) = m ((c.tc : Thread Cert.WoIdeal.nD Cert.WoIdeal.τ).loc Cert.WoIdeal.main_arg5)) →
    ∃ (v0 : (c : Dev Cert.WoIdeal.nD) → Buf (Elt Ideal) ((c.tc : Thread Cert.WoIdeal.nD Cert.WoIdeal.τ).loc Cert.WoIdeal.main_v34_0)) (v1 : (c : Dev Cert.WoIdeal.nD) → Buf (Elt Ideal) ((c.tc : Thread Cert.WoIdeal.nD Cert.WoIdeal.τ).loc Cert.WoIdeal.main_v34_1)) (v2 : (c : Dev Cert.WoIdeal.nD) → Buf (Elt Ideal) ((c.tc : Thread Cert.WoIdeal.nD Cert.WoIdeal.τ).loc Cert.WoIdeal.main_v34_2)) (v3 : (c : Dev Cert.WoIdeal.nD) → Buf (Elt Ideal) ((c.tc : Thread Cert.WoIdeal.nD Cert.WoIdeal.τ).loc Cert.WoIdeal.main_v34_3)) (v4 : (c : Dev Cert.WoIdeal.nD) → Buf (Elt Ideal) ((c.tc : Thread Cert.WoIdeal.nD Cert.WoIdeal.τ).loc Cert.WoIdeal.main_v34_4)) (v5 : (c : Dev Cert.WoIdeal.nD) → Buf (Elt Ideal) ((c.tc : Thread Cert.WoIdeal.nD Cert.WoIdeal.τ).loc Cert.WoIdeal.main_v34_5)) (v6 : (c : Dev Cert.WoIdeal.nD) → Buf (Elt Ideal) ((c.tc : Thread Cert.WoIdeal.nD Cert.WoIdeal.τ).loc Cert.WoIdeal.main_v34_6)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v34_0) = v0 c
          ∧ r.2.mem ((c.tc : Thread Cert.WoIdeal.nD Cert.WoIdeal.τ).loc Cert.WoIdeal.main_v34_1) = v1 c
          ∧ r.2.mem ((c.tc : Thread Cert.WoIdeal.nD Cert.WoIdeal.τ).loc Cert.WoIdeal.main_v34_2) = v2 c
          ∧ r.2.mem ((c.tc : Thread Cert.WoIdeal.nD Cert.WoIdeal.τ).loc Cert.WoIdeal.main_v34_3) = v3 c
          ∧ r.2.mem ((c.tc : Thread Cert.WoIdeal.nD Cert.WoIdeal.τ).loc Cert.WoIdeal.main_v34_4) = v4 c
          ∧ r.2.mem ((c.tc : Thread Cert.WoIdeal.nD Cert.WoIdeal.τ).loc Cert.WoIdeal.main_v34_5) = v5 c
          ∧ r.2.mem ((c.tc : Thread Cert.WoIdeal.nD Cert.WoIdeal.τ).loc Cert.WoIdeal.main_v34_6) = v6 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
          ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
          ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v80) = v0 c
          ∧ r.2.mem ((c.tc : Thread Cert.WoRefIdeal.nD Cert.WoRefIdeal.τ).loc Cert.WoRefIdeal.main_v79) = v1 c
          ∧ r.2.mem ((c.tc : Thread Cert.WoRefIdeal.nD Cert.WoRefIdeal.τ).loc Cert.WoRefIdeal.main_v81) = v2 c
          ∧ r.2.mem ((c.tc : Thread Cert.WoRefIdeal.nD Cert.WoRefIdeal.τ).loc Cert.WoRefIdeal.main_v82) = v3 c
          ∧ r.2.mem ((c.tc : Thread Cert.WoRefIdeal.nD Cert.WoRefIdeal.τ).loc Cert.WoRefIdeal.main_v83) = v4 c
          ∧ r.2.mem ((c.tc : Thread Cert.WoRefIdeal.nD Cert.WoRefIdeal.τ).loc Cert.WoRefIdeal.main_v84) = v5 c
          ∧ r.2.mem ((c.tc : Thread Cert.WoRefIdeal.nD Cert.WoRefIdeal.τ).loc Cert.WoRefIdeal.main_v85) = v6 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3)
          ∧ r.2.mem ((c.tc : Thread Cert.WoRefIdeal.nD Cert.WoRefIdeal.τ).loc Cert.WoRefIdeal.main_arg4) = m' ((c.tc : Thread Cert.WoRefIdeal.nD Cert.WoRefIdeal.τ).loc Cert.WoRefIdeal.main_arg4)
          ∧ r.2.mem ((c.tc : Thread Cert.WoRefIdeal.nD Cert.WoRefIdeal.τ).loc Cert.WoRefIdeal.main_arg5) = m' ((c.tc : Thread Cert.WoRefIdeal.nD Cert.WoRefIdeal.τ).loc Cert.WoRefIdeal.main_arg5))

def preserves_FfnUp_FfnUpIdeal : Prop :=
  IdealRules.named_const.Statement Cert.FfnUpIdeal.κ "exp2_scale" .f32 0xBFB8AA3B#32 ((-((Real.log 2)⁻¹) : ℝ) : EReal)

def algebraic_FfnUpIdeal_FfnUpRefIdeal_pre_ffnup_finite [hFfnUpIdeal : Cert.FfnUpIdeal.Facts] [hFfnUpRefIdeal : Cert.FfnUpRefIdeal.Facts] [hPre_ffnup_finite : Cert.Pre_ffnup_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_ffnup_finite m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v18_0)) (v1 : (c : Dev Cert.FfnUpIdeal.nD) → Buf (Elt Ideal) ((c.tc : Thread Cert.FfnUpIdeal.nD Cert.FfnUpIdeal.τ).loc Cert.FfnUpIdeal.main_v18_1)) (v2 : (c : Dev Cert.FfnUpIdeal.nD) → Buf (Elt Ideal) ((c.tc : Thread Cert.FfnUpIdeal.nD Cert.FfnUpIdeal.τ).loc Cert.FfnUpIdeal.main_v18_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v18_0) = v0 c
          ∧ r.2.mem ((c.tc : Thread Cert.FfnUpIdeal.nD Cert.FfnUpIdeal.τ).loc Cert.FfnUpIdeal.main_v18_1) = v1 c
          ∧ r.2.mem ((c.tc : Thread Cert.FfnUpIdeal.nD Cert.FfnUpIdeal.τ).loc Cert.FfnUpIdeal.main_v18_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v17) = v0 c
          ∧ r.2.mem ((c.tc : Thread Cert.FfnUpRefIdeal.nD Cert.FfnUpRefIdeal.τ).loc Cert.FfnUpRefIdeal.main_v18) = v1 c
          ∧ r.2.mem ((c.tc : Thread Cert.FfnUpRefIdeal.nD Cert.FfnUpRefIdeal.τ).loc Cert.FfnUpRefIdeal.main_v19) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)) →
    ∃ (v0 : (c : Dev Cert.ProductIdeal.nD) → Buf (Elt Ideal) ((c.tc : Thread Cert.ProductIdeal.nD Cert.ProductIdeal.τ).loc Cert.ProductIdeal.main_v2)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v2) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v1) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)) →
    ∃ (v0 : (c : Dev Cert.StepIdeal.nD) → Buf (Elt Ideal) ((c.tc : Thread Cert.StepIdeal.nD Cert.StepIdeal.τ).loc Cert.StepIdeal.main_v1_0)) (v1 : (c : Dev Cert.StepIdeal.nD) → Buf (Elt Ideal) ((c.tc : Thread Cert.StepIdeal.nD Cert.StepIdeal.τ).loc Cert.StepIdeal.main_v1_1)) (v2 : (c : Dev Cert.StepIdeal.nD) → Buf (Elt Ideal) ((c.tc : Thread Cert.StepIdeal.nD Cert.StepIdeal.τ).loc Cert.StepIdeal.main_v1_2)) (v3 : (c : Dev Cert.StepIdeal.nD) → Buf (Elt Ideal) ((c.tc : Thread Cert.StepIdeal.nD Cert.StepIdeal.τ).loc Cert.StepIdeal.main_v1_3)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v1_0) = v0 c
          ∧ r.2.mem ((c.tc : Thread Cert.StepIdeal.nD Cert.StepIdeal.τ).loc Cert.StepIdeal.main_v1_1) = v1 c
          ∧ r.2.mem ((c.tc : Thread Cert.StepIdeal.nD Cert.StepIdeal.τ).loc Cert.StepIdeal.main_v1_2) = v2 c
          ∧ r.2.mem ((c.tc : Thread Cert.StepIdeal.nD Cert.StepIdeal.τ).loc Cert.StepIdeal.main_v1_3) = v3 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v0) = v0 c
          ∧ r.2.mem ((c.tc : Thread Cert.StepRefIdeal.nD Cert.StepRefIdeal.τ).loc Cert.StepRefIdeal.main_v24) = v1 c
          ∧ r.2.mem ((c.tc : Thread Cert.StepRefIdeal.nD Cert.StepRefIdeal.τ).loc Cert.StepRefIdeal.main_v5) = v2 c
          ∧ r.2.mem ((c.tc : Thread Cert.StepRefIdeal.nD Cert.StepRefIdeal.τ).loc Cert.StepRefIdeal.main_v11) = v3 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)
      ∧ m' ((c.tc : Thread Cert.BiasRefIdeal.nD Cert.BiasRefIdeal.τ).loc Cert.BiasRefIdeal.main_arg2) = m ((c.tc : Thread Cert.BiasIdeal.nD Cert.BiasIdeal.τ).loc Cert.BiasIdeal.main_arg2)
      ∧ m' ((c.tc : Thread Cert.BiasRefIdeal.nD Cert.BiasRefIdeal.τ).loc Cert.BiasRefIdeal.main_arg3) = m ((c.tc : Thread Cert.BiasIdeal.nD Cert.BiasIdeal.τ).loc Cert.BiasIdeal.main_arg3)) →
    ∃ (v0 : (c : Dev Cert.BiasIdeal.nD) → Buf (Elt Ideal) ((c.tc : Thread Cert.BiasIdeal.nD Cert.BiasIdeal.τ).loc Cert.BiasIdeal.main_v108_0)) (v1 : (c : Dev Cert.BiasIdeal.nD) → Buf (Elt Ideal) ((c.tc : Thread Cert.BiasIdeal.nD Cert.BiasIdeal.τ).loc Cert.BiasIdeal.main_v108_1)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v108_0) = v0 c
          ∧ r.2.mem ((c.tc : Thread Cert.BiasIdeal.nD Cert.BiasIdeal.τ).loc Cert.BiasIdeal.main_v108_1) = v1 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
          ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
          ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v178) = v0 c
          ∧ r.2.mem ((c.tc : Thread Cert.BiasRefIdeal.nD Cert.BiasRefIdeal.τ).loc Cert.BiasRefIdeal.main_v181) = v1 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1)
          ∧ r.2.mem ((c.tc : Thread Cert.BiasRefIdeal.nD Cert.BiasRefIdeal.τ).loc Cert.BiasRefIdeal.main_arg2) = m' ((c.tc : Thread Cert.BiasRefIdeal.nD Cert.BiasRefIdeal.τ).loc Cert.BiasRefIdeal.main_arg2)
          ∧ r.2.mem ((c.tc : Thread Cert.BiasRefIdeal.nD Cert.BiasRefIdeal.τ).loc Cert.BiasRefIdeal.main_arg3) = m' ((c.tc : Thread Cert.BiasRefIdeal.nD Cert.BiasRefIdeal.τ).loc Cert.BiasRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v48_0)) (v1 : (c : Dev Cert.ProjIdeal.nD) → Buf (Elt Ideal) ((c.tc : Thread Cert.ProjIdeal.nD Cert.ProjIdeal.τ).loc Cert.ProjIdeal.main_v48_1)) (v2 : (c : Dev Cert.ProjIdeal.nD) → Buf (Elt Ideal) ((c.tc : Thread Cert.ProjIdeal.nD Cert.ProjIdeal.τ).loc Cert.ProjIdeal.main_v48_2)) (v3 : (c : Dev Cert.ProjIdeal.nD) → Buf (Elt Ideal) ((c.tc : Thread Cert.ProjIdeal.nD Cert.ProjIdeal.τ).loc Cert.ProjIdeal.main_v48_3)) (v4 : (c : Dev Cert.ProjIdeal.nD) → Buf (Elt Ideal) ((c.tc : Thread Cert.ProjIdeal.nD Cert.ProjIdeal.τ).loc Cert.ProjIdeal.main_v48_4)) (v5 : (c : Dev Cert.ProjIdeal.nD) → Buf (Elt Ideal) ((c.tc : Thread Cert.ProjIdeal.nD Cert.ProjIdeal.τ).loc Cert.ProjIdeal.main_v48_5)) (v6 : (c : Dev Cert.ProjIdeal.nD) → Buf (Elt Ideal) ((c.tc : Thread Cert.ProjIdeal.nD Cert.ProjIdeal.τ).loc Cert.ProjIdeal.main_v48_6)) (v7 : (c : Dev Cert.ProjIdeal.nD) → Buf (Elt Ideal) ((c.tc : Thread Cert.ProjIdeal.nD Cert.ProjIdeal.τ).loc Cert.ProjIdeal.main_v48_7)) (v8 : (c : Dev Cert.ProjIdeal.nD) → Buf (Elt Ideal) ((c.tc : Thread Cert.ProjIdeal.nD Cert.ProjIdeal.τ).loc Cert.ProjIdeal.main_v48_8)) (v9 : (c : Dev Cert.ProjIdeal.nD) → Buf (Elt Ideal) ((c.tc : Thread Cert.ProjIdeal.nD Cert.ProjIdeal.τ).loc Cert.ProjIdeal.main_v48_9)) (v10 : (c : Dev Cert.ProjIdeal.nD) → Buf (Elt Ideal) ((c.tc : Thread Cert.ProjIdeal.nD Cert.ProjIdeal.τ).loc Cert.ProjIdeal.main_v48_10)) (v11 : (c : Dev Cert.ProjIdeal.nD) → Buf (Elt Ideal) ((c.tc : Thread Cert.ProjIdeal.nD Cert.ProjIdeal.τ).loc Cert.ProjIdeal.main_v48_11)) (v12 : (c : Dev Cert.ProjIdeal.nD) → Buf (Elt Ideal) ((c.tc : Thread Cert.ProjIdeal.nD Cert.ProjIdeal.τ).loc Cert.ProjIdeal.main_v48_12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v48_0) = v0 c
          ∧ r.2.mem ((c.tc : Thread Cert.ProjIdeal.nD Cert.ProjIdeal.τ).loc Cert.ProjIdeal.main_v48_1) = v1 c
          ∧ r.2.mem ((c.tc : Thread Cert.ProjIdeal.nD Cert.ProjIdeal.τ).loc Cert.ProjIdeal.main_v48_2) = v2 c
          ∧ r.2.mem ((c.tc : Thread Cert.ProjIdeal.nD Cert.ProjIdeal.τ).loc Cert.ProjIdeal.main_v48_3) = v3 c
          ∧ r.2.mem ((c.tc : Thread Cert.ProjIdeal.nD Cert.ProjIdeal.τ).loc Cert.ProjIdeal.main_v48_4) = v4 c
          ∧ r.2.mem ((c.tc : Thread Cert.ProjIdeal.nD Cert.ProjIdeal.τ).loc Cert.ProjIdeal.main_v48_5) = v5 c
          ∧ r.2.mem ((c.tc : Thread Cert.ProjIdeal.nD Cert.ProjIdeal.τ).loc Cert.ProjIdeal.main_v48_6) = v6 c
          ∧ r.2.mem ((c.tc : Thread Cert.ProjIdeal.nD Cert.ProjIdeal.τ).loc Cert.ProjIdeal.main_v48_7) = v7 c
          ∧ r.2.mem ((c.tc : Thread Cert.ProjIdeal.nD Cert.ProjIdeal.τ).loc Cert.ProjIdeal.main_v48_8) = v8 c
          ∧ r.2.mem ((c.tc : Thread Cert.ProjIdeal.nD Cert.ProjIdeal.τ).loc Cert.ProjIdeal.main_v48_9) = v9 c
          ∧ r.2.mem ((c.tc : Thread Cert.ProjIdeal.nD Cert.ProjIdeal.τ).loc Cert.ProjIdeal.main_v48_10) = v10 c
          ∧ r.2.mem ((c.tc : Thread Cert.ProjIdeal.nD Cert.ProjIdeal.τ).loc Cert.ProjIdeal.main_v48_11) = v11 c
          ∧ r.2.mem ((c.tc : Thread Cert.ProjIdeal.nD Cert.ProjIdeal.τ).loc Cert.ProjIdeal.main_v48_12) = v12 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v111) = v0 c
          ∧ r.2.mem ((c.tc : Thread Cert.ProjRefIdeal.nD Cert.ProjRefIdeal.τ).loc Cert.ProjRefIdeal.main_v113) = v1 c
          ∧ r.2.mem ((c.tc : Thread Cert.ProjRefIdeal.nD Cert.ProjRefIdeal.τ).loc Cert.ProjRefIdeal.main_v90) = v2 c
          ∧ r.2.mem ((c.tc : Thread Cert.ProjRefIdeal.nD Cert.ProjRefIdeal.τ).loc Cert.ProjRefIdeal.main_v95) = v3 c
          ∧ r.2.mem ((c.tc : Thread Cert.ProjRefIdeal.nD Cert.ProjRefIdeal.τ).loc Cert.ProjRefIdeal.main_v96) = v4 c
          ∧ r.2.mem ((c.tc : Thread Cert.ProjRefIdeal.nD Cert.ProjRefIdeal.τ).loc Cert.ProjRefIdeal.main_v98) = v5 c
          ∧ r.2.mem ((c.tc : Thread Cert.ProjRefIdeal.nD Cert.ProjRefIdeal.τ).loc Cert.ProjRefIdeal.main_v100) = v6 c
          ∧ r.2.mem ((c.tc : Thread Cert.ProjRefIdeal.nD Cert.ProjRefIdeal.τ).loc Cert.ProjRefIdeal.main_v101) = v7 c
          ∧ r.2.mem ((c.tc : Thread Cert.ProjRefIdeal.nD Cert.ProjRefIdeal.τ).loc Cert.ProjRefIdeal.main_v103) = v8 c
          ∧ r.2.mem ((c.tc : Thread Cert.ProjRefIdeal.nD Cert.ProjRefIdeal.τ).loc Cert.ProjRefIdeal.main_v105) = v9 c
          ∧ r.2.mem ((c.tc : Thread Cert.ProjRefIdeal.nD Cert.ProjRefIdeal.τ).loc Cert.ProjRefIdeal.main_v106) = v10 c
          ∧ r.2.mem ((c.tc : Thread Cert.ProjRefIdeal.nD Cert.ProjRefIdeal.τ).loc Cert.ProjRefIdeal.main_v108) = v11 c
          ∧ r.2.mem ((c.tc : Thread Cert.ProjRefIdeal.nD Cert.ProjRefIdeal.τ).loc Cert.ProjRefIdeal.main_v110) = v12 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hWo : Cert.Wo.Facts) (hWoIdeal : Cert.WoIdeal.Facts) (hWoRefIdeal : Cert.WoRefIdeal.Facts) (hFfnUp : Cert.FfnUp.Facts) (hFfnUpIdeal : Cert.FfnUpIdeal.Facts) (hFfnUpRefIdeal : Cert.FfnUpRefIdeal.Facts) (hProduct : Cert.Product.Facts) (hProductIdeal : Cert.ProductIdeal.Facts) (hProductRefIdeal : Cert.ProductRefIdeal.Facts) (hStep : Cert.Step.Facts) (hStepIdeal : Cert.StepIdeal.Facts) (hStepRefIdeal : Cert.StepRefIdeal.Facts) (hSmall : Cert.Small.Facts) (hSmallIdeal : Cert.SmallIdeal.Facts) (hSmallRefIdeal : Cert.SmallRefIdeal.Facts) (hBias : Cert.Bias.Facts) (hBiasIdeal : Cert.BiasIdeal.Facts) (hBiasRefIdeal : Cert.BiasRefIdeal.Facts) (hProj : Cert.Proj.Facts) (hProjIdeal : Cert.ProjIdeal.Facts) (hProjRefIdeal : Cert.ProjRefIdeal.Facts) (hPre_loss_finite : Cert.Pre_loss_finite.Facts) (hPre_ffn_finite : Cert.Pre_ffn_finite.Facts) (hPre_wo_finite : Cert.Pre_wo_finite.Facts) (hPre_ffnup_finite : Cert.Pre_ffnup_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Wo (hWo := hWo)
    ∧ quiescent_WoIdeal (hWoIdeal := hWoIdeal)
    ∧ quiescent_WoIdeal_pre_wo_finite (hWoIdeal := hWoIdeal) (hPre_wo_finite := hPre_wo_finite)
    ∧ quiescent_WoRefIdeal (hWoRefIdeal := hWoRefIdeal)
    ∧ quiescent_WoRefIdeal_pre_wo_finite (hWoRefIdeal := hWoRefIdeal) (hPre_wo_finite := hPre_wo_finite)
    ∧ quiescent_FfnUp (hFfnUp := hFfnUp)
    ∧ quiescent_FfnUpIdeal (hFfnUpIdeal := hFfnUpIdeal)
    ∧ quiescent_FfnUpIdeal_pre_ffnup_finite (hFfnUpIdeal := hFfnUpIdeal) (hPre_ffnup_finite := hPre_ffnup_finite)
    ∧ quiescent_FfnUpRefIdeal (hFfnUpRefIdeal := hFfnUpRefIdeal)
    ∧ quiescent_FfnUpRefIdeal_pre_ffnup_finite (hFfnUpRefIdeal := hFfnUpRefIdeal) (hPre_ffnup_finite := hPre_ffnup_finite)
    ∧ quiescent_Product (hProduct := hProduct)
    ∧ quiescent_ProductIdeal (hProductIdeal := hProductIdeal)
    ∧ quiescent_ProductRefIdeal (hProductRefIdeal := hProductRefIdeal)
    ∧ quiescent_Step (hStep := hStep)
    ∧ quiescent_StepIdeal (hStepIdeal := hStepIdeal)
    ∧ quiescent_StepRefIdeal (hStepRefIdeal := hStepRefIdeal)
    ∧ quiescent_Small (hSmall := hSmall)
    ∧ quiescent_SmallIdeal (hSmallIdeal := hSmallIdeal)
    ∧ quiescent_SmallRefIdeal (hSmallRefIdeal := hSmallRefIdeal)
    ∧ quiescent_Bias (hBias := hBias)
    ∧ quiescent_BiasIdeal (hBiasIdeal := hBiasIdeal)
    ∧ quiescent_BiasRefIdeal (hBiasRefIdeal := hBiasRefIdeal)
    ∧ quiescent_Proj (hProj := hProj)
    ∧ quiescent_ProjIdeal (hProjIdeal := hProjIdeal)
    ∧ quiescent_ProjRefIdeal (hProjRefIdeal := hProjRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Wo_WoIdeal
    ∧ algebraic_WoIdeal_WoRefIdeal_pre_wo_finite (hWoIdeal := hWoIdeal) (hWoRefIdeal := hWoRefIdeal) (hPre_wo_finite := hPre_wo_finite)
    ∧ preserves_FfnUp_FfnUpIdeal
    ∧ algebraic_FfnUpIdeal_FfnUpRefIdeal_pre_ffnup_finite (hFfnUpIdeal := hFfnUpIdeal) (hFfnUpRefIdeal := hFfnUpRefIdeal) (hPre_ffnup_finite := hPre_ffnup_finite)
    ∧ preserves_Product_ProductIdeal
    ∧ algebraic_ProductIdeal_ProductRefIdeal (hProductIdeal := hProductIdeal) (hProductRefIdeal := hProductRefIdeal)
    ∧ preserves_Step_StepIdeal
    ∧ algebraic_StepIdeal_StepRefIdeal (hStepIdeal := hStepIdeal) (hStepRefIdeal := hStepRefIdeal)
    ∧ preserves_Small_SmallIdeal
    ∧ algebraic_SmallIdeal_SmallRefIdeal (hSmallIdeal := hSmallIdeal) (hSmallRefIdeal := hSmallRefIdeal)
    ∧ preserves_Bias_BiasIdeal
    ∧ algebraic_BiasIdeal_BiasRefIdeal (hBiasIdeal := hBiasIdeal) (hBiasRefIdeal := hBiasRefIdeal)
    ∧ preserves_Proj_ProjIdeal
    ∧ algebraic_ProjIdeal_ProjRefIdeal (hProjIdeal := hProjIdeal) (hProjRefIdeal := hProjRefIdeal)
-- ==== Pre_ffn_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg5 : FVec F S8192x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S8192x1024 .f32 := broadcastInDim S8192x1024 ![] bcast_S_S8192x1024 main_cst_13
  let main_v35 : IVec S8192x1024 1 := cmpf .ogt main_arg5 main_v34
  let main_cst_14 : FVec F S_ .f32 := constant S_ .f32 0x7F800000#32
  let main_v36 : FVec F S8192x1024 .f32 := broadcastInDim S8192x1024 ![] bcast_S_S8192x1024 main_cst_14
  let main_v37 : IVec S8192x1024 1 := cmpf .olt main_arg5 main_v36
  let main_v38 : IVec S8192x1024 1 := andi main_v35 main_v37
  let main_c_15 : IVec S_ 1 := constantI S_ 1 1#1
  let main_v39 : IVec S_ 1 := (fun x v => Host.reduce IntOp.andi x v reducesTo_S8192x1024_S_d0_1 h_S_) main_v38 main_c_15
  let main_v40 : IVec S_ 1 := andi main_v33 main_v39
  main_v40

def fn_part1 {F : FTy → Type} [FloatOps F] (main_arg2 : FVec F S1024x2816 .f32) (main_arg3 : FVec F S1024x2816 .f32) (main_arg4 : FVec F S2816x1024 .f32) (main_arg5 : FVec F S8192x1024 .f32) (main_v12 : IVec S_ 1) (main_v14 : IVec S1024x2816 1) (main_v15 : FVec F S1024x2816 .f32) : IVec S_ 1 :=
  let main_v16 : IVec S1024x2816 1 := cmpf .olt main_arg2 main_v15
  let main_v17 : IVec S1024x2816 1 := andi main_v14 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v12 main_v18
  let main_cst_7 : FVec F S_ .f32 := constant S_ .f32 0xFF800000#32
  let main_v20 : FVec F S1024x2816 .f32 := broadcastInDim S1024x2816 ![] bcast_S_S1024x2816 main_cst_7
  let main_v21 : IVec S1024x2816 1 := cmpf .ogt main_arg3 main_v20
  let main_cst_8 : FVec F S_ .f32 := constant S_ .f32 0x7F800000#32
  let main_v22 : FVec F S1024x2816 .f32 := broadcastInDim S1024x2816 ![] bcast_S_S1024x2816 main_cst_8
  let main_v23 : IVec S1024x2816 1 := cmpf .olt main_arg3 main_v22
  let main_v24 : IVec S1024x2816 1 := andi main_v21 main_v23
  let main_c_9 : IVec S_ 1 := constantI S_ 1 1#1
  let main_v25 : IVec S_ 1 := (fun x v => Host.reduce IntOp.andi x v reducesTo_S1024x2816_S_d0_1 h_S_) main_v24 main_c_9
  let main_v26 : IVec S_ 1 := andi main_v19 main_v25
  let main_cst_10 : FVec F S_ .f32 := constant S_ .f32 0xFF800000#32
  let main_v27 : FVec F S2816x1024 .f32 := broadcastInDim S2816x1024 ![] bcast_S_S2816x1024 main_cst_10
  let main_v28 : IVec S2816x1024 1 := cmpf .ogt main_arg4 main_v27
  let main_cst_11 : FVec F S_ .f32 := constant S_ .f32 0x7F800000#32
  let main_v29 : FVec F S2816x1024 .f32 := broadcastInDim S2816x1024 ![] bcast_S_S2816x1024 main_cst_11
  let main_v30 : IVec S2816x1024 1 := cmpf .olt main_arg4 main_v29
  let main_v31 : IVec S2816x1024 1 := andi main_v28 main_v30
  let main_c_12 : IVec S_ 1 := constantI S_ 1 1#1
  let main_v32 : IVec S_ 1 := (fun x v => Host.reduce IntOp.andi x v reducesTo_S2816x1024_S_d0_1 h_S_) main_v31 main_c_12
  fn_part2 (F := F) main_arg5 main_v26 main_v32

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S1024 .f32 := broadcastInDim S1024 ![] bcast_S_S1024 main_cst_1
  let main_v7 : IVec S1024 1 := cmpf .ogt main_arg1 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0xFF800000#32
  let main_v13 : FVec F S1024x2816 .f32 := broadcastInDim S1024x2816 ![] bcast_S_S1024x2816 main_cst_4
  let main_v14 : IVec S1024x2816 1 := cmpf .ogt main_arg2 main_v13
  let main_cst_5 : FVec F S_ .f32 := constant S_ .f32 0x7F800000#32
  let main_v15 : FVec F S1024x2816 .f32 := broadcastInDim S1024x2816 ![] bcast_S_S1024x2816 main_cst_5
  fn_part1 (F := F) main_arg2 main_arg3 main_arg4 main_arg5 main_v12 main_v14 main_v15
-- ==== Pre_ffnup_finite.lean ====
abbrev S8192x1024 : Shape := ⟨2, ![8192, 1024]⟩
abbrev S1024 : Shape := ⟨1, ![1024]⟩
abbrev S1024x2816 : Shape := ⟨2, ![1024, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_arg2 : FVec F S1024x2816 .f32) (main_arg3 : FVec F S1024x2816 .f32) (main_v12 : IVec S_ 1) (main_v14 : IVec S1024x2816 1) (main_v15 : FVec F S1024x2816 .f32) : IVec S_ 1 :=
  let main_v16 : IVec S1024x2816 1 := cmpf .olt main_arg2 main_v15
  let main_v17 : IVec S1024x2816 1 := andi main_v14 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v12 main_v18
  let main_cst_7 : FVec F S_ .f32 := constant S_ .f32 0xFF800000#32
  let main_v20 : FVec F S1024x2816 .f32 := broadcastInDim S1024x2816 ![] bcast_S_S1024x2816 main_cst_7
  let main_v21 : IVec S1024x2816 1 := cmpf .ogt main_arg3 main_v20
  let main_cst_8 : FVec F S_ .f32 := constant S_ .f32 0x7F800000#32
  let main_v22 : FVec F S1024x2816 .f32 := broadcastInDim S1024x2816 ![] bcast_S_S1024x2816 main_cst_8
  let main_v23 : IVec S1024x2816 1 := cmpf .olt main_arg3 main_v22
  let main_v24 : IVec S1024x2816 1 := andi main_v21 main_v23
  let main_c_9 : IVec S_ 1 := constantI S_ 1 1#1
  let main_v25 : IVec S_ 1 := (fun x v => Host.reduce IntOp.andi x v reducesTo_S1024x2816_S_d0_1 h_S_) main_v24 main_c_9
  let main_v26 : IVec S_ 1 := andi main_v19 main_v25
  main_v26

def fn {F : FTy → Type} [FloatOps F] (main_arg0 : FVec F S8192x1024 .f32) (main_arg1 : FVec F S1024 .f32) (main_arg2 : FVec F S1024x2816 .f32) (main_arg3 : FVec F S1024x2816 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S1024 .f32 := broadcastInDim S1024 ![] bcast_S_S1024 main_cst_1
  let main_v7 : IVec S1024 1 := cmpf .ogt main_arg1 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0xFF800000#32
  let main_v13 : FVec F S1024x2816 .f32 := broadcastInDim S1024x2816 ![] bcast_S_S1024x2816 main_cst_4
  let main_v14 : IVec S1024x2816 1 := cmpf .ogt main_arg2 main_v13
  let main_cst_5 : FVec F S_ .f32 := constant S_ .f32 0x7F800000#32
  let main_v15 : FVec F S1024x2816 .f32 := broadcastInDim S1024x2816 ![] bcast_S_S1024x2816 main_cst_5
  fn_part1 (F := F) main_arg2 main_arg3 main_v12 main_v14 main_v15
-- ==== Pre_loss_finite.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S2816x1024 .f32) (main_arg3 : FVec F S1024 .f32) (main_arg4 : FVec F S8192x1024 .f32) (main_v12 : IVec S_ 1) (main_v14 : IVec S2816x1024 1) (main_v15 : FVec F S2816x1024 .f32) : IVec S_ 1 :=
  let main_v16 : IVec S2816x1024 1 := cmpf .olt main_arg2 main_v15
  let main_v17 : IVec S2816x1024 1 := andi main_v14 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v12 main_v18
  let main_cst_7 : FVec F S_ .f32 := constant S_ .f32 0xFF800000#32
  let main_v20 : FVec F S1024 .f32 := broadcastInDim S1024 ![] bcast_S_S1024 main_cst_7
  let main_v21 : IVec S1024 1 := cmpf .ogt main_arg3 main_v20
  let main_cst_8 : FVec F S_ .f32 := constant S_ .f32 0x7F800000#32
  let main_v22 : FVec F S1024 .f32 := broadcastInDim S1024 ![] bcast_S_S1024 main_cst_8
  let main_v23 : IVec S1024 1 := cmpf .olt main_arg3 main_v22
  let main_v24 : IVec S1024 1 := andi main_v21 main_v23
  let main_c_9 : IVec S_ 1 := constantI S_ 1 1#1
  let main_v25 : IVec S_ 1 := (fun x v => Host.reduce IntOp.andi x v reducesTo_S1024_S_d0 h_S_) main_v24 main_c_9
  let main_v26 : IVec S_ 1 := andi main_v19 main_v25
  let main_cst_10 : FVec F S_ .f32 := constant S_ .f32 0xFF800000#32
  let main_v27 : FVec F S8192x1024 .f32 := broadcastInDim S8192x1024 ![] bcast_S_S8192x1024 main_cst_10
  let main_v28 : IVec S8192x1024 1 := cmpf .ogt main_arg4 main_v27
  let main_cst_11 : FVec F S_ .f32 := constant S_ .f32 0x7F800000#32
  let main_v29 : FVec F S8192x1024 .f32 := broadcastInDim S8192x1024 ![] bcast_S_S8192x1024 main_cst_11
  let main_v30 : IVec S8192x1024 1 := cmpf .olt main_arg4 main_v29
  let main_v31 : IVec S8192x1024 1 := andi main_v28 main_v30
  let main_c_12 : IVec S_ 1 := constantI S_ 1 1#1
  let main_v32 : IVec S_ 1 := (fun x v => Host.reduce IntOp.andi x v reducesTo_S8192x1024_S_d0_1 h_S_) main_v31 main_c_12
  fn_part2 (F := F) main_v26 main_v32

def fn {F : FTy → Type} [FloatOps F] (main_arg0 : FVec F S8192x1024 .f32) (main_arg1 : FVec F S8192x2816 .f32) (main_arg2 : FVec F S2816x1024 .f32) (main_arg3 : FVec F S1024 .f32) (main_arg4 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x2816 .f32 := broadcastInDim S8192x2816 ![] bcast_S_S8192x2816 main_cst_1
  let main_v7 : IVec S8192x2816 1 := cmpf .ogt main_arg1 main_v6
  let main_cst_2 : FVec F S_ .f32 := constant S_ .f32 0x7F800000#32
  let main_v8 : FVec F S8192x2816 .f32 := broadcastInDim S8192x2816 ![] bcast_S_S8192x2816 main_cst_2
  let main_v9 : IVec S8192x2816 1 := cmpf .olt main_arg1 main_v8
  let main_v10 : IVec S8192x2816 1 := andi main_v7 main_v9
  let main_c_3 : IVec S_ 1 := constantI S_ 1 1#1
  let main_v11 : IVec S_ 1 := (fun x v => Host.reduce IntOp.andi x v reducesTo_S8192x2816_S_d0_1 h_S_) main_v10 main_c_3
  let main_v12 : IVec S_ 1 := andi main_v5 main_v11
  let main_cst_4 : FVec F S_ .f32 := constant S_ .f32 0xFF800000#32
  let main_v13 : FVec F S2816x1024 .f32 := broadcastInDim S2816x1024 ![] bcast_S_S2816x1024 main_cst_4
  let main_v14 : IVec S2816x1024 1 := cmpf .ogt main_arg2 main_v13
  let main_cst_5 : FVec F S_ .f32 := constant S_ .f32 0x7F800000#32
  let main_v15 : FVec F S2816x1024 .f32 := broadcastInDim S2816x1024 ![] bcast_S_S2816x1024 main_cst_5
  fn_part1 (F := F) main_arg2 main_arg3 main_arg4 main_v12 main_v14 main_v15
-- ==== Pre_wo_finite.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_arg5 : FVec F S8192x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S8192x1024 .f32 := broadcastInDim S8192x1024 ![] bcast_S_S8192x1024 main_cst_13
  let main_v35 : IVec S8192x1024 1 := cmpf .ogt main_arg5 main_v34
  let main_cst_14 : FVec F S_ .f32 := constant S_ .f32 0x7F800000#32
  let main_v36 : FVec F S8192x1024 .f32 := broadcastInDim S8192x1024 ![] bcast_S_S8192x1024 main_cst_14
  let main_v37 : IVec S8192x1024 1 := cmpf .olt main_arg5 main_v36
  let main_v38 : IVec S8192x1024 1 := andi main_v35 main_v37
  let main_c_15 : IVec S_ 1 := constantI S_ 1 1#1
  let main_v39 : IVec S_ 1 := (fun x v => Host.reduce IntOp.andi x v reducesTo_S8192x1024_S_d0_1 h_S_) main_v38 main_c_15
  let main_v40 : IVec S_ 1 := andi main_v33 main_v39
  main_v40

def fn_part1 {F : FTy → Type} [FloatOps F] (main_arg2 : FVec F S512 .f32) (main_arg3 : FVec F S512 .f32) (main_arg4 : FVec F S1024x1024 .f32) (main_arg5 : FVec F S8192x1024 .f32) (main_v12 : IVec S_ 1) (main_v14 : IVec S512 1) (main_v15 : FVec F S512 .f32) : IVec S_ 1 :=
  let main_v16 : IVec S512 1 := cmpf .olt main_arg2 main_v15
  let main_v17 : IVec S512 1 := andi main_v14 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v12 main_v18
  let main_cst_7 : FVec F S_ .f32 := constant S_ .f32 0xFF800000#32
  let main_v20 : FVec F S512 .f32 := broadcastInDim S512 ![] bcast_S_S512 main_cst_7
  let main_v21 : IVec S512 1 := cmpf .ogt main_arg3 main_v20
  let main_cst_8 : FVec F S_ .f32 := constant S_ .f32 0x7F800000#32
  let main_v22 : FVec F S512 .f32 := broadcastInDim S512 ![] bcast_S_S512 main_cst_8
  let main_v23 : IVec S512 1 := cmpf .olt main_arg3 main_v22
  let main_v24 : IVec S512 1 := andi main_v21 main_v23
  let main_c_9 : IVec S_ 1 := constantI S_ 1 1#1
  let main_v25 : IVec S_ 1 := (fun x v => Host.reduce IntOp.andi x v reducesTo_S512_S_d0 h_S_) main_v24 main_c_9
  let main_v26 : IVec S_ 1 := andi main_v19 main_v25
  let main_cst_10 : FVec F S_ .f32 := constant S_ .f32 0xFF800000#32
  let main_v27 : FVec F S1024x1024 .f32 := broadcastInDim S1024x1024 ![] bcast_S_S1024x1024 main_cst_10
  let main_v28 : IVec S1024x1024 1 := cmpf .ogt main_arg4 main_v27
  let main_cst_11 : FVec F S_ .f32 := constant S_ .f32 0x7F800000#32
  let main_v29 : FVec F S1024x1024 .f32 := broadcastInDim S1024x1024 ![] bcast_S_S1024x1024 main_cst_11
  let main_v30 : IVec S1024x1024 1 := cmpf .olt main_arg4 main_v29
  let main_v31 : IVec S1024x1024 1 := andi main_v28 main_v30
  let main_c_12 : IVec S_ 1 := constantI S_ 1 1#1
  let main_v32 : IVec S_ 1 := (fun x v => Host.reduce IntOp.andi x v reducesTo_S1024x1024_S_d0_1 h_S_) main_v31 main_c_12
  fn_part2 (F := F) main_arg5 main_v26 main_v32

def fn {F : FTy → Type} [FloatOps F] (main_arg0 : FVec F S8192x512 .f32) (main_arg1 : FVec F S8192x512 .f32) (main_arg2 : FVec F S512 .f32) (main_arg3 : FVec F S512 .f32) (main_arg4 : FVec F S1024x1024 .f32) (main_arg5 : FVec F S8192x1024 .f32) : IVec S_ 1 :=
  let main_cst : FVec F S_ .f32 := constant S_ .f32 0xFF800000#32
  let main_v0 : FVec F S8192x512 .f32 := broadcastInDim S8192x512 ![] bcast_S_S8192x512 main_cst
  let main_v1 : IVec S8192x512 1 := cmpf .ogt main_arg0 main_v0
  let main_cst_0 : FVec F S_ .f32 := constant S_ .f32 0x7F800000#32
  let main_v2 : FVec F S8192x512 .f32 := broadcastInDim S8192x512 ![] bcast_S_S8192x512 main_cst_0
  let main_v3 : IVec S8192x512 1 := cmpf .olt main_arg0 main_v2
  let main_v4 : IVec S8192x512 1 := andi main_v1 main_v3
  let main_c : IVec S_ 1 := constantI S_ 1 1#1
  let main_v5 : IVec S_ 1 := (fun x v => Host.reduce IntOp.andi x v reducesTo_S8192x512_S_d0_1 h_S_) main_v4 main_c
  let main_cst_1 : FVec F S_ .f32 := constant S_ .f32 0xFF800000#32
  let main_v6 : FVec F S8192x512 .f32 := broadcastInDim S8192x512 ![] bcast_S_S8192x512 main_cst_1
  let main_v7 : IVec S8192x512 1 := cmpf .ogt main_arg1 main_v6
  let main_cst_2 : FVec F S_ .f32 := constant S_ .f32 0x7F800000#32
  let main_v8 : FVec F S8192x512 .f32 := broadcastInDim S8192x512 ![] bcast_S_S8192x512 main_cst_2
  let main_v9 : IVec S8192x512 1 := cmpf .olt main_arg1 main_v8
  let main_v10 : IVec S8192x512 1 := andi main_v7 main_v9
  let main_c_3 : IVec S_ 1 := constantI S_ 1 1#1
  let main_v11 : IVec S_ 1 := (fun x v => Host.reduce IntOp.andi x v reducesTo_S8192x512_S_d0_1 h_S_) main_v10 main_c_3
  let main_v12 : IVec S_ 1 := andi main_v5 main_v11
  let main_cst_4 : FVec F S_ .f32 := constant S_ .f32 0xFF800000#32
  let main_v13 : FVec F S512 .f32 := broadcastInDim S512 ![] bcast_S_S512 main_cst_4
  let main_v14 : IVec S512 1 := cmpf .ogt main_arg2 main_v13
  let main_cst_5 : FVec F S_ .f32 := constant S_ .f32 0x7F800000#32
  let main_v15 : FVec F S512 .f32 := broadcastInDim S512 ![] bcast_S_S512 main_cst_5
  fn_part1 (F := F) main_arg2 main_arg3 main_arg4 main_arg5 main_v12 main_v14 main_v15
-- ==== Loss.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S1x1024 : Shape := ⟨2, ![1, 1024]⟩
abbrev S1x1 : Shape := ⟨2, ![1, 1]⟩
abbrev S1024x2816 : Shape := ⟨2, ![1024, 2816]⟩
abbrev S1024x1024 : Shape := ⟨2, ![1024, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1, .f32⟩
  | .hbm, ⟨11, _⟩ => ⟨S1x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S1x1, .f32⟩
  | .hbm, ⟨77, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256x256 : Shape := ⟨2, ![256, 256]⟩
abbrev S256 : Shape := ⟨1, ![256]⟩
abbrev S256x1 : Shape := ⟨2, ![256, 1]⟩

abbrev nBuf : Space → Nat
  | .hbm => 37
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .bf16⟩
  | .hbm, ⟨25, _⟩ => ⟨S8192x2816, .bf16⟩
  | .hbm, ⟨26, _⟩ => ⟨S2816x1024, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S1x1024, .f32⟩
  | .hbm, ⟨32, _⟩ => ⟨S8192x2816, .bf16⟩
  | .hbm, ⟨33, _⟩ => ⟨S8192x2816, .bf16⟩
  | .hbm, ⟨34, _⟩ => ⟨S8192x1024, .f32⟩
  | .hbm, ⟨35, _⟩ => ⟨S8192x1024, .bf16⟩
  | .hbm, ⟨36, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnIdeal.lean ====
variable {F : FTy → Type} [FloatOps F] [Named F]
def κ : String → Option EReal := fun
  | "exp2_scale" => some ((-((Real.log 2)⁻¹) : ℝ) : EReal)
  | _ => none
-- ==== FfnRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x2816, .bf16⟩
  | .hbm, ⟨80, _⟩ => ⟨S8192x2816, .bf16⟩
  | .hbm, ⟨81, _⟩ => ⟨S8192x1024, .bf16⟩
  | .hbm, ⟨82, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== Wo.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S2048x2048 : Shape := ⟨2, ![2048, 2048]⟩
abbrev S512x8192 : Shape := ⟨2, ![512, 8192]⟩
abbrev S1024x512 : Shape := ⟨2, ![1024, 512]⟩
abbrev S256x2048 : Shape := ⟨2, ![256, 2048]⟩
abbrev S64x8192 : Shape := ⟨2, ![64, 8192]⟩
abbrev S4x1024x128 : Shape := ⟨3, ![4, 1024, 128]⟩
abbrev S256x1024 : Shape := ⟨2, ![256, 1024]⟩
abbrev S1024x256 : Shape := ⟨2, ![1024, 256]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩
abbrev S256x128 : Shape := ⟨2, ![256, 128]⟩
abbrev S64x128 : Shape := ⟨2, ![64, 128]⟩

abbrev nBuf : Space → Nat
  | .hbm => 53
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .bf16⟩
  | .hbm, ⟨40, _⟩ => ⟨S1024x1024, .bf16⟩
  | .hbm, ⟨41, _⟩ => ⟨S8192x512, .bf16⟩
  | .hbm, ⟨42, _⟩ => ⟨S8192x512, .bf16⟩
  | .hbm, ⟨43, _⟩ => ⟨S1x512, .f32⟩
  | .hbm, ⟨44, _⟩ => ⟨S1x512, .f32⟩
  | .hbm, ⟨45, _⟩ => ⟨S8192x1024, .bf16⟩
  | .hbm, ⟨46, _⟩ => ⟨S8192x512, .bf16⟩
  | .hbm, ⟨47, _⟩ => ⟨S8192x512, .bf16⟩
  | .hbm, ⟨48, _⟩ => ⟨S2048x2048, .bf16⟩
  | .hbm, ⟨49, _⟩ => ⟨S512x8192, .bf16⟩
  | .hbm, ⟨50, _⟩ => ⟨S1x512, .f32⟩
  | .hbm, ⟨51, _⟩ => ⟨S1x512, .f32⟩
  | .hbm, ⟨52, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1x512, .f32⟩
  | .local _ .vmem, ⟨8, _⟩ => ⟨S1x512, .f32⟩
  | .local _ .vmem, ⟨9, _⟩ => ⟨S1024x1024, .bf16⟩
  | .local _ .vmem, ⟨10, _⟩ => ⟨S1024x1024, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S256x2048, .bf16⟩
  | .local _ .vmem, ⟨16, _⟩ => ⟨S256x2048, .bf16⟩
  | .local _ .vmem, ⟨17, _⟩ => ⟨S64x8192, .bf16⟩
  | .local _ .vmem, ⟨18, _⟩ => ⟨S64x8192, .bf16⟩
  | .local _ .vmem, ⟨19, _⟩ => ⟨S1x512, .f32⟩
  | .local _ .vmem, ⟨20, _⟩ => ⟨S1x512, .f32⟩
  | .local _ .vmem, ⟨21, _⟩ => ⟨S1024x1024, .bf16⟩
  | .local _ .vmem, ⟨22, _⟩ => ⟨S4x1024x128, .f32⟩
  | .local _ .vmem, ⟨23, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev main_v34_4 : Ref sig .tc := ⟨.hbm, 50, rfl⟩
abbrev main_v34_5 : Ref sig .tc := ⟨.hbm, 51, rfl⟩
abbrev main_v34_6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v37 : BitVec 1 := Scalar.cmpi .eq arg0 c7_i32
  let v38 : BitVec 32 := Scalar.extui v37
  let c0_i32_26 : BitVec 32 := 0#32
  let v39 : BitVec 1 := Scalar.cmpi .ne v38 c0_i32_26
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== WoRefIdeal.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S2048x2048 : Shape := ⟨2, ![2048, 2048]⟩
abbrev S512x8192 : Shape := ⟨2, ![512, 8192]⟩

abbrev nBuf : Space → Nat
  | .hbm => 110
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x1024, .f32⟩
  | .hbm, ⟨47, _⟩ => ⟨S8192x1024, .f32⟩
  | .hbm, ⟨48, _⟩ => ⟨S1024x1024, .f32⟩
  | .hbm, ⟨49, _⟩ => ⟨S1024x1024, .f32⟩
  | .hbm, ⟨50, _⟩ => ⟨S8192x1024, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S512, .f32⟩
  | .hbm, ⟨61, _⟩ => ⟨S8192x512, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x512, .f32⟩
  | .hbm, ⟨66, _⟩ => ⟨S8192x512, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S512, .f32⟩
  | .hbm, ⟨86, _⟩ => ⟨S8192x512, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x512, .f32⟩
  | .hbm, ⟨91, _⟩ => ⟨S8192x512, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S8192x512, .bf16⟩
  | .hbm, ⟨104, _⟩ => ⟨S8192x512, .bf16⟩
  | .hbm, ⟨105, _⟩ => ⟨S2048x2048, .bf16⟩
  | .hbm, ⟨106, _⟩ => ⟨S512x8192, .bf16⟩
  | .hbm, ⟨107, _⟩ => ⟨S1x512, .f32⟩
  | .hbm, ⟨108, _⟩ => ⟨S1x512, .f32⟩
  | .hbm, ⟨109, _⟩ => ⟨S1024x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]
-- ==== FfnUp.lean ====
abbrev S8192x1024 : Shape := ⟨2, ![8192, 1024]⟩
abbrev S1024 : Shape := ⟨1, ![1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 28
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S2816x1024, .f32⟩
  | .hbm, ⟨22, _⟩ => ⟨S2816x1024, .bf16⟩
  | .hbm, ⟨23, _⟩ => ⟨S2816x1024, .f32⟩
  | .hbm, ⟨24, _⟩ => ⟨S2816x1024, .bf16⟩
  | .hbm, ⟨25, _⟩ => ⟨S8192x2816, .bf16⟩
  | .hbm, ⟨26, _⟩ => ⟨S8192x2816, .bf16⟩
  | .hbm, ⟨27, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpIdeal.lean ====
variable {F : FTy → Type} [FloatOps F] [Named F]
def κ : String → Option EReal := fun
  | "exp2_scale" => some ((-((Real.log 2)⁻¹) : ℝ) : EReal)
  | _ => none
-- ==== FfnUpRefIdeal.lean ====
abbrev S8192x1024 : Shape := ⟨2, ![8192, 1024]⟩
abbrev S1024 : Shape := ⟨1, ![1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .bf16⟩
  | .hbm, ⟨33, _⟩ => ⟨S8192x2816, .bf16⟩
  | .hbm, ⟨34, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Product.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductRefIdeal.lean ====
abbrev S8192x2816 : Shape := ⟨2, ![8192, 2816]⟩
abbrev S8192x1024 : Shape := ⟨2, ![8192, 1024]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .hbm, ⟨3, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Step.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Small.lean ====
abbrev S8x56x128 : Shape := ⟨3, ![8, 56, 128]⟩
abbrev S56x128 : Shape := ⟨2, ![56, 128]⟩
abbrev S1x56x128 : Shape := ⟨3, ![1, 56, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x56x128, .f32⟩
  | .hbm, ⟨1, _⟩ => ⟨S56x128, .f32⟩
  | .hbm, ⟨2, _⟩ => ⟨S56x128, .f32⟩
  | .hbm, ⟨3, _⟩ => ⟨S56x128, .f32⟩
  | .hbm, ⟨4, _⟩ => ⟨S56x128, .f32⟩
  | .hbm, ⟨5, _⟩ => ⟨S56x128, .f32⟩
  | .hbm, ⟨6, _⟩ => ⟨S56x128, .f32⟩
  | .hbm, ⟨7, _⟩ => ⟨S56x128, .f32⟩
  | .local _ .vmem, ⟨0, _⟩ => ⟨S8x56x128, .f32⟩
  | .local _ .vmem, ⟨1, _⟩ => ⟨S56x128, .f32⟩
  | .local _ .vmem, ⟨2, _⟩ => ⟨S56x128, .f32⟩
  | .local _ .vmem, ⟨3, _⟩ => ⟨S56x128, .f32⟩
  | .local _ .vmem, ⟨4, _⟩ => ⟨S56x128, .f32⟩
  | .local _ .vmem, ⟨5, _⟩ => ⟨S56x128, .f32⟩
  | .local _ .vmem, ⟨6, _⟩ => ⟨S56x128, .f32⟩
  | .local _ .vmem, ⟨7, _⟩ => ⟨S56x128, .f32⟩
  | _, _ => ⟨S8x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x56x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S56x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallRefIdeal.lean ====
abbrev S8x56x128 : Shape := ⟨3, ![8, 56, 128]⟩
abbrev S56x128 : Shape := ⟨2, ![56, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x56x128, .f32⟩
  | .hbm, ⟨1, _⟩ => ⟨S56x128, .f32⟩
  | .hbm, ⟨2, _⟩ => ⟨S56x128, .f32⟩
  | .hbm, ⟨3, _⟩ => ⟨S56x128, .f32⟩
  | .hbm, ⟨4, _⟩ => ⟨S_, .f32⟩
  | .hbm, ⟨5, _⟩ => ⟨S56x128, .f32⟩
  | .hbm, ⟨6, _⟩ => ⟨S_, .f32⟩
  | .hbm, ⟨7, _⟩ => ⟨S56x128, .f32⟩
  | .hbm, ⟨8, _⟩ => ⟨S56x128, .f32⟩
  | .hbm, ⟨9, _⟩ => ⟨S_, .f32⟩
  | .hbm, ⟨10, _⟩ => ⟨S56x128, .f32⟩
  | .hbm, ⟨11, _⟩ => ⟨S56x128, .f32⟩
  | .hbm, ⟨12, _⟩ => ⟨S56x128, .f32⟩
  | .hbm, ⟨13, _⟩ => ⟨S_, .f32⟩
  | .hbm, ⟨14, _⟩ => ⟨S56x128, .f32⟩
  | .hbm, ⟨15, _⟩ => ⟨S56x128, .f32⟩
  | .hbm, ⟨16, _⟩ => ⟨S56x128, .f32⟩
  | .hbm, ⟨17, _⟩ => ⟨S_, .f32⟩
  | .hbm, ⟨18, _⟩ => ⟨S56x128, .f32⟩
  | .hbm, ⟨19, _⟩ => ⟨S56x128, .f32⟩
  | .hbm, ⟨20, _⟩ => ⟨S56x128, .f32⟩
  | .hbm, ⟨21, _⟩ => ⟨S_, .f32⟩
  | .hbm, ⟨22, _⟩ => ⟨S56x128, .f32⟩
  | .hbm, ⟨23, _⟩ => ⟨S56x128, .f32⟩
  | .hbm, ⟨24, _⟩ => ⟨S_, .f32⟩
  | .hbm, ⟨25, _⟩ => ⟨S56x128, .f32⟩
  | .hbm, ⟨26, _⟩ => ⟨S56x128, .f32⟩
  | .hbm, ⟨27, _⟩ => ⟨S56x128, .f32⟩
  | .hbm, ⟨28, _⟩ => ⟨S_, .f32⟩
  | .hbm, ⟨29, _⟩ => ⟨S56x128, .f32⟩
  | .hbm, ⟨30, _⟩ => ⟨S56x128, .f32⟩
  | .hbm, ⟨31, _⟩ => ⟨S56x128, .f32⟩
  | .hbm, ⟨32, _⟩ => ⟨S_, .f32⟩
  | .hbm, ⟨33, _⟩ => ⟨S56x128, .f32⟩
  | .hbm, ⟨34, _⟩ => ⟨S56x128, .f32⟩
  | .hbm, ⟨35, _⟩ => ⟨S56x128, .f32⟩
  | .hbm, ⟨36, _⟩ => ⟨S_, .f32⟩
  | .hbm, ⟨37, _⟩ => ⟨S56x128, .f32⟩
  | .hbm, ⟨38, _⟩ => ⟨S56x128, .f32⟩
  | _, _ => ⟨S8x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Bias.lean ====
abbrev S8x128x256 : Shape := ⟨3, ![8, 128, 256]⟩
abbrev S128x512 : Shape := ⟨2, ![128, 512]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S8x128 : Shape := ⟨2, ![8, 128]⟩
abbrev S1x512 : Shape := ⟨2, ![1, 512]⟩
abbrev S1x128x256 : Shape := ⟨3, ![1, 128, 256]⟩
abbrev S1 : Shape := ⟨1, ![1]⟩
abbrev S1x1 : Shape := ⟨2, ![1, 1]⟩
abbrev S512 : Shape := ⟨1, ![512]⟩

abbrev nBuf : Space → Nat
  | .hbm => 177
  | .vmem => 9
  | .smem => 0
  | _ => 0

abbrev hbmTy0_0 (i : Nat) : BufTy := match i % 128 with
  | 0 => ⟨S8x128x256, .f32⟩
  | 1 => ⟨S8x128x256, .f32⟩
  | 2 => ⟨S8x128x256, .f32⟩
  | 3 => ⟨S128x512, .f32⟩
  | 4 => ⟨S128, .i32⟩
  | 5 => ⟨S128x1, .i32⟩
  | 6 => ⟨S_, .i32⟩
  | 7 => ⟨S128x1, .i32⟩
  | 8 => ⟨S128x1, .i32⟩
  | 9 => ⟨S256, .i32⟩
  | 10 => ⟨S1x256, .i32⟩
  | 11 => ⟨S128x256, .i32⟩
  | 12 => ⟨S128x256, .i32⟩
  | 13 => ⟨S128x256, .i32⟩
  | 14 => ⟨S_, .i32⟩
  | 15 => ⟨S128x256, .i32⟩
  | 16 => ⟨S128x256, .i1⟩
  | 17 => ⟨S_, .i32⟩
  | 18 => ⟨S128x256, .i32⟩
  | 19 => ⟨S128x256, .i1⟩
  | 20 => ⟨S128x256, .i1⟩
  | 21 => ⟨S_, .i32⟩
  | 22 => ⟨S_, .i32⟩
  | 23 => ⟨S_, .i32⟩
  | 24 => ⟨S128x256, .i32⟩
  | 25 => ⟨S128x256, .i32⟩
  | 26 => ⟨S_, .i32⟩
  | 27 => ⟨S128x256, .i32⟩
  | 28 => ⟨S128x256, .i32⟩
  | 29 => ⟨S_, .i32⟩
  | 30 => ⟨S128x256, .i32⟩
  | 31 => ⟨S128x256, .i32⟩
  | 32 => ⟨S_, .i32⟩
  | 33 => ⟨S128x256, .i32⟩
  | 34 => ⟨S128x256, .i32⟩
  | 35 => ⟨S128x256, .f32⟩
  | 36 => ⟨S_, .f32⟩
  | 37 => ⟨S128x256, .f32⟩
  | 38 => ⟨S128x256, .f32⟩
  | 39 => ⟨S128x256, .f32⟩
  | 40 => ⟨S_, .f32⟩
  | 41 => ⟨S128x256, .f32⟩
  | 42 => ⟨S128x256, .f32⟩
  | 43 => ⟨S_, .f32⟩
  | 44 => ⟨S128x256, .f32⟩
  | 45 => ⟨S128x256, .f32⟩
  | 46 => ⟨S128x256, .i32⟩
  | 47 => ⟨S_, .i32⟩
  | 48 => ⟨S128x256, .i32⟩
  | 49 => ⟨S128x256, .i32⟩
  | 50 => ⟨S_, .i32⟩
  | 51 => ⟨S128x256, .i32⟩
  | 52 => ⟨S128x256, .i32⟩
  | 53 => ⟨S_, .i32⟩
  | 54 => ⟨S128x256, .i32⟩
  | 55 => ⟨S128x256, .i1⟩
  | 56 => ⟨S128x256, .i32⟩
  | 57 => ⟨S_, .i32⟩
  | 58 => ⟨S_, .i32⟩
  | 59 => ⟨S128x256, .i32⟩
  | 60 => ⟨S128x256, .i32⟩
  | 61 => ⟨S128, .i32⟩
  | 62 => ⟨S128x1, .i32⟩
  | 63 => ⟨S_, .i32⟩
  | 64 => ⟨S128x1, .i32⟩
  | 65 => ⟨S128x1, .i32⟩
  | 66 => ⟨S256, .i32⟩
  | 67 => ⟨S1x256, .i32⟩
  | 68 => ⟨S128x256, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S_, .i32⟩
  | 75 => ⟨S128x256, .i32⟩
  | 76 => ⟨S128x256, .i1⟩
  | 77 => ⟨S128x256, .i1⟩
  | 78 => ⟨S_, .i32⟩
  | 79 => ⟨S_, .i32⟩
  | 80 => ⟨S_, .i32⟩
  | 81 => ⟨S128x256, .i32⟩
  | 82 => ⟨S128x256, .i32⟩
  | 83 => ⟨S_, .i32⟩
  | 84 => ⟨S128x256, .i32⟩
  | 85 => ⟨S128x256, .i32⟩
  | 86 => ⟨S_, .i32⟩
  | 87 => ⟨S128x256, .i32⟩
  | 88 => ⟨S128x256, .i32⟩
  | 89 => ⟨S_, .i32⟩
  | 90 => ⟨S128x256, .i32⟩
  | 91 => ⟨S128x256, .i32⟩
  | 92 => ⟨S128x256, .f32⟩
  | 93 => ⟨S_, .f32⟩
  | 94 => ⟨S128x256, .f32⟩
  | 95 => ⟨S128x256, .f32⟩
  | 96 => ⟨S128x256, .f32⟩
  | 97 => ⟨S_, .f32⟩
  | 98 => ⟨S128x256, .f32⟩
  | 99 => ⟨S128x256, .f32⟩
  | 100 => ⟨S_, .f32⟩
  | 101 => ⟨S128x256, .f32⟩
  | 102 => ⟨S128x256, .f32⟩
  | 103 => ⟨S128x256, .i32⟩
  | 104 => ⟨S_, .i32⟩
  | 105 => ⟨S128x256, .i32⟩
  | 106 => ⟨S128x256, .i32⟩
  | 107 => ⟨S_, .i32⟩
  | 108 => ⟨S128x256, .i32⟩
  | 109 => ⟨S128x256, .i32⟩
  | 110 => ⟨S_, .i32⟩
  | 111 => ⟨S128x256, .i32⟩
  | 112 => ⟨S128x256, .i1⟩
  | 113 => ⟨S128x256, .i32⟩
  | 114 => ⟨S_, .i32⟩
  | 115 => ⟨S_, .i32⟩
  | 116 => ⟨S128x256, .i32⟩
  | 117 => ⟨S128x256, .i32⟩
  | 118 => ⟨S128, .i32⟩
  | 119 => ⟨S128x1, .i32⟩
  | 120 => ⟨S_, .i32⟩
  | 121 => ⟨S128x1, .i32⟩
  | 122 => ⟨S128x1, .i32⟩
  | 123 => ⟨S256, .i32⟩
  | 124 => ⟨S1x256, .i32⟩
  | 125 => ⟨S128x256, .i32⟩
  | 126 => ⟨S128x256, .i32⟩
  | 127 => ⟨S128x256, .i32⟩
  | _ => ⟨S8x128x256, .f32⟩

abbrev hbmTy0_1 (i : Nat) : BufTy := match i % 128 with
  | 0 => ⟨S_, .i32⟩
  | 1 => ⟨S128x256, .i32⟩
  | 2 => ⟨S128x256, .i1⟩
  | 3 => ⟨S_, .i32⟩
  | 4 => ⟨S128x256, .i32⟩
  | 5 => ⟨S128x256, .i1⟩
  | 6 => ⟨S128x256, .i1⟩
  | 7 => ⟨S_, .i32⟩
  | 8 => ⟨S_, .i32⟩
  | 9 => ⟨S_, .i32⟩
  | 10 => ⟨S128x256, .i32⟩
  | 11 => ⟨S128x256, .i32⟩
  | 12 => ⟨S_, .i32⟩
  | 13 => ⟨S128x256, .i32⟩
  | 14 => ⟨S128x256, .i32⟩
  | 15 => ⟨S_, .i32⟩
  | 16 => ⟨S128x256, .i32⟩
  | 17 => ⟨S128x256, .i32⟩
  | 18 => ⟨S_, .i32⟩
  | 19 => ⟨S128x256, .i32⟩
  | 20 => ⟨S128x256, .i32⟩
  | 21 => ⟨S128x256, .f32⟩
  | 22 => ⟨S_, .f32⟩
  | 23 => ⟨S128x256, .f32⟩
  | 24 => ⟨S128x256, .f32⟩
  | 25 => ⟨S128x256, .f32⟩
  | 26 => ⟨S_, .f32⟩
  | 27 => ⟨S128x256, .f32⟩
  | 28 => ⟨S128x256, .f32⟩
  | 29 => ⟨S_, .f32⟩
  | 30 => ⟨S128x256, .f32⟩
  | 31 => ⟨S128x256, .f32⟩
  | 32 => ⟨S128x256, .i32⟩
  | 33 => ⟨S_, .i32⟩
  | 34 => ⟨S128x256, .i32⟩
  | 35 => ⟨S128x256, .i32⟩
  | 36 => ⟨S_, .i32⟩
  | 37 => ⟨S128x256, .i32⟩
  | 38 => ⟨S128x256, .i32⟩
  | 39 => ⟨S_, .i32⟩
  | 40 => ⟨S128x256, .i32⟩
  | 41 => ⟨S128x256, .i1⟩
  | 42 => ⟨S128x256, .i32⟩
  | 43 => ⟨S_, .i32⟩
  | 44 => ⟨S_, .i32⟩
  | 45 => ⟨S128x256, .i32⟩
  | 46 => ⟨S128x256, .i32⟩
  | 47 => ⟨S8x128, .f32⟩
  | 48 => ⟨S1x512, .f32⟩
  | _ => ⟨S8x128x256, .f32⟩

abbrev hbmTy (i : Nat) : BufTy := match i / 128 with
  | 0 => hbmTy0_0 i
  | 1 => hbmTy0_1 i
  | _ => ⟨S8x128x256, .f32⟩

abbrev bufTy : (tb : Table) → Fin (tcTables nBuf tb) → BufTy
  | .hbm, ⟨i, _⟩ => hbmTy i
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S128x256, .i32⟩
  | .local _ .vmem, ⟨4, _⟩ => ⟨S128x256, .i32⟩
  | .local _ .vmem, ⟨5, _⟩ => ⟨S128x256, .i32⟩
  | .local _ .vmem, ⟨6, _⟩ => ⟨S128x512, .f32⟩
  | .local _ .vmem, ⟨7, _⟩ => ⟨S8x128, .f32⟩
  | .local _ .vmem, ⟨8, _⟩ => ⟨S1x512, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_c_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_11 : Ref sig .tc := ⟨.hbm, 57, rfl⟩
abbrev main_call2_v0 : Ref sig .tc := ⟨.hbm, 58, rfl⟩
abbrev main_call2_v1 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_13 : Ref sig .tc := ⟨.hbm, 71, rfl⟩
abbrev main_v45 : Ref sig .tc := ⟨.hbm, 72, rfl⟩
abbrev main_v46 : Ref sig .tc := ⟨.hbm, 73, rfl⟩
abbrev main_c_14 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_15 : Ref sig .tc := ⟨.hbm, 78, rfl⟩
abbrev main_c_16 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v50 : Ref sig .tc := ⟨.hbm, 85, rfl⟩
abbrev main_c_17 : Ref sig .tc := ⟨.hbm, 86, rfl⟩
abbrev main_v51 : Ref sig .tc := ⟨.hbm, 87, rfl⟩
abbrev main_v52 : Ref sig .tc := ⟨.hbm, 88, rfl⟩
abbrev main_c_18 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_19 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_20 : Ref sig .tc := ⟨.hbm, 97, rfl⟩
abbrev main_v59 : Ref sig .tc := ⟨.hbm, 98, rfl⟩
abbrev main_v60 : Ref sig .tc := ⟨.hbm, 99, rfl⟩
abbrev main_cst_21 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_22 : Ref sig .tc := ⟨.hbm, 104, rfl⟩
abbrev main_v64 : Ref sig .tc := ⟨.hbm, 105, rfl⟩
abbrev main_v65 : Ref sig .tc := ⟨.hbm, 106, rfl⟩
abbrev main_c_23 : Ref sig .tc := ⟨.hbm, 107, rfl⟩
abbrev main_v66 : Ref sig .tc := ⟨.hbm, 108, rfl⟩
abbrev main_v67 : Ref sig .tc := ⟨.hbm, 109, rfl⟩
abbrev main_c_24 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_25 : Ref sig .tc := ⟨.hbm, 114, rfl⟩
abbrev main_call5_v0 : Ref sig .tc := ⟨.hbm, 115, rfl⟩
abbrev main_call5_v1 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_c_26 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_27 : Ref sig .tc := ⟨.hbm, 128, rfl⟩
abbrev main_v81 : Ref sig .tc := ⟨.hbm, 129, rfl⟩
abbrev main_v82 : Ref sig .tc := ⟨.hbm, 130, rfl⟩
abbrev main_c_28 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_c_29 : Ref sig .tc := ⟨.hbm, 135, rfl⟩
abbrev main_c_30 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_v86 : Ref sig .tc := ⟨.hbm, 142, rfl⟩
abbrev main_c_31 : Ref sig .tc := ⟨.hbm, 143, rfl⟩
abbrev main_v87 : Ref sig .tc := ⟨.hbm, 144, rfl⟩
abbrev main_v88 : Ref sig .tc := ⟨.hbm, 145, rfl⟩
abbrev main_c_32 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_33 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_34 : Ref sig .tc := ⟨.hbm, 154, rfl⟩
abbrev main_v95 : Ref sig .tc := ⟨.hbm, 155, rfl⟩
abbrev main_v96 : Ref sig .tc := ⟨.hbm, 156, rfl⟩
abbrev main_cst_35 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_c_36 : Ref sig .tc := ⟨.hbm, 161, rfl⟩
abbrev main_v100 : Ref sig .tc := ⟨.hbm, 162, rfl⟩
abbrev main_v101 : Ref sig .tc := ⟨.hbm, 163, rfl⟩
abbrev main_c_37 : Ref sig .tc := ⟨.hbm, 164, rfl⟩
abbrev main_v102 : Ref sig .tc := ⟨.hbm, 165, rfl⟩
abbrev main_v103 : Ref sig .tc := ⟨.hbm, 166, rfl⟩
abbrev main_c_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_c_39 : Ref sig .tc := ⟨.hbm, 171, rfl⟩
abbrev main_call8_v0 : Ref sig .tc := ⟨.hbm, 172, rfl⟩
abbrev main_call8_v1 : Ref sig .tc := ⟨.hbm, 173, rfl⟩
abbrev main_v107 : Ref sig .tc := ⟨.hbm, 174, rfl⟩
abbrev main_v108_0 : Ref sig .tc := ⟨.hbm, 175, rfl⟩
abbrev main_v108_1 : Ref sig .tc := ⟨.hbm, 176, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== BiasRefIdeal.lean ====
abbrev S8x128x256 : Shape := ⟨3, ![8, 128, 256]⟩
abbrev S128x512 : Shape := ⟨2, ![128, 512]⟩
abbrev S_ : Shape := ⟨0, ![]⟩
abbrev S32x8 : Shape := ⟨2, ![32, 8]⟩
abbrev S129 : Shape := ⟨1, ![129]⟩
abbrev S129x1 : Shape := ⟨2, ![129, 1]⟩
abbrev S129x8 : Shape := ⟨2, ![129, 8]⟩
abbrev S8x129 : Shape := ⟨2, ![8, 129]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S8x32 : Shape := ⟨2, ![8, 32]⟩
abbrev S8x128 : Shape := ⟨2, ![8, 128]⟩
abbrev S512 : Shape := ⟨1, ![512]⟩
abbrev S1x512 : Shape := ⟨2, ![1, 512]⟩

abbrev nBuf : Space → Nat
  | .hbm => 286
  | .vmem => 0
  | .smem => 0
  | _ => 0

abbrev hbmTy0_0 (i : Nat) : BufTy := match i % 128 with
  | 0 => ⟨S8x128x256, .f32⟩
  | 1 => ⟨S8x128x256, .f32⟩
  | 2 => ⟨S8x128x256, .f32⟩
  | 3 => ⟨S128x512, .f32⟩
  | 4 => ⟨S_, .f32⟩
  | 5 => ⟨S32x8, .f32⟩
  | 6 => ⟨S129, .i32⟩
  | 7 => ⟨S_, .i32⟩
  | 8 => ⟨S129, .i32⟩
  | 9 => ⟨S129, .i32⟩
  | 10 => ⟨S_, .i32⟩
  | 11 => ⟨S129, .i32⟩
  | 12 => ⟨S129, .i32⟩
  | 13 => ⟨S129, .f32⟩
  | 14 => ⟨S_, .f32⟩
  | 15 => ⟨S129, .f32⟩
  | 16 => ⟨S129, .f32⟩
  | 17 => ⟨S129, .f32⟩
  | 18 => ⟨S_, .f32⟩
  | 19 => ⟨S129, .f32⟩
  | 20 => ⟨S129, .f32⟩
  | 21 => ⟨S_, .f32⟩
  | 22 => ⟨S129, .f32⟩
  | 23 => ⟨S129, .f32⟩
  | 24 => ⟨S129, .i32⟩
  | 25 => ⟨S_, .i32⟩
  | 26 => ⟨S129, .i32⟩
  | 27 => ⟨S129, .i32⟩
  | 28 => ⟨S_, .i32⟩
  | 29 => ⟨S129, .i32⟩
  | 30 => ⟨S129, .i32⟩
  | 31 => ⟨S_, .i32⟩
  | 32 => ⟨S129, .i32⟩
  | 33 => ⟨S129, .i1⟩
  | 34 => ⟨S129, .i32⟩
  | 35 => ⟨S_, .i32⟩
  | 36 => ⟨S129, .i32⟩
  | 37 => ⟨S129, .i1⟩
  | 38 => ⟨S_, .i32⟩
  | 39 => ⟨S129, .i32⟩
  | 40 => ⟨S129, .i32⟩
  | 41 => ⟨S129, .i32⟩
  | 42 => ⟨S129x1, .i32⟩
  | 43 => ⟨S129x8, .f32⟩
  | 44 => ⟨S8x129, .f32⟩
  | 45 => ⟨S128, .i32⟩
  | 46 => ⟨S128x1, .i32⟩
  | 47 => ⟨S_, .i32⟩
  | 48 => ⟨S128x1, .i32⟩
  | 49 => ⟨S128x1, .i32⟩
  | 50 => ⟨S256, .i32⟩
  | 51 => ⟨S1x256, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S_, .i32⟩
  | 63 => ⟨S_, .i32⟩
  | 64 => ⟨S_, .i32⟩
  | 65 => ⟨S128x256, .i32⟩
  | 66 => ⟨S128x256, .i32⟩
  | 67 => ⟨S_, .i32⟩
  | 68 => ⟨S128x256, .i32⟩
  | 69 => ⟨S128x256, .i32⟩
  | 70 => ⟨S_, .i32⟩
  | 71 => ⟨S128x256, .i32⟩
  | 72 => ⟨S128x256, .i1⟩
  | 73 => ⟨S_, .i32⟩
  | 74 => ⟨S128x256, .i32⟩
  | 75 => ⟨S128x256, .i32⟩
  | 76 => ⟨S128x256, .i32⟩
  | 77 => ⟨S128x256x1, .i32⟩
  | 78 => ⟨S8x128x256, .f32⟩
  | 79 => ⟨S_, .f32⟩
  | 80 => ⟨S_, .f32⟩
  | 81 => ⟨S8x128x256, .i1⟩
  | 82 => ⟨S8x128x256, .f32⟩
  | 83 => ⟨S8x128x256, .f32⟩
  | 84 => ⟨S_, .f32⟩
  | 85 => ⟨S8x128x256, .f32⟩
  | 86 => ⟨S129, .i32⟩
  | 87 => ⟨S_, .i32⟩
  | 88 => ⟨S129, .i32⟩
  | 89 => ⟨S129, .i32⟩
  | 90 => ⟨S_, .i32⟩
  | 91 => ⟨S129, .i32⟩
  | 92 => ⟨S129, .i32⟩
  | 93 => ⟨S129, .f32⟩
  | 94 => ⟨S_, .f32⟩
  | 95 => ⟨S129, .f32⟩
  | 96 => ⟨S129, .f32⟩
  | 97 => ⟨S129, .f32⟩
  | 98 => ⟨S_, .f32⟩
  | 99 => ⟨S129, .f32⟩
  | 100 => ⟨S129, .f32⟩
  | 101 => ⟨S_, .f32⟩
  | 102 => ⟨S129, .f32⟩
  | 103 => ⟨S129, .f32⟩
  | 104 => ⟨S129, .i32⟩
  | 105 => ⟨S_, .i32⟩
  | 106 => ⟨S129, .i32⟩
  | 107 => ⟨S129, .i32⟩
  | 108 => ⟨S_, .i32⟩
  | 109 => ⟨S129, .i32⟩
  | 110 => ⟨S129, .i32⟩
  | 111 => ⟨S_, .i32⟩
  | 112 => ⟨S129, .i32⟩
  | 113 => ⟨S129, .i1⟩
  | 114 => ⟨S129, .i32⟩
  | 115 => ⟨S_, .i32⟩
  | 116 => ⟨S129, .i32⟩
  | 117 => ⟨S129, .i1⟩
  | 118 => ⟨S_, .i32⟩
  | 119 => ⟨S129, .i32⟩
  | 120 => ⟨S129, .i32⟩
  | 121 => ⟨S129, .i32⟩
  | 122 => ⟨S129x1, .i32⟩
  | 123 => ⟨S129x8, .f32⟩
  | 124 => ⟨S8x129, .f32⟩
  | 125 => ⟨S128, .i32⟩
  | 126 => ⟨S128x1, .i32⟩
  | 127 => ⟨S_, .i32⟩
  | _ => ⟨S8x128x256, .f32⟩

abbrev hbmTy0_1 (i : Nat) : BufTy := match i % 128 with
  | 0 => ⟨S128x1, .i32⟩
  | 1 => ⟨S128x1, .i32⟩
  | 2 => ⟨S256, .i32⟩
  | 3 => ⟨S1x256, .i32⟩
  | 4 => ⟨S128x256, .i32⟩
  | 5 => ⟨S128x256, .i32⟩
  | 6 => ⟨S128x256, .i32⟩
  | 7 => ⟨S_, .i32⟩
  | 8 => ⟨S128x256, .i32⟩
  | 9 => ⟨S128x256, .i1⟩
  | 10 => ⟨S_, .i32⟩
  | 11 => ⟨S128x256, .i32⟩
  | 12 => ⟨S128x256, .i1⟩
  | 13 => ⟨S128x256, .i1⟩
  | 14 => ⟨S_, .i32⟩
  | 15 => ⟨S_, .i32⟩
  | 16 => ⟨S_, .i32⟩
  | 17 => ⟨S128x256, .i32⟩
  | 18 => ⟨S128x256, .i32⟩
  | 19 => ⟨S_, .i32⟩
  | 20 => ⟨S128x256, .i32⟩
  | 21 => ⟨S128x256, .i32⟩
  | 22 => ⟨S_, .i32⟩
  | 23 => ⟨S128x256, .i32⟩
  | 24 => ⟨S128x256, .i1⟩
  | 25 => ⟨S_, .i32⟩
  | 26 => ⟨S128x256, .i32⟩
  | 27 => ⟨S128x256, .i32⟩
  | 28 => ⟨S128x256, .i32⟩
  | 29 => ⟨S128x256x1, .i32⟩
  | 30 => ⟨S8x128x256, .f32⟩
  | 31 => ⟨S_, .f32⟩
  | 32 => ⟨S_, .f32⟩
  | 33 => ⟨S8x128x256, .i1⟩
  | 34 => ⟨S8x128x256, .f32⟩
  | 35 => ⟨S8x128x256, .f32⟩
  | 36 => ⟨S_, .f32⟩
  | 37 => ⟨S8x128x256, .f32⟩
  | 38 => ⟨S129, .i32⟩
  | 39 => ⟨S_, .i32⟩
  | 40 => ⟨S129, .i32⟩
  | 41 => ⟨S129, .i32⟩
  | 42 => ⟨S_, .i32⟩
  | 43 => ⟨S129, .i32⟩
  | 44 => ⟨S129, .i32⟩
  | 45 => ⟨S129, .f32⟩
  | 46 => ⟨S_, .f32⟩
  | 47 => ⟨S129, .f32⟩
  | 48 => ⟨S129, .f32⟩
  | 49 => ⟨S129, .f32⟩
  | 50 => ⟨S_, .f32⟩
  | 51 => ⟨S129, .f32⟩
  | 52 => ⟨S129, .f32⟩
  | 53 => ⟨S_, .f32⟩
  | 54 => ⟨S129, .f32⟩
  | 55 => ⟨S129, .f32⟩
  | 56 => ⟨S129, .i32⟩
  | 57 => ⟨S_, .i32⟩
  | 58 => ⟨S129, .i32⟩
  | 59 => ⟨S129, .i32⟩
  | 60 => ⟨S_, .i32⟩
  | 61 => ⟨S129, .i32⟩
  | 62 => ⟨S129, .i32⟩
  | 63 => ⟨S_, .i32⟩
  | 64 => ⟨S129, .i32⟩
  | 65 => ⟨S129, .i1⟩
  | 66 => ⟨S129, .i32⟩
  | 67 => ⟨S_, .i32⟩
  | 68 => ⟨S129, .i32⟩
  | 69 => ⟨S129, .i1⟩
  | 70 => ⟨S_, .i32⟩
  | 71 => ⟨S129, .i32⟩
  | 72 => ⟨S129, .i32⟩
  | 73 => ⟨S129, .i32⟩
  | 74 => ⟨S129x1, .i32⟩
  | 75 => ⟨S129x8, .f32⟩
  | 76 => ⟨S8x129, .f32⟩
  | 77 => ⟨S128, .i32⟩
  | 78 => ⟨S128x1, .i32⟩
  | 79 => ⟨S_, .i32⟩
  | 80 => ⟨S128x1, .i32⟩
  | 81 => ⟨S128x1, .i32⟩
  | 82 => ⟨S256, .i32⟩
  | 83 => ⟨S1x256, .i32⟩
  | 84 => ⟨S128x256, .i32⟩
  | 85 => ⟨S128x256, .i32⟩
  | 86 => ⟨S128x256, .i32⟩
  | 87 => ⟨S_, .i32⟩
  | 88 => ⟨S128x256, .i32⟩
  | 89 => ⟨S128x256, .i1⟩
  | 90 => ⟨S_, .i32⟩
  | 91 => ⟨S128x256, .i32⟩
  | 92 => ⟨S128x256, .i1⟩
  | 93 => ⟨S128x256, .i1⟩
  | 94 => ⟨S_, .i32⟩
  | 95 => ⟨S_, .i32⟩
  | 96 => ⟨S_, .i32⟩
  | 97 => ⟨S128x256, .i32⟩
  | 98 => ⟨S128x256, .i32⟩
  | 99 => ⟨S_, .i32⟩
  | 100 => ⟨S128x256, .i32⟩
  | 101 => ⟨S128x256, .i32⟩
  | 102 => ⟨S_, .i32⟩
  | 103 => ⟨S128x256, .i32⟩
  | 104 => ⟨S128x256, .i1⟩
  | 105 => ⟨S_, .i32⟩
  | 106 => ⟨S128x256, .i32⟩
  | 107 => ⟨S128x256, .i32⟩
  | 108 => ⟨S128x256, .i32⟩
  | 109 => ⟨S128x256x1, .i32⟩
  | 110 => ⟨S8x128x256, .f32⟩
  | 111 => ⟨S_, .f32⟩
  | 112 => ⟨S_, .f32⟩
  | 113 => ⟨S8x128x256, .i1⟩
  | 114 => ⟨S8x128x256, .f32⟩
  | 115 => ⟨S8x128x256, .f32⟩
  | 116 => ⟨S_, .f32⟩
  | 117 => ⟨S8x128x256, .f32⟩
  | 118 => ⟨S_, .f32⟩
  | 119 => ⟨S8x128x256, .f32⟩
  | 120 => ⟨S8x128x256, .f32⟩
  | 121 => ⟨S_, .f32⟩
  | 122 => ⟨S8x129, .f32⟩
  | 123 => ⟨S8x129, .f32⟩
  | 124 => ⟨S129x8, .f32⟩
  | 125 => ⟨S_, .f32⟩
  | 126 => ⟨S32x8, .f32⟩
  | 127 => ⟨S32x8, .f32⟩
  | _ => ⟨S8x128x256, .f32⟩

abbrev hbmTy0_2 (i : Nat) : BufTy := match i % 128 with
  | 0 => ⟨S_, .f32⟩
  | 1 => ⟨S8x128x256, .f32⟩
  | 2 => ⟨S8x128x256, .f32⟩
  | 3 => ⟨S_, .f32⟩
  | 4 => ⟨S8x129, .f32⟩
  | 5 => ⟨S8x129, .f32⟩
  | 6 => ⟨S129x8, .f32⟩
  | 7 => ⟨S_, .f32⟩
  | 8 => ⟨S32x8, .f32⟩
  | 9 => ⟨S32x8, .f32⟩
  | 10 => ⟨S32x8, .f32⟩
  | 11 => ⟨S_, .f32⟩
  | 12 => ⟨S8x128x256, .f32⟩
  | 13 => ⟨S8x128x256, .f32⟩
  | 14 => ⟨S_, .f32⟩
  | 15 => ⟨S8x129, .f32⟩
  | 16 => ⟨S8x129, .f32⟩
  | 17 => ⟨S129x8, .f32⟩
  | 18 => ⟨S_, .f32⟩
  | 19 => ⟨S32x8, .f32⟩
  | 20 => ⟨S32x8, .f32⟩
  | 21 => ⟨S32x8, .f32⟩
  | 22 => ⟨S8x32, .f32⟩
  | 23 => ⟨S_, .i32⟩
  | 24 => ⟨S_, .f32⟩
  | 25 => ⟨S8x128, .f32⟩
  | 26 => ⟨S_, .f32⟩
  | 27 => ⟨S512, .f32⟩
  | 28 => ⟨S1x512, .f32⟩
  | 29 => ⟨S1x512, .f32⟩
  | _ => ⟨S8x128x256, .f32⟩

abbrev hbmTy (i : Nat) : BufTy := match i / 128 with
  | 0 => hbmTy0_0 i
  | 1 => hbmTy0_1 i
  | 2 => hbmTy0_2 i
  | _ => ⟨S8x128x256, .f32⟩

abbrev bufTy : (tb : Table) → Fin (tcTables nBuf tb) → BufTy
  | .hbm, ⟨i, _⟩ => hbmTy i
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_12 : Ref sig .tc := ⟨.hbm, 62, rfl⟩
abbrev main_c_13 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v44 : Ref sig .tc := ⟨.hbm, 69, rfl⟩
abbrev main_c_14 : Ref sig .tc := ⟨.hbm, 70, rfl⟩
abbrev main_v45 : Ref sig .tc := ⟨.hbm, 71, rfl⟩
abbrev main_v46 : Ref sig .tc := ⟨.hbm, 72, rfl⟩
abbrev main_c_15 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_call2_v0 : Ref sig .tc := ⟨.hbm, 80, rfl⟩
abbrev main_v52_1 : Ref sig .tc := ⟨.hbm, 81, rfl⟩
abbrev main_call2_v2 : Ref sig .tc := ⟨.hbm, 82, rfl⟩
abbrev main_v52_0 : Ref sig .tc := ⟨.hbm, 83, rfl⟩
abbrev main_call2_cst : Ref sig .tc := ⟨.hbm, 84, rfl⟩
abbrev main_v52_2 : Ref sig .tc := ⟨.hbm, 85, rfl⟩
abbrev main_v53 : Ref sig .tc := ⟨.hbm, 86, rfl⟩
abbrev main_c_17 : Ref sig .tc := ⟨.hbm, 87, rfl⟩
abbrev main_v54 : Ref sig .tc := ⟨.hbm, 88, rfl⟩
abbrev main_v55 : Ref sig .tc := ⟨.hbm, 89, rfl⟩
abbrev main_c_18 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_19 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_20 : Ref sig .tc := ⟨.hbm, 98, rfl⟩
abbrev main_v62 : Ref sig .tc := ⟨.hbm, 99, rfl⟩
abbrev main_v63 : Ref sig .tc := ⟨.hbm, 100, rfl⟩
abbrev main_cst_21 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_22 : Ref sig .tc := ⟨.hbm, 105, rfl⟩
abbrev main_v67 : Ref sig .tc := ⟨.hbm, 106, rfl⟩
abbrev main_v68 : Ref sig .tc := ⟨.hbm, 107, rfl⟩
abbrev main_c_23 : Ref sig .tc := ⟨.hbm, 108, rfl⟩
abbrev main_v69 : Ref sig .tc := ⟨.hbm, 109, rfl⟩
abbrev main_v70 : Ref sig .tc := ⟨.hbm, 110, rfl⟩
abbrev main_c_24 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_25 : Ref sig .tc := ⟨.hbm, 115, rfl⟩
abbrev main_v74 : Ref sig .tc := ⟨.hbm, 116, rfl⟩
abbrev main_v75 : Ref sig .tc := ⟨.hbm, 117, rfl⟩
abbrev main_c_26 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_27 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_28 : Ref sig .tc := ⟨.hbm, 135, rfl⟩
abbrev main_v91 : Ref sig .tc := ⟨.hbm, 136, rfl⟩
abbrev main_v92 : Ref sig .tc := ⟨.hbm, 137, rfl⟩
abbrev main_c_29 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_c_30 : Ref sig .tc := ⟨.hbm, 142, rfl⟩
abbrev main_c_31 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_v96 : Ref sig .tc := ⟨.hbm, 149, rfl⟩
abbrev main_c_32 : Ref sig .tc := ⟨.hbm, 150, rfl⟩
abbrev main_v97 : Ref sig .tc := ⟨.hbm, 151, rfl⟩
abbrev main_v98 : Ref sig .tc := ⟨.hbm, 152, rfl⟩
abbrev main_c_33 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_34 : Ref sig .tc := ⟨.hbm, 159, rfl⟩
abbrev main_call5_v0 : Ref sig .tc := ⟨.hbm, 160, rfl⟩
abbrev main_v104_1 : Ref sig .tc := ⟨.hbm, 161, rfl⟩
abbrev main_call5_v2 : Ref sig .tc := ⟨.hbm, 162, rfl⟩
abbrev main_v104_0 : Ref sig .tc := ⟨.hbm, 163, rfl⟩
abbrev main_call5_cst : Ref sig .tc := ⟨.hbm, 164, rfl⟩
abbrev main_v104_2 : Ref sig .tc := ⟨.hbm, 165, rfl⟩
abbrev main_v105 : Ref sig .tc := ⟨.hbm, 166, rfl⟩
abbrev main_c_35 : Ref sig .tc := ⟨.hbm, 167, rfl⟩
abbrev main_v106 : Ref sig .tc := ⟨.hbm, 168, rfl⟩
abbrev main_v107 : Ref sig .tc := ⟨.hbm, 169, rfl⟩
abbrev main_c_36 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_cst_37 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_38 : Ref sig .tc := ⟨.hbm, 178, rfl⟩
abbrev main_v114 : Ref sig .tc := ⟨.hbm, 179, rfl⟩
abbrev main_v115 : Ref sig .tc := ⟨.hbm, 180, rfl⟩
abbrev main_cst_39 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_c_40 : Ref sig .tc := ⟨.hbm, 185, rfl⟩
abbrev main_v119 : Ref sig .tc := ⟨.hbm, 186, rfl⟩
abbrev main_v120 : Ref sig .tc := ⟨.hbm, 187, rfl⟩
abbrev main_c_41 : Ref sig .tc := ⟨.hbm, 188, rfl⟩
abbrev main_v121 : Ref sig .tc := ⟨.hbm, 189, rfl⟩
abbrev main_v122 : Ref sig .tc := ⟨.hbm, 190, rfl⟩
abbrev main_c_42 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_c_43 : Ref sig .tc := ⟨.hbm, 195, rfl⟩
abbrev main_v126 : Ref sig .tc := ⟨.hbm, 196, rfl⟩
abbrev main_v127 : Ref sig .tc := ⟨.hbm, 197, rfl⟩
abbrev main_c_44 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_c_45 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_c_46 : Ref sig .tc := ⟨.hbm, 215, rfl⟩
abbrev main_v143 : Ref sig .tc := ⟨.hbm, 216, rfl⟩
abbrev main_v144 : Ref sig .tc := ⟨.hbm, 217, rfl⟩
abbrev main_c_47 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_c_48 : Ref sig .tc := ⟨.hbm, 222, rfl⟩
abbrev main_c_49 : Ref sig .tc := ⟨.hbm, 223, rfl⟩
abbrev main_call7_v0 : Ref sig .tc := ⟨.hbm, 224, rfl⟩
abbrev main_call7_v1 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_v148 : Ref sig .tc := ⟨.hbm, 229, rfl⟩
abbrev main_c_50 : Ref sig .tc := ⟨.hbm, 230, rfl⟩
abbrev main_v149 : Ref sig .tc := ⟨.hbm, 231, rfl⟩
abbrev main_v150 : Ref sig .tc := ⟨.hbm, 232, rfl⟩
abbrev main_c_51 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_cst_52 : Ref sig .tc := ⟨.hbm, 239, rfl⟩
abbrev main_call8_v0 : Ref sig .tc := ⟨.hbm, 240, rfl⟩
abbrev main_v156_1 : Ref sig .tc := ⟨.hbm, 241, rfl⟩
abbrev main_call8_v2 : Ref sig .tc := ⟨.hbm, 242, rfl⟩
abbrev main_v156_0 : Ref sig .tc := ⟨.hbm, 243, rfl⟩
abbrev main_call8_cst : Ref sig .tc := ⟨.hbm, 244, rfl⟩
abbrev main_v156_2 : Ref sig .tc := ⟨.hbm, 245, rfl⟩
abbrev main_call9_cst : Ref sig .tc := ⟨.hbm, 246, rfl⟩
abbrev main_call9_v0 : Ref sig .tc := ⟨.hbm, 247, rfl⟩
abbrev main_v157 : Ref sig .tc := ⟨.hbm, 248, rfl⟩
abbrev main_cst_53 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_cst_54 : Ref sig .tc := ⟨.hbm, 253, rfl⟩
abbrev main_v161 : Ref sig .tc := ⟨.hbm, 254, rfl⟩
abbrev main_v162 : Ref sig .tc := ⟨.hbm, 255, rfl⟩
abbrev main_call10_cst : Ref sig .tc := ⟨.hbm, 256, rfl⟩
abbrev main_call10_v0 : Ref sig .tc := ⟨.hbm, 257, rfl⟩
abbrev main_v163 : Ref sig .tc := ⟨.hbm, 258, rfl⟩
abbrev main_cst_55 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_cst_56 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_call11_cst : Ref sig .tc := ⟨.hbm, 267, rfl⟩
abbrev main_call11_v0 : Ref sig .tc := ⟨.hbm, 268, rfl⟩
abbrev main_v170 : Ref sig .tc := ⟨.hbm, 269, rfl⟩
abbrev main_cst_57 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_cst_58 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_c_59 : Ref sig .tc := ⟨.hbm, 279, rfl⟩
abbrev main_call12_v0 : Ref sig .tc := ⟨.hbm, 280, rfl⟩
abbrev main_v178 : Ref sig .tc := ⟨.hbm, 281, rfl⟩
abbrev main_cst_60 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩

abbrev nD : Nat := 1
abbrev τ : Topo := Topo.v7x

variable {F : FTy → Type} [FloatOps F]
-- ==== Proj.lean ====
abbrev S8192x1024 : Shape := ⟨2, ![8192, 1024]⟩
abbrev S1024 : Shape := ⟨1, ![1024]⟩
abbrev S1024x2304 : Shape := ⟨2, ![1024, 2304]⟩
abbrev S2304 : Shape := ⟨1, ![2304]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S2304x1024 : Shape := ⟨2, ![2304, 1024]⟩
abbrev S512x1024 : Shape := ⟨2, ![512, 1024]⟩
abbrev S64x1024 : Shape := ⟨2, ![64, 1024]⟩
abbrev S1536x1024 : Shape := ⟨2, ![1536, 1024]⟩
abbrev S2560x1024 : Shape := ⟨2, ![2560, 1024]⟩
abbrev S1x2304 : Shape := ⟨2, ![1, 2304]⟩
abbrev S1x512 : Shape := ⟨2, ![1, 512]⟩
abbrev S1x64 : Shape := ⟨2, ![1, 64]⟩
abbrev S1x1536 : Shape := ⟨2, ![1, 1536]⟩
abbrev S1x2560 : Shape := ⟨2, ![1, 2560]⟩
abbrev S1x1024 : Shape := ⟨2, ![1, 1024]⟩
abbrev S8192x512 : Shape := ⟨2, ![8192, 512]⟩
abbrev S8192x256 : Shape := ⟨2, ![8192, 256]⟩
abbrev S2048x2048 : Shape := ⟨2, ![2048, 2048]⟩
abbrev S512x8192 : Shape := ⟨2, ![512, 8192]⟩
abbrev S512x128 : Shape := ⟨2, ![512, 128]⟩
abbrev S512x512 : Shape := ⟨2, ![512, 512]⟩
abbrev S512x256 : Shape := ⟨2, ![512, 256]⟩
abbrev S128x2048 : Shape := ⟨2, ![128, 2048]⟩
abbrev S32x8192 : Shape := ⟨2, ![32, 8192]⟩
abbrev S4x512x128 : Shape := ⟨3, ![4, 512, 128]⟩
abbrev S512 : Shape := ⟨1, ![512]⟩
abbrev S512x1 : Shape := ⟨2, ![512, 1]⟩
abbrev S256x1024 : Shape := ⟨2, ![256, 1024]⟩
abbrev S1x256 : Shape := ⟨2, ![1, 256]⟩
abbrev S1x512x128 : Shape := ⟨3, ![1, 512, 128]⟩
abbrev S128x128 : Shape := ⟨2, ![128, 128]⟩
abbrev S32x128 : Shape := ⟨2, ![32, 128]⟩

abbrev nBuf : Space → Nat
  | .hbm => 67
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S2304, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S1x8192x1x32, .f32⟩
  | .hbm, ⟨21, _⟩ => ⟨S1x8192x4x32, .f32⟩
  | .hbm, ⟨22, _⟩ => ⟨S8192x128, .f32⟩
  | .hbm, ⟨23, _⟩ => ⟨S8192x32, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S2304x1024, .f32⟩
  | .hbm, ⟨29, _⟩ => ⟨S2304x1024, .bf16⟩
  | .hbm, ⟨30, _⟩ => ⟨S512x1024, .bf16⟩
  | .hbm, ⟨31, _⟩ => ⟨S64x1024, .bf16⟩
  | .hbm, ⟨32, _⟩ => ⟨S64x1024, .bf16⟩
  | .hbm, ⟨33, _⟩ => ⟨S64x1024, .bf16⟩
  | .hbm, ⟨34, _⟩ => ⟨S64x1024, .bf16⟩
  | .hbm, ⟨35, _⟩ => ⟨S64x1024, .bf16⟩
  | .hbm, ⟨36, _⟩ => ⟨S64x1024, .bf16⟩
  | .hbm, ⟨37, _⟩ => ⟨S64x1024, .bf16⟩
  | .hbm, ⟨38, _⟩ => ⟨S64x1024, .bf16⟩
  | .hbm, ⟨39, _⟩ => ⟨S1536x1024, .bf16⟩
  | .hbm, ⟨40, _⟩ => ⟨S2560x1024, .bf16⟩
  | .hbm, ⟨41, _⟩ => ⟨S1x2304, .f32⟩
  | .hbm, ⟨42, _⟩ => ⟨S1x512, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x1536, .f32⟩
  | .hbm, ⟨52, _⟩ => ⟨S1x2560, .f32⟩
  | .hbm, ⟨53, _⟩ => ⟨S1x1024, .f32⟩
  | .hbm, ⟨54, _⟩ => ⟨S8192x1024, .bf16⟩
  | .hbm, ⟨55, _⟩ => ⟨S8192x512, .bf16⟩
  | .hbm, ⟨56, _⟩ => ⟨S8192x256, .bf16⟩
  | .hbm, ⟨57, _⟩ => ⟨S8192x256, .bf16⟩
  | .hbm, ⟨58, _⟩ => ⟨S8192x512, .bf16⟩
  | .hbm, ⟨59, _⟩ => ⟨S2048x2048, .bf16⟩
  | .hbm, ⟨60, _⟩ => ⟨S512x8192, .bf16⟩
  | .hbm, ⟨61, _⟩ => ⟨S8192x512, .bf16⟩
  | .hbm, ⟨62, _⟩ => ⟨S2048x2048, .bf16⟩
  | .hbm, ⟨63, _⟩ => ⟨S512x8192, .bf16⟩
  | .hbm, ⟨64, _⟩ => ⟨S8192x512, .bf16⟩
  | .hbm, ⟨65, _⟩ => ⟨S2048x2048, .bf16⟩
  | .hbm, ⟨66, _⟩ => ⟨S512x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S1x2560, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x512, .bf16⟩
  | .local _ .vmem, ⟨12, _⟩ => ⟨S512x512, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x512, .bf16⟩
  | .local _ .vmem, ⟨18, _⟩ => ⟨S512x512, .bf16⟩
  | .local _ .vmem, ⟨19, _⟩ => ⟨S128x2048, .bf16⟩
  | .local _ .vmem, ⟨20, _⟩ => ⟨S128x2048, .bf16⟩
  | .local _ .vmem, ⟨21, _⟩ => ⟨S32x8192, .bf16⟩
  | .local _ .vmem, ⟨22, _⟩ => ⟨S32x8192, .bf16⟩
  | .local _ .vmem, ⟨23, _⟩ => ⟨S512x512, .bf16⟩
  | .local _ .vmem, ⟨24, _⟩ => ⟨S512x512, .bf16⟩
  | .local _ .vmem, ⟨25, _⟩ => ⟨S128x2048, .bf16⟩
  | .local _ .vmem, ⟨26, _⟩ => ⟨S128x2048, .bf16⟩
  | .local _ .vmem, ⟨27, _⟩ => ⟨S32x8192, .bf16⟩
  | .local _ .vmem, ⟨28, _⟩ => ⟨S32x8192, .bf16⟩
  | .local _ .vmem, ⟨29, _⟩ => ⟨S512x512, .bf16⟩
  | .local _ .vmem, ⟨30, _⟩ => ⟨S512x512, .bf16⟩
  | .local _ .vmem, ⟨31, _⟩ => ⟨S128x2048, .bf16⟩
  | .local _ .vmem, ⟨32, _⟩ => ⟨S128x2048, .bf16⟩
  | .local _ .vmem, ⟨33, _⟩ => ⟨S32x8192, .bf16⟩
  | .local _ .vmem, ⟨34, _⟩ => ⟨S32x8192, .bf16⟩
  | .local _ .vmem, ⟨35, _⟩ => ⟨S4x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48_0 : Ref sig .tc := ⟨.hbm, 54, rfl⟩
abbrev main_v48_1 : Ref sig .tc := ⟨.hbm, 55, rfl⟩
abbrev main_v48_2 : Ref sig .tc := ⟨.hbm, 56, rfl⟩
abbrev main_v48_3 : Ref sig .tc := ⟨.hbm, 57, rfl⟩
abbrev main_v48_4 : Ref sig .tc := ⟨.hbm, 58, rfl⟩
abbrev main_v48_5 : Ref sig .tc := ⟨.hbm, 59, rfl⟩
abbrev main_v48_6 : Ref sig .tc := ⟨.hbm, 60, rfl⟩
abbrev main_v48_7 : Ref sig .tc := ⟨.hbm, 61, rfl⟩
abbrev main_v48_8 : Ref sig .tc := ⟨.hbm, 62, rfl⟩
abbrev main_v48_9 : Ref sig .tc := ⟨.hbm, 63, rfl⟩
abbrev main_v48_10 : Ref sig .tc := ⟨.hbm, 64, rfl⟩
abbrev main_v48_11 : Ref sig .tc := ⟨.hbm, 65, rfl⟩
abbrev main_v48_12 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x8192 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x8192 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ProjRefIdeal.lean ====
abbrev S8192x1024 : Shape := ⟨2, ![8192, 1024]⟩
abbrev S1024 : Shape := ⟨1, ![1024]⟩
abbrev S1024x2304 : Shape := ⟨2, ![1024, 2304]⟩
abbrev S2304 : Shape := ⟨1, ![2304]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩
abbrev S1x2304 : Shape := ⟨2, ![1, 2304]⟩
abbrev S8192x512 : Shape := ⟨2, ![8192, 512]⟩
abbrev S8192x128 : Shape := ⟨2, ![8192, 128]⟩
abbrev S8192x8x64 : Shape := ⟨3, ![8192, 8, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩
abbrev S8192x2x64 : Shape := ⟨3, ![8192, 2, 64]⟩
abbrev S8192x2x32 : Shape := ⟨3, ![8192, 2, 32]⟩
abbrev S8192x2x2x64 : Shape := ⟨4, ![8192, 2, 2, 64]⟩
abbrev S8192x4x64 : Shape := ⟨3, ![8192, 4, 64]⟩
abbrev S8192x256 : Shape := ⟨2, ![8192, 256]⟩
abbrev S2048x2048 : Shape := ⟨2, ![2048, 2048]⟩
abbrev S512x8192 : Shape := ⟨2, ![512, 8192]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S2304, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2304, .f32⟩
  | .hbm, ⟨21, _⟩ => ⟨S1x2304, .f32⟩
  | .hbm, ⟨22, _⟩ => ⟨S8192x2304, .f32⟩
  | .hbm, ⟨23, _⟩ => ⟨S8192x2304, .f32⟩
  | .hbm, ⟨24, _⟩ => ⟨S8192x512, .f32⟩
  | .hbm, ⟨25, _⟩ => ⟨S8192x128, .f32⟩
  | .hbm, ⟨26, _⟩ => ⟨S8192x128, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x8x64, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S8192, .f32⟩
  | .hbm, ⟨40, _⟩ => ⟨S8192x1, .f32⟩
  | .hbm, ⟨41, _⟩ => ⟨S1x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x1x32, .f32⟩
  | .hbm, ⟨47, _⟩ => ⟨S8192x32, .f32⟩
  | .hbm, ⟨48, _⟩ => ⟨S8192x1x32, .f32⟩
  | .hbm, ⟨49, _⟩ => ⟨S8192x8x32, .f32⟩
  | .hbm, ⟨50, _⟩ => ⟨S8192x8x32, .f32⟩
  | .hbm, ⟨51, _⟩ => ⟨S8192x8x32, .f32⟩
  | .hbm, ⟨52, _⟩ => ⟨S8192x8x32, .f32⟩
  | .hbm, ⟨53, _⟩ => ⟨S8192x8x32, .f32⟩
  | .hbm, ⟨54, _⟩ => ⟨S8192x8x32, .f32⟩
  | .hbm, ⟨55, _⟩ => ⟨S8192x8x32, .f32⟩
  | .hbm, ⟨56, _⟩ => ⟨S8192x8x32, .f32⟩
  | .hbm, ⟨57, _⟩ => ⟨S8192x8x32, .f32⟩
  | .hbm, ⟨58, _⟩ => ⟨S8192x8x32, .f32⟩
  | .hbm, ⟨59, _⟩ => ⟨S8192x8x32, .f32⟩
  | .hbm, ⟨60, _⟩ => ⟨S8192x8x32, .f32⟩
  | .hbm, ⟨61, _⟩ => ⟨S8192x8x64, .f32⟩
  | .hbm, ⟨62, _⟩ => ⟨S_, .f32⟩
  | .hbm, ⟨63, _⟩ => ⟨S8192x8x64, .f32⟩
  | .hbm, ⟨64, _⟩ => ⟨S8192x8x64, .f32⟩
  | .hbm, ⟨65, _⟩ => ⟨S8192x2x64, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S8192, .f32⟩
  | .hbm, ⟨75, _⟩ => ⟨S8192x1, .f32⟩
  | .hbm, ⟨76, _⟩ => ⟨S1x32, .f32⟩
  | .hbm, ⟨77, _⟩ => ⟨S8192x32, .f32⟩
  | .hbm, ⟨78, _⟩ => ⟨S8192x32, .f32⟩
  | .hbm, ⟨79, _⟩ => ⟨S8192x32, .f32⟩
  | .hbm, ⟨80, _⟩ => ⟨S8192x32, .f32⟩
  | .hbm, ⟨81, _⟩ => ⟨S8192x1x32, .f32⟩
  | .hbm, ⟨82, _⟩ => ⟨S8192x32, .f32⟩
  | .hbm, ⟨83, _⟩ => ⟨S8192x1x32, .f32⟩
  | .hbm, ⟨84, _⟩ => ⟨S8192x2x32, .f32⟩
  | .hbm, ⟨85, _⟩ => ⟨S8192x2x32, .f32⟩
  | .hbm, ⟨86, _⟩ => ⟨S8192x2x32, .f32⟩
  | .hbm, ⟨87, _⟩ => ⟨S8192x2x32, .f32⟩
  | .hbm, ⟨88, _⟩ => ⟨S8192x2x32, .f32⟩
  | .hbm, ⟨89, _⟩ => ⟨S8192x2x32, .f32⟩
  | .hbm, ⟨90, _⟩ => ⟨S8192x2x32, .f32⟩
  | .hbm, ⟨91, _⟩ => ⟨S8192x2x32, .f32⟩
  | .hbm, ⟨92, _⟩ => ⟨S8192x2x32, .f32⟩
  | .hbm, ⟨93, _⟩ => ⟨S8192x2x32, .f32⟩
  | .hbm, ⟨94, _⟩ => ⟨S8192x2x32, .f32⟩
  | .hbm, ⟨95, _⟩ => ⟨S8192x2x32, .f32⟩
  | .hbm, ⟨96, _⟩ => ⟨S8192x2x64, .f32⟩
  | .hbm, ⟨97, _⟩ => ⟨S_, .f32⟩
  | .hbm, ⟨98, _⟩ => ⟨S8192x512, .f32⟩
  | .hbm, ⟨99, _⟩ => ⟨S8192x512, .f32⟩
  | .hbm, ⟨100, _⟩ => ⟨S8192x2x2x64, .f32⟩
  | .hbm, ⟨101, _⟩ => ⟨S8192x4x64, .f32⟩
  | .hbm, ⟨102, _⟩ => ⟨S8192x256, .f32⟩
  | .hbm, ⟨103, _⟩ => ⟨S8192x256, .bf16⟩
  | .hbm, ⟨104, _⟩ => ⟨S8192x2x64, .f32⟩
  | .hbm, ⟨105, _⟩ => ⟨S8192x2x2x64, .f32⟩
  | .hbm, ⟨106, _⟩ => ⟨S8192x4x64, .f32⟩
  | .hbm, ⟨107, _⟩ => ⟨S8192x256, .f32⟩
  | .hbm, ⟨108, _⟩ => ⟨S8192x256, .bf16⟩
  | .hbm, ⟨109, _⟩ => ⟨S8192x512, .bf16⟩
  | .hbm, ⟨110, _⟩ => ⟨S8192x512, .bf16⟩
  | .hbm, ⟨111, _⟩ => ⟨S2048x2048, .bf16⟩
  | .hbm, ⟨112, _⟩ => ⟨S8192x512, .bf16⟩
  | .hbm, ⟨113, _⟩ => ⟨S512x8192, .bf16⟩
  | .hbm, ⟨114, _⟩ => ⟨S8192x512, .bf16⟩
  | .hbm, ⟨115, _⟩ => ⟨S8192x512, .bf16⟩
  | .hbm, ⟨116, _⟩ => ⟨S2048x2048, .bf16⟩
  | .hbm, ⟨117, _⟩ => ⟨S8192x512, .bf16⟩
  | .hbm, ⟨118, _⟩ => ⟨S512x8192, .bf16⟩
  | .hbm, ⟨119, _⟩ => ⟨S8192x512, .bf16⟩
  | .hbm, ⟨120, _⟩ => ⟨S8192x512, .bf16⟩
  | .hbm, ⟨121, _⟩ => ⟨S2048x2048, .bf16⟩
  | .hbm, ⟨122, _⟩ => ⟨S8192x512, .bf16⟩
  | .hbm, ⟨123, _⟩ => ⟨S512x8192, .bf16⟩
  | .hbm, ⟨124, _⟩ => ⟨S8192x1024, .bf16⟩
  | .hbm, ⟨125, _⟩ => ⟨S8192x512, .f32⟩
  | .hbm, ⟨126, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_cst_7 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩

abbrev nD : Nat := 1
abbrev τ : Topo := Topo.v7x

variable {F : FTy → Type} [FloatOps F]
-- ==== Proof.Lift.lean ====
/- How the extended reals' operations act on real numbers: what the value proofs use to move both programs'
   results, whose arguments the precondition makes real, onto the reals. -/
module

public import Idealize.ShloMosaic.Lib.Pointwise
public import Idealize.ShloMosaic.Lib.ReduceAll

@[expose] public section

noncomputable section

namespace Cert.Lift

open Idealize.ShloMosaic

/-- A real array as one of the extended reals. -/
def up {s : Shape} (X : s.Idx → ℝ) (i : s.Idx) : EReal := ((X i : ℝ) : EReal)

theorem ix2_self {a b : ℕ} (y : (⟨2, ![a, b]⟩ : Shape).Idx) : y = ix2 (y 0) (y 1) := by
  funext k
  match k with
  | ⟨0, _⟩ => rfl
  | ⟨1, _⟩ => rfl

theorem sum_coe {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A sum over `k` blocks of `b` indices each is the sum over all of them. -/
theorem sum_blocks {M : Type} [AddCommMonoid M] (k b : ℕ) (f : ℕ → M) : ∑ s ∈ Finset.range k, ∑ i : Fin b, f (b * s + i.val) = ∑ n ∈ Finset.range (b * k), f n := by
  induction k with
  | zero => simp
  | succ k ih => rw [Finset.sum_range_succ, ih, Nat.mul_succ, Finset.sum_range_add, Finset.sum_range fun i => f (b * k + i)]

theorem div_coe {x y : ℝ} (h : y ≠ 0) : Ideal.div (x : EReal) (y : EReal) = ((x / y : ℝ) : EReal) := by
  rw [Ideal.div_coe h, ← EReal.coe_mul, mul_one_div]

theorem rsqrt_coe {x : ℝ} (h : 0 < x) : Ideal.rsqrt (x : EReal) = (((Real.sqrt x)⁻¹ : ℝ) : EReal) := by
  rw [Ideal.rsqrt_coe, if_neg h.le.not_gt, if_neg h.ne']

theorem log_coe {x : ℝ} (h : 0 < x) : Ideal.log (x : EReal) = ((Real.log x : ℝ) : EReal) := by
  rw [Ideal.log_coe, if_neg h.not_ge]

/-- A word that compares above `-inf` and below `+inf` denotes a real number. -/
theorem exists_real_of_cmp {x : EReal}
    (h : IntOp.andi (Ideal.cmp .ogt x (Ideal.ofBits .f32 0xFF800000#32)) (Ideal.cmp .olt x (Ideal.ofBits .f32 0x7F800000#32)) = 1#1) :
    ∃ r : ℝ, x = (r : EReal) := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  induction x using EReal.rec with
  | bot => simp [Ideal.cmp, IntOp.andi] at h
  | top => simp [Ideal.cmp, IntOp.andi] at h
  | coe r => exact ⟨r, rfl⟩

/-- An array all of whose words the printed test finds finite is an array of real numbers. -/
theorem exists_real_of_all {s t u : Shape} {axes : List (Fin s.rank)} [Subsingleton t.Idx]
    (x : FVec Ideal s .f32) (lo hi : FVec Ideal s .f32)
    (hlo : ∀ i, lo i = Ideal.ofBits .f32 0xFF800000#32) (hhi : ∀ i, hi i = Ideal.ofBits .f32 0x7F800000#32)
    (init : IVec u 1) (h : s.ReducesTo axes t) (hu : 0 < u.numel) (j : t.Idx)
    (e : Host.reduce IntOp.andi (andi (cmpf .ogt x lo) (cmpf .olt x hi)) init h hu j = 1#1) :
    ∃ X : s.Idx → ℝ, x = fun i => ((X i : ℝ) : EReal) := by
  have H : ∀ i, ∃ r : ℝ, x i = (r : EReal) := fun i => by
    have e' := Host.reduce_andi_all _ init h hu j e i
    refine exists_real_of_cmp (x := x i) ?_
    rw [← hlo i, ← hhi i]; exact e'
  choose X hX using H
  exact ⟨X, funext hX⟩

/-! ## The constants the programs spell -/

theorem c_1024 : Ideal.ofBits .f32 0x44800000#32 = ((1024 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_inv2048 : Ideal.ofBits .f32 0x3A000000#32 = ((1 / 2048 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_negHalf : Ideal.ofBits .f32 0xBF000000#32 = ((-(1 / 2) : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_eighth : Ideal.ofBits .f32 0x3E000000#32 = ((1 / 8 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_zero : Ideal.ofBits .f32 0x00000000#32 = ((0 : ℝ) : EReal) := by
  simp [Ideal.ofBits, Ideal.ieee]
theorem c_bot : Ideal.ofBits .f32 0xFF800000#32 = ⊥ := by simp [Ideal.ofBits, Ideal.ieee]

/-- The norms' small constant. -/
def eps : ℝ := 10995116 / 2 ^ 40
theorem c_eps : Ideal.ofBits .f32 0x3727C5AC#32 = ((eps : ℝ) : EReal) := by
  simp [Ideal.ofBits, Ideal.ieee, eps, -EReal.coe_mul]; norm_num
theorem eps_pos : 0 < eps := by norm_num [eps]

end Cert.Lift

end
-- ==== Proof.LossRow.lean ====
/- The loss head over the reals: the residual row after the down projection, its RMS norm, the squared error, and the
   gradients by the row and by the norm's gain, in the form both programs are brought to. -/
module

public import proofs.«01_k».proof.Proof.Lift

@[expose] public section

noncomputable section

namespace Cert.LossRow

open Idealize.ShloMosaic Cert.Lift

/-- A row's mean square plus the norm's small constant. -/
def v (z : Fin 1024 → ℝ) : ℝ := (∑ d, z d * z d) / 1024 + eps

/-- The row's reciprocal root mean square. -/
def r (z : Fin 1024 → ℝ) : ℝ := (Real.sqrt (v z))⁻¹

/-- The normed row less its target. -/
def diff (z g t : Fin 1024 → ℝ) (d : Fin 1024) : ℝ := z d * r z * g d - t d

/-- The row's sum of squared errors. -/
def sq (z g t : Fin 1024 → ℝ) : ℝ := ∑ d, diff z g t d * diff z g t d

/-- The row's term of the gradient by the gain. -/
def dg (z g t : Fin 1024 → ℝ) (d : Fin 1024) : ℝ := diff z g t d * (1 / 1024) * (z d * r z)

/-- The gradient by the row. -/
def dx (z g t : Fin 1024 → ℝ) (d : Fin 1024) : ℝ :=
  r z * (diff z g t d * (1 / 1024) * g d - z d * r z * ((∑ e, diff z g t e * (1 / 1024) * g e * (z e * r z)) / 1024))

theorem v_pos (z : Fin 1024 → ℝ) : 0 < v z :=
  add_pos_of_nonneg_of_pos (div_nonneg (Finset.sum_nonneg fun d _ => mul_self_nonneg _) (by norm_num)) eps_pos

theorem r_div_v (z : Fin 1024 → ℝ) : r z / v z = r z * r z * r z := by
  have h : r z * r z = (v z)⁻¹ := by
    unfold r; rw [← mul_inv, Real.mul_self_sqrt (v_pos z).le]
  rw [h, div_eq_mul_inv, mul_comm]

/-- The gradient by the row as the derivative of the forward lines leaves it. -/
theorem dx_of_parts (z g t : Fin 1024 → ℝ) (d : Fin 1024) (s : ℝ)
    (hs : s = (∑ e, z e * (1 / 2 * 1 / 1024 * (2 * diff z g t e) * g e)) * (-(1 / 2) * (r z / v z)) / 1024) :
    1 / 2 * 1 / 1024 * (2 * diff z g t d) * g d * r z + z d * s + s * z d = dx z g t d := by
  have e1 : (∑ e, z e * (1 / 2 * 1 / 1024 * (2 * diff z g t e) * g e)) = ∑ e, diff z g t e * (1 / 1024) * g e * z e :=
    Finset.sum_congr rfl fun e _ => by ring
  have e2 : (∑ e, diff z g t e * (1 / 1024) * g e * (z e * r z)) = (∑ e, diff z g t e * (1 / 1024) * g e * z e) * r z := by
    rw [Finset.sum_mul]; exact Finset.sum_congr rfl fun e _ => by ring
  rw [hs, e1, r_div_v]
  unfold dx
  rw [e2]
  ring

end Cert.LossRow

end
-- ==== Proof.LossBlock.lean ====
/- What one grid point of the loss head's kernel leaves in its output blocks, at real arguments: each of the four row
   chunks' payloads in the form of Proof/LossRow.lean, and the pieces of a case read as one function of the block. -/
module

public import Idealize.ShloMosaic.Lib.Pipeline.ValueKit.Tiles
public import proofs.«01_k».proof.Proof.LossRow
public import proofs.«01_k».proof.Proof.Gen.LossIdeal.Value

@[expose] public section

noncomputable section

namespace Cert.LossBlock

open Idealize.ShloMosaic Idealize.ShloMosaic.TcCoe Cert.LossIdeal Cert.LossIdeal.Gen Cert.Lift

/-! ## One chunk of 256 rows -/

section chunk

variable (V7 : S256x1024.Idx → ℝ) (V8 : S256x2816.Idx → ℝ) (V10 : S2816x1024.Idx → ℝ) (V4 : S1x1024.Idx → ℝ) (V26 : S256x1024.Idx → ℝ)

/-- Row `i` of the chunk's residual stream after the down projection; the gain; the row's targets. -/
def zc (i : Fin 256) (d : Fin 1024) : ℝ := V7 (ix2 i d) + ∑ k : Fin 2816, V8 (ix2 i k) * V10 (ix2 k d)
def gc (d : Fin 1024) : ℝ := V4 (ix2 0 d)
def tc (i : Fin 256) (d : Fin 1024) : ℝ := V26 (ix2 i d)

variable (i : Fin 256) (d : Fin 1024)

theorem p37 : k0_pay37 (F := Ideal) (up V7) (k0_pay36 (up V8)) (up V10) (ix2 i d) = ((zc V7 V8 V10 i d : ℝ) : EReal) := by
  unfold k0_pay37 k0_pay36
  pointwise
  simp only [up, ← EReal.coe_mul, sum_coe, ← EReal.coe_add]
  rfl

theorem p38 (k : Fin 1) : k0_pay38 (F := Ideal) (up V7) (k0_pay36 (up V8)) (up V10) (ix2 i k) = ((LossRow.r (zc V7 V8 V10 i) : ℝ) : EReal) := by
  unfold k0_pay38
  pointwise
  simp only [p37, c_1024, c_eps, ← EReal.coe_mul, sum_coe, ← EReal.coe_add, div_coe (by norm_num : (1024 : ℝ) ≠ 0)]
  exact rsqrt_coe (LossRow.v_pos _)

theorem p39 : k0_pay39 (F := Ideal) (up V7) (k0_pay36 (up V8)) (up V10) (ix2 i d) = ((zc V7 V8 V10 i d * LossRow.r (zc V7 V8 V10 i) : ℝ) : EReal) := by
  unfold k0_pay39
  pointwise
  simp only [p37, p38, ← EReal.coe_mul]

theorem p40 : k0_pay40 (F := Ideal) (up V4) (up V7) (k0_pay36 (up V8)) (up V10) (up V26) (ix2 i d)
    = ((LossRow.diff (zc V7 V8 V10 i) (gc V4) (tc V26 i) d : ℝ) : EReal) := by
  unfold k0_pay40
  pointwise
  simp only [up, p39, ← EReal.coe_mul, ← EReal.coe_sub]
  rfl

theorem p42 : k0_pay42 (F := Ideal) (up V4) (up V7) (k0_pay36 (up V8)) (up V10) (up V26) (ix2 i d)
    = ((LossRow.diff (zc V7 V8 V10 i) (gc V4) (tc V26 i) d * (1 / 1024) : ℝ) : EReal) := by
  unfold k0_pay42
  pointwise
  simp only [p40, c_inv1024, ← EReal.coe_mul]

theorem p44 : k0_pay44 (F := Ideal) (up V4) (up V7) (k0_pay36 (up V8)) (up V10) (up V26) (ix2 i d)
    = ((LossRow.dx (zc V7 V8 V10 i) (gc V4) (tc V26 i) d : ℝ) : EReal) := by
  unfold k0_pay44
  pointwise
  simp only [up, p38, p39, p42, c_1024, ← EReal.coe_mul, sum_coe, ← EReal.coe_sub, div_coe (by norm_num : (1024 : ℝ) ≠ 0)]
  rfl

theorem p45 : k0_pay45 (F := Ideal) (up V4) (up V7) (k0_pay36 (up V8)) (up V10) (up V26) (ix2 i d)
    = ((LossRow.dx (zc V7 V8 V10 i) (gc V4) (tc V26 i) d : ℝ) : EReal) := by
  unfold k0_pay45
  exact p44 V7 V8 V10 V4 V26 i d

theorem p41 (u : ℝ) (q : FVec Ideal S1x1 .f32) (hq : q = fun _ => ((u : ℝ) : EReal)) :
    k0_pay41 (F := Ideal) (up V4) q (up V7) (k0_pay36 (up V8)) (up V10) (up V26)
    = fun _ => ((u + ∑ i, LossRow.sq (zc V7 V8 V10 i) (gc V4) (tc V26 i) : ℝ) : EReal) := by
  funext j
  unfold k0_pay41
  pointwise
  simp only [hq, p40, ← EReal.coe_mul, sum_coe, ← EReal.coe_add]
  rfl

theorem p43 (u : Fin 1024 → ℝ) (q : FVec Ideal S1x1024 .f32) (hq : q = fun j => ((u (j 1) : ℝ) : EReal)) :
    k0_pay43 (F := Ideal) (up V4) q (up V7) (k0_pay36 (up V8)) (up V10) (up V26)
    = fun j => ((u (j 1) + ∑ i, LossRow.dg (zc V7 V8 V10 i) (gc V4) (tc V26 i) (j 1) : ℝ) : EReal) := by
  funext j
  unfold k0_pay43
  pointwise
  refine (congrArg₂ (· + ·) (congrFun hq j) (Finset.sum_congr rfl fun x _ => congrArg₂ (· * ·) (p42 V7 V8 V10 V4 V26 x (j 1)) (p39 V7 V8 V10 x (j 1)))).trans ?_
  simp only [← EReal.coe_mul, sum_coe, ← EReal.coe_add, LossRow.dg]

end chunk

/-! ## The block of 1024 rows -/

theorem hz : (![0, 0] : Fin 2 → Nat) = fun _ => 0 := funext fun a => by fin_cases a <;> rfl

section block

variable (X0 : S1024x2816.Idx → ℝ) (X1 : S2816x1024.Idx → ℝ) (X2 X3 : S1024x1024.Idx → ℝ) (X4 : S1x1024.Idx → ℝ)

/-- Row `n` of the block's residual stream after the down projection, and its targets. -/
def zb (n : Fin 1024) (d : Fin 1024) : ℝ := X2 (ix2 n d) + ∑ k : Fin 2816, X0 (ix2 n k) * X1 (ix2 k d)
def tb (n : Fin 1024) (d : Fin 1024) : ℝ := X3 (ix2 n d)

/-- The block's gradient by the row; its sums of squared errors and of the gain's gradient. -/
def dxb (y : S1024x1024.Idx) : ℝ := LossRow.dx (zb X0 X1 X2 (y 0)) (gc X4) (tb X3 (y 0)) (y 1)
def sqb (n : Fin 1024) : ℝ := LossRow.sq (zb X0 X1 X2 n) (gc X4) (tb X3 n)
def dgb (n : Fin 1024) (d : Fin 1024) : ℝ := LossRow.dg (zb X0 X1 X2 n) (gc X4) (tb X3 n) d

/-- Row `i` of the chunk that starts at row `o`. -/
def row (o : ℕ) (ho : o + 256 ≤ 1024) (i : Fin 256) : Fin 1024 := ⟨o + i.val, by omega⟩

section part
variable (o : ℕ) (ho : o + 256 ≤ 1024)
  (hA : ∀ a, (![o, 0] : Fin 2 → ℕ) a + S256x1024.size a ≤ S1024x1024.size a)
  (hB : ∀ a, (![o, 0] : Fin 2 → ℕ) a + S256x2816.size a ≤ S1024x2816.size a)

theorem idxA (i : Fin 256) (d : Fin 1024) : (Rect.unit (s := S1024x1024) ![o, 0] S256x1024.size hA).idx (ix2 i d) = ix2 (row o ho i) d := by
  funext a
  match a with
  | ⟨0, _⟩ => exact Fin.ext (Rect.idx_unit_val _ _ _ _ _)
  | ⟨1, _⟩ => exact Fin.ext ((Rect.idx_unit_val _ _ _ _ _).trans (Nat.zero_add _))

theorem idxB (i : Fin 256) (k : Fin 2816) : (Rect.unit (s := S1024x2816) ![o, 0] S256x2816.size hB).idx (ix2 i k) = ix2 (row o ho i) k := by
  funext a
  match a with
  | ⟨0, _⟩ => exact Fin.ext (Rect.idx_unit_val _ _ _ _ _)
  | ⟨1, _⟩ => exact Fin.ext ((Rect.idx_unit_val _ _ _ _ _).trans (Nat.zero_add _))

theorem zc_eq (i : Fin 256) : zc (fun x => X2 ((Rect.unit (s := S1024x1024) ![o, 0] S256x1024.size hA).idx x))
    (fun x => X0 ((Rect.unit (s := S1024x2816) ![o, 0] S256x2816.size hB).idx x)) X1 i = zb X0 X1 X2 (row o ho i) := by
  funext d
  unfold zc zb
  simp only [idxA o ho, idxB o ho]

theorem tc_eq (i : Fin 256) : tc (fun x => X3 ((Rect.unit (s := S1024x1024) ![o, 0] S256x1024.size hA).idx x)) i = tb X3 (row o ho i) := by
  funext d
  unfold tc tb
  show X3 _ = _
  rw [idxA o ho]

include ho in
theorem q44 (x : S256x1024.Idx) : k0_pay44 (F := Ideal) (up X4) (View.ld (Val := Elt Ideal) (e' := .f32) (up X2) (Rect.unit (s := S1024x1024) ![o, 0] S256x1024.size hA)) (k0_pay36 (View.ld (Val := Elt Ideal) (e' := .bf16) (up X0) (Rect.unit (s := S1024x2816) ![o, 0] S256x2816.size hB))) (up X1) (View.ld (Val := Elt Ideal) (e' := .f32) (up X3) (Rect.unit (s := S1024x1024) ![o, 0] S256x1024.size hA)) x
    = ((dxb X0 X1 X2 X3 X4 ((Rect.unit (s := S1024x1024) ![o, 0] S256x1024.size hA).idx x) : ℝ) : EReal) := by
  obtain ⟨i, d, rfl⟩ : ∃ i d, x = ix2 i d := ⟨x 0, x 1, by funext a; match a with | ⟨0, _⟩ => rfl | ⟨1, _⟩ => rfl⟩
  refine (p44 (fun x => X2 ((Rect.unit (s := S1024x1024) ![o, 0] S256x1024.size hA).idx x))
    (fun x => X0 ((Rect.unit (s := S1024x2816) ![o, 0] S256x2816.size hB).idx x)) X1 X4
    (fun x => X3 ((Rect.unit (s := S1024x1024) ![o, 0] S256x1024.size hA).idx x)) i d).trans ?_
  rw [zc_eq X0 X1 X2 o ho hA hB, tc_eq X3 o ho hA, idxA o ho]
  rfl

theorem q41 (u : ℝ) (q : FVec Ideal S1x1 .f32) (hq : q = fun _ => ((u : ℝ) : EReal)) :
    k0_pay41 (F := Ideal) (up X4) q (View.ld (Val := Elt Ideal) (e' := .f32) (up X2) (Rect.unit (s := S1024x1024) ![o, 0] S256x1024.size hA)) (k0_pay36 (View.ld (Val := Elt Ideal) (e' := .bf16) (up X0) (Rect.unit (s := S1024x2816) ![o, 0] S256x2816.size hB))) (up X1) (View.ld (Val := Elt Ideal) (e' := .f32) (up X3) (Rect.unit (s := S1024x1024) ![o, 0] S256x1024.size hA)) = fun _ => ((u + ∑ i, sqb X0 X1 X2 X3 X4 (row o ho i) : ℝ) : EReal) := by
  refine (p41 (fun x => X2 ((Rect.unit (s := S1024x1024) ![o, 0] S256x1024.size hA).idx x))
    (fun x => X0 ((Rect.unit (s := S1024x2816) ![o, 0] S256x2816.size hB).idx x)) X1 X4
    (fun x => X3 ((Rect.unit (s := S1024x1024) ![o, 0] S256x1024.size hA).idx x)) u q hq).trans ?_
  simp only [zc_eq X0 X1 X2 o ho hA hB, tc_eq X3 o ho hA]
  rfl

theorem q43 (u : Fin 1024 → ℝ) (q : FVec Ideal S1x1024 .f32) (hq : q = fun j => ((u (j 1) : ℝ) : EReal)) :
    k0_pay43 (F := Ideal) (up X4) q (View.ld (Val := Elt Ideal) (e' := .f32) (up X2) (Rect.unit (s := S1024x1024) ![o, 0] S256x1024.size hA)) (k0_pay36 (View.ld (Val := Elt Ideal) (e' := .bf16) (up X0) (Rect.unit (s := S1024x2816) ![o, 0] S256x2816.size hB))) (up X1) (View.ld (Val := Elt Ideal) (e' := .f32) (up X3) (Rect.unit (s := S1024x1024) ![o, 0] S256x1024.size hA)) = fun j => ((u (j 1) + ∑ i, dgb X0 X1 X2 X3 X4 (row o ho i) (j 1) : ℝ) : EReal) := by
  refine (p43 (fun x => X2 ((Rect.unit (s := S1024x1024) ![o, 0] S256x1024.size hA).idx x))
    (fun x => X0 ((Rect.unit (s := S1024x2816) ![o, 0] S256x2816.size hB).idx x)) X1 X4
    (fun x => X3 ((Rect.unit (s := S1024x1024) ![o, 0] S256x1024.size hA).idx x)) u q hq).trans ?_
  simp only [zc_eq X0 X1 X2 o ho hA hB, tc_eq X3 o ho hA]
  rfl

end part

/-- The sum over the block's rows is the sum over its four chunks. -/
theorem sum_rows (f : Fin 1024 → ℝ) :
    (∑ i, f (row 0 (by norm_num) i)) + (∑ i, f (row 256 (by norm_num) i)) + (∑ i, f (row 512 (by norm_num) i)) + (∑ i, f (row 768 (by norm_num) i))
    = ∑ n, f n := by
  have e := Fin.sum_univ_add (a := 256) (b := 768) f
  have e2 := Fin.sum_univ_add (a := 256) (b := 512) (fun i => f (Fin.natAdd 256 i : Fin (256 + 768)))
  have e3 := Fin.sum_univ_add (a := 256) (b := 256) (fun i => f (Fin.natAdd 256 (Fin.natAdd 256 i : Fin (256 + 512)) : Fin (256 + 768)))
  have c : ∀ (o : ℕ) (ho : o + 256 ≤ 1024) (i : Fin 256) (n : Fin 1024), n.val = o + i.val → f (row o ho i) = f n :=
    fun o ho i n h => congrArg f (Fin.ext h.symm)
  refine Eq.trans ?_ e.symm
  refine Eq.trans ?_ (congrArg _ (e2.trans (congrArg _ e3))).symm
  rw [← add_assoc, ← add_assoc]
  refine congrArg₂ (· + ·) (congrArg₂ (· + ·) (congrArg₂ (· + ·) ?_ ?_) ?_) ?_ <;>
    refine Finset.sum_congr rfl fun i _ => c _ _ i _ ?_
  · exact (Nat.zero_add _).symm
  · rfl
  · show 256 + (256 + i.val) = 512 + i.val; omega
  · show 256 + (256 + (256 + i.val)) = 768 + i.val; omega

end block

end Cert.LossBlock

end
-- ==== Proof.LossOut.lean ====
/- What one grid point of the loss head's kernel leaves in its four output blocks, as functions of the input blocks and, for the
   two accumulated ones, of what the point before left. -/
module

public import proofs.«01_k».proof.Proof.LossBlock

@[expose] public section

noncomputable section

namespace Cert.LossOut

open Idealize.ShloMosaic Idealize.ShloMosaic.TcCoe Idealize.SL.Sem
open Cert.LossIdeal Cert.LossIdeal.Gen Cert.Lift Cert.LossBlock

section terms

variable (x0 : Vec Ideal S1024x2816 .bf16) (x1 : Vec Ideal S2816x1024 .bf16) (x2 : Vec Ideal S1024x1024 .f32) (x3 : Vec Ideal S1024x1024 .f32)
  (x4 : Vec Ideal S1x1024 .f32)

/-- The sum of squared errors, chunk after chunk; the gain's gradient likewise. -/
def lossK : FVec Ideal S1x1 .f32 :=
  k0_pay41 x4 (k0_pay41 x4 (k0_pay41 x4 (k0_pay41 x4 (constant (F := Ideal) S1x1 .f32 0x00000000#32)
    (View.ld x2 (Rect.unit (s := S1024x1024) ![0, 0] S256x1024.size inb_S1024x1024_S256x1024_0_0)) (k0_pay36 (View.ld x0 (Rect.unit (s := S1024x2816) ![0, 0] S256x2816.size inb_S1024x2816_S256x2816_0_0))) x1
    (View.ld x3 (Rect.unit (s := S1024x1024) ![0, 0] S256x1024.size inb_S1024x1024_S256x1024_0_0)))
    (View.ld x2 (Rect.unit (s := S1024x1024) ![256, 0] S256x1024.size inb_S1024x1024_S256x1024_256_0)) (k0_pay36 (View.ld x0 (Rect.unit (s := S1024x2816) ![256, 0] S256x2816.size inb_S1024x2816_S256x2816_256_0))) x1
    (View.ld x3 (Rect.unit (s := S1024x1024) ![256, 0] S256x1024.size inb_S1024x1024_S256x1024_256_0)))
    (View.ld x2 (Rect.unit (s := S1024x1024) ![512, 0] S256x1024.size inb_S1024x1024_S256x1024_512_0)) (k0_pay36 (View.ld x0 (Rect.unit (s := S1024x2816) ![512, 0] S256x2816.size inb_S1024x2816_S256x2816_512_0))) x1
    (View.ld x3 (Rect.unit (s := S1024x1024) ![512, 0] S256x1024.size inb_S1024x1024_S256x1024_512_0)))
    (View.ld x2 (Rect.unit (s := S1024x1024) ![768, 0] S256x1024.size inb_S1024x1024_S256x1024_768_0)) (k0_pay36 (View.ld x0 (Rect.unit (s := S1024x2816) ![768, 0] S256x2816.size inb_S1024x2816_S256x2816_768_0))) x1
    (View.ld x3 (Rect.unit (s := S1024x1024) ![768, 0] S256x1024.size inb_S1024x1024_S256x1024_768_0))

def dgK : FVec Ideal S1x1024 .f32 :=
  k0_pay43 x4 (k0_pay43 x4 (k0_pay43 x4 (k0_pay43 x4 (k0_pay6)
    (View.ld x2 (Rect.unit (s := S1024x1024) ![0, 0] S256x1024.size inb_S1024x1024_S256x1024_0_0)) (k0_pay36 (View.ld x0 (Rect.unit (s := S1024x2816) ![0, 0] S256x2816.size inb_S1024x2816_S256x2816_0_0))) x1
    (View.ld x3 (Rect.unit (s := S1024x1024) ![0, 0] S256x1024.size inb_S1024x1024_S256x1024_0_0)))
    (View.ld x2 (Rect.unit (s := S1024x1024) ![256, 0] S256x1024.size inb_S1024x1024_S256x1024_256_0)) (k0_pay36 (View.ld x0 (Rect.unit (s := S1024x2816) ![256, 0] S256x2816.size inb_S1024x2816_S256x2816_256_0))) x1
    (View.ld x3 (Rect.unit (s := S1024x1024) ![256, 0] S256x1024.size inb_S1024x1024_S256x1024_256_0)))
    (View.ld x2 (Rect.unit (s := S1024x1024) ![512, 0] S256x1024.size inb_S1024x1024_S256x1024_512_0)) (k0_pay36 (View.ld x0 (Rect.unit (s := S1024x2816) ![512, 0] S256x2816.size inb_S1024x2816_S256x2816_512_0))) x1
    (View.ld x3 (Rect.unit (s := S1024x1024) ![512, 0] S256x1024.size inb_S1024x1024_S256x1024_512_0)))
    (View.ld x2 (Rect.unit (s := S1024x1024) ![768, 0] S256x1024.size inb_S1024x1024_S256x1024_768_0)) (k0_pay36 (View.ld x0 (Rect.unit (s := S1024x2816) ![768, 0] S256x2816.size inb_S1024x2816_S256x2816_768_0))) x1
    (View.ld x3 (Rect.unit (s := S1024x1024) ![768, 0] S256x1024.size inb_S1024x1024_S256x1024_768_0))

/-! The four chunks' payloads are one chain of operations each, cut at different places. -/

section cut
variable (g : FVec Ideal S1x1024 .f32) (a2 a3 : Vec Ideal S256x1024 .f32) (a0 : Vec Ideal S256x2816 .bf16) (l : FVec Ideal S1x1 .f32) (q : FVec Ideal S1x1024 .f32)

theorem gain_eq : k0_pay5 (F := Ideal) x4 = x4 := shapeCast_self _ _

theorem loss0 : k0_pay11 (F := Ideal) x4 a2 a0 x1 a3
    = k0_pay41 (k0_pay5 x4) (constant (F := Ideal) S1x1 .f32 0x00000000#32) a2 (k0_pay36 a0) x1 a3 := rfl
theorem loss1 : k0_pay21 (F := Ideal) l (k0_pay20 g a2 a0 x1 a3) = k0_pay41 g l a2 (k0_pay36 a0) x1 a3 := rfl
theorem loss2 : k0_pay31 (F := Ideal) g l (k0_pay26 a2 a0 x1) (k0_pay27 a2 a0 x1) a3 = k0_pay41 g l a2 (k0_pay36 a0) x1 a3 := rfl
theorem dg0 : k0_pay14 (F := Ideal) q (k0_pay13 x4 a2 a0 x1 a3) = k0_pay43 (k0_pay5 x4) q a2 (k0_pay36 a0) x1 a3 := rfl
theorem dg1 : k0_pay23 (F := Ideal) q (k0_pay19 a2 a0 x1) (k0_pay20 g a2 a0 x1 a3) = k0_pay43 g q a2 (k0_pay36 a0) x1 a3 := rfl
theorem dg2 : k0_pay33 (F := Ideal) g q (k0_pay26 a2 a0 x1) (k0_pay27 a2 a0 x1) a3 = k0_pay43 g q a2 (k0_pay36 a0) x1 a3 := rfl
theorem dx0 : k0_pay15 (F := Ideal) (k0_pay5 x4) (k0_pay8 a2 a0 x1) (k0_pay9 a2 a0 x1) (k0_pay12 x4 a2 a0 x1 a3)
    = k0_pay44 (k0_pay5 x4) a2 (k0_pay36 a0) x1 a3 := rfl
theorem dx1 : k0_pay24 (F := Ideal) g (k0_pay18 a2 a0 x1) (k0_pay19 a2 a0 x1) (k0_pay20 g a2 a0 x1 a3) = k0_pay44 g a2 (k0_pay36 a0) x1 a3 := rfl
theorem dx2 : k0_pay34 (F := Ideal) g (k0_pay26 a2 a0 x1) (k0_pay27 a2 a0 x1) a3 = k0_pay44 g a2 (k0_pay36 a0) x1 a3 := rfl
theorem dxb0 : k0_pay16 (F := Ideal) (k0_pay5 x4) (k0_pay8 a2 a0 x1) (k0_pay9 a2 a0 x1) (k0_pay12 x4 a2 a0 x1 a3)
    = k0_pay44 (k0_pay5 x4) a2 (k0_pay36 a0) x1 a3 := rfl
theorem dxb1 : k0_pay25 (F := Ideal) g (k0_pay18 a2 a0 x1) (k0_pay19 a2 a0 x1) (k0_pay20 g a2 a0 x1 a3) = k0_pay44 g a2 (k0_pay36 a0) x1 a3 := rfl
theorem dxb2 : k0_pay35 (F := Ideal) g (k0_pay26 a2 a0 x1) (k0_pay27 a2 a0 x1) a3 = k0_pay44 g a2 (k0_pay36 a0) x1 a3 := rfl
end cut

end terms

section values

variable (X0 : S1024x2816.Idx → ℝ) (X1 : S2816x1024.Idx → ℝ) (X2 X3 : S1024x1024.Idx → ℝ) (X4 : S1x1024.Idx → ℝ)

theorem dgK_up : dgK (up X0) (up X1) (up X2) (up X3) (up X4) = fun j => ((∑ n, dgb X0 X1 X2 X3 X4 n (j 1) : ℝ) : EReal) := by
  have e0 := q43 X0 X1 X2 X3 X4 0 (by norm_num) inb_S1024x1024_S256x1024_0_0 inb_S1024x2816_S256x2816_0_0 (fun _ => 0) (k0_pay6 (F := Ideal))
    (funext fun _ => c_zero)
  have e1 := q43 X0 X1 X2 X3 X4 256 (by norm_num) inb_S1024x1024_S256x1024_256_0 inb_S1024x2816_S256x2816_256_0
    (fun d => 0 + ∑ i, dgb X0 X1 X2 X3 X4 (row 0 (by norm_num) i) d) _ e0
  have e2 := q43 X0 X1 X2 X3 X4 512 (by norm_num) inb_S1024x1024_S256x1024_512_0 inb_S1024x2816_S256x2816_512_0
    (fun d => 0 + (∑ i, dgb X0 X1 X2 X3 X4 (row 0 (by norm_num) i) d) + ∑ i, dgb X0 X1 X2 X3 X4 (row 256 (by norm_num) i) d) _ e1
  refine (q43 X0 X1 X2 X3 X4 768 (by norm_num) inb_S1024x1024_S256x1024_768_0 inb_S1024x2816_S256x2816_768_0
    (fun d => 0 + (∑ i, dgb X0 X1 X2 X3 X4 (row 0 (by norm_num) i) d) + (∑ i, dgb X0 X1 X2 X3 X4 (row 256 (by norm_num) i) d)
      + ∑ i, dgb X0 X1 X2 X3 X4 (row 512 (by norm_num) i) d) _ e2).trans ?_
  exact funext fun j => congrArg (fun a : ℝ => (a : EReal)) (by rw [zero_add]; exact sum_rows fun n => dgb X0 X1 X2 X3 X4 n (j 1))

theorem lossK_up : lossK (up X0) (up X1) (up X2) (up X3) (up X4) = fun _ => ((∑ n, sqb X0 X1 X2 X3 X4 n : ℝ) : EReal) := by
  have e0 := q41 X0 X1 X2 X3 X4 0 (by norm_num) inb_S1024x1024_S256x1024_0_0 inb_S1024x2816_S256x2816_0_0 0
    (constant (F := Ideal) S1x1 .f32 0x00000000#32) (funext fun _ => c_zero)
  have e1 := q41 X0 X1 X2 X3 X4 256 (by norm_num) inb_S1024x1024_S256x1024_256_0 inb_S1024x2816_S256x2816_256_0 _ _ e0
  have e2 := q41 X0 X1 X2 X3 X4 512 (by norm_num) inb_S1024x1024_S256x1024_512_0 inb_S1024x2816_S256x2816_512_0 _ _ e1
  refine (q41 X0 X1 X2 X3 X4 768 (by norm_num) inb_S1024x1024_S256x1024_768_0 inb_S1024x2816_S256x2816_768_0 _ _ e2).trans ?_
  exact funext fun j => congrArg (fun a : ℝ => (a : EReal)) (by rw [zero_add]; exact sum_rows fun n => sqb X0 X1 X2 X3 X4 n)

/-- Four chunks of 256 rows that are the chunks of one array are that array. -/
theorem dx_pieces {e : EltTy} (p3 p2 p1 p0 : S256x1024.Idx → Elt Ideal e) (G : S1024x1024.Idx → Elt Ideal e)
    (h3 : ∀ x, p3 x = G ((Rect.unit (s := S1024x1024) ![768, 0] S256x1024.size inb_S1024x1024_S256x1024_768_0).idx x))
    (h2 : ∀ x, p2 x = G ((Rect.unit (s := S1024x1024) ![512, 0] S256x1024.size inb_S1024x1024_S256x1024_512_0).idx x))
    (h1 : ∀ x, p1 x = G ((Rect.unit (s := S1024x1024) ![256, 0] S256x1024.size inb_S1024x1024_S256x1024_256_0).idx x))
    (h0 : ∀ x, p0 x = G ((Rect.unit (s := S1024x1024) ![0, 0] S256x1024.size inb_S1024x1024_S256x1024_0_0).idx x)) :
    View.canon (Val := Elt Ideal) (s := S1024x1024) (e := e)
      [⟨Rect.unit (s := S1024x1024) ![768, 0] S256x1024.size inb_S1024x1024_S256x1024_768_0, p3⟩, ⟨Rect.unit (s := S1024x1024) ![512, 0] S256x1024.size inb_S1024x1024_S256x1024_512_0, p2⟩,
       ⟨Rect.unit (s := S1024x1024) ![256, 0] S256x1024.size inb_S1024x1024_S256x1024_256_0, p1⟩, ⟨Rect.unit (s := S1024x1024) ![0, 0] S256x1024.size inb_S1024x1024_S256x1024_0_0, p0⟩] = G := by
  funext y
  refine View.canon_apply_of_pieces G _ ?_ y ?_
  · intro p hp
    simp only [List.mem_cons, List.not_mem_nil, or_false] at hp
    rcases hp with rfl | rfl | rfl | rfl
    · exact h3
    · exact h2
    · exact h1
    · exact h0
  · exact View.cover_of_tiledL (s := S1024x1024) _ S256x1024.size (by sl_kernel_rfl) y

end values

section points

variable (c : Dev nD) (i : grid0.Coords) (arg1 : Memref sig .tc .vmem S1024x2816 .bf16) (harg1 : arg1.IsWhole) (arg2 : Memref sig .tc .vmem S2816x1024 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1x1 .f32) (harg8 : arg8.IsWhole) (arg9 : Memref sig .tc .vmem S1x1024 .f32) (harg9 : arg9.IsWhole)

theorem outA7 (hc : cond0_0 i) (x0 : Vec Ideal S1024x2816 .bf16) (x1 : Vec Ideal S2816x1024 .bf16) (x2 : Vec Ideal S1024x1024 .f32)
    (x3 : Vec Ideal S1024x1024 .f32) (x4 : Vec Ideal S1x1024 .f32) :
    out0_A_7 c i arg1 harg1 arg2 harg2 arg3 harg3 arg4 harg4 arg5 harg5 arg6 harg6 arg7 harg7 arg8 harg8 arg9 harg9 hc x0 x1 x2 x3 x4 = k0_pay1 (lossK x0 x1 x2 x3 x4) (k0_pay3 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 hc x0 x1 x2 x3 x4)]
  unfold kernelRun0_A
  dsimp only
  sl_unfold_words
  simp only [View.readAt_eq_ld, harg1.read_unread, harg2.read_unread, harg3.read_unread, harg4.read_unread, harg5.read_unread]
  rw [View.canon_cons_unit_zero (S := S1x1) hz, View.readCov_unit_zero (S := S1x1) _ hz]
  simp only [View.ld_unit_zero (S := S2816x1024) hz, View.ld_unit_zero (S := S1x1024) hz]
  simp only [loss0, loss1, loss2, dg0, dg1, dg2, gain_eq]
  rfl

theorem outA8 (hc : cond0_0 i) (x0 : Vec Ideal S1024x2816 .bf16) (x1 : Vec Ideal S2816x1024 .bf16) (x2 : Vec Ideal S1024x1024 .f32)
    (x3 : Vec Ideal S1024x1024 .f32) (x4 : Vec Ideal S1x1024 .f32) :
    out0_A_8 c i arg1 harg1 arg2 harg2 arg3 harg3 arg4 harg4 arg5 harg5 arg6 harg6 arg7 harg7 arg8 harg8 arg9 harg9 hc x0 x1 x2 x3 x4 = k0_pay2 (dgK x0 x1 x2 x3 x4) (k0_pay4 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc x0 x1 x2 x3 x4)]
  unfold kernelRun0_A
  dsimp only
  sl_unfold_words
  simp only [View.readAt_eq_ld, harg1.read_unread, harg2.read_unread, harg3.read_unread, harg4.read_unread, harg5.read_unread]
  rw [View.canon_cons_unit_zero (S := S1x1024) hz, View.readCov_unit_zero (S := S1x1024) _ hz]
  simp only [View.ld_unit_zero (S := S2816x1024) hz, View.ld_unit_zero (S := S1x1024) hz]
  simp only [loss0, loss1, loss2, dg0, dg1, dg2, gain_eq]
  rfl

theorem outA5 (hc : cond0_0 i) (x0 : Vec Ideal S1024x2816 .bf16) (x1 : Vec Ideal S2816x1024 .bf16) (x2 : Vec Ideal S1024x1024 .f32)
    (x3 : Vec Ideal S1024x1024 .f32) (x4 : Vec Ideal S1x1024 .f32)
    (X0 : S1024x2816.Idx → ℝ) (X1 : S2816x1024.Idx → ℝ) (X2 X3 : S1024x1024.Idx → ℝ)
    (X4 : S1x1024.Idx → ℝ) (h0 : x0 = up X0) (h1 : x1 = up X1) (h2 : x2 = up X2) (h3 : x3 = up X3) (h4 : x4 = up X4) :
    out0_A_5 c i arg1 harg1 arg2 harg2 arg3 harg3 arg4 harg4 arg5 harg5 arg6 harg6 arg7 harg7 arg8 harg8 arg9 harg9 hc x0 x1 x2 x3 x4 = up (dxb X0 X1 X2 X3 X4) := by
  unfold out0_A_5
  rw [View.read_writes_eq_canon _ _ _ (cover0_A_5 c i arg1 harg1 arg2 harg2 arg3 harg3 arg4 harg4 arg5 harg5 arg6 harg6 arg7 harg7 arg8 harg8 arg9 harg9 hc x0 x1 x2 x3 x4)]
  unfold kernelRun0_A
  dsimp only
  sl_unfold_words
  simp only [View.readAt_eq_ld, harg1.read_unread, harg2.read_unread, harg3.read_unread, harg4.read_unread, harg5.read_unread]
  simp only [View.ld_unit_zero (S := S2816x1024) hz, View.ld_unit_zero (S := S1x1024) hz]
  simp only [dx0, dx1, dx2]
  simp only [gain_eq]
  subst h0 h1 h2 h3 h4
  refine dx_pieces (e := .f32) _ _ _ _ (up (dxb X0 X1 X2 X3 X4)) ?_ ?_ ?_ ?_
  · exact fun x => q44 X0 X1 X2 X3 X4 768 (by norm_num) _ _ x
  · exact fun x => q44 X0 X1 X2 X3 X4 512 (by norm_num) _ _ x
  · exact fun x => q44 X0 X1 X2 X3 X4 256 (by norm_num) _ _ x
  · exact fun x => q44 X0 X1 X2 X3 X4 0 (by norm_num) _ _ x

theorem outA6 (hc : cond0_0 i) (x0 : Vec Ideal S1024x2816 .bf16) (x1 : Vec Ideal S2816x1024 .bf16) (x2 : Vec Ideal S1024x1024 .f32)
    (x3 : Vec Ideal S1024x1024 .f32) (x4 : Vec Ideal S1x1024 .f32)
    (X0 : S1024x2816.Idx → ℝ) (X1 : S2816x1024.Idx → ℝ) (X2 X3 : S1024x1024.Idx → ℝ)
    (X4 : S1x1024.Idx → ℝ) (h0 : x0 = up X0) (h1 : x1 = up X1) (h2 : x2 = up X2) (h3 : x3 = up X3) (h4 : x4 = up X4) :
    out0_A_6 c i arg1 harg1 arg2 harg2 arg3 harg3 arg4 harg4 arg5 harg5 arg6 harg6 arg7 harg7 arg8 harg8 arg9 harg9 hc x0 x1 x2 x3 x4 = up (dxb X0 X1 X2 X3 X4) := by
  unfold out0_A_6
  rw [View.read_writes_eq_canon _ _ _ (cover0_A_6 c i arg1 harg1 arg2 harg2 arg3 harg3 arg4 harg4 arg5 harg5 arg6 harg6 arg7 harg7 arg8 harg8 arg9 harg9 hc x0 x1 x2 x3 x4)]
  unfold kernelRun0_A
  dsimp only
  sl_unfold_words
  simp only [View.readAt_eq_ld, harg1.read_unread, harg2.read_unread, harg3.read_unread, harg4.read_unread, harg5.read_unread]
  simp only [View.ld_unit_zero (S := S2816x1024) hz, View.ld_unit_zero (S := S1x1024) hz]
  simp only [dxb0, dxb1, dxb2]
  simp only [gain_eq]
  subst h0 h1 h2 h3 h4
  refine dx_pieces (e := .bf16) _ _ _ _ (up (dxb X0 X1 X2 X3 X4)) ?_ ?_ ?_ ?_
  · exact fun x => q44 X0 X1 X2 X3 X4 768 (by norm_num) _ _ x
  · exact fun x => q44 X0 X1 X2 X3 X4 512 (by norm_num) _ _ x
  · exact fun x => q44 X0 X1 X2 X3 X4 256 (by norm_num) _ _ x
  · exact fun x => q44 X0 X1 X2 X3 X4 0 (by norm_num) _ _ x

theorem outB7 (hc : ¬cond0_0 i) (x0 : Vec Ideal S1024x2816 .bf16) (x1 : Vec Ideal S2816x1024 .bf16) (x2 : Vec Ideal S1024x1024 .f32)
    (x3 : Vec Ideal S1024x1024 .f32) (x4 : Vec Ideal S1x1024 .f32) (p7 : Vec Ideal S1x1 .f32) (p8 : Vec Ideal S1x1024 .f32) :
    out0_B_7 c i arg1 harg1 arg2 harg2 arg3 harg3 arg4 harg4 arg5 harg5 arg6 harg6 arg7 harg7 arg8 harg8 arg9 harg9 hc x0 x1 x2 x3 x4 p7 p8 = k0_pay1 (lossK x0 x1 x2 x3 x4) p7 := by
  unfold out0_B_7
  rw [View.read_writes_eq_canon _ _ _ (cover0_B_7 c i arg1 harg1 arg2 harg2 arg3 harg3 arg4 harg4 arg5 harg5 arg6 harg6 arg7 harg7 arg8 harg8 arg9 harg9 hc x0 x1 x2 x3 x4 p7 p8)]
  unfold kernelRun0_B
  dsimp only
  sl_unfold_words
  simp only [View.readAt_eq_ld, harg1.read_unread, harg2.read_unread, harg3.read_unread, harg4.read_unread, harg5.read_unread, harg8.read_unread, harg9.read_unread]
  rw [View.canon_unit_zero hz]
  simp only [View.ld_unit_zero (S := S2816x1024) hz, View.ld_unit_zero (S := S1x1024) hz, View.ld_unit_zero (S := S1x1) hz]
  simp only [loss0, loss1, loss2, dg0, dg1, dg2, gain_eq]
  rfl

theorem outB8 (hc : ¬cond0_0 i) (x0 : Vec Ideal S1024x2816 .bf16) (x1 : Vec Ideal S2816x1024 .bf16) (x2 : Vec Ideal S1024x1024 .f32)
    (x3 : Vec Ideal S1024x1024 .f32) (x4 : Vec Ideal S1x1024 .f32) (p7 : Vec Ideal S1x1 .f32) (p8 : Vec Ideal S1x1024 .f32) :
    out0_B_8 c i arg1 harg1 arg2 harg2 arg3 harg3 arg4 harg4 arg5 harg5 arg6 harg6 arg7 harg7 arg8 harg8 arg9 harg9 hc x0 x1 x2 x3 x4 p7 p8 = k0_pay2 (dgK x0 x1 x2 x3 x4) p8 := by
  unfold out0_B_8
  rw [View.read_writes_eq_canon _ _ _ (cover0_B_8 c i arg1 harg1 arg2 harg2 arg3 harg3 arg4 harg4 arg5 harg5 arg6 harg6 arg7 harg7 arg8 harg8 arg9 harg9 hc x0 x1 x2 x3 x4 p7 p8)]
  unfold kernelRun0_B
  dsimp only
  sl_unfold_words
  simp only [View.readAt_eq_ld, harg1.read_unread, harg2.read_unread, harg3.read_unread, harg4.read_unread, harg5.read_unread, harg8.read_unread, harg9.read_unread]
  rw [View.canon_unit_zero hz]
  simp only [View.ld_unit_zero (S := S2816x1024) hz, View.ld_unit_zero (S := S1x1024) hz, View.ld_unit_zero (S := S1x1) hz]
  simp only [loss0, loss1, loss2, dg0, dg1, dg2, gain_eq]
  rfl

theorem outB5 (hc : ¬cond0_0 i) (x0 : Vec Ideal S1024x2816 .bf16) (x1 : Vec Ideal S2816x1024 .bf16) (x2 : Vec Ideal S1024x1024 .f32)
    (x3 : Vec Ideal S1024x1024 .f32) (x4 : Vec Ideal S1x1024 .f32) (p7 : Vec Ideal S1x1 .f32) (p8 : Vec Ideal S1x1024 .f32)
    (X0 : S1024x2816.Idx → ℝ) (X1 : S2816x1024.Idx → ℝ) (X2 X3 : S1024x1024.Idx → ℝ)
    (X4 : S1x1024.Idx → ℝ) (h0 : x0 = up X0) (h1 : x1 = up X1) (h2 : x2 = up X2) (h3 : x3 = up X3) (h4 : x4 = up X4) :
    out0_B_5 c i arg1 harg1 arg2 harg2 arg3 harg3 arg4 harg4 arg5 harg5 arg6 harg6 arg7 harg7 arg8 harg8 arg9 harg9 hc x0 x1 x2 x3 x4 p7 p8 = up (dxb X0 X1 X2 X3 X4) := by
  unfold out0_B_5
  rw [View.read_writes_eq_canon _ _ _ (cover0_B_5 c i arg1 harg1 arg2 harg2 arg3 harg3 arg4 harg4 arg5 harg5 arg6 harg6 arg7 harg7 arg8 harg8 arg9 harg9 hc x0 x1 x2 x3 x4 p7 p8)]
  unfold kernelRun0_B
  dsimp only
  sl_unfold_words
  simp only [View.readAt_eq_ld, harg1.read_unread, harg2.read_unread, harg3.read_unread, harg4.read_unread, harg5.read_unread]
  simp only [View.ld_unit_zero (S := S2816x1024) hz, View.ld_unit_zero (S := S1x1024) hz]
  simp only [dx0, dx1, dx2]
  simp only [gain_eq]
  subst h0 h1 h2 h3 h4
  refine dx_pieces (e := .f32) _ _ _ _ (up (dxb X0 X1 X2 X3 X4)) ?_ ?_ ?_ ?_
  · exact fun x => q44 X0 X1 X2 X3 X4 768 (by norm_num) _ _ x
  · exact fun x => q44 X0 X1 X2 X3 X4 512 (by norm_num) _ _ x
  · exact fun x => q44 X0 X1 X2 X3 X4 256 (by norm_num) _ _ x
  · exact fun x => q44 X0 X1 X2 X3 X4 0 (by norm_num) _ _ x

theorem outB6 (hc : ¬cond0_0 i) (x0 : Vec Ideal S1024x2816 .bf16) (x1 : Vec Ideal S2816x1024 .bf16) (x2 : Vec Ideal S1024x1024 .f32)
    (x3 : Vec Ideal S1024x1024 .f32) (x4 : Vec Ideal S1x1024 .f32) (p7 : Vec Ideal S1x1 .f32) (p8 : Vec Ideal S1x1024 .f32)
    (X0 : S1024x2816.Idx → ℝ) (X1 : S2816x1024.Idx → ℝ) (X2 X3 : S1024x1024.Idx → ℝ)
    (X4 : S1x1024.Idx → ℝ) (h0 : x0 = up X0) (h1 : x1 = up X1) (h2 : x2 = up X2) (h3 : x3 = up X3) (h4 : x4 = up X4) :
    out0_B_6 c i arg1 harg1 arg2 harg2 arg3 harg3 arg4 harg4 arg5 harg5 arg6 harg6 arg7 harg7 arg8 harg8 arg9 harg9 hc x0 x1 x2 x3 x4 p7 p8 = up (dxb X0 X1 X2 X3 X4) := by
  unfold out0_B_6
  rw [View.read_writes_eq_canon _ _ _ (cover0_B_6 c i arg1 harg1 arg2 harg2 arg3 harg3 arg4 harg4 arg5 harg5 arg6 harg6 arg7 harg7 arg8 harg8 arg9 harg9 hc x0 x1 x2 x3 x4 p7 p8)]
  unfold kernelRun0_B
  dsimp only
  sl_unfold_words
  simp only [View.readAt_eq_ld, harg1.read_unread, harg2.read_unread, harg3.read_unread, harg4.read_unread, harg5.read_unread]
  simp only [View.ld_unit_zero (S := S2816x1024) hz, View.ld_unit_zero (S := S1x1024) hz]
  simp only [dxb0, dxb1, dxb2]
  simp only [gain_eq]
  subst h0 h1 h2 h3 h4
  refine dx_pieces (e := .bf16) _ _ _ _ (up (dxb X0 X1 X2 X3 X4)) ?_ ?_ ?_ ?_
  · exact fun x => q44 X0 X1 X2 X3 X4 768 (by norm_num) _ _ x
  · exact fun x => q44 X0 X1 X2 X3 X4 512 (by norm_num) _ _ x
  · exact fun x => q44 X0 X1 X2 X3 X4 256 (by norm_num) _ _ x
  · exact fun x => q44 X0 X1 X2 X3 X4 0 (by norm_num) _ _ x

end points

end Cert.LossOut

end
-- ==== Proof.LossRef.lean ====
/- The loss head's reference at real arguments: each of its four results in the form of Proof/LossRow.lean. -/
module

public import proofs.«01_k».proof.Proof.LossRow
public import proofs.«01_k».proof.Proof.Gen.LossRefIdeal.Read

@[expose] public section

noncomputable section

namespace Cert.LossRef

open Idealize.ShloMosaic Cert.LossRefIdeal Cert.LossRefIdeal.Gen Cert.LossRefIdeal.Read Cert.Lift

variable (X : S8192x1024.Idx → ℝ) (A : S8192x2816.Idx → ℝ) (W : S2816x1024.Idx → ℝ) (G : S1024.Idx → ℝ) (T : S8192x1024.Idx → ℝ)

/-- Row `n` of the residual stream after the down projection. -/
def z (n : Fin 8192) (d : Fin 1024) : ℝ := X (ix2 n d) + ∑ k : Fin 2816, A (ix2 n k) * W (ix2 k d)

/-- The gain and a row of targets. -/
def g (d : Fin 1024) : ℝ := G (ix1 d)
def t (n : Fin 8192) (d : Fin 1024) : ℝ := T (ix2 n d)

section idx
variable (n : Fin 8192) (d : Fin 1024)
theorem i_l0 (k : Fin 2816) : lidx_main_v0 (ix2 n d) k = ix2 n k := by funext a; match a with | ⟨0, _⟩ => rfl | ⟨1, _⟩ => rfl
theorem i_r0 (k : Fin 2816) : ridx_main_v0 (ix2 n d) k = ix2 k d := by funext a; match a with | ⟨0, _⟩ => rfl | ⟨1, _⟩ => rfl
theorem i_3 (k : Fin 1024) : idx_main_v3 (ix1 n) k = ix2 n k := by funext a; match a with | ⟨0, _⟩ => rfl | ⟨1, _⟩ => rfl
theorem i_22 (k : Fin 1024) : idx_main_v22 (ix1 n) k = ix2 n k := i_3 n k
theorem i_40 (k : Fin 1024) : idx_main_v40 (ix1 n) k = ix2 n k := i_3 n k
theorem i_4 (k : Fin 1) : idx_main_v4 (ix2 n k) = ix1 n := by funext a; match a with | ⟨0, _⟩ => rfl
theorem i_41 (k : Fin 1) : idx_main_v41 (ix2 n k) = ix1 n := by
  funext a; match a with | ⟨0, _⟩ => exact Fin.ext (by show n.val * 1 + k.val = n.val; omega)
theorem i_13 : idx_main_v13 (ix2 n d) = ix2 n 0 := by funext a; match a with | ⟨0, _⟩ => rfl | ⟨1, _⟩ => rfl
theorem i_42 : idx_main_v42 (ix2 n d) = ix2 n 0 := i_13 n d
theorem i_15 (k : Fin 1) : idx_main_v15 (ix2 k d) = ix1 d := by funext a; match a with | ⟨0, _⟩ => rfl
theorem i_16 : idx_main_v16 (ix2 n d) = ix2 0 d := by funext a; match a with | ⟨0, _⟩ => rfl | ⟨1, _⟩ => rfl
theorem i_36 : idx_main_v36 (ix2 n d) = ix2 0 d := i_16 n d
theorem i_34 : idx_main_v34 (ix1 d) n = ix2 n d := by funext a; match a with | ⟨0, _⟩ => rfl | ⟨1, _⟩ => rfl
theorem i_35 (k : Fin 1) : idx_main_v35 (ix2 k d) = ix1 d := by
  funext a; match a with | ⟨0, _⟩ => exact Fin.ext (by show k.val * 1024 + d.val = d.val; omega)
theorem i_55 (k : Fin 1) : idx_main_v55 (ix2 k d) = ix1 d := i_35 d k
theorem i_38 (k : Fin 1) : idx_main_v38 (ix1 d) k = ix2 k d := by funext a; match a with | ⟨0, _⟩ => rfl | ⟨1, _⟩ => rfl
theorem i_47 (k : Fin 1) : idx_main_v47 (ix1 n) k = ix2 n k := by funext a; match a with | ⟨0, _⟩ => rfl | ⟨1, _⟩ => rfl
theorem i_48 : idx_main_v48 (ix2 n d) = ix1 n := by funext a; match a with | ⟨0, _⟩ => rfl
end idx

section stages
variable (n : Fin 8192) (d : Fin 1024)

theorem s1 : val_main_v1 (F := Ideal) (up X) (up A) (up W) (ix2 n d) = ((z X A W n d : ℝ) : EReal) := by
  rw [val_main_v1_apply, val_main_v0_apply]
  simp only [i_l0, i_r0, up, Ideal.addf_def, ← EReal.coe_mul, sum_coe, ← EReal.coe_add]
  rfl

theorem s8 (k : Fin 1) : val_main_v8 (F := Ideal) (up X) (up A) (up W) (ix2 n k) = ((LossRow.v (z X A W n) : ℝ) : EReal) := by
  simp only [val_main_v8_apply, val_main_v6_apply, val_main_v4_apply, val_main_v3_apply, val_main_v2_apply, val_main_v5_apply, val_main_v7_apply,
    val_main_cst_apply, val_main_cst_0_apply, val_main_cst_1_apply, i_4, i_3, s1, Ideal.ofBits_def, Ideal.addf_def, Ideal.mulf_def, Ideal.hostDivf_def,
    c_zero, c_1024, c_eps, ← EReal.coe_mul, sum_coe, ← EReal.coe_add, div_coe (by norm_num : (1024 : ℝ) ≠ 0), zero_add]
  rfl

theorem s9 (k : Fin 1) : val_main_v9 (F := Ideal) (up X) (up A) (up W) (ix2 n k) = ((LossRow.r (z X A W n) : ℝ) : EReal) := by
  rw [val_main_v9_apply, s8, Ideal.hostUnary_rsqrt_def, rsqrt_coe (LossRow.v_pos _)]; rfl

theorem s14 : val_main_v14 (F := Ideal) (up X) (up A) (up W) (ix2 n d) = ((z X A W n d * LossRow.r (z X A W n) : ℝ) : EReal) := by
  simp only [val_main_v14_apply, val_main_v13_apply, i_13, s1, s9, Ideal.mulf_def, ← EReal.coe_mul]

theorem s18 : val_main_v18 (F := Ideal) (up X) (up A) (up W) (up G) (up T) (ix2 n d) = ((LossRow.diff (z X A W n) (g G) (t T n) d : ℝ) : EReal) := by
  simp only [val_main_v18_apply, val_main_v17_apply, val_main_v16_apply, val_main_v15_apply, i_16, i_15, s14, Ideal.mulf_def, Ideal.subf_def,
    ← EReal.coe_mul, ← EReal.coe_sub]
  rfl

theorem s32 : val_main_v32 (F := Ideal) (up X) (up A) (up W) (up G) (up T) (ix2 n d)
    = ((1 / 2 * 1 / 1024 * (2 * LossRow.diff (z X A W n) (g G) (t T n) d) : ℝ) : EReal) := by
  simp only [val_main_v32_apply, val_main_v31_apply, val_main_v30_apply, val_main_v29_apply, val_main_v28_apply, val_main_v27_apply, val_main_v21_apply,
    val_main_v20_apply, val_main_cst_3_apply, val_main_cst_8_apply, val_main_cst_9_apply, val_main_cst_10_apply, s18, Ideal.ofBits_def, Ideal.mulf_def,
    Ideal.hostDivf_def, c_two, c_half, c_one, c_1024, ← EReal.coe_mul, div_coe (by norm_num : (1024 : ℝ) ≠ 0)]

theorem s37 : val_main_v37 (F := Ideal) (up X) (up A) (up W) (up G) (up T) (ix2 n d)
    = ((1 / 2 * 1 / 1024 * (2 * LossRow.diff (z X A W n) (g G) (t T n) d) * g G d : ℝ) : EReal) := by
  simp only [val_main_v37_apply, val_main_v36_apply, val_main_v15_apply, i_36, i_15, s32, Ideal.mulf_def, ← EReal.coe_mul]
  rfl

theorem s48 : val_main_v48 (F := Ideal) (up X) (up A) (up W) (up G) (up T) (ix2 n d)
    = (((∑ e, z X A W n e * (1 / 2 * 1 / 1024 * (2 * LossRow.diff (z X A W n) (g G) (t T n) e) * g G e))
      * (-(1 / 2) * (LossRow.r (z X A W n) / LossRow.v (z X A W n))) / 1024 : ℝ) : EReal) := by
  simp only [val_main_v48_apply, val_main_v47_apply, val_main_v46_apply, val_main_v45_apply, val_main_v44_apply, val_main_v41_apply, val_main_v40_apply,
    val_main_v39_apply, val_main_v12_apply, val_main_v11_apply, val_main_v10_apply, val_main_cst_2_apply, val_main_cst_13_apply, val_main_cst_14_apply,
    val_main_cst_15_apply, i_48, i_47, i_41, i_40, s1, s8, s9, s37, Ideal.ofBits_def, Ideal.mulf_def, Ideal.hostDivf_def,
    c_zero, c_negHalf, c_1024, ← EReal.coe_mul, sum_coe, ← EReal.coe_add, div_coe (by norm_num : (1024 : ℝ) ≠ 0), div_coe (LossRow.v_pos _).ne', zero_add,
    Fin.sum_univ_one]

/-- The gradient by the residual row. -/
theorem s52 : val_main_v52 (F := Ideal) (up X) (up A) (up W) (up G) (up T) (ix2 n d) = ((LossRow.dx (z X A W n) (g G) (t T n) d : ℝ) : EReal) := by
  simp only [val_main_v52_apply, val_main_v51_apply, val_main_v50_apply, val_main_v49_apply, val_main_v43_apply, val_main_v42_apply, i_42, s1, s9, s37, s48,
    Ideal.mulf_def, Ideal.addf_def, ← EReal.coe_mul, ← EReal.coe_add]
  rw [LossRow.dx_of_parts _ _ _ _ _ rfl]

/-- The gradient by the norm's gain. -/
theorem s55 (k : Fin 1) : val_main_v55 (F := Ideal) (up X) (up A) (up W) (up G) (up T) (ix2 k d)
    = ((∑ n, LossRow.dg (z X A W n) (g G) (t T n) d : ℝ) : EReal) := by
  simp only [val_main_v55_apply, val_main_v38_apply, val_main_v35_apply, val_main_v34_apply, val_main_v33_apply, val_main_cst_11_apply, val_main_cst_12_apply,
    i_55, i_38, i_35, i_34, s14, s32, Ideal.ofBits_def, Ideal.mulf_def, c_zero, ← EReal.coe_mul, sum_coe, ← EReal.coe_add, zero_add, Fin.sum_univ_one]
  exact congrArg _ (Finset.sum_congr rfl fun n _ => by unfold LossRow.dg; ring)

/-- The loss. -/
theorem s26 (i : S_.Idx) : val_main_v26 (F := Ideal) (up X) (up A) (up W) (up G) (up T) i
    = ((1 / 2 * ∑ n, LossRow.sq (z X A W n) (g G) (t T n) / 1024 : ℝ) : EReal) := by
  have e : ∀ j : S8192.Idx, val_main_v24 (F := Ideal) (up X) (up A) (up W) (up G) (up T) j = ((LossRow.sq (z X A W (j 0)) (g G) (t T (j 0)) / 1024 : ℝ) : EReal) := fun j => by
    obtain ⟨n, rfl⟩ : ∃ n, j = ix1 n := ⟨j 0, by funext a; match a with | ⟨0, _⟩ => rfl⟩
    simp only [val_main_v24_apply, val_main_v23_apply, val_main_v22_apply, val_main_v19_apply, val_main_cst_4_apply, val_main_cst_5_apply, i_22, s18,
      Ideal.ofBits_def, Ideal.mulf_def, Ideal.hostDivf_def, c_zero, c_1024, ← EReal.coe_mul, sum_coe, ← EReal.coe_add,
      div_coe (by norm_num : (1024 : ℝ) ≠ 0), zero_add]
    rfl
  simp only [val_main_v26_apply, val_main_v25_apply, val_main_cst_6_apply, val_main_cst_7_apply, e, Ideal.ofBits_def, Ideal.mulf_def, c_zero, c_half,
    ← EReal.coe_mul, sum_coe, ← EReal.coe_add, zero_add]
  exact congrArg (fun s : ℝ => ((1 / 2 * s : ℝ) : EReal)) (Fintype.sum_equiv
    (⟨fun j => j 0, ix1, fun j => by funext a; match a with | ⟨0, _⟩ => rfl, fun n => rfl⟩ : S8192.Idx ≃ Fin 8192) _ _ fun j => rfl)

end stages

end Cert.LossRef

end
-- ==== Proof.LossValue.lean ====
/- What the loss head's kernel leaves in its four result arrays, at real arguments. -/
module

public import proofs.«01_k».proof.Proof.LossOut
public import proofs.«01_k».proof.Proof.LossRef
public import Idealize.ShloMosaic.Lib.StableHlo.RunRead
public import Idealize.ShloMosaic.Lib.Tactic

@[expose] public section

noncomputable section

namespace Cert.LossValue

open Idealize.ShloMosaic Idealize.ShloMosaic.TcCoe Idealize.SL.Sem
open Idealize.ShloMosaic.Pipeline (Dat)
open Cert.LossIdeal Cert.LossIdeal.Gen Cert.Lift Cert.LossBlock Cert.LossOut

variable (m : (ℓ : Loc nD τ sig) → Buf (Elt Ideal) ℓ) (c : Dev nD)
variable (X : S8192x1024.Idx → ℝ) (A : S8192x2816.Idx → ℝ) (W : S2816x1024.Idx → ℝ) (G : S1024.Idx → ℝ) (T : S8192x1024.Idx → ℝ)

/-- Core `c`'s five arguments are these real arrays. -/
structure Real5 : Prop where
  x : m ((c : Thread nD τ).loc main_arg0) = up X
  act : m ((c : Thread nD τ).loc main_arg1) = up A
  wd : m ((c : Thread nD τ).loc main_arg2) = up W
  gain : m ((c : Thread nD τ).loc main_arg3) = up G
  target : m ((c : Thread nD τ).loc main_arg4) = up T

/-- Row `n` of point `t`'s block of rows. -/
def rowOf (t : Fin cfg0.N) (n : Fin 1024) : Fin 8192 := ⟨1024 * t.val + n.val, by have : t.val < 8 := lt_of_lt_of_eq t.isLt (show cfg0.N = 8 from N_0); omega⟩

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = 0 ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0) :=
  (by decide +kernel : ∀ t : Fin grid0.N, _)

theorem emb0 (t : Fin cfg0.N) (y : S1024x2816.Idx) : ((cfg0.win 0).blk t).view.emb y = ix2 (rowOf t (y 0)) (y 1) := by
  obtain ⟨⟨e, e'⟩, _⟩ := idx_facts t
  funext a; apply Fin.ext
  match a with
  | ⟨0, _⟩ => show win0_0.index t (0 : Fin 2) * 1024 + 1 * (y 0).val = 1024 * t.val + (y 0).val; omega
  | ⟨1, _⟩ => show win0_0.index t (1 : Fin 2) * 2816 + 1 * (y 1).val = (y 1).val; omega

theorem emb1 (t : Fin cfg0.N) (y : S2816x1024.Idx) : ((cfg0.win 1).blk t).view.emb y = y := by
  obtain ⟨_, ⟨e, e'⟩, _⟩ := idx_facts t
  funext a; apply Fin.ext
  match a with
  | ⟨0, _⟩ => show win0_1.index t (0 : Fin 2) * 2816 + 1 * (y 0).val = (y 0).val; omega
  | ⟨1, _⟩ => show win0_1.index t (1 : Fin 2) * 1024 + 1 * (y 1).val = (y 1).val; omega

theorem emb2 (t : Fin cfg0.N) (y : S1024x1024.Idx) : ((cfg0.win 2).blk t).view.emb y = ix2 (rowOf t (y 0)) (y 1) := by
  obtain ⟨_, _, ⟨e, e'⟩, _⟩ := idx_facts t
  funext a; apply Fin.ext
  match a with
  | ⟨0, _⟩ => show win0_2.index t (0 : Fin 2) * 1024 + 1 * (y 0).val = 1024 * t.val + (y 0).val; omega
  | ⟨1, _⟩ => show win0_2.index t (1 : Fin 2) * 1024 + 1 * (y 1).val = (y 1).val; omega

theorem emb3 (t : Fin cfg0.N) (y : S1024x1024.Idx) : ((cfg0.win 3).blk t).view.emb y = ix2 (rowOf t (y 0)) (y 1) := by
  obtain ⟨_, _, _, ⟨e, e'⟩, _⟩ := idx_facts t
  funext a; apply Fin.ext
  match a with
  | ⟨0, _⟩ => show win0_3.index t (0 : Fin 2) * 1024 + 1 * (y 0).val = 1024 * t.val + (y 0).val; omega
  | ⟨1, _⟩ => show win0_3.index t (1 : Fin 2) * 1024 + 1 * (y 1).val = (y 1).val; omega

theorem emb4 (t : Fin cfg0.N) (y : S1x1024.Idx) : ((cfg0.win 4).blk t).view.emb y = y := by
  obtain ⟨_, _, _, _, ⟨e, e'⟩, _⟩ := idx_facts t
  funext a; apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem emb5 (t : Fin cfg0.N) (y : S1024x1024.Idx) : ((cfg0.win 5).blk t).view.emb y = ix2 (rowOf t (y 0)) (y 1) := by
  obtain ⟨_, _, _, _, _, ⟨e, e'⟩, _⟩ := idx_facts t
  funext a; apply Fin.ext
  match a with
  | ⟨0, _⟩ => show win0_5.index t (0 : Fin 2) * 1024 + 1 * (y 0).val = 1024 * t.val + (y 0).val; omega
  | ⟨1, _⟩ => show win0_5.index t (1 : Fin 2) * 1024 + 1 * (y 1).val = (y 1).val; omega

theorem emb6 (t : Fin cfg0.N) (y : S1024x1024.Idx) : ((cfg0.win 6).blk t).view.emb y = ix2 (rowOf t (y 0)) (y 1) := by
  obtain ⟨_, _, _, _, _, _, ⟨e, e'⟩⟩ := idx_facts t
  funext a; apply Fin.ext
  match a with
  | ⟨0, _⟩ => show win0_6.index t (0 : Fin 2) * 1024 + 1 * (y 0).val = 1024 * t.val + (y 0).val; omega
  | ⟨1, _⟩ => show win0_6.index t (1 : Fin 2) * 1024 + 1 * (y 1).val = (y 1).val; omega

/-! ## The blocks -/

theorem V_act : (V m c main_v0 : Vec Ideal S8192x2816 .bf16)
    = truncf (F := Ideal) (s := S8192x2816) .bf16 (m ((c : Thread nD τ).loc main_arg1)) bitsLt_bf16_f32 := by
  unfold_abbrev_sides
  after_results

theorem V_wd : (V m c main_v1 : Vec Ideal S2816x1024 .bf16)
    = truncf (F := Ideal) (s := S2816x1024) .bf16 (m ((c : Thread nD τ).loc main_arg2)) bitsLt_bf16_f32 := by
  unfold_abbrev_sides
  after_results

theorem V_gain : V m c main_v2 = shapeCast S1x1024 (m ((c : Thread nD τ).loc main_arg3)) shapeCasts_S1024_S1x1024 := by
  unfold_abbrev_sides
  after_results
  rfl

/-- The blocks' real entries. -/
def B0 (t : Fin cfg0.N) (y : S1024x2816.Idx) : ℝ := A (ix2 (rowOf t (y 0)) (y 1))
def B2 (t : Fin cfg0.N) (y : S1024x1024.Idx) : ℝ := X (ix2 (rowOf t (y 0)) (y 1))
def B4 (y : S1x1024.Idx) : ℝ := G (ix1 (y 1))

variable {m c X A W G T}

theorem iblk0 (h : Real5 m c X A W G T) (t : Fin cfg0.N) : (iblk m c 0 t : Vec Ideal S1024x2816 .bf16) = up (B0 A t) := by
  funext y
  show V m c main_v0 (((cfg0.win 0).blk t).view.emb y) = _
  rw [V_act, h.act, emb0]
  rfl

theorem iblk1 (h : Real5 m c X A W G T) (t : Fin cfg0.N) : (iblk m c 1 t : Vec Ideal S2816x1024 .bf16) = up W := by
  funext y
  show V m c main_v1 (((cfg0.win 1).blk t).view.emb y) = _
  rw [V_wd, h.wd, emb1]
  rfl

theorem iblk2 (h : Real5 m c X A W G T) (t : Fin cfg0.N) : (iblk m c 2 t : Vec Ideal S1024x1024 .f32) = up (B2 X t) := by
  funext y
  show V m c main_arg0 (((cfg0.win 2).blk t).view.emb y) = _
  rw [V_main_arg0, h.x, emb2]
  rfl

theorem iblk3 (h : Real5 m c X A W G T) (t : Fin cfg0.N) : (iblk m c 3 t : Vec Ideal S1024x1024 .f32) = up (B2 T t) := by
  funext y
  show V m c main_arg4 (((cfg0.win 3).blk t).view.emb y) = _
  rw [V_main_arg4, h.target, emb3]
  rfl

theorem iblk4 (h : Real5 m c X A W G T) (t : Fin cfg0.N) : (iblk m c 4 t : Vec Ideal S1x1024 .f32) = up (B4 G) := by
  funext y
  show V m c main_v2 (((cfg0.win 4).blk t).view.emb y) = _
  rw [V_gain, h.gain, emb4]
  refine (shapeCast_apply (up G) shapeCasts_S1024_S1x1024 y (ix1 (y 1)) ?_).trans rfl
  rewrite [Shape.rowMajor_val_one, Shape.rowMajor_val_two]
  have h0 : (y 0).val < 1 := (y 0).isLt
  show (y 1).val = (y 0).val * 1024 + (y 1).val
  omega

/-! ## What each point leaves -/

variable (X A W G T)

/-- Row `n`'s gradient, squared error and part of the gain's gradient. -/
def dxAt (n : Fin 8192) (d : Fin 1024) : ℝ := LossRow.dx (LossRef.z X A W n) (LossRef.g G) (LossRef.t T n) d
def sqAt (n : ℕ) : ℝ := if h : n < 8192 then LossRow.sq (LossRef.z X A W ⟨n, h⟩) (LossRef.g G) (LossRef.t T ⟨n, h⟩) else 0
def dgAt (d : Fin 1024) (n : ℕ) : ℝ := if h : n < 8192 then LossRow.dg (LossRef.z X A W ⟨n, h⟩) (LossRef.g G) (LossRef.t T ⟨n, h⟩) d else 0

theorem sqb_eq (t : Fin cfg0.N) (i : Fin 1024) : sqb (B0 A t) W (B2 X t) (B2 T t) (B4 G) i = sqAt X A W G T (1024 * t.val + i.val) := by
  unfold sqAt
  rw [dif_pos (show 1024 * t.val + i.val < 8192 from (rowOf t i).isLt)]
  rfl

theorem dgb_eq (t : Fin cfg0.N) (i d : Fin 1024) : dgb (B0 A t) W (B2 X t) (B2 T t) (B4 G) i d = dgAt X A W G T d (1024 * t.val + i.val) := by
  unfold dgAt
  rw [dif_pos (show 1024 * t.val + i.val < 8192 from (rowOf t i).isLt)]
  rfl

theorem pay1_up (u v : ℝ) (l p : Vec Ideal S1x1 .f32) (hl : l = fun _ => ((u : ℝ) : EReal)) (hp : p = fun _ => ((v : ℝ) : EReal)) :
    k0_pay1 (F := Ideal) l p = fun _ => ((v + u * (1 / 2048) : ℝ) : EReal) := by
  funext j
  unfold k0_pay1
  pointwise
  simp only [hl, hp, c_inv2048, ← EReal.coe_mul, ← EReal.coe_add]

theorem pay2_up (u v : Fin 1024 → ℝ) (l p : Vec Ideal S1x1024 .f32) (hl : l = fun j => ((u (j 1) : ℝ) : EReal)) (hp : p = fun j => ((v (j 1) : ℝ) : EReal)) :
    k0_pay2 (F := Ideal) l p = fun j => ((v (j 1) + u (j 1) : ℝ) : EReal) := by
  funext j
  unfold k0_pay2
  pointwise
  simp only [hl, hp, ← EReal.coe_add]

variable {X A W G T}

theorem lossK_eq (h : Real5 m c X A W G T) (t : Fin cfg0.N) : lossK (iblk m c 0 t) (iblk m c 1 t) (iblk m c 2 t) (iblk m c 3 t) (iblk m c 4 t)
    = fun _ => ((∑ i : Fin 1024, sqAt X A W G T (1024 * t.val + i.val) : ℝ) : EReal) := by
  rw [iblk0 h, iblk1 h, iblk2 h, iblk3 h, iblk4 h]
  refine (lossK_up (B0 A t) W (B2 X t) (B2 T t) (B4 G)).trans ?_
  simp only [sqb_eq]

theorem dgK_eq (h : Real5 m c X A W G T) (t : Fin cfg0.N) : dgK (iblk m c 0 t) (iblk m c 1 t) (iblk m c 2 t) (iblk m c 3 t) (iblk m c 4 t)
    = fun j => ((∑ i : Fin 1024, dgAt X A W G T (j 1) (1024 * t.val + i.val) : ℝ) : EReal) := by
  rw [iblk0 h, iblk1 h, iblk2 h, iblk3 h, iblk4 h]
  exact (dgK_up (B0 A t) W (B2 X t) (B2 T t) (B4 G)).trans (funext fun j => congrArg _ (Finset.sum_congr rfl fun i _ => dgb_eq X A W G T t i (j 1)))

/-- The running loss after point `n`, and the running gradient of the gain. -/
theorem outs_eq (h : Real5 m c X A W G T) : ∀ (n : ℕ) (hn : n < cfg0.N),
    (outsAt0 m c n hn).2.2.1 = (fun _ => ((∑ s ∈ Finset.range (n + 1), (∑ i : Fin 1024, sqAt X A W G T (1024 * s + i.val)) * (1 / 2048) : ℝ) : EReal))
    ∧ (outsAt0 m c n hn).2.2.2 = (fun j => ((∑ s ∈ Finset.range (n + 1), ∑ i : Fin 1024, dgAt X A W G T (j 1) (1024 * s + i.val) : ℝ) : EReal))
  | 0, hn => by
    rw [outsAt0_A m c ⟨0, hn⟩ rfl]
    dsimp only
    rw [outA7, outA8]
    have z3 : k0_pay3 (F := Ideal) = fun _ => ((0 : ℝ) : EReal) := funext fun _ => c_zero
    have z4 : k0_pay4 (F := Ideal) = fun _ => ((0 : ℝ) : EReal) := funext fun _ => c_zero
    refine ⟨(pay1_up _ 0 _ _ (lossK_eq h ⟨0, hn⟩) z3).trans (funext fun j => ?_), ?_⟩
    · rw [zero_add, zero_add, Finset.sum_range_one]
    refine (pay2_up (fun d => ∑ i : Fin 1024, dgAt X A W G T d (1024 * 0 + i.val)) (fun _ => 0) _ _ (dgK_eq h ⟨0, hn⟩) z4).trans (funext fun j => ?_)
    rw [zero_add, zero_add, Finset.sum_range_one]
  | n + 1, hn => by
    have hN : cfg0.N = 8 := N_0
    have hB : ¬(⟨n + 1, hn⟩ : Fin cfg0.N).val % 8 = 0 := by dsimp only; omega
    obtain ⟨e7, e8⟩ := outs_eq h n (Nat.lt_of_succ_lt hn)
    rw [outsAt0_B m c ⟨n + 1, hn⟩ hB]
    dsimp only
    rw [outB7, outB8]
    refine ⟨(pay1_up _ _ _ _ (lossK_eq h ⟨n + 1, hn⟩) e7).trans (funext fun j => ?_),
      (pay2_up (fun d => ∑ i : Fin 1024, dgAt X A W G T d (1024 * (n + 1) + i.val))
        (fun d => ∑ s ∈ Finset.range (n + 1), ∑ i : Fin 1024, dgAt X A W G T d (1024 * s + i.val)) _ _ (dgK_eq h ⟨n + 1, hn⟩) e8).trans (funext fun j => ?_)⟩
    · exact congrArg _ (Finset.sum_range_succ _ (n + 1)).symm
    · exact congrArg _ (Finset.sum_range_succ (fun s => ∑ i : Fin 1024, dgAt X A W G T (j 1) (1024 * s + i.val)) (n + 1)).symm

theorem outs5 (h : Real5 m c X A W G T) (t : Fin cfg0.N) : (outsAt0 m c t.val t.isLt).1 = up (dxb (B0 A t) W (B2 X t) (B2 T t) (B4 G)) := by
  by_cases h0 : t.val % 8 = 0
  · rw [outsAt0_A m c t h0]
    rw [outA5 (h0 := iblk0 h t) (h1 := iblk1 h t) (h2 := iblk2 h t) (h3 := iblk3 h t) (h4 := iblk4 h t)]
  · rw [outsAt0_B m c t h0]
    rw [outB5 (h0 := iblk0 h t) (h1 := iblk1 h t) (h2 := iblk2 h t) (h3 := iblk3 h t) (h4 := iblk4 h t)]

theorem outs6 (h : Real5 m c X A W G T) (t : Fin cfg0.N) : (outsAt0 m c t.val t.isLt).2.1 = up (dxb (B0 A t) W (B2 X t) (B2 T t) (B4 G)) := by
  by_cases h0 : t.val % 8 = 0
  · rw [outsAt0_A m c t h0]
    rw [outA6 (h0 := iblk0 h t) (h1 := iblk1 h t) (h2 := iblk2 h t) (h3 := iblk3 h t) (h4 := iblk4 h t)]
  · rw [outsAt0_B m c t h0]
    rw [outB6 (h0 := iblk0 h t) (h1 := iblk1 h t) (h2 := iblk2 h t) (h3 := iblk3 h t) (h4 := iblk4 h t)]

/-! ## The result arrays -/

/-- An index of a result array is in the block of the point its row selects. -/
theorem split (y : S8192x1024.Idx) : ∃ (t : Fin cfg0.N) (x : S1024x1024.Idx), y = ix2 (rowOf t (x 0)) (x 1) := by
  have h0 : (y 0).val < 8192 := (y 0).isLt
  have hN : cfg0.N = 8 := N_0
  refine ⟨⟨(y 0).val / 1024, by omega⟩, ix2 ⟨(y 0).val % 1024, Nat.mod_lt _ (by norm_num)⟩ (y 1), ?_⟩
  funext a
  match a with
  | ⟨0, _⟩ => exact Fin.ext (Nat.div_add_mod _ _).symm
  | ⟨1, _⟩ => rfl

theorem final5 (h : Real5 m c X A W G T) : (dats m 0 c).arrAt 5 cfg0.N = fun y : S8192x1024.Idx => ((dxAt X A W G T (y 0) (y 1) : ℝ) : EReal) := by
  funext y
  obtain ⟨t, x, rfl⟩ := split y
  have b := congrFun (Value.blocks5 m c t (flush0_5 t)) x
  rw [Value.flushed5, outs5 h] at b
  have b' : (dats m 0 c).arrAt 5 cfg0.N (((cfg0.win 5).blk t).view.emb x) = _ := b
  rw [emb5] at b'
  exact b'

theorem final6 (h : Real5 m c X A W G T) : (dats m 0 c).arrAt 6 cfg0.N = fun y : S8192x1024.Idx => ((dxAt X A W G T (y 0) (y 1) : ℝ) : EReal) := by
  funext y
  obtain ⟨t, x, rfl⟩ := split y
  have b := congrFun (Value.blocks6 m c t (flush0_6 t)) x
  rw [Value.flushed6, outs6 h] at b
  have b' : (dats m 0 c).arrAt 6 cfg0.N (((cfg0.win 6).blk t).view.emb x) = _ := b
  rw [emb6] at b'
  exact b'

/-- The sums over the points are the sums over the rows. -/
theorem loss_sum : (∑ s ∈ Finset.range (7 + 1), (∑ i : Fin 1024, sqAt X A W G T (1024 * s + i.val)) * (1 / 2048))
    = 1 / 2 * ∑ n, LossRow.sq (LossRef.z X A W n) (LossRef.g G) (LossRef.t T n) / 1024 := by
  rw [← Finset.sum_mul, sum_blocks, Finset.sum_range, ← Finset.sum_div]
  have e : (∑ n : Fin (1024 * (7 + 1)), sqAt X A W G T n.val) = ∑ n, LossRow.sq (LossRef.z X A W n) (LossRef.g G) (LossRef.t T n) :=
    Finset.sum_congr rfl fun n _ => dif_pos n.isLt
  rw [e]; ring

theorem dg_sum (d : Fin 1024) : (∑ s ∈ Finset.range (7 + 1), ∑ i : Fin 1024, dgAt X A W G T d (1024 * s + i.val))
    = ∑ n, LossRow.dg (LossRef.z X A W n) (LossRef.g G) (LossRef.t T n) d := by
  rw [sum_blocks, Finset.sum_range]
  exact Finset.sum_congr rfl fun n _ => dif_pos n.isLt

theorem last (t : Fin cfg0.N) (h : t.val % 8 = 7) : t = t0_7 := by
  have : t.val < 8 := lt_of_lt_of_eq t.isLt (show cfg0.N = 8 from N_0)
  exact Fin.ext (by show t.val = 7; omega)

theorem final7 (h : Real5 m c X A W G T) : (dats m 0 c).arrAt 7 cfg0.N
    = fun _ : S1x1.Idx => ((1 / 2 * ∑ n, LossRow.sq (LossRef.z X A W n) (LossRef.g G) (LossRef.t T n) / 1024 : ℝ) : EReal) := by
  refine (dats m 0 c).arrAt_eq_of_cover 7 _ (fun t hf => ?_) fun i => ⟨t0_7, (flush0_7 t0_7).mpr rfl, ?_⟩
  · obtain rfl := last t ((flush0_7 t).mp hf)
    rw [Value.flushed7, ((outs_eq h t0_7.val t0_7.isLt).1).trans (funext fun _ => congrArg _ loss_sum)]
    rfl
  · show i ∈ ((View.whole main_v3_2).slice (win0_7.rect t0_7)).set
    rw [View.set_slice_whole, Rect.mem_set_unit]
    intro a
    have h0 : (i 0 : Nat) < 1 := (i 0).isLt
    have h1 : (i 1 : Nat) < 1 := (i 1).isLt
    match a with
    | ⟨0, _⟩ => show win0_7.index t0_7 0 * win0_7.size 0 ≤ (i 0 : Nat) ∧ (i 0 : Nat) < win0_7.index t0_7 0 * win0_7.size 0 + win0_7.xsize (grid0.coords t0_7) 0
                rw [show win0_7.index t0_7 0 * win0_7.size 0 = 0 from by decide +kernel, show win0_7.xsize (grid0.coords t0_7) 0 = 1 from by decide +kernel]; omega
    | ⟨1, _⟩ => show win0_7.index t0_7 1 * win0_7.size 1 ≤ (i 1 : Nat) ∧ (i 1 : Nat) < win0_7.index t0_7 1 * win0_7.size 1 + win0_7.xsize (grid0.coords t0_7) 1
                rw [show win0_7.index t0_7 1 * win0_7.size 1 = 0 from by decide +kernel, show win0_7.xsize (grid0.coords t0_7) 1 = 1 from by decide +kernel]; omega

theorem emb8 (y : S1x1024.Idx) : ((cfg0.win 8).blk t0_7).view.emb y = y := by
  have e : win0_8.index t0_7 (0 : Fin 2) = 0 := by decide +kernel
  have e' : win0_8.index t0_7 (1 : Fin 2) = 0 := by decide +kernel
  funext a; apply Fin.ext
  match a with
  | ⟨0, _⟩ => show win0_8.index t0_7 (0 : Fin 2) * 1 + 1 * (y 0).val = (y 0).val; omega
  | ⟨1, _⟩ => show win0_8.index t0_7 (1 : Fin 2) * 1024 + 1 * (y 1).val = (y 1).val; omega

theorem final8 (h : Real5 m c X A W G T) : (dats m 0 c).arrAt 8 cfg0.N
    = fun j : S1x1024.Idx => ((∑ n, LossRow.dg (LossRef.z X A W n) (LossRef.g G) (LossRef.t T n) (j 1) : ℝ) : EReal) := by
  refine (dats m 0 c).arrAt_eq_of_cover 8 _ (fun t hf => ?_) fun i => ⟨t0_7, (flush0_8 t0_7).mpr rfl, ?_⟩
  · obtain rfl := last t ((flush0_8 t).mp hf)
    rw [Value.flushed8, ((outs_eq h t0_7.val t0_7.isLt).2).trans (funext fun j => congrArg _ (dg_sum (j 1)))]
    funext y
    show _ = (fun j : S1x1024.Idx => ((∑ n, LossRow.dg (LossRef.z X A W n) (LossRef.g G) (LossRef.t T n) (j 1) : ℝ) : EReal)) (((cfg0.win 8).blk t0_7).view.emb y)
    rw [emb8]
  · show i ∈ ((View.whole main_v3_3).slice (win0_8.rect t0_7)).set
    rw [View.set_slice_whole, Rect.mem_set_unit]
    intro a
    have h0 : (i 0 : Nat) < 1 := (i 0).isLt
    have h1 : (i 1 : Nat) < 1024 := (i 1).isLt
    match a with
    | ⟨0, _⟩ => show win0_8.index t0_7 0 * win0_8.size 0 ≤ (i 0 : Nat) ∧ (i 0 : Nat) < win0_8.index t0_7 0 * win0_8.size 0 + win0_8.xsize (grid0.coords t0_7) 0
                rw [show win0_8.index t0_7 0 * win0_8.size 0 = 0 from by decide +kernel, show win0_8.xsize (grid0.coords t0_7) 0 = 1 from by decide +kernel]; omega
    | ⟨1, _⟩ => show win0_8.index t0_7 1 * win0_8.size 1 ≤ (i 1 : Nat) ∧ (i 1 : Nat) < win0_8.index t0_7 1 * win0_8.size 1 + win0_8.xsize (grid0.coords t0_7) 1
                rw [show win0_8.index t0_7 1 * win0_8.size 1 = 0 from by decide +kernel, show win0_8.xsize (grid0.coords t0_7) 1 = 1024 from by decide +kernel]; omega

end Cert.LossValue

end
-- ==== Proof.LossClaims.lean ====
/- The claims about the down projection with the loss. -/
module

public import proofs.«01_k».proof.Defs
public import proofs.«01_k».proof.Proof.Gen.Loss.Frame
public import proofs.«01_k».proof.Proof.Gen.LossRefIdeal.Run
public import proofs.«01_k».proof.Proof.Gen.Pre_loss_finite
public import proofs.«01_k».proof.Proof.LossValue
public import Idealize.ShloMosaic.Adequacy
public import Idealize.ShloMosaic.Init

@[expose] public section

noncomputable section

namespace Cert.LossClaims

open Idealize.ShloMosaic Idealize.SL.Sem Cert.Lift Cert.LossValue

instance : Subsingleton Cert.Pre_loss_finite.S_.Idx := ⟨fun _ _ => funext fun a => a.elim0⟩

/-- Arguments that pass the printed test are arrays of real numbers. -/
theorem real5 (m : (ℓ : Loc Cert.LossIdeal.nD Cert.LossIdeal.τ Cert.LossIdeal.sig) → Buf (Elt Ideal) ℓ) (h : Pre_LossIdeal_loss_finite m) (c : Dev Cert.LossIdeal.nD) :
    ∃ X A W G T, Real5 m c X A W G T := by
  have e := congrFun (h c) ix0
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  obtain ⟨X, hX⟩ := exists_real_of_all _ _ _ (fun _ => rfl) (fun _ => rfl) _ _ _ _ e0
  obtain ⟨A, hA⟩ := exists_real_of_all _ _ _ (fun _ => rfl) (fun _ => rfl) _ _ _ _ e1
  obtain ⟨W, hW⟩ := exists_real_of_all _ _ _ (fun _ => rfl) (fun _ => rfl) _ _ _ _ e2
  obtain ⟨G, hG⟩ := exists_real_of_all _ _ _ (fun _ => rfl) (fun _ => rfl) _ _ _ _ e3
  obtain ⟨T, hT⟩ := exists_real_of_all _ _ _ (fun _ => rfl) (fun _ => rfl) _ _ _ _ e4
  exact ⟨X, A, W, G, T, hX, hA, hW, hG, hT⟩

section
variable (X : Cert.LossRefIdeal.S8192x1024.Idx → ℝ) (A : Cert.LossRefIdeal.S8192x2816.Idx → ℝ) (W : Cert.LossRefIdeal.S2816x1024.Idx → ℝ)
  (G : Cert.LossRefIdeal.S1024.Idx → ℝ) (T : Cert.LossRefIdeal.S8192x1024.Idx → ℝ)
open Cert.LossRefIdeal.Read

theorem ref52 : val_main_v52 (F := Ideal) (up X) (up A) (up W) (up G) (up T) = fun y => ((dxAt X A W G T (y 0) (y 1) : ℝ) : EReal) := by
  funext y
  exact (congrArg _ (ix2_self y)).trans (LossRef.s52 X A W G T _ _)

theorem ref53 : val_main_v53 (F := Ideal) (up X) (up A) (up W) (up G) (up T) = fun y => ((dxAt X A W G T (y 0) (y 1) : ℝ) : EReal) := ref52 X A W G T

theorem ref54 : val_main_v54 (F := Ideal) (up X) (up A) (up W) (up G) (up T)
    = fun _ => ((1 / 2 * ∑ n, LossRow.sq (LossRef.z X A W n) (LossRef.g G) (LossRef.t T n) / 1024 : ℝ) : EReal) :=
  funext fun _ => LossRef.s26 X A W G T _

theorem ref55 : val_main_v55 (F := Ideal) (up X) (up A) (up W) (up G) (up T)
    = fun y => ((∑ n, LossRow.dg (LossRef.z X A W n) (LossRef.g G) (LossRef.t T n) (y 1) : ℝ) : EReal) := by
  funext y
  exact (congrArg _ (ix2_self y)).trans (LossRef.s55 X A W G T _ _)

end

theorem frame_p : quiescent_Loss := fun m ρ _ => Cert.Loss.Gen.frame m ρ
theorem frame_pi : quiescent_LossIdeal := fun m ρ _ => Cert.LossIdeal.Gen.frame m ρ
theorem frame_pi' : quiescent_LossIdeal_pre_loss_finite := fun m ρ _ => Cert.LossIdeal.Gen.frame m ρ
theorem frame_ri : quiescent_LossRefIdeal := fun m ρ _ =>
  (θ_run Cert.LossRefIdeal.defs _ _).mono
    (fun r h => ⟨fun c => (h c).2.2.2.2, sem_eq_zero_of_no_sems (by decide) r.2⟩) (Cert.LossRefIdeal.Value.run (F := Ideal) m ρ)
theorem frame_ri' : quiescent_LossRefIdeal_pre_loss_finite := fun m ρ _ => frame_ri m ρ trivial

theorem algebraic : algebraic_LossIdeal_LossRefIdeal_pre_loss_finite := by
  intro m ρ m' ρ' hp hagree
  refine ⟨_, _, _, _, Cert.LossIdeal.Value.run_blocks m ρ, ?_⟩
  refine (θ_run Cert.LossRefIdeal.defs _ _).mono (fun r h c => ?_) (Cert.LossRefIdeal.Value.run (F := Ideal) m' ρ')
  obtain ⟨X, A, W, G, T, hr⟩ := real5 m hp c
  obtain ⟨a0, a1, a2, a3, a4⟩ := hagree c
  obtain ⟨h0, h1, h2, h3, rest⟩ := h c
  rw [Cert.LossRefIdeal.Read.val_main_v52_eq] at h0
  rw [Cert.LossRefIdeal.Read.val_main_v53_eq] at h1
  rw [Cert.LossRefIdeal.Read.val_main_v54_eq] at h2
  rw [Cert.LossRefIdeal.Read.val_main_v55_eq] at h3
  rw [a0, a1, a2, a3, a4, hr.x, hr.act, hr.wd, hr.gain, hr.target] at h0 h1 h2 h3
  exact ⟨h0.trans ((ref52 X A W G T).trans (final5 hr).symm), h1.trans ((ref53 X A W G T).trans (final6 hr).symm),
    h2.trans ((ref54 X A W G T).trans (final7 hr).symm), h3.trans ((ref55 X A W G T).trans (final8 hr).symm), rest⟩

end Cert.LossClaims
-- ==== Proof.FfnRow.lean ====
/- The gated feed-forward layer's backward pass over the reals: the gate's and the up projection's gradients, and the gradient
   through an RMS norm, in the form both programs are brought to. -/
module

public import proofs.«01_k».proof.Proof.LossRow

@[expose] public section

noncomputable section

namespace Cert.FfnRow

open Idealize.ShloMosaic Cert.Lift

/-- The logistic function. -/
def sg (x : ℝ) : ℝ := 1 / (1 + Real.exp (-x))

theorem sg_den (x : ℝ) : (1 : ℝ) + Real.exp (-x) ≠ 0 := (add_pos one_pos (Real.exp_pos _)).ne'

/-- The logistic function's exponential as a power of two. -/
theorem rpow_two (x : ℝ) : Real.rpow 2 (x * -((Real.log 2)⁻¹)) = Real.exp (-x) := by
  show (2 : ℝ) ^ (x * -((Real.log 2)⁻¹)) = _
  rw [Real.rpow_def_of_pos (by norm_num)]
  have h : Real.log 2 ≠ 0 := (Real.log_pos (by norm_num)).ne'
  congr 1
  field_simp

/-- The gate's gradient, from the activation's gradient, the gate and the up projection. -/
def dgate (a g u : ℝ) : ℝ := a * sg g * u * (1 + g - g * sg g)

/-- The up projection's gradient. -/
def dup (a g : ℝ) : ℝ := a * sg g * g

theorem dgate_of_parts (a g u : ℝ) : a * u * sg g + g * (a * u) * (sg g * (1 - sg g)) = dgate a g u := by
  unfold dgate; ring

theorem dup_of_parts (a g : ℝ) : g * sg g * a = dup a g := by
  unfold dup; ring

/-- The gradient by a row `z` through its RMS norm, from the gradient `u` by the normed row. -/
def back (z u : Fin 1024 → ℝ) (d : Fin 1024) : ℝ :=
  LossRow.r z * (u d - z d * LossRow.r z * ((∑ e, u e * (z e * LossRow.r z)) / 1024))

/-- The same as the derivative of the forward lines leaves it. -/
theorem back_of_parts (z u : Fin 1024 → ℝ) (d : Fin 1024) (s : ℝ)
    (hs : s = (∑ e, z e * u e) * (-(1 / 2) * (LossRow.r z / LossRow.v z)) / 1024) :
    u d * LossRow.r z + z d * s + s * z d = back z u d := by
  have e2 : (∑ e, u e * (z e * LossRow.r z)) = (∑ e, z e * u e) * LossRow.r z := by
    rw [Finset.sum_mul]; exact Finset.sum_congr rfl fun e _ => by ring
  rw [hs, LossRow.r_div_v]
  unfold back
  rw [e2]
  ring

end Cert.FfnRow

end
-- ==== Proof.FfnBlock.lean ====
/- What one grid point of the feed-forward layer's backward kernel computes, at real arguments: each of the eleven column chunks'
   payloads in the form of Proof/FfnRow.lean, and the norm's payloads over the block of rows. -/
module

public import Idealize.ShloMosaic.Lib.Pipeline.ValueKit.Tiles
public import proofs.«01_k».proof.Proof.FfnRow
public import proofs.«01_k».proof.Proof.Gen.FfnIdeal.Value

@[expose] public section

noncomputable section

namespace Cert.FfnBlock

open Idealize.ShloMosaic Idealize.ShloMosaic.TcCoe Cert.FfnIdeal Cert.FfnIdeal.Gen Cert.Lift

/-- The kernel's named scale denotes minus the reciprocal of the logarithm of two. -/
theorem scale : Named.named (F := Ideal) Cert.FfnIdeal.κ "exp2_scale" (φ := .f32) 0xBFB8AA3B#32 = ((-((Real.log 2)⁻¹) : ℝ) : EReal) :=
  IdealRules.named_const.ideal_named_scalar _ _ _ _ rfl

/-! ## One chunk of 256 columns -/

section chunk

variable (V3 : S256x1024.Idx → ℝ) (V5 : S256x1024.Idx → ℝ) (V8 V11 : S256x256.Idx → ℝ)

/-- The gradient by the activation. -/
def dac (i k : Fin 256) : ℝ := ∑ d : Fin 1024, V3 (ix2 i d) * V5 (ix2 k d)

variable (i k : Fin 256)

theorem p8 : k0_pay8 (F := Ideal) (up V8) (ix2 i k) = ((V8 (ix2 i k) : ℝ) : EReal) := by
  unfold k0_pay8
  pointwise
  rfl

theorem p9 : k0_pay9 (F := Ideal) (up V8) (ix2 i k) = ((FfnRow.sg (V8 (ix2 i k)) : ℝ) : EReal) := by
  unfold k0_pay9
  pointwise
  simp only [p8, scale, ← EReal.coe_mul]
  show Ideal.div 1 (1 + Ideal.exp2 _) = _
  rw [Ideal.exp2_coe, FfnRow.rpow_two, ← EReal.coe_one, ← EReal.coe_add, div_coe (FfnRow.sg_den _)]
  rfl

theorem p10 : k0_pay10 (F := Ideal) (up V3) (up V5) (up V8) (ix2 i k) = ((dac V3 V5 i k * FfnRow.sg (V8 (ix2 i k)) : ℝ) : EReal) := by
  unfold k0_pay10 k0_pay7
  pointwise
  simp only [p9, up, ← EReal.coe_mul, sum_coe]
  rfl

theorem p11 : k0_pay11 (F := Ideal) (up V3) (up V5) (up V8) (up V11) (ix2 i k)
    = ((FfnRow.dgate (dac V3 V5 i k) (V8 (ix2 i k)) (V11 (ix2 i k)) : ℝ) : EReal) := by
  unfold k0_pay11
  pointwise
  simp only [p8, p9, p10, up, c_one, ← EReal.coe_mul, ← EReal.coe_add, ← EReal.coe_sub]
  rfl

theorem p12 : k0_pay12 (F := Ideal) (up V3) (up V5) (up V8) (ix2 i k) = ((FfnRow.dup (dac V3 V5 i k) (V8 (ix2 i k)) : ℝ) : EReal) := by
  unfold k0_pay12
  pointwise
  simp only [p8, p10, ← EReal.coe_mul]
  rfl

end chunk

/-! The eleven chunks' payloads are one chain of operations each, cut at different places. -/

section cut
variable (c : Vec Ideal S256x1024 .f32) (w : Vec Ideal S256x1024 .bf16) (g u : Vec Ideal S256x256 .bf16)

theorem g1 : k0_pay17 (F := Ideal) (k0_pay7 c) (k0_pay13 w) g u = k0_pay11 c w g u := rfl
theorem g2 : k0_pay25 (F := Ideal) (k0_pay19 (k0_pay7 c) w) (k0_pay20 g) (k0_pay21 u) (k0_pay22 g) = k0_pay11 c w g u := rfl
theorem g3 : k0_pay31 (F := Ideal) (k0_pay30 (k0_pay7 c) w g u) = k0_pay11 c w g u := rfl
theorem g4 : k0_pay36 (F := Ideal) (k0_pay7 c) w g u = k0_pay11 c w g u := rfl
theorem g5 : k0_pay42 (F := Ideal) (k0_pay7 c) (k0_pay38 w) g u = k0_pay11 c w g u := rfl
theorem g6 : k0_pay50 (F := Ideal) (k0_pay44 (k0_pay7 c) w) (k0_pay45 g) (k0_pay46 u) (k0_pay47 g) = k0_pay11 c w g u := rfl
theorem g7 : k0_pay56 (F := Ideal) (k0_pay55 (k0_pay7 c) w g u) = k0_pay11 c w g u := rfl
theorem g8 : k0_pay61 (F := Ideal) (k0_pay7 c) w g u = k0_pay11 c w g u := rfl
theorem g9 : k0_pay67 (F := Ideal) (k0_pay7 c) (k0_pay63 w) g u = k0_pay11 c w g u := rfl
theorem g10 : k0_pay75 (F := Ideal) (k0_pay69 (k0_pay7 c) w) (k0_pay70 g) (k0_pay71 u) (k0_pay72 g) = k0_pay11 c w g u := rfl
theorem u1 : k0_pay18 (F := Ideal) (k0_pay7 c) (k0_pay13 w) g = k0_pay12 c w g := rfl
theorem u2 : k0_pay26 (F := Ideal) (k0_pay19 (k0_pay7 c) w) (k0_pay20 g) (k0_pay22 g) = k0_pay12 c w g := rfl
theorem u3 : k0_pay32 (F := Ideal) (k0_pay27 g) (k0_pay29 (k0_pay7 c) w g) = k0_pay12 c w g := rfl
theorem u4 : k0_pay37 (F := Ideal) (k0_pay7 c) w g = k0_pay12 c w g := rfl
theorem u5 : k0_pay43 (F := Ideal) (k0_pay7 c) (k0_pay38 w) g = k0_pay12 c w g := rfl
theorem u6 : k0_pay51 (F := Ideal) (k0_pay44 (k0_pay7 c) w) (k0_pay45 g) (k0_pay47 g) = k0_pay12 c w g := rfl
theorem u7 : k0_pay57 (F := Ideal) (k0_pay52 g) (k0_pay54 (k0_pay7 c) w g) = k0_pay12 c w g := rfl
theorem u8 : k0_pay62 (F := Ideal) (k0_pay7 c) w g = k0_pay12 c w g := rfl
theorem u9 : k0_pay68 (F := Ideal) (k0_pay7 c) (k0_pay63 w) g = k0_pay12 c w g := rfl
theorem u10 : k0_pay76 (F := Ideal) (k0_pay69 (k0_pay7 c) w) (k0_pay70 g) (k0_pay72 g) = k0_pay12 c w g := rfl
end cut

/-! ## The block of 256 rows -/

theorem hz : (![0, 0] : Fin 2 → Nat) = fun _ => 0 := funext fun a => by fin_cases a <;> rfl

section block

variable (X0 : S256x1024.Idx → ℝ) (X1 X2 : S256x2816.Idx → ℝ) (X3 X4 X5 : S2816x1024.Idx → ℝ) (X6 : S256x1024.Idx → ℝ) (X7 : S1x1024.Idx → ℝ)

/-- The gradients by the activation, the gate, the up projection and the normed row. -/
def dab (i : Fin 256) (k : Fin 2816) : ℝ := ∑ d : Fin 1024, X0 (ix2 i d) * X3 (ix2 k d)
def dgb (y : S256x2816.Idx) : ℝ := FfnRow.dgate (dab X0 X3 (y 0) (y 1)) (X1 y) (X2 y)
def dub (y : S256x2816.Idx) : ℝ := FfnRow.dup (dab X0 X3 (y 0) (y 1)) (X1 y)
def dhb (y : S256x1024.Idx) : ℝ := (∑ k : Fin 2816, dgb X0 X1 X2 X3 (ix2 (y 0) k) * X4 (ix2 k (y 1))) + ∑ k : Fin 2816, dub X0 X1 X3 (ix2 (y 0) k) * X5 (ix2 k (y 1))

/-- A row of the residual stream. -/
def zb (i : Fin 256) (d : Fin 1024) : ℝ := X6 (ix2 i d)

/-- The gradient by the residual stream, and the block's part of the gradient by the gain. -/
def dxb (H : S256x1024.Idx → ℝ) (y : S256x1024.Idx) : ℝ :=
  X0 y + FfnRow.back (zb X6 (y 0)) (fun e => H (ix2 (y 0) e) * X7 (ix2 0 e)) (y 1)
def dnb (H : S256x1024.Idx → ℝ) (i : Fin 256) (d : Fin 1024) : ℝ := H (ix2 i d) * (zb X6 i d * LossRow.r (zb X6 i))

/-- Column `k` of the chunk that starts at column `o`. -/
def col (o : ℕ) (ho : o + 256 ≤ 2816) (k : Fin 256) : Fin 2816 := ⟨o + k.val, by omega⟩

section part
variable (o : ℕ) (ho : o + 256 ≤ 2816)
  (hA : ∀ a, (![0, o] : Fin 2 → ℕ) a + S256x256.size a ≤ S256x2816.size a)
  (hB : ∀ a, (![o, 0] : Fin 2 → ℕ) a + S256x1024.size a ≤ S2816x1024.size a)

theorem idxA (i k : Fin 256) : (Rect.unit (s := S256x2816) ![0, o] S256x256.size hA).idx (ix2 i k) = ix2 i (col o ho k) := by
  funext a
  match a with
  | ⟨0, _⟩ => exact Fin.ext ((Rect.idx_unit_val _ _ _ _ _).trans (Nat.zero_add _))
  | ⟨1, _⟩ => exact Fin.ext (Rect.idx_unit_val _ _ _ _ _)

theorem idxB (k : Fin 256) (d : Fin 1024) : (Rect.unit (s := S2816x1024) ![o, 0] S256x1024.size hB).idx (ix2 k d) = ix2 (col o ho k) d := by
  funext a
  match a with
  | ⟨0, _⟩ => exact Fin.ext (Rect.idx_unit_val _ _ _ _ _)
  | ⟨1, _⟩ => exact Fin.ext ((Rect.idx_unit_val _ _ _ _ _).trans (Nat.zero_add _))

theorem dac_eq (i k : Fin 256) : dac X0 (fun x => X3 ((Rect.unit (s := S2816x1024) ![o, 0] S256x1024.size hB).idx x)) i k = dab X0 X3 i (col o ho k) := by
  unfold dac dab
  simp only [idxB o ho]

include ho in
theorem q11 (x : S256x256.Idx) : k0_pay11 (F := Ideal) (up X0)
    (View.ld (Val := Elt Ideal) (e' := .bf16) (up X3) (Rect.unit (s := S2816x1024) ![o, 0] S256x1024.size hB))
    (View.ld (Val := Elt Ideal) (e' := .bf16) (up X1) (Rect.unit (s := S256x2816) ![0, o] S256x256.size hA))
    (View.ld (Val := Elt Ideal) (e' := .bf16) (up X2) (Rect.unit (s := S256x2816) ![0, o] S256x256.size hA)) x
    = ((dgb X0 X1 X2 X3 ((Rect.unit (s := S256x2816) ![0, o] S256x256.size hA).idx x) : ℝ) : EReal) := by
  obtain ⟨i, k, rfl⟩ : ∃ i k, x = ix2 i k := ⟨x 0, x 1, by funext a; match a with | ⟨0, _⟩ => rfl | ⟨1, _⟩ => rfl⟩
  refine (p11 X0 (fun x => X3 ((Rect.unit (s := S2816x1024) ![o, 0] S256x1024.size hB).idx x))
    (fun x => X1 ((Rect.unit (s := S256x2816) ![0, o] S256x256.size hA).idx x))
    (fun x => X2 ((Rect.unit (s := S256x2816) ![0, o] S256x256.size hA).idx x)) i k).trans ?_
  rw [dac_eq X0 X3 o ho hB, idxA o ho]
  rfl

include ho in
theorem q12 (x : S256x256.Idx) : k0_pay12 (F := Ideal) (up X0)
    (View.ld (Val := Elt Ideal) (e' := .bf16) (up X3) (Rect.unit (s := S2816x1024) ![o, 0] S256x1024.size hB))
    (View.ld (Val := Elt Ideal) (e' := .bf16) (up X1) (Rect.unit (s := S256x2816) ![0, o] S256x256.size hA)) x
    = ((dub X0 X1 X3 ((Rect.unit (s := S256x2816) ![0, o] S256x256.size hA).idx x) : ℝ) : EReal) := by
  obtain ⟨i, k, rfl⟩ : ∃ i k, x = ix2 i k := ⟨x 0, x 1, by funext a; match a with | ⟨0, _⟩ => rfl | ⟨1, _⟩ => rfl⟩
  refine (p12 X0 (fun x => X3 ((Rect.unit (s := S2816x1024) ![o, 0] S256x1024.size hB).idx x))
    (fun x => X1 ((Rect.unit (s := S256x2816) ![0, o] S256x256.size hA).idx x)) i k).trans ?_
  rw [dac_eq X0 X3 o ho hB, idxA o ho]
  rfl

end part

theorem p77 (D E : S256x2816.Idx → ℝ) : k0_pay77 (F := Ideal) (up D) (up X4) (up E) (up X5)
    = up (fun y : S256x1024.Idx => (∑ k : Fin 2816, D (ix2 (y 0) k) * X4 (ix2 k (y 1))) + ∑ k : Fin 2816, E (ix2 (y 0) k) * X5 (ix2 k (y 1))) := by
  funext y
  obtain ⟨i, d, rfl⟩ : ∃ i d, y = ix2 i d := ⟨y 0, y 1, by funext a; match a with | ⟨0, _⟩ => rfl | ⟨1, _⟩ => rfl⟩
  unfold k0_pay77
  pointwise
  simp only [up, ← EReal.coe_mul, sum_coe, ← EReal.coe_add]
  rfl

theorem p78 (i : Fin 256) (j : Fin 1) : k0_pay78 (F := Ideal) (up X6) (ix2 i j) = ((LossRow.v (zb X6 i) : ℝ) : EReal) := by
  unfold k0_pay78
  pointwise
  simp only [up, c_1024, c_eps, ← EReal.coe_mul, sum_coe, ← EReal.coe_add, div_coe (by norm_num : (1024 : ℝ) ≠ 0)]
  rfl

theorem p1 (i : Fin 256) (j : Fin 1) : k0_pay1 (F := Ideal) (k0_pay78 (up X6)) (ix2 i j) = ((LossRow.r (zb X6 i) : ℝ) : EReal) := by
  unfold k0_pay1
  pointwise
  rw [p78]
  exact rsqrt_coe (LossRow.v_pos _)

theorem p2 (i : Fin 256) (d : Fin 1024) : k0_pay2 (F := Ideal) (up X6) (k0_pay78 (up X6)) (ix2 i d) = ((zb X6 i d * LossRow.r (zb X6 i) : ℝ) : EReal) := by
  unfold k0_pay2
  pointwise
  simp only [p1, up, ← EReal.coe_mul]
  rfl

theorem p3 (H : S256x1024.Idx → ℝ) (w : Fin 1024 → ℝ) (q : Vec Ideal S1x1024 .f32) (hq : q = fun j => ((w (j 1) : ℝ) : EReal)) :
    k0_pay3 (F := Ideal) (up H) (up X6) (k0_pay78 (up X6)) q = fun j => ((w (j 1) + ∑ i, dnb X6 H i (j 1) : ℝ) : EReal) := by
  funext j
  unfold k0_pay3
  pointwise
  refine (congrArg₂ (· + ·) (congrFun hq j) (Finset.sum_congr rfl fun x _ => congrArg₂ (· * ·) (rfl : _ = ((H (ix2 x (j 1)) : ℝ) : EReal)) (p2 X6 x (j 1)))).trans ?_
  simp only [← EReal.coe_mul, sum_coe, ← EReal.coe_add, dnb]

theorem p4 (H : S256x1024.Idx → ℝ) : k0_pay4 (F := Ideal) (up H) (up X6) (k0_pay78 (up X6)) (up X0) (up X7) = up (dxb X0 X6 X7 H) := by
  funext y
  obtain ⟨i, d, rfl⟩ : ∃ i d, y = ix2 i d := ⟨y 0, y 1, by funext a; match a with | ⟨0, _⟩ => rfl | ⟨1, _⟩ => rfl⟩
  unfold k0_pay4
  pointwise
  simp only [up, p1, p2, c_1024, ← EReal.coe_mul, sum_coe, ← EReal.coe_sub, ← EReal.coe_add, div_coe (by norm_num : (1024 : ℝ) ≠ 0)]
  rfl

theorem p5 (H : S256x1024.Idx → ℝ) : k0_pay5 (F := Ideal) (up H) (up X6) (k0_pay78 (up X6)) (up X0) (up X7) = up (dxb X0 X6 X7 H) := by
  unfold k0_pay5
  exact p4 X0 X6 X7 H

end block

end Cert.FfnBlock

end
-- ==== Proof.FfnOut.lean ====
/- What one grid point of the feed-forward layer's backward kernel leaves in its five output blocks, as functions of the input
   blocks and, for the accumulated one, of what the point before left. -/
module

public import proofs.«01_k».proof.Proof.FfnBlock

@[expose] public section

noncomputable section

namespace Cert.FfnOut

open Idealize.ShloMosaic Idealize.ShloMosaic.TcCoe Idealize.SL.Sem
open Cert.FfnIdeal Cert.FfnIdeal.Gen Cert.Lift Cert.FfnBlock

/-- Eleven chunks of 256 columns, the last written first in the list. -/
def chunks (p0 p1 p2 p3 p4 p5 p6 p7 p8 p9 p10 : S256x256.Idx → Elt Ideal .bf16) : List (View.Piece (Elt Ideal) S256x2816 .bf16) :=
  [⟨Rect.unit (s := S256x2816) ![0, 2560] S256x256.size inb_S256x2816_S256x256_0_2560, p10⟩, ⟨Rect.unit (s := S256x2816) ![0, 2304] S256x256.size inb_S256x2816_S256x256_0_2304, p9⟩, ⟨Rect.unit (s := S256x2816) ![0, 2048] S256x256.size inb_S256x2816_S256x256_0_2048, p8⟩, ⟨Rect.unit (s := S256x2816) ![0, 1792] S256x256.size inb_S256x2816_S256x256_0_1792, p7⟩, ⟨Rect.unit (s := S256x2816) ![0, 1536] S256x256.size inb_S256x2816_S256x256_0_1536, p6⟩, ⟨Rect.unit (s := S256x2816) ![0, 1280] S256x256.size inb_S256x2816_S256x256_0_1280, p5⟩, ⟨Rect.unit (s := S256x2816) ![0, 1024] S256x256.size inb_S256x2816_S256x256_0_1024, p4⟩, ⟨Rect.unit (s := S256x2816) ![0, 768] S256x256.size inb_S256x2816_S256x256_0_768, p3⟩, ⟨Rect.unit (s := S256x2816) ![0, 512] S256x256.size inb_S256x2816_S256x256_0_512, p2⟩, ⟨Rect.unit (s := S256x2816) ![0, 256] S256x256.size inb_S256x2816_S256x256_0_256, p1⟩, ⟨Rect.unit (s := S256x2816) ![0, 0] S256x256.size inb_S256x2816_S256x256_0_0, p0⟩]

/-- Eleven chunks that are the chunks of one array are that array. -/
theorem canon_chunks (p0 p1 p2 p3 p4 p5 p6 p7 p8 p9 p10 : S256x256.Idx → Elt Ideal .bf16) (G : S256x2816.Idx → Elt Ideal .bf16)
    (h0 : ∀ x, p0 x = G ((Rect.unit (s := S256x2816) ![0, 0] S256x256.size inb_S256x2816_S256x256_0_0).idx x)) (h1 : ∀ x, p1 x = G ((Rect.unit (s := S256x2816) ![0, 256] S256x256.size inb_S256x2816_S256x256_0_256).idx x)) (h2 : ∀ x, p2 x = G ((Rect.unit (s := S256x2816) ![0, 512] S256x256.size inb_S256x2816_S256x256_0_512).idx x)) (h3 : ∀ x, p3 x = G ((Rect.unit (s := S256x2816) ![0, 768] S256x256.size inb_S256x2816_S256x256_0_768).idx x)) (h4 : ∀ x, p4 x = G ((Rect.unit (s := S256x2816) ![0, 1024] S256x256.size inb_S256x2816_S256x256_0_1024).idx x)) (h5 : ∀ x, p5 x = G ((Rect.unit (s := S256x2816) ![0, 1280] S256x256.size inb_S256x2816_S256x256_0_1280).idx x)) (h6 : ∀ x, p6 x = G ((Rect.unit (s := S256x2816) ![0, 1536] S256x256.size inb_S256x2816_S256x256_0_1536).idx x)) (h7 : ∀ x, p7 x = G ((Rect.unit (s := S256x2816) ![0, 1792] S256x256.size inb_S256x2816_S256x256_0_1792).idx x)) (h8 : ∀ x, p8 x = G ((Rect.unit (s := S256x2816) ![0, 2048] S256x256.size inb_S256x2816_S256x256_0_2048).idx x)) (h9 : ∀ x, p9 x = G ((Rect.unit (s := S256x2816) ![0, 2304] S256x256.size inb_S256x2816_S256x256_0_2304).idx x)) (h10 : ∀ x, p10 x = G ((Rect.unit (s := S256x2816) ![0, 2560] S256x256.size inb_S256x2816_S256x256_0_2560).idx x)) :
    View.canon (chunks p0 p1 p2 p3 p4 p5 p6 p7 p8 p9 p10) = G := by
  funext y
  refine View.canon_apply_of_pieces G _ ?_ y ?_
  · intro p hp
    simp only [chunks, List.mem_cons, List.not_mem_nil, or_false] at hp
    rcases hp with rfl | rfl | rfl | rfl | rfl | rfl | rfl | rfl | rfl | rfl | rfl
    · exact h10
    · exact h9
    · exact h8
    · exact h7
    · exact h6
    · exact h5
    · exact h4
    · exact h3
    · exact h2
    · exact h1
    · exact h0
  · exact View.cover_of_tiledL (s := S256x2816) _ S256x256.size (by sl_kernel_rfl) y

/-- The gate's and the up projection's gradients of a block, chunk by chunk. -/
def gateL (X0 : S256x1024.Idx → ℝ) (X1 X2 : S256x2816.Idx → ℝ) (X3 : S2816x1024.Idx → ℝ) : List (View.Piece (Elt Ideal) S256x2816 .bf16) :=
  chunks
    (k0_pay11 (F := Ideal) (up X0) (View.ld (Val := Elt Ideal) (e' := .bf16) (up X3) (Rect.unit (s := S2816x1024) ![0, 0] S256x1024.size inb_S2816x1024_S256x1024_0_0)) (View.ld (Val := Elt Ideal) (e' := .bf16) (up X1) (Rect.unit (s := S256x2816) ![0, 0] S256x256.size inb_S256x2816_S256x256_0_0)) (View.ld (Val := Elt Ideal) (e' := .bf16) (up X2) (Rect.unit (s := S256x2816) ![0, 0] S256x256.size inb_S256x2816_S256x256_0_0)))
    (k0_pay11 (F := Ideal) (up X0) (View.ld (Val := Elt Ideal) (e' := .bf16) (up X3) (Rect.unit (s := S2816x1024) ![256, 0] S256x1024.size inb_S2816x1024_S256x1024_256_0)) (View.ld (Val := Elt Ideal) (e' := .bf16) (up X1) (Rect.unit (s := S256x2816) ![0, 256] S256x256.size inb_S256x2816_S256x256_0_256)) (View.ld (Val := Elt Ideal) (e' := .bf16) (up X2) (Rect.unit (s := S256x2816) ![0, 256] S256x256.size inb_S256x2816_S256x256_0_256)))
    (k0_pay11 (F := Ideal) (up X0) (View.ld (Val := Elt Ideal) (e' := .bf16) (up X3) (Rect.unit (s := S2816x1024) ![512, 0] S256x1024.size inb_S2816x1024_S256x1024_512_0)) (View.ld (Val := Elt Ideal) (e' := .bf16) (up X1) (Rect.unit (s := S256x2816) ![0, 512] S256x256.size inb_S256x2816_S256x256_0_512)) (View.ld (Val := Elt Ideal) (e' := .bf16) (up X2) (Rect.unit (s := S256x2816) ![0, 512] S256x256.size inb_S256x2816_S256x256_0_512)))
    (k0_pay11 (F := Ideal) (up X0) (View.ld (Val := Elt Ideal) (e' := .bf16) (up X3) (Rect.unit (s := S2816x1024) ![768, 0] S256x1024.size inb_S2816x1024_S256x1024_768_0)) (View.ld (Val := Elt Ideal) (e' := .bf16) (up X1) (Rect.unit (s := S256x2816) ![0, 768] S256x256.size inb_S256x2816_S256x256_0_768)) (View.ld (Val := Elt Ideal) (e' := .bf16) (up X2) (Rect.unit (s := S256x2816) ![0, 768] S256x256.size inb_S256x2816_S256x256_0_768)))
    (k0_pay11 (F := Ideal) (up X0) (View.ld (Val := Elt Ideal) (e' := .bf16) (up X3) (Rect.unit (s := S2816x1024) ![1024, 0] S256x1024.size inb_S2816x1024_S256x1024_1024_0)) (View.ld (Val := Elt Ideal) (e' := .bf16) (up X1) (Rect.unit (s := S256x2816) ![0, 1024] S256x256.size inb_S256x2816_S256x256_0_1024)) (View.ld (Val := Elt Ideal) (e' := .bf16) (up X2) (Rect.unit (s := S256x2816) ![0, 1024] S256x256.size inb_S256x2816_S256x256_0_1024)))
    (k0_pay11 (F := Ideal) (up X0) (View.ld (Val := Elt Ideal) (e' := .bf16) (up X3) (Rect.unit (s := S2816x1024) ![1280, 0] S256x1024.size inb_S2816x1024_S256x1024_1280_0)) (View.ld (Val := Elt Ideal) (e' := .bf16) (up X1) (Rect.unit (s := S256x2816) ![0, 1280] S256x256.size inb_S256x2816_S256x256_0_1280)) (View.ld (Val := Elt Ideal) (e' := .bf16) (up X2) (Rect.unit (s := S256x2816) ![0, 1280] S256x256.size inb_S256x2816_S256x256_0_1280)))
    (k0_pay11 (F := Ideal) (up X0) (View.ld (Val := Elt Ideal) (e' := .bf16) (up X3) (Rect.unit (s := S2816x1024) ![1536, 0] S256x1024.size inb_S2816x1024_S256x1024_1536_0)) (View.ld (Val := Elt Ideal) (e' := .bf16) (up X1) (Rect.unit (s := S256x2816) ![0, 1536] S256x256.size inb_S256x2816_S256x256_0_1536)) (View.ld (Val := Elt Ideal) (e' := .bf16) (up X2) (Rect.unit (s := S256x2816) ![0, 1536] S256x256.size inb_S256x2816_S256x256_0_1536)))
    (k0_pay11 (F := Ideal) (up X0) (View.ld (Val := Elt Ideal) (e' := .bf16) (up X3) (Rect.unit (s := S2816x1024) ![1792, 0] S256x1024.size inb_S2816x1024_S256x1024_1792_0)) (View.ld (Val := Elt Ideal) (e' := .bf16) (up X1) (Rect.unit (s := S256x2816) ![0, 1792] S256x256.size inb_S256x2816_S256x256_0_1792)) (View.ld (Val := Elt Ideal) (e' := .bf16) (up X2) (Rect.unit (s := S256x2816) ![0, 1792] S256x256.size inb_S256x2816_S256x256_0_1792)))
    (k0_pay11 (F := Ideal) (up X0) (View.ld (Val := Elt Ideal) (e' := .bf16) (up X3) (Rect.unit (s := S2816x1024) ![2048, 0] S256x1024.size inb_S2816x1024_S256x1024_2048_0)) (View.ld (Val := Elt Ideal) (e' := .bf16) (up X1) (Rect.unit (s := S256x2816) ![0, 2048] S256x256.size inb_S256x2816_S256x256_0_2048)) (View.ld (Val := Elt Ideal) (e' := .bf16) (up X2) (Rect.unit (s := S256x2816) ![0, 2048] S256x256.size inb_S256x2816_S256x256_0_2048)))
    (k0_pay11 (F := Ideal) (up X0) (View.ld (Val := Elt Ideal) (e' := .bf16) (up X3) (Rect.unit (s := S2816x1024) ![2304, 0] S256x1024.size inb_S2816x1024_S256x1024_2304_0)) (View.ld (Val := Elt Ideal) (e' := .bf16) (up X1) (Rect.unit (s := S256x2816) ![0, 2304] S256x256.size inb_S256x2816_S256x256_0_2304)) (View.ld (Val := Elt Ideal) (e' := .bf16) (up X2) (Rect.unit (s := S256x2816) ![0, 2304] S256x256.size inb_S256x2816_S256x256_0_2304)))
    (k0_pay11 (F := Ideal) (up X0) (View.ld (Val := Elt Ideal) (e' := .bf16) (up X3) (Rect.unit (s := S2816x1024) ![2560, 0] S256x1024.size inb_S2816x1024_S256x1024_2560_0)) (View.ld (Val := Elt Ideal) (e' := .bf16) (up X1) (Rect.unit (s := S256x2816) ![0, 2560] S256x256.size inb_S256x2816_S256x256_0_2560)) (View.ld (Val := Elt Ideal) (e' := .bf16) (up X2) (Rect.unit (s := S256x2816) ![0, 2560] S256x256.size inb_S256x2816_S256x256_0_2560)))

def upL (X0 : S256x1024.Idx → ℝ) (X1 : S256x2816.Idx → ℝ) (X3 : S2816x1024.Idx → ℝ) : List (View.Piece (Elt Ideal) S256x2816 .bf16) :=
  chunks
    (k0_pay12 (F := Ideal) (up X0) (View.ld (Val := Elt Ideal) (e' := .bf16) (up X3) (Rect.unit (s := S2816x1024) ![0, 0] S256x1024.size inb_S2816x1024_S256x1024_0_0)) (View.ld (Val := Elt Ideal) (e' := .bf16) (up X1) (Rect.unit (s := S256x2816) ![0, 0] S256x256.size inb_S256x2816_S256x256_0_0)))
    (k0_pay12 (F := Ideal) (up X0) (View.ld (Val := Elt Ideal) (e' := .bf16) (up X3) (Rect.unit (s := S2816x1024) ![256, 0] S256x1024.size inb_S2816x1024_S256x1024_256_0)) (View.ld (Val := Elt Ideal) (e' := .bf16) (up X1) (Rect.unit (s := S256x2816) ![0, 256] S256x256.size inb_S256x2816_S256x256_0_256)))
    (k0_pay12 (F := Ideal) (up X0) (View.ld (Val := Elt Ideal) (e' := .bf16) (up X3) (Rect.unit (s := S2816x1024) ![512, 0] S256x1024.size inb_S2816x1024_S256x1024_512_0)) (View.ld (Val := Elt Ideal) (e' := .bf16) (up X1) (Rect.unit (s := S256x2816) ![0, 512] S256x256.size inb_S256x2816_S256x256_0_512)))
    (k0_pay12 (F := Ideal) (up X0) (View.ld (Val := Elt Ideal) (e' := .bf16) (up X3) (Rect.unit (s := S2816x1024) ![768, 0] S256x1024.size inb_S2816x1024_S256x1024_768_0)) (View.ld (Val := Elt Ideal) (e' := .bf16) (up X1) (Rect.unit (s := S256x2816) ![0, 768] S256x256.size inb_S256x2816_S256x256_0_768)))
    (k0_pay12 (F := Ideal) (up X0) (View.ld (Val := Elt Ideal) (e' := .bf16) (up X3) (Rect.unit (s := S2816x1024) ![1024, 0] S256x1024.size inb_S2816x1024_S256x1024_1024_0)) (View.ld (Val := Elt Ideal) (e' := .bf16) (up X1) (Rect.unit (s := S256x2816) ![0, 1024] S256x256.size inb_S256x2816_S256x256_0_1024)))
    (k0_pay12 (F := Ideal) (up X0) (View.ld (Val := Elt Ideal) (e' := .bf16) (up X3) (Rect.unit (s := S2816x1024) ![1280, 0] S256x1024.size inb_S2816x1024_S256x1024_1280_0)) (View.ld (Val := Elt Ideal) (e' := .bf16) (up X1) (Rect.unit (s := S256x2816) ![0, 1280] S256x256.size inb_S256x2816_S256x256_0_1280)))
    (k0_pay12 (F := Ideal) (up X0) (View.ld (Val := Elt Ideal) (e' := .bf16) (up X3) (Rect.unit (s := S2816x1024) ![1536, 0] S256x1024.size inb_S2816x1024_S256x1024_1536_0)) (View.ld (Val := Elt Ideal) (e' := .bf16) (up X1) (Rect.unit (s := S256x2816) ![0, 1536] S256x256.size inb_S256x2816_S256x256_0_1536)))
    (k0_pay12 (F := Ideal) (up X0) (View.ld (Val := Elt Ideal) (e' := .bf16) (up X3) (Rect.unit (s := S2816x1024) ![1792, 0] S256x1024.size inb_S2816x1024_S256x1024_1792_0)) (View.ld (Val := Elt Ideal) (e' := .bf16) (up X1) (Rect.unit (s := S256x2816) ![0, 1792] S256x256.size inb_S256x2816_S256x256_0_1792)))
    (k0_pay12 (F := Ideal) (up X0) (View.ld (Val := Elt Ideal) (e' := .bf16) (up X3) (Rect.unit (s := S2816x1024) ![2048, 0] S256x1024.size inb_S2816x1024_S256x1024_2048_0)) (View.ld (Val := Elt Ideal) (e' := .bf16) (up X1) (Rect.unit (s := S256x2816) ![0, 2048] S256x256.size inb_S256x2816_S256x256_0_2048)))
    (k0_pay12 (F := Ideal) (up X0) (View.ld (Val := Elt Ideal) (e' := .bf16) (up X3) (Rect.unit (s := S2816x1024) ![2304, 0] S256x1024.size inb_S2816x1024_S256x1024_2304_0)) (View.ld (Val := Elt Ideal) (e' := .bf16) (up X1) (Rect.unit (s := S256x2816) ![0, 2304] S256x256.size inb_S256x2816_S256x256_0_2304)))
    (k0_pay12 (F := Ideal) (up X0) (View.ld (Val := Elt Ideal) (e' := .bf16) (up X3) (Rect.unit (s := S2816x1024) ![2560, 0] S256x1024.size inb_S2816x1024_S256x1024_2560_0)) (View.ld (Val := Elt Ideal) (e' := .bf16) (up X1) (Rect.unit (s := S256x2816) ![0, 2560] S256x256.size inb_S256x2816_S256x256_0_2560)))

section lists
variable (X0 : S256x1024.Idx → ℝ) (X1 X2 : S256x2816.Idx → ℝ) (X3 : S2816x1024.Idx → ℝ)

theorem canon_gate : View.canon (gateL X0 X1 X2 X3) = up (dgb X0 X1 X2 X3) :=
  canon_chunks _ _ _ _ _ _ _ _ _ _ _ (up (dgb X0 X1 X2 X3))
    (q11 X0 X1 X2 X3 0 (by norm_num) _ _)
    (q11 X0 X1 X2 X3 256 (by norm_num) _ _)
    (q11 X0 X1 X2 X3 512 (by norm_num) _ _)
    (q11 X0 X1 X2 X3 768 (by norm_num) _ _)
    (q11 X0 X1 X2 X3 1024 (by norm_num) _ _)
    (q11 X0 X1 X2 X3 1280 (by norm_num) _ _)
    (q11 X0 X1 X2 X3 1536 (by norm_num) _ _)
    (q11 X0 X1 X2 X3 1792 (by norm_num) _ _)
    (q11 X0 X1 X2 X3 2048 (by norm_num) _ _)
    (q11 X0 X1 X2 X3 2304 (by norm_num) _ _)
    (q11 X0 X1 X2 X3 2560 (by norm_num) _ _)

theorem canon_up : View.canon (upL X0 X1 X3) = up (dub X0 X1 X3) :=
  canon_chunks _ _ _ _ _ _ _ _ _ _ _ (up (dub X0 X1 X3))
    (q12 X0 X1 X3 0 (by norm_num) _ _)
    (q12 X0 X1 X3 256 (by norm_num) _ _)
    (q12 X0 X1 X3 512 (by norm_num) _ _)
    (q12 X0 X1 X3 768 (by norm_num) _ _)
    (q12 X0 X1 X3 1024 (by norm_num) _ _)
    (q12 X0 X1 X3 1280 (by norm_num) _ _)
    (q12 X0 X1 X3 1536 (by norm_num) _ _)
    (q12 X0 X1 X3 1792 (by norm_num) _ _)
    (q12 X0 X1 X3 2048 (by norm_num) _ _)
    (q12 X0 X1 X3 2304 (by norm_num) _ _)
    (q12 X0 X1 X3 2560 (by norm_num) _ _)

theorem read_whole (v : View sig .tc .vmem S256x2816 .bf16) (L : List (View.Piece (Elt Ideal) S256x2816 .bf16)) (G : S256x2816.Idx → Elt Ideal .bf16)
    (h : View.canon L = G) : v.readCov L (Rect.unit (s := S256x2816) ![0, 0] S256x2816.size inb_S256x2816_S256x2816_0_0).toLoadRect = G := by
  rw [View.readCov_eq_canon', h]
  exact View.ld_unit_zero (S := S256x2816) hz _ G

end lists

section points

variable (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S1x1024 .f32) (harg13 : arg13.IsWhole)

theorem outA8 (hc : cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ)
    (h0 : x0 = up X0) (h1 : x1 = up X1) (h2 : x2 = up X2) (h3 : x3 = up X3) (h4 : x4 = up X4) (h5 : x5 = up X5) (h6 : x6 = up X6) (h7 : x7 = up X7) :
    out0_A_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = up (dgb X0 X1 X2 X3) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  exact canon_gate X0 X1 X2 X3

theorem outA9 (hc : cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ)
    (h0 : x0 = up X0) (h1 : x1 = up X1) (h2 : x2 = up X2) (h3 : x3 = up X3) (h4 : x4 = up X4) (h5 : x5 = up X5) (h6 : x6 = up X6) (h7 : x7 = up X7) :
    out0_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = up (dub X0 X1 X3) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  exact canon_up X0 X1 X3

theorem outA10 (hc : cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ)
    (h0 : x0 = up X0) (h1 : x1 = up X1) (h2 : x2 = up X2) (h3 : x3 = up X3) (h4 : x4 = up X4) (h5 : x5 = up X5) (h6 : x6 = up X6) (h7 : x7 = up X7) :
    out0_A_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = up (dxb X0 X6 X7 (dhb X0 X1 X2 X3 X4 X5)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  rw [View.canon_unit_zero hz]
  refine (congrArg₂ (fun a b => k0_pay4 (F := Ideal) (k0_pay77 a (up X4) b (up X5)) (up X6) (k0_pay78 (up X6)) (up X0) (up X7))
    (read_whole arg9.view (gateL X0 X1 X2 X3) _ (canon_gate X0 X1 X2 X3)) (read_whole arg10.view (upL X0 X1 X3) _ (canon_up X0 X1 X3))).trans ?_
  rw [p77]
  exact p4 X0 X6 X7 (dhb X0 X1 X2 X3 X4 X5)

theorem outA11 (hc : cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ)
    (h0 : x0 = up X0) (h1 : x1 = up X1) (h2 : x2 = up X2) (h3 : x3 = up X3) (h4 : x4 = up X4) (h5 : x5 = up X5) (h6 : x6 = up X6) (h7 : x7 = up X7) :
    out0_A_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = up (dxb X0 X6 X7 (dhb X0 X1 X2 X3 X4 X5)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  rw [View.canon_unit_zero hz]
  refine (congrArg₂ (fun a b => k0_pay5 (F := Ideal) (k0_pay77 a (up X4) b (up X5)) (up X6) (k0_pay78 (up X6)) (up X0) (up X7))
    (read_whole arg9.view (gateL X0 X1 X2 X3) _ (canon_gate X0 X1 X2 X3)) (read_whole arg10.view (upL X0 X1 X3) _ (canon_up X0 X1 X3))).trans ?_
  rw [p77]
  exact p5 X0 X6 X7 (dhb X0 X1 X2 X3 X4 X5)

theorem outA12 (hc : cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ)
    (h0 : x0 = up X0) (h1 : x1 = up X1) (h2 : x2 = up X2) (h3 : x3 = up X3) (h4 : x4 = up X4) (h5 : x5 = up X5) (h6 : x6 = up X6) (h7 : x7 = up X7) :
    out0_A_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = fun j => ((∑ n, dnb X6 (dhb X0 X1 X2 X3 X4 X5) n (j 1) : ℝ) : EReal) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  rw [View.canon_cons_unit_zero (S := S1x1024) hz, View.readCov_unit_zero (S := S1x1024) _ hz]
  refine (congrArg₂ (fun a b => k0_pay3 (F := Ideal) (k0_pay77 a (up X4) b (up X5)) (up X6) (k0_pay78 (up X6)) (k0_pay6 (F := Ideal)))
    (read_whole arg9.view (gateL X0 X1 X2 X3) _ (canon_gate X0 X1 X2 X3)) (read_whole arg10.view (upL X0 X1 X3) _ (canon_up X0 X1 X3))).trans ?_
  rw [p77]
  refine (p3 X6 (dhb X0 X1 X2 X3 X4 X5) (fun _ => 0) _ (funext fun _ => c_zero)).trans (funext fun j => ?_)
  rw [zero_add]

theorem outB8 (hc : ¬cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32) (p12 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ)
    (h0 : x0 = up X0) (h1 : x1 = up X1) (h2 : x2 = up X2) (h3 : x3 = up X3) (h4 : x4 = up X4) (h5 : x5 = up X5) (h6 : x6 = up X6) (h7 : x7 = up X7) :
    out0_B_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12 = up (dgb X0 X1 X2 X3) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  exact canon_gate X0 X1 X2 X3

theorem outB9 (hc : ¬cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32) (p12 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ)
    (h0 : x0 = up X0) (h1 : x1 = up X1) (h2 : x2 = up X2) (h3 : x3 = up X3) (h4 : x4 = up X4) (h5 : x5 = up X5) (h6 : x6 = up X6) (h7 : x7 = up X7) :
    out0_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12 = up (dub X0 X1 X3) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  exact canon_up X0 X1 X3

theorem outB10 (hc : ¬cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32) (p12 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ)
    (h0 : x0 = up X0) (h1 : x1 = up X1) (h2 : x2 = up X2) (h3 : x3 = up X3) (h4 : x4 = up X4) (h5 : x5 = up X5) (h6 : x6 = up X6) (h7 : x7 = up X7) :
    out0_B_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12 = up (dxb X0 X6 X7 (dhb X0 X1 X2 X3 X4 X5)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  rw [View.canon_unit_zero hz]
  refine (congrArg₂ (fun a b => k0_pay4 (F := Ideal) (k0_pay77 a (up X4) b (up X5)) (up X6) (k0_pay78 (up X6)) (up X0) (up X7))
    (read_whole arg9.view (gateL X0 X1 X2 X3) _ (canon_gate X0 X1 X2 X3)) (read_whole arg10.view (upL X0 X1 X3) _ (canon_up X0 X1 X3))).trans ?_
  rw [p77]
  exact p4 X0 X6 X7 (dhb X0 X1 X2 X3 X4 X5)

theorem outB11 (hc : ¬cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32) (p12 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ)
    (h0 : x0 = up X0) (h1 : x1 = up X1) (h2 : x2 = up X2) (h3 : x3 = up X3) (h4 : x4 = up X4) (h5 : x5 = up X5) (h6 : x6 = up X6) (h7 : x7 = up X7) :
    out0_B_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12 = up (dxb X0 X6 X7 (dhb X0 X1 X2 X3 X4 X5)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  rw [View.canon_unit_zero hz]
  refine (congrArg₂ (fun a b => k0_pay5 (F := Ideal) (k0_pay77 a (up X4) b (up X5)) (up X6) (k0_pay78 (up X6)) (up X0) (up X7))
    (read_whole arg9.view (gateL X0 X1 X2 X3) _ (canon_gate X0 X1 X2 X3)) (read_whole arg10.view (upL X0 X1 X3) _ (canon_up X0 X1 X3))).trans ?_
  rw [p77]
  exact p5 X0 X6 X7 (dhb X0 X1 X2 X3 X4 X5)

theorem outB12 (hc : ¬cond0_0 i) (x0 : Vec Ideal S256x1024 .f32) (x1 : Vec Ideal S256x2816 .bf16) (x2 : Vec Ideal S256x2816 .bf16) (x3 : Vec Ideal S2816x1024 .bf16) (x4 : Vec Ideal S2816x1024 .bf16) (x5 : Vec Ideal S2816x1024 .bf16) (x6 : Vec Ideal S256x1024 .f32) (x7 : Vec Ideal S1x1024 .f32) (p12 : Vec Ideal S1x1024 .f32)
    (X0 : S256x1024.Idx → ℝ) (X1 : S256x2816.Idx → ℝ) (X2 : S256x2816.Idx → ℝ) (X3 : S2816x1024.Idx → ℝ) (X4 : S2816x1024.Idx → ℝ) (X5 : S2816x1024.Idx → ℝ) (X6 : S256x1024.Idx → ℝ) (X7 : S1x1024.Idx → ℝ) (w : Fin 1024 → ℝ) (hw : p12 = fun j => ((w (j 1) : ℝ) : EReal))
    (h0 : x0 = up X0) (h1 : x1 = up X1) (h2 : x2 = up X2) (h3 : x3 = up X3) (h4 : x4 = up X4) (h5 : x5 = up X5) (h6 : x6 = up X6) (h7 : x7 = up X7) :
    out0_B_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12 = fun j => ((w (j 1) + ∑ n, dnb X6 (dhb X0 X1 X2 X3 X4 X5) n (j 1) : ℝ) : EReal) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 p12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  simp only [View.ld_unit_zero (S := S256x1024) hz, View.ld_unit_zero (S := S2816x1024) hz, View.ld_unit_zero (S := S1x1024) hz]
  simp only [g1, g2, g3, g4, g5, g6, g7, g8, g9, g10, u1, u2, u3, u4, u5, u6, u7, u8, u9, u10]
  subst h0 h1 h2 h3 h4 h5 h6 h7
  rw [View.canon_unit_zero hz]
  refine (congrArg₂ (fun a b => k0_pay3 (F := Ideal) (k0_pay77 a (up X4) b (up X5)) (up X6) (k0_pay78 (up X6)) p12)
    (read_whole arg9.view (gateL X0 X1 X2 X3) _ (canon_gate X0 X1 X2 X3)) (read_whole arg10.view (upL X0 X1 X3) _ (canon_up X0 X1 X3))).trans ?_
  rw [p77]
  exact p3 X6 (dhb X0 X1 X2 X3 X4 X5) w p12 hw

end points

end Cert.FfnOut

end
-- ==== Proof.FfnRef.lean ====
/- The feed-forward layer's reference at real arguments: each of its five results in the form of Proof/FfnRow.lean. -/
module

public import proofs.«01_k».proof.Proof.FfnRow
public import proofs.«01_k».proof.Proof.Gen.FfnRefIdeal.Read

@[expose] public section

noncomputable section

namespace Cert.FfnRef

open Idealize.ShloMosaic Cert.FfnRefIdeal Cert.FfnRefIdeal.Gen Cert.FfnRefIdeal.Read Cert.Lift

variable (X : S8192x1024.Idx → ℝ) (G : S1024.Idx → ℝ) (P U : S1024x2816.Idx → ℝ) (W : S2816x1024.Idx → ℝ) (C : S8192x1024.Idx → ℝ)

/-- A row of the residual stream; the gain; the normed row; its product with a weight matrix. -/
def z (n : Fin 8192) (d : Fin 1024) : ℝ := X (ix2 n d)
def gn (d : Fin 1024) : ℝ := G (ix1 d)
def h (n : Fin 8192) (d : Fin 1024) : ℝ := z X n d * LossRow.r (z X n) * gn G d
def proj (n : Fin 8192) (k : Fin 2816) : ℝ := ∑ d : Fin 1024, h X G n d * P (ix2 d k)

/-- The gradient by the activation. -/
def da (n : Fin 8192) (k : Fin 2816) : ℝ := ∑ d : Fin 1024, C (ix2 n d) * W (ix2 k d)

/-- The gradients by the gate, by the up projection, and by the normed row. -/
def dgate (n : Fin 8192) (k : Fin 2816) : ℝ := FfnRow.dgate (da W C n k) (proj X G P n k) (proj X G U n k)
def dup (n : Fin 8192) (k : Fin 2816) : ℝ := FfnRow.dup (da W C n k) (proj X G P n k)
def dh (n : Fin 8192) (d : Fin 1024) : ℝ := (∑ k : Fin 2816, dgate X G P U W C n k * P (ix2 d k)) + ∑ k : Fin 2816, dup X G P W C n k * U (ix2 d k)

/-- The gradients by the residual stream and by the gain. -/
def dx (n : Fin 8192) (d : Fin 1024) : ℝ := C (ix2 n d) + FfnRow.back (z X n) (fun e => dh X G P U W C n e * gn G e) d
def dg (d : Fin 1024) : ℝ := ∑ n, dh X G P U W C n d * (z X n d * LossRow.r (z X n))

section idx
variable (n : Fin 8192) (d : Fin 1024) (k : Fin 2816)
theorem i_1 (e : Fin 1024) : idx_main_v1 (ix1 n) e = ix2 n e := by funext a; match a with | ⟨0, _⟩ => rfl | ⟨1, _⟩ => rfl
theorem i_35 (e : Fin 1024) : idx_main_v35 (ix1 n) e = ix2 n e := i_1 n e
theorem i_2 (j : Fin 1) : idx_main_v2 (ix2 n j) = ix1 n := by funext a; match a with | ⟨0, _⟩ => rfl
theorem i_36 (j : Fin 1) : idx_main_v36 (ix2 n j) = ix1 n := by
  funext a; match a with | ⟨0, _⟩ => exact Fin.ext (by show n.val * 1 + j.val = n.val; omega)
theorem i_11 : idx_main_v11 (ix2 n d) = ix2 n 0 := by funext a; match a with | ⟨0, _⟩ => rfl | ⟨1, _⟩ => rfl
theorem i_37 : idx_main_v37 (ix2 n d) = ix2 n 0 := i_11 n d
theorem i_13 (j : Fin 1) : idx_main_v13 (ix2 j d) = ix1 d := by funext a; match a with | ⟨0, _⟩ => rfl
theorem i_14 : idx_main_v14 (ix2 n d) = ix2 0 d := by funext a; match a with | ⟨0, _⟩ => rfl | ⟨1, _⟩ => rfl
theorem i_31 : idx_main_v31 (ix2 n d) = ix2 0 d := i_14 n d
theorem i_l16 (e : Fin 1024) : lidx_main_v16 (ix2 n k) e = ix2 n e := by funext a; match a with | ⟨0, _⟩ => rfl | ⟨1, _⟩ => rfl
theorem i_r16 (e : Fin 1024) : ridx_main_v16 (ix2 n k) e = ix2 e k := by funext a; match a with | ⟨0, _⟩ => rfl | ⟨1, _⟩ => rfl
theorem i_l17 (e : Fin 1024) : lidx_main_v17 (ix2 n k) e = ix2 n e := i_l16 n k e
theorem i_r17 (e : Fin 1024) : ridx_main_v17 (ix2 n k) e = ix2 e k := i_r16 n k e
theorem i_l21 (e : Fin 1024) : lidx_main_v21 (ix2 n k) e = ix2 n e := i_l16 n k e
theorem i_r21 (e : Fin 1024) : ridx_main_v21 (ix2 n k) e = ix2 k e := by funext a; match a with | ⟨0, _⟩ => rfl | ⟨1, _⟩ => rfl
theorem i_l25 : lidx_main_v25 (ix2 n d) k = ix2 n k := by funext a; match a with | ⟨0, _⟩ => rfl | ⟨1, _⟩ => rfl
theorem i_r25 : ridx_main_v25 (ix2 n d) k = ix2 d k := by funext a; match a with | ⟨0, _⟩ => rfl | ⟨1, _⟩ => rfl
theorem i_l26 : lidx_main_v26 (ix2 n d) k = ix2 n k := i_l25 n d k
theorem i_r26 : ridx_main_v26 (ix2 n d) k = ix2 d k := i_r25 n d k
theorem i_29 : idx_main_v29 (ix1 d) n = ix2 n d := by funext a; match a with | ⟨0, _⟩ => rfl | ⟨1, _⟩ => rfl
theorem i_30 (j : Fin 1) : idx_main_v30 (ix2 j d) = ix1 d := by
  funext a; match a with | ⟨0, _⟩ => exact Fin.ext (by show j.val * 1024 + d.val = d.val; omega)
theorem i_52 (j : Fin 1) : idx_main_v52 (ix2 j d) = ix1 d := i_30 d j
theorem i_33 (j : Fin 1) : idx_main_v33 (ix1 d) j = ix2 j d := by funext a; match a with | ⟨0, _⟩ => rfl | ⟨1, _⟩ => rfl
theorem i_42 (j : Fin 1) : idx_main_v42 (ix1 n) j = ix2 n j := by funext a; match a with | ⟨0, _⟩ => rfl | ⟨1, _⟩ => rfl
theorem i_43 : idx_main_v43 (ix2 n d) = ix1 n := by funext a; match a with | ⟨0, _⟩ => rfl
end idx

section stages
variable (n : Fin 8192) (d : Fin 1024) (k : Fin 2816) (j : Fin 1)

theorem s6 : val_main_v6 (F := Ideal) (up X) (ix2 n j) = ((LossRow.v (z X n) : ℝ) : EReal) := by
  simp only [val_main_v6_apply, val_main_v5_apply, val_main_v4_apply, val_main_v3_apply, val_main_v2_apply, val_main_v1_apply, val_main_v0_apply,
    val_main_cst_apply, val_main_cst_0_apply, val_main_cst_1_apply, i_2, i_1, up, Ideal.ofBits_def, Ideal.addf_def, Ideal.mulf_def, Ideal.hostDivf_def,
    c_zero, c_1024, c_eps, ← EReal.coe_mul, sum_coe, ← EReal.coe_add, div_coe (by norm_num : (1024 : ℝ) ≠ 0), zero_add]
  rfl

theorem s7 : val_main_v7 (F := Ideal) (up X) (ix2 n j) = ((LossRow.r (z X n) : ℝ) : EReal) := by
  rw [val_main_v7_apply, s6, Ideal.hostUnary_rsqrt_def, rsqrt_coe (LossRow.v_pos _)]; rfl

theorem s12 : val_main_v12 (F := Ideal) (up X) (ix2 n d) = ((z X n d * LossRow.r (z X n) : ℝ) : EReal) := by
  simp only [val_main_v12_apply, val_main_v11_apply, i_11, up, s7, Ideal.mulf_def, ← EReal.coe_mul]
  rfl

theorem s15 : val_main_v15 (F := Ideal) (up X) (up G) (ix2 n d) = ((h X G n d : ℝ) : EReal) := by
  simp only [val_main_v15_apply, val_main_v14_apply, val_main_v13_apply, i_14, i_13, s12, up, Ideal.mulf_def, ← EReal.coe_mul]
  rfl

theorem s16 : val_main_v16 (F := Ideal) (up X) (up G) (up P) (ix2 n k) = ((proj X G P n k : ℝ) : EReal) := by
  simp only [val_main_v16_apply, i_l16, i_r16, s15, up, ← EReal.coe_mul, sum_coe]
  rfl

theorem s17 : val_main_v17 (F := Ideal) (up X) (up G) (up U) (ix2 n k) = ((proj X G U n k : ℝ) : EReal) := by
  simp only [val_main_v17_apply, i_l17, i_r17, s15, up, ← EReal.coe_mul, sum_coe]
  rfl

theorem s21 : val_main_v21 (F := Ideal) (up W) (up C) (ix2 n k) = ((da W C n k : ℝ) : EReal) := by
  simp only [val_main_v21_apply, i_l21, i_r21, up, ← EReal.coe_mul, sum_coe]
  rfl

/-- The gate's logistic function. -/
theorem s18_2 : val_main_v18_2 (F := Ideal) (up X) (up G) (up P) (ix2 n k) = ((FfnRow.sg (proj X G P n k) : ℝ) : EReal) := by
  simp only [val_main_v18_2_apply, val_main_call0_v4_apply, val_main_call0_cst_0_apply, val_main_call0_v3_apply, val_main_call0_v2_apply,
    val_main_call0_cst_apply, val_main_call0_v1_apply, val_main_call0_v0_apply, s16, Ideal.ofBits_def, Ideal.addf_def, Ideal.hostDivf_def,
    Ideal.hostNegf_def, Ideal.negf_def, Ideal.hostUnary_exp_def, c_one, ← EReal.coe_neg, Ideal.exp_coe, ← EReal.coe_add, div_coe (FfnRow.sg_den _)]
  rfl

theorem s22 : val_main_v22 (F := Ideal) (up X) (up G) (up P) (up W) (up C) (ix2 n k) = ((dup X G P W C n k : ℝ) : EReal) := by
  simp only [val_main_v22_apply, val_main_v18_0_apply, s16, s18_2, s21, Ideal.mulf_def, ← EReal.coe_mul, FfnRow.dup_of_parts]
  rfl

theorem s24 : val_main_v24 (F := Ideal) (up X) (up G) (up P) (up U) (up W) (up C) (ix2 n k) = ((dgate X G P U W C n k : ℝ) : EReal) := by
  simp only [val_main_v24_apply, val_main_call1_v1_apply, val_main_call1_v2_apply, val_main_call1_v0_apply, val_main_v23_apply, val_main_v18_1_apply,
    val_main_call0_v7_apply, val_main_call0_v6_apply, val_main_call0_cst_1_apply, s16, s17, s18_2, s21, Ideal.ofBits_def, Ideal.mulf_def, Ideal.addf_def,
    Ideal.subf_def, c_one, ← EReal.coe_mul, ← EReal.coe_sub, ← EReal.coe_add, FfnRow.dgate_of_parts]
  rfl

theorem s27 : val_main_v27 (F := Ideal) (up X) (up G) (up P) (up U) (up W) (up C) (ix2 n d) = ((dh X G P U W C n d : ℝ) : EReal) := by
  simp only [val_main_v27_apply, val_main_v26_apply, val_main_v25_apply, i_l25, i_r25, i_l26, i_r26, s22, s24, up, Ideal.addf_def, ← EReal.coe_mul, sum_coe,
    ← EReal.coe_add]
  exact congrArg _ (add_comm _ _)

theorem s32 : val_main_v32 (F := Ideal) (up X) (up G) (up P) (up U) (up W) (up C) (ix2 n d) = ((dh X G P U W C n d * gn G d : ℝ) : EReal) := by
  simp only [val_main_v32_apply, val_main_v31_apply, val_main_v13_apply, i_31, i_13, s27, up, Ideal.mulf_def, ← EReal.coe_mul]
  rfl

theorem s43 : val_main_v43 (F := Ideal) (up X) (up G) (up P) (up U) (up W) (up C) (ix2 n d)
    = (((∑ e, z X n e * (dh X G P U W C n e * gn G e)) * (-(1 / 2) * (LossRow.r (z X n) / LossRow.v (z X n))) / 1024 : ℝ) : EReal) := by
  simp only [val_main_v43_apply, val_main_v42_apply, val_main_v41_apply, val_main_v40_apply, val_main_v39_apply, val_main_v36_apply, val_main_v35_apply,
    val_main_v34_apply, val_main_v10_apply, val_main_v9_apply, val_main_v8_apply, val_main_cst_2_apply, val_main_cst_5_apply, val_main_cst_6_apply,
    val_main_cst_7_apply, i_43, i_42, i_36, i_35, s6, s7, s32, up, Ideal.ofBits_def, Ideal.mulf_def, Ideal.hostDivf_def,
    c_zero, c_negHalf, c_1024, ← EReal.coe_mul, sum_coe, ← EReal.coe_add, div_coe (by norm_num : (1024 : ℝ) ≠ 0), div_coe (LossRow.v_pos _).ne', zero_add,
    Fin.sum_univ_one]
  rfl

/-- The gradient by the residual row. -/
theorem s48 : val_main_v48 (F := Ideal) (up X) (up G) (up P) (up U) (up W) (up C) (ix2 n d) = ((dx X G P U W C n d : ℝ) : EReal) := by
  simp only [val_main_v48_apply, val_main_v47_apply, val_main_v46_apply, val_main_v45_apply, val_main_v44_apply, val_main_v38_apply, val_main_v37_apply, i_37,
    s7, s32, s43, up, Ideal.mulf_def, Ideal.addf_def, ← EReal.coe_mul, ← EReal.coe_add]
  exact congrArg (fun a : ℝ => ((C (ix2 n d) + a : ℝ) : EReal)) (FfnRow.back_of_parts (z X n) (fun e => dh X G P U W C n e * gn G e) d _ rfl)

/-- The gradient by the norm's gain. -/
theorem s52 : val_main_v52 (F := Ideal) (up X) (up G) (up P) (up U) (up W) (up C) (ix2 j d) = ((dg X G P U W C d : ℝ) : EReal) := by
  simp only [val_main_v52_apply, val_main_v33_apply, val_main_v30_apply, val_main_v29_apply, val_main_v28_apply, val_main_cst_3_apply, val_main_cst_4_apply,
    i_52, i_33, i_30, i_29, s12, s27, Ideal.ofBits_def, Ideal.mulf_def, c_zero, ← EReal.coe_mul, sum_coe, ← EReal.coe_add, zero_add, Fin.sum_univ_one]
  exact congrArg _ (Finset.sum_congr rfl fun n _ => mul_comm _ _)

end stages

end Cert.FfnRef

end
-- ==== Proof.FfnValue.lean ====
/- What the feed-forward layer's backward kernel leaves in its five result arrays, at real arguments. -/
module

public import proofs.«01_k».proof.Proof.FfnOut
public import proofs.«01_k».proof.Proof.FfnRef
public import Idealize.ShloMosaic.Lib.StableHlo.RunRead
public import Idealize.ShloMosaic.Lib.Tactic

@[expose] public section

noncomputable section

namespace Cert.FfnValue

open Idealize.ShloMosaic Idealize.ShloMosaic.TcCoe Idealize.SL.Sem
open Idealize.ShloMosaic.Pipeline (Dat)
open Cert.FfnIdeal Cert.FfnIdeal.Gen Cert.Lift Cert.FfnBlock Cert.FfnOut

variable (m : (ℓ : Loc nD τ sig) → Buf (Elt Ideal) ℓ) (c : Dev nD)
variable (X : S8192x1024.Idx → ℝ) (G : S1024.Idx → ℝ) (P U : S1024x2816.Idx → ℝ) (W : S2816x1024.Idx → ℝ) (C : S8192x1024.Idx → ℝ)

/-- Core `c`'s six arguments are these real arrays. -/
structure Real6 : Prop where
  x : m ((c : Thread nD τ).loc main_arg0) = up X
  gain : m ((c : Thread nD τ).loc main_arg1) = up G
  wg : m ((c : Thread nD τ).loc main_arg2) = up P
  wu : m ((c : Thread nD τ).loc main_arg3) = up U
  wd : m ((c : Thread nD τ).loc main_arg4) = up W
  ct : m ((c : Thread nD τ).loc main_arg5) = up C

theorem lt32 (t : Fin cfg0.N) : t.val < 32 := lt_of_lt_of_eq t.isLt (show cfg0.N = 32 from N_0)

/-- Row `n` of point `t`'s block of rows. -/
def rowOf (t : Fin cfg0.N) (n : Fin 256) : Fin 8192 := ⟨256 * t.val + n.val, by have := lt32 t; omega⟩

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem emb0 (t : Fin cfg0.N) (y : S256x1024.Idx) : ((cfg0.win 0).blk t).view.emb y = ix2 (rowOf t (y 0)) (y 1) := by
  obtain ⟨⟨e, e'⟩, _⟩ := idx_facts t
  funext a; apply Fin.ext
  match a with
  | ⟨0, _⟩ => show win0_0.index t (0 : Fin 2) * 256 + 1 * (y 0).val = 256 * t.val + (y 0).val; omega
  | ⟨1, _⟩ => show win0_0.index t (1 : Fin 2) * 1024 + 1 * (y 1).val = (y 1).val; omega

theorem emb1 (t : Fin cfg0.N) (y : S256x2816.Idx) : ((cfg0.win 1).blk t).view.emb y = ix2 (rowOf t (y 0)) (y 1) := by
  obtain ⟨_, ⟨e, e'⟩, _⟩ := idx_facts t
  funext a; apply Fin.ext
  match a with
  | ⟨0, _⟩ => show win0_1.index t (0 : Fin 2) * 256 + 1 * (y 0).val = 256 * t.val + (y 0).val; omega
  | ⟨1, _⟩ => show win0_1.index t (1 : Fin 2) * 2816 + 1 * (y 1).val = (y 1).val; omega

theorem emb2 (t : Fin cfg0.N) (y : S256x2816.Idx) : ((cfg0.win 2).blk t).view.emb y = ix2 (rowOf t (y 0)) (y 1) := by
  obtain ⟨_, _, ⟨e, e'⟩, _⟩ := idx_facts t
  funext a; apply Fin.ext
  match a with
  | ⟨0, _⟩ => show win0_2.index t (0 : Fin 2) * 256 + 1 * (y 0).val = 256 * t.val + (y 0).val; omega
  | ⟨1, _⟩ => show win0_2.index t (1 : Fin 2) * 2816 + 1 * (y 1).val = (y 1).val; omega

theorem emb3 (t : Fin cfg0.N) (y : S2816x1024.Idx) : ((cfg0.win 3).blk t).view.emb y = y := by
  obtain ⟨_, _, _, ⟨e, e'⟩, _⟩ := idx_facts t
  funext a; apply Fin.ext
  match a with
  | ⟨0, _⟩ => show win0_3.index t (0 : Fin 2) * 2816 + 1 * (y 0).val = (y 0).val; omega
  | ⟨1, _⟩ => show win0_3.index t (1 : Fin 2) * 1024 + 1 * (y 1).val = (y 1).val; omega

theorem emb4 (t : Fin cfg0.N) (y : S2816x1024.Idx) : ((cfg0.win 4).blk t).view.emb y = y := by
  obtain ⟨_, _, _, _, ⟨e, e'⟩, _⟩ := idx_facts t
  funext a; apply Fin.ext
  match a with
  | ⟨0, _⟩ => show win0_4.index t (0 : Fin 2) * 2816 + 1 * (y 0).val = (y 0).val; omega
  | ⟨1, _⟩ => show win0_4.index t (1 : Fin 2) * 1024 + 1 * (y 1).val = (y 1).val; omega

theorem emb5 (t : Fin cfg0.N) (y : S2816x1024.Idx) : ((cfg0.win 5).blk t).view.emb y = y := by
  obtain ⟨_, _, _, _, _, ⟨e, e'⟩, _⟩ := idx_facts t
  funext a; apply Fin.ext
  match a with
  | ⟨0, _⟩ => show win0_5.index t (0 : Fin 2) * 2816 + 1 * (y 0).val = (y 0).val; omega
  | ⟨1, _⟩ => show win0_5.index t (1 : Fin 2) * 1024 + 1 * (y 1).val = (y 1).val; omega

theorem emb6 (t : Fin cfg0.N) (y : S256x1024.Idx) : ((cfg0.win 6).blk t).view.emb y = ix2 (rowOf t (y 0)) (y 1) := by
  obtain ⟨_, _, _, _, _, _, ⟨e, e'⟩, _⟩ := idx_facts t
  funext a; apply Fin.ext
  match a with
  | ⟨0, _⟩ => show win0_6.index t (0 : Fin 2) * 256 + 1 * (y 0).val = 256 * t.val + (y 0).val; omega
  | ⟨1, _⟩ => show win0_6.index t (1 : Fin 2) * 1024 + 1 * (y 1).val = (y 1).val; omega

theorem emb7 (t : Fin cfg0.N) (y : S1x1024.Idx) : ((cfg0.win 7).blk t).view.emb y = y := by
  obtain ⟨_, _, _, _, _, _, _, ⟨e, e'⟩, _⟩ := idx_facts t
  funext a; apply Fin.ext
  match a with
  | ⟨0, _⟩ => show win0_7.index t (0 : Fin 2) * 1 + 1 * (y 0).val = (y 0).val; omega
  | ⟨1, _⟩ => show win0_7.index t (1 : Fin 2) * 1024 + 1 * (y 1).val = (y 1).val; omega

theorem emb8 (t : Fin cfg0.N) (y : S256x2816.Idx) : ((cfg0.win 8).blk t).view.emb y = ix2 (rowOf t (y 0)) (y 1) := by
  obtain ⟨_, _, _, _, _, _, _, _, ⟨e, e'⟩, _⟩ := idx_facts t
  funext a; apply Fin.ext
  match a with
  | ⟨0, _⟩ => show win0_8.index t (0 : Fin 2) * 256 + 1 * (y 0).val = 256 * t.val + (y 0).val; omega
  | ⟨1, _⟩ => show win0_8.index t (1 : Fin 2) * 2816 + 1 * (y 1).val = (y 1).val; omega

theorem emb9 (t : Fin cfg0.N) (y : S256x2816.Idx) : ((cfg0.win 9).blk t).view.emb y = ix2 (rowOf t (y 0)) (y 1) := by
  obtain ⟨_, _, _, _, _, _, _, _, _, ⟨e, e'⟩, _⟩ := idx_facts t
  funext a; apply Fin.ext
  match a with
  | ⟨0, _⟩ => show win0_9.index t (0 : Fin 2) * 256 + 1 * (y 0).val = 256 * t.val + (y 0).val; omega
  | ⟨1, _⟩ => show win0_9.index t (1 : Fin 2) * 2816 + 1 * (y 1).val = (y 1).val; omega

theorem emb10 (t : Fin cfg0.N) (y : S256x1024.Idx) : ((cfg0.win 10).blk t).view.emb y = ix2 (rowOf t (y 0)) (y 1) := by
  obtain ⟨_, _, _, _, _, _, _, _, _, _, ⟨e, e'⟩, _⟩ := idx_facts t
  funext a; apply Fin.ext
  match a with
  | ⟨0, _⟩ => show win0_10.index t (0 : Fin 2) * 256 + 1 * (y 0).val = 256 * t.val + (y 0).val; omega
  | ⟨1, _⟩ => show win0_10.index t (1 : Fin 2) * 1024 + 1 * (y 1).val = (y 1).val; omega

theorem emb11 (t : Fin cfg0.N) (y : S256x1024.Idx) : ((cfg0.win 11).blk t).view.emb y = ix2 (rowOf t (y 0)) (y 1) := by
  obtain ⟨_, _, _, _, _, _, _, _, _, _, _, ⟨e, e'⟩⟩ := idx_facts t
  funext a; apply Fin.ext
  match a with
  | ⟨0, _⟩ => show win0_11.index t (0 : Fin 2) * 256 + 1 * (y 0).val = 256 * t.val + (y 0).val; omega
  | ⟨1, _⟩ => show win0_11.index t (1 : Fin 2) * 1024 + 1 * (y 1).val = (y 1).val; omega

/-! ## The blocks -/

theorem V_gate : (V m c main_v15 : Vec Ideal S8192x2816 .bf16) = Cert.FfnRefIdeal.Read.val_main_v16 (F := Ideal)
    (m ((c : Thread nD τ).loc main_arg0)) (m ((c : Thread nD τ).loc main_arg1)) (m ((c : Thread nD τ).loc main_arg2)) := by
  unfold_abbrev_sides
  after_results
  rfl

theorem V_up : (V m c main_v16 : Vec Ideal S8192x2816 .bf16) = Cert.FfnRefIdeal.Read.val_main_v16 (F := Ideal)
    (m ((c : Thread nD τ).loc main_arg0)) (m ((c : Thread nD τ).loc main_arg1)) (m ((c : Thread nD τ).loc main_arg3)) := by
  unfold_abbrev_sides
  after_results
  rfl

theorem V_wd : (V m c main_v17 : Vec Ideal S2816x1024 .bf16)
    = truncf (F := Ideal) (s := S2816x1024) .bf16 (m ((c : Thread nD τ).loc main_arg4)) bitsLt_bf16_f32 := by
  unfold_abbrev_sides
  after_results

theorem V_wgt : (V m c main_v19 : Vec Ideal S2816x1024 .bf16) = truncf (F := Ideal) (s := S2816x1024) .bf16
    (transpose S2816x1024 [1, 0] (m ((c : Thread nD τ).loc main_arg2)) transposes_S1024x2816_S2816x1024_1_0) bitsLt_bf16_f32 := by
  unfold_abbrev_sides
  after_results

theorem V_wut : (V m c main_v21 : Vec Ideal S2816x1024 .bf16) = truncf (F := Ideal) (s := S2816x1024) .bf16
    (transpose S2816x1024 [1, 0] (m ((c : Thread nD τ).loc main_arg3)) transposes_S1024x2816_S2816x1024_1_0) bitsLt_bf16_f32 := by
  unfold_abbrev_sides
  after_results

theorem V_gain : V m c main_v22 = shapeCast S1x1024 (m ((c : Thread nD τ).loc main_arg1)) shapeCasts_S1024_S1x1024 := by
  unfold_abbrev_sides
  after_results
  rfl

/-- The blocks' real entries: of an array of rows, of a projection of the normed rows, of a transposed weight, of the gain. -/
def BX (t : Fin cfg0.N) (y : S256x1024.Idx) : ℝ := X (ix2 (rowOf t (y 0)) (y 1))
def BP (t : Fin cfg0.N) (y : S256x2816.Idx) : ℝ := FfnRef.proj X G P (rowOf t (y 0)) (y 1)
def BT (y : S2816x1024.Idx) : ℝ := P (ix2 (y 1) (y 0))
def BG (y : S1x1024.Idx) : ℝ := G (ix1 (y 1))

theorem ref_proj (y : S8192x2816.Idx) : Cert.FfnRefIdeal.Read.val_main_v16 (F := Ideal) (up X) (up G) (up P) y
    = ((FfnRef.proj X G P (y 0) (y 1) : ℝ) : EReal) :=
  (congrArg _ (ix2_self y)).trans (FfnRef.s16 X G P (y 0) (y 1))

variable {m c X G P U W C}

theorem iblk0 (h : Real6 m c X G P U W C) (t : Fin cfg0.N) : (iblk m c 0 t : Vec Ideal S256x1024 .f32) = up (BX C t) := by
  funext y
  show V m c main_arg5 (((cfg0.win 0).blk t).view.emb y) = _
  rw [V_main_arg5, h.ct, emb0]
  rfl

theorem iblk1 (h : Real6 m c X G P U W C) (t : Fin cfg0.N) : (iblk m c 1 t : Vec Ideal S256x2816 .bf16) = up (BP X G P t) := by
  funext y
  show V m c main_v15 (((cfg0.win 1).blk t).view.emb y) = _
  rw [V_gate, h.x, h.gain, h.wg, emb1]
  exact ref_proj X G P _

theorem iblk2 (h : Real6 m c X G P U W C) (t : Fin cfg0.N) : (iblk m c 2 t : Vec Ideal S256x2816 .bf16) = up (BP X G U t) := by
  funext y
  show V m c main_v16 (((cfg0.win 2).blk t).view.emb y) = _
  rw [V_up, h.x, h.gain, h.wu, emb2]
  exact ref_proj X G U _

theorem iblk3 (h : Real6 m c X G P U W C) (t : Fin cfg0.N) : (iblk m c 3 t : Vec Ideal S2816x1024 .bf16) = up W := by
  funext y
  show V m c main_v17 (((cfg0.win 3).blk t).view.emb y) = _
  rw [V_wd, h.wd, emb3]
  rfl

/-- An entry of a transposed weight. -/
theorem turned (P : S1024x2816.Idx → ℝ) (y : S2816x1024.Idx) :
    transpose S2816x1024 [1, 0] (up P : FVec Ideal S1024x2816 .f32) transposes_S1024x2816_S2816x1024_1_0 y = up (BT P) y := by
  pointwise
  rfl

theorem iblk4 (h : Real6 m c X G P U W C) (t : Fin cfg0.N) : (iblk m c 4 t : Vec Ideal S2816x1024 .bf16) = up (BT P) := by
  funext y
  show V m c main_v19 (((cfg0.win 4).blk t).view.emb y) = _
  rw [V_wgt, h.wg, emb4]
  exact turned P y

theorem iblk5 (h : Real6 m c X G P U W C) (t : Fin cfg0.N) : (iblk m c 5 t : Vec Ideal S2816x1024 .bf16) = up (BT U) := by
  funext y
  show V m c main_v21 (((cfg0.win 5).blk t).view.emb y) = _
  rw [V_wut, h.wu, emb5]
  exact turned U y

theorem iblk6 (h : Real6 m c X G P U W C) (t : Fin cfg0.N) : (iblk m c 6 t : Vec Ideal S256x1024 .f32) = up (BX X t) := by
  funext y
  show V m c main_arg0 (((cfg0.win 6).blk t).view.emb y) = _
  rw [V_main_arg0, h.x, emb6]
  rfl

theorem iblk7 (h : Real6 m c X G P U W C) (t : Fin cfg0.N) : (iblk m c 7 t : Vec Ideal S1x1024 .f32) = up (BG G) := by
  funext y
  show V m c main_v22 (((cfg0.win 7).blk t).view.emb y) = _
  rw [V_gain, h.gain, emb7]
  refine (shapeCast_apply (up G) shapeCasts_S1024_S1x1024 y (ix1 (y 1)) ?_).trans rfl
  rewrite [Shape.rowMajor_val_one, Shape.rowMajor_val_two]
  have h0 : (y 0).val < 1 := (y 0).isLt
  show (y 1).val = (y 0).val * 1024 + (y 1).val
  omega

/-! ## What each point leaves -/

variable (X G P U W C)

/-- Row `n`'s part of the gain's gradient. -/
def dgAt (d : Fin 1024) (n : ℕ) : ℝ :=
  if h : n < 8192 then FfnRef.dh X G P U W C ⟨n, h⟩ d * (FfnRef.z X ⟨n, h⟩ d * LossRow.r (FfnRef.z X ⟨n, h⟩)) else 0

theorem dnb_eq (t : Fin cfg0.N) (i : Fin 256) (d : Fin 1024) :
    dnb (BX X t) (dhb (BX C t) (BP X G P t) (BP X G U t) W (BT P) (BT U)) i d = dgAt X G P U W C d (256 * t.val + i.val) := by
  unfold dgAt
  rw [dif_pos (show 256 * t.val + i.val < 8192 from (rowOf t i).isLt)]
  rfl

variable {X G P U W C}

theorem outs8 (h : Real6 m c X G P U W C) (t : Fin cfg0.N) : (outsAt0 m c t.val t.isLt).1 = up (dgb (BX C t) (BP X G P t) (BP X G U t) W) := by
  by_cases h0 : t.val % 32 = 0
  · rw [outsAt0_A m c t h0]
    rw [outA8 (h0 := iblk0 h t) (h1 := iblk1 h t) (h2 := iblk2 h t) (h3 := iblk3 h t) (h4 := iblk4 h t) (h5 := iblk5 h t) (h6 := iblk6 h t) (h7 := iblk7 h t)]
  · rw [outsAt0_B m c t h0]
    rw [outB8 (h0 := iblk0 h t) (h1 := iblk1 h t) (h2 := iblk2 h t) (h3 := iblk3 h t) (h4 := iblk4 h t) (h5 := iblk5 h t) (h6 := iblk6 h t) (h7 := iblk7 h t)]

theorem outs9 (h : Real6 m c X G P U W C) (t : Fin cfg0.N) : (outsAt0 m c t.val t.isLt).2.1 = up (dub (BX C t) (BP X G P t) W) := by
  by_cases h0 : t.val % 32 = 0
  · rw [outsAt0_A m c t h0]
    rw [outA9 (h0 := iblk0 h t) (h1 := iblk1 h t) (h2 := iblk2 h t) (h3 := iblk3 h t) (h4 := iblk4 h t) (h5 := iblk5 h t) (h6 := iblk6 h t) (h7 := iblk7 h t)]
  · rw [outsAt0_B m c t h0]
    rw [outB9 (h0 := iblk0 h t) (h1 := iblk1 h t) (h2 := iblk2 h t) (h3 := iblk3 h t) (h4 := iblk4 h t) (h5 := iblk5 h t) (h6 := iblk6 h t) (h7 := iblk7 h t)]

theorem outs10 (h : Real6 m c X G P U W C) (t : Fin cfg0.N) : (outsAt0 m c t.val t.isLt).2.2.1 = up (dxb (BX C t) (BX X t) (BG G) (dhb (BX C t) (BP X G P t) (BP X G U t) W (BT P) (BT U))) := by
  by_cases h0 : t.val % 32 = 0
  · rw [outsAt0_A m c t h0]
    rw [outA10 (h0 := iblk0 h t) (h1 := iblk1 h t) (h2 := iblk2 h t) (h3 := iblk3 h t) (h4 := iblk4 h t) (h5 := iblk5 h t) (h6 := iblk6 h t) (h7 := iblk7 h t)]
  · rw [outsAt0_B m c t h0]
    rw [outB10 (h0 := iblk0 h t) (h1 := iblk1 h t) (h2 := iblk2 h t) (h3 := iblk3 h t) (h4 := iblk4 h t) (h5 := iblk5 h t) (h6 := iblk6 h t) (h7 := iblk7 h t)]

theorem outs11 (h : Real6 m c X G P U W C) (t : Fin cfg0.N) : (outsAt0 m c t.val t.isLt).2.2.2.1 = up (dxb (BX C t) (BX X t) (BG G) (dhb (BX C t) (BP X G P t) (BP X G U t) W (BT P) (BT U))) := by
  by_cases h0 : t.val % 32 = 0
  · rw [outsAt0_A m c t h0]
    rw [outA11 (h0 := iblk0 h t) (h1 := iblk1 h t) (h2 := iblk2 h t) (h3 := iblk3 h t) (h4 := iblk4 h t) (h5 := iblk5 h t) (h6 := iblk6 h t) (h7 := iblk7 h t)]
  · rw [outsAt0_B m c t h0]
    rw [outB11 (h0 := iblk0 h t) (h1 := iblk1 h t) (h2 := iblk2 h t) (h3 := iblk3 h t) (h4 := iblk4 h t) (h5 := iblk5 h t) (h6 := iblk6 h t) (h7 := iblk7 h t)]

/-- The running gradient of the gain after point `n`. -/
theorem outs12 (h : Real6 m c X G P U W C) : ∀ (n : ℕ) (hn : n < cfg0.N), (outsAt0 m c n hn).2.2.2.2
    = (fun j => ((∑ s ∈ Finset.range (n + 1), ∑ i : Fin 256, dgAt X G P U W C (j 1) (256 * s + i.val) : ℝ) : EReal))
  | 0, hn => by
    rw [outsAt0_A m c ⟨0, hn⟩ rfl]
    rw [outA12 (h0 := iblk0 h ⟨0, hn⟩) (h1 := iblk1 h ⟨0, hn⟩) (h2 := iblk2 h ⟨0, hn⟩) (h3 := iblk3 h ⟨0, hn⟩) (h4 := iblk4 h ⟨0, hn⟩) (h5 := iblk5 h ⟨0, hn⟩) (h6 := iblk6 h ⟨0, hn⟩) (h7 := iblk7 h ⟨0, hn⟩)]
    refine funext fun j => congrArg (fun a : ℝ => (a : EReal)) ?_
    rw [zero_add, Finset.sum_range_one]
    exact Finset.sum_congr rfl fun i _ => dnb_eq X G P U W C ⟨0, hn⟩ i (j 1)
  | n + 1, hn => by
    have hB : ¬(⟨n + 1, hn⟩ : Fin cfg0.N).val % 32 = 0 := by have := lt32 ⟨n + 1, hn⟩; dsimp only at this ⊢; omega
    rw [outsAt0_B m c ⟨n + 1, hn⟩ hB]
    dsimp only
    refine (outB12 c _ _ _ _ _ _ _ _ _ _ _ _ _ _ _ _ _ _ _ _ _ _ _ _ _ _ _ _ (w := fun d => ∑ s ∈ Finset.range (n + 1), ∑ i : Fin 256, dgAt X G P U W C d (256 * s + i.val)) (hw := outs12 h n (Nat.lt_of_succ_lt hn)) (h0 := iblk0 h ⟨n + 1, hn⟩) (h1 := iblk1 h ⟨n + 1, hn⟩) (h2 := iblk2 h ⟨n + 1, hn⟩) (h3 := iblk3 h ⟨n + 1, hn⟩) (h4 := iblk4 h ⟨n + 1, hn⟩) (h5 := iblk5 h ⟨n + 1, hn⟩) (h6 := iblk6 h ⟨n + 1, hn⟩) (h7 := iblk7 h ⟨n + 1, hn⟩)).trans (funext fun j => congrArg (fun a : ℝ => (a : EReal)) ?_)
    rw [Finset.sum_range_succ _ (n + 1)]
    exact congrArg _ (Finset.sum_congr rfl fun i _ => dnb_eq X G P U W C ⟨n + 1, hn⟩ i (j 1))

/-! ## The result arrays -/

/-- An index of an array of rows is in the block of the point its row selects. -/
theorem split {b : ℕ} (y : (⟨2, ![8192, b]⟩ : Shape).Idx) : ∃ (t : Fin cfg0.N) (i : Fin 256) (k : Fin b), y = ix2 (rowOf t i) k := by
  have h0 : (y 0).val < 8192 := (y 0).isLt
  have hN : cfg0.N = 32 := N_0
  refine ⟨⟨(y 0).val / 256, by omega⟩, ⟨(y 0).val % 256, Nat.mod_lt _ (by norm_num)⟩, y 1, ?_⟩
  funext a
  match a with
  | ⟨0, _⟩ => exact Fin.ext (Nat.div_add_mod _ _).symm
  | ⟨1, _⟩ => rfl

theorem final8 (h : Real6 m c X G P U W C) : (dats m 0 c).arrAt 8 cfg0.N = fun y : S8192x2816.Idx => ((FfnRef.dgate X G P U W C (y 0) (y 1) : ℝ) : EReal) := by
  funext y
  obtain ⟨t, i, k, rfl⟩ := split y
  have b := congrFun (Value.blocks8 m c t (flush0_8 t)) (ix2 i k)
  rw [Value.flushed8, outs8 h] at b
  have b' : (dats m 0 c).arrAt 8 cfg0.N (((cfg0.win 8).blk t).view.emb (ix2 i k)) = _ := b
  rw [emb8] at b'
  exact b'

theorem final9 (h : Real6 m c X G P U W C) : (dats m 0 c).arrAt 9 cfg0.N = fun y : S8192x2816.Idx => ((FfnRef.dup X G P W C (y 0) (y 1) : ℝ) : EReal) := by
  funext y
  obtain ⟨t, i, k, rfl⟩ := split y
  have b := congrFun (Value.blocks9 m c t (flush0_9 t)) (ix2 i k)
  rw [Value.flushed9, outs9 h] at b
  have b' : (dats m 0 c).arrAt 9 cfg0.N (((cfg0.win 9).blk t).view.emb (ix2 i k)) = _ := b
  rw [emb9] at b'
  exact b'

theorem final10 (h : Real6 m c X G P U W C) : (dats m 0 c).arrAt 10 cfg0.N = fun y : S8192x1024.Idx => ((FfnRef.dx X G P U W C (y 0) (y 1) : ℝ) : EReal) := by
  funext y
  obtain ⟨t, i, k, rfl⟩ := split y
  have b := congrFun (Value.blocks10 m c t (flush0_10 t)) (ix2 i k)
  rw [Value.flushed10, outs10 h] at b
  have b' : (dats m 0 c).arrAt 10 cfg0.N (((cfg0.win 10).blk t).view.emb (ix2 i k)) = _ := b
  rw [emb10] at b'
  exact b'

theorem final11 (h : Real6 m c X G P U W C) : (dats m 0 c).arrAt 11 cfg0.N = fun y : S8192x1024.Idx => ((FfnRef.dx X G P U W C (y 0) (y 1) : ℝ) : EReal) := by
  funext y
  obtain ⟨t, i, k, rfl⟩ := split y
  have b := congrFun (Value.blocks11 m c t (flush0_11 t)) (ix2 i k)
  rw [Value.flushed11, outs11 h] at b
  have b' : (dats m 0 c).arrAt 11 cfg0.N (((cfg0.win 11).blk t).view.emb (ix2 i k)) = _ := b
  rw [emb11] at b'
  exact b'

/-- The sum over the points is the sum over the rows. -/
theorem dg_sum (d : Fin 1024) : (∑ s ∈ Finset.range (31 + 1), ∑ i : Fin 256, dgAt X G P U W C d (256 * s + i.val)) = FfnRef.dg X G P U W C d := by
  rw [sum_blocks, Finset.sum_range]
  exact Finset.sum_congr rfl fun n _ => dif_pos n.isLt

/-- The last point. -/
def tl : Fin cfg0.N := ⟨31, by decide⟩

theorem emb12 (y : S1x1024.Idx) : ((cfg0.win 12).blk tl).view.emb y = y := by
  have e : win0_12.index tl (0 : Fin 2) = 0 := by decide +kernel
  have e' : win0_12.index tl (1 : Fin 2) = 0 := by decide +kernel
  funext a; apply Fin.ext
  match a with
  | ⟨0, _⟩ => show win0_12.index tl (0 : Fin 2) * 1 + 1 * (y 0).val = (y 0).val; omega
  | ⟨1, _⟩ => show win0_12.index tl (1 : Fin 2) * 1024 + 1 * (y 1).val = (y 1).val; omega

theorem final12 (h : Real6 m c X G P U W C) : (dats m 0 c).arrAt 12 cfg0.N
    = fun j : S1x1024.Idx => ((FfnRef.dg X G P U W C (j 1) : ℝ) : EReal) := by
  refine (dats m 0 c).arrAt_eq_of_cover 12 _ (fun t hf => ?_) fun i => ⟨tl, (flush0_12 tl).mpr rfl, ?_⟩
  · obtain rfl : t = tl := Fin.ext (by have := lt32 t; have := (flush0_12 t).mp hf; show t.val = 31; omega)
    rw [Value.flushed12, (outs12 h tl.val tl.isLt).trans (funext fun j => congrArg _ (dg_sum (j 1)))]
    funext y
    show _ = (fun j : S1x1024.Idx => ((FfnRef.dg X G P U W C (j 1) : ℝ) : EReal)) (((cfg0.win 12).blk tl).view.emb y)
    rw [emb12]
  · show i ∈ ((View.whole main_v23_4).slice (win0_12.rect tl)).set
    rw [View.set_slice_whole, Rect.mem_set_unit]
    intro a
    have h0 : (i 0 : Nat) < 1 := (i 0).isLt
    have h1 : (i 1 : Nat) < 1024 := (i 1).isLt
    match a with
    | ⟨0, _⟩ => show win0_12.index tl 0 * win0_12.size 0 ≤ (i 0 : Nat) ∧ (i 0 : Nat) < win0_12.index tl 0 * win0_12.size 0 + win0_12.xsize (grid0.coords tl) 0
                rw [show win0_12.index tl 0 * win0_12.size 0 = 0 from by decide +kernel, show win0_12.xsize (grid0.coords tl) 0 = 1 from by decide +kernel]; omega
    | ⟨1, _⟩ => show win0_12.index tl 1 * win0_12.size 1 ≤ (i 1 : Nat) ∧ (i 1 : Nat) < win0_12.index tl 1 * win0_12.size 1 + win0_12.xsize (grid0.coords tl) 1
                rw [show win0_12.index tl 1 * win0_12.size 1 = 0 from by decide +kernel, show win0_12.xsize (grid0.coords tl) 1 = 1024 from by decide +kernel]; omega

end Cert.FfnValue

end
-- ==== Proof.FfnClaims.lean ====
/- The claims about the feed-forward layer's backward call. -/
module

public import proofs.«01_k».proof.Defs
public import proofs.«01_k».proof.Proof.Gen.Ffn.Frame
public import proofs.«01_k».proof.Proof.Gen.FfnRefIdeal.Run
public import proofs.«01_k».proof.Proof.Gen.Pre_ffn_finite
public import proofs.«01_k».proof.Proof.FfnValue
public import Idealize.ShloMosaic.Adequacy
public import Idealize.ShloMosaic.Init

@[expose] public section

noncomputable section

namespace Cert.FfnClaims

open Idealize.ShloMosaic Idealize.SL.Sem Cert.Lift Cert.FfnValue

instance : Subsingleton Cert.Pre_ffn_finite.S_.Idx := ⟨fun _ _ => funext fun a => a.elim0⟩

/-- Arguments that pass the printed test are arrays of real numbers. -/
theorem real6 (m : (ℓ : Loc Cert.FfnIdeal.nD Cert.FfnIdeal.τ Cert.FfnIdeal.sig) → Buf (Elt Ideal) ℓ) (h : Pre_FfnIdeal_ffn_finite m) (c : Dev Cert.FfnIdeal.nD) :
    ∃ X G P U W C, Real6 m c X G P U W C := by
  have e := congrFun (h c) ix0
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  obtain ⟨X, hX⟩ := exists_real_of_all _ _ _ (fun _ => rfl) (fun _ => rfl) _ _ _ _ e0
  obtain ⟨G, hG⟩ := exists_real_of_all _ _ _ (fun _ => rfl) (fun _ => rfl) _ _ _ _ e1
  obtain ⟨P, hP⟩ := exists_real_of_all _ _ _ (fun _ => rfl) (fun _ => rfl) _ _ _ _ e2
  obtain ⟨U, hU⟩ := exists_real_of_all _ _ _ (fun _ => rfl) (fun _ => rfl) _ _ _ _ e3
  obtain ⟨W, hW⟩ := exists_real_of_all _ _ _ (fun _ => rfl) (fun _ => rfl) _ _ _ _ e4
  obtain ⟨C, hC⟩ := exists_real_of_all _ _ _ (fun _ => rfl) (fun _ => rfl) _ _ _ _ e5
  exact ⟨X, G, P, U, W, C, hX, hG, hP, hU, hW, hC⟩

section
variable (X : Cert.FfnRefIdeal.S8192x1024.Idx → ℝ) (G : Cert.FfnRefIdeal.S1024.Idx → ℝ) (P U : Cert.FfnRefIdeal.S1024x2816.Idx → ℝ)
  (W : Cert.FfnRefIdeal.S2816x1024.Idx → ℝ) (C : Cert.FfnRefIdeal.S8192x1024.Idx → ℝ)
open Cert.FfnRefIdeal.Read

theorem ref49 : val_main_v49 (F := Ideal) (up X) (up G) (up P) (up U) (up W) (up C) = fun y => ((FfnRef.dgate X G P U W C (y 0) (y 1) : ℝ) : EReal) := by
  funext y
  exact (congrArg _ (ix2_self y)).trans (FfnRef.s24 X G P U W C _ _)

theorem ref50 : val_main_v50 (F := Ideal) (up X) (up G) (up P) (up W) (up C) = fun y => ((FfnRef.dup X G P W C (y 0) (y 1) : ℝ) : EReal) := by
  funext y
  exact (congrArg _ (ix2_self y)).trans (FfnRef.s22 X G P W C _ _)

theorem ref48 : val_main_v48 (F := Ideal) (up X) (up G) (up P) (up U) (up W) (up C) = fun y => ((FfnRef.dx X G P U W C (y 0) (y 1) : ℝ) : EReal) := by
  funext y
  exact (congrArg _ (ix2_self y)).trans (FfnRef.s48 X G P U W C _ _)

theorem ref51 : val_main_v51 (F := Ideal) (up X) (up G) (up P) (up U) (up W) (up C) = fun y => ((FfnRef.dx X G P U W C (y 0) (y 1) : ℝ) : EReal) :=
  ref48 X G P U W C

theorem ref52 : val_main_v52 (F := Ideal) (up X) (up G) (up P) (up U) (up W) (up C) = fun y => ((FfnRef.dg X G P U W C (y 1) : ℝ) : EReal) := by
  funext y
  exact (congrArg _ (ix2_self y)).trans (FfnRef.s52 X G P U W C _ _)

end

theorem frame_p : quiescent_Ffn := fun m ρ _ => Cert.Ffn.Gen.frame m ρ
theorem frame_pi : quiescent_FfnIdeal := fun m ρ _ => Cert.FfnIdeal.Gen.frame m ρ
theorem frame_pi' : quiescent_FfnIdeal_pre_ffn_finite := fun m ρ _ => Cert.FfnIdeal.Gen.frame m ρ
theorem frame_ri : quiescent_FfnRefIdeal := fun m ρ _ =>
  (θ_run Cert.FfnRefIdeal.defs _ _).mono
    (fun r h => ⟨fun c => (h c).2.2.2.2.2, sem_eq_zero_of_no_sems (by decide) r.2⟩) (Cert.FfnRefIdeal.Value.run (F := Ideal) m ρ)
theorem frame_ri' : quiescent_FfnRefIdeal_pre_ffn_finite := fun m ρ _ => frame_ri m ρ trivial

theorem preserves : preserves_Ffn_FfnIdeal :=
  IdealRules.named_const.statement Cert.FfnIdeal.κ "exp2_scale" .f32 0xBFB8AA3B#32 ((-((Real.log 2)⁻¹) : ℝ) : EReal) rfl

theorem algebraic : algebraic_FfnIdeal_FfnRefIdeal_pre_ffn_finite := by
  intro m ρ m' ρ' hp hagree
  refine ⟨_, _, _, _, _, Cert.FfnIdeal.Value.run_blocks m ρ, ?_⟩
  refine (θ_run Cert.FfnRefIdeal.defs _ _).mono (fun r h c => ?_) (Cert.FfnRefIdeal.Value.run (F := Ideal) m' ρ')
  obtain ⟨X, G, P, U, W, C, hr⟩ := real6 m hp c
  obtain ⟨a0, a1, a2, a3, a4, a5⟩ := hagree c
  obtain ⟨h0, h1, h2, h3, h4, rest⟩ := h c
  rw [Cert.FfnRefIdeal.Read.val_main_v49_eq] at h0
  rw [Cert.FfnRefIdeal.Read.val_main_v50_eq] at h1
  rw [Cert.FfnRefIdeal.Read.val_main_v48_eq] at h2
  rw [Cert.FfnRefIdeal.Read.val_main_v51_eq] at h3
  rw [Cert.FfnRefIdeal.Read.val_main_v52_eq] at h4
  rw [a0, a1, a2, a4, a5, hr.x, hr.gain, hr.wg, hr.wd, hr.ct] at h0 h1 h2 h3 h4
  rw [a3, hr.wu] at h0 h2 h3 h4
  exact ⟨h0.trans ((ref49 X G P U W C).trans (final8 hr).symm), h1.trans ((ref50 X G P W C).trans (final9 hr).symm),
    h2.trans ((ref48 X G P U W C).trans (final10 hr).symm), h3.trans ((ref51 X G P U W C).trans (final11 hr).symm),
    h4.trans ((ref52 X G P U W C).trans (final12 hr).symm), rest⟩

end Cert.FfnClaims
-- ==== Proof.WoRow.lean ====
/- The gradient through an RMS norm of a row of 512 entries, over the reals, in the form both programs are brought to. -/
module

public import proofs.«01_k».proof.Proof.Lift

@[expose] public section

noncomputable section

namespace Cert.WoRow

open Idealize.ShloMosaic Cert.Lift

theorem c_512 : Ideal.ofBits .f32 0x44000000#32 = ((512 : ℝ) : EReal) := by
  simp [Ideal.ofBits, Ideal.ieee, -EReal.coe_mul]; norm_num

/-- A row's mean square plus the norm's small constant. -/
def v (z : Fin 512 → ℝ) : ℝ := (∑ d, z d * z d) / 512 + eps

/-- The row's reciprocal root mean square. -/
def r (z : Fin 512 → ℝ) : ℝ := (Real.sqrt (v z))⁻¹

theorem v_pos (z : Fin 512 → ℝ) : 0 < v z :=
  add_pos_of_nonneg_of_pos (div_nonneg (Finset.sum_nonneg fun d _ => mul_self_nonneg _) (by norm_num)) eps_pos

theorem r_div_v (z : Fin 512 → ℝ) : r z / v z = r z * r z * r z := by
  have h : r z * r z = (v z)⁻¹ := by
    unfold r; rw [← mul_inv, Real.mul_self_sqrt (v_pos z).le]
  rw [h, div_eq_mul_inv, mul_comm]

/-- The gradient by a row `z` through its norm, from the gradient `u` by the normed row. -/
def back (z u : Fin 512 → ℝ) (d : Fin 512) : ℝ := r z * (u d - z d * r z * ((∑ e, u e * (z e * r z)) / 512))

/-- The same as the derivative of the forward lines leaves it. -/
theorem back_of_parts (z u : Fin 512 → ℝ) (d : Fin 512) (s : ℝ)
    (hs : s = (∑ e, z e * u e) * (-(1 / 2) * (r z / v z)) / 512) : u d * r z + z d * s + s * z d = back z u d := by
  have e2 : (∑ e, u e * (z e * r z)) = (∑ e, z e * u e) * r z := by
    rw [Finset.sum_mul]; exact Finset.sum_congr rfl fun e _ => by ring
  rw [hs, r_div_v]
  unfold back
  rw [e2]
  ring

end Cert.WoRow

end
-- ==== Proof.WoBlock.lean ====
/- What one grid point of the output projection's backward kernel computes, at real arguments: the payloads over its block of 1024 rows
   in the form of Proof/WoRow.lean. -/
module

public import Idealize.ShloMosaic.Lib.Pipeline.ValueKit.Tiles
public import proofs.«01_k».proof.Proof.WoRow
public import proofs.«01_k».proof.Proof.Gen.WoIdeal.Value

@[expose] public section

noncomputable section

namespace Cert.WoBlock

open Idealize.ShloMosaic Idealize.ShloMosaic.TcCoe Cert.WoIdeal Cert.WoIdeal.Gen Cert.Lift

/-- The two halves of a mixed row. -/
def lo (d : Fin 512) : Fin 1024 := ⟨d.val, by omega⟩
def hi (d : Fin 512) : Fin 1024 := ⟨512 + d.val, by omega⟩

/-- Column `k` of the chunk of 256 columns that starts at column `o`; of 128 columns. -/
def col (o : ℕ) (ho : o + 256 ≤ 1024) (k : Fin 256) : Fin 1024 := ⟨o + k.val, by omega⟩
def qcol (j : Fin 4) (b : Fin 128) : Fin 512 := ⟨128 * j.val + b.val, by omega⟩

section defs
variable (C W : S1024x1024.Idx → ℝ) (O : S1024x512.Idx → ℝ) (s : Fin 512 → Fin 1024) (G : S1x512.Idx → ℝ)

/-- The gradient by the mixed rows; a half's row. -/
def dmb (i e : Fin 1024) : ℝ := ∑ d : Fin 1024, C (ix2 i d) * W (ix2 e d)
def zb (i : Fin 1024) (d : Fin 512) : ℝ := O (ix2 i d)

/-- The gradients by a half's rows, and the block's part of the gradient by its gain. -/
def dob (y : S1024x512.Idx) : ℝ := WoRow.back (zb O (y 0)) (fun e => dmb C W (y 0) (s e) * G (ix2 0 e)) (y 1)
def dgb (i : Fin 1024) (d : Fin 512) : ℝ := dmb C W i (s d) * (zb O i d * WoRow.r (zb O i))
end defs

variable (X0 X1 : S1024x1024.Idx → ℝ) (X2 X3 : S1024x512.Idx → ℝ) (X4 X5 : S1x512.Idx → ℝ) (X6 : S1024x1024.Idx → ℝ)

theorem p11 (i e : Fin 1024) : k0_pay11 (F := Ideal) (k0_pay5 (up X0)) (up X1) (ix2 i e) = ((dmb X0 X1 i e : ℝ) : EReal) := by
  unfold k0_pay11 k0_pay5
  pointwise
  simp only [up, ← EReal.coe_mul, sum_coe]
  rfl

theorem p13 (i : Fin 1024) (j : Fin 1) : k0_pay13 (F := Ideal) (up X2) (ix2 i j) = ((WoRow.r (zb X2 i) : ℝ) : EReal) := by
  unfold k0_pay13 k0_pay12
  pointwise
  simp only [up, WoRow.c_512, c_eps, ← EReal.coe_mul, sum_coe, ← EReal.coe_add, div_coe (by norm_num : (512 : ℝ) ≠ 0)]
  exact rsqrt_coe (WoRow.v_pos (zb X2 i))

theorem p14 (i : Fin 1024) (d : Fin 512) : k0_pay14 (F := Ideal) (up X2) (ix2 i d) = ((zb X2 i d * WoRow.r (zb X2 i) : ℝ) : EReal) := by
  unfold k0_pay14 k0_pay12
  pointwise
  simp only [p13, up, ← EReal.coe_mul]
  rfl

theorem p15 (i : Fin 1024) (d : Fin 512) : k0_pay15 (F := Ideal) (k0_pay5 (up X0)) (up X1) (ix2 i d) = ((dmb X0 X1 i (lo d) : ℝ) : EReal) := by
  refine Eq.trans ?_ (p11 X0 X1 i (lo d))
  unfold k0_pay15
  pointwise
  rfl

theorem p21 (i : Fin 1024) (d : Fin 512) : k0_pay21 (F := Ideal) (k0_pay11 (k0_pay5 (up X0)) (up X1)) (ix2 i d) = ((dmb X0 X1 i (hi d) : ℝ) : EReal) := by
  refine Eq.trans ?_ (p11 X0 X1 i (hi d))
  unfold k0_pay21
  pointwise
  rfl

theorem p16 (w : Fin 512 → ℝ) (q : Vec Ideal S1x512 .f32) (hq : q = fun j => ((w (j 1) : ℝ) : EReal)) :
    k0_pay16 (F := Ideal) (k0_pay5 (up X0)) (up X1) (up X2) q = fun j => ((w (j 1) + ∑ i, dgb X0 X1 X2 lo i (j 1) : ℝ) : EReal) := by
  funext j
  unfold k0_pay16
  pointwise
  refine (congrArg₂ (· + ·) (congrFun hq j) (Finset.sum_congr rfl fun x _ => congrArg₂ (· * ·) (p15 X0 X1 x (j 1)) (p14 X2 x (j 1)))).trans ?_
  simp only [← EReal.coe_mul, sum_coe, ← EReal.coe_add, dgb]

theorem p22 (w : Fin 512 → ℝ) (q : Vec Ideal S1x512 .f32) (hq : q = fun j => ((w (j 1) : ℝ) : EReal)) :
    k0_pay22 (F := Ideal) (k0_pay11 (k0_pay5 (up X0)) (up X1)) (up X3) q = fun j => ((w (j 1) + ∑ i, dgb X0 X1 X3 hi i (j 1) : ℝ) : EReal) := by
  funext j
  unfold k0_pay22
  pointwise
  refine (congrArg₂ (· + ·) (congrFun hq j) (Finset.sum_congr rfl fun x _ => congrArg₂ (· * ·) (p21 X0 X1 x (j 1)) (p14 X3 x (j 1)))).trans ?_
  simp only [← EReal.coe_mul, sum_coe, ← EReal.coe_add, dgb]

/-- The gradient through the norm, from the half `D` of the gradient by the mixed rows. -/
theorem p17 (s : Fin 512 → Fin 1024) (D : FVec Ideal S1024x512 .f32) (hD : ∀ i d, D (ix2 i d) = ((dmb X0 X1 i (s d) : ℝ) : EReal)) :
    k0_pay17 (F := Ideal) (k0_pay13 (up X2)) (k0_pay14 (up X2)) D (up X4) = up (dob X0 X1 X2 s X4) := by
  funext y
  obtain ⟨i, d, rfl⟩ : ∃ i d, y = ix2 i d := ⟨y 0, y 1, ix2_self y⟩
  unfold k0_pay17
  pointwise
  simp only [hD, p13, p14, up, WoRow.c_512, ← EReal.coe_mul, sum_coe, ← EReal.coe_sub, div_coe (by norm_num : (512 : ℝ) ≠ 0)]
  rfl

theorem p24 : k0_pay24 (F := Ideal) (k0_pay19 (up X3)) (k0_pay20 (up X3)) (k0_pay23 (k0_pay11 (k0_pay5 (up X0)) (up X1)) (up X5))
    = up (dob X0 X1 X3 hi X5) :=
  p17 X0 X1 X3 X5 hi (k0_pay21 (F := Ideal) (k0_pay11 (k0_pay5 (up X0)) (up X1))) (p21 X0 X1)

/-! The four column chunks of the second half's gradient, as the carried scratch's planes hold them. -/

section planes
variable (a : FVec Ideal S1024x1 .f32) (b c : FVec Ideal S1024x512 .f32) (n : Fin 1024) (k : Fin 128) (z : Fin 1)
theorem q25 : k0_pay25 (F := Ideal) a b c (ix3 z n k) = k0_pay24 a b c (ix2 n (qcol 0 k)) := by
  unfold k0_pay25
  pointwise
  exact congrArg (k0_pay24 a b c) (congrArg (ix2 n) (Fin.ext (by show k.val = 128 * 0 + k.val; omega)))
theorem q26 : k0_pay26 (F := Ideal) a b c (ix3 z n k) = k0_pay24 a b c (ix2 n (qcol 1 k)) := by
  unfold k0_pay26
  pointwise
  rfl
theorem q27 : k0_pay27 (F := Ideal) a b c (ix3 z n k) = k0_pay24 a b c (ix2 n (qcol 2 k)) := by
  unfold k0_pay27
  pointwise
  rfl
theorem q28 : k0_pay28 (F := Ideal) a b c (ix3 z n k) = k0_pay24 a b c (ix2 n (qcol 3 k)) := by
  unfold k0_pay28
  pointwise
  rfl
end planes

theorem q29 (P : Vec Ideal S1x1024x128 .f32) (n : Fin 1024) (k : Fin 128) : k0_pay29 (F := Ideal) P (ix2 n k) = P (ix3 0 n k) := by
  unfold k0_pay29
  pointwise

/-- One chunk of 256 rows of the weight's gradient. -/
theorem p6 (S : FVec Ideal S256x1024 .f32) (T : S1024x256.Idx → ℝ) (k : Fin 256) (d : Fin 1024) (w : ℝ) (hw : S (ix2 k d) = ((w : ℝ) : EReal)) :
    k0_pay6 (F := Ideal) (up X0) S (up T) (ix2 k d) = ((w + ∑ n : Fin 1024, T (ix2 n k) * X0 (ix2 n d) : ℝ) : EReal) := by
  unfold k0_pay6 k0_pay5
  pointwise
  rw [hw]
  simp only [up, ← EReal.coe_mul, sum_coe, ← EReal.coe_add]

end Cert.WoBlock

end
-- ==== Proof.WoOut.lean ====
/- What one grid point of the output projection's backward kernel leaves in its seven output blocks and in the carried scratch, as
   functions of the input blocks and of what the point before left. -/
module

public import Idealize.ShloMosaic.Lib.Pipeline.ReadBack
public import Idealize.ShloMosaic.Lib.Pipeline.RowLoads
public import proofs.«01_k».proof.Proof.WoBlock

@[expose] public section

noncomputable section

namespace Cert.WoOut

open Idealize.ShloMosaic Idealize.ShloMosaic.TcCoe Idealize.SL.Sem
open Cert.WoIdeal Cert.WoIdeal.Gen Cert.Lift Cert.WoBlock

theorem hz : (![0, 0] : Fin 2 → Nat) = fun _ => 0 := funext fun a => by fin_cases a <;> rfl

theorem narrow {s : Shape} (x : FVec Ideal s .f32) (h : FTy.bf16.bits < FTy.f32.bits) : truncf (F := Ideal) .bf16 x h = x := rfl

/-! ## The scratch of four planes -/

/-- Rows `dil` apart laid side by side: an array of `n` rows and `w` columns read off the four planes. -/
def restride (n w dil : ℕ) (P : S4x1024x128.Idx → EReal) (y : (⟨2, ![n, w]⟩ : Shape).Idx) : EReal :=
  P (ix3 ⟨(y 1).val / 128 % 4, Nat.mod_lt _ (by norm_num)⟩ ⟨(dil * (y 0).val + (y 1).val / 512) % 1024, Nat.mod_lt _ (by norm_num)⟩
    ⟨(y 1).val % 128, Nat.mod_lt _ (by norm_num)⟩)

/-- The planes of an array of 512 columns. -/
def planes (D : S1024x512.Idx → EReal) (y : S4x1024x128.Idx) : EReal := D (ix2 (y 1) (qcol (y 0) (y 2)))

theorem canon_planes (a : FVec Ideal S1024x1 .f32) (b c : FVec Ideal S1024x512 .f32) :
    View.canon (Val := Elt Ideal) (s := S4x1024x128) (e := .f32)
      [⟨Rect.unit (s := S4x1024x128) ![3, 0, 0] ![1, 1024, 128] inb_S4x1024x128_S1x1024x128_3_0_0, k0_pay28 (F := Ideal) a b c⟩,
       ⟨Rect.unit (s := S4x1024x128) ![2, 0, 0] ![1, 1024, 128] inb_S4x1024x128_S1x1024x128_2_0_0, k0_pay27 (F := Ideal) a b c⟩,
       ⟨Rect.unit (s := S4x1024x128) ![1, 0, 0] ![1, 1024, 128] inb_S4x1024x128_S1x1024x128_1_0_0, k0_pay26 (F := Ideal) a b c⟩,
       ⟨Rect.unit (s := S4x1024x128) ![0, 0, 0] ![1, 1024, 128] inb_S4x1024x128_S1x1024x128_0_0_0, k0_pay25 (F := Ideal) a b c⟩]
      = planes (k0_pay24 (F := Ideal) a b c) := by
  have key : ∀ (j : Fin 4) (A : ∀ a, (![j.val, 0, 0] : Fin 3 → ℕ) a + S1x1024x128.size a ≤ S4x1024x128.size a) (p : S1x1024x128.Idx → EReal)
      (_ : ∀ z n k, p (ix3 z n k) = k0_pay24 (F := Ideal) a b c (ix2 n (qcol j k))) (x : S1x1024x128.Idx),
      p x = planes (k0_pay24 (F := Ideal) a b c) ((Rect.unit (s := S4x1024x128) ![j.val, 0, 0] S1x1024x128.size A).idx x) := by
    intro j A p hp x
    obtain ⟨z, n, k, rfl⟩ : ∃ z n k, x = ix3 z n k :=
      ⟨x 0, x 1, x 2, by funext a; match a with | ⟨0, _⟩ => rfl | ⟨1, _⟩ => rfl | ⟨2, _⟩ => rfl⟩
    rw [hp]
    refine congrArg (k0_pay24 (F := Ideal) a b c) (congrArg₂ ix2 (Fin.ext ?_) (Fin.ext ?_))
    · exact ((Rect.idx_unit_val _ _ _ _ _).trans (Nat.zero_add _)).symm
    · show 128 * j.val + k.val = 128 * ((Rect.unit (s := S4x1024x128) ![j.val, 0, 0] S1x1024x128.size A).idx (ix3 z n k) 0).val
        + ((Rect.unit (s := S4x1024x128) ![j.val, 0, 0] S1x1024x128.size A).idx (ix3 z n k) 2).val
      rw [Rect.idx_unit_val, Rect.idx_unit_val]
      show 128 * j.val + k.val = 128 * (j.val + z.val) + (0 + k.val)
      omega
  funext y
  refine View.canon_apply_of_pieces (Val := Elt Ideal) (e := .f32) (planes (k0_pay24 (F := Ideal) a b c)) _ (View.PiecesOf.mem ?_) y
    (View.cover_of_tiledL (s := S4x1024x128) _ S1x1024x128.size (by sl_kernel_rfl) y)
  exact And.intro (key 3 inb_S4x1024x128_S1x1024x128_3_0_0 _ fun z n k => q28 a b c n k z)
    (And.intro (key 2 inb_S4x1024x128_S1x1024x128_2_0_0 _ fun z n k => q27 a b c n k z)
      (And.intro (key 1 inb_S4x1024x128_S1x1024x128_1_0_0 _ fun z n k => q26 a b c n k z)
        (And.intro (key 0 inb_S4x1024x128_S1x1024x128_0_0_0 _ fun z n k => q25 a b c n k z) trivial)))

theorem plane (P : S4x1024x128.Idx → EReal) (j o : ℕ) (hj : j < 4) (ho : o = 128 * j)
    (A : ∀ a, (![j, 0, 0] : Fin 3 → ℕ) a + (![1, 1024, 128] : Fin 3 → ℕ) a ≤ S4x1024x128.size a)
    (E : ∀ a, (![0, o] : Fin 2 → ℕ) a + (![1024, 128] : Fin 2 → ℕ) a ≤ S1024x512.size a) (x : S1024x128.Idx) :
    k0_pay29 (F := Ideal) (fun q => P ((Rect.unit (s := S4x1024x128) ![j, 0, 0] ![1, 1024, 128] A).toLoadRect.idx q)) x
      = restride 1024 512 1 P ((Rect.unit (s := S1024x512) ![0, o] ![1024, 128] E).idx x) := by
  obtain ⟨n, k, rfl⟩ : ∃ n k, x = ix2 n k := ⟨x 0, x 1, ix2_self x⟩
  rw [q29]
  unfold restride
  refine congrArg P (funext fun a => Fin.ext ?_)
  have e0 : ((Rect.unit (s := S1024x512) ![0, o] ![1024, 128] E).idx (ix2 n k) 0).val = n.val := (Rect.idx_unit_val _ _ _ _ _).trans (Nat.zero_add _)
  have e1 : ((Rect.unit (s := S1024x512) ![0, o] ![1024, 128] E).idx (ix2 n k) 1).val = o + k.val := Rect.idx_unit_val _ _ _ _ _
  match a with
  | ⟨0, _⟩ =>
    refine (Rect.idx_unit_val (s := S4x1024x128) _ _ _ _ _).trans ?_
    show j + 0 = ((Rect.unit (s := S1024x512) ![0, o] ![1024, 128] E).idx (ix2 n k) 1).val / 128 % 4
    rw [e1]; omega
  | ⟨1, _⟩ =>
    refine (Rect.idx_unit_val (s := S4x1024x128) _ _ _ _ _).trans ?_
    show 0 + n.val = (1 * ((Rect.unit (s := S1024x512) ![0, o] ![1024, 128] E).idx (ix2 n k) 0).val + ((Rect.unit (s := S1024x512) ![0, o] ![1024, 128] E).idx (ix2 n k) 1).val / 512) % 1024
    rw [e0, e1]; omega
  | ⟨2, _⟩ =>
    refine (Rect.idx_unit_val (s := S4x1024x128) _ _ _ _ _).trans ?_
    show 0 + k.val = ((Rect.unit (s := S1024x512) ![0, o] ![1024, 128] E).idx (ix2 n k) 1).val % 128
    rw [e1]; omega

theorem hs3 : ∀ i : Fin 2, (![1, 1024, 128] : Fin 3 → ℕ) i.succ = (![1024, 128] : Fin 2 → ℕ) i := fun i => by fin_cases i <;> rfl

/-- A strided load of a plane is a column chunk of the restrided array. -/
theorem piece (P : S4x1024x128.Idx → EReal) (n w dil j r o : ℕ) (hj : j < 4) (ho : o = 512 * r + 128 * j)
    (A : ∀ a, (![j, 0, 0] : Fin 3 → ℕ) a + (![1, 1024, 128] : Fin 3 → ℕ) a ≤ S4x1024x128.size a)
    (B) (h0) (hs) (h1) (hR)
    (E : ∀ a, (![0, o] : Fin 2 → ℕ) a + (![n, 128] : Fin 2 → ℕ) a ≤ (⟨2, ![n, w]⟩ : Shape).size a) (x : (⟨2, ![n, 128]⟩ : Shape).Idx) :
    LoadRect.valAlong (lr := (⟨![r, 0], ![n, 128], ![dil, 1], B⟩ : LoadRect ⟨2, ![1024, 128]⟩)) hR (fun q => P (((Rect.unit (s := S4x1024x128) ![j, 0, 0] ![1, 1024, 128] A).withinL
        ((⟨![r, 0], ![n, 128], ![dil, 1], B⟩ : LoadRect ⟨2, ![1024, 128]⟩).consLift ![1, 1024, 128] h0 hs) h1).idx q)) x
      = restride n w dil P ((Rect.unit (s := ⟨2, ![n, w]⟩) ![0, o] ![n, 128] E).idx x) := by
  have e2 := (LoadRect.liftsTo_consLift (⟨![r, 0], ![n, 128], ![dil, 1], B⟩ : LoadRect ⟨2, ![1024, 128]⟩) ![1, 1024, 128] h0 hs x).symm.trans
    (Shape.reshapeEquiv_cons_one _ _)
  refine (congrArg P (Rect.idx_withinL (Rect.unit (s := S4x1024x128) ![j, 0, 0] ![1, 1024, 128] A)
    ((⟨![r, 0], ![n, 128], ![dil, 1], B⟩ : LoadRect ⟨2, ![1024, 128]⟩).consLift ![1, 1024, 128] h0 hs) h1 (Shape.reshapeEquiv hR x))).trans ?_
  refine (congrArg (fun q => P ((Rect.unit (s := S4x1024x128) ![j, 0, 0] ![1, 1024, 128] A).emb q)) e2).trans ?_
  unfold restride
  have e0 : ((Rect.unit (s := ⟨2, ![n, w]⟩) ![0, o] ![n, 128] E).idx x 0).val = (x 0).val := (Rect.idx_unit_val _ _ _ _ _).trans (Nat.zero_add _)
  have e1 : ((Rect.unit (s := ⟨2, ![n, w]⟩) ![0, o] ![n, 128] E).idx x 1).val = o + (x 1).val := Rect.idx_unit_val _ _ _ _ _
  have hx : (x 1).val < 128 := (x 1).isLt
  have hb := (LoadRect.idx (⟨![r, 0], ![n, 128], ![dil, 1], B⟩ : LoadRect ⟨2, ![1024, 128]⟩) x 0).isLt
  have hc : r + dil * (x 0).val < 1024 := hb
  refine congrArg P (funext fun a => Fin.ext ?_)
  match a with
  | ⟨0, _⟩ =>
    refine (Rect.idx_unit_val (s := S4x1024x128) _ _ _ _ _).trans ?_
    show j + 0 = ((Rect.unit (s := ⟨2, ![n, w]⟩) ![0, o] ![n, 128] E).idx x 1).val / 128 % 4
    rw [e1]; omega
  | ⟨1, _⟩ =>
    refine (Rect.idx_unit_val (s := S4x1024x128) _ _ _ _ _).trans ?_
    show 0 + (r + dil * (x 0).val) = (dil * ((Rect.unit (s := ⟨2, ![n, w]⟩) ![0, o] ![n, 128] E).idx x 0).val + ((Rect.unit (s := ⟨2, ![n, w]⟩) ![0, o] ![n, 128] E).idx x 1).val / 512) % 1024
    rw [e0, e1]; generalize dil * (x 0).val = u at *; omega
  | ⟨2, _⟩ =>
    refine (Rect.idx_unit_val (s := S4x1024x128) _ _ _ _ _).trans ?_
    show 0 + (0 + 1 * (x 1).val) = ((Rect.unit (s := ⟨2, ![n, w]⟩) ![0, o] ![n, 128] E).idx x 1).val % 128
    rw [e1]; omega

/-- Restriding the planes of an array reads its rows and columns. -/
theorem restride_planes (n w dil : ℕ) (D : S1024x512.Idx → EReal) (y : (⟨2, ![n, w]⟩ : Shape).Idx) :
    restride n w dil (planes D) y = D (ix2 ⟨(dil * (y 0).val + (y 1).val / 512) % 1024, Nat.mod_lt _ (by norm_num)⟩ ⟨(y 1).val % 512, Nat.mod_lt _ (by norm_num)⟩) := by
  refine congrArg D (congrArg (ix2 _) (Fin.ext ?_))
  show 128 * ((y 1).val / 128 % 4) + (y 1).val % 128 = (y 1).val % 512
  omega

/-! ## The weight's gradient, four chunks of rows -/

/-- A block's part added to what was there. -/
def acc (S : S1024x1024.Idx → ℝ) (X0 X6 : S1024x1024.Idx → ℝ) (y : S1024x1024.Idx) : ℝ := S y + ∑ n : Fin 1024, X6 (ix2 n (y 0)) * X0 (ix2 n (y 1))

section chunks
variable (S X0 X6 : S1024x1024.Idx → ℝ)

theorem chunk (o : ℕ) (A : ∀ a, (![o, 0] : Fin 2 → ℕ) a + S256x1024.size a ≤ S1024x1024.size a)
    (B : ∀ a, (![0, o] : Fin 2 → ℕ) a + S1024x256.size a ≤ S1024x1024.size a) (x : S256x1024.Idx) :
    k0_pay6 (F := Ideal) (up X0) (View.ld (Val := Elt Ideal) (e' := .f32) (up S) (Rect.unit (s := S1024x1024) ![o, 0] S256x1024.size A))
      (View.ld (Val := Elt Ideal) (e' := .bf16) (up X6) (Rect.unit (s := S1024x1024) ![0, o] S1024x256.size B)) x
      = up (acc S X0 X6) ((Rect.unit (s := S1024x1024) ![o, 0] S256x1024.size A).idx x) := by
  obtain ⟨k, d, rfl⟩ : ∃ k d, x = ix2 k d := ⟨x 0, x 1, ix2_self x⟩
  refine (p6 X0 _ (fun q => X6 ((Rect.unit (s := S1024x1024) ![0, o] S1024x256.size B).idx q)) k d
    (S ((Rect.unit (s := S1024x1024) ![o, 0] S256x1024.size A).idx (ix2 k d))) rfl).trans ?_
  refine congrArg (fun u : ℝ => ((S ((Rect.unit (s := S1024x1024) ![o, 0] S256x1024.size A).idx (ix2 k d)) + u : ℝ) : EReal)) (Finset.sum_congr rfl fun n _ => congrArg₂ (fun p q => X6 p * X0 q) ?_ ?_)
  · funext a
    match a with
    | ⟨0, _⟩ => exact Fin.ext ((Rect.idx_unit_val _ _ _ _ _).trans (Nat.zero_add _))
    | ⟨1, _⟩ => exact Fin.ext ((Rect.idx_unit_val _ _ _ _ _).trans (Rect.idx_unit_val _ _ _ _ _).symm)
  · exact congrArg (ix2 n) (Fin.ext ((Rect.idx_unit_val _ _ _ _ _).trans (Nat.zero_add _)).symm)

/-- A block's four chunks, the last stored first in the list. -/
def chunks : List (View.Piece (Elt Ideal) S1024x1024 .f32) :=
    [⟨Rect.unit (s := S1024x1024) ![768, 0] ![256, 1024] inb_S1024x1024_S256x1024_768_0, k0_pay6 (F := Ideal) (up X0) (View.ld (Val := Elt Ideal) (e' := .f32) (up S) (Rect.unit (s := S1024x1024) ![768, 0] S256x1024.size inb_S1024x1024_S256x1024_768_0)) (View.ld (Val := Elt Ideal) (e' := .bf16) (up X6) (Rect.unit (s := S1024x1024) ![0, 768] S1024x256.size inb_S1024x1024_S1024x256_0_768))⟩,
     ⟨Rect.unit (s := S1024x1024) ![512, 0] ![256, 1024] inb_S1024x1024_S256x1024_512_0, k0_pay6 (F := Ideal) (up X0) (View.ld (Val := Elt Ideal) (e' := .f32) (up S) (Rect.unit (s := S1024x1024) ![512, 0] S256x1024.size inb_S1024x1024_S256x1024_512_0)) (View.ld (Val := Elt Ideal) (e' := .bf16) (up X6) (Rect.unit (s := S1024x1024) ![0, 512] S1024x256.size inb_S1024x1024_S1024x256_0_512))⟩,
     ⟨Rect.unit (s := S1024x1024) ![256, 0] ![256, 1024] inb_S1024x1024_S256x1024_256_0, k0_pay6 (F := Ideal) (up X0) (View.ld (Val := Elt Ideal) (e' := .f32) (up S) (Rect.unit (s := S1024x1024) ![256, 0] S256x1024.size inb_S1024x1024_S256x1024_256_0)) (View.ld (Val := Elt Ideal) (e' := .bf16) (up X6) (Rect.unit (s := S1024x1024) ![0, 256] S1024x256.size inb_S1024x1024_S1024x256_0_256))⟩,
     ⟨Rect.unit (s := S1024x1024) ![0, 0] ![256, 1024] inb_S1024x1024_S256x1024_0_0, k0_pay6 (F := Ideal) (up X0) (View.ld (Val := Elt Ideal) (e' := .f32) (up S) (Rect.unit (s := S1024x1024) ![0, 0] S256x1024.size inb_S1024x1024_S256x1024_0_0)) (View.ld (Val := Elt Ideal) (e' := .bf16) (up X6) (Rect.unit (s := S1024x1024) ![0, 0] S1024x256.size inb_S1024x1024_S1024x256_0_0))⟩]

/-- Over any earlier stores they leave the sum. -/
theorem canon_acc (L' : List (View.Piece (Elt Ideal) S1024x1024 .f32)) : View.canon (chunks S X0 X6 ++ L') = up (acc S X0 X6) := by
  funext y
  refine View.canon_append_of_piecesOf (Val := Elt Ideal) (e := .f32) (up (acc S X0 X6)) L' (chunks S X0 X6) ?_ y
    (View.cover_of_tiledL (s := S1024x1024) _ S256x1024.size (by sl_kernel_rfl) y)
  refine And.intro (fun x => chunk S X0 X6 768 inb_S1024x1024_S256x1024_768_0 inb_S1024x1024_S1024x256_0_768 x) ?_
  refine And.intro (fun x => chunk S X0 X6 512 inb_S1024x1024_S256x1024_512_0 inb_S1024x1024_S1024x256_0_512 x) ?_
  refine And.intro (fun x => chunk S X0 X6 256 inb_S1024x1024_S256x1024_256_0 inb_S1024x1024_S1024x256_0_256 x) ?_
  refine And.intro (fun x => chunk S X0 X6 0 inb_S1024x1024_S256x1024_0_0 inb_S1024x1024_S1024x256_0_0 x) ?_
  exact trivial

/-- A load of rows below the last stored chunk reads what was stored before. -/
theorem skip (v : View sig .tc .vmem S1024x1024 .f32) (o o' : ℕ) (h : o + 256 ≤ o') (A : ∀ a, (![o, 0] : Fin 2 → ℕ) a + (![256, 1024] : Fin 2 → ℕ) a ≤ S1024x1024.size a)
    (B : ∀ a, (![o', 0] : Fin 2 → ℕ) a + (![256, 1024] : Fin 2 → ℕ) a ≤ S1024x1024.size a) (p : S256x1024.Idx → Elt Ideal .f32) (L : List (View.Piece (Elt Ideal) S1024x1024 .f32)) :
    v.readCov (⟨Rect.unit (s := S1024x1024) ![o, 0] ![256, 1024] A, p⟩ :: L) (Rect.unit (s := S1024x1024) ![o', 0] ![256, 1024] B).toLoadRect
      = v.readCov L (Rect.unit (s := S1024x1024) ![o', 0] ![256, 1024] B).toLoadRect :=
  View.readCov_cons_of_rows_disjoint v o o' (.inl h) p L A B

/-- A load of rows of the zeroed scratch. -/
theorem fill (v : View sig .tc .vmem S1024x1024 .f32) (o : ℕ) (A) (B : ∀ a, (![o, 0] : Fin 2 → ℕ) a + (![256, 1024] : Fin 2 → ℕ) a ≤ S1024x1024.size a) :
    v.readCov [⟨Rect.unit (s := S1024x1024) ![0, 0] ![1024, 1024] A, k0_pay4 (F := Ideal)⟩] (Rect.unit (s := S1024x1024) ![o, 0] ![256, 1024] B).toLoadRect
      = View.ld (Val := Elt Ideal) (e' := .f32) (up fun _ => 0) (Rect.unit (s := S1024x1024) ![o, 0] S256x1024.size B) := by
  refine (View.readCov_fill (Val := Elt Ideal) (s := S1024x1024) (e := .f32) v (off := ![0, 0]) A (k0_pay4 (F := Ideal)) [] (Rect.unit (s := S1024x1024) ![o, 0] ![256, 1024] B) (congrFun hz)).trans ?_
  exact congrArg (fun Z => View.ld (Val := Elt Ideal) (e' := .f32) Z (Rect.unit (s := S1024x1024) ![o, 0] S256x1024.size B))
    (funext fun y => c_zero : k0_pay4 (F := Ideal) = up fun _ => 0)

theorem read_acc (v : View sig .tc .vmem S1024x1024 .f32) (L : List (View.Piece (Elt Ideal) S1024x1024 .f32)) (G : S1024x1024.Idx → EReal) (h : View.canon L = G) :
    k0_pay10 (F := Ideal) (v.readCov L (Rect.unit (s := S1024x1024) ![0, 0] S1024x1024.size inb_S1024x1024_S1024x1024_0_0).toLoadRect) = G := by
  rw [View.readCov_eq_canon', h]
  exact View.ld_unit_zero (Val := Elt Ideal) (e := .f32) (S := S1024x1024) hz _ G

end chunks

section points

variable (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S4x1024x128 .f32) (harg15 : arg15.IsWhole) (arg16 : Memref sig .tc .vmem S1024x1024 .f32) (harg16 : arg16.IsWhole)

theorem outA7 (hc0 : cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = up (dob X0 X1 X2 lo X4) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  simp only [View.ld_unit_zero (S := S1024x1024) hz, View.ld_unit_zero (S := S1024x512) hz, View.ld_unit_zero (S := S1x512) hz]
  subst h0 h1 h2 h3 h4 h5 h6
  rw [View.canon_unit_zero hz]
  exact p17 X0 X1 X2 X4 lo _ (p15 X0 X1)

theorem outA8 (hc0 : cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = restride 1024 512 1 (planes (up (dob X0 X1 X3 hi X5))) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  simp only [View.ld_unit_zero (S := S1024x1024) hz, View.ld_unit_zero (S := S1024x512) hz, View.ld_unit_zero (S := S1x512) hz]
  subst h0 h1 h2 h3 h4 h5 h6
  simp only [View.readCov_eq_canon', canon_planes, p24]
  funext y
  refine View.canon_apply_of_pieces (Val := Elt Ideal) (e := .bf16) (restride 1024 512 1 (planes (up (dob X0 X1 X3 hi X5)))) _ (View.PiecesOf.mem ?_) y
    (View.cover_of_tiledL (s := S1024x512) _ S1024x128.size (by sl_kernel_rfl) y)
  refine And.intro (fun x => plane _ 3 384 (by norm_num) (by norm_num) _ inb_S1024x512_S1024x128_0_384 x) ?_
  refine And.intro (fun x => plane _ 2 256 (by norm_num) (by norm_num) _ inb_S1024x512_S1024x128_0_256 x) ?_
  refine And.intro (fun x => plane _ 1 128 (by norm_num) (by norm_num) _ inb_S1024x512_S1024x128_0_128 x) ?_
  refine And.intro (fun x => plane _ 0 0 (by norm_num) (by norm_num) _ inb_S1024x512_S1024x128_0_0 x) ?_
  exact trivial

theorem outA9 (hc0 : cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = restride 256 2048 4 (planes (up (dob X0 X1 X3 hi X5))) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  simp only [View.ld_unit_zero (S := S1024x1024) hz, View.ld_unit_zero (S := S1024x512) hz, View.ld_unit_zero (S := S1x512) hz]
  subst h0 h1 h2 h3 h4 h5 h6
  simp only [View.readCov_eq_canon', canon_planes, p24]
  simp only [k0_pay33, k0_pay34, k0_pay35, k0_pay36, k0_pay37, k0_pay38, k0_pay39, k0_pay40, k0_pay41, k0_pay42, k0_pay43, k0_pay44, k0_pay45, k0_pay46, k0_pay47, k0_pay48, narrow]
  funext y
  refine View.canon_apply_of_pieces (Val := Elt Ideal) (e := .bf16) (restride 256 2048 4 (planes (up (dob X0 X1 X3 hi X5)))) _ (View.PiecesOf.mem ?_) y
    (View.cover_of_tiledL (s := S256x2048) _ S256x128.size (by sl_kernel_rfl) y)
  refine And.intro (fun x => piece (planes (up (dob X0 X1 X3 hi X5))) 256 2048 4 3 3 1920 (by norm_num) (by norm_num) inb_S4x1024x128_S1x1024x128_3_0_0 inb_S1024x128_S256x128_3_0_s_4_1 rfl hs3 (fun _ => rfl) (LoadRect.numel_consLift _ _ rfl hs3) inb_S256x2048_S256x128_0_1920 x) ?_
  refine And.intro (fun x => piece (planes (up (dob X0 X1 X3 hi X5))) 256 2048 4 2 3 1792 (by norm_num) (by norm_num) inb_S4x1024x128_S1x1024x128_2_0_0 inb_S1024x128_S256x128_3_0_s_4_1 rfl hs3 (fun _ => rfl) (LoadRect.numel_consLift _ _ rfl hs3) inb_S256x2048_S256x128_0_1792 x) ?_
  refine And.intro (fun x => piece (planes (up (dob X0 X1 X3 hi X5))) 256 2048 4 1 3 1664 (by norm_num) (by norm_num) inb_S4x1024x128_S1x1024x128_1_0_0 inb_S1024x128_S256x128_3_0_s_4_1 rfl hs3 (fun _ => rfl) (LoadRect.numel_consLift _ _ rfl hs3) inb_S256x2048_S256x128_0_1664 x) ?_
  refine And.intro (fun x => piece (planes (up (dob X0 X1 X3 hi X5))) 256 2048 4 0 3 1536 (by norm_num) (by norm_num) inb_S4x1024x128_S1x1024x128_0_0_0 inb_S1024x128_S256x128_3_0_s_4_1 rfl hs3 (fun _ => rfl) (LoadRect.numel_consLift _ _ rfl hs3) inb_S256x2048_S256x128_0_1536 x) ?_
  refine And.intro (fun x => piece (planes (up (dob X0 X1 X3 hi X5))) 256 2048 4 3 2 1408 (by norm_num) (by norm_num) inb_S4x1024x128_S1x1024x128_3_0_0 inb_S1024x128_S256x128_2_0_s_4_1 rfl hs3 (fun _ => rfl) (LoadRect.numel_consLift _ _ rfl hs3) inb_S256x2048_S256x128_0_1408 x) ?_
  refine And.intro (fun x => piece (planes (up (dob X0 X1 X3 hi X5))) 256 2048 4 2 2 1280 (by norm_num) (by norm_num) inb_S4x1024x128_S1x1024x128_2_0_0 inb_S1024x128_S256x128_2_0_s_4_1 rfl hs3 (fun _ => rfl) (LoadRect.numel_consLift _ _ rfl hs3) inb_S256x2048_S256x128_0_1280 x) ?_
  refine And.intro (fun x => piece (planes (up (dob X0 X1 X3 hi X5))) 256 2048 4 1 2 1152 (by norm_num) (by norm_num) inb_S4x1024x128_S1x1024x128_1_0_0 inb_S1024x128_S256x128_2_0_s_4_1 rfl hs3 (fun _ => rfl) (LoadRect.numel_consLift _ _ rfl hs3) inb_S256x2048_S256x128_0_1152 x) ?_
  refine And.intro (fun x => piece (planes (up (dob X0 X1 X3 hi X5))) 256 2048 4 0 2 1024 (by norm_num) (by norm_num) inb_S4x1024x128_S1x1024x128_0_0_0 inb_S1024x128_S256x128_2_0_s_4_1 rfl hs3 (fun _ => rfl) (LoadRect.numel_consLift _ _ rfl hs3) inb_S256x2048_S256x128_0_1024 x) ?_
  refine And.intro (fun x => piece (planes (up (dob X0 X1 X3 hi X5))) 256 2048 4 3 1 896 (by norm_num) (by norm_num) inb_S4x1024x128_S1x1024x128_3_0_0 inb_S1024x128_S256x128_1_0_s_4_1 rfl hs3 (fun _ => rfl) (LoadRect.numel_consLift _ _ rfl hs3) inb_S256x2048_S256x128_0_896 x) ?_
  refine And.intro (fun x => piece (planes (up (dob X0 X1 X3 hi X5))) 256 2048 4 2 1 768 (by norm_num) (by norm_num) inb_S4x1024x128_S1x1024x128_2_0_0 inb_S1024x128_S256x128_1_0_s_4_1 rfl hs3 (fun _ => rfl) (LoadRect.numel_consLift _ _ rfl hs3) inb_S256x2048_S256x128_0_768 x) ?_
  refine And.intro (fun x => piece (planes (up (dob X0 X1 X3 hi X5))) 256 2048 4 1 1 640 (by norm_num) (by norm_num) inb_S4x1024x128_S1x1024x128_1_0_0 inb_S1024x128_S256x128_1_0_s_4_1 rfl hs3 (fun _ => rfl) (LoadRect.numel_consLift _ _ rfl hs3) inb_S256x2048_S256x128_0_640 x) ?_
  refine And.intro (fun x => piece (planes (up (dob X0 X1 X3 hi X5))) 256 2048 4 0 1 512 (by norm_num) (by norm_num) inb_S4x1024x128_S1x1024x128_0_0_0 inb_S1024x128_S256x128_1_0_s_4_1 rfl hs3 (fun _ => rfl) (LoadRect.numel_consLift _ _ rfl hs3) inb_S256x2048_S256x128_0_512 x) ?_
  refine And.intro (fun x => piece (planes (up (dob X0 X1 X3 hi X5))) 256 2048 4 3 0 384 (by norm_num) (by norm_num) inb_S4x1024x128_S1x1024x128_3_0_0 inb_S1024x128_S256x128_0_0_s_4_1 rfl hs3 (fun _ => rfl) (LoadRect.numel_consLift _ _ rfl hs3) inb_S256x2048_S256x128_0_384 x) ?_
  refine And.intro (fun x => piece (planes (up (dob X0 X1 X3 hi X5))) 256 2048 4 2 0 256 (by norm_num) (by norm_num) inb_S4x1024x128_S1x1024x128_2_0_0 inb_S1024x128_S256x128_0_0_s_4_1 rfl hs3 (fun _ => rfl) (LoadRect.numel_consLift _ _ rfl hs3) inb_S256x2048_S256x128_0_256 x) ?_
  refine And.intro (fun x => piece (planes (up (dob X0 X1 X3 hi X5))) 256 2048 4 1 0 128 (by norm_num) (by norm_num) inb_S4x1024x128_S1x1024x128_1_0_0 inb_S1024x128_S256x128_0_0_s_4_1 rfl hs3 (fun _ => rfl) (LoadRect.numel_consLift _ _ rfl hs3) inb_S256x2048_S256x128_0_128 x) ?_
  refine And.intro (fun x => piece (planes (up (dob X0 X1 X3 hi X5))) 256 2048 4 0 0 0 (by norm_num) (by norm_num) inb_S4x1024x128_S1x1024x128_0_0_0 inb_S1024x128_S256x128_0_0_s_4_1 rfl hs3 (fun _ => rfl) (LoadRect.numel_consLift _ _ rfl hs3) inb_S256x2048_S256x128_0_0 x) ?_
  exact trivial

theorem outA10 (hc0 : cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = restride 64 8192 16 (planes (up (dob X0 X1 X3 hi X5))) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  simp only [View.ld_unit_zero (S := S1024x1024) hz, View.ld_unit_zero (S := S1024x512) hz, View.ld_unit_zero (S := S1x512) hz]
  subst h0 h1 h2 h3 h4 h5 h6
  simp only [View.readCov_eq_canon', canon_planes, p24]
  simp only [k0_pay1, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, narrow]
  funext y
  refine View.canon_apply_of_pieces (Val := Elt Ideal) (e := .bf16) (restride 64 8192 16 (planes (up (dob X0 X1 X3 hi X5)))) _ (View.PiecesOf.mem ?_) y
    (View.cover_of_tiledL (s := S64x8192) _ S64x128.size (by sl_kernel_rfl) y)
  refine And.intro (fun x => piece (planes (up (dob X0 X1 X3 hi X5))) 64 8192 16 3 15 8064 (by norm_num) (by norm_num) inb_S4x1024x128_S1x1024x128_3_0_0 inb_S1024x128_S64x128_15_0_s_16_1 rfl hs3 (fun _ => rfl) (LoadRect.numel_consLift _ _ rfl hs3) inb_S64x8192_S64x128_0_8064 x) ?_
  refine And.intro (fun x => piece (planes (up (dob X0 X1 X3 hi X5))) 64 8192 16 2 15 7936 (by norm_num) (by norm_num) inb_S4x1024x128_S1x1024x128_2_0_0 inb_S1024x128_S64x128_15_0_s_16_1 rfl hs3 (fun _ => rfl) (LoadRect.numel_consLift _ _ rfl hs3) inb_S64x8192_S64x128_0_7936 x) ?_
  refine And.intro (fun x => piece (planes (up (dob X0 X1 X3 hi X5))) 64 8192 16 1 15 7808 (by norm_num) (by norm_num) inb_S4x1024x128_S1x1024x128_1_0_0 inb_S1024x128_S64x128_15_0_s_16_1 rfl hs3 (fun _ => rfl) (LoadRect.numel_consLift _ _ rfl hs3) inb_S64x8192_S64x128_0_7808 x) ?_
  refine And.intro (fun x => piece (planes (up (dob X0 X1 X3 hi X5))) 64 8192 16 0 15 7680 (by norm_num) (by norm_num) inb_S4x1024x128_S1x1024x128_0_0_0 inb_S1024x128_S64x128_15_0_s_16_1 rfl hs3 (fun _ => rfl) (LoadRect.numel_consLift _ _ rfl hs3) inb_S64x8192_S64x128_0_7680 x) ?_
  refine And.intro (fun x => piece (planes (up (dob X0 X1 X3 hi X5))) 64 8192 16 3 14 7552 (by norm_num) (by norm_num) inb_S4x1024x128_S1x1024x128_3_0_0 inb_S1024x128_S64x128_14_0_s_16_1 rfl hs3 (fun _ => rfl) (LoadRect.numel_consLift _ _ rfl hs3) inb_S64x8192_S64x128_0_7552 x) ?_
  refine And.intro (fun x => piece (planes (up (dob X0 X1 X3 hi X5))) 64 8192 16 2 14 7424 (by norm_num) (by norm_num) inb_S4x1024x128_S1x1024x128_2_0_0 inb_S1024x128_S64x128_14_0_s_16_1 rfl hs3 (fun _ => rfl) (LoadRect.numel_consLift _ _ rfl hs3) inb_S64x8192_S64x128_0_7424 x) ?_
  refine And.intro (fun x => piece (planes (up (dob X0 X1 X3 hi X5))) 64 8192 16 1 14 7296 (by norm_num) (by norm_num) inb_S4x1024x128_S1x1024x128_1_0_0 inb_S1024x128_S64x128_14_0_s_16_1 rfl hs3 (fun _ => rfl) (LoadRect.numel_consLift _ _ rfl hs3) inb_S64x8192_S64x128_0_7296 x) ?_
  refine And.intro (fun x => piece (planes (up (dob X0 X1 X3 hi X5))) 64 8192 16 0 14 7168 (by norm_num) (by norm_num) inb_S4x1024x128_S1x1024x128_0_0_0 inb_S1024x128_S64x128_14_0_s_16_1 rfl hs3 (fun _ => rfl) (LoadRect.numel_consLift _ _ rfl hs3) inb_S64x8192_S64x128_0_7168 x) ?_
  refine And.intro (fun x => piece (planes (up (dob X0 X1 X3 hi X5))) 64 8192 16 3 13 7040 (by norm_num) (by norm_num) inb_S4x1024x128_S1x1024x128_3_0_0 inb_S1024x128_S64x128_13_0_s_16_1 rfl hs3 (fun _ => rfl) (LoadRect.numel_consLift _ _ rfl hs3) inb_S64x8192_S64x128_0_7040 x) ?_
  refine And.intro (fun x => piece (planes (up (dob X0 X1 X3 hi X5))) 64 8192 16 2 13 6912 (by norm_num) (by norm_num) inb_S4x1024x128_S1x1024x128_2_0_0 inb_S1024x128_S64x128_13_0_s_16_1 rfl hs3 (fun _ => rfl) (LoadRect.numel_consLift _ _ rfl hs3) inb_S64x8192_S64x128_0_6912 x) ?_
  refine And.intro (fun x => piece (planes (up (dob X0 X1 X3 hi X5))) 64 8192 16 1 13 6784 (by norm_num) (by norm_num) inb_S4x1024x128_S1x1024x128_1_0_0 inb_S1024x128_S64x128_13_0_s_16_1 rfl hs3 (fun _ => rfl) (LoadRect.numel_consLift _ _ rfl hs3) inb_S64x8192_S64x128_0_6784 x) ?_
  refine And.intro (fun x => piece (planes (up (dob X0 X1 X3 hi X5))) 64 8192 16 0 13 6656 (by norm_num) (by norm_num) inb_S4x1024x128_S1x1024x128_0_0_0 inb_S1024x128_S64x128_13_0_s_16_1 rfl hs3 (fun _ => rfl) (LoadRect.numel_consLift _ _ rfl hs3) inb_S64x8192_S64x128_0_6656 x) ?_
  refine And.intro (fun x => piece (planes (up (dob X0 X1 X3 hi X5))) 64 8192 16 3 12 6528 (by norm_num) (by norm_num) inb_S4x1024x128_S1x1024x128_3_0_0 inb_S1024x128_S64x128_12_0_s_16_1 rfl hs3 (fun _ => rfl) (LoadRect.numel_consLift _ _ rfl hs3) inb_S64x8192_S64x128_0_6528 x) ?_
  refine And.intro (fun x => piece (planes (up (dob X0 X1 X3 hi X5))) 64 8192 16 2 12 6400 (by norm_num) (by norm_num) inb_S4x1024x128_S1x1024x128_2_0_0 inb_S1024x128_S64x128_12_0_s_16_1 rfl hs3 (fun _ => rfl) (LoadRect.numel_consLift _ _ rfl hs3) inb_S64x8192_S64x128_0_6400 x) ?_
  refine And.intro (fun x => piece (planes (up (dob X0 X1 X3 hi X5))) 64 8192 16 1 12 6272 (by norm_num) (by norm_num) inb_S4x1024x128_S1x1024x128_1_0_0 inb_S1024x128_S64x128_12_0_s_16_1 rfl hs3 (fun _ => rfl) (LoadRect.numel_consLift _ _ rfl hs3) inb_S64x8192_S64x128_0_6272 x) ?_
  refine And.intro (fun x => piece (planes (up (dob X0 X1 X3 hi X5))) 64 8192 16 0 12 6144 (by norm_num) (by norm_num) inb_S4x1024x128_S1x1024x128_0_0_0 inb_S1024x128_S64x128_12_0_s_16_1 rfl hs3 (fun _ => rfl) (LoadRect.numel_consLift _ _ rfl hs3) inb_S64x8192_S64x128_0_6144 x) ?_
  refine And.intro (fun x => piece (planes (up (dob X0 X1 X3 hi X5))) 64 8192 16 3 11 6016 (by norm_num) (by norm_num) inb_S4x1024x128_S1x1024x128_3_0_0 inb_S1024x128_S64x128_11_0_s_16_1 rfl hs3 (fun _ => rfl) (LoadRect.numel_consLift _ _ rfl hs3) inb_S64x8192_S64x128_0_6016 x) ?_
  refine And.intro (fun x => piece (planes (up (dob X0 X1 X3 hi X5))) 64 8192 16 2 11 5888 (by norm_num) (by norm_num) inb_S4x1024x128_S1x1024x128_2_0_0 inb_S1024x128_S64x128_11_0_s_16_1 rfl hs3 (fun _ => rfl) (LoadRect.numel_consLift _ _ rfl hs3) inb_S64x8192_S64x128_0_5888 x) ?_
  refine And.intro (fun x => piece (planes (up (dob X0 X1 X3 hi X5))) 64 8192 16 1 11 5760 (by norm_num) (by norm_num) inb_S4x1024x128_S1x1024x128_1_0_0 inb_S1024x128_S64x128_11_0_s_16_1 rfl hs3 (fun _ => rfl) (LoadRect.numel_consLift _ _ rfl hs3) inb_S64x8192_S64x128_0_5760 x) ?_
  refine And.intro (fun x => piece (planes (up (dob X0 X1 X3 hi X5))) 64 8192 16 0 11 5632 (by norm_num) (by norm_num) inb_S4x1024x128_S1x1024x128_0_0_0 inb_S1024x128_S64x128_11_0_s_16_1 rfl hs3 (fun _ => rfl) (LoadRect.numel_consLift _ _ rfl hs3) inb_S64x8192_S64x128_0_5632 x) ?_
  refine And.intro (fun x => piece (planes (up (dob X0 X1 X3 hi X5))) 64 8192 16 3 10 5504 (by norm_num) (by norm_num) inb_S4x1024x128_S1x1024x128_3_0_0 inb_S1024x128_S64x128_10_0_s_16_1 rfl hs3 (fun _ => rfl) (LoadRect.numel_consLift _ _ rfl hs3) inb_S64x8192_S64x128_0_5504 x) ?_
  refine And.intro (fun x => piece (planes (up (dob X0 X1 X3 hi X5))) 64 8192 16 2 10 5376 (by norm_num) (by norm_num) inb_S4x1024x128_S1x1024x128_2_0_0 inb_S1024x128_S64x128_10_0_s_16_1 rfl hs3 (fun _ => rfl) (LoadRect.numel_consLift _ _ rfl hs3) inb_S64x8192_S64x128_0_5376 x) ?_
  refine And.intro (fun x => piece (planes (up (dob X0 X1 X3 hi X5))) 64 8192 16 1 10 5248 (by norm_num) (by norm_num) inb_S4x1024x128_S1x1024x128_1_0_0 inb_S1024x128_S64x128_10_0_s_16_1 rfl hs3 (fun _ => rfl) (LoadRect.numel_consLift _ _ rfl hs3) inb_S64x8192_S64x128_0_5248 x) ?_
  refine And.intro (fun x => piece (planes (up (dob X0 X1 X3 hi X5))) 64 8192 16 0 10 5120 (by norm_num) (by norm_num) inb_S4x1024x128_S1x1024x128_0_0_0 inb_S1024x128_S64x128_10_0_s_16_1 rfl hs3 (fun _ => rfl) (LoadRect.numel_consLift _ _ rfl hs3) inb_S64x8192_S64x128_0_5120 x) ?_
  refine And.intro (fun x => piece (planes (up (dob X0 X1 X3 hi X5))) 64 8192 16 3 9 4992 (by norm_num) (by norm_num) inb_S4x1024x128_S1x1024x128_3_0_0 inb_S1024x128_S64x128_9_0_s_16_1 rfl hs3 (fun _ => rfl) (LoadRect.numel_consLift _ _ rfl hs3) inb_S64x8192_S64x128_0_4992 x) ?_
  refine And.intro (fun x => piece (planes (up (dob X0 X1 X3 hi X5))) 64 8192 16 2 9 4864 (by norm_num) (by norm_num) inb_S4x1024x128_S1x1024x128_2_0_0 inb_S1024x128_S64x128_9_0_s_16_1 rfl hs3 (fun _ => rfl) (LoadRect.numel_consLift _ _ rfl hs3) inb_S64x8192_S64x128_0_4864 x) ?_
  refine And.intro (fun x => piece (planes (up (dob X0 X1 X3 hi X5))) 64 8192 16 1 9 4736 (by norm_num) (by norm_num) inb_S4x1024x128_S1x1024x128_1_0_0 inb_S1024x128_S64x128_9_0_s_16_1 rfl hs3 (fun _ => rfl) (LoadRect.numel_consLift _ _ rfl hs3) inb_S64x8192_S64x128_0_4736 x) ?_
  refine And.intro (fun x => piece (planes (up (dob X0 X1 X3 hi X5))) 64 8192 16 0 9 4608 (by norm_num) (by norm_num) inb_S4x1024x128_S1x1024x128_0_0_0 inb_S1024x128_S64x128_9_0_s_16_1 rfl hs3 (fun _ => rfl) (LoadRect.numel_consLift _ _ rfl hs3) inb_S64x8192_S64x128_0_4608 x) ?_
  refine And.intro (fun x => piece (planes (up (dob X0 X1 X3 hi X5))) 64 8192 16 3 8 4480 (by norm_num) (by norm_num) inb_S4x1024x128_S1x1024x128_3_0_0 inb_S1024x128_S64x128_8_0_s_16_1 rfl hs3 (fun _ => rfl) (LoadRect.numel_consLift _ _ rfl hs3) inb_S64x8192_S64x128_0_4480 x) ?_
  refine And.intro (fun x => piece (planes (up (dob X0 X1 X3 hi X5))) 64 8192 16 2 8 4352 (by norm_num) (by norm_num) inb_S4x1024x128_S1x1024x128_2_0_0 inb_S1024x128_S64x128_8_0_s_16_1 rfl hs3 (fun _ => rfl) (LoadRect.numel_consLift _ _ rfl hs3) inb_S64x8192_S64x128_0_4352 x) ?_
  refine And.intro (fun x => piece (planes (up (dob X0 X1 X3 hi X5))) 64 8192 16 1 8 4224 (by norm_num) (by norm_num) inb_S4x1024x128_S1x1024x128_1_0_0 inb_S1024x128_S64x128_8_0_s_16_1 rfl hs3 (fun _ => rfl) (LoadRect.numel_consLift _ _ rfl hs3) inb_S64x8192_S64x128_0_4224 x) ?_
  refine And.intro (fun x => piece (planes (up (dob X0 X1 X3 hi X5))) 64 8192 16 0 8 4096 (by norm_num) (by norm_num) inb_S4x1024x128_S1x1024x128_0_0_0 inb_S1024x128_S64x128_8_0_s_16_1 rfl hs3 (fun _ => rfl) (LoadRect.numel_consLift _ _ rfl hs3) inb_S64x8192_S64x128_0_4096 x) ?_
  refine And.intro (fun x => piece (planes (up (dob X0 X1 X3 hi X5))) 64 8192 16 3 7 3968 (by norm_num) (by norm_num) inb_S4x1024x128_S1x1024x128_3_0_0 inb_S1024x128_S64x128_7_0_s_16_1 rfl hs3 (fun _ => rfl) (LoadRect.numel_consLift _ _ rfl hs3) inb_S64x8192_S64x128_0_3968 x) ?_
  refine And.intro (fun x => piece (planes (up (dob X0 X1 X3 hi X5))) 64 8192 16 2 7 3840 (by norm_num) (by norm_num) inb_S4x1024x128_S1x1024x128_2_0_0 inb_S1024x128_S64x128_7_0_s_16_1 rfl hs3 (fun _ => rfl) (LoadRect.numel_consLift _ _ rfl hs3) inb_S64x8192_S64x128_0_3840 x) ?_
  refine And.intro (fun x => piece (planes (up (dob X0 X1 X3 hi X5))) 64 8192 16 1 7 3712 (by norm_num) (by norm_num) inb_S4x1024x128_S1x1024x128_1_0_0 inb_S1024x128_S64x128_7_0_s_16_1 rfl hs3 (fun _ => rfl) (LoadRect.numel_consLift _ _ rfl hs3) inb_S64x8192_S64x128_0_3712 x) ?_
  refine And.intro (fun x => piece (planes (up (dob X0 X1 X3 hi X5))) 64 8192 16 0 7 3584 (by norm_num) (by norm_num) inb_S4x1024x128_S1x1024x128_0_0_0 inb_S1024x128_S64x128_7_0_s_16_1 rfl hs3 (fun _ => rfl) (LoadRect.numel_consLift _ _ rfl hs3) inb_S64x8192_S64x128_0_3584 x) ?_
  refine And.intro (fun x => piece (planes (up (dob X0 X1 X3 hi X5))) 64 8192 16 3 6 3456 (by norm_num) (by norm_num) inb_S4x1024x128_S1x1024x128_3_0_0 inb_S1024x128_S64x128_6_0_s_16_1 rfl hs3 (fun _ => rfl) (LoadRect.numel_consLift _ _ rfl hs3) inb_S64x8192_S64x128_0_3456 x) ?_
  refine And.intro (fun x => piece (planes (up (dob X0 X1 X3 hi X5))) 64 8192 16 2 6 3328 (by norm_num) (by norm_num) inb_S4x1024x128_S1x1024x128_2_0_0 inb_S1024x128_S64x128_6_0_s_16_1 rfl hs3 (fun _ => rfl) (LoadRect.numel_consLift _ _ rfl hs3) inb_S64x8192_S64x128_0_3328 x) ?_
  refine And.intro (fun x => piece (planes (up (dob X0 X1 X3 hi X5))) 64 8192 16 1 6 3200 (by norm_num) (by norm_num) inb_S4x1024x128_S1x1024x128_1_0_0 inb_S1024x128_S64x128_6_0_s_16_1 rfl hs3 (fun _ => rfl) (LoadRect.numel_consLift _ _ rfl hs3) inb_S64x8192_S64x128_0_3200 x) ?_
  refine And.intro (fun x => piece (planes (up (dob X0 X1 X3 hi X5))) 64 8192 16 0 6 3072 (by norm_num) (by norm_num) inb_S4x1024x128_S1x1024x128_0_0_0 inb_S1024x128_S64x128_6_0_s_16_1 rfl hs3 (fun _ => rfl) (LoadRect.numel_consLift _ _ rfl hs3) inb_S64x8192_S64x128_0_3072 x) ?_
  refine And.intro (fun x => piece (planes (up (dob X0 X1 X3 hi X5))) 64 8192 16 3 5 2944 (by norm_num) (by norm_num) inb_S4x1024x128_S1x1024x128_3_0_0 inb_S1024x128_S64x128_5_0_s_16_1 rfl hs3 (fun _ => rfl) (LoadRect.numel_consLift _ _ rfl hs3) inb_S64x8192_S64x128_0_2944 x) ?_
  refine And.intro (fun x => piece (planes (up (dob X0 X1 X3 hi X5))) 64 8192 16 2 5 2816 (by norm_num) (by norm_num) inb_S4x1024x128_S1x1024x128_2_0_0 inb_S1024x128_S64x128_5_0_s_16_1 rfl hs3 (fun _ => rfl) (LoadRect.numel_consLift _ _ rfl hs3) inb_S64x8192_S64x128_0_2816 x) ?_
  refine And.intro (fun x => piece (planes (up (dob X0 X1 X3 hi X5))) 64 8192 16 1 5 2688 (by norm_num) (by norm_num) inb_S4x1024x128_S1x1024x128_1_0_0 inb_S1024x128_S64x128_5_0_s_16_1 rfl hs3 (fun _ => rfl) (LoadRect.numel_consLift _ _ rfl hs3) inb_S64x8192_S64x128_0_2688 x) ?_
  refine And.intro (fun x => piece (planes (up (dob X0 X1 X3 hi X5))) 64 8192 16 0 5 2560 (by norm_num) (by norm_num) inb_S4x1024x128_S1x1024x128_0_0_0 inb_S1024x128_S64x128_5_0_s_16_1 rfl hs3 (fun _ => rfl) (LoadRect.numel_consLift _ _ rfl hs3) inb_S64x8192_S64x128_0_2560 x) ?_
  refine And.intro (fun x => piece (planes (up (dob X0 X1 X3 hi X5))) 64 8192 16 3 4 2432 (by norm_num) (by norm_num) inb_S4x1024x128_S1x1024x128_3_0_0 inb_S1024x128_S64x128_4_0_s_16_1 rfl hs3 (fun _ => rfl) (LoadRect.numel_consLift _ _ rfl hs3) inb_S64x8192_S64x128_0_2432 x) ?_
  refine And.intro (fun x => piece (planes (up (dob X0 X1 X3 hi X5))) 64 8192 16 2 4 2304 (by norm_num) (by norm_num) inb_S4x1024x128_S1x1024x128_2_0_0 inb_S1024x128_S64x128_4_0_s_16_1 rfl hs3 (fun _ => rfl) (LoadRect.numel_consLift _ _ rfl hs3) inb_S64x8192_S64x128_0_2304 x) ?_
  refine And.intro (fun x => piece (planes (up (dob X0 X1 X3 hi X5))) 64 8192 16 1 4 2176 (by norm_num) (by norm_num) inb_S4x1024x128_S1x1024x128_1_0_0 inb_S1024x128_S64x128_4_0_s_16_1 rfl hs3 (fun _ => rfl) (LoadRect.numel_consLift _ _ rfl hs3) inb_S64x8192_S64x128_0_2176 x) ?_
  refine And.intro (fun x => piece (planes (up (dob X0 X1 X3 hi X5))) 64 8192 16 0 4 2048 (by norm_num) (by norm_num) inb_S4x1024x128_S1x1024x128_0_0_0 inb_S1024x128_S64x128_4_0_s_16_1 rfl hs3 (fun _ => rfl) (LoadRect.numel_consLift _ _ rfl hs3) inb_S64x8192_S64x128_0_2048 x) ?_
  refine And.intro (fun x => piece (planes (up (dob X0 X1 X3 hi X5))) 64 8192 16 3 3 1920 (by norm_num) (by norm_num) inb_S4x1024x128_S1x1024x128_3_0_0 inb_S1024x128_S64x128_3_0_s_16_1 rfl hs3 (fun _ => rfl) (LoadRect.numel_consLift _ _ rfl hs3) inb_S64x8192_S64x128_0_1920 x) ?_
  refine And.intro (fun x => piece (planes (up (dob X0 X1 X3 hi X5))) 64 8192 16 2 3 1792 (by norm_num) (by norm_num) inb_S4x1024x128_S1x1024x128_2_0_0 inb_S1024x128_S64x128_3_0_s_16_1 rfl hs3 (fun _ => rfl) (LoadRect.numel_consLift _ _ rfl hs3) inb_S64x8192_S64x128_0_1792 x) ?_
  refine And.intro (fun x => piece (planes (up (dob X0 X1 X3 hi X5))) 64 8192 16 1 3 1664 (by norm_num) (by norm_num) inb_S4x1024x128_S1x1024x128_1_0_0 inb_S1024x128_S64x128_3_0_s_16_1 rfl hs3 (fun _ => rfl) (LoadRect.numel_consLift _ _ rfl hs3) inb_S64x8192_S64x128_0_1664 x) ?_
  refine And.intro (fun x => piece (planes (up (dob X0 X1 X3 hi X5))) 64 8192 16 0 3 1536 (by norm_num) (by norm_num) inb_S4x1024x128_S1x1024x128_0_0_0 inb_S1024x128_S64x128_3_0_s_16_1 rfl hs3 (fun _ => rfl) (LoadRect.numel_consLift _ _ rfl hs3) inb_S64x8192_S64x128_0_1536 x) ?_
  refine And.intro (fun x => piece (planes (up (dob X0 X1 X3 hi X5))) 64 8192 16 3 2 1408 (by norm_num) (by norm_num) inb_S4x1024x128_S1x1024x128_3_0_0 inb_S1024x128_S64x128_2_0_s_16_1 rfl hs3 (fun _ => rfl) (LoadRect.numel_consLift _ _ rfl hs3) inb_S64x8192_S64x128_0_1408 x) ?_
  refine And.intro (fun x => piece (planes (up (dob X0 X1 X3 hi X5))) 64 8192 16 2 2 1280 (by norm_num) (by norm_num) inb_S4x1024x128_S1x1024x128_2_0_0 inb_S1024x128_S64x128_2_0_s_16_1 rfl hs3 (fun _ => rfl) (LoadRect.numel_consLift _ _ rfl hs3) inb_S64x8192_S64x128_0_1280 x) ?_
  refine And.intro (fun x => piece (planes (up (dob X0 X1 X3 hi X5))) 64 8192 16 1 2 1152 (by norm_num) (by norm_num) inb_S4x1024x128_S1x1024x128_1_0_0 inb_S1024x128_S64x128_2_0_s_16_1 rfl hs3 (fun _ => rfl) (LoadRect.numel_consLift _ _ rfl hs3) inb_S64x8192_S64x128_0_1152 x) ?_
  refine And.intro (fun x => piece (planes (up (dob X0 X1 X3 hi X5))) 64 8192 16 0 2 1024 (by norm_num) (by norm_num) inb_S4x1024x128_S1x1024x128_0_0_0 inb_S1024x128_S64x128_2_0_s_16_1 rfl hs3 (fun _ => rfl) (LoadRect.numel_consLift _ _ rfl hs3) inb_S64x8192_S64x128_0_1024 x) ?_
  refine And.intro (fun x => piece (planes (up (dob X0 X1 X3 hi X5))) 64 8192 16 3 1 896 (by norm_num) (by norm_num) inb_S4x1024x128_S1x1024x128_3_0_0 inb_S1024x128_S64x128_1_0_s_16_1 rfl hs3 (fun _ => rfl) (LoadRect.numel_consLift _ _ rfl hs3) inb_S64x8192_S64x128_0_896 x) ?_
  refine And.intro (fun x => piece (planes (up (dob X0 X1 X3 hi X5))) 64 8192 16 2 1 768 (by norm_num) (by norm_num) inb_S4x1024x128_S1x1024x128_2_0_0 inb_S1024x128_S64x128_1_0_s_16_1 rfl hs3 (fun _ => rfl) (LoadRect.numel_consLift _ _ rfl hs3) inb_S64x8192_S64x128_0_768 x) ?_
  refine And.intro (fun x => piece (planes (up (dob X0 X1 X3 hi X5))) 64 8192 16 1 1 640 (by norm_num) (by norm_num) inb_S4x1024x128_S1x1024x128_1_0_0 inb_S1024x128_S64x128_1_0_s_16_1 rfl hs3 (fun _ => rfl) (LoadRect.numel_consLift _ _ rfl hs3) inb_S64x8192_S64x128_0_640 x) ?_
  refine And.intro (fun x => piece (planes (up (dob X0 X1 X3 hi X5))) 64 8192 16 0 1 512 (by norm_num) (by norm_num) inb_S4x1024x128_S1x1024x128_0_0_0 inb_S1024x128_S64x128_1_0_s_16_1 rfl hs3 (fun _ => rfl) (LoadRect.numel_consLift _ _ rfl hs3) inb_S64x8192_S64x128_0_512 x) ?_
  refine And.intro (fun x => piece (planes (up (dob X0 X1 X3 hi X5))) 64 8192 16 3 0 384 (by norm_num) (by norm_num) inb_S4x1024x128_S1x1024x128_3_0_0 inb_S1024x128_S64x128_0_0_s_16_1 rfl hs3 (fun _ => rfl) (LoadRect.numel_consLift _ _ rfl hs3) inb_S64x8192_S64x128_0_384 x) ?_
  refine And.intro (fun x => piece (planes (up (dob X0 X1 X3 hi X5))) 64 8192 16 2 0 256 (by norm_num) (by norm_num) inb_S4x1024x128_S1x1024x128_2_0_0 inb_S1024x128_S64x128_0_0_s_16_1 rfl hs3 (fun _ => rfl) (LoadRect.numel_consLift _ _ rfl hs3) inb_S64x8192_S64x128_0_256 x) ?_
  refine And.intro (fun x => piece (planes (up (dob X0 X1 X3 hi X5))) 64 8192 16 1 0 128 (by norm_num) (by norm_num) inb_S4x1024x128_S1x1024x128_1_0_0 inb_S1024x128_S64x128_0_0_s_16_1 rfl hs3 (fun _ => rfl) (LoadRect.numel_consLift _ _ rfl hs3) inb_S64x8192_S64x128_0_128 x) ?_
  refine And.intro (fun x => piece (planes (up (dob X0 X1 X3 hi X5))) 64 8192 16 0 0 0 (by norm_num) (by norm_num) inb_S4x1024x128_S1x1024x128_0_0_0 inb_S1024x128_S64x128_0_0_s_16_1 rfl hs3 (fun _ => rfl) (LoadRect.numel_consLift _ _ rfl hs3) inb_S64x8192_S64x128_0_0 x) ?_
  exact trivial

theorem outA11 (hc0 : cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = fun j => ((∑ n, dgb X0 X1 X2 lo n (j 1) : ℝ) : EReal) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  simp only [View.ld_unit_zero (S := S1024x1024) hz, View.ld_unit_zero (S := S1024x512) hz, View.ld_unit_zero (S := S1x512) hz]
  subst h0 h1 h2 h3 h4 h5 h6
  rw [View.canon_cons_unit_zero (S := S1x512) hz, View.readCov_unit_zero (S := S1x512) _ hz]
  refine (p16 X0 X1 X2 (fun _ => 0) _ (funext fun _ => c_zero)).trans (funext fun j => ?_)
  rw [zero_add]

theorem outA12 (hc0 : cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = fun j => ((∑ n, dgb X0 X1 X3 hi n (j 1) : ℝ) : EReal) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  simp only [View.ld_unit_zero (S := S1024x1024) hz, View.ld_unit_zero (S := S1024x512) hz, View.ld_unit_zero (S := S1x512) hz]
  subst h0 h1 h2 h3 h4 h5 h6
  rw [View.canon_cons_unit_zero (S := S1x512) hz, View.readCov_unit_zero (S := S1x512) _ hz]
  refine (p22 X0 X1 X3 (fun _ => 0) _ (funext fun _ => c_zero)).trans (funext fun j => ?_)
  rw [zero_add]

theorem outAs (hc0 : cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 = up (acc (fun _ => 0) X0 X6) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  simp only [View.ld_unit_zero (S := S1024x1024) hz, View.ld_unit_zero (S := S1024x512) hz, View.ld_unit_zero (S := S1x512) hz]
  subst h0 h1 h2 h3 h4 h5 h6
  simp only [skip _ 0 256 (by norm_num), skip _ 0 512 (by norm_num), skip _ 0 768 (by norm_num), skip _ 256 512 (by norm_num), skip _ 256 768 (by norm_num), skip _ 512 768 (by norm_num), fill]
  exact canon_acc (fun _ => 0) X0 X6 _

theorem outB7 (hc0 : ¬cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = up (dob X0 X1 X2 lo X4) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_B
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  rw [View.canon_unit_zero hz]
  exact p17 X0 X1 X2 X4 lo _ (p15 X0 X1)

theorem outB8 (hc0 : ¬cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = restride 1024 512 1 (planes (up (dob X0 X1 X3 hi X5))) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_B
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  simp only [View.readCov_eq_canon', canon_planes, p24]
  funext y
  refine View.canon_apply_of_pieces (Val := Elt Ideal) (e := .bf16) (restride 1024 512 1 (planes (up (dob X0 X1 X3 hi X5)))) _ (View.PiecesOf.mem ?_) y
    (View.cover_of_tiledL (s := S1024x512) _ S1024x128.size (by sl_kernel_rfl) y)
  refine And.intro (fun x => plane _ 3 384 (by norm_num) (by norm_num) _ inb_S1024x512_S1024x128_0_384 x) ?_
  refine And.intro (fun x => plane _ 2 256 (by norm_num) (by norm_num) _ inb_S1024x512_S1024x128_0_256 x) ?_
  refine And.intro (fun x => plane _ 1 128 (by norm_num) (by norm_num) _ inb_S1024x512_S1024x128_0_128 x) ?_
  refine And.intro (fun x => plane _ 0 0 (by norm_num) (by norm_num) _ inb_S1024x512_S1024x128_0_0 x) ?_
  exact trivial

theorem outB9 (hc0 : ¬cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = restride 256 2048 4 (planes (up (dob X0 X1 X3 hi X5))) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_B
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  simp only [View.readCov_eq_canon', canon_planes, p24]
  simp only [k0_pay33, k0_pay34, k0_pay35, k0_pay36, k0_pay37, k0_pay38, k0_pay39, k0_pay40, k0_pay41, k0_pay42, k0_pay43, k0_pay44, k0_pay45, k0_pay46, k0_pay47, k0_pay48, narrow]
  funext y
  refine View.canon_apply_of_pieces (Val := Elt Ideal) (e := .bf16) (restride 256 2048 4 (planes (up (dob X0 X1 X3 hi X5)))) _ (View.PiecesOf.mem ?_) y
    (View.cover_of_tiledL (s := S256x2048) _ S256x128.size (by sl_kernel_rfl) y)
  refine And.intro (fun x => piece (planes (up (dob X0 X1 X3 hi X5))) 256 2048 4 3 3 1920 (by norm_num) (by norm_num) inb_S4x1024x128_S1x1024x128_3_0_0 inb_S1024x128_S256x128_3_0_s_4_1 rfl hs3 (fun _ => rfl) (LoadRect.numel_consLift _ _ rfl hs3) inb_S256x2048_S256x128_0_1920 x) ?_
  refine And.intro (fun x => piece (planes (up (dob X0 X1 X3 hi X5))) 256 2048 4 2 3 1792 (by norm_num) (by norm_num) inb_S4x1024x128_S1x1024x128_2_0_0 inb_S1024x128_S256x128_3_0_s_4_1 rfl hs3 (fun _ => rfl) (LoadRect.numel_consLift _ _ rfl hs3) inb_S256x2048_S256x128_0_1792 x) ?_
  refine And.intro (fun x => piece (planes (up (dob X0 X1 X3 hi X5))) 256 2048 4 1 3 1664 (by norm_num) (by norm_num) inb_S4x1024x128_S1x1024x128_1_0_0 inb_S1024x128_S256x128_3_0_s_4_1 rfl hs3 (fun _ => rfl) (LoadRect.numel_consLift _ _ rfl hs3) inb_S256x2048_S256x128_0_1664 x) ?_
  refine And.intro (fun x => piece (planes (up (dob X0 X1 X3 hi X5))) 256 2048 4 0 3 1536 (by norm_num) (by norm_num) inb_S4x1024x128_S1x1024x128_0_0_0 inb_S1024x128_S256x128_3_0_s_4_1 rfl hs3 (fun _ => rfl) (LoadRect.numel_consLift _ _ rfl hs3) inb_S256x2048_S256x128_0_1536 x) ?_
  refine And.intro (fun x => piece (planes (up (dob X0 X1 X3 hi X5))) 256 2048 4 3 2 1408 (by norm_num) (by norm_num) inb_S4x1024x128_S1x1024x128_3_0_0 inb_S1024x128_S256x128_2_0_s_4_1 rfl hs3 (fun _ => rfl) (LoadRect.numel_consLift _ _ rfl hs3) inb_S256x2048_S256x128_0_1408 x) ?_
  refine And.intro (fun x => piece (planes (up (dob X0 X1 X3 hi X5))) 256 2048 4 2 2 1280 (by norm_num) (by norm_num) inb_S4x1024x128_S1x1024x128_2_0_0 inb_S1024x128_S256x128_2_0_s_4_1 rfl hs3 (fun _ => rfl) (LoadRect.numel_consLift _ _ rfl hs3) inb_S256x2048_S256x128_0_1280 x) ?_
  refine And.intro (fun x => piece (planes (up (dob X0 X1 X3 hi X5))) 256 2048 4 1 2 1152 (by norm_num) (by norm_num) inb_S4x1024x128_S1x1024x128_1_0_0 inb_S1024x128_S256x128_2_0_s_4_1 rfl hs3 (fun _ => rfl) (LoadRect.numel_consLift _ _ rfl hs3) inb_S256x2048_S256x128_0_1152 x) ?_
  refine And.intro (fun x => piece (planes (up (dob X0 X1 X3 hi X5))) 256 2048 4 0 2 1024 (by norm_num) (by norm_num) inb_S4x1024x128_S1x1024x128_0_0_0 inb_S1024x128_S256x128_2_0_s_4_1 rfl hs3 (fun _ => rfl) (LoadRect.numel_consLift _ _ rfl hs3) inb_S256x2048_S256x128_0_1024 x) ?_
  refine And.intro (fun x => piece (planes (up (dob X0 X1 X3 hi X5))) 256 2048 4 3 1 896 (by norm_num) (by norm_num) inb_S4x1024x128_S1x1024x128_3_0_0 inb_S1024x128_S256x128_1_0_s_4_1 rfl hs3 (fun _ => rfl) (LoadRect.numel_consLift _ _ rfl hs3) inb_S256x2048_S256x128_0_896 x) ?_
  refine And.intro (fun x => piece (planes (up (dob X0 X1 X3 hi X5))) 256 2048 4 2 1 768 (by norm_num) (by norm_num) inb_S4x1024x128_S1x1024x128_2_0_0 inb_S1024x128_S256x128_1_0_s_4_1 rfl hs3 (fun _ => rfl) (LoadRect.numel_consLift _ _ rfl hs3) inb_S256x2048_S256x128_0_768 x) ?_
  refine And.intro (fun x => piece (planes (up (dob X0 X1 X3 hi X5))) 256 2048 4 1 1 640 (by norm_num) (by norm_num) inb_S4x1024x128_S1x1024x128_1_0_0 inb_S1024x128_S256x128_1_0_s_4_1 rfl hs3 (fun _ => rfl) (LoadRect.numel_consLift _ _ rfl hs3) inb_S256x2048_S256x128_0_640 x) ?_
  refine And.intro (fun x => piece (planes (up (dob X0 X1 X3 hi X5))) 256 2048 4 0 1 512 (by norm_num) (by norm_num) inb_S4x1024x128_S1x1024x128_0_0_0 inb_S1024x128_S256x128_1_0_s_4_1 rfl hs3 (fun _ => rfl) (LoadRect.numel_consLift _ _ rfl hs3) inb_S256x2048_S256x128_0_512 x) ?_
  refine And.intro (fun x => piece (planes (up (dob X0 X1 X3 hi X5))) 256 2048 4 3 0 384 (by norm_num) (by norm_num) inb_S4x1024x128_S1x1024x128_3_0_0 inb_S1024x128_S256x128_0_0_s_4_1 rfl hs3 (fun _ => rfl) (LoadRect.numel_consLift _ _ rfl hs3) inb_S256x2048_S256x128_0_384 x) ?_
  refine And.intro (fun x => piece (planes (up (dob X0 X1 X3 hi X5))) 256 2048 4 2 0 256 (by norm_num) (by norm_num) inb_S4x1024x128_S1x1024x128_2_0_0 inb_S1024x128_S256x128_0_0_s_4_1 rfl hs3 (fun _ => rfl) (LoadRect.numel_consLift _ _ rfl hs3) inb_S256x2048_S256x128_0_256 x) ?_
  refine And.intro (fun x => piece (planes (up (dob X0 X1 X3 hi X5))) 256 2048 4 1 0 128 (by norm_num) (by norm_num) inb_S4x1024x128_S1x1024x128_1_0_0 inb_S1024x128_S256x128_0_0_s_4_1 rfl hs3 (fun _ => rfl) (LoadRect.numel_consLift _ _ rfl hs3) inb_S256x2048_S256x128_0_128 x) ?_
  refine And.intro (fun x => piece (planes (up (dob X0 X1 X3 hi X5))) 256 2048 4 0 0 0 (by norm_num) (by norm_num) inb_S4x1024x128_S1x1024x128_0_0_0 inb_S1024x128_S256x128_0_0_s_4_1 rfl hs3 (fun _ => rfl) (LoadRect.numel_consLift _ _ rfl hs3) inb_S256x2048_S256x128_0_0 x) ?_
  exact trivial

theorem outB10 (hc0 : ¬cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = restride 64 8192 16 (planes (up (dob X0 X1 X3 hi X5))) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_B
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  simp only [View.readCov_eq_canon', canon_planes, p24]
  simp only [k0_pay1, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, narrow]
  funext y
  refine View.canon_apply_of_pieces (Val := Elt Ideal) (e := .bf16) (restride 64 8192 16 (planes (up (dob X0 X1 X3 hi X5)))) _ (View.PiecesOf.mem ?_) y
    (View.cover_of_tiledL (s := S64x8192) _ S64x128.size (by sl_kernel_rfl) y)
  refine And.intro (fun x => piece (planes (up (dob X0 X1 X3 hi X5))) 64 8192 16 3 15 8064 (by norm_num) (by norm_num) inb_S4x1024x128_S1x1024x128_3_0_0 inb_S1024x128_S64x128_15_0_s_16_1 rfl hs3 (fun _ => rfl) (LoadRect.numel_consLift _ _ rfl hs3) inb_S64x8192_S64x128_0_8064 x) ?_
  refine And.intro (fun x => piece (planes (up (dob X0 X1 X3 hi X5))) 64 8192 16 2 15 7936 (by norm_num) (by norm_num) inb_S4x1024x128_S1x1024x128_2_0_0 inb_S1024x128_S64x128_15_0_s_16_1 rfl hs3 (fun _ => rfl) (LoadRect.numel_consLift _ _ rfl hs3) inb_S64x8192_S64x128_0_7936 x) ?_
  refine And.intro (fun x => piece (planes (up (dob X0 X1 X3 hi X5))) 64 8192 16 1 15 7808 (by norm_num) (by norm_num) inb_S4x1024x128_S1x1024x128_1_0_0 inb_S1024x128_S64x128_15_0_s_16_1 rfl hs3 (fun _ => rfl) (LoadRect.numel_consLift _ _ rfl hs3) inb_S64x8192_S64x128_0_7808 x) ?_
  refine And.intro (fun x => piece (planes (up (dob X0 X1 X3 hi X5))) 64 8192 16 0 15 7680 (by norm_num) (by norm_num) inb_S4x1024x128_S1x1024x128_0_0_0 inb_S1024x128_S64x128_15_0_s_16_1 rfl hs3 (fun _ => rfl) (LoadRect.numel_consLift _ _ rfl hs3) inb_S64x8192_S64x128_0_7680 x) ?_
  refine And.intro (fun x => piece (planes (up (dob X0 X1 X3 hi X5))) 64 8192 16 3 14 7552 (by norm_num) (by norm_num) inb_S4x1024x128_S1x1024x128_3_0_0 inb_S1024x128_S64x128_14_0_s_16_1 rfl hs3 (fun _ => rfl) (LoadRect.numel_consLift _ _ rfl hs3) inb_S64x8192_S64x128_0_7552 x) ?_
  refine And.intro (fun x => piece (planes (up (dob X0 X1 X3 hi X5))) 64 8192 16 2 14 7424 (by norm_num) (by norm_num) inb_S4x1024x128_S1x1024x128_2_0_0 inb_S1024x128_S64x128_14_0_s_16_1 rfl hs3 (fun _ => rfl) (LoadRect.numel_consLift _ _ rfl hs3) inb_S64x8192_S64x128_0_7424 x) ?_
  refine And.intro (fun x => piece (planes (up (dob X0 X1 X3 hi X5))) 64 8192 16 1 14 7296 (by norm_num) (by norm_num) inb_S4x1024x128_S1x1024x128_1_0_0 inb_S1024x128_S64x128_14_0_s_16_1 rfl hs3 (fun _ => rfl) (LoadRect.numel_consLift _ _ rfl hs3) inb_S64x8192_S64x128_0_7296 x) ?_
  refine And.intro (fun x => piece (planes (up (dob X0 X1 X3 hi X5))) 64 8192 16 0 14 7168 (by norm_num) (by norm_num) inb_S4x1024x128_S1x1024x128_0_0_0 inb_S1024x128_S64x128_14_0_s_16_1 rfl hs3 (fun _ => rfl) (LoadRect.numel_consLift _ _ rfl hs3) inb_S64x8192_S64x128_0_7168 x) ?_
  refine And.intro (fun x => piece (planes (up (dob X0 X1 X3 hi X5))) 64 8192 16 3 13 7040 (by norm_num) (by norm_num) inb_S4x1024x128_S1x1024x128_3_0_0 inb_S1024x128_S64x128_13_0_s_16_1 rfl hs3 (fun _ => rfl) (LoadRect.numel_consLift _ _ rfl hs3) inb_S64x8192_S64x128_0_7040 x) ?_
  refine And.intro (fun x => piece (planes (up (dob X0 X1 X3 hi X5))) 64 8192 16 2 13 6912 (by norm_num) (by norm_num) inb_S4x1024x128_S1x1024x128_2_0_0 inb_S1024x128_S64x128_13_0_s_16_1 rfl hs3 (fun _ => rfl) (LoadRect.numel_consLift _ _ rfl hs3) inb_S64x8192_S64x128_0_6912 x) ?_
  refine And.intro (fun x => piece (planes (up (dob X0 X1 X3 hi X5))) 64 8192 16 1 13 6784 (by norm_num) (by norm_num) inb_S4x1024x128_S1x1024x128_1_0_0 inb_S1024x128_S64x128_13_0_s_16_1 rfl hs3 (fun _ => rfl) (LoadRect.numel_consLift _ _ rfl hs3) inb_S64x8192_S64x128_0_6784 x) ?_
  refine And.intro (fun x => piece (planes (up (dob X0 X1 X3 hi X5))) 64 8192 16 0 13 6656 (by norm_num) (by norm_num) inb_S4x1024x128_S1x1024x128_0_0_0 inb_S1024x128_S64x128_13_0_s_16_1 rfl hs3 (fun _ => rfl) (LoadRect.numel_consLift _ _ rfl hs3) inb_S64x8192_S64x128_0_6656 x) ?_
  refine And.intro (fun x => piece (planes (up (dob X0 X1 X3 hi X5))) 64 8192 16 3 12 6528 (by norm_num) (by norm_num) inb_S4x1024x128_S1x1024x128_3_0_0 inb_S1024x128_S64x128_12_0_s_16_1 rfl hs3 (fun _ => rfl) (LoadRect.numel_consLift _ _ rfl hs3) inb_S64x8192_S64x128_0_6528 x) ?_
  refine And.intro (fun x => piece (planes (up (dob X0 X1 X3 hi X5))) 64 8192 16 2 12 6400 (by norm_num) (by norm_num) inb_S4x1024x128_S1x1024x128_2_0_0 inb_S1024x128_S64x128_12_0_s_16_1 rfl hs3 (fun _ => rfl) (LoadRect.numel_consLift _ _ rfl hs3) inb_S64x8192_S64x128_0_6400 x) ?_
  refine And.intro (fun x => piece (planes (up (dob X0 X1 X3 hi X5))) 64 8192 16 1 12 6272 (by norm_num) (by norm_num) inb_S4x1024x128_S1x1024x128_1_0_0 inb_S1024x128_S64x128_12_0_s_16_1 rfl hs3 (fun _ => rfl) (LoadRect.numel_consLift _ _ rfl hs3) inb_S64x8192_S64x128_0_6272 x) ?_
  refine And.intro (fun x => piece (planes (up (dob X0 X1 X3 hi X5))) 64 8192 16 0 12 6144 (by norm_num) (by norm_num) inb_S4x1024x128_S1x1024x128_0_0_0 inb_S1024x128_S64x128_12_0_s_16_1 rfl hs3 (fun _ => rfl) (LoadRect.numel_consLift _ _ rfl hs3) inb_S64x8192_S64x128_0_6144 x) ?_
  refine And.intro (fun x => piece (planes (up (dob X0 X1 X3 hi X5))) 64 8192 16 3 11 6016 (by norm_num) (by norm_num) inb_S4x1024x128_S1x1024x128_3_0_0 inb_S1024x128_S64x128_11_0_s_16_1 rfl hs3 (fun _ => rfl) (LoadRect.numel_consLift _ _ rfl hs3) inb_S64x8192_S64x128_0_6016 x) ?_
  refine And.intro (fun x => piece (planes (up (dob X0 X1 X3 hi X5))) 64 8192 16 2 11 5888 (by norm_num) (by norm_num) inb_S4x1024x128_S1x1024x128_2_0_0 inb_S1024x128_S64x128_11_0_s_16_1 rfl hs3 (fun _ => rfl) (LoadRect.numel_consLift _ _ rfl hs3) inb_S64x8192_S64x128_0_5888 x) ?_
  refine And.intro (fun x => piece (planes (up (dob X0 X1 X3 hi X5))) 64 8192 16 1 11 5760 (by norm_num) (by norm_num) inb_S4x1024x128_S1x1024x128_1_0_0 inb_S1024x128_S64x128_11_0_s_16_1 rfl hs3 (fun _ => rfl) (LoadRect.numel_consLift _ _ rfl hs3) inb_S64x8192_S64x128_0_5760 x) ?_
  refine And.intro (fun x => piece (planes (up (dob X0 X1 X3 hi X5))) 64 8192 16 0 11 5632 (by norm_num) (by norm_num) inb_S4x1024x128_S1x1024x128_0_0_0 inb_S1024x128_S64x128_11_0_s_16_1 rfl hs3 (fun _ => rfl) (LoadRect.numel_consLift _ _ rfl hs3) inb_S64x8192_S64x128_0_5632 x) ?_
  refine And.intro (fun x => piece (planes (up (dob X0 X1 X3 hi X5))) 64 8192 16 3 10 5504 (by norm_num) (by norm_num) inb_S4x1024x128_S1x1024x128_3_0_0 inb_S1024x128_S64x128_10_0_s_16_1 rfl hs3 (fun _ => rfl) (LoadRect.numel_consLift _ _ rfl hs3) inb_S64x8192_S64x128_0_5504 x) ?_
  refine And.intro (fun x => piece (planes (up (dob X0 X1 X3 hi X5))) 64 8192 16 2 10 5376 (by norm_num) (by norm_num) inb_S4x1024x128_S1x1024x128_2_0_0 inb_S1024x128_S64x128_10_0_s_16_1 rfl hs3 (fun _ => rfl) (LoadRect.numel_consLift _ _ rfl hs3) inb_S64x8192_S64x128_0_5376 x) ?_
  refine And.intro (fun x => piece (planes (up (dob X0 X1 X3 hi X5))) 64 8192 16 1 10 5248 (by norm_num) (by norm_num) inb_S4x1024x128_S1x1024x128_1_0_0 inb_S1024x128_S64x128_10_0_s_16_1 rfl hs3 (fun _ => rfl) (LoadRect.numel_consLift _ _ rfl hs3) inb_S64x8192_S64x128_0_5248 x) ?_
  refine And.intro (fun x => piece (planes (up (dob X0 X1 X3 hi X5))) 64 8192 16 0 10 5120 (by norm_num) (by norm_num) inb_S4x1024x128_S1x1024x128_0_0_0 inb_S1024x128_S64x128_10_0_s_16_1 rfl hs3 (fun _ => rfl) (LoadRect.numel_consLift _ _ rfl hs3) inb_S64x8192_S64x128_0_5120 x) ?_
  refine And.intro (fun x => piece (planes (up (dob X0 X1 X3 hi X5))) 64 8192 16 3 9 4992 (by norm_num) (by norm_num) inb_S4x1024x128_S1x1024x128_3_0_0 inb_S1024x128_S64x128_9_0_s_16_1 rfl hs3 (fun _ => rfl) (LoadRect.numel_consLift _ _ rfl hs3) inb_S64x8192_S64x128_0_4992 x) ?_
  refine And.intro (fun x => piece (planes (up (dob X0 X1 X3 hi X5))) 64 8192 16 2 9 4864 (by norm_num) (by norm_num) inb_S4x1024x128_S1x1024x128_2_0_0 inb_S1024x128_S64x128_9_0_s_16_1 rfl hs3 (fun _ => rfl) (LoadRect.numel_consLift _ _ rfl hs3) inb_S64x8192_S64x128_0_4864 x) ?_
  refine And.intro (fun x => piece (planes (up (dob X0 X1 X3 hi X5))) 64 8192 16 1 9 4736 (by norm_num) (by norm_num) inb_S4x1024x128_S1x1024x128_1_0_0 inb_S1024x128_S64x128_9_0_s_16_1 rfl hs3 (fun _ => rfl) (LoadRect.numel_consLift _ _ rfl hs3) inb_S64x8192_S64x128_0_4736 x) ?_
  refine And.intro (fun x => piece (planes (up (dob X0 X1 X3 hi X5))) 64 8192 16 0 9 4608 (by norm_num) (by norm_num) inb_S4x1024x128_S1x1024x128_0_0_0 inb_S1024x128_S64x128_9_0_s_16_1 rfl hs3 (fun _ => rfl) (LoadRect.numel_consLift _ _ rfl hs3) inb_S64x8192_S64x128_0_4608 x) ?_
  refine And.intro (fun x => piece (planes (up (dob X0 X1 X3 hi X5))) 64 8192 16 3 8 4480 (by norm_num) (by norm_num) inb_S4x1024x128_S1x1024x128_3_0_0 inb_S1024x128_S64x128_8_0_s_16_1 rfl hs3 (fun _ => rfl) (LoadRect.numel_consLift _ _ rfl hs3) inb_S64x8192_S64x128_0_4480 x) ?_
  refine And.intro (fun x => piece (planes (up (dob X0 X1 X3 hi X5))) 64 8192 16 2 8 4352 (by norm_num) (by norm_num) inb_S4x1024x128_S1x1024x128_2_0_0 inb_S1024x128_S64x128_8_0_s_16_1 rfl hs3 (fun _ => rfl) (LoadRect.numel_consLift _ _ rfl hs3) inb_S64x8192_S64x128_0_4352 x) ?_
  refine And.intro (fun x => piece (planes (up (dob X0 X1 X3 hi X5))) 64 8192 16 1 8 4224 (by norm_num) (by norm_num) inb_S4x1024x128_S1x1024x128_1_0_0 inb_S1024x128_S64x128_8_0_s_16_1 rfl hs3 (fun _ => rfl) (LoadRect.numel_consLift _ _ rfl hs3) inb_S64x8192_S64x128_0_4224 x) ?_
  refine And.intro (fun x => piece (planes (up (dob X0 X1 X3 hi X5))) 64 8192 16 0 8 4096 (by norm_num) (by norm_num) inb_S4x1024x128_S1x1024x128_0_0_0 inb_S1024x128_S64x128_8_0_s_16_1 rfl hs3 (fun _ => rfl) (LoadRect.numel_consLift _ _ rfl hs3) inb_S64x8192_S64x128_0_4096 x) ?_
  refine And.intro (fun x => piece (planes (up (dob X0 X1 X3 hi X5))) 64 8192 16 3 7 3968 (by norm_num) (by norm_num) inb_S4x1024x128_S1x1024x128_3_0_0 inb_S1024x128_S64x128_7_0_s_16_1 rfl hs3 (fun _ => rfl) (LoadRect.numel_consLift _ _ rfl hs3) inb_S64x8192_S64x128_0_3968 x) ?_
  refine And.intro (fun x => piece (planes (up (dob X0 X1 X3 hi X5))) 64 8192 16 2 7 3840 (by norm_num) (by norm_num) inb_S4x1024x128_S1x1024x128_2_0_0 inb_S1024x128_S64x128_7_0_s_16_1 rfl hs3 (fun _ => rfl) (LoadRect.numel_consLift _ _ rfl hs3) inb_S64x8192_S64x128_0_3840 x) ?_
  refine And.intro (fun x => piece (planes (up (dob X0 X1 X3 hi X5))) 64 8192 16 1 7 3712 (by norm_num) (by norm_num) inb_S4x1024x128_S1x1024x128_1_0_0 inb_S1024x128_S64x128_7_0_s_16_1 rfl hs3 (fun _ => rfl) (LoadRect.numel_consLift _ _ rfl hs3) inb_S64x8192_S64x128_0_3712 x) ?_
  refine And.intro (fun x => piece (planes (up (dob X0 X1 X3 hi X5))) 64 8192 16 0 7 3584 (by norm_num) (by norm_num) inb_S4x1024x128_S1x1024x128_0_0_0 inb_S1024x128_S64x128_7_0_s_16_1 rfl hs3 (fun _ => rfl) (LoadRect.numel_consLift _ _ rfl hs3) inb_S64x8192_S64x128_0_3584 x) ?_
  refine And.intro (fun x => piece (planes (up (dob X0 X1 X3 hi X5))) 64 8192 16 3 6 3456 (by norm_num) (by norm_num) inb_S4x1024x128_S1x1024x128_3_0_0 inb_S1024x128_S64x128_6_0_s_16_1 rfl hs3 (fun _ => rfl) (LoadRect.numel_consLift _ _ rfl hs3) inb_S64x8192_S64x128_0_3456 x) ?_
  refine And.intro (fun x => piece (planes (up (dob X0 X1 X3 hi X5))) 64 8192 16 2 6 3328 (by norm_num) (by norm_num) inb_S4x1024x128_S1x1024x128_2_0_0 inb_S1024x128_S64x128_6_0_s_16_1 rfl hs3 (fun _ => rfl) (LoadRect.numel_consLift _ _ rfl hs3) inb_S64x8192_S64x128_0_3328 x) ?_
  refine And.intro (fun x => piece (planes (up (dob X0 X1 X3 hi X5))) 64 8192 16 1 6 3200 (by norm_num) (by norm_num) inb_S4x1024x128_S1x1024x128_1_0_0 inb_S1024x128_S64x128_6_0_s_16_1 rfl hs3 (fun _ => rfl) (LoadRect.numel_consLift _ _ rfl hs3) inb_S64x8192_S64x128_0_3200 x) ?_
  refine And.intro (fun x => piece (planes (up (dob X0 X1 X3 hi X5))) 64 8192 16 0 6 3072 (by norm_num) (by norm_num) inb_S4x1024x128_S1x1024x128_0_0_0 inb_S1024x128_S64x128_6_0_s_16_1 rfl hs3 (fun _ => rfl) (LoadRect.numel_consLift _ _ rfl hs3) inb_S64x8192_S64x128_0_3072 x) ?_
  refine And.intro (fun x => piece (planes (up (dob X0 X1 X3 hi X5))) 64 8192 16 3 5 2944 (by norm_num) (by norm_num) inb_S4x1024x128_S1x1024x128_3_0_0 inb_S1024x128_S64x128_5_0_s_16_1 rfl hs3 (fun _ => rfl) (LoadRect.numel_consLift _ _ rfl hs3) inb_S64x8192_S64x128_0_2944 x) ?_
  refine And.intro (fun x => piece (planes (up (dob X0 X1 X3 hi X5))) 64 8192 16 2 5 2816 (by norm_num) (by norm_num) inb_S4x1024x128_S1x1024x128_2_0_0 inb_S1024x128_S64x128_5_0_s_16_1 rfl hs3 (fun _ => rfl) (LoadRect.numel_consLift _ _ rfl hs3) inb_S64x8192_S64x128_0_2816 x) ?_
  refine And.intro (fun x => piece (planes (up (dob X0 X1 X3 hi X5))) 64 8192 16 1 5 2688 (by norm_num) (by norm_num) inb_S4x1024x128_S1x1024x128_1_0_0 inb_S1024x128_S64x128_5_0_s_16_1 rfl hs3 (fun _ => rfl) (LoadRect.numel_consLift _ _ rfl hs3) inb_S64x8192_S64x128_0_2688 x) ?_
  refine And.intro (fun x => piece (planes (up (dob X0 X1 X3 hi X5))) 64 8192 16 0 5 2560 (by norm_num) (by norm_num) inb_S4x1024x128_S1x1024x128_0_0_0 inb_S1024x128_S64x128_5_0_s_16_1 rfl hs3 (fun _ => rfl) (LoadRect.numel_consLift _ _ rfl hs3) inb_S64x8192_S64x128_0_2560 x) ?_
  refine And.intro (fun x => piece (planes (up (dob X0 X1 X3 hi X5))) 64 8192 16 3 4 2432 (by norm_num) (by norm_num) inb_S4x1024x128_S1x1024x128_3_0_0 inb_S1024x128_S64x128_4_0_s_16_1 rfl hs3 (fun _ => rfl) (LoadRect.numel_consLift _ _ rfl hs3) inb_S64x8192_S64x128_0_2432 x) ?_
  refine And.intro (fun x => piece (planes (up (dob X0 X1 X3 hi X5))) 64 8192 16 2 4 2304 (by norm_num) (by norm_num) inb_S4x1024x128_S1x1024x128_2_0_0 inb_S1024x128_S64x128_4_0_s_16_1 rfl hs3 (fun _ => rfl) (LoadRect.numel_consLift _ _ rfl hs3) inb_S64x8192_S64x128_0_2304 x) ?_
  refine And.intro (fun x => piece (planes (up (dob X0 X1 X3 hi X5))) 64 8192 16 1 4 2176 (by norm_num) (by norm_num) inb_S4x1024x128_S1x1024x128_1_0_0 inb_S1024x128_S64x128_4_0_s_16_1 rfl hs3 (fun _ => rfl) (LoadRect.numel_consLift _ _ rfl hs3) inb_S64x8192_S64x128_0_2176 x) ?_
  refine And.intro (fun x => piece (planes (up (dob X0 X1 X3 hi X5))) 64 8192 16 0 4 2048 (by norm_num) (by norm_num) inb_S4x1024x128_S1x1024x128_0_0_0 inb_S1024x128_S64x128_4_0_s_16_1 rfl hs3 (fun _ => rfl) (LoadRect.numel_consLift _ _ rfl hs3) inb_S64x8192_S64x128_0_2048 x) ?_
  refine And.intro (fun x => piece (planes (up (dob X0 X1 X3 hi X5))) 64 8192 16 3 3 1920 (by norm_num) (by norm_num) inb_S4x1024x128_S1x1024x128_3_0_0 inb_S1024x128_S64x128_3_0_s_16_1 rfl hs3 (fun _ => rfl) (LoadRect.numel_consLift _ _ rfl hs3) inb_S64x8192_S64x128_0_1920 x) ?_
  refine And.intro (fun x => piece (planes (up (dob X0 X1 X3 hi X5))) 64 8192 16 2 3 1792 (by norm_num) (by norm_num) inb_S4x1024x128_S1x1024x128_2_0_0 inb_S1024x128_S64x128_3_0_s_16_1 rfl hs3 (fun _ => rfl) (LoadRect.numel_consLift _ _ rfl hs3) inb_S64x8192_S64x128_0_1792 x) ?_
  refine And.intro (fun x => piece (planes (up (dob X0 X1 X3 hi X5))) 64 8192 16 1 3 1664 (by norm_num) (by norm_num) inb_S4x1024x128_S1x1024x128_1_0_0 inb_S1024x128_S64x128_3_0_s_16_1 rfl hs3 (fun _ => rfl) (LoadRect.numel_consLift _ _ rfl hs3) inb_S64x8192_S64x128_0_1664 x) ?_
  refine And.intro (fun x => piece (planes (up (dob X0 X1 X3 hi X5))) 64 8192 16 0 3 1536 (by norm_num) (by norm_num) inb_S4x1024x128_S1x1024x128_0_0_0 inb_S1024x128_S64x128_3_0_s_16_1 rfl hs3 (fun _ => rfl) (LoadRect.numel_consLift _ _ rfl hs3) inb_S64x8192_S64x128_0_1536 x) ?_
  refine And.intro (fun x => piece (planes (up (dob X0 X1 X3 hi X5))) 64 8192 16 3 2 1408 (by norm_num) (by norm_num) inb_S4x1024x128_S1x1024x128_3_0_0 inb_S1024x128_S64x128_2_0_s_16_1 rfl hs3 (fun _ => rfl) (LoadRect.numel_consLift _ _ rfl hs3) inb_S64x8192_S64x128_0_1408 x) ?_
  refine And.intro (fun x => piece (planes (up (dob X0 X1 X3 hi X5))) 64 8192 16 2 2 1280 (by norm_num) (by norm_num) inb_S4x1024x128_S1x1024x128_2_0_0 inb_S1024x128_S64x128_2_0_s_16_1 rfl hs3 (fun _ => rfl) (LoadRect.numel_consLift _ _ rfl hs3) inb_S64x8192_S64x128_0_1280 x) ?_
  refine And.intro (fun x => piece (planes (up (dob X0 X1 X3 hi X5))) 64 8192 16 1 2 1152 (by norm_num) (by norm_num) inb_S4x1024x128_S1x1024x128_1_0_0 inb_S1024x128_S64x128_2_0_s_16_1 rfl hs3 (fun _ => rfl) (LoadRect.numel_consLift _ _ rfl hs3) inb_S64x8192_S64x128_0_1152 x) ?_
  refine And.intro (fun x => piece (planes (up (dob X0 X1 X3 hi X5))) 64 8192 16 0 2 1024 (by norm_num) (by norm_num) inb_S4x1024x128_S1x1024x128_0_0_0 inb_S1024x128_S64x128_2_0_s_16_1 rfl hs3 (fun _ => rfl) (LoadRect.numel_consLift _ _ rfl hs3) inb_S64x8192_S64x128_0_1024 x) ?_
  refine And.intro (fun x => piece (planes (up (dob X0 X1 X3 hi X5))) 64 8192 16 3 1 896 (by norm_num) (by norm_num) inb_S4x1024x128_S1x1024x128_3_0_0 inb_S1024x128_S64x128_1_0_s_16_1 rfl hs3 (fun _ => rfl) (LoadRect.numel_consLift _ _ rfl hs3) inb_S64x8192_S64x128_0_896 x) ?_
  refine And.intro (fun x => piece (planes (up (dob X0 X1 X3 hi X5))) 64 8192 16 2 1 768 (by norm_num) (by norm_num) inb_S4x1024x128_S1x1024x128_2_0_0 inb_S1024x128_S64x128_1_0_s_16_1 rfl hs3 (fun _ => rfl) (LoadRect.numel_consLift _ _ rfl hs3) inb_S64x8192_S64x128_0_768 x) ?_
  refine And.intro (fun x => piece (planes (up (dob X0 X1 X3 hi X5))) 64 8192 16 1 1 640 (by norm_num) (by norm_num) inb_S4x1024x128_S1x1024x128_1_0_0 inb_S1024x128_S64x128_1_0_s_16_1 rfl hs3 (fun _ => rfl) (LoadRect.numel_consLift _ _ rfl hs3) inb_S64x8192_S64x128_0_640 x) ?_
  refine And.intro (fun x => piece (planes (up (dob X0 X1 X3 hi X5))) 64 8192 16 0 1 512 (by norm_num) (by norm_num) inb_S4x1024x128_S1x1024x128_0_0_0 inb_S1024x128_S64x128_1_0_s_16_1 rfl hs3 (fun _ => rfl) (LoadRect.numel_consLift _ _ rfl hs3) inb_S64x8192_S64x128_0_512 x) ?_
  refine And.intro (fun x => piece (planes (up (dob X0 X1 X3 hi X5))) 64 8192 16 3 0 384 (by norm_num) (by norm_num) inb_S4x1024x128_S1x1024x128_3_0_0 inb_S1024x128_S64x128_0_0_s_16_1 rfl hs3 (fun _ => rfl) (LoadRect.numel_consLift _ _ rfl hs3) inb_S64x8192_S64x128_0_384 x) ?_
  refine And.intro (fun x => piece (planes (up (dob X0 X1 X3 hi X5))) 64 8192 16 2 0 256 (by norm_num) (by norm_num) inb_S4x1024x128_S1x1024x128_2_0_0 inb_S1024x128_S64x128_0_0_s_16_1 rfl hs3 (fun _ => rfl) (LoadRect.numel_consLift _ _ rfl hs3) inb_S64x8192_S64x128_0_256 x) ?_
  refine And.intro (fun x => piece (planes (up (dob X0 X1 X3 hi X5))) 64 8192 16 1 0 128 (by norm_num) (by norm_num) inb_S4x1024x128_S1x1024x128_1_0_0 inb_S1024x128_S64x128_0_0_s_16_1 rfl hs3 (fun _ => rfl) (LoadRect.numel_consLift _ _ rfl hs3) inb_S64x8192_S64x128_0_128 x) ?_
  refine And.intro (fun x => piece (planes (up (dob X0 X1 X3 hi X5))) 64 8192 16 0 0 0 (by norm_num) (by norm_num) inb_S4x1024x128_S1x1024x128_0_0_0 inb_S1024x128_S64x128_0_0_s_16_1 rfl hs3 (fun _ => rfl) (LoadRect.numel_consLift _ _ rfl hs3) inb_S64x8192_S64x128_0_0 x) ?_
  exact trivial

theorem outB11 (hc0 : ¬cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ) (w : Fin 512 → ℝ) (hw : xo11 = fun j => ((w (j 1) : ℝ) : EReal))
    (h0 : x0 = up X0) (h1 : x1 = up X1) (h2 : x2 = up X2) (h3 : x3 = up X3) (h4 : x4 = up X4) (h5 : x5 = up X5) (h6 : x6 = up X6) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = fun j => ((w (j 1) + ∑ n, dgb X0 X1 X2 lo n (j 1) : ℝ) : EReal) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_B
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  rw [View.canon_unit_zero hz]
  exact p16 X0 X1 X2 w xo11 hw

theorem outB12 (hc0 : ¬cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ) (w : Fin 512 → ℝ) (hw : xo12 = fun j => ((w (j 1) : ℝ) : EReal))
    (h0 : x0 = up X0) (h1 : x1 = up X1) (h2 : x2 = up X2) (h3 : x3 = up X3) (h4 : x4 = up X4) (h5 : x5 = up X5) (h6 : x6 = up X6) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = fun j => ((w (j 1) + ∑ n, dgb X0 X1 X3 hi n (j 1) : ℝ) : EReal) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_B
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  rw [View.canon_unit_zero hz]
  exact p22 X0 X1 X3 w xo12 hw

theorem outBs (hc0 : ¬cond0_0 i) (hc1 : ¬cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ) (S : S1024x1024.Idx → ℝ) (hs : xs1 = up S)
    (h0 : x0 = up X0) (h1 : x1 = up X1) (h2 : x2 = up X2) (h3 : x3 = up X3) (h4 : x4 = up X4) (h5 : x5 = up X5) (h6 : x6 = up X6) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = up (acc S X0 X6) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_B
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  subst hs
  exact canon_acc S X0 X6 []

theorem outC7 (hc0 : ¬cond0_0 i) (hc1 : cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = up (dob X0 X1 X2 lo X4) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  rw [View.canon_unit_zero hz]
  exact p17 X0 X1 X2 X4 lo _ (p15 X0 X1)

theorem outC8 (hc0 : ¬cond0_0 i) (hc1 : cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = restride 1024 512 1 (planes (up (dob X0 X1 X3 hi X5))) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  simp only [View.readCov_eq_canon', canon_planes, p24]
  funext y
  refine View.canon_apply_of_pieces (Val := Elt Ideal) (e := .bf16) (restride 1024 512 1 (planes (up (dob X0 X1 X3 hi X5)))) _ (View.PiecesOf.mem ?_) y
    (View.cover_of_tiledL (s := S1024x512) _ S1024x128.size (by sl_kernel_rfl) y)
  refine And.intro (fun x => plane _ 3 384 (by norm_num) (by norm_num) _ inb_S1024x512_S1024x128_0_384 x) ?_
  refine And.intro (fun x => plane _ 2 256 (by norm_num) (by norm_num) _ inb_S1024x512_S1024x128_0_256 x) ?_
  refine And.intro (fun x => plane _ 1 128 (by norm_num) (by norm_num) _ inb_S1024x512_S1024x128_0_128 x) ?_
  refine And.intro (fun x => plane _ 0 0 (by norm_num) (by norm_num) _ inb_S1024x512_S1024x128_0_0 x) ?_
  exact trivial

theorem outC9 (hc0 : ¬cond0_0 i) (hc1 : cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = restride 256 2048 4 (planes (up (dob X0 X1 X3 hi X5))) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  simp only [View.readCov_eq_canon', canon_planes, p24]
  simp only [k0_pay33, k0_pay34, k0_pay35, k0_pay36, k0_pay37, k0_pay38, k0_pay39, k0_pay40, k0_pay41, k0_pay42, k0_pay43, k0_pay44, k0_pay45, k0_pay46, k0_pay47, k0_pay48, narrow]
  funext y
  refine View.canon_apply_of_pieces (Val := Elt Ideal) (e := .bf16) (restride 256 2048 4 (planes (up (dob X0 X1 X3 hi X5)))) _ (View.PiecesOf.mem ?_) y
    (View.cover_of_tiledL (s := S256x2048) _ S256x128.size (by sl_kernel_rfl) y)
  refine And.intro (fun x => piece (planes (up (dob X0 X1 X3 hi X5))) 256 2048 4 3 3 1920 (by norm_num) (by norm_num) inb_S4x1024x128_S1x1024x128_3_0_0 inb_S1024x128_S256x128_3_0_s_4_1 rfl hs3 (fun _ => rfl) (LoadRect.numel_consLift _ _ rfl hs3) inb_S256x2048_S256x128_0_1920 x) ?_
  refine And.intro (fun x => piece (planes (up (dob X0 X1 X3 hi X5))) 256 2048 4 2 3 1792 (by norm_num) (by norm_num) inb_S4x1024x128_S1x1024x128_2_0_0 inb_S1024x128_S256x128_3_0_s_4_1 rfl hs3 (fun _ => rfl) (LoadRect.numel_consLift _ _ rfl hs3) inb_S256x2048_S256x128_0_1792 x) ?_
  refine And.intro (fun x => piece (planes (up (dob X0 X1 X3 hi X5))) 256 2048 4 1 3 1664 (by norm_num) (by norm_num) inb_S4x1024x128_S1x1024x128_1_0_0 inb_S1024x128_S256x128_3_0_s_4_1 rfl hs3 (fun _ => rfl) (LoadRect.numel_consLift _ _ rfl hs3) inb_S256x2048_S256x128_0_1664 x) ?_
  refine And.intro (fun x => piece (planes (up (dob X0 X1 X3 hi X5))) 256 2048 4 0 3 1536 (by norm_num) (by norm_num) inb_S4x1024x128_S1x1024x128_0_0_0 inb_S1024x128_S256x128_3_0_s_4_1 rfl hs3 (fun _ => rfl) (LoadRect.numel_consLift _ _ rfl hs3) inb_S256x2048_S256x128_0_1536 x) ?_
  refine And.intro (fun x => piece (planes (up (dob X0 X1 X3 hi X5))) 256 2048 4 3 2 1408 (by norm_num) (by norm_num) inb_S4x1024x128_S1x1024x128_3_0_0 inb_S1024x128_S256x128_2_0_s_4_1 rfl hs3 (fun _ => rfl) (LoadRect.numel_consLift _ _ rfl hs3) inb_S256x2048_S256x128_0_1408 x) ?_
  refine And.intro (fun x => piece (planes (up (dob X0 X1 X3 hi X5))) 256 2048 4 2 2 1280 (by norm_num) (by norm_num) inb_S4x1024x128_S1x1024x128_2_0_0 inb_S1024x128_S256x128_2_0_s_4_1 rfl hs3 (fun _ => rfl) (LoadRect.numel_consLift _ _ rfl hs3) inb_S256x2048_S256x128_0_1280 x) ?_
  refine And.intro (fun x => piece (planes (up (dob X0 X1 X3 hi X5))) 256 2048 4 1 2 1152 (by norm_num) (by norm_num) inb_S4x1024x128_S1x1024x128_1_0_0 inb_S1024x128_S256x128_2_0_s_4_1 rfl hs3 (fun _ => rfl) (LoadRect.numel_consLift _ _ rfl hs3) inb_S256x2048_S256x128_0_1152 x) ?_
  refine And.intro (fun x => piece (planes (up (dob X0 X1 X3 hi X5))) 256 2048 4 0 2 1024 (by norm_num) (by norm_num) inb_S4x1024x128_S1x1024x128_0_0_0 inb_S1024x128_S256x128_2_0_s_4_1 rfl hs3 (fun _ => rfl) (LoadRect.numel_consLift _ _ rfl hs3) inb_S256x2048_S256x128_0_1024 x) ?_
  refine And.intro (fun x => piece (planes (up (dob X0 X1 X3 hi X5))) 256 2048 4 3 1 896 (by norm_num) (by norm_num) inb_S4x1024x128_S1x1024x128_3_0_0 inb_S1024x128_S256x128_1_0_s_4_1 rfl hs3 (fun _ => rfl) (LoadRect.numel_consLift _ _ rfl hs3) inb_S256x2048_S256x128_0_896 x) ?_
  refine And.intro (fun x => piece (planes (up (dob X0 X1 X3 hi X5))) 256 2048 4 2 1 768 (by norm_num) (by norm_num) inb_S4x1024x128_S1x1024x128_2_0_0 inb_S1024x128_S256x128_1_0_s_4_1 rfl hs3 (fun _ => rfl) (LoadRect.numel_consLift _ _ rfl hs3) inb_S256x2048_S256x128_0_768 x) ?_
  refine And.intro (fun x => piece (planes (up (dob X0 X1 X3 hi X5))) 256 2048 4 1 1 640 (by norm_num) (by norm_num) inb_S4x1024x128_S1x1024x128_1_0_0 inb_S1024x128_S256x128_1_0_s_4_1 rfl hs3 (fun _ => rfl) (LoadRect.numel_consLift _ _ rfl hs3) inb_S256x2048_S256x128_0_640 x) ?_
  refine And.intro (fun x => piece (planes (up (dob X0 X1 X3 hi X5))) 256 2048 4 0 1 512 (by norm_num) (by norm_num) inb_S4x1024x128_S1x1024x128_0_0_0 inb_S1024x128_S256x128_1_0_s_4_1 rfl hs3 (fun _ => rfl) (LoadRect.numel_consLift _ _ rfl hs3) inb_S256x2048_S256x128_0_512 x) ?_
  refine And.intro (fun x => piece (planes (up (dob X0 X1 X3 hi X5))) 256 2048 4 3 0 384 (by norm_num) (by norm_num) inb_S4x1024x128_S1x1024x128_3_0_0 inb_S1024x128_S256x128_0_0_s_4_1 rfl hs3 (fun _ => rfl) (LoadRect.numel_consLift _ _ rfl hs3) inb_S256x2048_S256x128_0_384 x) ?_
  refine And.intro (fun x => piece (planes (up (dob X0 X1 X3 hi X5))) 256 2048 4 2 0 256 (by norm_num) (by norm_num) inb_S4x1024x128_S1x1024x128_2_0_0 inb_S1024x128_S256x128_0_0_s_4_1 rfl hs3 (fun _ => rfl) (LoadRect.numel_consLift _ _ rfl hs3) inb_S256x2048_S256x128_0_256 x) ?_
  refine And.intro (fun x => piece (planes (up (dob X0 X1 X3 hi X5))) 256 2048 4 1 0 128 (by norm_num) (by norm_num) inb_S4x1024x128_S1x1024x128_1_0_0 inb_S1024x128_S256x128_0_0_s_4_1 rfl hs3 (fun _ => rfl) (LoadRect.numel_consLift _ _ rfl hs3) inb_S256x2048_S256x128_0_128 x) ?_
  refine And.intro (fun x => piece (planes (up (dob X0 X1 X3 hi X5))) 256 2048 4 0 0 0 (by norm_num) (by norm_num) inb_S4x1024x128_S1x1024x128_0_0_0 inb_S1024x128_S256x128_0_0_s_4_1 rfl hs3 (fun _ => rfl) (LoadRect.numel_consLift _ _ rfl hs3) inb_S256x2048_S256x128_0_0 x) ?_
  exact trivial

theorem outC10 (hc0 : ¬cond0_0 i) (hc1 : cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ)
    (h0 : x0 = up X0) (h1 : x1 = up X1) (h2 : x2 = up X2) (h3 : x3 = up X3) (h4 : x4 = up X4) (h5 : x5 = up X5) (h6 : x6 = up X6) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = restride 64 8192 16 (planes (up (dob X0 X1 X3 hi X5))) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  simp only [View.readCov_eq_canon', canon_planes, p24]
  simp only [k0_pay1, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, narrow]
  funext y
  refine View.canon_apply_of_pieces (Val := Elt Ideal) (e := .bf16) (restride 64 8192 16 (planes (up (dob X0 X1 X3 hi X5)))) _ (View.PiecesOf.mem ?_) y
    (View.cover_of_tiledL (s := S64x8192) _ S64x128.size (by sl_kernel_rfl) y)
  refine And.intro (fun x => piece (planes (up (dob X0 X1 X3 hi X5))) 64 8192 16 3 15 8064 (by norm_num) (by norm_num) inb_S4x1024x128_S1x1024x128_3_0_0 inb_S1024x128_S64x128_15_0_s_16_1 rfl hs3 (fun _ => rfl) (LoadRect.numel_consLift _ _ rfl hs3) inb_S64x8192_S64x128_0_8064 x) ?_
  refine And.intro (fun x => piece (planes (up (dob X0 X1 X3 hi X5))) 64 8192 16 2 15 7936 (by norm_num) (by norm_num) inb_S4x1024x128_S1x1024x128_2_0_0 inb_S1024x128_S64x128_15_0_s_16_1 rfl hs3 (fun _ => rfl) (LoadRect.numel_consLift _ _ rfl hs3) inb_S64x8192_S64x128_0_7936 x) ?_
  refine And.intro (fun x => piece (planes (up (dob X0 X1 X3 hi X5))) 64 8192 16 1 15 7808 (by norm_num) (by norm_num) inb_S4x1024x128_S1x1024x128_1_0_0 inb_S1024x128_S64x128_15_0_s_16_1 rfl hs3 (fun _ => rfl) (LoadRect.numel_consLift _ _ rfl hs3) inb_S64x8192_S64x128_0_7808 x) ?_
  refine And.intro (fun x => piece (planes (up (dob X0 X1 X3 hi X5))) 64 8192 16 0 15 7680 (by norm_num) (by norm_num) inb_S4x1024x128_S1x1024x128_0_0_0 inb_S1024x128_S64x128_15_0_s_16_1 rfl hs3 (fun _ => rfl) (LoadRect.numel_consLift _ _ rfl hs3) inb_S64x8192_S64x128_0_7680 x) ?_
  refine And.intro (fun x => piece (planes (up (dob X0 X1 X3 hi X5))) 64 8192 16 3 14 7552 (by norm_num) (by norm_num) inb_S4x1024x128_S1x1024x128_3_0_0 inb_S1024x128_S64x128_14_0_s_16_1 rfl hs3 (fun _ => rfl) (LoadRect.numel_consLift _ _ rfl hs3) inb_S64x8192_S64x128_0_7552 x) ?_
  refine And.intro (fun x => piece (planes (up (dob X0 X1 X3 hi X5))) 64 8192 16 2 14 7424 (by norm_num) (by norm_num) inb_S4x1024x128_S1x1024x128_2_0_0 inb_S1024x128_S64x128_14_0_s_16_1 rfl hs3 (fun _ => rfl) (LoadRect.numel_consLift _ _ rfl hs3) inb_S64x8192_S64x128_0_7424 x) ?_
  refine And.intro (fun x => piece (planes (up (dob X0 X1 X3 hi X5))) 64 8192 16 1 14 7296 (by norm_num) (by norm_num) inb_S4x1024x128_S1x1024x128_1_0_0 inb_S1024x128_S64x128_14_0_s_16_1 rfl hs3 (fun _ => rfl) (LoadRect.numel_consLift _ _ rfl hs3) inb_S64x8192_S64x128_0_7296 x) ?_
  refine And.intro (fun x => piece (planes (up (dob X0 X1 X3 hi X5))) 64 8192 16 0 14 7168 (by norm_num) (by norm_num) inb_S4x1024x128_S1x1024x128_0_0_0 inb_S1024x128_S64x128_14_0_s_16_1 rfl hs3 (fun _ => rfl) (LoadRect.numel_consLift _ _ rfl hs3) inb_S64x8192_S64x128_0_7168 x) ?_
  refine And.intro (fun x => piece (planes (up (dob X0 X1 X3 hi X5))) 64 8192 16 3 13 7040 (by norm_num) (by norm_num) inb_S4x1024x128_S1x1024x128_3_0_0 inb_S1024x128_S64x128_13_0_s_16_1 rfl hs3 (fun _ => rfl) (LoadRect.numel_consLift _ _ rfl hs3) inb_S64x8192_S64x128_0_7040 x) ?_
  refine And.intro (fun x => piece (planes (up (dob X0 X1 X3 hi X5))) 64 8192 16 2 13 6912 (by norm_num) (by norm_num) inb_S4x1024x128_S1x1024x128_2_0_0 inb_S1024x128_S64x128_13_0_s_16_1 rfl hs3 (fun _ => rfl) (LoadRect.numel_consLift _ _ rfl hs3) inb_S64x8192_S64x128_0_6912 x) ?_
  refine And.intro (fun x => piece (planes (up (dob X0 X1 X3 hi X5))) 64 8192 16 1 13 6784 (by norm_num) (by norm_num) inb_S4x1024x128_S1x1024x128_1_0_0 inb_S1024x128_S64x128_13_0_s_16_1 rfl hs3 (fun _ => rfl) (LoadRect.numel_consLift _ _ rfl hs3) inb_S64x8192_S64x128_0_6784 x) ?_
  refine And.intro (fun x => piece (planes (up (dob X0 X1 X3 hi X5))) 64 8192 16 0 13 6656 (by norm_num) (by norm_num) inb_S4x1024x128_S1x1024x128_0_0_0 inb_S1024x128_S64x128_13_0_s_16_1 rfl hs3 (fun _ => rfl) (LoadRect.numel_consLift _ _ rfl hs3) inb_S64x8192_S64x128_0_6656 x) ?_
  refine And.intro (fun x => piece (planes (up (dob X0 X1 X3 hi X5))) 64 8192 16 3 12 6528 (by norm_num) (by norm_num) inb_S4x1024x128_S1x1024x128_3_0_0 inb_S1024x128_S64x128_12_0_s_16_1 rfl hs3 (fun _ => rfl) (LoadRect.numel_consLift _ _ rfl hs3) inb_S64x8192_S64x128_0_6528 x) ?_
  refine And.intro (fun x => piece (planes (up (dob X0 X1 X3 hi X5))) 64 8192 16 2 12 6400 (by norm_num) (by norm_num) inb_S4x1024x128_S1x1024x128_2_0_0 inb_S1024x128_S64x128_12_0_s_16_1 rfl hs3 (fun _ => rfl) (LoadRect.numel_consLift _ _ rfl hs3) inb_S64x8192_S64x128_0_6400 x) ?_
  refine And.intro (fun x => piece (planes (up (dob X0 X1 X3 hi X5))) 64 8192 16 1 12 6272 (by norm_num) (by norm_num) inb_S4x1024x128_S1x1024x128_1_0_0 inb_S1024x128_S64x128_12_0_s_16_1 rfl hs3 (fun _ => rfl) (LoadRect.numel_consLift _ _ rfl hs3) inb_S64x8192_S64x128_0_6272 x) ?_
  refine And.intro (fun x => piece (planes (up (dob X0 X1 X3 hi X5))) 64 8192 16 0 12 6144 (by norm_num) (by norm_num) inb_S4x1024x128_S1x1024x128_0_0_0 inb_S1024x128_S64x128_12_0_s_16_1 rfl hs3 (fun _ => rfl) (LoadRect.numel_consLift _ _ rfl hs3) inb_S64x8192_S64x128_0_6144 x) ?_
  refine And.intro (fun x => piece (planes (up (dob X0 X1 X3 hi X5))) 64 8192 16 3 11 6016 (by norm_num) (by norm_num) inb_S4x1024x128_S1x1024x128_3_0_0 inb_S1024x128_S64x128_11_0_s_16_1 rfl hs3 (fun _ => rfl) (LoadRect.numel_consLift _ _ rfl hs3) inb_S64x8192_S64x128_0_6016 x) ?_
  refine And.intro (fun x => piece (planes (up (dob X0 X1 X3 hi X5))) 64 8192 16 2 11 5888 (by norm_num) (by norm_num) inb_S4x1024x128_S1x1024x128_2_0_0 inb_S1024x128_S64x128_11_0_s_16_1 rfl hs3 (fun _ => rfl) (LoadRect.numel_consLift _ _ rfl hs3) inb_S64x8192_S64x128_0_5888 x) ?_
  refine And.intro (fun x => piece (planes (up (dob X0 X1 X3 hi X5))) 64 8192 16 1 11 5760 (by norm_num) (by norm_num) inb_S4x1024x128_S1x1024x128_1_0_0 inb_S1024x128_S64x128_11_0_s_16_1 rfl hs3 (fun _ => rfl) (LoadRect.numel_consLift _ _ rfl hs3) inb_S64x8192_S64x128_0_5760 x) ?_
  refine And.intro (fun x => piece (planes (up (dob X0 X1 X3 hi X5))) 64 8192 16 0 11 5632 (by norm_num) (by norm_num) inb_S4x1024x128_S1x1024x128_0_0_0 inb_S1024x128_S64x128_11_0_s_16_1 rfl hs3 (fun _ => rfl) (LoadRect.numel_consLift _ _ rfl hs3) inb_S64x8192_S64x128_0_5632 x) ?_
  refine And.intro (fun x => piece (planes (up (dob X0 X1 X3 hi X5))) 64 8192 16 3 10 5504 (by norm_num) (by norm_num) inb_S4x1024x128_S1x1024x128_3_0_0 inb_S1024x128_S64x128_10_0_s_16_1 rfl hs3 (fun _ => rfl) (LoadRect.numel_consLift _ _ rfl hs3) inb_S64x8192_S64x128_0_5504 x) ?_
  refine And.intro (fun x => piece (planes (up (dob X0 X1 X3 hi X5))) 64 8192 16 2 10 5376 (by norm_num) (by norm_num) inb_S4x1024x128_S1x1024x128_2_0_0 inb_S1024x128_S64x128_10_0_s_16_1 rfl hs3 (fun _ => rfl) (LoadRect.numel_consLift _ _ rfl hs3) inb_S64x8192_S64x128_0_5376 x) ?_
  refine And.intro (fun x => piece (planes (up (dob X0 X1 X3 hi X5))) 64 8192 16 1 10 5248 (by norm_num) (by norm_num) inb_S4x1024x128_S1x1024x128_1_0_0 inb_S1024x128_S64x128_10_0_s_16_1 rfl hs3 (fun _ => rfl) (LoadRect.numel_consLift _ _ rfl hs3) inb_S64x8192_S64x128_0_5248 x) ?_
  refine And.intro (fun x => piece (planes (up (dob X0 X1 X3 hi X5))) 64 8192 16 0 10 5120 (by norm_num) (by norm_num) inb_S4x1024x128_S1x1024x128_0_0_0 inb_S1024x128_S64x128_10_0_s_16_1 rfl hs3 (fun _ => rfl) (LoadRect.numel_consLift _ _ rfl hs3) inb_S64x8192_S64x128_0_5120 x) ?_
  refine And.intro (fun x => piece (planes (up (dob X0 X1 X3 hi X5))) 64 8192 16 3 9 4992 (by norm_num) (by norm_num) inb_S4x1024x128_S1x1024x128_3_0_0 inb_S1024x128_S64x128_9_0_s_16_1 rfl hs3 (fun _ => rfl) (LoadRect.numel_consLift _ _ rfl hs3) inb_S64x8192_S64x128_0_4992 x) ?_
  refine And.intro (fun x => piece (planes (up (dob X0 X1 X3 hi X5))) 64 8192 16 2 9 4864 (by norm_num) (by norm_num) inb_S4x1024x128_S1x1024x128_2_0_0 inb_S1024x128_S64x128_9_0_s_16_1 rfl hs3 (fun _ => rfl) (LoadRect.numel_consLift _ _ rfl hs3) inb_S64x8192_S64x128_0_4864 x) ?_
  refine And.intro (fun x => piece (planes (up (dob X0 X1 X3 hi X5))) 64 8192 16 1 9 4736 (by norm_num) (by norm_num) inb_S4x1024x128_S1x1024x128_1_0_0 inb_S1024x128_S64x128_9_0_s_16_1 rfl hs3 (fun _ => rfl) (LoadRect.numel_consLift _ _ rfl hs3) inb_S64x8192_S64x128_0_4736 x) ?_
  refine And.intro (fun x => piece (planes (up (dob X0 X1 X3 hi X5))) 64 8192 16 0 9 4608 (by norm_num) (by norm_num) inb_S4x1024x128_S1x1024x128_0_0_0 inb_S1024x128_S64x128_9_0_s_16_1 rfl hs3 (fun _ => rfl) (LoadRect.numel_consLift _ _ rfl hs3) inb_S64x8192_S64x128_0_4608 x) ?_
  refine And.intro (fun x => piece (planes (up (dob X0 X1 X3 hi X5))) 64 8192 16 3 8 4480 (by norm_num) (by norm_num) inb_S4x1024x128_S1x1024x128_3_0_0 inb_S1024x128_S64x128_8_0_s_16_1 rfl hs3 (fun _ => rfl) (LoadRect.numel_consLift _ _ rfl hs3) inb_S64x8192_S64x128_0_4480 x) ?_
  refine And.intro (fun x => piece (planes (up (dob X0 X1 X3 hi X5))) 64 8192 16 2 8 4352 (by norm_num) (by norm_num) inb_S4x1024x128_S1x1024x128_2_0_0 inb_S1024x128_S64x128_8_0_s_16_1 rfl hs3 (fun _ => rfl) (LoadRect.numel_consLift _ _ rfl hs3) inb_S64x8192_S64x128_0_4352 x) ?_
  refine And.intro (fun x => piece (planes (up (dob X0 X1 X3 hi X5))) 64 8192 16 1 8 4224 (by norm_num) (by norm_num) inb_S4x1024x128_S1x1024x128_1_0_0 inb_S1024x128_S64x128_8_0_s_16_1 rfl hs3 (fun _ => rfl) (LoadRect.numel_consLift _ _ rfl hs3) inb_S64x8192_S64x128_0_4224 x) ?_
  refine And.intro (fun x => piece (planes (up (dob X0 X1 X3 hi X5))) 64 8192 16 0 8 4096 (by norm_num) (by norm_num) inb_S4x1024x128_S1x1024x128_0_0_0 inb_S1024x128_S64x128_8_0_s_16_1 rfl hs3 (fun _ => rfl) (LoadRect.numel_consLift _ _ rfl hs3) inb_S64x8192_S64x128_0_4096 x) ?_
  refine And.intro (fun x => piece (planes (up (dob X0 X1 X3 hi X5))) 64 8192 16 3 7 3968 (by norm_num) (by norm_num) inb_S4x1024x128_S1x1024x128_3_0_0 inb_S1024x128_S64x128_7_0_s_16_1 rfl hs3 (fun _ => rfl) (LoadRect.numel_consLift _ _ rfl hs3) inb_S64x8192_S64x128_0_3968 x) ?_
  refine And.intro (fun x => piece (planes (up (dob X0 X1 X3 hi X5))) 64 8192 16 2 7 3840 (by norm_num) (by norm_num) inb_S4x1024x128_S1x1024x128_2_0_0 inb_S1024x128_S64x128_7_0_s_16_1 rfl hs3 (fun _ => rfl) (LoadRect.numel_consLift _ _ rfl hs3) inb_S64x8192_S64x128_0_3840 x) ?_
  refine And.intro (fun x => piece (planes (up (dob X0 X1 X3 hi X5))) 64 8192 16 1 7 3712 (by norm_num) (by norm_num) inb_S4x1024x128_S1x1024x128_1_0_0 inb_S1024x128_S64x128_7_0_s_16_1 rfl hs3 (fun _ => rfl) (LoadRect.numel_consLift _ _ rfl hs3) inb_S64x8192_S64x128_0_3712 x) ?_
  refine And.intro (fun x => piece (planes (up (dob X0 X1 X3 hi X5))) 64 8192 16 0 7 3584 (by norm_num) (by norm_num) inb_S4x1024x128_S1x1024x128_0_0_0 inb_S1024x128_S64x128_7_0_s_16_1 rfl hs3 (fun _ => rfl) (LoadRect.numel_consLift _ _ rfl hs3) inb_S64x8192_S64x128_0_3584 x) ?_
  refine And.intro (fun x => piece (planes (up (dob X0 X1 X3 hi X5))) 64 8192 16 3 6 3456 (by norm_num) (by norm_num) inb_S4x1024x128_S1x1024x128_3_0_0 inb_S1024x128_S64x128_6_0_s_16_1 rfl hs3 (fun _ => rfl) (LoadRect.numel_consLift _ _ rfl hs3) inb_S64x8192_S64x128_0_3456 x) ?_
  refine And.intro (fun x => piece (planes (up (dob X0 X1 X3 hi X5))) 64 8192 16 2 6 3328 (by norm_num) (by norm_num) inb_S4x1024x128_S1x1024x128_2_0_0 inb_S1024x128_S64x128_6_0_s_16_1 rfl hs3 (fun _ => rfl) (LoadRect.numel_consLift _ _ rfl hs3) inb_S64x8192_S64x128_0_3328 x) ?_
  refine And.intro (fun x => piece (planes (up (dob X0 X1 X3 hi X5))) 64 8192 16 1 6 3200 (by norm_num) (by norm_num) inb_S4x1024x128_S1x1024x128_1_0_0 inb_S1024x128_S64x128_6_0_s_16_1 rfl hs3 (fun _ => rfl) (LoadRect.numel_consLift _ _ rfl hs3) inb_S64x8192_S64x128_0_3200 x) ?_
  refine And.intro (fun x => piece (planes (up (dob X0 X1 X3 hi X5))) 64 8192 16 0 6 3072 (by norm_num) (by norm_num) inb_S4x1024x128_S1x1024x128_0_0_0 inb_S1024x128_S64x128_6_0_s_16_1 rfl hs3 (fun _ => rfl) (LoadRect.numel_consLift _ _ rfl hs3) inb_S64x8192_S64x128_0_3072 x) ?_
  refine And.intro (fun x => piece (planes (up (dob X0 X1 X3 hi X5))) 64 8192 16 3 5 2944 (by norm_num) (by norm_num) inb_S4x1024x128_S1x1024x128_3_0_0 inb_S1024x128_S64x128_5_0_s_16_1 rfl hs3 (fun _ => rfl) (LoadRect.numel_consLift _ _ rfl hs3) inb_S64x8192_S64x128_0_2944 x) ?_
  refine And.intro (fun x => piece (planes (up (dob X0 X1 X3 hi X5))) 64 8192 16 2 5 2816 (by norm_num) (by norm_num) inb_S4x1024x128_S1x1024x128_2_0_0 inb_S1024x128_S64x128_5_0_s_16_1 rfl hs3 (fun _ => rfl) (LoadRect.numel_consLift _ _ rfl hs3) inb_S64x8192_S64x128_0_2816 x) ?_
  refine And.intro (fun x => piece (planes (up (dob X0 X1 X3 hi X5))) 64 8192 16 1 5 2688 (by norm_num) (by norm_num) inb_S4x1024x128_S1x1024x128_1_0_0 inb_S1024x128_S64x128_5_0_s_16_1 rfl hs3 (fun _ => rfl) (LoadRect.numel_consLift _ _ rfl hs3) inb_S64x8192_S64x128_0_2688 x) ?_
  refine And.intro (fun x => piece (planes (up (dob X0 X1 X3 hi X5))) 64 8192 16 0 5 2560 (by norm_num) (by norm_num) inb_S4x1024x128_S1x1024x128_0_0_0 inb_S1024x128_S64x128_5_0_s_16_1 rfl hs3 (fun _ => rfl) (LoadRect.numel_consLift _ _ rfl hs3) inb_S64x8192_S64x128_0_2560 x) ?_
  refine And.intro (fun x => piece (planes (up (dob X0 X1 X3 hi X5))) 64 8192 16 3 4 2432 (by norm_num) (by norm_num) inb_S4x1024x128_S1x1024x128_3_0_0 inb_S1024x128_S64x128_4_0_s_16_1 rfl hs3 (fun _ => rfl) (LoadRect.numel_consLift _ _ rfl hs3) inb_S64x8192_S64x128_0_2432 x) ?_
  refine And.intro (fun x => piece (planes (up (dob X0 X1 X3 hi X5))) 64 8192 16 2 4 2304 (by norm_num) (by norm_num) inb_S4x1024x128_S1x1024x128_2_0_0 inb_S1024x128_S64x128_4_0_s_16_1 rfl hs3 (fun _ => rfl) (LoadRect.numel_consLift _ _ rfl hs3) inb_S64x8192_S64x128_0_2304 x) ?_
  refine And.intro (fun x => piece (planes (up (dob X0 X1 X3 hi X5))) 64 8192 16 1 4 2176 (by norm_num) (by norm_num) inb_S4x1024x128_S1x1024x128_1_0_0 inb_S1024x128_S64x128_4_0_s_16_1 rfl hs3 (fun _ => rfl) (LoadRect.numel_consLift _ _ rfl hs3) inb_S64x8192_S64x128_0_2176 x) ?_
  refine And.intro (fun x => piece (planes (up (dob X0 X1 X3 hi X5))) 64 8192 16 0 4 2048 (by norm_num) (by norm_num) inb_S4x1024x128_S1x1024x128_0_0_0 inb_S1024x128_S64x128_4_0_s_16_1 rfl hs3 (fun _ => rfl) (LoadRect.numel_consLift _ _ rfl hs3) inb_S64x8192_S64x128_0_2048 x) ?_
  refine And.intro (fun x => piece (planes (up (dob X0 X1 X3 hi X5))) 64 8192 16 3 3 1920 (by norm_num) (by norm_num) inb_S4x1024x128_S1x1024x128_3_0_0 inb_S1024x128_S64x128_3_0_s_16_1 rfl hs3 (fun _ => rfl) (LoadRect.numel_consLift _ _ rfl hs3) inb_S64x8192_S64x128_0_1920 x) ?_
  refine And.intro (fun x => piece (planes (up (dob X0 X1 X3 hi X5))) 64 8192 16 2 3 1792 (by norm_num) (by norm_num) inb_S4x1024x128_S1x1024x128_2_0_0 inb_S1024x128_S64x128_3_0_s_16_1 rfl hs3 (fun _ => rfl) (LoadRect.numel_consLift _ _ rfl hs3) inb_S64x8192_S64x128_0_1792 x) ?_
  refine And.intro (fun x => piece (planes (up (dob X0 X1 X3 hi X5))) 64 8192 16 1 3 1664 (by norm_num) (by norm_num) inb_S4x1024x128_S1x1024x128_1_0_0 inb_S1024x128_S64x128_3_0_s_16_1 rfl hs3 (fun _ => rfl) (LoadRect.numel_consLift _ _ rfl hs3) inb_S64x8192_S64x128_0_1664 x) ?_
  refine And.intro (fun x => piece (planes (up (dob X0 X1 X3 hi X5))) 64 8192 16 0 3 1536 (by norm_num) (by norm_num) inb_S4x1024x128_S1x1024x128_0_0_0 inb_S1024x128_S64x128_3_0_s_16_1 rfl hs3 (fun _ => rfl) (LoadRect.numel_consLift _ _ rfl hs3) inb_S64x8192_S64x128_0_1536 x) ?_
  refine And.intro (fun x => piece (planes (up (dob X0 X1 X3 hi X5))) 64 8192 16 3 2 1408 (by norm_num) (by norm_num) inb_S4x1024x128_S1x1024x128_3_0_0 inb_S1024x128_S64x128_2_0_s_16_1 rfl hs3 (fun _ => rfl) (LoadRect.numel_consLift _ _ rfl hs3) inb_S64x8192_S64x128_0_1408 x) ?_
  refine And.intro (fun x => piece (planes (up (dob X0 X1 X3 hi X5))) 64 8192 16 2 2 1280 (by norm_num) (by norm_num) inb_S4x1024x128_S1x1024x128_2_0_0 inb_S1024x128_S64x128_2_0_s_16_1 rfl hs3 (fun _ => rfl) (LoadRect.numel_consLift _ _ rfl hs3) inb_S64x8192_S64x128_0_1280 x) ?_
  refine And.intro (fun x => piece (planes (up (dob X0 X1 X3 hi X5))) 64 8192 16 1 2 1152 (by norm_num) (by norm_num) inb_S4x1024x128_S1x1024x128_1_0_0 inb_S1024x128_S64x128_2_0_s_16_1 rfl hs3 (fun _ => rfl) (LoadRect.numel_consLift _ _ rfl hs3) inb_S64x8192_S64x128_0_1152 x) ?_
  refine And.intro (fun x => piece (planes (up (dob X0 X1 X3 hi X5))) 64 8192 16 0 2 1024 (by norm_num) (by norm_num) inb_S4x1024x128_S1x1024x128_0_0_0 inb_S1024x128_S64x128_2_0_s_16_1 rfl hs3 (fun _ => rfl) (LoadRect.numel_consLift _ _ rfl hs3) inb_S64x8192_S64x128_0_1024 x) ?_
  refine And.intro (fun x => piece (planes (up (dob X0 X1 X3 hi X5))) 64 8192 16 3 1 896 (by norm_num) (by norm_num) inb_S4x1024x128_S1x1024x128_3_0_0 inb_S1024x128_S64x128_1_0_s_16_1 rfl hs3 (fun _ => rfl) (LoadRect.numel_consLift _ _ rfl hs3) inb_S64x8192_S64x128_0_896 x) ?_
  refine And.intro (fun x => piece (planes (up (dob X0 X1 X3 hi X5))) 64 8192 16 2 1 768 (by norm_num) (by norm_num) inb_S4x1024x128_S1x1024x128_2_0_0 inb_S1024x128_S64x128_1_0_s_16_1 rfl hs3 (fun _ => rfl) (LoadRect.numel_consLift _ _ rfl hs3) inb_S64x8192_S64x128_0_768 x) ?_
  refine And.intro (fun x => piece (planes (up (dob X0 X1 X3 hi X5))) 64 8192 16 1 1 640 (by norm_num) (by norm_num) inb_S4x1024x128_S1x1024x128_1_0_0 inb_S1024x128_S64x128_1_0_s_16_1 rfl hs3 (fun _ => rfl) (LoadRect.numel_consLift _ _ rfl hs3) inb_S64x8192_S64x128_0_640 x) ?_
  refine And.intro (fun x => piece (planes (up (dob X0 X1 X3 hi X5))) 64 8192 16 0 1 512 (by norm_num) (by norm_num) inb_S4x1024x128_S1x1024x128_0_0_0 inb_S1024x128_S64x128_1_0_s_16_1 rfl hs3 (fun _ => rfl) (LoadRect.numel_consLift _ _ rfl hs3) inb_S64x8192_S64x128_0_512 x) ?_
  refine And.intro (fun x => piece (planes (up (dob X0 X1 X3 hi X5))) 64 8192 16 3 0 384 (by norm_num) (by norm_num) inb_S4x1024x128_S1x1024x128_3_0_0 inb_S1024x128_S64x128_0_0_s_16_1 rfl hs3 (fun _ => rfl) (LoadRect.numel_consLift _ _ rfl hs3) inb_S64x8192_S64x128_0_384 x) ?_
  refine And.intro (fun x => piece (planes (up (dob X0 X1 X3 hi X5))) 64 8192 16 2 0 256 (by norm_num) (by norm_num) inb_S4x1024x128_S1x1024x128_2_0_0 inb_S1024x128_S64x128_0_0_s_16_1 rfl hs3 (fun _ => rfl) (LoadRect.numel_consLift _ _ rfl hs3) inb_S64x8192_S64x128_0_256 x) ?_
  refine And.intro (fun x => piece (planes (up (dob X0 X1 X3 hi X5))) 64 8192 16 1 0 128 (by norm_num) (by norm_num) inb_S4x1024x128_S1x1024x128_1_0_0 inb_S1024x128_S64x128_0_0_s_16_1 rfl hs3 (fun _ => rfl) (LoadRect.numel_consLift _ _ rfl hs3) inb_S64x8192_S64x128_0_128 x) ?_
  refine And.intro (fun x => piece (planes (up (dob X0 X1 X3 hi X5))) 64 8192 16 0 0 0 (by norm_num) (by norm_num) inb_S4x1024x128_S1x1024x128_0_0_0 inb_S1024x128_S64x128_0_0_s_16_1 rfl hs3 (fun _ => rfl) (LoadRect.numel_consLift _ _ rfl hs3) inb_S64x8192_S64x128_0_0 x) ?_
  exact trivial

theorem outC11 (hc0 : ¬cond0_0 i) (hc1 : cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ) (w : Fin 512 → ℝ) (hw : xo11 = fun j => ((w (j 1) : ℝ) : EReal))
    (h0 : x0 = up X0) (h1 : x1 = up X1) (h2 : x2 = up X2) (h3 : x3 = up X3) (h4 : x4 = up X4) (h5 : x5 = up X5) (h6 : x6 = up X6) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = fun j => ((w (j 1) + ∑ n, dgb X0 X1 X2 lo n (j 1) : ℝ) : EReal) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  rw [View.canon_unit_zero hz]
  exact p16 X0 X1 X2 w xo11 hw

theorem outC12 (hc0 : ¬cond0_0 i) (hc1 : cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ) (w : Fin 512 → ℝ) (hw : xo12 = fun j => ((w (j 1) : ℝ) : EReal))
    (h0 : x0 = up X0) (h1 : x1 = up X1) (h2 : x2 = up X2) (h3 : x3 = up X3) (h4 : x4 = up X4) (h5 : x5 = up X5) (h6 : x6 = up X6) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = fun j => ((w (j 1) + ∑ n, dgb X0 X1 X3 hi n (j 1) : ℝ) : EReal) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  rw [View.canon_unit_zero hz]
  exact p22 X0 X1 X3 w xo12 hw

theorem outCs (hc0 : ¬cond0_0 i) (hc1 : cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ) (S : S1024x1024.Idx → ℝ) (hs : xs1 = up S)
    (h0 : x0 = up X0) (h1 : x1 = up X1) (h2 : x2 = up X2) (h3 : x3 = up X3) (h4 : x4 = up X4) (h5 : x5 = up X5) (h6 : x6 = up X6) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = up (acc S X0 X6) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  subst hs
  exact canon_acc S X0 X6 []

theorem outC13 (hc0 : ¬cond0_0 i) (hc1 : cond0_1 i) (x0 : Vec Ideal S1024x1024 .bf16) (x1 : Vec Ideal S1024x1024 .bf16) (x2 : Vec Ideal S1024x512 .bf16) (x3 : Vec Ideal S1024x512 .bf16) (x4 : Vec Ideal S1x512 .f32) (x5 : Vec Ideal S1x512 .f32) (x6 : Vec Ideal S1024x1024 .bf16) (xo11 xo12 : Vec Ideal S1x512 .f32) (xs1 : Vec Ideal S1024x1024 .f32)
    (X0 : S1024x1024.Idx → ℝ) (X1 : S1024x1024.Idx → ℝ) (X2 : S1024x512.Idx → ℝ) (X3 : S1024x512.Idx → ℝ) (X4 : S1x512.Idx → ℝ) (X5 : S1x512.Idx → ℝ) (X6 : S1024x1024.Idx → ℝ) (S : S1024x1024.Idx → ℝ) (hs : xs1 = up S)
    (h0 : x0 = up X0) (h1 : x1 = up X1) (h2 : x2 = up X2) (h3 : x3 = up X3) (h4 : x4 = up X4) (h5 : x5 = up X5) (h6 : x6 = up X6) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1 = up (acc S X0 X6) := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xo11 xo12 xs1)]
  unfold kernelRun0_C
  dsimp only
  sl_unfold_words
  simp only [View.readAt_eq_ld, harg1.read_unread, harg2.read_unread, harg3.read_unread, harg4.read_unread, harg5.read_unread, harg6.read_unread, harg7.read_unread, harg12.read_unread, harg13.read_unread, harg16.read_unread]
  simp only [View.ld_unit_zero (S := S1024x1024) hz, View.ld_unit_zero (S := S1024x512) hz, View.ld_unit_zero (S := S1x512) hz]
  subst h0 h1 h2 h3 h4 h5 h6
  subst hs
  rw [View.canon_unit_zero hz]
  exact read_acc _ _ _ (canon_acc S X0 X6 [])

end points

end Cert.WoOut

end
-- ==== Proof.WoRef.lean ====
/- The reference of the output projection's backward pass at real arguments: each of its results in the form of Proof/WoRow.lean. -/
module

public import proofs.«01_k».proof.Proof.WoRow
public import proofs.«01_k».proof.Proof.Gen.WoRefIdeal.Read

@[expose] public section

noncomputable section

namespace Cert.WoRef

open Idealize.ShloMosaic Cert.WoRefIdeal Cert.WoRefIdeal.Gen Cert.WoRefIdeal.Read Cert.Lift

/-- The two halves of a mixed row. -/
def lo (d : Fin 512) : Fin 1024 := ⟨d.val, by omega⟩
def hi (d : Fin 512) : Fin 1024 := ⟨512 + d.val, by omega⟩

section defs
variable (O : S8192x512.Idx → ℝ) (G : S512.Idx → ℝ) (s : Fin 512 → Fin 1024) (W : S1024x1024.Idx → ℝ) (C : S8192x1024.Idx → ℝ)

/-- A half's row and gain; its normed entry. -/
def z (n : Fin 8192) (d : Fin 512) : ℝ := O (ix2 n d)
def gn (d : Fin 512) : ℝ := G (ix1 d)
def nm (n : Fin 8192) (d : Fin 512) : ℝ := z O n d * WoRow.r (z O n) * gn G d

/-- The gradient by the mixed row. -/
def dm (n : Fin 8192) (e : Fin 1024) : ℝ := ∑ d : Fin 1024, C (ix2 n d) * W (ix2 e d)

/-- The gradients by a half's row and by its gain. -/
def dout (n : Fin 8192) (d : Fin 512) : ℝ := WoRow.back (z O n) (fun e => dm W C n (s e) * gn G e) d
def dgain (d : Fin 512) : ℝ := ∑ n, dm W C n (s d) * (z O n d * WoRow.r (z O n))
end defs

variable (A B : S8192x512.Idx → ℝ) (GA GB : S512.Idx → ℝ) (W : S1024x1024.Idx → ℝ) (C : S8192x1024.Idx → ℝ)

/-- The mixed row, and the gradient by the projection's weight. -/
def mx (n : Fin 8192) (e : Fin 1024) : ℝ := if h : e.val < 512 then nm A GA n ⟨e.val, h⟩ else nm B GB n ⟨e.val - 512, by omega⟩
def dw (e d : Fin 1024) : ℝ := ∑ n, mx A B GA GB n e * C (ix2 n d)

section idx
variable (n : Fin 8192) (d : Fin 512) (e f : Fin 1024) (j : Fin 1)
theorem i_1 (k : Fin 512) : idx_main_v1 (ix1 n) k = ix2 n k := by funext a; match a with | ⟨0, _⟩ => rfl | ⟨1, _⟩ => rfl
theorem i_46 (k : Fin 512) : idx_main_v46 (ix1 n) k = ix2 n k := i_1 n k
theorem i_66 (k : Fin 512) : idx_main_v66 (ix1 n) k = ix2 n k := i_1 n k
theorem i_2 : idx_main_v2 (ix2 n j) = ix1 n := by funext a; match a with | ⟨0, _⟩ => rfl
theorem i_47 : idx_main_v47 (ix2 n j) = ix1 n := by
  funext a; match a with | ⟨0, _⟩ => exact Fin.ext (by show n.val * 1 + j.val = n.val; omega)
theorem i_67 : idx_main_v67 (ix2 n j) = ix1 n := i_47 n j
theorem i_11 : idx_main_v11 (ix2 n d) = ix2 n 0 := by funext a; match a with | ⟨0, _⟩ => rfl | ⟨1, _⟩ => rfl
theorem i_48 : idx_main_v48 (ix2 n d) = ix2 n 0 := i_11 n d
theorem i_68 : idx_main_v68 (ix2 n d) = ix2 n 0 := i_11 n d
theorem i_13 : idx_main_v13 (ix2 j d) = ix1 d := by funext a; match a with | ⟨0, _⟩ => rfl
theorem i_29 : idx_main_v29 (ix2 j d) = ix1 d := i_13 d j
theorem i_14 : idx_main_v14 (ix2 n d) = ix2 0 d := by funext a; match a with | ⟨0, _⟩ => rfl | ⟨1, _⟩ => rfl
theorem i_42 : idx_main_v42 (ix2 n d) = ix2 0 d := i_14 n d
theorem i_62 : idx_main_v62 (ix2 n d) = ix2 0 d := i_14 n d
theorem i_37 : idx_main_v37 (ix2 n d) = ix2 n (lo d) := by funext a; match a with | ⟨0, _⟩ => rfl | ⟨1, _⟩ => rfl
theorem i_38 : idx_main_v38 (ix2 n d) = ix2 n (hi d) := by funext a; match a with | ⟨0, _⟩ => rfl | ⟨1, _⟩ => rfl
theorem i_l36 : lidx_main_v36 (ix2 n e) f = ix2 n f := by funext a; match a with | ⟨0, _⟩ => rfl | ⟨1, _⟩ => rfl
theorem i_r36 : ridx_main_v36 (ix2 n e) f = ix2 e f := by funext a; match a with | ⟨0, _⟩ => rfl | ⟨1, _⟩ => rfl
theorem i_l34 : lidx_main_v34 (ix2 f e) n = ix2 n f := by funext a; match a with | ⟨0, _⟩ => rfl | ⟨1, _⟩ => rfl
theorem i_r34 : ridx_main_v34 (ix2 f e) n = ix2 n e := by funext a; match a with | ⟨0, _⟩ => rfl | ⟨1, _⟩ => rfl
theorem i_35 : idx_main_v35 (ix2 e f) = ix2 f e := by funext a; match a with | ⟨0, _⟩ => rfl | ⟨1, _⟩ => rfl
theorem i_40 : idx_main_v40 (ix1 d) n = ix2 n d := by funext a; match a with | ⟨0, _⟩ => rfl | ⟨1, _⟩ => rfl
theorem i_60 : idx_main_v60 (ix1 d) n = ix2 n d := i_40 n d
theorem i_41 : idx_main_v41 (ix2 j d) = ix1 d := by
  funext a; match a with | ⟨0, _⟩ => exact Fin.ext (by show j.val * 512 + d.val = d.val; omega)
theorem i_61 : idx_main_v61 (ix2 j d) = ix1 d := i_41 d j
theorem i_83 : idx_main_v83 (ix2 j d) = ix1 d := i_41 d j
theorem i_84 : idx_main_v84 (ix2 j d) = ix1 d := i_41 d j
theorem i_44 : idx_main_v44 (ix1 d) j = ix2 j d := by funext a; match a with | ⟨0, _⟩ => rfl | ⟨1, _⟩ => rfl
theorem i_64 : idx_main_v64 (ix1 d) j = ix2 j d := i_44 d j
theorem i_53 : idx_main_v53 (ix1 n) j = ix2 n j := by funext a; match a with | ⟨0, _⟩ => rfl | ⟨1, _⟩ => rfl
theorem i_73 : idx_main_v73 (ix1 n) j = ix2 n j := i_53 n j
theorem i_54 : idx_main_v54 (ix2 n d) = ix1 n := by funext a; match a with | ⟨0, _⟩ => rfl
theorem i_74 : idx_main_v74 (ix2 n d) = ix1 n := i_54 n d
end idx

section stages
variable (n : Fin 8192) (d : Fin 512) (e f : Fin 1024) (j : Fin 1)

theorem s6 : val_main_v6 (F := Ideal) (up A) (ix2 n j) = ((WoRow.v (z A n) : ℝ) : EReal) := by
  simp only [val_main_v6_apply, val_main_v5_apply, val_main_v4_apply, val_main_v3_apply, val_main_v2_apply, val_main_v1_apply, val_main_v0_apply,
    val_main_cst_apply, val_main_cst_0_apply, val_main_cst_1_apply, i_2, i_1, up, Ideal.ofBits_def, Ideal.addf_def, Ideal.mulf_def, Ideal.hostDivf_def,
    c_zero, WoRow.c_512, c_eps, ← EReal.coe_mul, sum_coe, ← EReal.coe_add, div_coe (by norm_num : (512 : ℝ) ≠ 0), zero_add]
  rfl

theorem s7 : val_main_v7 (F := Ideal) (up A) (ix2 n j) = ((WoRow.r (z A n) : ℝ) : EReal) := by
  rw [val_main_v7_apply, s6, Ideal.hostUnary_rsqrt_def, rsqrt_coe (WoRow.v_pos _)]; rfl

theorem s10 : val_main_v10 (F := Ideal) (up A) (ix2 n j) = ((-(1 / 2) * (WoRow.r (z A n) / WoRow.v (z A n)) : ℝ) : EReal) := by
  simp only [val_main_v10_apply, val_main_v9_apply, val_main_v8_apply, val_main_cst_2_apply, s6, s7, Ideal.ofBits_def, Ideal.mulf_def, Ideal.hostDivf_def,
    c_negHalf, div_coe (WoRow.v_pos _).ne', ← EReal.coe_mul]

theorem s12 : val_main_v12 (F := Ideal) (up A) (ix2 n d) = ((z A n d * WoRow.r (z A n) : ℝ) : EReal) := by
  simp only [val_main_v12_apply, val_main_v11_apply, i_11, up, s7, Ideal.mulf_def, ← EReal.coe_mul]
  rfl

theorem s15 : val_main_v15 (F := Ideal) (up A) (up GA) (ix2 n d) = ((nm A GA n d : ℝ) : EReal) := by
  simp only [val_main_v15_apply, val_main_v14_apply, val_main_v13_apply, i_14, i_13, s12, up, Ideal.mulf_def, ← EReal.coe_mul]
  rfl

/-! The second half's forward lines are the first's. -/

theorem s23 : val_main_v23 (F := Ideal) (up B) (ix2 n j) = ((WoRow.r (z B n) : ℝ) : EReal) := s7 B n j
theorem s26 : val_main_v26 (F := Ideal) (up B) (ix2 n j) = ((-(1 / 2) * (WoRow.r (z B n) / WoRow.v (z B n)) : ℝ) : EReal) := s10 B n j
theorem s28 : val_main_v28 (F := Ideal) (up B) (ix2 n d) = ((z B n d * WoRow.r (z B n) : ℝ) : EReal) := s12 B n d
theorem s31 : val_main_v31 (F := Ideal) (up B) (up GB) (ix2 n d) = ((nm B GB n d : ℝ) : EReal) := s15 B GB n d

/-- The mixed row. -/
theorem s32 : val_main_v32 (F := Ideal) (up A) (up B) (up GA) (up GB) (ix2 n e) = ((mx A B GA GB n e : ℝ) : EReal) := by
  unfold val_main_v32 mx
  by_cases h : e.val < 512
  · rw [dif_pos h]
    refine (concatenate_pair_apply_left (s₁ := S8192x512) (s₂ := S8192x512) 1 _ _ _ (ix2 n e) rfl (ix2 n (⟨e.val, h⟩ : Fin 512)) fun b => ?_).trans (s15 A GA n ⟨e.val, h⟩)
    match b with | ⟨0, _⟩ => rfl | ⟨1, _⟩ => rfl
  · rw [dif_neg h]
    refine (concatenate_pair_apply_right (s₁ := S8192x512) (s₂ := S8192x512) 1 _ _ _ (ix2 n e) rfl rfl (ix2 n (⟨e.val - 512, by omega⟩ : Fin 512)) (fun b hb => ?_) ?_).trans
      (s31 B GB n ⟨e.val - 512, by omega⟩)
    · match b with | ⟨0, _⟩ => rfl | ⟨1, _⟩ => exact absurd rfl hb
    · show e.val - 512 + 512 = e.val; omega

/-- The gradient by the mixed row. -/
theorem s36 : val_main_v36 (F := Ideal) (up W) (up C) (ix2 n e) = ((dm W C n e : ℝ) : EReal) := by
  simp only [val_main_v36_apply, i_l36, i_r36, up, ← EReal.coe_mul, sum_coe]
  rfl

/-- The gradient by the projection's weight. -/
theorem s35 : val_main_v35 (F := Ideal) (up A) (up B) (up GA) (up GB) (up C) (ix2 e f) = ((dw A B GA GB C e f : ℝ) : EReal) := by
  simp only [val_main_v35_apply, val_main_v34_apply, i_35, i_l34, i_r34, s32, up, ← EReal.coe_mul, sum_coe]
  exact congrArg _ (Finset.sum_congr rfl fun n _ => mul_comm _ _)

theorem s43 : val_main_v43 (F := Ideal) (up GB) (up W) (up C) (ix2 n d) = ((dm W C n (hi d) * gn GB d : ℝ) : EReal) := by
  simp only [val_main_v43_apply, val_main_v42_apply, val_main_v29_apply, val_main_v38_apply, i_42, i_29, i_38, s36, up, Ideal.mulf_def, ← EReal.coe_mul]
  rfl

theorem s54 : val_main_v54 (F := Ideal) (up B) (up GB) (up W) (up C) (ix2 n d)
    = (((∑ e, z B n e * (dm W C n (hi e) * gn GB e)) * (-(1 / 2) * (WoRow.r (z B n) / WoRow.v (z B n))) / 512 : ℝ) : EReal) := by
  simp only [val_main_v54_apply, val_main_v53_apply, val_main_v52_apply, val_main_v51_apply, val_main_v50_apply, val_main_v47_apply, val_main_v46_apply,
    val_main_v45_apply, s26, val_main_cst_9_apply, val_main_cst_10_apply, val_main_cst_11_apply,
    i_54, i_53, i_47, i_46, s43, up, Ideal.ofBits_def, Ideal.mulf_def, Ideal.hostDivf_def,
    c_zero, WoRow.c_512, ← EReal.coe_mul, sum_coe, ← EReal.coe_add, div_coe (by norm_num : (512 : ℝ) ≠ 0), zero_add, Fin.sum_univ_one]
  rfl

/-- The gradient by the second half's rows. -/
theorem s58 : val_main_v58 (F := Ideal) (up B) (up GB) (up W) (up C) (ix2 n d) = ((dout B GB hi W C n d : ℝ) : EReal) := by
  simp only [val_main_v58_apply, val_main_v57_apply, val_main_v56_apply, val_main_v55_apply, val_main_v49_apply, val_main_v48_apply, i_48,
    s23, s43, s54, up, Ideal.mulf_def, Ideal.addf_def, ← EReal.coe_mul, ← EReal.coe_add]
  exact congrArg (fun a : ℝ => ((a : ℝ) : EReal)) (WoRow.back_of_parts (z B n) (fun e => dm W C n (hi e) * gn GB e) d _ rfl)

/-- The gradient by the second half's gain. -/
theorem s84 : val_main_v84 (F := Ideal) (up B) (up W) (up C) (ix2 j d) = ((dgain B hi W C d : ℝ) : EReal) := by
  simp only [val_main_v84_apply, val_main_v44_apply, val_main_v41_apply, val_main_v40_apply, val_main_v39_apply, val_main_v38_apply,
    val_main_cst_7_apply, val_main_cst_8_apply, i_84, i_44, i_41, i_40, i_38, s28, s36, Ideal.ofBits_def, Ideal.mulf_def,
    c_zero, ← EReal.coe_mul, sum_coe, ← EReal.coe_add, zero_add, Fin.sum_univ_one]
  exact congrArg _ (Finset.sum_congr rfl fun n _ => mul_comm _ _)

theorem s63 : val_main_v63 (F := Ideal) (up GA) (up W) (up C) (ix2 n d) = ((dm W C n (lo d) * gn GA d : ℝ) : EReal) := by
  simp only [val_main_v63_apply, val_main_v62_apply, val_main_v13_apply, val_main_v37_apply, i_62, i_13, i_37, s36, up, Ideal.mulf_def, ← EReal.coe_mul]
  rfl

theorem s74 : val_main_v74 (F := Ideal) (up A) (up GA) (up W) (up C) (ix2 n d)
    = (((∑ e, z A n e * (dm W C n (lo e) * gn GA e)) * (-(1 / 2) * (WoRow.r (z A n) / WoRow.v (z A n))) / 512 : ℝ) : EReal) := by
  simp only [val_main_v74_apply, val_main_v73_apply, val_main_v72_apply, val_main_v71_apply, val_main_v70_apply, val_main_v67_apply, val_main_v66_apply,
    val_main_v65_apply, s10, val_main_cst_14_apply, val_main_cst_15_apply, val_main_cst_16_apply,
    i_74, i_73, i_67, i_66, s63, up, Ideal.ofBits_def, Ideal.mulf_def, Ideal.hostDivf_def,
    c_zero, WoRow.c_512, ← EReal.coe_mul, sum_coe, ← EReal.coe_add, div_coe (by norm_num : (512 : ℝ) ≠ 0), zero_add, Fin.sum_univ_one]
  rfl

/-- The gradient by the first half's rows. -/
theorem s78 : val_main_v78 (F := Ideal) (up A) (up GA) (up W) (up C) (ix2 n d) = ((dout A GA lo W C n d : ℝ) : EReal) := by
  simp only [val_main_v78_apply, val_main_v77_apply, val_main_v76_apply, val_main_v75_apply, val_main_v69_apply, val_main_v68_apply, i_68,
    s7, s63, s74, up, Ideal.mulf_def, Ideal.addf_def, ← EReal.coe_mul, ← EReal.coe_add]
  exact congrArg (fun a : ℝ => ((a : ℝ) : EReal)) (WoRow.back_of_parts (z A n) (fun e => dm W C n (lo e) * gn GA e) d _ rfl)

/-- The gradient by the first half's gain. -/
theorem s83 : val_main_v83 (F := Ideal) (up A) (up W) (up C) (ix2 j d) = ((dgain A lo W C d : ℝ) : EReal) := by
  simp only [val_main_v83_apply, val_main_v64_apply, val_main_v61_apply, val_main_v60_apply, val_main_v59_apply, val_main_v37_apply,
    val_main_cst_12_apply, val_main_cst_13_apply, i_83, i_64, i_61, i_60, i_37, s12, s36, Ideal.ofBits_def, Ideal.mulf_def,
    c_zero, ← EReal.coe_mul, sum_coe, ← EReal.coe_add, zero_add, Fin.sum_univ_one]
  exact congrArg _ (Finset.sum_congr rfl fun n _ => mul_comm _ _)

end stages

end Cert.WoRef

end
-- ==== Proof.WoValue.lean ====
/- What the output projection's backward kernel leaves in its seven result arrays, at real arguments. -/
module

public import proofs.«01_k».proof.Proof.WoOut
public import proofs.«01_k».proof.Proof.WoRef
public import Idealize.ShloMosaic.Lib.StableHlo.RunRead
public import Idealize.ShloMosaic.Lib.Tactic

@[expose] public section

noncomputable section

namespace Cert.WoValue

open Idealize.ShloMosaic Idealize.ShloMosaic.TcCoe Idealize.SL.Sem
open Idealize.ShloMosaic.Pipeline (Dat)
open Cert.WoIdeal Cert.WoIdeal.Gen Cert.Lift Cert.WoBlock Cert.WoOut

variable (m : (ℓ : Loc nD τ sig) → Buf (Elt Ideal) ℓ) (c : Dev nD)
variable (A B : S8192x512.Idx → ℝ) (GA GB : S512.Idx → ℝ) (W : S1024x1024.Idx → ℝ) (C : S8192x1024.Idx → ℝ)

/-- Core `c`'s six arguments are these real arrays. -/
structure Real6 : Prop where
  a : m ((c : Thread nD τ).loc main_arg0) = up A
  b : m ((c : Thread nD τ).loc main_arg1) = up B
  ga : m ((c : Thread nD τ).loc main_arg2) = up GA
  gb : m ((c : Thread nD τ).loc main_arg3) = up GB
  w : m ((c : Thread nD τ).loc main_arg4) = up W
  ct : m ((c : Thread nD τ).loc main_arg5) = up C

theorem lt8 (t : Fin cfg0.N) : t.val < 8 := lt_of_lt_of_eq t.isLt (show cfg0.N = 8 from N_0)

/-- Row `n` of point `t`'s block of rows; and of its blocks of packed rows, four or sixteen to one. -/
def rowOf (t : Fin cfg0.N) (n : Fin 1024) : Fin 8192 := ⟨1024 * t.val + n.val, by have := lt8 t; omega⟩
def row4 (t : Fin cfg0.N) (n : Fin 256) : Fin 2048 := ⟨256 * t.val + n.val, by have := lt8 t; omega⟩
def row16 (t : Fin cfg0.N) (n : Fin 64) : Fin 512 := ⟨64 * t.val + n.val, by have := lt8 t; omega⟩

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem emb0 (t : Fin cfg0.N) (y : S1024x1024.Idx) : ((cfg0.win 0).blk t).view.emb y = ix2 (rowOf t (y 0)) (y 1) := by
  obtain ⟨⟨e, e'⟩, _⟩ := idx_facts t
  funext a; apply Fin.ext
  match a with
  | ⟨0, _⟩ => show win0_0.index t (0 : Fin 2) * 1024 + 1 * (y 0).val = 1024 * t.val + (y 0).val; omega
  | ⟨1, _⟩ => show win0_0.index t (1 : Fin 2) * 1024 + 1 * (y 1).val = (y 1).val; omega

theorem emb1 (t : Fin cfg0.N) (y : S1024x1024.Idx) : ((cfg0.win 1).blk t).view.emb y = y := by
  obtain ⟨_, ⟨e, e'⟩, _⟩ := idx_facts t
  funext a; apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem emb2 (t : Fin cfg0.N) (y : S1024x512.Idx) : ((cfg0.win 2).blk t).view.emb y = ix2 (rowOf t (y 0)) (y 1) := by
  obtain ⟨_, _, ⟨e, e'⟩, _⟩ := idx_facts t
  funext a; apply Fin.ext
  match a with
  | ⟨0, _⟩ => show win0_2.index t (0 : Fin 2) * 1024 + 1 * (y 0).val = 1024 * t.val + (y 0).val; omega
  | ⟨1, _⟩ => show win0_2.index t (1 : Fin 2) * 512 + 1 * (y 1).val = (y 1).val; omega

theorem emb3 (t : Fin cfg0.N) (y : S1024x512.Idx) : ((cfg0.win 3).blk t).view.emb y = ix2 (rowOf t (y 0)) (y 1) := by
  obtain ⟨_, _, _, ⟨e, e'⟩, _⟩ := idx_facts t
  funext a; apply Fin.ext
  match a with
  | ⟨0, _⟩ => show win0_3.index t (0 : Fin 2) * 1024 + 1 * (y 0).val = 1024 * t.val + (y 0).val; omega
  | ⟨1, _⟩ => show win0_3.index t (1 : Fin 2) * 512 + 1 * (y 1).val = (y 1).val; omega

theorem emb4 (t : Fin cfg0.N) (y : S1x512.Idx) : ((cfg0.win 4).blk t).view.emb y = y := by
  obtain ⟨_, _, _, _, ⟨e, e'⟩, _⟩ := idx_facts t
  funext a; apply Fin.ext
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem emb5 (t : Fin cfg0.N) (y : S1x512.Idx) : ((cfg0.win 5).blk t).view.emb y = y := by
  obtain ⟨_, _, _, _, _, ⟨e, e'⟩, _⟩ := idx_facts t
  funext a; apply Fin.ext
  match a with
  | ⟨0, _⟩ => show win0_5.index t (0 : Fin 2) * 1 + 1 * (y 0).val = (y 0).val; omega
  | ⟨1, _⟩ => show win0_5.index t (1 : Fin 2) * 512 + 1 * (y 1).val = (y 1).val; omega

theorem emb6 (t : Fin cfg0.N) (y : S1024x1024.Idx) : ((cfg0.win 6).blk t).view.emb y = ix2 (rowOf t (y 0)) (y 1) := by
  obtain ⟨_, _, _, _, _, _, ⟨e, e'⟩, _⟩ := idx_facts t
  funext a; apply Fin.ext
  match a with
  | ⟨0, _⟩ => show win0_6.index t (0 : Fin 2) * 1024 + 1 * (y 0).val = 1024 * t.val + (y 0).val; omega
  | ⟨1, _⟩ => show win0_6.index t (1 : Fin 2) * 1024 + 1 * (y 1).val = (y 1).val; omega

theorem emb7 (t : Fin cfg0.N) (y : S1024x512.Idx) : ((cfg0.win 7).blk t).view.emb y = ix2 (rowOf t (y 0)) (y 1) := by
  obtain ⟨_, _, _, _, _, _, _, ⟨e, e'⟩, _⟩ := idx_facts t
  funext a; apply Fin.ext
  match a with
  | ⟨0, _⟩ => show win0_7.index t (0 : Fin 2) * 1024 + 1 * (y 0).val = 1024 * t.val + (y 0).val; omega
  | ⟨1, _⟩ => show win0_7.index t (1 : Fin 2) * 512 + 1 * (y 1).val = (y 1).val; omega

theorem emb8 (t : Fin cfg0.N) (y : S1024x512.Idx) : ((cfg0.win 8).blk t).view.emb y = ix2 (rowOf t (y 0)) (y 1) := by
  obtain ⟨_, _, _, _, _, _, _, _, ⟨e, e'⟩, _⟩ := idx_facts t
  funext a; apply Fin.ext
  match a with
  | ⟨0, _⟩ => show win0_8.index t (0 : Fin 2) * 1024 + 1 * (y 0).val = 1024 * t.val + (y 0).val; omega
  | ⟨1, _⟩ => show win0_8.index t (1 : Fin 2) * 512 + 1 * (y 1).val = (y 1).val; omega

theorem emb9 (t : Fin cfg0.N) (y : S256x2048.Idx) : ((cfg0.win 9).blk t).view.emb y = ix2 (row4 t (y 0)) (y 1) := by
  obtain ⟨_, _, _, _, _, _, _, _, _, ⟨e, e'⟩, _⟩ := idx_facts t
  funext a; apply Fin.ext
  match a with
  | ⟨0, _⟩ => show win0_9.index t (0 : Fin 2) * 256 + 1 * (y 0).val = 256 * t.val + (y 0).val; omega
  | ⟨1, _⟩ => show win0_9.index t (1 : Fin 2) * 2048 + 1 * (y 1).val = (y 1).val; omega

theorem emb10 (t : Fin cfg0.N) (y : S64x8192.Idx) : ((cfg0.win 10).blk t).view.emb y = ix2 (row16 t (y 0)) (y 1) := by
  obtain ⟨_, _, _, _, _, _, _, _, _, _, ⟨e, e'⟩⟩ := idx_facts t
  funext a; apply Fin.ext
  match a with
  | ⟨0, _⟩ => show win0_10.index t (0 : Fin 2) * 64 + 1 * (y 0).val = 64 * t.val + (y 0).val; omega
  | ⟨1, _⟩ => show win0_10.index t (1 : Fin 2) * 8192 + 1 * (y 1).val = (y 1).val; omega

/-! ## The blocks -/

theorem V_mixed : (V m c main_v33 : Vec Ideal S8192x1024 .bf16) = Cert.WoRefIdeal.Read.val_main_v32 (F := Ideal)
    (m ((c : Thread nD τ).loc main_arg0)) (m ((c : Thread nD τ).loc main_arg1)) (m ((c : Thread nD τ).loc main_arg2))
    (m ((c : Thread nD τ).loc main_arg3)) := by
  unfold_abbrev_sides
  after_results
  rfl

theorem V_ct : (V m c main_v27 : Vec Ideal S8192x1024 .bf16)
    = truncf (F := Ideal) (s := S8192x1024) .bf16 (m ((c : Thread nD τ).loc main_arg5)) bitsLt_bf16_f32 := by
  unfold_abbrev_sides
  after_results

theorem V_w : (V m c main_v28 : Vec Ideal S1024x1024 .bf16)
    = truncf (F := Ideal) (s := S1024x1024) .bf16 (m ((c : Thread nD τ).loc main_arg4)) bitsLt_bf16_f32 := by
  unfold_abbrev_sides
  after_results

theorem V_a : (V m c main_v29 : Vec Ideal S8192x512 .bf16)
    = truncf (F := Ideal) (s := S8192x512) .bf16 (m ((c : Thread nD τ).loc main_arg0)) bitsLt_bf16_f32 := by
  unfold_abbrev_sides
  after_results

theorem V_b : (V m c main_v30 : Vec Ideal S8192x512 .bf16)
    = truncf (F := Ideal) (s := S8192x512) .bf16 (m ((c : Thread nD τ).loc main_arg1)) bitsLt_bf16_f32 := by
  unfold_abbrev_sides
  after_results

theorem V_ga : V m c main_v31 = shapeCast S1x512 (m ((c : Thread nD τ).loc main_arg2)) shapeCasts_S512_S1x512 := by
  unfold_abbrev_sides
  after_results
  rfl

theorem V_gb : V m c main_v32 = shapeCast S1x512 (m ((c : Thread nD τ).loc main_arg3)) shapeCasts_S512_S1x512 := by
  unfold_abbrev_sides
  after_results
  rfl

/-- The blocks' real entries: of an array of rows, of a gain, of the normed rows side by side. -/
def BC (t : Fin cfg0.N) (y : S1024x1024.Idx) : ℝ := C (ix2 (rowOf t (y 0)) (y 1))
def BO (t : Fin cfg0.N) (y : S1024x512.Idx) : ℝ := A (ix2 (rowOf t (y 0)) (y 1))
def BG (y : S1x512.Idx) : ℝ := GA (ix1 (y 1))
def BM (t : Fin cfg0.N) (y : S1024x1024.Idx) : ℝ := WoRef.mx A B GA GB (rowOf t (y 0)) (y 1)

theorem ref_mixed (y : S8192x1024.Idx) : Cert.WoRefIdeal.Read.val_main_v32 (F := Ideal) (up A) (up B) (up GA) (up GB) y
    = ((WoRef.mx A B GA GB (y 0) (y 1) : ℝ) : EReal) :=
  (congrArg _ (ix2_self y)).trans (WoRef.s32 A B GA GB (y 0) (y 1))

/-- A gain set on one row. -/
theorem on_row (y : S1x512.Idx) : shapeCast S1x512 (up GA) shapeCasts_S512_S1x512 y = up (BG GA) y := by
  refine (shapeCast_apply (up GA) shapeCasts_S512_S1x512 y (ix1 (y 1)) ?_).trans rfl
  rewrite [Shape.rowMajor_val_one, Shape.rowMajor_val_two]
  have h0 : (y 0).val < 1 := (y 0).isLt
  show (y 1).val = (y 0).val * 512 + (y 1).val
  omega

variable {m c A B GA GB W C}

theorem iblk0 (h : Real6 m c A B GA GB W C) (t : Fin cfg0.N) : (iblk m c 0 t : Vec Ideal S1024x1024 .bf16) = up (BC C t) := by
  funext y
  show V m c main_v27 (((cfg0.win 0).blk t).view.emb y) = _
  rw [V_ct, h.ct, emb0]
  rfl

theorem iblk1 (h : Real6 m c A B GA GB W C) (t : Fin cfg0.N) : (iblk m c 1 t : Vec Ideal S1024x1024 .bf16) = up (W) := by
  funext y
  show V m c main_v28 (((cfg0.win 1).blk t).view.emb y) = _
  rw [V_w, h.w, emb1]
  rfl

theorem iblk2 (h : Real6 m c A B GA GB W C) (t : Fin cfg0.N) : (iblk m c 2 t : Vec Ideal S1024x512 .bf16) = up (BO A t) := by
  funext y
  show V m c main_v29 (((cfg0.win 2).blk t).view.emb y) = _
  rw [V_a, h.a, emb2]
  rfl

theorem iblk3 (h : Real6 m c A B GA GB W C) (t : Fin cfg0.N) : (iblk m c 3 t : Vec Ideal S1024x512 .bf16) = up (BO B t) := by
  funext y
  show V m c main_v30 (((cfg0.win 3).blk t).view.emb y) = _
  rw [V_b, h.b, emb3]
  rfl

theorem iblk4 (h : Real6 m c A B GA GB W C) (t : Fin cfg0.N) : (iblk m c 4 t : Vec Ideal S1x512 .f32) = up (BG GA) := by
  funext y
  show V m c main_v31 (((cfg0.win 4).blk t).view.emb y) = _
  rw [V_ga, h.ga, emb4]
  exact on_row GA y

theorem iblk5 (h : Real6 m c A B GA GB W C) (t : Fin cfg0.N) : (iblk m c 5 t : Vec Ideal S1x512 .f32) = up (BG GB) := by
  funext y
  show V m c main_v32 (((cfg0.win 5).blk t).view.emb y) = _
  rw [V_gb, h.gb, emb5]
  exact on_row GB y

theorem iblk6 (h : Real6 m c A B GA GB W C) (t : Fin cfg0.N) : (iblk m c 6 t : Vec Ideal S1024x1024 .bf16) = up (BM A B GA GB t) := by
  funext y
  show V m c main_v33 (((cfg0.win 6).blk t).view.emb y) = _
  rw [V_mixed, h.a, h.b, h.ga, h.gb, emb6]
  exact ref_mixed A B GA GB _

/-! ## What each point leaves -/

variable (A B GA GB W C)

/-- Row `n`'s part of a gain's gradient. -/
def dgAt (s : Fin 512 → Fin 1024) (d : Fin 512) (n : ℕ) : ℝ :=
  if h : n < 8192 then WoRef.dm W C ⟨n, h⟩ (s d) * (WoRef.z A ⟨n, h⟩ d * WoRow.r (WoRef.z A ⟨n, h⟩)) else 0

/-- Row `n`'s part of the weight's gradient. -/
def dwAt (y : S1024x1024.Idx) (n : ℕ) : ℝ :=
  if h : n < 8192 then WoRef.mx A B GA GB ⟨n, h⟩ (y 0) * C (ix2 ⟨n, h⟩ (y 1)) else 0

theorem dgb_sum (s : Fin 512 → Fin 1024) (t : Fin cfg0.N) (d : Fin 512) :
    ∑ n, dgb (BC C t) W (BO A t) s n d = ∑ i : Fin 1024, dgAt A W C s d (1024 * t.val + i.val) := by
  refine Finset.sum_congr rfl fun i _ => ?_
  unfold dgAt
  rw [dif_pos (show 1024 * t.val + i.val < 8192 from (rowOf t i).isLt)]
  rfl

theorem dw_sum (t : Fin cfg0.N) (y : S1024x1024.Idx) :
    ∑ n : Fin 1024, BM A B GA GB t (ix2 n (y 0)) * BC C t (ix2 n (y 1)) = ∑ i : Fin 1024, dwAt A B GA GB C y (1024 * t.val + i.val) := by
  refine Finset.sum_congr rfl fun i _ => ?_
  unfold dwAt
  rw [dif_pos (show 1024 * t.val + i.val < 8192 from (rowOf t i).isLt)]
  rfl

theorem dw_step (t : Fin cfg0.N) (y : S1024x1024.Idx) :
    acc (fun y => ∑ s ∈ Finset.range t.val, ∑ i : Fin 1024, dwAt A B GA GB C y (1024 * s + i.val)) (BC C t) (BM A B GA GB t) y
      = ∑ s ∈ Finset.range (t.val + 1), ∑ i : Fin 1024, dwAt A B GA GB C y (1024 * s + i.val) :=
  (congrArg _ (dw_sum A B GA GB C t y)).trans (Finset.sum_range_succ _ _).symm

variable {A B GA GB W C}

/-- The three places a point can have among the eight. -/
theorem cases_t (t : Fin cfg0.N) : (t.val % 8 = 0 ∧ ¬t.val % 8 = 7) ∨ (¬t.val % 8 = 0 ∧ ¬t.val % 8 = 7) ∨ (¬t.val % 8 = 0 ∧ t.val % 8 = 7) := by
  omega

theorem outs7 (h : Real6 m c A B GA GB W C) (t : Fin cfg0.N) : (outsAt0 m c t.val t.isLt).1 = up (dob (BC C t) W (BO A t) lo (BG GA)) := by
  rcases cases_t t with ⟨h0, h1⟩ | ⟨h0, h1⟩ | ⟨h0, h1⟩
  · rw [outsAt0_A m c t h0 h1]
    rw [outA7 (h0 := iblk0 h t) (h1 := iblk1 h t) (h2 := iblk2 h t) (h3 := iblk3 h t) (h4 := iblk4 h t) (h5 := iblk5 h t) (h6 := iblk6 h t)]
  · rw [outsAt0_B m c t h0 h1]
    rw [outB7 (h0 := iblk0 h t) (h1 := iblk1 h t) (h2 := iblk2 h t) (h3 := iblk3 h t) (h4 := iblk4 h t) (h5 := iblk5 h t) (h6 := iblk6 h t)]
  · rw [outsAt0_C m c t h0 h1]
    rw [outC7 (h0 := iblk0 h t) (h1 := iblk1 h t) (h2 := iblk2 h t) (h3 := iblk3 h t) (h4 := iblk4 h t) (h5 := iblk5 h t) (h6 := iblk6 h t)]

theorem outs8 (h : Real6 m c A B GA GB W C) (t : Fin cfg0.N) : (outsAt0 m c t.val t.isLt).2.1 = restride 1024 512 1 (planes (up (dob (BC C t) W (BO B t) hi (BG GB)))) := by
  rcases cases_t t with ⟨h0, h1⟩ | ⟨h0, h1⟩ | ⟨h0, h1⟩
  · rw [outsAt0_A m c t h0 h1]
    rw [outA8 (h0 := iblk0 h t) (h1 := iblk1 h t) (h2 := iblk2 h t) (h3 := iblk3 h t) (h4 := iblk4 h t) (h5 := iblk5 h t) (h6 := iblk6 h t)]
  · rw [outsAt0_B m c t h0 h1]
    rw [outB8 (h0 := iblk0 h t) (h1 := iblk1 h t) (h2 := iblk2 h t) (h3 := iblk3 h t) (h4 := iblk4 h t) (h5 := iblk5 h t) (h6 := iblk6 h t)]
  · rw [outsAt0_C m c t h0 h1]
    rw [outC8 (h0 := iblk0 h t) (h1 := iblk1 h t) (h2 := iblk2 h t) (h3 := iblk3 h t) (h4 := iblk4 h t) (h5 := iblk5 h t) (h6 := iblk6 h t)]

theorem outs9 (h : Real6 m c A B GA GB W C) (t : Fin cfg0.N) : (outsAt0 m c t.val t.isLt).2.2.1 = restride 256 2048 4 (planes (up (dob (BC C t) W (BO B t) hi (BG GB)))) := by
  rcases cases_t t with ⟨h0, h1⟩ | ⟨h0, h1⟩ | ⟨h0, h1⟩
  · rw [outsAt0_A m c t h0 h1]
    rw [outA9 (h0 := iblk0 h t) (h1 := iblk1 h t) (h2 := iblk2 h t) (h3 := iblk3 h t) (h4 := iblk4 h t) (h5 := iblk5 h t) (h6 := iblk6 h t)]
  · rw [outsAt0_B m c t h0 h1]
    rw [outB9 (h0 := iblk0 h t) (h1 := iblk1 h t) (h2 := iblk2 h t) (h3 := iblk3 h t) (h4 := iblk4 h t) (h5 := iblk5 h t) (h6 := iblk6 h t)]
  · rw [outsAt0_C m c t h0 h1]
    rw [outC9 (h0 := iblk0 h t) (h1 := iblk1 h t) (h2 := iblk2 h t) (h3 := iblk3 h t) (h4 := iblk4 h t) (h5 := iblk5 h t) (h6 := iblk6 h t)]

theorem outs10 (h : Real6 m c A B GA GB W C) (t : Fin cfg0.N) : (outsAt0 m c t.val t.isLt).2.2.2.1 = restride 64 8192 16 (planes (up (dob (BC C t) W (BO B t) hi (BG GB)))) := by
  rcases cases_t t with ⟨h0, h1⟩ | ⟨h0, h1⟩ | ⟨h0, h1⟩
  · rw [outsAt0_A m c t h0 h1]
    rw [outA10 (h0 := iblk0 h t) (h1 := iblk1 h t) (h2 := iblk2 h t) (h3 := iblk3 h t) (h4 := iblk4 h t) (h5 := iblk5 h t) (h6 := iblk6 h t)]
  · rw [outsAt0_B m c t h0 h1]
    rw [outB10 (h0 := iblk0 h t) (h1 := iblk1 h t) (h2 := iblk2 h t) (h3 := iblk3 h t) (h4 := iblk4 h t) (h5 := iblk5 h t) (h6 := iblk6 h t)]
  · rw [outsAt0_C m c t h0 h1]
    rw [outC10 (h0 := iblk0 h t) (h1 := iblk1 h t) (h2 := iblk2 h t) (h3 := iblk3 h t) (h4 := iblk4 h t) (h5 := iblk5 h t) (h6 := iblk6 h t)]

/-- A gain's running gradient after point `n`. -/
theorem outs11 (h : Real6 m c A B GA GB W C) : ∀ (n : ℕ) (hn : n < cfg0.N), (outsAt0 m c n hn).2.2.2.2.1
    = (fun j => ((∑ s ∈ Finset.range (n + 1), ∑ i : Fin 1024, dgAt A W C lo (j 1) (1024 * s + i.val) : ℝ) : EReal))
  | 0, hn => by
    have h7 : ¬(⟨0, hn⟩ : Fin cfg0.N).val % 8 = 7 := by norm_num
    rw [outsAt0_A m c ⟨0, hn⟩ rfl h7]
    rw [outA11 (h0 := iblk0 h ⟨0, hn⟩) (h1 := iblk1 h ⟨0, hn⟩) (h2 := iblk2 h ⟨0, hn⟩) (h3 := iblk3 h ⟨0, hn⟩) (h4 := iblk4 h ⟨0, hn⟩) (h5 := iblk5 h ⟨0, hn⟩) (h6 := iblk6 h ⟨0, hn⟩)]
    refine funext fun j => congrArg (fun a : ℝ => (a : EReal)) ?_
    rw [Finset.sum_range_one]
    exact dgb_sum A W C lo ⟨0, hn⟩ (j 1)
  | n + 1, hn => by
    have hA : ¬(⟨n + 1, hn⟩ : Fin cfg0.N).val % 8 = 0 := by have := lt8 ⟨n + 1, hn⟩; dsimp only at this ⊢; omega
    by_cases hC : (⟨n + 1, hn⟩ : Fin cfg0.N).val % 8 = 7
    · rw [outsAt0_C m c ⟨n + 1, hn⟩ hA hC]
      dsimp only
      refine (outC11 c _ _ _ _ _ _ _ _ _ _ _ _ _ _ _ _ _ _ _ _ _ _ _ _ _ _ _ _ _ _ _ _ _ (hc0 := _) (hc1 := _) (xo11 := _) (xo12 := _) (xs1 := _) (w := fun d => ∑ s ∈ Finset.range (n + 1), ∑ i : Fin 1024, dgAt A W C lo d (1024 * s + i.val)) (hw := outs11 h n (Nat.lt_of_succ_lt hn)) (h0 := iblk0 h ⟨n + 1, hn⟩) (h1 := iblk1 h ⟨n + 1, hn⟩) (h2 := iblk2 h ⟨n + 1, hn⟩) (h3 := iblk3 h ⟨n + 1, hn⟩) (h4 := iblk4 h ⟨n + 1, hn⟩) (h5 := iblk5 h ⟨n + 1, hn⟩) (h6 := iblk6 h ⟨n + 1, hn⟩)).trans (funext fun j => congrArg (fun a : ℝ => (a : EReal)) ?_)
      rw [Finset.sum_range_succ _ (n + 1)]
      exact congrArg _ (dgb_sum A W C lo ⟨n + 1, hn⟩ (j 1))
    · rw [outsAt0_B m c ⟨n + 1, hn⟩ hA hC]
      dsimp only
      refine (outB11 c _ _ _ _ _ _ _ _ _ _ _ _ _ _ _ _ _ _ _ _ _ _ _ _ _ _ _ _ _ _ _ _ _ (hc0 := _) (hc1 := _) (xo11 := _) (xo12 := _) (xs1 := _) (w := fun d => ∑ s ∈ Finset.range (n + 1), ∑ i : Fin 1024, dgAt A W C lo d (1024 * s + i.val)) (hw := outs11 h n (Nat.lt_of_succ_lt hn)) (h0 := iblk0 h ⟨n + 1, hn⟩) (h1 := iblk1 h ⟨n + 1, hn⟩) (h2 := iblk2 h ⟨n + 1, hn⟩) (h3 := iblk3 h ⟨n + 1, hn⟩) (h4 := iblk4 h ⟨n + 1, hn⟩) (h5 := iblk5 h ⟨n + 1, hn⟩) (h6 := iblk6 h ⟨n + 1, hn⟩)).trans (funext fun j => congrArg (fun a : ℝ => (a : EReal)) ?_)
      rw [Finset.sum_range_succ _ (n + 1)]
      exact congrArg _ (dgb_sum A W C lo ⟨n + 1, hn⟩ (j 1))

/-- A gain's running gradient after point `n`. -/
theorem outs12 (h : Real6 m c A B GA GB W C) : ∀ (n : ℕ) (hn : n < cfg0.N), (outsAt0 m c n hn).2.2.2.2.2.1
    = (fun j => ((∑ s ∈ Finset.range (n + 1), ∑ i : Fin 1024, dgAt B W C hi (j 1) (1024 * s + i.val) : ℝ) : EReal))
  | 0, hn => by
    have h7 : ¬(⟨0, hn⟩ : Fin cfg0.N).val % 8 = 7 := by norm_num
    rw [outsAt0_A m c ⟨0, hn⟩ rfl h7]
    rw [outA12 (h0 := iblk0 h ⟨0, hn⟩) (h1 := iblk1 h ⟨0, hn⟩) (h2 := iblk2 h ⟨0, hn⟩) (h3 := iblk3 h ⟨0, hn⟩) (h4 := iblk4 h ⟨0, hn⟩) (h5 := iblk5 h ⟨0, hn⟩) (h6 := iblk6 h ⟨0, hn⟩)]
    refine funext fun j => congrArg (fun a : ℝ => (a : EReal)) ?_
    rw [Finset.sum_range_one]
    exact dgb_sum B W C hi ⟨0, hn⟩ (j 1)
  | n + 1, hn => by
    have hA : ¬(⟨n + 1, hn⟩ : Fin cfg0.N).val % 8 = 0 := by have := lt8 ⟨n + 1, hn⟩; dsimp only at this ⊢; omega
    by_cases hC : (⟨n + 1, hn⟩ : Fin cfg0.N).val % 8 = 7
    · rw [outsAt0_C m c ⟨n + 1, hn⟩ hA hC]
      dsimp only
      refine (outC12 c _ _ _ _ _ _ _ _ _ _ _ _ _ _ _ _ _ _ _ _ _ _ _ _ _ _ _ _ _ _ _ _ _ (hc0 := _) (hc1 := _) (xo11 := _) (xo12 := _) (xs1 := _) (w := fun d => ∑ s ∈ Finset.range (n + 1), ∑ i : Fin 1024, dgAt B W C hi d (1024 * s + i.val)) (hw := outs12 h n (Nat.lt_of_succ_lt hn)) (h0 := iblk0 h ⟨n + 1, hn⟩) (h1 := iblk1 h ⟨n + 1, hn⟩) (h2 := iblk2 h ⟨n + 1, hn⟩) (h3 := iblk3 h ⟨n + 1, hn⟩) (h4 := iblk4 h ⟨n + 1, hn⟩) (h5 := iblk5 h ⟨n + 1, hn⟩) (h6 := iblk6 h ⟨n + 1, hn⟩)).trans (funext fun j => congrArg (fun a : ℝ => (a : EReal)) ?_)
      rw [Finset.sum_range_succ _ (n + 1)]
      exact congrArg _ (dgb_sum B W C hi ⟨n + 1, hn⟩ (j 1))
    · rw [outsAt0_B m c ⟨n + 1, hn⟩ hA hC]
      dsimp only
      refine (outB12 c _ _ _ _ _ _ _ _ _ _ _ _ _ _ _ _ _ _ _ _ _ _ _ _ _ _ _ _ _ _ _ _ _ (hc0 := _) (hc1 := _) (xo11 := _) (xo12 := _) (xs1 := _) (w := fun d => ∑ s ∈ Finset.range (n + 1), ∑ i : Fin 1024, dgAt B W C hi d (1024 * s + i.val)) (hw := outs12 h n (Nat.lt_of_succ_lt hn)) (h0 := iblk0 h ⟨n + 1, hn⟩) (h1 := iblk1 h ⟨n + 1, hn⟩) (h2 := iblk2 h ⟨n + 1, hn⟩) (h3 := iblk3 h ⟨n + 1, hn⟩) (h4 := iblk4 h ⟨n + 1, hn⟩) (h5 := iblk5 h ⟨n + 1, hn⟩) (h6 := iblk6 h ⟨n + 1, hn⟩)).trans (funext fun j => congrArg (fun a : ℝ => (a : EReal)) ?_)
      rw [Finset.sum_range_succ _ (n + 1)]
      exact congrArg _ (dgb_sum B W C hi ⟨n + 1, hn⟩ (j 1))

/-- The weight's running gradient after point `n`. -/
theorem outsS (h : Real6 m c A B GA GB W C) : ∀ (n : ℕ) (hn : n < cfg0.N), (outsAt0 m c n hn).2.2.2.2.2.2.2
    = up (fun y => ∑ s ∈ Finset.range (n + 1), ∑ i : Fin 1024, dwAt A B GA GB C y (1024 * s + i.val))
  | 0, hn => by
    have h7 : ¬(⟨0, hn⟩ : Fin cfg0.N).val % 8 = 7 := by norm_num
    rw [outsAt0_A m c ⟨0, hn⟩ rfl h7]
    rw [outAs (h0 := iblk0 h ⟨0, hn⟩) (h1 := iblk1 h ⟨0, hn⟩) (h2 := iblk2 h ⟨0, hn⟩) (h3 := iblk3 h ⟨0, hn⟩) (h4 := iblk4 h ⟨0, hn⟩) (h5 := iblk5 h ⟨0, hn⟩) (h6 := iblk6 h ⟨0, hn⟩)]
    refine funext fun j => congrArg (fun a : ℝ => (a : EReal)) ?_
    exact dw_step A B GA GB C ⟨0, hn⟩ j
  | n + 1, hn => by
    have hA : ¬(⟨n + 1, hn⟩ : Fin cfg0.N).val % 8 = 0 := by have := lt8 ⟨n + 1, hn⟩; dsimp only at this ⊢; omega
    by_cases hC : (⟨n + 1, hn⟩ : Fin cfg0.N).val % 8 = 7
    · rw [outsAt0_C m c ⟨n + 1, hn⟩ hA hC]
      dsimp only
      refine (outCs c _ _ _ _ _ _ _ _ _ _ _ _ _ _ _ _ _ _ _ _ _ _ _ _ _ _ _ _ _ _ _ _ _ (hc0 := _) (hc1 := _) (xo11 := _) (xo12 := _) (xs1 := _) (S := fun y => ∑ s ∈ Finset.range (n + 1), ∑ i : Fin 1024, dwAt A B GA GB C y (1024 * s + i.val)) (hs := outsS h n (Nat.lt_of_succ_lt hn)) (h0 := iblk0 h ⟨n + 1, hn⟩) (h1 := iblk1 h ⟨n + 1, hn⟩) (h2 := iblk2 h ⟨n + 1, hn⟩) (h3 := iblk3 h ⟨n + 1, hn⟩) (h4 := iblk4 h ⟨n + 1, hn⟩) (h5 := iblk5 h ⟨n + 1, hn⟩) (h6 := iblk6 h ⟨n + 1, hn⟩)).trans (funext fun j => congrArg (fun a : ℝ => (a : EReal)) ?_)
      exact dw_step A B GA GB C ⟨n + 1, hn⟩ j
    · rw [outsAt0_B m c ⟨n + 1, hn⟩ hA hC]
      dsimp only
      refine (outBs c _ _ _ _ _ _ _ _ _ _ _ _ _ _ _ _ _ _ _ _ _ _ _ _ _ _ _ _ _ _ _ _ _ (hc0 := _) (hc1 := _) (xo11 := _) (xo12 := _) (xs1 := _) (S := fun y => ∑ s ∈ Finset.range (n + 1), ∑ i : Fin 1024, dwAt A B GA GB C y (1024 * s + i.val)) (hs := outsS h n (Nat.lt_of_succ_lt hn)) (h0 := iblk0 h ⟨n + 1, hn⟩) (h1 := iblk1 h ⟨n + 1, hn⟩) (h2 := iblk2 h ⟨n + 1, hn⟩) (h3 := iblk3 h ⟨n + 1, hn⟩) (h4 := iblk4 h ⟨n + 1, hn⟩) (h5 := iblk5 h ⟨n + 1, hn⟩) (h6 := iblk6 h ⟨n + 1, hn⟩)).trans (funext fun j => congrArg (fun a : ℝ => (a : EReal)) ?_)
      exact dw_step A B GA GB C ⟨n + 1, hn⟩ j

/-! ## The result arrays -/

/-- The last point. -/
def tl : Fin cfg0.N := ⟨7, by decide⟩

theorem outs13 (h : Real6 m c A B GA GB W C) : (outsAt0 m c tl.val tl.isLt).2.2.2.2.2.2.1
    = up (fun y => ∑ s ∈ Finset.range (7 + 1), ∑ i : Fin 1024, dwAt A B GA GB C y (1024 * s + i.val)) := by
  have hA : ¬tl.val % 8 = 0 := by decide
  have hC : tl.val % 8 = 7 := by decide
  rw [outsAt0_C m c tl hA hC]
  dsimp only
  refine (outC13 c _ _ _ _ _ _ _ _ _ _ _ _ _ _ _ _ _ _ _ _ _ _ _ _ _ _ _ _ _ _ _ _ _ (hc0 := _) (hc1 := _) (xo11 := _) (xo12 := _) (xs1 := _) (S := fun y => ∑ s ∈ Finset.range (6 + 1), ∑ i : Fin 1024, dwAt A B GA GB C y (1024 * s + i.val)) (hs := outsS h 6 (by decide)) (h0 := iblk0 h tl) (h1 := iblk1 h tl) (h2 := iblk2 h tl) (h3 := iblk3 h tl) (h4 := iblk4 h tl) (h5 := iblk5 h tl) (h6 := iblk6 h tl)).trans (funext fun j => congrArg (fun a : ℝ => (a : EReal)) ?_)
  exact dw_step A B GA GB C tl j

/-- An index of an array is in the block of the point its row selects. -/
theorem split {b : ℕ} (y : (⟨2, ![8192, b]⟩ : Shape).Idx) : ∃ (t : Fin cfg0.N) (i : Fin 1024) (k : Fin b), y = ix2 (rowOf t i) k := by
  have h0 : (y 0).val < 8192 := (y 0).isLt
  have hN : cfg0.N = 8 := N_0
  refine ⟨⟨(y 0).val / 1024, by omega⟩, ⟨(y 0).val % 1024, Nat.mod_lt _ (by norm_num)⟩, y 1, ?_⟩
  funext a
  match a with
  | ⟨0, _⟩ => exact Fin.ext (Nat.div_add_mod _ _).symm
  | ⟨1, _⟩ => rfl

theorem split4 (y : (⟨2, ![2048, 2048]⟩ : Shape).Idx) : ∃ (t : Fin cfg0.N) (i : Fin 256) (k : Fin 2048), y = ix2 (row4 t i) k := by
  have h0 : (y 0).val < 2048 := (y 0).isLt
  have hN : cfg0.N = 8 := N_0
  refine ⟨⟨(y 0).val / 256, by omega⟩, ⟨(y 0).val % 256, Nat.mod_lt _ (by norm_num)⟩, y 1, ?_⟩
  funext a
  match a with
  | ⟨0, _⟩ => exact Fin.ext (Nat.div_add_mod _ _).symm
  | ⟨1, _⟩ => rfl

theorem split16 (y : (⟨2, ![512, 8192]⟩ : Shape).Idx) : ∃ (t : Fin cfg0.N) (i : Fin 64) (k : Fin 8192), y = ix2 (row16 t i) k := by
  have h0 : (y 0).val < 512 := (y 0).isLt
  have hN : cfg0.N = 8 := N_0
  refine ⟨⟨(y 0).val / 64, by omega⟩, ⟨(y 0).val % 64, Nat.mod_lt _ (by norm_num)⟩, y 1, ?_⟩
  funext a
  match a with
  | ⟨0, _⟩ => exact Fin.ext (Nat.div_add_mod _ _).symm
  | ⟨1, _⟩ => rfl

theorem final7 (h : Real6 m c A B GA GB W C) : (dats m 0 c).arrAt 7 cfg0.N = fun y : S8192x512.Idx => ((WoRef.dout A GA lo W C (y 0) (y 1) : ℝ) : EReal) := by
  funext y
  obtain ⟨t, i, k, rfl⟩ := split y
  have b := congrFun (Value.blocks7 m c t (flush0_7 t)) (ix2 i k)
  rw [Value.flushed7, outs7 h] at b
  have b' : (dats m 0 c).arrAt 7 cfg0.N (((cfg0.win 7).blk t).view.emb (ix2 i k)) = _ := b
  rw [emb7] at b'
  exact b'

theorem final8 (h : Real6 m c A B GA GB W C) : (dats m 0 c).arrAt 8 cfg0.N = fun y : S8192x512.Idx => ((WoRef.dout B GB hi W C (y 0) (y 1) : ℝ) : EReal) := by
  funext y
  obtain ⟨t, i, k, rfl⟩ := split y
  have b := congrFun (Value.blocks8 m c t (flush0_8 t)) (ix2 i k)
  rw [Value.flushed8, outs8 h] at b
  have b' : (dats m 0 c).arrAt 8 cfg0.N (((cfg0.win 8).blk t).view.emb (ix2 i k)) = _ := b
  rw [emb8] at b'
  refine b'.trans ((restride_planes _ _ _ _ _).trans (congrArg (fun a : ℝ => (a : EReal)) ?_))
  have hi' := i.isLt
  have hk := k.isLt
  refine congrArg₂ (WoRef.dout B GB hi W C) (Fin.ext ?_) (Fin.ext ?_)
  · show 1024 * t.val + (1 * i.val + k.val / 512) % 1024 = 1024 * t.val + i.val
    omega
  · show k.val % 512 = k.val
    omega

/-- The rows of the second half's gradient, 4 packed to one. -/
def dob4 (B : S8192x512.Idx → ℝ) (GB : S512.Idx → ℝ) (W : S1024x1024.Idx → ℝ) (C : S8192x1024.Idx → ℝ) (y : S2048x2048.Idx) : ℝ :=
  WoRef.dout B GB hi W C ⟨((y 0).val * 2048 + (y 1).val) / 512, by
    have h0 : (y 0).val < 2048 := (y 0).isLt
    have h1 : (y 1).val < 2048 := (y 1).isLt
    omega⟩ ⟨((y 0).val * 2048 + (y 1).val) % 512, Nat.mod_lt _ (by norm_num)⟩

theorem final9 (h : Real6 m c A B GA GB W C) : (dats m 0 c).arrAt 9 cfg0.N = up (dob4 B GB W C) := by
  funext y
  obtain ⟨t, i, k, rfl⟩ := split4 y
  have b := congrFun (Value.blocks9 m c t (flush0_9 t)) (ix2 i k)
  rw [Value.flushed9, outs9 h] at b
  have b' : (dats m 0 c).arrAt 9 cfg0.N (((cfg0.win 9).blk t).view.emb (ix2 i k)) = restride 256 2048 4 (planes (up (dob (BC C t) W (BO B t) hi (BG GB)))) (ix2 i k) := b
  rw [emb9] at b'
  refine b'.trans ((restride_planes _ _ _ _ _).trans (congrArg (fun a : ℝ => (a : EReal)) ?_))
  have hi' := i.isLt
  have hk := k.isLt
  refine congrArg₂ (WoRef.dout B GB hi W C) (Fin.ext ?_) (Fin.ext ?_)
  · show 1024 * t.val + (4 * i.val + k.val / 512) % 1024 = ((256 * t.val + i.val) * 2048 + k.val) / 512
    omega
  · show k.val % 512 = ((256 * t.val + i.val) * 2048 + k.val) % 512
    omega

/-- The rows of the second half's gradient, 16 packed to one. -/
def dob16 (B : S8192x512.Idx → ℝ) (GB : S512.Idx → ℝ) (W : S1024x1024.Idx → ℝ) (C : S8192x1024.Idx → ℝ) (y : S512x8192.Idx) : ℝ :=
  WoRef.dout B GB hi W C ⟨((y 0).val * 8192 + (y 1).val) / 512, by
    have h0 : (y 0).val < 512 := (y 0).isLt
    have h1 : (y 1).val < 8192 := (y 1).isLt
    omega⟩ ⟨((y 0).val * 8192 + (y 1).val) % 512, Nat.mod_lt _ (by norm_num)⟩

set_option maxRecDepth 100000 in
theorem final10 (h : Real6 m c A B GA GB W C) : (dats m 0 c).arrAt 10 cfg0.N = up (dob16 B GB W C) := by
  funext y
  obtain ⟨t, i, k, rfl⟩ := split16 y
  have b := congrFun (Value.blocks10 m c t (flush0_10 t)) (ix2 i k)
  rw [Value.flushed10, outs10 h] at b
  have b' : (dats m 0 c).arrAt 10 cfg0.N (((cfg0.win 10).blk t).view.emb (ix2 i k)) = restride 64 8192 16 (planes (up (dob (BC C t) W (BO B t) hi (BG GB)))) (ix2 i k) := b
  rw [emb10] at b'
  refine b'.trans ((restride_planes _ _ _ _ _).trans (congrArg (fun a : ℝ => (a : EReal)) ?_))
  have hi' := i.isLt
  have hk := k.isLt
  refine congrArg₂ (WoRef.dout B GB hi W C) (Fin.ext ?_) (Fin.ext ?_)
  · show 1024 * t.val + (16 * i.val + k.val / 512) % 1024 = ((64 * t.val + i.val) * 8192 + k.val) / 512
    omega
  · show k.val % 512 = ((64 * t.val + i.val) * 8192 + k.val) % 512
    omega

/-- The sums over the points are the sums over the rows. -/
theorem dg_total (O : S8192x512.Idx → ℝ) (s : Fin 512 → Fin 1024) (d : Fin 512) :
    (∑ p ∈ Finset.range (7 + 1), ∑ i : Fin 1024, dgAt O W C s d (1024 * p + i.val)) = WoRef.dgain O s W C d := by
  rw [sum_blocks, Finset.sum_range]
  exact Finset.sum_congr rfl fun n _ => dif_pos n.isLt

theorem dw_total (y : S1024x1024.Idx) :
    (∑ p ∈ Finset.range (7 + 1), ∑ i : Fin 1024, dwAt A B GA GB C y (1024 * p + i.val)) = WoRef.dw A B GA GB C (y 0) (y 1) := by
  rw [sum_blocks, Finset.sum_range]
  exact Finset.sum_congr rfl fun n _ => dif_pos n.isLt

theorem emb11 (y : S1x512.Idx) : ((cfg0.win 11).blk tl).view.emb y = y := by
  have e : win0_11.index tl (0 : Fin 2) = 0 := by decide +kernel
  have e' : win0_11.index tl (1 : Fin 2) = 0 := by decide +kernel
  funext a; apply Fin.ext
  match a with
  | ⟨0, _⟩ => show win0_11.index tl (0 : Fin 2) * 1 + 1 * (y 0).val = (y 0).val; omega
  | ⟨1, _⟩ => show win0_11.index tl (1 : Fin 2) * 512 + 1 * (y 1).val = (y 1).val; omega

theorem final11 (h : Real6 m c A B GA GB W C) : (dats m 0 c).arrAt 11 cfg0.N = fun y : S1x512.Idx => ((WoRef.dgain A lo W C (y 1) : ℝ) : EReal) := by
  refine (dats m 0 c).arrAt_eq_of_cover 11 _ (fun t hf => ?_) fun i => ⟨tl, (flush0_11 tl).mpr rfl, ?_⟩
  · obtain rfl : t = tl := Fin.ext (by have := lt8 t; have := (flush0_11 t).mp hf; show t.val = 7; omega)
    rw [Value.flushed11, (outs11 h tl.val tl.isLt).trans (funext fun y => congrArg _ (dg_total A lo (y 1)))]
    funext y
    show _ = (fun y : S1x512.Idx => ((WoRef.dgain A lo W C (y 1) : ℝ) : EReal)) (((cfg0.win 11).blk tl).view.emb y)
    rw [emb11]
  · show i ∈ ((View.whole main_v34_4).slice (win0_11.rect tl)).set
    rw [View.set_slice_whole, Rect.mem_set_unit]
    intro a
    have h0 : (i 0 : Nat) < 1 := (i 0).isLt
    have h1 : (i 1 : Nat) < 512 := (i 1).isLt
    match a with
    | ⟨0, _⟩ => show win0_11.index tl 0 * win0_11.size 0 ≤ (i 0 : Nat) ∧ (i 0 : Nat) < win0_11.index tl 0 * win0_11.size 0 + win0_11.xsize (grid0.coords tl) 0
                rw [show win0_11.index tl 0 * win0_11.size 0 = 0 from by decide +kernel, show win0_11.xsize (grid0.coords tl) 0 = 1 from by decide +kernel]; omega
    | ⟨1, _⟩ => show win0_11.index tl 1 * win0_11.size 1 ≤ (i 1 : Nat) ∧ (i 1 : Nat) < win0_11.index tl 1 * win0_11.size 1 + win0_11.xsize (grid0.coords tl) 1
                rw [show win0_11.index tl 1 * win0_11.size 1 = 0 from by decide +kernel, show win0_11.xsize (grid0.coords tl) 1 = 512 from by decide +kernel]; omega

theorem emb12 (y : S1x512.Idx) : ((cfg0.win 12).blk tl).view.emb y = y := by
  have e : win0_12.index tl (0 : Fin 2) = 0 := by decide +kernel
  have e' : win0_12.index tl (1 : Fin 2) = 0 := by decide +kernel
  funext a; apply Fin.ext
  match a with
  | ⟨0, _⟩ => show win0_12.index tl (0 : Fin 2) * 1 + 1 * (y 0).val = (y 0).val; omega
  | ⟨1, _⟩ => show win0_12.index tl (1 : Fin 2) * 512 + 1 * (y 1).val = (y 1).val; omega

theorem final12 (h : Real6 m c A B GA GB W C) : (dats m 0 c).arrAt 12 cfg0.N = fun y : S1x512.Idx => ((WoRef.dgain B hi W C (y 1) : ℝ) : EReal) := by
  refine (dats m 0 c).arrAt_eq_of_cover 12 _ (fun t hf => ?_) fun i => ⟨tl, (flush0_12 tl).mpr rfl, ?_⟩
  · obtain rfl : t = tl := Fin.ext (by have := lt8 t; have := (flush0_12 t).mp hf; show t.val = 7; omega)
    rw [Value.flushed12, (outs12 h tl.val tl.isLt).trans (funext fun y => congrArg _ (dg_total B hi (y 1)))]
    funext y
    show _ = (fun y : S1x512.Idx => ((WoRef.dgain B hi W C (y 1) : ℝ) : EReal)) (((cfg0.win 12).blk tl).view.emb y)
    rw [emb12]
  · show i ∈ ((View.whole main_v34_5).slice (win0_12.rect tl)).set
    rw [View.set_slice_whole, Rect.mem_set_unit]
    intro a
    have h0 : (i 0 : Nat) < 1 := (i 0).isLt
    have h1 : (i 1 : Nat) < 512 := (i 1).isLt
    match a with
    | ⟨0, _⟩ => show win0_12.index tl 0 * win0_12.size 0 ≤ (i 0 : Nat) ∧ (i 0 : Nat) < win0_12.index tl 0 * win0_12.size 0 + win0_12.xsize (grid0.coords tl) 0
                rw [show win0_12.index tl 0 * win0_12.size 0 = 0 from by decide +kernel, show win0_12.xsize (grid0.coords tl) 0 = 1 from by decide +kernel]; omega
    | ⟨1, _⟩ => show win0_12.index tl 1 * win0_12.size 1 ≤ (i 1 : Nat) ∧ (i 1 : Nat) < win0_12.index tl 1 * win0_12.size 1 + win0_12.xsize (grid0.coords tl) 1
                rw [show win0_12.index tl 1 * win0_12.size 1 = 0 from by decide +kernel, show win0_12.xsize (grid0.coords tl) 1 = 512 from by decide +kernel]; omega

theorem emb13 (y : S1024x1024.Idx) : ((cfg0.win 13).blk tl).view.emb y = y := by
  have e : win0_13.index tl (0 : Fin 2) = 0 := by decide +kernel
  have e' : win0_13.index tl (1 : Fin 2) = 0 := by decide +kernel
  funext a; apply Fin.ext
  match a with
  | ⟨0, _⟩ => show win0_13.index tl (0 : Fin 2) * 1024 + 1 * (y 0).val = (y 0).val; omega
  | ⟨1, _⟩ => show win0_13.index tl (1 : Fin 2) * 1024 + 1 * (y 1).val = (y 1).val; omega

theorem final13 (h : Real6 m c A B GA GB W C) : (dats m 0 c).arrAt 13 cfg0.N = fun y : S1024x1024.Idx => ((WoRef.dw A B GA GB C (y 0) (y 1) : ℝ) : EReal) := by
  refine (dats m 0 c).arrAt_eq_of_cover 13 _ (fun t hf => ?_) fun i => ⟨tl, (flush0_13 tl).mpr rfl, ?_⟩
  · obtain rfl : t = tl := Fin.ext (by have := lt8 t; have := (flush0_13 t).mp hf; show t.val = 7; omega)
    rw [Value.flushed13, (outs13 h).trans (funext fun y => congrArg (fun a : ℝ => (a : EReal)) (dw_total (A := A) (B := B) (GA := GA) (GB := GB) (C := C) y))]
    funext y
    show _ = (fun y : S1024x1024.Idx => ((WoRef.dw A B GA GB C (y 0) (y 1) : ℝ) : EReal)) (((cfg0.win 13).blk tl).view.emb y)
    rw [emb13]
  · show i ∈ ((View.whole main_v34_6).slice (win0_13.rect tl)).set
    rw [View.set_slice_whole, Rect.mem_set_unit]
    intro a
    have h0 : (i 0 : Nat) < 1024 := (i 0).isLt
    have h1 : (i 1 : Nat) < 1024 := (i 1).isLt
    match a with
    | ⟨0, _⟩ => show win0_13.index tl 0 * win0_13.size 0 ≤ (i 0 : Nat) ∧ (i 0 : Nat) < win0_13.index tl 0 * win0_13.size 0 + win0_13.xsize (grid0.coords tl) 0
                rw [show win0_13.index tl 0 * win0_13.size 0 = 0 from by decide +kernel, show win0_13.xsize (grid0.coords tl) 0 = 1024 from by decide +kernel]; omega
    | ⟨1, _⟩ => show win0_13.index tl 1 * win0_13.size 1 ≤ (i 1 : Nat) ∧ (i 1 : Nat) < win0_13.index tl 1 * win0_13.size 1 + win0_13.xsize (grid0.coords tl) 1
                rw [show win0_13.index tl 1 * win0_13.size 1 = 0 from by decide +kernel, show win0_13.xsize (grid0.coords tl) 1 = 1024 from by decide +kernel]; omega

end Cert.WoValue

end
-- ==== Proof.WoClaims.lean ====
/- The claims about the output projection's backward call. -/
module

public import proofs.«01_k».proof.Defs
public import proofs.«01_k».proof.Proof.Gen.Wo.Frame
public import proofs.«01_k».proof.Proof.Gen.WoRefIdeal.Run
public import proofs.«01_k».proof.Proof.Gen.Pre_wo_finite
public import proofs.«01_k».proof.Proof.WoValue
public import Idealize.ShloMosaic.Adequacy
public import Idealize.ShloMosaic.Init

@[expose] public section

noncomputable section

namespace Cert.WoClaims

open Idealize.ShloMosaic Idealize.SL.Sem Cert.Lift Cert.WoValue Cert.WoBlock

instance : Subsingleton Cert.Pre_wo_finite.S_.Idx := ⟨fun _ _ => funext fun a => a.elim0⟩

/-- Arguments that pass the printed test are arrays of real numbers. -/
theorem real6 (m : (ℓ : Loc Cert.WoIdeal.nD Cert.WoIdeal.τ Cert.WoIdeal.sig) → Buf (Elt Ideal) ℓ) (h : Pre_WoIdeal_wo_finite m) (c : Dev Cert.WoIdeal.nD) :
    ∃ A B GA GB W C, Real6 m c A B GA GB W C := by
  have e := congrFun (h c) ix0
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  obtain ⟨A, hA⟩ := exists_real_of_all _ _ _ (fun _ => rfl) (fun _ => rfl) _ _ _ _ e0
  obtain ⟨B, hB⟩ := exists_real_of_all _ _ _ (fun _ => rfl) (fun _ => rfl) _ _ _ _ e1
  obtain ⟨GA, hGA⟩ := exists_real_of_all _ _ _ (fun _ => rfl) (fun _ => rfl) _ _ _ _ e2
  obtain ⟨GB, hGB⟩ := exists_real_of_all _ _ _ (fun _ => rfl) (fun _ => rfl) _ _ _ _ e3
  obtain ⟨W, hW⟩ := exists_real_of_all _ _ _ (fun _ => rfl) (fun _ => rfl) _ _ _ _ e4
  obtain ⟨C, hC⟩ := exists_real_of_all _ _ _ (fun _ => rfl) (fun _ => rfl) _ _ _ _ e5
  exact ⟨A, B, GA, GB, W, C, hA, hB, hGA, hGB, hW, hC⟩

section
variable (A B : Cert.WoRefIdeal.S8192x512.Idx → ℝ) (GA GB : Cert.WoRefIdeal.S512.Idx → ℝ)
  (W : Cert.WoRefIdeal.S1024x1024.Idx → ℝ) (C : Cert.WoRefIdeal.S8192x1024.Idx → ℝ)
open Cert.WoRefIdeal.Read

theorem ref80 : val_main_v80 (F := Ideal) (up A) (up GA) (up W) (up C) = fun y => ((WoRef.dout A GA lo W C (y 0) (y 1) : ℝ) : EReal) := by
  funext y
  exact (congrArg _ (ix2_self y)).trans (WoRef.s78 A GA W C _ _)

theorem ref79 : val_main_v79 (F := Ideal) (up B) (up GB) (up W) (up C) = fun y => ((WoRef.dout B GB hi W C (y 0) (y 1) : ℝ) : EReal) := by
  funext y
  exact (congrArg _ (ix2_self y)).trans (WoRef.s58 B GB W C _ _)

theorem ref81 : val_main_v81 (F := Ideal) (up B) (up GB) (up W) (up C) = up (dob4 B GB W C) := by
  funext y
  rw [val_main_v81_apply, ref79]
  rfl

theorem ref82 : val_main_v82 (F := Ideal) (up B) (up GB) (up W) (up C) = up (dob16 B GB W C) := by
  funext y
  rw [val_main_v82_apply, ref79]
  rfl

theorem ref83 : val_main_v83 (F := Ideal) (up A) (up W) (up C) = fun y => ((WoRef.dgain A lo W C (y 1) : ℝ) : EReal) := by
  funext y
  exact (congrArg _ (ix2_self y)).trans (WoRef.s83 A W C _ _)

theorem ref84 : val_main_v84 (F := Ideal) (up B) (up W) (up C) = fun y => ((WoRef.dgain B hi W C (y 1) : ℝ) : EReal) := by
  funext y
  exact (congrArg _ (ix2_self y)).trans (WoRef.s84 B W C _ _)

theorem ref85 : val_main_v85 (F := Ideal) (up A) (up B) (up GA) (up GB) (up C) = fun y => ((WoRef.dw A B GA GB C (y 0) (y 1) : ℝ) : EReal) := by
  funext y
  exact (congrArg _ (ix2_self y)).trans (WoRef.s35 A B GA GB C _ _)

end

theorem frame_p : quiescent_Wo := fun m ρ _ => Cert.Wo.Gen.frame m ρ
theorem frame_pi : quiescent_WoIdeal := fun m ρ _ => Cert.WoIdeal.Gen.frame m ρ
theorem frame_pi' : quiescent_WoIdeal_pre_wo_finite := fun m ρ _ => Cert.WoIdeal.Gen.frame m ρ
theorem frame_ri : quiescent_WoRefIdeal := fun m ρ _ =>
  (θ_run Cert.WoRefIdeal.defs _ _).mono
    (fun r h => ⟨fun c => (h c).2.2.2.2.2.2.2, sem_eq_zero_of_no_sems (by decide) r.2⟩) (Cert.WoRefIdeal.Value.run (F := Ideal) m ρ)
theorem frame_ri' : quiescent_WoRefIdeal_pre_wo_finite := fun m ρ _ => frame_ri m ρ trivial

set_option maxHeartbeats 1000000 in
theorem algebraic : algebraic_WoIdeal_WoRefIdeal_pre_wo_finite := by
  intro m ρ m' ρ' hp hagree
  refine ⟨_, _, _, _, _, _, _, Cert.WoIdeal.Value.run_blocks m ρ, ?_⟩
  refine (θ_run Cert.WoRefIdeal.defs _ _).mono (fun r h c => ?_) (Cert.WoRefIdeal.Value.run (F := Ideal) m' ρ')
  obtain ⟨A, B, GA, GB, W, C, hr⟩ := real6 m hp c
  obtain ⟨a0, a1, a2, a3, a4, a5⟩ := hagree c
  obtain ⟨h0, h1, h2, h3, h4, h5, h6, rest⟩ := h c
  rw [Cert.WoRefIdeal.Read.val_main_v80_eq, a0, a2, a4, a5, hr.a, hr.ga, hr.w, hr.ct] at h0
  rw [Cert.WoRefIdeal.Read.val_main_v79_eq, a1, a3, a4, a5, hr.b, hr.gb, hr.w, hr.ct] at h1
  rw [Cert.WoRefIdeal.Read.val_main_v81_eq, a1, a3, a4, a5, hr.b, hr.gb, hr.w, hr.ct] at h2
  rw [Cert.WoRefIdeal.Read.val_main_v82_eq, a1, a3, a4, a5, hr.b, hr.gb, hr.w, hr.ct] at h3
  replace h4 := h4.trans (Cert.WoRefIdeal.Read.val_main_v83_eq (F := Ideal) _ _ _)
  rw [a0, a4, a5, hr.a, hr.w, hr.ct] at h4
  replace h5 := h5.trans (Cert.WoRefIdeal.Read.val_main_v84_eq (F := Ideal) _ _ _)
  rw [a1, a4, a5, hr.b, hr.w, hr.ct] at h5
  replace h6 := h6.trans (Cert.WoRefIdeal.Read.val_main_v85_eq (F := Ideal) _ _ _ _ _)
  rw [a0, a1, a2, a3, a5, hr.a, hr.b, hr.ga, hr.gb, hr.ct] at h6
  exact ⟨h0.trans ((ref80 A GA W C).trans (final7 hr).symm), h1.trans ((ref79 B GB W C).trans (final8 hr).symm),
    h2.trans ((ref81 B GB W C).trans (final9 hr).symm), h3.trans ((ref82 B GB W C).trans (final10 hr).symm),
    h4.trans ((ref83 A W C).trans (final11 hr).symm), h5.trans ((ref84 B W C).trans (final12 hr).symm),
    h6.trans ((ref85 A B GA GB C).trans (final13 hr).symm), rest⟩

end Cert.WoClaims

end
-- ==== Proof.FfnUpClaims.lean ====
/- The claims about the feed-forward layer's forward call: the gate, the up projection and the activation. -/
module

public import proofs.«01_k».proof.Defs
public import proofs.«01_k».proof.Proof.FfnRef
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.Pre_ffnup_finite
public import Idealize.ShloMosaic.Lib.StableHlo.RunRead
public import Idealize.ShloMosaic.Lib.Tactic
public import Idealize.ShloMosaic.Lib.Pipeline.ReadBack
public import Idealize.ShloMosaic.Lib.Pipeline.ValueKit.Tiles
public import Idealize.ShloMosaic.Adequacy
public import Idealize.ShloMosaic.Init

@[expose] public section

noncomputable section

namespace Cert.FfnUpClaims

open Idealize.ShloMosaic Idealize.ShloMosaic.TcCoe Idealize.SL.Sem Cert.Lift

/-- The activation, from the gate and the up projection. -/
def act (g u : ℝ) : ℝ := g * FfnRow.sg g * u

section kernel
open Cert.FfnUpIdeal Cert.FfnUpIdeal.Gen Cert.FfnUpIdeal.Value

theorem zeros : (![0, 0] : Fin 2 → Nat) = fun _ => 0 := funext fun a => by fin_cases a <;> rfl

theorem scale : Named.named (F := Ideal) Cert.FfnUpIdeal.κ "exp2_scale" (φ := .f32) 0xBFB8AA3B#32 = ((-((Real.log 2)⁻¹) : ℝ) : EReal) :=
  IdealRules.named_const.ideal_named_scalar _ _ _ _ rfl

/-! ## One grid point -/

section point
variable (H : S512x1024.Idx → ℝ) (A B : S2816x1024.Idx → ℝ)

/-- A block's product with a transposed weight matrix, and the block's activation. -/
def pb (y : S512x2816.Idx) : ℝ := ∑ d : Fin 1024, H (ix2 (y 0) d) * A (ix2 (y 1) d)
def ab (y : S512x2816.Idx) : ℝ := act (pb H A y) (pb H B y)

section part
variable (o : ℕ)
  (hA : ∀ a, (![o, 0] : Fin 2 → ℕ) a + S256x1024.size a ≤ S2816x1024.size a)
  (hB : ∀ a, (![0, o] : Fin 2 → ℕ) a + S512x256.size a ≤ S512x2816.size a)

theorem c3 (x : S512x256.Idx) : k0_pay3 (F := Ideal) (View.ld (Val := Elt Ideal) (e' := .bf16) (up H) r0_0)
    (View.ld (Val := Elt Ideal) (e' := .bf16) (up A) (Rect.unit (s := S2816x1024) ![o, 0] S256x1024.size hA)) x
    = up (pb H A) ((Rect.unit (s := S512x2816) ![0, o] S512x256.size hB).idx x) := by
  rw [show View.ld (Val := Elt Ideal) (e' := .bf16) (up H) r0_0 = up H from View.ld_unit_zero (S := S512x1024) zeros _ _]
  generalize hR : up (pb H A) ((Rect.unit (s := S512x2816) ![0, o] S512x256.size hB).idx x) = R
  unfold k0_pay3 k0_pay2
  pointwise
  simp only [up, ← EReal.coe_mul, sum_coe]
  subst hR
  refine congrArg _ (Finset.sum_congr rfl fun d _ => congrArg₂ (· * ·) (congrArg H ?_) (congrArg A ?_))
  · funext a
    match a with
    | ⟨0, _⟩ => exact Fin.ext ((Rect.idx_unit_val _ _ _ _ _).trans (Nat.zero_add _)).symm
    | ⟨1, _⟩ => rfl
  · funext a
    match a with
    | ⟨0, _⟩ => exact Fin.ext (Rect.idx_unit_val (s := S512x2816) ![0, o] S512x256.size hB x 1).symm
    | ⟨1, _⟩ => rfl

theorem c5 (x : S512x256.Idx) : k0_pay5 (F := Ideal) (View.ld (Val := Elt Ideal) (e' := .bf16) (up H) r0_0)
    (View.ld (Val := Elt Ideal) (e' := .bf16) (up A) (Rect.unit (s := S2816x1024) ![o, 0] S256x1024.size hA)) x
    = up (pb H A) ((Rect.unit (s := S512x2816) ![0, o] S512x256.size hB).idx x) := c3 H A o hA hB x

theorem c7 (x : S512x256.Idx) : k0_pay7 (F := Ideal) (View.ld (Val := Elt Ideal) (e' := .bf16) (up H) r0_0)
    (View.ld (Val := Elt Ideal) (e' := .bf16) (up A) (Rect.unit (s := S2816x1024) ![o, 0] S256x1024.size hA))
    (View.ld (Val := Elt Ideal) (e' := .bf16) (up B) (Rect.unit (s := S2816x1024) ![o, 0] S256x1024.size hA)) x
    = up (ab H A B) ((Rect.unit (s := S512x2816) ![0, o] S512x256.size hB).idx x) := by
  have e4 := c3 H B o hA hB x
  generalize hR : up (ab H A B) ((Rect.unit (s := S512x2816) ![0, o] S512x256.size hB).idx x) = R
  unfold k0_pay7
  pointwise
  rw [show k0_pay4 (F := Ideal) _ _ x = _ from e4]
  simp only [c3 H A o hA hB, up, scale, ← EReal.coe_mul]
  show _ * Ideal.div 1 (1 + Ideal.exp2 _) * _ = _
  rw [Ideal.exp2_coe, FfnRow.rpow_two, ← EReal.coe_one, ← EReal.coe_add, div_coe (FfnRow.sg_den _), ← EReal.coe_mul, ← EReal.coe_mul]
  exact hR

end part

theorem out3 : out0_3 (F := Ideal) (up H) (up A) (up B) = up (pb H A) := by
  funext y
  unfold out0_3
  refine View.canon_apply_of_pieces (Val := Elt Ideal) (e := .bf16) (up (pb H A)) _ ?_ y (cover0_3 _ _ _ _ _ _ _ _ _ _ _ y)
  intro p hp
  simp only [List.mem_cons, List.not_mem_nil, or_false] at hp
  rcases hp with rfl | rfl | rfl | rfl | rfl | rfl | rfl | rfl | rfl | rfl | rfl
  · exact c5 H A 2560 inb_S2816x1024_S256x1024_2560_0 inb_S512x2816_S512x256_0_2560
  · exact c5 H A 2304 inb_S2816x1024_S256x1024_2304_0 inb_S512x2816_S512x256_0_2304
  · exact c5 H A 2048 inb_S2816x1024_S256x1024_2048_0 inb_S512x2816_S512x256_0_2048
  · exact c5 H A 1792 inb_S2816x1024_S256x1024_1792_0 inb_S512x2816_S512x256_0_1792
  · exact c5 H A 1536 inb_S2816x1024_S256x1024_1536_0 inb_S512x2816_S512x256_0_1536
  · exact c5 H A 1280 inb_S2816x1024_S256x1024_1280_0 inb_S512x2816_S512x256_0_1280
  · exact c5 H A 1024 inb_S2816x1024_S256x1024_1024_0 inb_S512x2816_S512x256_0_1024
  · exact c5 H A 768 inb_S2816x1024_S256x1024_768_0 inb_S512x2816_S512x256_0_768
  · exact c5 H A 512 inb_S2816x1024_S256x1024_512_0 inb_S512x2816_S512x256_0_512
  · exact c5 H A 256 inb_S2816x1024_S256x1024_256_0 inb_S512x2816_S512x256_0_256
  · exact c5 H A 0 inb_S2816x1024_S256x1024_0_0 inb_S512x2816_S512x256_0_0

theorem out4 : out0_4 (F := Ideal) (up H) (up A) (up B) = up (pb H B) := by
  funext y
  unfold out0_4
  refine View.canon_apply_of_pieces (Val := Elt Ideal) (e := .bf16) (up (pb H B)) _ ?_ y (cover0_4 _ _ _ _ _ _ _ _ _ _ _ y)
  intro p hp
  simp only [List.mem_cons, List.not_mem_nil, or_false] at hp
  rcases hp with rfl | rfl | rfl | rfl | rfl | rfl | rfl | rfl | rfl | rfl | rfl
  · exact c5 H B 2560 inb_S2816x1024_S256x1024_2560_0 inb_S512x2816_S512x256_0_2560
  · exact c5 H B 2304 inb_S2816x1024_S256x1024_2304_0 inb_S512x2816_S512x256_0_2304
  · exact c5 H B 2048 inb_S2816x1024_S256x1024_2048_0 inb_S512x2816_S512x256_0_2048
  · exact c5 H B 1792 inb_S2816x1024_S256x1024_1792_0 inb_S512x2816_S512x256_0_1792
  · exact c5 H B 1536 inb_S2816x1024_S256x1024_1536_0 inb_S512x2816_S512x256_0_1536
  · exact c5 H B 1280 inb_S2816x1024_S256x1024_1280_0 inb_S512x2816_S512x256_0_1280
  · exact c5 H B 1024 inb_S2816x1024_S256x1024_1024_0 inb_S512x2816_S512x256_0_1024
  · exact c5 H B 768 inb_S2816x1024_S256x1024_768_0 inb_S512x2816_S512x256_0_768
  · exact c5 H B 512 inb_S2816x1024_S256x1024_512_0 inb_S512x2816_S512x256_0_512
  · exact c5 H B 256 inb_S2816x1024_S256x1024_256_0 inb_S512x2816_S512x256_0_256
  · exact c5 H B 0 inb_S2816x1024_S256x1024_0_0 inb_S512x2816_S512x256_0_0

theorem out5 : out0_5 (F := Ideal) (up H) (up A) (up B) = up (ab H A B) := by
  funext y
  unfold out0_5
  refine View.canon_apply_of_pieces (Val := Elt Ideal) (e := .bf16) (up (ab H A B)) _ ?_ y (cover0_5 _ _ _ _ _ _ _ _ _ _ _ y)
  intro p hp
  simp only [List.mem_cons, List.not_mem_nil, or_false] at hp
  rcases hp with rfl | rfl | rfl | rfl | rfl | rfl | rfl | rfl | rfl | rfl | rfl
  · exact c7 H A B 2560 inb_S2816x1024_S256x1024_2560_0 inb_S512x2816_S512x256_0_2560
  · exact c7 H A B 2304 inb_S2816x1024_S256x1024_2304_0 inb_S512x2816_S512x256_0_2304
  · exact c7 H A B 2048 inb_S2816x1024_S256x1024_2048_0 inb_S512x2816_S512x256_0_2048
  · exact c7 H A B 1792 inb_S2816x1024_S256x1024_1792_0 inb_S512x2816_S512x256_0_1792
  · exact c7 H A B 1536 inb_S2816x1024_S256x1024_1536_0 inb_S512x2816_S512x256_0_1536
  · exact c7 H A B 1280 inb_S2816x1024_S256x1024_1280_0 inb_S512x2816_S512x256_0_1280
  · exact c7 H A B 1024 inb_S2816x1024_S256x1024_1024_0 inb_S512x2816_S512x256_0_1024
  · exact c7 H A B 768 inb_S2816x1024_S256x1024_768_0 inb_S512x2816_S512x256_0_768
  · exact c7 H A B 512 inb_S2816x1024_S256x1024_512_0 inb_S512x2816_S512x256_0_512
  · exact c7 H A B 256 inb_S2816x1024_S256x1024_256_0 inb_S512x2816_S512x256_0_256
  · exact c7 H A B 0 inb_S2816x1024_S256x1024_0_0 inb_S512x2816_S512x256_0_0

end point

/-! ## The arrays -/

variable (m : (ℓ : Loc nD τ sig) → Buf (Elt Ideal) ℓ) (c : Dev nD)
variable (X : S8192x1024.Idx → ℝ) (G : S1024.Idx → ℝ) (P U : S1024x2816.Idx → ℝ)

/-- Core `c`'s four arguments are these real arrays. -/
structure Real4 : Prop where
  x : m ((c : Thread nD τ).loc main_arg0) = up X
  gain : m ((c : Thread nD τ).loc main_arg1) = up G
  wg : m ((c : Thread nD τ).loc main_arg2) = up P
  wu : m ((c : Thread nD τ).loc main_arg3) = up U

theorem lt16 (t : Fin cfg0.N) : t.val < 16 := lt_of_lt_of_eq t.isLt (show cfg0.N = 16 from N_0)

/-- Row `n` of point `t`'s block of rows. -/
def rowOf (t : Fin cfg0.N) (n : Fin 512) : Fin 8192 := ⟨512 * t.val + n.val, by have := lt16 t; omega⟩

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem emb0 (t : Fin cfg0.N) (y : S512x1024.Idx) : ((cfg0.win 0).blk t).view.emb y = ix2 (rowOf t (y 0)) (y 1) := by
  obtain ⟨⟨e, e'⟩, _⟩ := idx_facts t
  funext a; apply Fin.ext
  match a with
  | ⟨0, _⟩ => show win0_0.index t (0 : Fin 2) * 512 + 1 * (y 0).val = 512 * t.val + (y 0).val; omega
  | ⟨1, _⟩ => show win0_0.index t (1 : Fin 2) * 1024 + 1 * (y 1).val = (y 1).val; omega

theorem emb3 (t : Fin cfg0.N) (y : S512x2816.Idx) : ((cfg0.win 3).blk t).view.emb y = ix2 (rowOf t (y 0)) (y 1) := by
  obtain ⟨_, _, _, ⟨e, e'⟩, _⟩ := idx_facts t
  funext a; apply Fin.ext
  match a with
  | ⟨0, _⟩ => show win0_3.index t (0 : Fin 2) * 512 + 1 * (y 0).val = 512 * t.val + (y 0).val; omega
  | ⟨1, _⟩ => show win0_3.index t (1 : Fin 2) * 2816 + 1 * (y 1).val = (y 1).val; omega

theorem emb4 (t : Fin cfg0.N) (y : S512x2816.Idx) : ((cfg0.win 4).blk t).view.emb y = ix2 (rowOf t (y 0)) (y 1) := by
  obtain ⟨_, _, _, _, ⟨e, e'⟩, _⟩ := idx_facts t
  funext a; apply Fin.ext
  match a with
  | ⟨0, _⟩ => show win0_4.index t (0 : Fin 2) * 512 + 1 * (y 0).val = 512 * t.val + (y 0).val; omega
  | ⟨1, _⟩ => show win0_4.index t (1 : Fin 2) * 2816 + 1 * (y 1).val = (y 1).val; omega

theorem emb5 (t : Fin cfg0.N) (y : S512x2816.Idx) : ((cfg0.win 5).blk t).view.emb y = ix2 (rowOf t (y 0)) (y 1) := by
  obtain ⟨_, _, _, _, _, e, e'⟩ := idx_facts t
  funext a; apply Fin.ext
  match a with
  | ⟨0, _⟩ => show win0_5.index t (0 : Fin 2) * 512 + 1 * (y 0).val = 512 * t.val + (y 0).val; omega
  | ⟨1, _⟩ => show win0_5.index t (1 : Fin 2) * 2816 + 1 * (y 1).val = (y 1).val; omega

theorem emb1 (t : Fin cfg0.N) (y : S2816x1024.Idx) : ((cfg0.win 1).blk t).view.emb y = y := by
  obtain ⟨_, ⟨e, e'⟩, _⟩ := idx_facts t
  funext a; apply Fin.ext
  match a with
  | ⟨0, _⟩ => show win0_1.index t (0 : Fin 2) * 2816 + 1 * (y 0).val = (y 0).val; omega
  | ⟨1, _⟩ => show win0_1.index t (1 : Fin 2) * 1024 + 1 * (y 1).val = (y 1).val; omega

theorem emb2 (t : Fin cfg0.N) (y : S2816x1024.Idx) : ((cfg0.win 2).blk t).view.emb y = y := by
  obtain ⟨_, _, ⟨e, e'⟩, _⟩ := idx_facts t
  funext a; apply Fin.ext
  match a with
  | ⟨0, _⟩ => show win0_2.index t (0 : Fin 2) * 2816 + 1 * (y 0).val = (y 0).val; omega
  | ⟨1, _⟩ => show win0_2.index t (1 : Fin 2) * 1024 + 1 * (y 1).val = (y 1).val; omega

/-- The normed rows, and a weight matrix with its rows and columns exchanged. -/
def hw (y : S8192x1024.Idx) : ℝ := FfnRef.h X G (y 0) (y 1)
def tw (W : S1024x2816.Idx → ℝ) (y : S2816x1024.Idx) : ℝ := W (ix2 (y 1) (y 0))

/-- A point's block of normed rows. -/
def hb (t : Fin cfg0.N) (y : S512x1024.Idx) : ℝ := hw X G (ix2 (rowOf t (y 0)) (y 1))

variable {m c X G P U} (hr : Real4 m c X G P U)
include hr

theorem v13 : (V m c main_v13 : Vec Ideal S8192x1024 .bf16) = up (hw X G) := by
  have e : (V m c main_v13 : Vec Ideal S8192x1024 .bf16) = Cert.FfnRefIdeal.Read.val_main_v15 (F := Ideal)
      (m ((c : Thread nD τ).loc main_arg0)) (m ((c : Thread nD τ).loc main_arg1)) := by
    unfold_abbrev_sides
    after_results
    rfl
  rw [e, hr.x, hr.gain]
  funext y
  exact (congrArg _ (ix2_self y)).trans (FfnRef.s15 X G _ _)

theorem v15 : (V m c main_v15 : Vec Ideal S2816x1024 .bf16) = up (tw P) := by
  have e : (V m c main_v15 : Vec Ideal S2816x1024 .bf16) = fun y : S2816x1024.Idx => (m ((c : Thread nD τ).loc main_arg2) : Vec Ideal S1024x2816 .f32) (ix2 (y 1) (y 0)) := by
    unfold_abbrev_sides
    after_results
    funext y
    pointwise
  rw [e, hr.wg]
  rfl

theorem v17 : (V m c main_v17 : Vec Ideal S2816x1024 .bf16) = up (tw U) := by
  have e : (V m c main_v17 : Vec Ideal S2816x1024 .bf16) = fun y : S2816x1024.Idx => (m ((c : Thread nD τ).loc main_arg3) : Vec Ideal S1024x2816 .f32) (ix2 (y 1) (y 0)) := by
    unfold_abbrev_sides
    after_results
    funext y
    pointwise
  rw [e, hr.wu]
  rfl

theorem iblk0 (t : Fin cfg0.N) : (iblk m c 0 t : Vec Ideal S512x1024 .bf16) = up (hb X G t) := by
  funext y
  show (V m c main_v13 : Vec Ideal S8192x1024 .bf16) (((cfg0.win 0).blk t).view.emb y) = _
  rw [emb0, v13 hr]
  rfl

theorem iblk1 (t : Fin cfg0.N) : (iblk m c 1 t : Vec Ideal S2816x1024 .bf16) = up (tw P) := by
  funext y
  show (V m c main_v15 : Vec Ideal S2816x1024 .bf16) (((cfg0.win 1).blk t).view.emb y) = _
  rw [emb1, v15 hr]

theorem iblk2 (t : Fin cfg0.N) : (iblk m c 2 t : Vec Ideal S2816x1024 .bf16) = up (tw U) := by
  funext y
  show (V m c main_v17 : Vec Ideal S2816x1024 .bf16) (((cfg0.win 2).blk t).view.emb y) = _
  rw [emb2, v17 hr]

omit hr in
theorem split (y : S8192x2816.Idx) : ∃ (t : Fin cfg0.N) (i : Fin 512) (k : Fin 2816), y = ix2 (rowOf t i) k := by
  have h : (y 0).val < 8192 := (y 0).isLt
  refine ⟨⟨(y 0).val / 512, lt_of_lt_of_eq (by omega) (show cfg0.N = 16 from N_0).symm⟩, ⟨(y 0).val % 512, by omega⟩, y 1, ?_⟩
  refine (ix2_self y).trans (congrArg (fun n => ix2 n (y 1)) (Fin.ext ?_))
  show (y 0).val = 512 * ((y 0).val / 512) + (y 0).val % 512
  omega

theorem final3 : (dats m 0 c).arrAt 3 cfg0.N = fun y : S8192x2816.Idx => ((FfnRef.proj X G P (y 0) (y 1) : ℝ) : EReal) := by
  funext y
  obtain ⟨t, i, k, rfl⟩ := split y
  have b := congrFun (blocks3 m c t ((by decide +kernel : ∀ t : Fin grid0.N, (cfg0.win 3).flush t = true) t)) (ix2 i k)
  rw [flushed3, iblk0 hr, iblk1 hr, iblk2 hr, out3] at b
  have b' : (dats m 0 c).arrAt 3 cfg0.N (((cfg0.win 3).blk t).view.emb (ix2 i k)) = _ := b
  rw [emb3] at b'
  exact b'

theorem final4 : (dats m 0 c).arrAt 4 cfg0.N = fun y : S8192x2816.Idx => ((FfnRef.proj X G U (y 0) (y 1) : ℝ) : EReal) := by
  funext y
  obtain ⟨t, i, k, rfl⟩ := split y
  have b := congrFun (blocks4 m c t ((by decide +kernel : ∀ t : Fin grid0.N, (cfg0.win 4).flush t = true) t)) (ix2 i k)
  rw [flushed4, iblk0 hr, iblk1 hr, iblk2 hr, out4] at b
  have b' : (dats m 0 c).arrAt 4 cfg0.N (((cfg0.win 4).blk t).view.emb (ix2 i k)) = _ := b
  rw [emb4] at b'
  exact b'

theorem final5 : (dats m 0 c).arrAt 5 cfg0.N = fun y : S8192x2816.Idx => ((act (FfnRef.proj X G P (y 0) (y 1)) (FfnRef.proj X G U (y 0) (y 1)) : ℝ) : EReal) := by
  funext y
  obtain ⟨t, i, k, rfl⟩ := split y
  have b := congrFun (blocks5 m c t ((by decide +kernel : ∀ t : Fin grid0.N, (cfg0.win 5).flush t = true) t)) (ix2 i k)
  rw [flushed5, iblk0 hr, iblk1 hr, iblk2 hr, out5] at b
  have b' : (dats m 0 c).arrAt 5 cfg0.N (((cfg0.win 5).blk t).view.emb (ix2 i k)) = _ := b
  rw [emb5] at b'
  exact b'

end kernel

section reference
variable (X : Cert.FfnRefIdeal.S8192x1024.Idx → ℝ) (G : Cert.FfnRefIdeal.S1024.Idx → ℝ) (P U : Cert.FfnRefIdeal.S1024x2816.Idx → ℝ)
open Cert.FfnUpRefIdeal.Read

theorem ref17 : val_main_v17 (F := Ideal) (up X) (up G) (up P) = fun y => ((FfnRef.proj X G P (y 0) (y 1) : ℝ) : EReal) := by
  funext y
  exact (congrArg (Cert.FfnRefIdeal.Read.val_main_v16 (F := Ideal) (up X) (up G) (up P)) (ix2_self y)).trans (FfnRef.s16 X G P _ _)

theorem ref18 : val_main_v18 (F := Ideal) (up X) (up G) (up U) = fun y => ((FfnRef.proj X G U (y 0) (y 1) : ℝ) : EReal) := by
  funext y
  exact (congrArg (Cert.FfnRefIdeal.Read.val_main_v17 (F := Ideal) (up X) (up G) (up U)) (ix2_self y)).trans (FfnRef.s17 X G U _ _)

theorem ref19 : val_main_v19 (F := Ideal) (up X) (up G) (up P) (up U) = fun y => ((act (FfnRef.proj X G P (y 0) (y 1)) (FfnRef.proj X G U (y 0) (y 1)) : ℝ) : EReal) := by
  funext y
  have e : val_main_call0_v5 (F := Ideal) (up X) (up G) (up P) y = ((FfnRow.sg (FfnRef.proj X G P (y 0) (y 1)) : ℝ) : EReal) :=
    (congrArg (Cert.FfnRefIdeal.Read.val_main_v18_2 (F := Ideal) (up X) (up G) (up P)) (ix2_self y)).trans (FfnRef.s18_2 X G P _ _)
  have e1 := congrFun (ref17 X G P) y
  have e2 := congrFun (ref18 X G U) y
  refine Eq.trans (b := val_main_v17 (F := Ideal) (up X) (up G) (up P) y * val_main_call0_v5 (F := Ideal) (up X) (up G) (up P) y * val_main_v18 (F := Ideal) (up X) (up G) (up U) y) rfl ?_
  rw [e, e1, e2, ← EReal.coe_mul, ← EReal.coe_mul]
  rfl

end reference

/-! ## The claims -/

instance : Subsingleton Cert.Pre_ffnup_finite.S_.Idx := ⟨fun _ _ => funext fun a => a.elim0⟩

/-- Arguments that pass the printed test are arrays of real numbers. -/
theorem real4 (m : (ℓ : Loc Cert.FfnUpIdeal.nD Cert.FfnUpIdeal.τ Cert.FfnUpIdeal.sig) → Buf (Elt Ideal) ℓ) (h : Pre_FfnUpIdeal_ffnup_finite m) (c : Dev Cert.FfnUpIdeal.nD) :
    ∃ X G P U, Real4 m c X G P U := by
  have e := congrFun (h c) ix0
  obtain ⟨e, e3⟩ := IntOp.andi_eq_one.mp e
  obtain ⟨e, e2⟩ := IntOp.andi_eq_one.mp e
  obtain ⟨e0, e1⟩ := IntOp.andi_eq_one.mp e
  obtain ⟨X, hX⟩ := exists_real_of_all _ _ _ (fun _ => rfl) (fun _ => rfl) _ _ _ _ e0
  obtain ⟨G, hG⟩ := exists_real_of_all _ _ _ (fun _ => rfl) (fun _ => rfl) _ _ _ _ e1
  obtain ⟨P, hP⟩ := exists_real_of_all _ _ _ (fun _ => rfl) (fun _ => rfl) _ _ _ _ e2
  obtain ⟨U, hU⟩ := exists_real_of_all _ _ _ (fun _ => rfl) (fun _ => rfl) _ _ _ _ e3
  exact ⟨X, G, P, U, hX, hG, hP, hU⟩

theorem frame_p : quiescent_FfnUp := fun m ρ _ => Cert.FfnUp.Gen.frame m ρ
theorem frame_pi : quiescent_FfnUpIdeal := fun m ρ _ => Cert.FfnUpIdeal.Gen.frame m ρ
theorem frame_pi' : quiescent_FfnUpIdeal_pre_ffnup_finite := fun m ρ _ => Cert.FfnUpIdeal.Gen.frame m ρ
theorem frame_ri : quiescent_FfnUpRefIdeal := fun m ρ _ =>
  (θ_run Cert.FfnUpRefIdeal.defs _ _).mono
    (fun r h => ⟨fun c => (h c).2.2.2, sem_eq_zero_of_no_sems (by decide) r.2⟩) (Cert.FfnUpRefIdeal.Value.run (F := Ideal) m ρ)
theorem frame_ri' : quiescent_FfnUpRefIdeal_pre_ffnup_finite := fun m ρ _ => frame_ri m ρ trivial

theorem preserves : preserves_FfnUp_FfnUpIdeal :=
  IdealRules.named_const.statement Cert.FfnUpIdeal.κ "exp2_scale" .f32 0xBFB8AA3B#32 ((-((Real.log 2)⁻¹) : ℝ) : EReal) rfl

theorem algebraic : algebraic_FfnUpIdeal_FfnUpRefIdeal_pre_ffnup_finite := by
  intro m ρ m' ρ' hp hagree
  refine ⟨_, _, _, Cert.FfnUpIdeal.Value.run_blocks m ρ, ?_⟩
  refine (θ_run Cert.FfnUpRefIdeal.defs _ _).mono (fun r h c => ?_) (Cert.FfnUpRefIdeal.Value.run (F := Ideal) m' ρ')
  obtain ⟨X, G, P, U, hr⟩ := real4 m hp c
  obtain ⟨a0, a1, a2, a3⟩ := hagree c
  obtain ⟨h0, h1, h2, rest⟩ := h c
  rw [Cert.FfnUpRefIdeal.Read.val_main_v17_eq, a0, a1, a2, hr.x, hr.gain, hr.wg] at h0
  rw [Cert.FfnUpRefIdeal.Read.val_main_v18_eq, a0, a1, a3, hr.x, hr.gain, hr.wu] at h1
  rw [Cert.FfnUpRefIdeal.Read.val_main_v19_eq, a0, a1, a2, a3, hr.x, hr.gain, hr.wg, hr.wu] at h2
  exact ⟨h0.trans ((ref17 X G P).trans (final3 hr).symm), h1.trans ((ref18 X G U).trans (final4 hr).symm),
    h2.trans ((ref19 X G P U).trans (final5 hr).symm), rest⟩

end Cert.FfnUpClaims

end
-- ==== Proof.ProductClaims.lean ====
/- The claims about the product of the down projection's weight gradient: the sum over the rows, in blocks of rows added up in a scratch. -/
module

public import proofs.«01_k».proof.Defs
public import proofs.«01_k».proof.Proof.Lift
public import proofs.«01_k».proof.Proof.Gen.Product.Frame
public import proofs.«01_k».proof.Proof.Gen.ProductIdeal.Value
public import proofs.«01_k».proof.Proof.Gen.ProductRefIdeal.Run
public import proofs.«01_k».proof.Proof.Gen.ProductRefIdeal.Read
public import Idealize.ShloMosaic.Lib.StableHlo.RunRead
public import Idealize.ShloMosaic.Lib.Tactic
public import Idealize.ShloMosaic.Lib.Pipeline.ReadBack
public import Idealize.ShloMosaic.Adequacy
public import Idealize.ShloMosaic.Init

@[expose] public section

noncomputable section

namespace Cert.ProductClaims

open Idealize.ShloMosaic Idealize.ShloMosaic.TcCoe Idealize.SL.Sem Cert.Lift
open Cert.ProductIdeal Cert.ProductIdeal.Gen Cert.ProductIdeal.Value

theorem zeros : (![0, 0] : Fin 2 → Nat) = fun _ => 0 := funext fun a => by fin_cases a <;> rfl

/-! ## One grid point -/

/-- The product of one block of rows. -/
def part (A : S2048x1408.Idx → EReal) (B : S2048x1024.Idx → EReal) (y : S1408x1024.Idx) : EReal := ∑ k : Fin 2048, A (ix2 k (y 0)) * B (ix2 k (y 1))

section point
variable (A : Vec Ideal S2048x1408 .bf16) (B : Vec Ideal S2048x1024 .bf16) (w : Vec Ideal S1408x1024 .f32)

theorem p1 : k0_pay1 (F := Ideal) A B = part A B := by
  funext y
  unfold k0_pay1
  pointwise
  rfl

theorem p2 : k0_pay2 (F := Ideal) A B = part A B := by
  funext y
  unfold k0_pay2
  pointwise
  rw [p1]

theorem p3 : k0_pay3 (F := Ideal) A B w = fun y => w y + part A B y := by
  funext y
  unfold k0_pay3
  pointwise
  rw [p1]

variable (c : Dev nD) (i : grid0.Coords) (arg3 : Memref sig .tc .vmem S2048x1408 .bf16) (harg3 : arg3.IsWhole) (arg4 : Memref sig .tc .vmem S2048x1024 .bf16) (harg4 : arg4.IsWhole)
  (arg5 : Memref sig .tc .vmem S1408x1024 .bf16) (harg5 : arg5.IsWhole) (arg6 : Memref sig .tc .vmem S1408x1024 .f32) (harg6 : arg6.IsWhole)

theorem first (hc0 : cond0_0 i) (hc1 : ¬cond0_1 i) (hc2 : ¬cond0_2 i) :
    sout0_A_0 (F := Ideal) c i arg3 harg3 arg4 harg4 arg5 harg5 arg6 harg6 hc0 hc1 hc2 A B = part A B := by
  unfold sout0_A_0
  rw [View.read_writes_eq_canon _ _ _ (scover0_A_0 c i arg3 harg3 arg4 harg4 arg5 harg5 arg6 harg6 hc0 hc1 hc2 A B)]
  unfold kernelRun0_A
  dsimp only
  sl_unfold_words
  simp only [View.readAt_eq_ld, harg3.read_unread, harg4.read_unread]
  simp only [View.ld_unit_zero (S := S2048x1408) zeros, View.ld_unit_zero (S := S2048x1024) zeros]
  rw [View.canon_unit_zero zeros, p2]

theorem next (hc0 : ¬cond0_0 i) (hc1 : cond0_1 i) (hc2 : ¬cond0_2 i) :
    sout0_B_0 (F := Ideal) c i arg3 harg3 arg4 harg4 arg5 harg5 arg6 harg6 hc0 hc1 hc2 A B w = fun y => w y + part A B y := by
  unfold sout0_B_0
  rw [View.read_writes_eq_canon _ _ _ (scover0_B_0 c i arg3 harg3 arg4 harg4 arg5 harg5 arg6 harg6 hc0 hc1 hc2 A B w)]
  unfold kernelRun0_B
  dsimp only
  sl_unfold_words
  simp only [View.readAt_eq_ld, harg3.read_unread, harg4.read_unread, harg6.read_unread]
  simp only [View.ld_unit_zero (S := S2048x1408) zeros, View.ld_unit_zero (S := S2048x1024) zeros, View.ld_unit_zero (S := S1408x1024) zeros]
  rw [View.canon_unit_zero zeros, p3]

theorem last (hc0 : ¬cond0_0 i) (hc1 : cond0_1 i) (hc2 : cond0_2 i) :
    out0_C_2 (F := Ideal) c i arg3 harg3 arg4 harg4 arg5 harg5 arg6 harg6 hc0 hc1 hc2 A B w = fun y => w y + part A B y := by
  unfold out0_C_2
  rw [View.read_writes_eq_canon _ _ _ (cover0_C_2 c i arg3 harg3 arg4 harg4 arg5 harg5 arg6 harg6 hc0 hc1 hc2 A B w)]
  unfold kernelRun0_C
  dsimp only
  sl_unfold_words
  simp only [View.readAt_eq_ld, harg3.read_unread, harg4.read_unread, harg6.read_unread]
  simp only [View.ld_unit_zero (S := S2048x1408) zeros, View.ld_unit_zero (S := S2048x1024) zeros, View.ld_unit_zero (S := S1408x1024) zeros]
  rw [View.canon_unit_zero zeros, View.readCov_unit_zero _ zeros, p3]
  rfl

end point

/-! ## The points in order -/

variable (m : (ℓ : Loc nD τ sig) → Buf (Elt Ideal) ℓ) (c : Dev nD)

/-- The two arguments. -/
abbrev X : S8192x2816.Idx → EReal := (m ((c : Thread nD τ).loc main_arg0) : Vec Ideal S8192x2816 .f32)
abbrev C : S8192x1024.Idx → EReal := (m ((c : Thread nD τ).loc main_arg1) : Vec Ideal S8192x1024 .f32)

theorem lt8 (t : Fin cfg0.N) : t.val < 8 := lt_of_lt_of_eq t.isLt (show cfg0.N = 8 from N_0)

/-- The row a point's block of rows has at `n`, and the column its block of columns has at `d`. -/
def rowOf (t : Fin cfg0.N) (n : Fin 2048) : Fin 8192 := ⟨2048 * (t.val % 4) + n.val, by have := lt8 t; omega⟩
def colOf (t : Fin cfg0.N) (d : Fin 1408) : Fin 2816 := ⟨1408 * (t.val / 4) + d.val, by have := lt8 t; omega⟩

theorem idx_facts : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, _)

theorem emb0 (t : Fin cfg0.N) (y : S2048x1408.Idx) : ((cfg0.win 0).blk t).view.emb y = ix2 (rowOf t (y 0)) (colOf t (y 1)) := by
  obtain ⟨⟨e, e'⟩, _⟩ := idx_facts t
  funext a; apply Fin.ext
  match a with
  | ⟨0, _⟩ => show win0_0.index t (0 : Fin 2) * 2048 + 1 * (y 0).val = 2048 * (t.val % 4) + (y 0).val; omega
  | ⟨1, _⟩ => show win0_0.index t (1 : Fin 2) * 1408 + 1 * (y 1).val = 1408 * (t.val / 4) + (y 1).val; omega

theorem emb1 (t : Fin cfg0.N) (y : S2048x1024.Idx) : ((cfg0.win 1).blk t).view.emb y = ix2 (rowOf t (y 0)) (y 1) := by
  obtain ⟨_, ⟨e, e'⟩, _⟩ := idx_facts t
  funext a; apply Fin.ext
  match a with
  | ⟨0, _⟩ => show win0_1.index t (0 : Fin 2) * 2048 + 1 * (y 0).val = 2048 * (t.val % 4) + (y 0).val; omega
  | ⟨1, _⟩ => show win0_1.index t (1 : Fin 2) * 1024 + 1 * (y 1).val = (y 1).val; omega

theorem emb2 (t : Fin cfg0.N) (y : S1408x1024.Idx) : ((cfg0.win 2).blk t).view.emb y = ix2 (colOf t (y 0)) (y 1) := by
  obtain ⟨_, _, e, e'⟩ := idx_facts t
  funext a; apply Fin.ext
  match a with
  | ⟨0, _⟩ => show win0_2.index t (0 : Fin 2) * 1408 + 1 * (y 0).val = 1408 * (t.val / 4) + (y 0).val; omega
  | ⟨1, _⟩ => show win0_2.index t (1 : Fin 2) * 1024 + 1 * (y 1).val = (y 1).val; omega

theorem iblk0 (t : Fin cfg0.N) : (iblk m c 0 t : Vec Ideal S2048x1408 .bf16) = fun y : S2048x1408.Idx => X m c (ix2 (rowOf t (y 0)) (colOf t (y 1))) := by
  funext y
  show (V m c main_v0 : Vec Ideal S8192x2816 .bf16) (((cfg0.win 0).blk t).view.emb y) = _
  rw [emb0, show (V m c main_v0 : Vec Ideal S8192x2816 .bf16) = X m c from by
    unfold_abbrev_sides
    after_results
    rfl]

theorem iblk1 (t : Fin cfg0.N) : (iblk m c 1 t : Vec Ideal S2048x1024 .bf16) = fun y : S2048x1024.Idx => C m c (ix2 (rowOf t (y 0)) (y 1)) := by
  funext y
  show (V m c main_v1 : Vec Ideal S8192x1024 .bf16) (((cfg0.win 1).blk t).view.emb y) = _
  rw [emb1, show (V m c main_v1 : Vec Ideal S8192x1024 .bf16) = C m c from by
    unfold_abbrev_sides
    after_results
    rfl]
  rfl

/-- Row `n`'s term of one element of the product. -/
def term (d : Fin 2816) (e : Fin 1024) (n : ℕ) : EReal :=
  if h : n < 8192 then X m c (ix2 ⟨n, h⟩ d) * C m c (ix2 ⟨n, h⟩ e) else 0

/-- One element's sum over the first blocks of rows. -/
def upto (t : Fin cfg0.N) (k : ℕ) (y : S1408x1024.Idx) : EReal := ∑ s ∈ Finset.range k, ∑ i : Fin 2048, term m c (colOf t (y 0)) (y 1) (2048 * s + i.val)

theorem part_eq (t : Fin cfg0.N) : part (iblk m c 0 t) (iblk m c 1 t)
    = fun y => ∑ i : Fin 2048, term m c (colOf t (y 0)) (y 1) (2048 * (t.val % 4) + i.val) := by
  rw [iblk0, iblk1]
  funext y
  refine Finset.sum_congr rfl fun i _ => ?_
  unfold term
  rw [dif_pos (show 2048 * (t.val % 4) + i.val < 8192 from (rowOf t i).isLt)]
  rfl

theorem upto_succ (t : Fin cfg0.N) (k : ℕ) (hk : t.val % 4 = k) (w : S1408x1024.Idx → EReal) (hw : w = upto m c t k) :
    (fun y => w y + part (iblk m c 0 t) (iblk m c 1 t) y) = upto m c t (k + 1) := by
  subst hk
  rw [part_eq, hw]
  exact funext fun y => (Finset.sum_range_succ _ _).symm

/-- What the scratch holds after the first three points of a run of four. -/
theorem scratch : ∀ (r q : ℕ) (_ : r < 3) (hn : 4 * q + r < cfg0.N), (outsAt0 m c (4 * q + r) hn).2 = upto m c ⟨4 * q + r, hn⟩ (r + 1)
  | 0, q, _, hn => by
    have e : (4 * q + 0) % 4 = 0 := by omega
    rw [outsAt0_A m c ⟨4 * q + 0, hn⟩ e (by dsimp only; omega) (by dsimp only; omega)]
    dsimp only
    rw [first, part_eq]
    funext y
    unfold upto
    dsimp only
    rw [Finset.sum_range_one, e]
  | r + 1, q, hr, hn => by
    have hq : q < 2 := by have := lt8 ⟨_, hn⟩; dsimp only at this; omega
    rw [outsAt0_B m c ⟨4 * q + (r + 1), hn⟩ (by dsimp only; omega) (by dsimp only; omega) (by dsimp only; omega)]
    dsimp only
    rw [next]
    refine upto_succ m c ⟨4 * q + (r + 1), hn⟩ (r + 1) (by dsimp only; omega) _ ((scratch r q (by omega) (by omega)).trans ?_)
    funext y
    have e : colOf ⟨4 * q + r, by omega⟩ (y 0) = colOf ⟨4 * q + (r + 1), hn⟩ (y 0) := Fin.ext (by show 1408 * ((4 * q + r) / 4) + _ = 1408 * ((4 * q + (r + 1)) / 4) + _; omega)
    unfold upto
    rw [e]

/-- The product. -/
def whole (y : S2816x1024.Idx) : EReal := ∑ k : Fin 8192, X m c (ix2 k (y 0)) * C m c (ix2 k (y 1))

/-- The sum over four blocks is the sum over the rows. -/
theorem upto_four (t : Fin cfg0.N) (y : S1408x1024.Idx) : upto m c t (3 + 1) y = whole m c (ix2 (colOf t (y 0)) (y 1)) := by
  unfold upto whole
  rw [sum_blocks, Finset.sum_range]
  exact Finset.sum_congr rfl fun n _ => dif_pos n.isLt

set_option maxRecDepth 100000 in
theorem read_whole (t : Fin cfg0.N) : ((cfg0.win 2).blk t).view.read (Elt Ideal) (whole m c) = fun y : S1408x1024.Idx => whole m c (ix2 (colOf t (y 0)) (y 1)) :=
  funext fun y => congrArg (whole m c) (emb2 t y)

theorem final2 : (dats m 0 c).arrAt 2 cfg0.N = whole m c := by
  refine (dats m 0 c).arrAt_eq_of_cover 2 _ (fun t hf => ?_) fun i => (covered_iff2 i).2 (by
    have h0 : (i 0).val < 2816 := (i 0).isLt
    have h1 : (i 1).val < 1024 := (i 1).isLt
    omega)
  have h3 : t.val % 4 = 3 := (flush0_2 t).mp hf
  obtain ⟨n, hn⟩ := t
  obtain ⟨q, rfl⟩ : ∃ q, n = 4 * q + (2 + 1) := ⟨n / 4, by dsimp only at h3; omega⟩
  rw [flushed2_C m c ⟨4 * q + (2 + 1), hn⟩ (by omega) (by omega) h3, last]
  have hp : 4 * q + 2 < cfg0.N := Nat.lt_of_succ_lt hn
  have s := upto_succ m c ⟨4 * q + (2 + 1), hn⟩ (2 + 1) h3 (outsAt0 m c (4 * q + 2) hp).2 ((scratch m c 2 q (by omega) hp).trans (by
    funext y
    have e : colOf ⟨4 * q + 2, hp⟩ (y 0) = colOf ⟨4 * q + (2 + 1), hn⟩ (y 0) := Fin.ext (by show 1408 * ((4 * q + 2) / 4) + _ = 1408 * ((4 * q + (2 + 1)) / 4) + _; omega)
    unfold upto
    rw [e]))
  rw [read_whole]
  exact s.trans (funext (upto_four m c _))

/-! ## The claims -/

theorem frame_p : quiescent_Product := fun m ρ _ => Cert.Product.Gen.frame m ρ
theorem frame_pi : quiescent_ProductIdeal := fun m ρ _ => Cert.ProductIdeal.Gen.frame m ρ
theorem frame_ri : quiescent_ProductRefIdeal := fun m ρ _ =>
  (θ_run Cert.ProductRefIdeal.defs _ _).mono
    (fun r h => ⟨fun c => (h c).2, sem_eq_zero_of_no_sems (by decide) r.2⟩) (Cert.ProductRefIdeal.Value.run (F := Ideal) m ρ)

theorem algebraic : algebraic_ProductIdeal_ProductRefIdeal := by
  intro m ρ m' ρ' _ hagree
  refine ⟨_, Cert.ProductIdeal.Value.run_blocks m ρ, ?_⟩
  refine (θ_run Cert.ProductRefIdeal.defs _ _).mono (fun r h c => ?_) (Cert.ProductRefIdeal.Value.run (F := Ideal) m' ρ')
  obtain ⟨a0, a1⟩ := hagree c
  obtain ⟨h0, rest⟩ := h c
  rw [Cert.ProductRefIdeal.Read.val_main_v1_eq, a0, a1] at h0
  refine ⟨h0.trans (.trans (funext fun y => ?_) (final2 m c).symm), rest⟩
  refine (Cert.ProductRefIdeal.Read.val_main_v0_apply _ _ y).trans (Finset.sum_congr rfl fun k _ => congrArg₂ (· * ·) (congrArg _ ?_) (congrArg _ ?_))
  · funext a; match a with | ⟨0, _⟩ => rfl | ⟨1, _⟩ => rfl
  · funext a; match a with | ⟨0, _⟩ => rfl | ⟨1, _⟩ => rfl

end Cert.ProductClaims

end
-- ==== Proof.AdamRow.lean ====
/- One element of the optimiser's step, over the extended reals: the gradient summed over the devices, the two moments and the change of the weight. -/
module

public import proofs.«01_k».proof.Proof.Lift

@[expose] public section

noncomputable section

namespace Cert.AdamRow

open Idealize.ShloMosaic

/-- The gradient: the sum of the eight devices' parts. -/
def total (p : Fin 8 → EReal) : EReal := ∑ k, p k

/-- The first and the second moment, from the old one and the gradient. -/
def mom (m g : EReal) : EReal := Ideal.ofBits .f32 0x3F666666#32 * m + Ideal.ofBits .f32 0x3DCCCCCD#32 * g
def var (v g : EReal) : EReal := Ideal.ofBits .f32 0x3F7FBE77#32 * v + Ideal.ofBits .f32 0x3A83126F#32 * (g * g)

/-- The change of the weight, from the two moments without their bias. -/
def change (w g m v : EReal) : EReal :=
  Ideal.ofBits .f32 0xBA83126F#32 * (Ideal.div (Ideal.div (mom m g) (Ideal.ofBits .f32 0x3F26BD02#32))
    (Ideal.sqrt (Ideal.div (var v g) (Ideal.ofBits .f32 0x3C231ACC#32)) + Ideal.ofBits .f32 0x322BCC77#32) + Ideal.ofBits .f32 0x3C23D70A#32 * w)

/-- Eight parts added one after another. -/
theorem total_eq (p : Fin 8 → EReal) : p 0 + p 1 + p 2 + p 3 + p 4 + p 5 + p 6 + p 7 = total p := (Fin.sum_univ_eight p).symm

end Cert.AdamRow

end
-- ==== Proof.StepClaims.lean ====
/- The claims about the optimiser's step of the output projection's weights, two blocks of rows. -/
module

public import proofs.«01_k».proof.Defs
public import proofs.«01_k».proof.Proof.AdamRow
public import proofs.«01_k».proof.Proof.Gen.Step.Frame
public import proofs.«01_k».proof.Proof.Gen.StepIdeal.Value
public import proofs.«01_k».proof.Proof.Gen.StepRefIdeal.Run
public import proofs.«01_k».proof.Proof.Gen.StepRefIdeal.Read
public import Idealize.ShloMosaic.Lib.StableHlo.RunRead
public import Idealize.ShloMosaic.Lib.Tactic
public import Idealize.ShloMosaic.Adequacy
public import Idealize.ShloMosaic.Init

@[expose] public section

noncomputable section

namespace Cert.StepClaims

open Idealize.ShloMosaic Idealize.ShloMosaic.TcCoe Idealize.SL.Sem Cert.Lift

/-- The parts of one element. -/
abbrev parts {a b : ℕ} (P : (⟨3, ![8, a, b]⟩ : Shape).Idx → EReal) (y : (⟨2, ![a, b]⟩ : Shape).Idx) (k : Fin 8) : EReal := P (ix3 k (y 0) (y 1))

section kernel
open Cert.StepIdeal Cert.StepIdeal.Gen Cert.StepIdeal.Value

section block
variable (P : Vec Ideal S8x64x1024 .bf16) (W M V : Vec Ideal S64x1024 .f32)

theorem zeros : (![0, 0] : Fin 2 → Nat) = fun _ => 0 := funext fun a => by fin_cases a <;> rfl

theorem grad_apply (y : S64x1024.Idx) : k0_pay5 (F := Ideal) P W M V y = AdamRow.total (parts P y) := by
  unfold k0_pay5
  rw [← AdamRow.total_eq]
  have e : r0_8.idx y = y := funext fun a => Fin.ext (by
    match a with
    | ⟨0, _⟩ => show 0 + 1 * (y 0).val = (y 0).val; omega
    | ⟨1, _⟩ => show 0 + 1 * (y 1).val = (y 1).val; omega)
  have row (k : Fin 8) (z : S8x64x1024.Idx) (h0 : (z 0).val = k.val) (h1 : (z 1).val = (y 0).val) (h2 : (z 2).val = (y 1).val) : P z = parts P y k :=
    congrArg P (funext fun a => Fin.ext (match a with | ⟨0, _⟩ => h0 | ⟨1, _⟩ => h1 | ⟨2, _⟩ => h2))
  refine ((piece4_0 _ _ _ _ _ _ _ _ y).trans (congrArg _ e)).trans ?_
  iterate 7 refine congrArg₂ (· + ·) ?_ ?_
  all_goals exact row _ _ rfl (by show 0 + 1 * (y 0).val = _; omega) (by show 0 + 1 * (y 1).val = _; omega)

theorem mom_apply (y : S64x1024.Idx) : k0_pay1 (F := Ideal) (k0_pay5 P W M V) M y = AdamRow.mom (M y) (AdamRow.total (parts P y)) :=
  congrArg (AdamRow.mom (M y)) (grad_apply P W M V y)

theorem var_apply (y : S64x1024.Idx) : k0_pay2 (F := Ideal) (k0_pay5 P W M V) V y = AdamRow.var (V y) (AdamRow.total (parts P y)) :=
  congrArg (AdamRow.var (V y)) (grad_apply P W M V y)

theorem change_apply (y : S64x1024.Idx) : k0_pay3 (F := Ideal) (k0_pay5 P W M V) W M V y
    = AdamRow.change (W y) (AdamRow.total (parts P y)) (M y) (V y) :=
  congrArg (fun g => AdamRow.change (W y) g (M y) (V y)) (grad_apply P W M V y)

theorem out4 : out0_4 (F := Ideal) P W M V = fun y => AdamRow.total (parts P y) := by
  unfold out0_4
  rw [View.canon_unit_zero zeros]
  exact funext (grad_apply P W M V)

theorem out5 : out0_5 (F := Ideal) P W M V = fun y => AdamRow.change (W y) (AdamRow.total (parts P y)) (M y) (V y) := by
  unfold out0_5
  rw [View.canon_unit_zero zeros]
  simp only [View.ld_unit_zero (S := S64x1024) zeros]
  exact funext (change_apply P W M V)

theorem out6 : out0_6 (F := Ideal) P W M V = fun y => AdamRow.mom (M y) (AdamRow.total (parts P y)) := by
  unfold out0_6
  rw [View.canon_unit_zero zeros]
  simp only [View.ld_unit_zero (S := S64x1024) zeros]
  exact funext (mom_apply P W M V)

theorem out7 : out0_7 (F := Ideal) P W M V = fun y => AdamRow.var (V y) (AdamRow.total (parts P y)) := by
  unfold out0_7
  rw [View.canon_unit_zero zeros]
  simp only [View.ld_unit_zero (S := S64x1024) zeros]
  exact funext (var_apply P W M V)

end block

variable (m : (ℓ : Loc nD τ sig) → Buf (Elt Ideal) ℓ) (c : Dev nD)

/-- Row `n` of point `t`'s block of rows. -/
def rowOf (t : Fin cfg0.N) (n : Fin 64) : Fin 128 := ⟨64 * t.val + n.val, by have := lt_of_lt_of_eq t.isLt (show cfg0.N = 2 from N_0); omega⟩

theorem idx_facts : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem emb0 (t : Fin cfg0.N) (y : S8x64x1024.Idx) : ((cfg0.win 0).blk t).view.emb y = ix3 (y 0) (rowOf t (y 1)) (y 2) := by
  obtain ⟨⟨e, e', e''⟩, _⟩ := idx_facts t
  funext a; apply Fin.ext
  match a with
  | ⟨0, _⟩ => show win0_0.index t (0 : Fin 3) * 8 + 1 * (y 0).val = (y 0).val; omega
  | ⟨1, _⟩ => show win0_0.index t (1 : Fin 3) * 64 + 1 * (y 1).val = 64 * t.val + (y 1).val; omega
  | ⟨2, _⟩ => show win0_0.index t (2 : Fin 3) * 1024 + 1 * (y 2).val = (y 2).val; omega

theorem emb1 (t : Fin cfg0.N) (y : S64x1024.Idx) : ((cfg0.win 1).blk t).view.emb y = ix2 (rowOf t (y 0)) (y 1) := by
  obtain ⟨_, ⟨e, e'⟩, _⟩ := idx_facts t
  funext a; apply Fin.ext
  match a with
  | ⟨0, _⟩ => show win0_1.index t (0 : Fin 2) * 64 + 1 * (y 0).val = 64 * t.val + (y 0).val; omega
  | ⟨1, _⟩ => show win0_1.index t (1 : Fin 2) * 1024 + 1 * (y 1).val = (y 1).val; omega

theorem emb2 (t : Fin cfg0.N) (y : S64x1024.Idx) : ((cfg0.win 2).blk t).view.emb y = ix2 (rowOf t (y 0)) (y 1) := by
  obtain ⟨_, _, ⟨e, e'⟩, _⟩ := idx_facts t
  funext a; apply Fin.ext
  match a with
  | ⟨0, _⟩ => show win0_2.index t (0 : Fin 2) * 64 + 1 * (y 0).val = 64 * t.val + (y 0).val; omega
  | ⟨1, _⟩ => show win0_2.index t (1 : Fin 2) * 1024 + 1 * (y 1).val = (y 1).val; omega

theorem emb3 (t : Fin cfg0.N) (y : S64x1024.Idx) : ((cfg0.win 3).blk t).view.emb y = ix2 (rowOf t (y 0)) (y 1) := by
  obtain ⟨_, _, _, ⟨e, e'⟩, _⟩ := idx_facts t
  funext a; apply Fin.ext
  match a with
  | ⟨0, _⟩ => show win0_3.index t (0 : Fin 2) * 64 + 1 * (y 0).val = 64 * t.val + (y 0).val; omega
  | ⟨1, _⟩ => show win0_3.index t (1 : Fin 2) * 1024 + 1 * (y 1).val = (y 1).val; omega

theorem emb4 (t : Fin cfg0.N) (y : S64x1024.Idx) : ((cfg0.win 4).blk t).view.emb y = ix2 (rowOf t (y 0)) (y 1) := by
  obtain ⟨_, _, _, _, ⟨e, e'⟩, _⟩ := idx_facts t
  funext a; apply Fin.ext
  match a with
  | ⟨0, _⟩ => show win0_4.index t (0 : Fin 2) * 64 + 1 * (y 0).val = 64 * t.val + (y 0).val; omega
  | ⟨1, _⟩ => show win0_4.index t (1 : Fin 2) * 1024 + 1 * (y 1).val = (y 1).val; omega

theorem emb5 (t : Fin cfg0.N) (y : S64x1024.Idx) : ((cfg0.win 5).blk t).view.emb y = ix2 (rowOf t (y 0)) (y 1) := by
  obtain ⟨_, _, _, _, _, ⟨e, e'⟩, _⟩ := idx_facts t
  funext a; apply Fin.ext
  match a with
  | ⟨0, _⟩ => show win0_5.index t (0 : Fin 2) * 64 + 1 * (y 0).val = 64 * t.val + (y 0).val; omega
  | ⟨1, _⟩ => show win0_5.index t (1 : Fin 2) * 1024 + 1 * (y 1).val = (y 1).val; omega

theorem emb6 (t : Fin cfg0.N) (y : S64x1024.Idx) : ((cfg0.win 6).blk t).view.emb y = ix2 (rowOf t (y 0)) (y 1) := by
  obtain ⟨_, _, _, _, _, _, ⟨e, e'⟩, _⟩ := idx_facts t
  funext a; apply Fin.ext
  match a with
  | ⟨0, _⟩ => show win0_6.index t (0 : Fin 2) * 64 + 1 * (y 0).val = 64 * t.val + (y 0).val; omega
  | ⟨1, _⟩ => show win0_6.index t (1 : Fin 2) * 1024 + 1 * (y 1).val = (y 1).val; omega

theorem emb7 (t : Fin cfg0.N) (y : S64x1024.Idx) : ((cfg0.win 7).blk t).view.emb y = ix2 (rowOf t (y 0)) (y 1) := by
  obtain ⟨_, _, _, _, _, _, _, ⟨e, e'⟩⟩ := idx_facts t
  funext a; apply Fin.ext
  match a with
  | ⟨0, _⟩ => show win0_7.index t (0 : Fin 2) * 64 + 1 * (y 0).val = 64 * t.val + (y 0).val; omega
  | ⟨1, _⟩ => show win0_7.index t (1 : Fin 2) * 1024 + 1 * (y 1).val = (y 1).val; omega

theorem iblk0 (t : Fin cfg0.N) : (iblk m c 0 t : Vec Ideal S8x64x1024 .bf16)
    = fun y : S8x64x1024.Idx => (m ((c : Thread nD τ).loc main_arg0) : Vec Ideal S8x128x1024 .f32) (ix3 (y 0) (rowOf t (y 1)) (y 2)) := by
  funext y
  show (V m c main_v0 : Vec Ideal S8x128x1024 .bf16) (((cfg0.win 0).blk t).view.emb y) = _
  rw [emb0, show (V m c main_v0 : Vec Ideal S8x128x1024 .bf16) = (m ((c : Thread nD τ).loc main_arg0) : Vec Ideal S8x128x1024 .f32) from by
    unfold_abbrev_sides
    after_results
    rfl]
  rfl

theorem iblk1 (t : Fin cfg0.N) : (iblk m c 1 t : Vec Ideal S64x1024 .f32)
    = fun y : S64x1024.Idx => (m ((c : Thread nD τ).loc main_arg1) : Vec Ideal S128x1024 .f32) (ix2 (rowOf t (y 0)) (y 1)) := by
  funext y
  show V m c main_arg1 (((cfg0.win 1).blk t).view.emb y) = _
  rw [V_main_arg1, emb1]
  rfl

theorem iblk2 (t : Fin cfg0.N) : (iblk m c 2 t : Vec Ideal S64x1024 .f32)
    = fun y : S64x1024.Idx => (m ((c : Thread nD τ).loc main_arg2) : Vec Ideal S128x1024 .f32) (ix2 (rowOf t (y 0)) (y 1)) := by
  funext y
  show V m c main_arg2 (((cfg0.win 2).blk t).view.emb y) = _
  rw [V_main_arg2, emb2]
  rfl

theorem iblk3 (t : Fin cfg0.N) : (iblk m c 3 t : Vec Ideal S64x1024 .f32)
    = fun y : S64x1024.Idx => (m ((c : Thread nD τ).loc main_arg3) : Vec Ideal S128x1024 .f32) (ix2 (rowOf t (y 0)) (y 1)) := by
  funext y
  show V m c main_arg3 (((cfg0.win 3).blk t).view.emb y) = _
  rw [V_main_arg3, emb3]
  rfl

/-- Every element is in one of the two blocks. -/
theorem split (y : S128x1024.Idx) : ∃ (t : Fin cfg0.N) (i : Fin 64) (k : Fin 1024), y = ix2 (rowOf t i) k := by
  have h0 : (y 0).val < 128 := (y 0).isLt
  have hN : cfg0.N = 2 := N_0
  refine ⟨⟨(y 0).val / 64, by omega⟩, ⟨(y 0).val % 64, Nat.mod_lt _ (by norm_num)⟩, y 1, ?_⟩
  funext a
  match a with
  | ⟨0, _⟩ => exact Fin.ext (Nat.div_add_mod _ _).symm
  | ⟨1, _⟩ => rfl

theorem final4 : (dats m 0 c).arrAt 4 cfg0.N = fun y : S128x1024.Idx => AdamRow.total (parts (m ((c : Thread nD τ).loc main_arg0) : Vec Ideal S8x128x1024 .f32) y) := by
  funext y
  obtain ⟨t, i, k, rfl⟩ := split y
  have b := congrFun (blocks4 m c t ((by decide +kernel : ∀ t : Fin grid0.N, (cfg0.win 4).flush t = true) t)) (ix2 i k)
  rw [flushed4, iblk0, iblk1, iblk2, iblk3, out4] at b
  have b' : (dats m 0 c).arrAt 4 cfg0.N (((cfg0.win 4).blk t).view.emb (ix2 i k)) = _ := b
  rw [emb4] at b'
  exact b'

theorem final5 : (dats m 0 c).arrAt 5 cfg0.N = fun y : S128x1024.Idx => AdamRow.change ((m ((c : Thread nD τ).loc main_arg1) : Vec Ideal S128x1024 .f32) y) (AdamRow.total (parts (m ((c : Thread nD τ).loc main_arg0) : Vec Ideal S8x128x1024 .f32) y)) ((m ((c : Thread nD τ).loc main_arg2) : Vec Ideal S128x1024 .f32) y) ((m ((c : Thread nD τ).loc main_arg3) : Vec Ideal S128x1024 .f32) y) := by
  funext y
  obtain ⟨t, i, k, rfl⟩ := split y
  have b := congrFun (blocks5 m c t ((by decide +kernel : ∀ t : Fin grid0.N, (cfg0.win 5).flush t = true) t)) (ix2 i k)
  rw [flushed5, iblk0, iblk1, iblk2, iblk3, out5] at b
  have b' : (dats m 0 c).arrAt 5 cfg0.N (((cfg0.win 5).blk t).view.emb (ix2 i k)) = _ := b
  rw [emb5] at b'
  exact b'

theorem final6 : (dats m 0 c).arrAt 6 cfg0.N = fun y : S128x1024.Idx => AdamRow.mom ((m ((c : Thread nD τ).loc main_arg2) : Vec Ideal S128x1024 .f32) y) (AdamRow.total (parts (m ((c : Thread nD τ).loc main_arg0) : Vec Ideal S8x128x1024 .f32) y)) := by
  funext y
  obtain ⟨t, i, k, rfl⟩ := split y
  have b := congrFun (blocks6 m c t ((by decide +kernel : ∀ t : Fin grid0.N, (cfg0.win 6).flush t = true) t)) (ix2 i k)
  rw [flushed6, iblk0, iblk1, iblk2, iblk3, out6] at b
  have b' : (dats m 0 c).arrAt 6 cfg0.N (((cfg0.win 6).blk t).view.emb (ix2 i k)) = _ := b
  rw [emb6] at b'
  exact b'

theorem final7 : (dats m 0 c).arrAt 7 cfg0.N = fun y : S128x1024.Idx => AdamRow.var ((m ((c : Thread nD τ).loc main_arg3) : Vec Ideal S128x1024 .f32) y) (AdamRow.total (parts (m ((c : Thread nD τ).loc main_arg0) : Vec Ideal S8x128x1024 .f32) y)) := by
  funext y
  obtain ⟨t, i, k, rfl⟩ := split y
  have b := congrFun (blocks7 m c t ((by decide +kernel : ∀ t : Fin grid0.N, (cfg0.win 7).flush t = true) t)) (ix2 i k)
  rw [flushed7, iblk0, iblk1, iblk2, iblk3, out7] at b
  have b' : (dats m 0 c).arrAt 7 cfg0.N (((cfg0.win 7).blk t).view.emb (ix2 i k)) = _ := b
  rw [emb7] at b'
  exact b'

end kernel

section reference
open Cert.StepRefIdeal Cert.StepRefIdeal.Gen Cert.StepRefIdeal.Read

variable (P : Vec Ideal S8x128x1024 .f32) (W M V : Vec Ideal S128x1024 .f32) (y : S128x1024.Idx)

theorem ref_grad : val_main_v0 (F := Ideal) P y = AdamRow.total (parts P y) := by
  simp only [val_main_v0_apply, val_main_cst_apply, Ideal.ofBits_def, c_zero, EReal.coe_zero, zero_add]
  exact Finset.sum_congr rfl fun k _ => congrArg P (funext fun a => by match a with | ⟨0, _⟩ => rfl | ⟨1, _⟩ => rfl | ⟨2, _⟩ => rfl)

theorem ref_mom : val_main_v5 (F := Ideal) P M y = AdamRow.mom (M y) (AdamRow.total (parts P y)) := by
  simp only [val_main_v5_apply, val_main_v4_apply, val_main_v2_apply, ref_grad]
  rfl

theorem ref_var : val_main_v11 (F := Ideal) P V y = AdamRow.var (V y) (AdamRow.total (parts P y)) := by
  simp only [val_main_v11_apply, val_main_v10_apply, val_main_v8_apply, val_main_v7_apply, ref_grad]
  rfl

theorem ref_change : val_main_v24 (F := Ideal) P W M V y = AdamRow.change (W y) (AdamRow.total (parts P y)) (M y) (V y) := by
  simp only [val_main_v24_apply, val_main_v22_apply, val_main_v19_apply, val_main_v18_apply, val_main_v16_apply, val_main_v15_apply, val_main_v13_apply,
    val_main_v21_apply, ref_mom, ref_var]
  rfl

end reference

theorem frame_p : quiescent_Step := fun m ρ _ => Cert.Step.Gen.frame m ρ
theorem frame_pi : quiescent_StepIdeal := fun m ρ _ => Cert.StepIdeal.Gen.frame m ρ
theorem frame_ri : quiescent_StepRefIdeal := fun m ρ _ =>
  (θ_run Cert.StepRefIdeal.defs _ _).mono
    (fun r h => ⟨fun c => (h c).2.2.2.2, sem_eq_zero_of_no_sems (by decide) r.2⟩) (Cert.StepRefIdeal.Value.run (F := Ideal) m ρ)

theorem algebraic : algebraic_StepIdeal_StepRefIdeal := by
  intro m ρ m' ρ' _ hagree
  refine ⟨_, _, _, _, Cert.StepIdeal.Value.run_blocks m ρ, ?_⟩
  refine (θ_run Cert.StepRefIdeal.defs _ _).mono (fun r h c => ?_) (Cert.StepRefIdeal.Value.run (F := Ideal) m' ρ')
  obtain ⟨a0, a1, a2, a3⟩ := hagree c
  obtain ⟨h0, h1, h2, h3, rest⟩ := h c
  rw [Cert.StepRefIdeal.Read.val_main_v0_eq, a0] at h0
  rw [Cert.StepRefIdeal.Read.val_main_v24_eq, a0, a1, a2, a3] at h1
  rw [Cert.StepRefIdeal.Read.val_main_v5_eq, a0, a2] at h2
  rw [Cert.StepRefIdeal.Read.val_main_v11_eq, a0, a3] at h3
  exact ⟨h0.trans ((funext (ref_grad _)).trans (final4 m c).symm), h1.trans ((funext (ref_change _ _ _ _)).trans (final5 m c).symm),
    h2.trans ((funext (ref_mom _ _)).trans (final6 m c).symm), h3.trans ((funext (ref_var _ _)).trans (final7 m c).symm), rest⟩

end Cert.StepClaims

end
-- ==== Proof.SmallClaims.lean ====
/- The claims about the optimiser's step of the packed small weights. -/
module

public import proofs.«01_k».proof.Defs
public import proofs.«01_k».proof.Proof.AdamRow
public import proofs.«01_k».proof.Proof.Gen.Small.Frame
public import proofs.«01_k».proof.Proof.Gen.SmallIdeal.Value
public import proofs.«01_k».proof.Proof.Gen.SmallRefIdeal.Run
public import proofs.«01_k».proof.Proof.Gen.SmallRefIdeal.Read
public import Idealize.ShloMosaic.Adequacy
public import Idealize.ShloMosaic.Init

@[expose] public section

noncomputable section

namespace Cert.SmallClaims

open Idealize.ShloMosaic Idealize.SL.Sem Cert.Lift

section kernel
open Cert.SmallIdeal Cert.SmallIdeal.Gen Cert.SmallIdeal.Value

variable (P : Vec Ideal S8x56x128 .f32) (W M V : Vec Ideal S56x128 .f32)

/-- The parts of one element. -/
abbrev parts (y : S56x128.Idx) (k : Fin 8) : EReal := P (ix3 k (y 0) (y 1))

theorem grad_apply (y : S56x128.Idx) : k0_pay6 (F := Ideal) P W M V y = AdamRow.total (parts P y) := by
  unfold k0_pay6
  rw [← AdamRow.total_eq]
  have at_ (k : Fin 8) (z : S8x56x128.Idx) (h0 : (z 0).val = k.val) (h1 : (z 1).val = (y 0).val) (h2 : (z 2).val = (y 1).val) : P z = parts P y k :=
    congrArg P (funext fun a => Fin.ext (match a with | ⟨0, _⟩ => h0 | ⟨1, _⟩ => h1 | ⟨2, _⟩ => h2))
  have e : r0_8.idx y = y := funext fun a => Fin.ext (by
    match a with
    | ⟨0, _⟩ => show 0 + 1 * (y 0).val = (y 0).val; omega
    | ⟨1, _⟩ => show 0 + 1 * (y 1).val = (y 1).val; omega)
  refine (piece4_0 _ _ _ _ _ _ _ _ y).trans ?_
  rw [e]
  iterate 7 refine congrArg₂ (· + ·) ?_ ?_
  all_goals exact at_ _ _ rfl (by show 0 + 1 * (y 0).val = _; omega) (by show 0 + 1 * (y 1).val = _; omega)

theorem mom_apply (y : S56x128.Idx) : k0_pay1 (F := Ideal) (k0_pay6 P W M V) (k0_pay7 P W M V) (Scalar.ofBits .f32 0x3DCCCCCD#32) y
    = AdamRow.mom (M y) (AdamRow.total (parts P y)) := by
  unfold k0_pay1 k0_pay7 k0_pay5
  rw [View.ld_unit_zero (S := S56x128) hz2 _ M]
  pointwise
  rw [grad_apply]
  rfl

theorem var_apply (y : S56x128.Idx) : k0_pay2 (F := Ideal) (k0_pay6 P W M V) V y = AdamRow.var (V y) (AdamRow.total (parts P y)) := by
  unfold k0_pay2
  pointwise
  rw [grad_apply]
  rfl

theorem change_apply (y : S56x128.Idx) : k0_pay3 (F := Ideal) (k0_pay6 P W M V) W V (k0_pay7 P W M V) (Scalar.ofBits .f32 0x3DCCCCCD#32) y
    = AdamRow.change (W y) (AdamRow.total (parts P y)) (M y) (V y) := by
  unfold k0_pay3
  pointwise
  rw [show k0_pay1 (F := Ideal) (k0_pay6 P W M V) (k0_pay7 P W M V) (Ideal.ofBits .f32 0x3DCCCCCD#32) y = _ from mom_apply P W M V y, var_apply]
  rfl

end kernel

section reference
open Cert.SmallRefIdeal Cert.SmallRefIdeal.Gen Cert.SmallRefIdeal.Read

variable (P : Vec Ideal S8x56x128 .f32) (W M V : Vec Ideal S56x128 .f32) (y : S56x128.Idx)

theorem ref_grad : val_main_v0 (F := Ideal) P y = AdamRow.total (parts P y) := by
  simp only [val_main_v0_apply, val_main_cst_apply, Ideal.ofBits_def, c_zero, EReal.coe_zero, zero_add]
  exact Finset.sum_congr rfl fun k _ => congrArg P (funext fun a => by match a with | ⟨0, _⟩ => rfl | ⟨1, _⟩ => rfl | ⟨2, _⟩ => rfl)

theorem ref_mom : val_main_v5 (F := Ideal) P M y = AdamRow.mom (M y) (AdamRow.total (parts P y)) := by
  simp only [val_main_v5_apply, val_main_v4_apply, val_main_v2_apply, ref_grad]
  rfl

theorem ref_var : val_main_v11 (F := Ideal) P V y = AdamRow.var (V y) (AdamRow.total (parts P y)) := by
  simp only [val_main_v11_apply, val_main_v10_apply, val_main_v8_apply, val_main_v7_apply, ref_grad]
  rfl

theorem ref_change : val_main_v24 (F := Ideal) P W M V y = AdamRow.change (W y) (AdamRow.total (parts P y)) (M y) (V y) := by
  simp only [val_main_v24_apply, val_main_v22_apply, val_main_v19_apply, val_main_v18_apply, val_main_v16_apply, val_main_v15_apply, val_main_v13_apply,
    val_main_v21_apply, ref_mom, ref_var]
  rfl

end reference

theorem frame_p : quiescent_Small := fun m ρ _ => Cert.Small.Gen.frame m ρ
theorem frame_pi : quiescent_SmallIdeal := fun m ρ _ => Cert.SmallIdeal.Gen.frame m ρ
theorem frame_ri : quiescent_SmallRefIdeal := fun m ρ _ =>
  (θ_run Cert.SmallRefIdeal.defs _ _).mono
    (fun r h => ⟨fun c => (h c).2.2.2.2, sem_eq_zero_of_no_sems (by decide) r.2⟩) (Cert.SmallRefIdeal.Value.run (F := Ideal) m ρ)

theorem algebraic : algebraic_SmallIdeal_SmallRefIdeal := by
  intro m ρ m' ρ' _ hagree
  refine ⟨_, _, _, _, Cert.SmallIdeal.Value.run m ρ, ?_⟩
  refine (θ_run Cert.SmallRefIdeal.defs _ _).mono (fun r h c => ?_) (Cert.SmallRefIdeal.Value.run (F := Ideal) m' ρ')
  obtain ⟨a0, a1, a2, a3⟩ := hagree c
  obtain ⟨h0, h1, h2, h3, rest⟩ := h c
  rw [Cert.SmallRefIdeal.Read.val_main_v0_eq, a0] at h0
  rw [Cert.SmallRefIdeal.Read.val_main_v24_eq, a0, a1, a2, a3] at h1
  rw [Cert.SmallRefIdeal.Read.val_main_v5_eq, a0, a2] at h2
  rw [Cert.SmallRefIdeal.Read.val_main_v11_eq, a0, a3] at h3
  exact ⟨h0.trans (funext fun y => (ref_grad _ y).trans (grad_apply _ _ _ _ y).symm),
    h1.trans (funext fun y => (ref_change _ _ _ _ y).trans (change_apply _ _ _ _ y).symm),
    h2.trans (funext fun y => (ref_mom _ _ y).trans (mom_apply _ _ _ _ y).symm),
    h3.trans (funext fun y => (ref_var _ _ y).trans (var_apply _ _ _ _ y).symm), rest⟩

end Cert.SmallClaims

end
-- ==== Proof.BiasBucket.lean ====
/- The relative-position bucket of a query and a key, and one cell of the table's gradient. -/
module

public import proofs.«01_k».proof.Proof.Lift

@[expose] public section

noncomputable section

namespace Cert.BiasBucket

open Idealize.ShloMosaic Cert.Lift

/-- How far key `j` of the window lies before query `i`, and whether that is inside the band. -/
def delta (i : Fin 128) (j : Fin 256) : BitVec 32 := IntOp.subi (IntOp.addi 128#32 (BitVec.ofNat 32 i.val)) (BitVec.ofNat 32 j.val)
def inBand (i : Fin 128) (j : Fin 256) : BitVec 1 := IntOp.andi (IntOp.cmpi .sge (delta i j) 0#32) (IntOp.cmpi .sle (delta i j) 128#32)
/-- The distance, held inside the band. -/
def clip (i : Fin 128) (j : Fin 256) : BitVec 32 := IntOp.minsi 128#32 (IntOp.maxsi 0#32 (delta i j))
def clipNat (i : Fin 128) (j : Fin 256) : Fin 129 := ⟨min 128 (128 + i.val - j.val), by omega⟩

/-- The logarithmic bucket before it is cut off at the last one, and the bucket. -/
def large (d : BitVec 32) : BitVec 32 :=
  Ideal.fptosi 32 (Ideal.div (Ideal.log (Ideal.div (((IntOp.maxsi d 1#32).toInt : ℝ) : EReal) (Ideal.ofBits .f32 0x41800000#32))) (Ideal.ofBits .f32 0x409B43D5#32) * Ideal.ofBits .f32 0x41800000#32)
def bucket (d : BitVec 32) : BitVec 32 :=
  Scalar.select (IntOp.cmpi .slt d 16#32) d (IntOp.minsi (IntOp.addi 16#32 (large d)) 31#32)

theorem delta_eq (i : Fin 128) (j : Fin 256) : delta i j = BitVec.ofNat 32 (i.val + 255 - j.val) - 127#32 := by
  apply BitVec.eq_of_toNat_eq
  simp only [delta, IntOp.subi, IntOp.addi, BitVec.toNat_sub, BitVec.toNat_add, BitVec.toNat_ofNat]
  omega

theorem clip_eq (i : Fin 128) (j : Fin 256) : clip i j = BitVec.ofNat 32 (clipNat i j).val := by
  have h : ∀ k : Fin 384, IntOp.minsi 128#32 (IntOp.maxsi 0#32 (BitVec.ofNat 32 k.val - 127#32)) = BitVec.ofNat 32 (min 128 (k.val - 127)) := by decide +kernel
  have e := h ⟨i.val + 255 - j.val, by omega⟩
  rw [clip, delta_eq, e]
  show BitVec.ofNat 32 (min 128 (i.val + 255 - j.val - 127)) = BitVec.ofNat 32 (min 128 (128 + i.val - j.val))
  congr 2
  omega

/-- An index that counts from the end when negative is itself at a number of the range. -/
theorem norm_eq (n : Fin 129) : Scalar.select (IntOp.cmpi .slt (BitVec.ofNat 32 n.val) 0#32) (IntOp.addi (BitVec.ofNat 32 n.val) 129#32) (BitVec.ofNat 32 n.val)
    = BitVec.ofNat 32 n.val :=
  (by decide +kernel : ∀ n : Fin 129, Scalar.select (IntOp.cmpi .slt (BitVec.ofNat 32 n.val) 0#32) (IntOp.addi (BitVec.ofNat 32 n.val) 129#32) (BitVec.ofNat 32 n.val)
    = BitVec.ofNat 32 n.val) n

theorem c_sixteen : Ideal.ofBits .f32 0x41800000#32 = ((16 : ℝ) : EReal) := by
  simp [Ideal.ofBits, Ideal.ieee, -EReal.coe_mul]; norm_num
/-- The logarithm of the largest distance over the exact ones, as the programs spell it. -/
def span : ℝ := 10175445 / 2 ^ 21
theorem c_span : Ideal.ofBits .f32 0x409B43D5#32 = ((span : ℝ) : EReal) := by
  simp [Ideal.ofBits, Ideal.ieee, span, -EReal.coe_mul]; norm_num
theorem span_pos : 0 < span := by norm_num [span]

/-- The logarithmic bucket of a distance from 16 to 2048 is a small natural number. -/
theorem large_range {d : BitVec 32} (h : 16 ≤ d.toInt) (h' : d.toInt ≤ 2048) : 0 ≤ (large d).toInt ∧ (large d).toInt ≤ 1000 := by
  have e1 : (IntOp.maxsi d 1#32).toInt = d.toInt := by
    rw [IntOp.maxsi, if_pos (by rw [BitVec.slt_iff_toInt_lt]; exact lt_of_lt_of_le (by decide) h)]
  have hd : (16 : ℝ) ≤ (d.toInt : ℝ) := by exact_mod_cast h
  have hd' : (d.toInt : ℝ) ≤ 2048 := by exact_mod_cast h'
  have hq : (0 : ℝ) < (d.toInt : ℝ) / 16 := by positivity
  have l0 : 0 ≤ Real.log ((d.toInt : ℝ) / 16) := Real.log_nonneg (by rw [le_div_iff₀ (by norm_num)]; linarith)
  have l1 : Real.log ((d.toInt : ℝ) / 16) ≤ 127 := by
    refine (Real.log_le_sub_one_of_pos hq).trans ?_
    rw [sub_le_iff_le_add, div_le_iff₀ (by norm_num)]; linarith
  have e2 : large d = BitVec.ofInt 32 (max (-2147483648) (min 2147483647 ⌊Real.log ((d.toInt : ℝ) / 16) / span * 16⌋)) := by
    rw [large, e1, c_sixteen, c_span, div_coe (by norm_num), log_coe hq, div_coe span_pos.ne', ← EReal.coe_mul, Ideal.fptosi, Ideal.toIntClamped_coe,
      if_pos (by have := span_pos; positivity)]
    norm_num
  have f0 : 0 ≤ ⌊Real.log ((d.toInt : ℝ) / 16) / span * 16⌋ := Int.floor_nonneg.mpr (by have := span_pos; positivity)
  have f1 : ⌊Real.log ((d.toInt : ℝ) / 16) / span * 16⌋ ≤ 1000 := by
    refine Int.floor_le_iff.mpr ?_
    have : Real.log ((d.toInt : ℝ) / 16) / span ≤ 127 / span := div_le_div_of_nonneg_right l1 span_pos.le
    have s : (127 : ℝ) / span ≤ 60 := by rw [div_le_iff₀ span_pos]; norm_num [span]
    push_cast
    linarith
  rw [e2, max_eq_right (by omega), min_eq_right (by omega), BitVec.toInt_ofInt_eq_self (by norm_num) (by omega) (by omega)]
  exact ⟨f0, f1⟩

theorem bucket_nonneg {d : BitVec 32} (h : 0 ≤ d.toInt) (h' : d.toInt ≤ 2048) : 0 ≤ (bucket d).toInt := by
  unfold bucket Scalar.select
  split
  · exact h
  · rename_i hs
    have h16 : 16 ≤ d.toInt := by
      by_contra hn
      refine hs ?_
      rw [IntOp.cmpi, (BitVec.slt_iff_toInt_lt (x := d) (y := 16#32)).mpr (lt_of_lt_of_le (not_le.mp hn) (by decide))]
      rfl
    obtain ⟨l0, l1⟩ := large_range h16 h'
    rw [IntOp.minsi]
    split
    · rw [IntOp.addi, BitVec.toInt_add, show (16#32).toInt = 16 from rfl, Int.bmod_eq_of_le (by omega) (by omega)]
      omega
    · decide

/-- The bucket of the `n`-th distance of a branch whose keys lie `dil` apart. -/
def bucketOf (dil : BitVec 32) (n : Fin 129) : BitVec 32 := bucket (IntOp.muli (BitVec.ofNat 32 n.val) dil)

/-- The branches' dilations. -/
def Dil (dil : BitVec 32) : Prop := dil = 1#32 ∨ dil = 4#32 ∨ dil = 16#32

theorem bucketOf_nonneg {dil : BitVec 32} (hd : Dil dil) (n : Fin 129) : 0 ≤ (bucketOf dil n).toInt := by
  have h (k : ℕ) (hk : k ≤ 16) : 0 ≤ (IntOp.muli (BitVec.ofNat 32 n.val) (BitVec.ofNat 32 k)).toInt ∧ (IntOp.muli (BitVec.ofNat 32 n.val) (BitVec.ofNat 32 k)).toInt ≤ 2048 := by
    have e : (IntOp.muli (BitVec.ofNat 32 n.val) (BitVec.ofNat 32 k)).toNat = n.val * k := by
      rw [IntOp.muli, ← BitVec.ofNat_mul, BitVec.toNat_ofNat, Nat.mod_eq_of_lt]
      exact lt_of_le_of_lt (Nat.mul_le_mul (Nat.le_of_lt_succ n.isLt) hk) (by norm_num)
    have l : n.val * k ≤ 2048 := (Nat.mul_le_mul (Nat.le_of_lt_succ n.isLt) hk).trans (by norm_num)
    rw [BitVec.toInt_eq_toNat_of_lt (by omega), e]
    omega
  obtain ⟨h0, h1⟩ : 0 ≤ (IntOp.muli (BitVec.ofNat 32 n.val) dil).toInt ∧ (IntOp.muli (BitVec.ofNat 32 n.val) dil).toInt ≤ 2048 := by
    rcases hd with rfl | rfl | rfl
    · exact h 1 (by norm_num)
    · exact h 4 (by norm_num)
    · exact h 16 (by norm_num)
  exact bucket_nonneg h0 h1

theorem norm_bucket {dil : BitVec 32} (hd : Dil dil) (n : Fin 129) :
    Scalar.select (IntOp.cmpi .slt (bucketOf dil n) 0#32) (IntOp.addi (bucketOf dil n) 32#32) (bucketOf dil n) = bucketOf dil n := by
  have : ¬ (bucketOf dil n).slt 0#32 = true := by
    rw [BitVec.slt_iff_toInt_lt]; exact not_lt.mpr (bucketOf_nonneg hd n)
  rw [IntOp.cmpi, Bool.eq_false_iff.mpr this]
  rfl

/-- The kernel's word for a query and a key: their bucket, and -1 outside the band. -/
def word (dil : BitVec 32) (i : Fin 128) (j : Fin 256) : BitVec 32 := Scalar.select (inBand i j) (bucketOf dil (clipNat i j)) 4294967295#32

/-- The elements of head `h` inside the band whose bucket is `b`, added up. -/
def cell (dil : BitVec 32) (D : Fin 128 → Fin 256 → EReal) (b : Fin 32) : EReal :=
  ∑ i : Fin 128, ∑ j : Fin 256, if word dil i j = BitVec.ofNat 32 b.val then D i j else 0

/-- The same sum in two steps: over the pairs at each distance, and over the distances of the bucket. -/
theorem cell_eq (dil : BitVec 32) (D : Fin 128 → Fin 256 → EReal) (b : Fin 32) :
    (∑ n : Fin 129, if bucketOf dil n = BitVec.ofNat 32 b.val then ∑ i : Fin 128, ∑ j : Fin 256, (if clipNat i j = n then Scalar.select (inBand i j) (D i j) 0 else 0) else 0)
      = cell dil D b := by
  have e : ∀ n : Fin 129, (if bucketOf dil n = BitVec.ofNat 32 b.val then ∑ i : Fin 128, ∑ j : Fin 256, (if clipNat i j = n then Scalar.select (inBand i j) (D i j) 0 else 0) else 0)
      = ∑ i : Fin 128, ∑ j : Fin 256, (if clipNat i j = n then (if bucketOf dil n = BitVec.ofNat 32 b.val then Scalar.select (inBand i j) (D i j) 0 else 0) else 0) := by
    intro n
    split
    · rfl
    · simp
  rw [Finset.sum_congr rfl fun n _ => e n, Finset.sum_comm]
  refine Finset.sum_congr rfl fun i _ => ?_
  rw [Finset.sum_comm]
  refine Finset.sum_congr rfl fun j _ => ?_
  rw [Finset.sum_ite_eq, if_pos (Finset.mem_univ _)]
  unfold word Scalar.select
  have hm : ∀ b : Fin 32, 4294967295#32 ≠ BitVec.ofNat 32 b.val := by decide
  by_cases hb : inBand i j = 1
  · simp only [hb, if_true]
  · simp only [hb, if_false, ite_self, hm b]

end Cert.BiasBucket

end
-- ==== Proof.BiasChain.lean ====
/- The kernel's sum of the 768 cells of the table's gradient, as one recursion over heads and buckets. -/
module

public import proofs.«01_k».proof.Proof.Gen.BiasIdeal.Value
public import proofs.«01_k».proof.Proof.BiasBucket

@[expose] public section

noncomputable section

namespace Cert.BiasChain

open Idealize.ShloMosaic Cert.BiasIdeal Cert.BiasIdeal.Gen

variable {F : FTy → Type} [FloatOps F]

/-- The sum of the elements of `a` whose bucket is `b`, on every cell. -/
def cell (bm : IVec S128x256 32) (a : FVec F S128x256 .f32) (b : BitVec 32) : FVec F S8x128 .f32 :=
  broadcastTo S8x128 (shapeCast S1x1 (shapeCast S1x1 (multiReduction .add [0] S1 (shapeCast S128x1 (multiReduction .add [1] S128
    (select (cmpi .eq bm (broadcast S128x256 b)) a (broadcast S128x256 (Scalar.ofBits .f32 0x00000000#32))) 0x00000000#32 reduces_S128x256_S128 (.inl rfl) rfl)
    shapeCasts_S128_S128x1) 0x00000000#32 reduces_S128x1_S1 (.inl rfl) rfl) shapeCasts_S1_S1x1) shapeCasts_S1x1_S1x1) broadcasts_S1x1_S8x128

/-- One cell added to the table. -/
def step (bm : IVec S128x256 32) (a : FVec F S128x256 .f32) (h b : BitVec 32) (out : FVec F S8x128 .f32) : FVec F S8x128 .f32 :=
  addf out (select (andi (cmpi .eq (iota .tc S8x128 32 [0] iota_S8x128_d0_w32) (broadcast S8x128 h))
    (cmpi .eq (iota .tc S8x128 32 [1] iota_S8x128_d1_w32) (broadcast S8x128 b))) (cell bm a b) (broadcast S8x128 (Scalar.ofBits .f32 0x00000000#32)))

/-- The first `n` buckets of head `h` added to the table. -/
def buckets (bm : IVec S128x256 32) (a : FVec F S128x256 .f32) (h : BitVec 32) (out : FVec F S8x128 .f32) : Nat → FVec F S8x128 .f32
  | 0 => out
  | n + 1 => step bm a h (BitVec.ofNat 32 n) (buckets bm a h out n)

/-- One head of a branch. -/
def slab (v : Vec F S1x128x256 .f32) : FVec F S128x256 .f32 := shapeCast S128x256 v shapeCasts_S1x128x256_S128x256

/-- The eight heads of a branch. -/
def heads (m : Vec F S128x256 .i32) (x : Vec F S8x128x256 .f32) (out : FVec F S8x128 .f32) : FVec F S8x128 .f32 :=
  have bm : IVec S128x256 32 := shapeCast S128x256 (View.ld m r0_0) shapeCasts_S128x256_S128x256
  buckets bm (slab (View.ld x r0_8)) 7#32 (buckets bm (slab (View.ld x r0_7)) 6#32 (buckets bm (slab (View.ld x r0_6)) 5#32
    (buckets bm (slab (View.ld x r0_5)) 4#32 (buckets bm (slab (View.ld x r0_4)) 3#32 (buckets bm (slab (View.ld x r0_3)) 2#32
    (buckets bm (slab (View.ld x r0_2)) 1#32 (buckets bm (slab (View.ld x r0_1)) 0#32 out 32) 32) 32) 32) 32) 32) 32) 32

set_option maxRecDepth 65536 in
set_option maxHeartbeats 4000000 in
theorem out_eq (x0 x1 x2 : Vec F S8x128x256 .f32) (x3 x4 x5 : Vec F S128x256 .i32) (x6 : Vec F S128x512 .f32) :
    out0_7 x0 x1 x2 x3 x4 x5 x6 = View.canon [⟨r0_9, heads x5 x2 (heads x4 x1 (heads x3 x0 (broadcast S8x128 (Scalar.ofBits .f32 0x00000000#32))))⟩] := by
  rfl

/-! ## At the extended reals -/

/-- The elements of a slab whose word is `b`, added up. -/
def total (bm : IVec S128x256 32) (a : FVec Ideal S128x256 .f32) (b : BitVec 32) : EReal :=
  ∑ i : Fin 128, ∑ j : Fin 256, if bm (ix2 i j) = b then a (ix2 i j) else 0

theorem cell_apply (bm : IVec S128x256 32) (a : FVec Ideal S128x256 .f32) (b : BitVec 32) (y : S8x128.Idx) : cell bm a b y = total bm a b := by
  unfold cell
  pointwise
  refine Finset.sum_congr rfl fun i _ => Finset.sum_congr rfl fun j _ => ?_
  by_cases e : bm (ix2 i j) = b
  · rw [if_pos e, IntOp.cmpi, beq_iff_eq.mpr e]; rfl
  · rw [if_neg e, IntOp.cmpi, beq_eq_false_iff_ne.mpr e]; rfl

theorem select_and (p q r s : BitVec 32) (v : EReal) :
    Scalar.select (IntOp.andi (IntOp.cmpi .eq p q) (IntOp.cmpi .eq r s)) v 0 = if p = q ∧ r = s then v else 0 := by
  have e (u w : BitVec 32) : IntOp.cmpi .eq u w = if u = w then 1#1 else 0#1 := by
    rw [IntOp.cmpi]
    by_cases h : u = w
    · rw [if_pos h, beq_iff_eq.mpr h]; rfl
    · rw [if_neg h, beq_eq_false_iff_ne.mpr h]; rfl
  rw [e, e, Scalar.select]
  by_cases h : p = q <;> by_cases h' : r = s <;> simp [h, h', IntOp.andi]

theorem step_apply (bm : IVec S128x256 32) (a : FVec Ideal S128x256 .f32) (h b : BitVec 32) (out : FVec Ideal S8x128 .f32) (y : S8x128.Idx) :
    step bm a h b out y = out y + if BitVec.ofNat 32 (y 0).val = h ∧ BitVec.ofNat 32 (y 1).val = b then total bm a b else 0 := by
  unfold step
  have hc := cell_apply bm a b y
  generalize cell bm a b = w at hc ⊢
  pointwise
  rw [hc]
  refine congrArg (out y + ·) ?_
  exact select_and _ _ _ _ _

theorem buckets_apply (bm : IVec S128x256 32) (a : FVec Ideal S128x256 .f32) (h : BitVec 32) (out : FVec Ideal S8x128 .f32) (y : S8x128.Idx) {n : ℕ} (hn : n ≤ 32) :
    buckets bm a h out n y = out y + if BitVec.ofNat 32 (y 0).val = h ∧ (y 1).val < n then total bm a (BitVec.ofNat 32 (y 1).val) else 0 := by
  induction n with
  | zero => rw [if_neg (by omega), add_zero]; rfl
  | succ n ih =>
    have hy : (y 1).val < 128 := (y 1).isLt
    have en : BitVec.ofNat 32 (y 1).val = BitVec.ofNat 32 n ↔ (y 1).val = n := by
      refine ⟨fun q => ?_, fun q => congrArg _ q⟩
      have := congrArg BitVec.toNat q
      rw [BitVec.toNat_ofNat, BitVec.toNat_ofNat] at this
      omega
    rw [buckets, step_apply, ih (by omega), add_assoc]
    refine congrArg (out y + ·) ?_
    simp only [en]
    by_cases e : BitVec.ofNat 32 (y 0).val = h
    · by_cases e' : (y 1).val = n
      · rw [if_neg (by omega), if_pos ⟨e, e'⟩, if_pos ⟨e, by omega⟩, zero_add, e']
      · rw [if_neg (by tauto : ¬ (_ ∧ (y 1).val = n)), add_zero]
        exact if_congr (and_congr_right fun _ => by omega) rfl rfl
    · rw [if_neg fun q => e q.1, if_neg fun q => e q.1, if_neg fun q => e q.1, add_zero]

theorem slab_apply (x : Vec Ideal S8x128x256 .f32) (o : Fin 8) (hB) (i : Fin 128) (j : Fin 256) :
    slab (View.ld x (Rect.unit (s := S8x128x256) ![o.val, 0, 0] S1x128x256.size hB)) (ix2 i j) = x (ix3 o i j) := by
  unfold slab
  pointwise

/-- A head's total, from the branch's arrays. -/
def headTotal (m : Vec Ideal S128x256 .i32) (x : Vec Ideal S8x128x256 .f32) (o : Fin 8) (b : BitVec 32) : EReal :=
  ∑ i : Fin 128, ∑ j : Fin 256, if m (ix2 i j) = b then x (ix3 o i j) else 0

theorem total_slab (m : Vec Ideal S128x256 .i32) (x : Vec Ideal S8x128x256 .f32) (o : Fin 8) (hB) (b : BitVec 32) :
    total (shapeCast S128x256 (View.ld m r0_0) shapeCasts_S128x256_S128x256) (slab (View.ld x (Rect.unit (s := S8x128x256) ![o.val, 0, 0] S1x128x256.size hB))) b
      = headTotal m x o b := by
  unfold total headTotal
  refine Finset.sum_congr rfl fun i _ => Finset.sum_congr rfl fun j _ => ?_
  rw [slab_apply]
  refine if_congr (Eq.congr_left ?_) rfl rfl
  pointwise

/-- The eight heads add, at head `h` and bucket `b`, that head's total of the bucket. -/
theorem heads_apply (m : Vec Ideal S128x256 .i32) (x : Vec Ideal S8x128x256 .f32) (out : FVec Ideal S8x128 .f32) (y : S8x128.Idx) :
    heads m x out y = out y + if (y 1).val < 32 then headTotal m x (y 0) (BitVec.ofNat 32 (y 1).val) else 0 := by
  unfold heads
  simp only [buckets_apply _ _ _ _ y le_rfl, add_assoc]
  refine congrArg (out y + ·) ?_
  generalize BitVec.ofNat 32 (y 1).val = b
  have t := total_slab m x
  rw [show total _ (slab (View.ld x r0_1)) b = _ from t 0 _ b, show total _ (slab (View.ld x r0_2)) b = _ from t 1 _ b, show total _ (slab (View.ld x r0_3)) b = _ from t 2 _ b,
    show total _ (slab (View.ld x r0_4)) b = _ from t 3 _ b, show total _ (slab (View.ld x r0_5)) b = _ from t 4 _ b, show total _ (slab (View.ld x r0_6)) b = _ from t 5 _ b,
    show total _ (slab (View.ld x r0_7)) b = _ from t 6 _ b, show total _ (slab (View.ld x r0_8)) b = _ from t 7 _ b]
  have hk : (y 0 : Fin 8).val < 8 := (y 0).isLt
  generalize (y 0 : Fin 8) = k
  fin_cases k <;> simp

end Cert.BiasChain

end
-- ==== Proof.BiasClaims.lean ====
/- The claims about the gradients by the relative-position table and by the sinks. -/
module

public import proofs.«01_k».proof.Defs
public import proofs.«01_k».proof.Proof.BiasChain
public import proofs.«01_k».proof.Proof.Gen.Bias.Frame
public import proofs.«01_k».proof.Proof.Gen.BiasRefIdeal.Run
public import proofs.«01_k».proof.Proof.Gen.BiasRefIdeal.Read
public import Idealize.ShloMosaic.Adequacy
public import Idealize.ShloMosaic.Init
public import Idealize.ShloMosaic.Lib.StableHlo.RunRead
public import Idealize.ShloMosaic.Lib.KernelVsHost

@[expose] public section

noncomputable section

namespace Cert.BiasClaims

open Idealize.ShloMosaic Idealize.ShloMosaic.TcCoe Idealize.SL.Sem Cert.Lift Cert.BiasBucket

theorem ofBits_zero : Ideal.ofBits .f32 0x00000000#32 = 0 := by simp [Ideal.ofBits, Ideal.ieee]

section kernel
open Cert.BiasIdeal Cert.BiasIdeal.Gen Cert.BiasIdeal.Value Cert.BiasChain

/-- The table's gradient by head and bucket: the three branches' cells, and zero past the last bucket. -/
def table (D0 D1 D2 : S8x128x256.Idx → EReal) (y : S8x128.Idx) : EReal :=
  if h : (y 1).val < 32 then
    cell 1#32 (fun i j => D0 (ix3 (y 0) i j)) ⟨(y 1).val, h⟩ + cell 4#32 (fun i j => D1 (ix3 (y 0) i j)) ⟨(y 1).val, h⟩
      + cell 16#32 (fun i j => D2 (ix3 (y 0) i j)) ⟨(y 1).val, h⟩
  else 0

/-- The sinks' gradient: the rows' sum, negated. -/
def sink (x : S128x512.Idx → EReal) (y : S1x512.Idx) : EReal := -∑ k : Fin 128, x (ix2 k (y 1))

/-- A branch's words by query and key. -/
def words (dil : BitVec 32) : Vec Ideal S128x256 .i32 := fun y => word dil (y 0) (y 1)

theorem out7 (x0 x1 x2 : Vec Ideal S8x128x256 .f32) (x6 : Vec Ideal S128x512 .f32) :
    out0_7 (F := Ideal) x0 x1 x2 (words 1#32) (words 4#32) (words 16#32) x6 = table x0 x1 x2 := by
  rw [out_eq]
  funext y
  refine View.canon_apply_of_pieces (Val := Elt Ideal) (e := .f32) (table x0 x1 x2) _ ?_ y (cover0_7 _ y)
  intro p hp
  simp only [List.mem_cons, List.not_mem_nil, or_false] at hp
  obtain rfl := hp
  intro z
  have ez : r0_9.idx z = z := funext fun a => Fin.ext (by
    match a with
    | ⟨0, _⟩ => show 0 + 1 * (z 0).val = (z 0).val; omega
    | ⟨1, _⟩ => show 0 + 1 * (z 1).val = (z 1).val; omega)
  refine Eq.trans ?_ (congrArg (table x0 x1 x2) ez).symm
  show heads (words 16#32) x2 (heads (words 4#32) x1 (heads (words 1#32) x0 (broadcast S8x128 (Scalar.ofBits .f32 0x00000000#32)))) z = _
  rw [heads_apply, heads_apply, heads_apply]
  unfold table
  have e0 : (broadcast S8x128 (Scalar.ofBits .f32 0x00000000#32) : FVec Ideal S8x128 .f32) z = 0 := by pointwise
  rw [e0, zero_add]
  by_cases h : (z 1).val < 32
  · rw [dif_pos h, if_pos h, if_pos h, if_pos h]; rfl
  · rw [dif_neg h, if_neg h, if_neg h, if_neg h, add_zero, add_zero]

variable (m : (ℓ : Loc nD τ sig) → Buf (Elt Ideal) ℓ) (c : Dev nD)

theorem v35 : (V m c main_v35 : Vec Ideal S128x256 .i32) = words 1#32 := by
  obtain ⟨f, hf⟩ : ∃ f : Vec Ideal S128x256 .i32, f = words 1#32 := ⟨_, rfl⟩
  rw [← hf]
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.cons_append, List.nil_append]
  after_reads_simp
  simp -implicitDefEqProofs only [StableHlo.TRef.ofBuf_toBuf, StableHlo.TRef.toBuf, StableHlo.TRef.ofBuf, cast_eq]
  rw [hf]
  funext y
  obtain ⟨i, j, rfl⟩ : ∃ (i : Fin 128) (j : Fin 256), y = ix2 i j := ⟨y 0, y 1, eq_ix2 y⟩
  show _ = Scalar.select (inBand i j) (bucket (IntOp.muli (BitVec.ofNat 32 (clipNat i j).val) 1#32)) 4294967295#32
  rw [← clip_eq]
  pointwise
  have k : ∀ v, constantI S_ 32 v ix0 = v := fun _ => rfl
  simp only [id_eq, k]
  rfl

theorem v71 : (V m c main_v71 : Vec Ideal S128x256 .i32) = words 4#32 := by
  obtain ⟨f, hf⟩ : ∃ f : Vec Ideal S128x256 .i32, f = words 4#32 := ⟨_, rfl⟩
  rw [← hf]
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.cons_append, List.nil_append]
  after_reads_simp
  simp -implicitDefEqProofs only [StableHlo.TRef.ofBuf_toBuf, StableHlo.TRef.toBuf, StableHlo.TRef.ofBuf, cast_eq]
  rw [hf]
  funext y
  obtain ⟨i, j, rfl⟩ : ∃ (i : Fin 128) (j : Fin 256), y = ix2 i j := ⟨y 0, y 1, eq_ix2 y⟩
  show _ = Scalar.select (inBand i j) (bucket (IntOp.muli (BitVec.ofNat 32 (clipNat i j).val) 4#32)) 4294967295#32
  rw [← clip_eq]
  pointwise
  have k : ∀ v, constantI S_ 32 v ix0 = v := fun _ => rfl
  simp only [id_eq, k]
  rfl

theorem v107 : (V m c main_v107 : Vec Ideal S128x256 .i32) = words 16#32 := by
  obtain ⟨f, hf⟩ : ∃ f : Vec Ideal S128x256 .i32, f = words 16#32 := ⟨_, rfl⟩
  rw [← hf]
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.cons_append, List.nil_append]
  after_reads_simp
  simp -implicitDefEqProofs only [StableHlo.TRef.ofBuf_toBuf, StableHlo.TRef.toBuf, StableHlo.TRef.ofBuf, cast_eq]
  rw [hf]
  funext y
  obtain ⟨i, j, rfl⟩ : ∃ (i : Fin 128) (j : Fin 256), y = ix2 i j := ⟨y 0, y 1, eq_ix2 y⟩
  show _ = Scalar.select (inBand i j) (bucket (IntOp.muli (BitVec.ofNat 32 (clipNat i j).val) 16#32)) 4294967295#32
  rw [← clip_eq]
  pointwise
  have k : ∀ v, constantI S_ 32 v ix0 = v := fun _ => rfl
  simp only [id_eq, k]
  rfl

theorem emb0 (t : Fin cfg0.N) (y : S8x128x256.Idx) : ((cfg0.win 0).blk t).view.emb y = y := by
  have p : (∀ t : Fin grid0.N, (cfg0.win 0).index t 0 = 0) ∧ (∀ t : Fin grid0.N, (cfg0.win 0).index t 1 = 0) ∧ (∀ t : Fin grid0.N, (cfg0.win 0).index t 2 = 0) := by decide +kernel
  funext a
  apply Fin.ext
  match a with
  | ⟨0, _⟩ => show (cfg0.win 0).index t 0 * 8 + 1 * (y 0).val = (y 0).val; rw [p.1 t]; omega
  | ⟨1, _⟩ => show (cfg0.win 0).index t 1 * 128 + 1 * (y 1).val = (y 1).val; rw [p.2.1 t]; omega
  | ⟨2, _⟩ => show (cfg0.win 0).index t 2 * 256 + 1 * (y 2).val = (y 2).val; rw [p.2.2 t]; omega
theorem emb1 (t : Fin cfg0.N) (y : S8x128x256.Idx) : ((cfg0.win 1).blk t).view.emb y = y := by
  have p : (∀ t : Fin grid0.N, (cfg0.win 1).index t 0 = 0) ∧ (∀ t : Fin grid0.N, (cfg0.win 1).index t 1 = 0) ∧ (∀ t : Fin grid0.N, (cfg0.win 1).index t 2 = 0) := by decide +kernel
  funext a
  apply Fin.ext
  match a with
  | ⟨0, _⟩ => show (cfg0.win 1).index t 0 * 8 + 1 * (y 0).val = (y 0).val; rw [p.1 t]; omega
  | ⟨1, _⟩ => show (cfg0.win 1).index t 1 * 128 + 1 * (y 1).val = (y 1).val; rw [p.2.1 t]; omega
  | ⟨2, _⟩ => show (cfg0.win 1).index t 2 * 256 + 1 * (y 2).val = (y 2).val; rw [p.2.2 t]; omega
theorem emb2 (t : Fin cfg0.N) (y : S8x128x256.Idx) : ((cfg0.win 2).blk t).view.emb y = y := by
  have p : (∀ t : Fin grid0.N, (cfg0.win 2).index t 0 = 0) ∧ (∀ t : Fin grid0.N, (cfg0.win 2).index t 1 = 0) ∧ (∀ t : Fin grid0.N, (cfg0.win 2).index t 2 = 0) := by decide +kernel
  funext a
  apply Fin.ext
  match a with
  | ⟨0, _⟩ => show (cfg0.win 2).index t 0 * 8 + 1 * (y 0).val = (y 0).val; rw [p.1 t]; omega
  | ⟨1, _⟩ => show (cfg0.win 2).index t 1 * 128 + 1 * (y 1).val = (y 1).val; rw [p.2.1 t]; omega
  | ⟨2, _⟩ => show (cfg0.win 2).index t 2 * 256 + 1 * (y 2).val = (y 2).val; rw [p.2.2 t]; omega
theorem emb3 (t : Fin cfg0.N) (y : S128x256.Idx) : ((cfg0.win 3).blk t).view.emb y = y := by
  have p : (∀ t : Fin grid0.N, (cfg0.win 3).index t 0 = 0) ∧ (∀ t : Fin grid0.N, (cfg0.win 3).index t 1 = 0) := by decide +kernel
  funext a
  apply Fin.ext
  match a with
  | ⟨0, _⟩ => show (cfg0.win 3).index t 0 * 128 + 1 * (y 0).val = (y 0).val; rw [p.1 t]; omega
  | ⟨1, _⟩ => show (cfg0.win 3).index t 1 * 256 + 1 * (y 1).val = (y 1).val; rw [p.2 t]; omega
theorem emb4 (t : Fin cfg0.N) (y : S128x256.Idx) : ((cfg0.win 4).blk t).view.emb y = y := by
  have p : (∀ t : Fin grid0.N, (cfg0.win 4).index t 0 = 0) ∧ (∀ t : Fin grid0.N, (cfg0.win 4).index t 1 = 0) := by decide +kernel
  funext a
  apply Fin.ext
  match a with
  | ⟨0, _⟩ => show (cfg0.win 4).index t 0 * 128 + 1 * (y 0).val = (y 0).val; rw [p.1 t]; omega
  | ⟨1, _⟩ => show (cfg0.win 4).index t 1 * 256 + 1 * (y 1).val = (y 1).val; rw [p.2 t]; omega
theorem emb5 (t : Fin cfg0.N) (y : S128x256.Idx) : ((cfg0.win 5).blk t).view.emb y = y := by
  have p : (∀ t : Fin grid0.N, (cfg0.win 5).index t 0 = 0) ∧ (∀ t : Fin grid0.N, (cfg0.win 5).index t 1 = 0) := by decide +kernel
  funext a
  apply Fin.ext
  match a with
  | ⟨0, _⟩ => show (cfg0.win 5).index t 0 * 128 + 1 * (y 0).val = (y 0).val; rw [p.1 t]; omega
  | ⟨1, _⟩ => show (cfg0.win 5).index t 1 * 256 + 1 * (y 1).val = (y 1).val; rw [p.2 t]; omega
theorem emb6 (t : Fin cfg0.N) (y : S128x512.Idx) : ((cfg0.win 6).blk t).view.emb y = y := by
  have p : (∀ t : Fin grid0.N, (cfg0.win 6).index t 0 = 0) ∧ (∀ t : Fin grid0.N, (cfg0.win 6).index t 1 = 0) := by decide +kernel
  funext a
  apply Fin.ext
  match a with
  | ⟨0, _⟩ => show (cfg0.win 6).index t 0 * 128 + 1 * (y 0).val = (y 0).val; rw [p.1 t]; omega
  | ⟨1, _⟩ => show (cfg0.win 6).index t 1 * 512 + 1 * (y 1).val = (y 1).val; rw [p.2 t]; omega
theorem emb7 (t : Fin cfg0.N) (y : S8x128.Idx) : ((cfg0.win 7).blk t).view.emb y = y := by
  have p : (∀ t : Fin grid0.N, (cfg0.win 7).index t 0 = 0) ∧ (∀ t : Fin grid0.N, (cfg0.win 7).index t 1 = 0) := by decide +kernel
  funext a
  apply Fin.ext
  match a with
  | ⟨0, _⟩ => show (cfg0.win 7).index t 0 * 8 + 1 * (y 0).val = (y 0).val; rw [p.1 t]; omega
  | ⟨1, _⟩ => show (cfg0.win 7).index t 1 * 128 + 1 * (y 1).val = (y 1).val; rw [p.2 t]; omega
theorem emb8 (t : Fin cfg0.N) (y : S1x512.Idx) : ((cfg0.win 8).blk t).view.emb y = y := by
  have p : (∀ t : Fin grid0.N, (cfg0.win 8).index t 0 = 0) ∧ (∀ t : Fin grid0.N, (cfg0.win 8).index t 1 = 0) := by decide +kernel
  funext a
  apply Fin.ext
  match a with
  | ⟨0, _⟩ => show (cfg0.win 8).index t 0 * 1 + 1 * (y 0).val = (y 0).val; rw [p.1 t]; omega
  | ⟨1, _⟩ => show (cfg0.win 8).index t 1 * 512 + 1 * (y 1).val = (y 1).val; rw [p.2 t]; omega
theorem iblk0 (t : Fin cfg0.N) : (iblk m c 0 t : Vec Ideal S8x128x256 .f32) = m ((c : Thread nD τ).loc main_arg0) := by
  funext y
  show (V m c main_arg0 : Vec Ideal S8x128x256 .f32) (((cfg0.win 0).blk t).view.emb y) = _
  rw [emb0, V_main_arg0]
theorem iblk1 (t : Fin cfg0.N) : (iblk m c 1 t : Vec Ideal S8x128x256 .f32) = m ((c : Thread nD τ).loc main_arg1) := by
  funext y
  show (V m c main_arg1 : Vec Ideal S8x128x256 .f32) (((cfg0.win 1).blk t).view.emb y) = _
  rw [emb1, V_main_arg1]
theorem iblk2 (t : Fin cfg0.N) : (iblk m c 2 t : Vec Ideal S8x128x256 .f32) = m ((c : Thread nD τ).loc main_arg2) := by
  funext y
  show (V m c main_arg2 : Vec Ideal S8x128x256 .f32) (((cfg0.win 2).blk t).view.emb y) = _
  rw [emb2, V_main_arg2]
theorem iblk6 (t : Fin cfg0.N) : (iblk m c 6 t : Vec Ideal S128x512 .f32) = m ((c : Thread nD τ).loc main_arg3) := by
  funext y
  show (V m c main_arg3 : Vec Ideal S128x512 .f32) (((cfg0.win 6).blk t).view.emb y) = _
  rw [emb6, V_main_arg3]
theorem iblk3 (t : Fin cfg0.N) : (iblk m c 3 t : Vec Ideal S128x256 .i32) = words 1#32 := by
  funext y
  show (V m c main_v35 : Vec Ideal S128x256 .i32) (((cfg0.win 3).blk t).view.emb y) = _
  rw [emb3, v35]
theorem iblk4 (t : Fin cfg0.N) : (iblk m c 4 t : Vec Ideal S128x256 .i32) = words 4#32 := by
  funext y
  show (V m c main_v71 : Vec Ideal S128x256 .i32) (((cfg0.win 4).blk t).view.emb y) = _
  rw [emb4, v71]
theorem iblk5 (t : Fin cfg0.N) : (iblk m c 5 t : Vec Ideal S128x256 .i32) = words 16#32 := by
  funext y
  show (V m c main_v107 : Vec Ideal S128x256 .i32) (((cfg0.win 5).blk t).view.emb y) = _
  rw [emb5, v107]

theorem out8 (x0 x1 x2 : Vec Ideal S8x128x256 .f32) (x3 x4 x5 : Vec Ideal S128x256 .i32) (x6 : Vec Ideal S128x512 .f32) :
    out0_8 (F := Ideal) x0 x1 x2 x3 x4 x5 x6 = sink x6 := by
  funext y
  refine (canon8_eq _ y).trans ?_
  unfold E8 sink
  pointwise
  exact zero_sub _

theorem final7 : (dats m 0 c).arrAt 7 cfg0.N = table (m ((c : Thread nD τ).loc main_arg0)) (m ((c : Thread nD τ).loc main_arg1)) (m ((c : Thread nD τ).loc main_arg2)) := by
  funext y
  have t : Fin cfg0.N := ⟨0, by decide +kernel⟩
  have b := congrFun (blocks7 m c t ((by decide +kernel : ∀ t : Fin grid0.N, (cfg0.win 7).flush t = true) t)) y
  rw [flushed7, iblk0, iblk1, iblk2, iblk3, iblk4, iblk5, out7] at b
  have b' : (dats m 0 c).arrAt 7 cfg0.N (((cfg0.win 7).blk t).view.emb y) = _ := b
  rw [emb7] at b'
  exact b'

theorem final8 : (dats m 0 c).arrAt 8 cfg0.N = sink (m ((c : Thread nD τ).loc main_arg3)) := by
  funext y
  have t : Fin cfg0.N := ⟨0, by decide +kernel⟩
  have b := congrFun (blocks8 m c t ((by decide +kernel : ∀ t : Fin grid0.N, (cfg0.win 8).flush t = true) t)) y
  rw [flushed8, iblk6, out8] at b
  have b' : (dats m 0 c).arrAt 8 cfg0.N (((cfg0.win 8).blk t).view.emb y) = _ := b
  rw [emb8] at b'
  exact b'

end kernel

section reference
open Cert.BiasRefIdeal Cert.BiasRefIdeal.Read

/-- An update lands where its start and its window coordinate add up to the cell on every axis. -/
theorem lands {s si u : Shape} (d : ScatterDims s si u) {w : Nat} (j : u.Idx) (idx : IVec si w) (y : s.Idx) :
    d.resultIdx? j idx = some y ↔ ∀ a, d.start j idx a + d.window j a = ((y a).val : ℤ) := by
  unfold ScatterDims.resultIdx?
  constructor
  · intro e a
    split at e
    · rename_i h
      have := congrArg Fin.val (congrFun (Option.some.inj e) a)
      have h0 := (h a).1
      simp only at this
      omega
    · exact absurd e (by simp)
  · intro e
    rw [dif_pos fun a => by rw [e a]; have := (y a).isLt; omega]
    refine congrArg some (funext fun a => Fin.ext ?_)
    show (d.start j idx a + d.window j a).toNat = _
    rw [e a]; rfl

theorem lands1 (idx : IVec S128x256x1 32) (h : Fin 8) (i : Fin 128) (j : Fin 256) (g : Fin 8) (n : Fin 129) :
    scatter_S8x129_S128x256x1_S8x128x256_0_1_1_2.resultIdx? (ix3 h i j) idx = some (ix2 g n) ↔ h = g ∧ (idx (ix3 i j 0)).toInt = (n.val : ℤ) := by
  have s0 : scatter_S8x129_S128x256x1_S8x128x256_0_1_1_2.start (ix3 h i j) idx 0 = 0 := rfl
  have w0 : scatter_S8x129_S128x256x1_S8x128x256_0_1_1_2.window (ix3 h i j) 0 = h.val := rfl
  have s1 : scatter_S8x129_S128x256x1_S8x128x256_0_1_1_2.start (ix3 h i j) idx 1 = (idx (ix3 i j 0)).toInt := by
    refine congrArg (fun k => (idx k).toInt) (funext fun a => ?_)
    match a with | ⟨0, _⟩ => rfl | ⟨1, _⟩ => rfl | ⟨2, _⟩ => rfl
  have w1 : scatter_S8x129_S128x256x1_S8x128x256_0_1_1_2.window (ix3 h i j) 1 = 0 := rfl
  rw [lands]
  constructor
  · intro e
    have e0 := e 0
    have e1 := e 1
    rw [s0, w0] at e0
    rw [s1, w1] at e1
    have e0' : (0 : ℤ) + (h.val : ℤ) = (g.val : ℤ) := e0
    exact ⟨Fin.ext (by omega), by simpa using e1⟩
  · rintro ⟨rfl, e⟩ a
    match a with
    | ⟨0, _⟩ => exact (congrArg₂ (fun (p : ℤ) (q : ℕ) => p + (q : ℤ)) s0 w0).trans (zero_add _)
    | ⟨1, _⟩ => exact (congrArg₂ (fun (p : ℤ) (q : ℕ) => p + (q : ℤ)) s1 w1).trans (by rw [e]; simp)

theorem lands2 (idx : IVec S129x1 32) (k : Fin 129) (h : Fin 8) (b : Fin 32) (g : Fin 8) :
    scatter_S32x8_S129x1_S129x8_1_0_0_1.resultIdx? (ix2 k h) idx = some (ix2 b g) ↔ h = g ∧ (idx (ix2 k 0)).toInt = (b.val : ℤ) := by
  have s1 : scatter_S32x8_S129x1_S129x8_1_0_0_1.start (ix2 k h) idx 1 = 0 := rfl
  have w1 : scatter_S32x8_S129x1_S129x8_1_0_0_1.window (ix2 k h) 1 = h.val := rfl
  have s0 : scatter_S32x8_S129x1_S129x8_1_0_0_1.start (ix2 k h) idx 0 = (idx (ix2 k 0)).toInt := by
    refine congrArg (fun k => (idx k).toInt) (funext fun a => ?_)
    match a with | ⟨0, _⟩ => rfl | ⟨1, _⟩ => rfl
  have w0 : scatter_S32x8_S129x1_S129x8_1_0_0_1.window (ix2 k h) 0 = 0 := rfl
  rw [lands]
  constructor
  · intro e
    have e0 := e 0
    have e1 := e 1
    rw [s0, w0] at e0
    rw [s1, w1] at e1
    have e1' : (0 : ℤ) + (h.val : ℤ) = (g.val : ℤ) := e1
    exact ⟨Fin.ext (by omega), by simpa using e0⟩
  · rintro ⟨rfl, e⟩ a
    match a with
    | ⟨0, _⟩ => exact (congrArg₂ (fun (p : ℤ) (q : ℕ) => p + (q : ℤ)) s0 w0).trans (by rw [e]; simp)
    | ⟨1, _⟩ => exact (congrArg₂ (fun (p : ℤ) (q : ℕ) => p + (q : ℤ)) s1 w1).trans (zero_add _)

/-- A sum over all positions of three axes is the sum over each in turn. -/
theorem sum_idx3 {n0 n1 n2 : Nat} (f : (⟨3, ![n0, n1, n2]⟩ : Shape).Idx → EReal) :
    ∑ z, f z = ∑ h, ∑ i, ∑ j, f (ix3 h i j) := by
  rw [← Fintype.sum_prod_type', ← Fintype.sum_prod_type']
  refine Fintype.sum_equiv ⟨fun z => ((z 0, z 1), z 2), fun p => ix3 p.1.1 p.1.2 p.2, fun z => (eq_ix3 z).symm, fun p => rfl⟩ _ _ fun z => congrArg f (eq_ix3 z)

theorem scatter1 (x : FVec Ideal S8x129 .f32) (idx : IVec S128x256x1 32) (u : FVec Ideal S8x128x256 .f32) (g : Fin 8) (n : Fin 129) :
    (Host.scatterAdd scatter_S8x129_S128x256x1_S8x128x256_0_1_1_2 x idx u : FVec Ideal S8x129 .f32) (ix2 g n)
      = x (ix2 g n) + ∑ i : Fin 128, ∑ j : Fin 256, if (idx (ix3 i j 0)).toInt = (n.val : ℤ) then u (ix3 g i j) else 0 := by
  show x (ix2 g n) + ∑ z ∈ Finset.univ.filter (fun z => scatter_S8x129_S128x256x1_S8x128x256_0_1_1_2.resultIdx? z idx = some (ix2 g n)), u z = _
  rw [Finset.sum_filter]
  refine congrArg (x (ix2 g n) + ·) ((sum_idx3 _).trans ?_)
  simp only [lands1]
  rw [Finset.sum_eq_single g]
  · simp
  · intro h _ hn
    simp [hn]
  · simp

theorem scatter2 (x : FVec Ideal S32x8 .f32) (idx : IVec S129x1 32) (u : FVec Ideal S129x8 .f32) (b : Fin 32) (g : Fin 8) :
    (Host.scatterAdd scatter_S32x8_S129x1_S129x8_1_0_0_1 x idx u : FVec Ideal S32x8 .f32) (ix2 b g)
      = x (ix2 b g) + ∑ n : Fin 129, if (idx (ix2 n 0)).toInt = (b.val : ℤ) then u (ix2 n g) else 0 := by
  show x (ix2 b g) + ∑ z ∈ Finset.univ.filter (fun z => scatter_S32x8_S129x1_S129x8_1_0_0_1.resultIdx? z idx = some (ix2 b g)), u z = _
  rw [Finset.sum_filter]
  refine congrArg (x (ix2 b g) + ·) ((sum_idx2 _).trans ?_)
  simp only [lands2]
  refine Finset.sum_congr rfl fun n _ => ?_
  rw [Finset.sum_eq_single g]
  · simp
  · intro h _ hn
    simp [hn]
  · simp

variable (x0 x1 x2 : FVec Ideal S8x128x256 .f32)

/-- The positions the three branches read from the clipped distances, and from the buckets. -/
theorem near (i : Fin 128) (j : Fin 256) : (val_main_v50 (F := Ideal) : IVec S128x256x1 32) (ix3 i j 0) = BitVec.ofNat 32 (clipNat i j).val := by
  refine Eq.trans ?_ (norm_eq (clipNat i j))
  rw [← clip_eq]
  pointwise
  rfl
theorem at1 (n : Fin 129) : (val_main_v27 (F := Ideal) : IVec S129x1 32) (ix2 n 0) = bucketOf 1#32 n := by
  refine Eq.trans ?_ (norm_bucket (Or.inl rfl) n)
  pointwise
  rfl
theorem at4 (n : Fin 129) : (val_main_v79 (F := Ideal) : IVec S129x1 32) (ix2 n 0) = bucketOf 4#32 n := by
  refine Eq.trans ?_ (norm_bucket (Or.inr (Or.inl rfl)) n)
  pointwise
  rfl
theorem at16 (n : Fin 129) : (val_main_v131 (F := Ideal) : IVec S129x1 32) (ix2 n 0) = bucketOf 16#32 n := by
  refine Eq.trans ?_ (norm_bucket (Or.inr (Or.inr rfl)) n)
  pointwise
  rfl

theorem masked (x : FVec Ideal S8x128x256 .f32) (h : Fin 8) (i : Fin 128) (j : Fin 256) :
    (val_main_v170 (F := Ideal) x : FVec Ideal S8x128x256 .f32) (ix3 h i j) = Scalar.select (inBand i j) (x (ix3 h i j)) 0 := by
  refine Eq.trans ?_ (congrArg (Scalar.select (inBand i j) (x (ix3 h i j))) ofBits_zero)
  rfl

theorem toInt_near (k n : Fin 129) : (BitVec.ofNat 32 k.val).toInt = (n.val : ℤ) ↔ k = n := by
  rw [(by decide +kernel : ∀ k : Fin 129, (BitVec.ofNat 32 k.val).toInt = (k.val : ℤ)) k]
  constructor
  · intro e; exact Fin.ext (by exact_mod_cast e)
  · rintro rfl; rfl
theorem toInt_at (w : BitVec 32) (b : Fin 32) : w.toInt = (b.val : ℤ) ↔ w = BitVec.ofNat 32 b.val := by
  rw [← (by decide +kernel : ∀ b : Fin 32, (BitVec.ofNat 32 b.val).toInt = (b.val : ℤ)) b]
  exact BitVec.toInt_inj

/-- One branch: a scatter by clipped distance, then one by bucket, is the cell's own sum. -/
theorem branch {dil : BitVec 32} (z1 : FVec Ideal S8x129 .f32) (z2 : FVec Ideal S32x8 .f32) (t : FVec Ideal S129x8 .f32) (idx : IVec S129x1 32)
    (hz1 : ∀ h n, z1 (ix2 h n) = 0) (hz2 : ∀ b h, z2 (ix2 b h) = 0) (hb : ∀ n, idx (ix2 n 0) = bucketOf dil n)
    (ht : ∀ n h, t (ix2 n h) = (Host.scatterAdd scatter_S8x129_S128x256x1_S8x128x256_0_1_1_2 z1 (val_main_v50 (F := Ideal)) (val_main_v170 (F := Ideal) x0) : FVec Ideal S8x129 .f32) (ix2 h n))
    (b : Fin 32) (h : Fin 8) :
    (Host.scatterAdd scatter_S32x8_S129x1_S129x8_1_0_0_1 z2 idx t : FVec Ideal S32x8 .f32) (ix2 b h) = cell dil (fun i j => x0 (ix3 h i j)) b := by
  rw [scatter2, hz2, zero_add, ← cell_eq]
  refine Finset.sum_congr rfl fun n _ => ?_
  rw [hb]
  simp only [toInt_at]
  refine if_congr Iff.rfl ?_ rfl
  rw [ht, scatter1, hz1, zero_add]
  refine Finset.sum_congr rfl fun i _ => Finset.sum_congr rfl fun j _ => ?_
  rw [near, masked]
  simp only [toInt_near]

theorem zero1 (h : Fin 8) (n : Fin 129) : (val_main_v171 (F := Ideal) : FVec Ideal S8x129 .f32) (ix2 h n) = 0 := ofBits_zero
theorem zero2 (b : Fin 32) (h : Fin 8) : (val_main_v174 (F := Ideal) : FVec Ideal S32x8 .f32) (ix2 b h) = 0 := ofBits_zero
theorem near4 : (val_main_v102 (F := Ideal) : IVec S128x256x1 32) = val_main_v50 (F := Ideal) := rfl
theorem near16 : (val_main_v154 (F := Ideal) : IVec S128x256x1 32) = val_main_v50 (F := Ideal) := rfl
theorem masked4 : (val_main_v163 (F := Ideal) x1 : FVec Ideal S8x128x256 .f32) = val_main_v170 (F := Ideal) x1 := rfl
theorem masked16 : (val_main_v157 (F := Ideal) x2 : FVec Ideal S8x128x256 .f32) = val_main_v170 (F := Ideal) x2 := rfl
theorem flip2 (n : Fin 129) (h : Fin 8) : idx_main_v173 (ix2 n h) = ix2 h n := funext fun a => by match a with | ⟨0, _⟩ => rfl | ⟨1, _⟩ => rfl

theorem sum1 (b : Fin 32) (h : Fin 8) : (val_main_v175 (F := Ideal) x0 : FVec Ideal S32x8 .f32) (ix2 b h) = cell 1#32 (fun i j => x0 (ix3 h i j)) b := by
  rw [val_main_v175]
  refine branch x0 (val_main_v171 (F := Ideal)) _ _ _ zero1 zero2 at1 (fun n h => ?_) b h
  rw [val_main_v173_apply, val_main_v172, flip2]
theorem sum4 (b : Fin 32) (h : Fin 8) : (val_main_v168 (F := Ideal) x1 : FVec Ideal S32x8 .f32) (ix2 b h) = cell 4#32 (fun i j => x1 (ix3 h i j)) b := by
  rw [val_main_v168]
  refine branch x1 (val_main_v164 (F := Ideal)) _ _ _ zero1 zero2 at4 (fun n h => ?_) b h
  rw [val_main_v166_apply, val_main_v165, near4, masked4]
  exact congrArg _ (flip2 n h)
theorem sum16 (b : Fin 32) (h : Fin 8) : (val_main_v162 (F := Ideal) x2 : FVec Ideal S32x8 .f32) (ix2 b h) = cell 16#32 (fun i j => x2 (ix3 h i j)) b := by
  rw [val_main_v162]
  refine branch x2 (val_main_v158 (F := Ideal)) _ _ _ zero1 zero2 at16 (fun n h => ?_) b h
  rw [val_main_v160_apply, val_main_v159, near16, masked16]
  exact congrArg _ (flip2 n h)

theorem res0 : (val_main_v178 (F := Ideal) x0 x1 x2 : Vec Ideal S8x128 .f32) = table x0 x1 x2 := by
  funext y
  obtain ⟨g, l, rfl⟩ : ∃ (g : Fin 8) (l : Fin 128), y = ix2 g l := ⟨y 0, y 1, eq_ix2 y⟩
  unfold table
  by_cases h : l.val < 32
  · have e : (val_main_v178 (F := Ideal) x0 x1 x2 : Vec Ideal S8x128 .f32) (ix2 g l) = (val_main_v177 (F := Ideal) x0 x1 x2 : Vec Ideal S8x32 .f32) (ix2 g ⟨l.val, h⟩) := by
      rw [val_main_v178]
      exact pad_apply_of_inside _ _ _ _ _ _ _ _ (ix2 g ⟨l.val, h⟩) (fun a => by match a with | ⟨0, _⟩ => simp | ⟨1, _⟩ => simp)
    have e' : (val_main_v177 (F := Ideal) x0 x1 x2 : Vec Ideal S8x32 .f32) (ix2 g ⟨l.val, h⟩) = (val_main_v176 (F := Ideal) x0 x1 x2 : Vec Ideal S32x8 .f32) (ix2 ⟨l.val, h⟩ g) :=
      (val_main_v177_apply (F := Ideal) x0 x1 x2 _).trans (congrArg _ (funext fun a => by match a with | ⟨0, _⟩ => rfl | ⟨1, _⟩ => rfl))
    rw [e, e', val_main_v176_apply, val_main_v169_apply, sum1, sum4, sum16, dif_pos (show ((ix2 g l : S8x128.Idx) 1).val < 32 from h)]
    exact (add_comm (cell 16#32 _ _ + cell 4#32 _ _) (cell 1#32 _ _)).trans ((congrArg _ (add_comm _ _)).trans (add_assoc _ _ _).symm)
  · have e : (val_main_v178 (F := Ideal) x0 x1 x2 : Vec Ideal S8x128 .f32) (ix2 g l) = 0 := by
      rw [val_main_v178]
      refine (pad_apply_of_not_inside _ _ _ _ _ _ _ _ (1 : Fin 2) ?_).trans ?_
      · rintro ⟨-, -, e⟩
        have e' : (l.val - 0) / 1 < 32 := e
        omega
      · show (((0#32 : BitVec 32).toInt : ℝ) : EReal) = 0
        simp
    rw [e, dif_neg (show ¬ ((ix2 g l : S8x128.Idx) 1).val < 32 from h)]

theorem res1 (x : FVec Ideal S128x512 .f32) : (val_main_v181 (F := Ideal) x : Vec Ideal S1x512 .f32) = sink x := by
  funext y
  rw [val_main_v181_apply, val_main_v180_apply, val_main_v179_apply]
  refine congrArg (fun a : EReal => -a) ((congrArg₂ (· + ·) ofBits_zero (Finset.sum_congr rfl fun k _ => congrArg x (funext fun a => ?_))).trans (zero_add _))
  match a with | ⟨0, _⟩ => rfl | ⟨1, _⟩ => rfl

end reference

theorem frame_p : quiescent_Bias := fun m ρ _ => Cert.Bias.Gen.frame m ρ
theorem frame_pi : quiescent_BiasIdeal := fun m ρ _ => Cert.BiasIdeal.Gen.frame m ρ
theorem frame_ri : quiescent_BiasRefIdeal := fun m ρ _ =>
  (θ_run Cert.BiasRefIdeal.defs _ _).mono
    (fun r h => ⟨fun c => (h c).2.2, sem_eq_zero_of_no_sems (by decide) r.2⟩) (Cert.BiasRefIdeal.Value.run (F := Ideal) m ρ)

theorem algebraic : algebraic_BiasIdeal_BiasRefIdeal := by
  intro m ρ m' ρ' _ hagree
  refine ⟨_, _, Cert.BiasIdeal.Value.run_blocks m ρ, ?_⟩
  refine (θ_run Cert.BiasRefIdeal.defs _ _).mono (fun r h c => ?_) (Cert.BiasRefIdeal.Value.run (F := Ideal) m' ρ')
  obtain ⟨a0, a1, a2, a3⟩ := hagree c
  obtain ⟨h0, h1, rest⟩ := h c
  have a0' : StableHlo.launchContents m' c (Proc.tc.devRef Cert.BiasRefIdeal.main_arg0) = _ := a0
  have a1' : StableHlo.launchContents m' c (Proc.tc.devRef Cert.BiasRefIdeal.main_arg1) = _ := a1
  have a2' : StableHlo.launchContents m' c (Proc.tc.devRef Cert.BiasRefIdeal.main_arg2) = _ := a2
  have a3' : StableHlo.launchContents m' c (Proc.tc.devRef Cert.BiasRefIdeal.main_arg3) = _ := a3
  rw [Cert.BiasRefIdeal.Read.val_main_v178_eq, a0', a1', a2'] at h0
  rw [Cert.BiasRefIdeal.Read.val_main_v181_eq, a3'] at h1
  exact ⟨h0.trans ((res0 _ _ _).trans (final7 m c).symm), h1.trans ((res1 _).trans (final8 m c).symm), rest⟩

end Cert.BiasClaims

end
-- ==== Proof.ProjBlock.lean ====
/- One grid point of the normed projections' kernel: the product with the widened weights, and the rotation of a chunk of lanes. -/
module

public import Idealize.ShloMosaic.Lib.Pipeline.RowLoads
public import Idealize.ShloMosaic.Lib.Pipeline.ReadBack
public import Idealize.ShloMosaic.Lib.Pipeline.ValueKit.Tiles
public import Idealize.ShloMosaic.Lib.Tactic
public import proofs.«01_k».proof.Proof.Lift
public import proofs.«01_k».proof.Proof.Gen.ProjIdeal.Skeleton

@[expose] public section

noncomputable section

namespace Cert.ProjBlock

open Idealize.ShloMosaic Idealize.ShloMosaic.TcCoe Idealize.SL.Sem
open Cert.ProjIdeal Cert.ProjIdeal.Gen Cert.Lift

/-- The scale of the queries. -/
def sc : EReal := Ideal.ofBits .f32 0x3E000000#32

/-- A column of the product with the widened weights, the bias added. -/
def yv (H : S512x1024.Idx → EReal) (W : S2560x1024.Idx → EReal) (B : S1x2560.Idx → EReal) (n : Fin 512) (e : ℕ) : EReal :=
  if h : e < 2560 then (∑ d : Fin 1024, H (ix2 n d) * W (ix2 ⟨e, h⟩ d)) + B (ix2 0 ⟨e, h⟩) else 0

/-- A chunk of 128 lanes, each head of 64 rotated in its two halves. -/
def rot (t : ℕ → EReal) (c s : EReal) (k : ℕ) : EReal := t k * c + (if k % 64 < 32 then t (k + 32) else t (k - 32)) * s

section chunk
variable (H : S512x1024.Idx → EReal) (W : S2560x1024.Idx → EReal) (B : S1x2560.Idx → EReal) (C S : S512x128.Idx → EReal)

theorem prod (o : ℕ) (ho : o + 256 ≤ 2560) (hA : ∀ a, (![o, 0] : Fin 2 → ℕ) a + S256x1024.size a ≤ S2560x1024.size a)
    (hB : ∀ a, (![0, o] : Fin 2 → ℕ) a + S1x256.size a ≤ S1x2560.size a) (n : Fin 512) (k : Fin 256) :
    k0_pay9 (F := Ideal) H (View.ld (Val := Elt Ideal) (e' := .bf16) W (Rect.unit (s := S2560x1024) ![o, 0] S256x1024.size hA))
      (View.ld (Val := Elt Ideal) (e' := .f32) B (Rect.unit (s := S1x2560) ![0, o] S1x256.size hB)) (ix2 n k) = yv H W B n (o + k.val) := by
  rw [yv, dif_pos (show o + k.val < 2560 by omega)]
  generalize hR : (∑ d : Fin 1024, H (ix2 n d) * W (ix2 ⟨o + k.val, by omega⟩ d)) + B (ix2 0 ⟨o + k.val, by omega⟩) = R
  unfold k0_pay9
  pointwise
  exact hR

theorem mask (n : Fin 512) (k : Fin 128) : k0_pay8 k0_pay7 32#32 (ix2 n k) = if k.val % 64 < 32 then 1#1 else 0#1 := by
  unfold k0_pay8 k0_pay7
  pointwise
  revert k
  decide +kernel

/-- The two chunks of a product of 256 columns, each rotated. -/
theorem rotated (y : S512x256.Idx → EReal) (t : ℕ → EReal) (n : Fin 512) (hy : ∀ k : Fin 256, y (ix2 n k) = t k.val) (b : ℕ) (hb : b + 128 ≤ 256) (k : Fin 128) (c s : EReal)
    (M : BitVec 1) (hm : M = if k.val % 64 < 32 then 1#1 else 0#1) (i0 : Fin 256) (i1 : Fin 256) (i2 : Fin 256) (h0 : i0.val = b + k.val)
    (h1 : i1.val = b + (k.val + 128 - 96) % 128) (h2 : i2.val = b + (k.val + 128 - 32) % 128) :
    y (ix2 n i0) * c + Scalar.select M (y (ix2 n i1)) (y (ix2 n i2)) * s = rot (fun j => t (b + j)) c s k.val := by
  subst hm
  rw [hy, hy, hy, h0, h1, h2]
  unfold rot
  by_cases h : k.val % 64 < 32
  · rw [if_pos h, if_pos h]
    show _ + t _ * s = _
    rw [show (k.val + 128 - 96) % 128 = k.val + 32 by omega]
  · rw [if_neg h, if_neg h]
    show _ + t _ * s = _
    rw [show (k.val + 128 - 32) % 128 = k.val - 32 by omega]

section y
variable (y : S512x256.Idx → EReal) (t : ℕ → EReal) (n : Fin 512) (hy : ∀ k : Fin 256, y (ix2 n k) = t k.val) (k : Fin 128)
include hy

theorem q13 : k0_pay13 (F := Ideal) C S (k0_pay8 k0_pay7 32#32) y (ix2 n k) = rot (fun j => t (0 + j)) (C (ix2 n k)) (S (ix2 n k)) k.val * sc := by
  generalize hR : rot (fun j => t (0 + j)) (C (ix2 n k)) (S (ix2 n k)) k.val * sc = R
  unfold k0_pay13
  have hm := mask n k
  generalize k0_pay8 k0_pay7 32#32 = M at *
  pointwise
  rw [← hR]
  exact congrArg (· * sc) (rotated y t n hy 0 (by norm_num) k _ _ _ hm _ _ _ (Nat.zero_add _).symm (Nat.zero_add _).symm (Nat.zero_add _).symm)

theorem q14 : k0_pay14 (F := Ideal) C S (k0_pay8 k0_pay7 32#32) y (ix2 n k) = rot (fun j => t (128 + j)) (C (ix2 n k)) (S (ix2 n k)) k.val * sc := by
  generalize hR : rot (fun j => t (128 + j)) (C (ix2 n k)) (S (ix2 n k)) k.val * sc = R
  unfold k0_pay14
  have hm := mask n k
  generalize k0_pay8 k0_pay7 32#32 = M at *
  pointwise
  rw [← hR]
  exact congrArg (· * sc) (rotated y t n hy 128 (by norm_num) k _ _ _ hm _ _ _ rfl rfl rfl)

theorem q16 (p : S512x128.Idx → EReal) (hp : p = k0_pay17 (F := Ideal) C S (k0_pay8 k0_pay7 32#32) y) : p (ix2 n k) = rot (fun j => t (128 + j)) (C (ix2 n k)) (S (ix2 n k)) k.val := by
  generalize hR : rot (fun j => t (128 + j)) (C (ix2 n k)) (S (ix2 n k)) k.val = R
  subst hp
  unfold k0_pay17
  have hm := mask n k
  generalize k0_pay8 k0_pay7 32#32 = M at *
  pointwise
  rw [← hR]
  exact rotated y t n hy 128 (by norm_num) k _ _ _ hm _ _ _ rfl rfl rfl

end y

theorem q16' (X : S256x1024.Idx → EReal) (Y : S1x256.Idx → EReal) (t : ℕ → EReal) (n : Fin 512) (hy : ∀ k : Fin 256, k0_pay9 (F := Ideal) H X Y (ix2 n k) = t k.val) (k : Fin 128) :
    k0_pay16 (F := Ideal) H C S (k0_pay8 k0_pay7 32#32) X Y (ix2 n k) = rot (fun j => t (0 + j)) (C (ix2 n k)) (S (ix2 n k)) k.val := by
  generalize hR : rot (fun j => t (0 + j)) (C (ix2 n k)) (S (ix2 n k)) k.val = R
  unfold k0_pay16
  have hm := mask n k
  generalize k0_pay8 k0_pay7 32#32 = M at *
  rw [show k0_pay15 (F := Ideal) H X Y = k0_pay9 (F := Ideal) H X Y from rfl]
  generalize k0_pay9 (F := Ideal) H X Y = y at *
  pointwise
  rw [← hR]
  exact rotated y t n hy 0 (by norm_num) k _ _ _ hm _ _ _ (Nat.zero_add _).symm (Nat.zero_add _).symm (Nat.zero_add _).symm

theorem q10 (X : S256x1024.Idx → EReal) (Y : S1x256.Idx → EReal) : k0_pay10 (F := Ideal) H C S k0_pay7 32#32 X Y = k0_pay13 (F := Ideal) C S (k0_pay8 k0_pay7 32#32) (k0_pay9 (F := Ideal) H X Y) := rfl
theorem q11 (X : S256x1024.Idx → EReal) (Y : S1x256.Idx → EReal) : k0_pay11 (F := Ideal) H C S k0_pay7 32#32 X Y = k0_pay14 (F := Ideal) C S (k0_pay8 k0_pay7 32#32) (k0_pay9 (F := Ideal) H X Y) := rfl
theorem q12 (X : S256x1024.Idx → EReal) (Y : S1x256.Idx → EReal) : k0_pay12 (F := Ideal) H X Y = k0_pay9 (F := Ideal) H X Y := rfl
theorem q15 (X : S256x1024.Idx → EReal) (Y : S1x256.Idx → EReal) : k0_pay15 (F := Ideal) H X Y = k0_pay9 (F := Ideal) H X Y := rfl

theorem q19 (X : S256x1024.Idx → EReal) (Y : S1x256.Idx → EReal) (n : Fin 512) (k : Fin 128) : k0_pay19 (F := Ideal) H X Y (ix2 n k) = k0_pay9 (F := Ideal) H X Y (ix2 n ⟨k.val, by omega⟩) := by
  unfold k0_pay19
  rw [show k0_pay18 (F := Ideal) H X Y = k0_pay9 (F := Ideal) H X Y from rfl]
  generalize k0_pay9 (F := Ideal) H X Y = y
  pointwise

theorem q20 (X : S256x1024.Idx → EReal) (Y : S1x256.Idx → EReal) (n : Fin 512) (k : Fin 128) : k0_pay20 (F := Ideal) H X Y (ix2 n k) = k0_pay9 (F := Ideal) H X Y (ix2 n ⟨128 + k.val, by omega⟩) := by
  unfold k0_pay20
  rw [show k0_pay18 (F := Ideal) H X Y = k0_pay9 (F := Ideal) H X Y from rfl]
  generalize k0_pay9 (F := Ideal) H X Y = y
  pointwise

/-- The four planes' payloads, scaled or not, read at an index. -/
theorem q22 (X : S256x1024.Idx → EReal) (Y : S1x256.Idx → EReal) (z : Fin 1) (n : Fin 512) (k : Fin 128) : k0_pay22 (F := Ideal) H X Y (ix3 z n k) = k0_pay9 (F := Ideal) H X Y (ix2 n ⟨k.val, by omega⟩) * sc := by
  unfold k0_pay22
  rw [show k0_pay21 (F := Ideal) H X Y = fun j => k0_pay9 (F := Ideal) H X Y j * sc from rfl]
  generalize k0_pay9 (F := Ideal) H X Y = y
  pointwise

theorem q23 (X : S256x1024.Idx → EReal) (Y : S1x256.Idx → EReal) (z : Fin 1) (n : Fin 512) (k : Fin 128) : k0_pay23 (F := Ideal) (k0_pay21 (F := Ideal) H X Y) (ix3 z n k) = k0_pay9 (F := Ideal) H X Y (ix2 n ⟨128 + k.val, by omega⟩) * sc := by
  unfold k0_pay23
  rw [show k0_pay21 (F := Ideal) H X Y = fun j => k0_pay9 (F := Ideal) H X Y j * sc from rfl]
  generalize k0_pay9 (F := Ideal) H X Y = y
  pointwise

theorem q25 (X : S256x1024.Idx → EReal) (Y : S1x256.Idx → EReal) : k0_pay25 (F := Ideal) H X Y = k0_pay22 (F := Ideal) H X Y := rfl
theorem q26 (X : S256x1024.Idx → EReal) (Y : S1x256.Idx → EReal) : k0_pay26 (F := Ideal) H X Y = k0_pay23 (F := Ideal) (k0_pay21 (F := Ideal) H X Y) := rfl

theorem q112 (X : S256x1024.Idx → EReal) (Y : S1x256.Idx → EReal) (z : Fin 1) (n : Fin 512) (k : Fin 128) : k0_pay112 (F := Ideal) H X Y (ix3 z n k) = k0_pay9 (F := Ideal) H X Y (ix2 n ⟨k.val, by omega⟩) := by
  unfold k0_pay112
  rw [show k0_pay111 (F := Ideal) H X Y = k0_pay9 (F := Ideal) H X Y from rfl]
  generalize k0_pay9 (F := Ideal) H X Y = y
  pointwise

theorem q113 (X : S256x1024.Idx → EReal) (Y : S1x256.Idx → EReal) (z : Fin 1) (n : Fin 512) (k : Fin 128) : k0_pay113 (F := Ideal) (k0_pay111 (F := Ideal) H X Y) (ix3 z n k) = k0_pay9 (F := Ideal) H X Y (ix2 n ⟨128 + k.val, by omega⟩) := by
  unfold k0_pay113
  rw [show k0_pay111 (F := Ideal) H X Y = k0_pay9 (F := Ideal) H X Y from rfl]
  generalize k0_pay9 (F := Ideal) H X Y = y
  pointwise

theorem q115 (X : S256x1024.Idx → EReal) (Y : S1x256.Idx → EReal) : k0_pay115 (F := Ideal) H X Y = k0_pay112 (F := Ideal) H X Y := rfl
theorem q116 (X : S256x1024.Idx → EReal) (Y : S1x256.Idx → EReal) : k0_pay116 (F := Ideal) H X Y = k0_pay113 (F := Ideal) (k0_pay111 (F := Ideal) H X Y) := rfl
theorem q202 (X : S256x1024.Idx → EReal) (Y : S1x256.Idx → EReal) : k0_pay202 (F := Ideal) H X Y = k0_pay112 (F := Ideal) H X Y := rfl
theorem q204 (X : S256x1024.Idx → EReal) (Y : S1x256.Idx → EReal) : k0_pay204 (F := Ideal) (k0_pay203 (F := Ideal) H X Y) = k0_pay113 (F := Ideal) (k0_pay111 (F := Ideal) H X Y) := rfl
theorem q206 (X : S256x1024.Idx → EReal) (Y : S1x256.Idx → EReal) : k0_pay206 (F := Ideal) H X Y = k0_pay112 (F := Ideal) H X Y := rfl
theorem q207 (X : S256x1024.Idx → EReal) (Y : S1x256.Idx → EReal) : k0_pay207 (F := Ideal) H X Y = k0_pay113 (F := Ideal) (k0_pay111 (F := Ideal) H X Y) := rfl

theorem q27 (X : S1x512x128.Idx → EReal) (n : Fin 512) (k : Fin 128) : k0_pay27 (F := Ideal) X (ix2 n k) = X (ix3 0 n k) := by
  unfold k0_pay27
  pointwise

theorem q5 (X : S512x128.Idx → EReal) : k0_pay5 (F := Ideal) X = X := by
  funext y
  unfold k0_pay5
  pointwise
theorem q6 (X : S512x128.Idx → EReal) : k0_pay6 (F := Ideal) X = X := q5 X
end chunk

end Cert.ProjBlock

end
-- ==== Proof.ProjPlane.lean ====
/- One grid point of the normed projections' kernel: its blocks as functions of the input blocks, and the scratch of four planes
   through which the rows go to the dilated layouts. -/
module

public import Idealize.ShloMosaic.Lib.Ring
public import proofs.«01_k».proof.Proof.ProjBlock

@[expose] public section

noncomputable section

namespace Cert.ProjPlane

open Idealize.ShloMosaic Idealize.ShloMosaic.TcCoe Idealize.SL.Sem
open Cert.ProjIdeal Cert.ProjIdeal.Gen Cert.Lift Cert.ProjBlock

theorem hz : (![0, 0] : Fin 2 → Nat) = fun _ => 0 := funext fun a => by fin_cases a <;> rfl

theorem narrow {s : Shape} (x : FVec Ideal s .f32) (h : FTy.bf16.bits < FTy.f32.bits) : truncf (F := Ideal) .bf16 x h = x := rfl

/-! ## The blocks -/

section blocks
variable (H : S512x1024.Idx → EReal) (W : S2560x1024.Idx → EReal) (B : S1x2560.Idx → EReal) (C S : S512x128.Idx → EReal)

/-- The lane of a column within its chunk of 128. -/
def lane (k : ℕ) : Fin 128 := ⟨k % 128, Nat.mod_lt _ (by norm_num)⟩

/-- The rotated columns from `b` on, unscaled. -/
def rotb (b : ℕ) (n : Fin 512) (k : ℕ) : EReal := rot (fun j => yv H W B n (b + 128 * (k / 128) + j)) (C (ix2 n (lane k))) (S (ix2 n (lane k))) (k % 128)

def qab (y : S512x512.Idx) : EReal := rotb H W B C S 0 (y 0) (y 1).val * sc
def kab (y : S512x256.Idx) : EReal := rotb H W B C S 512 (y 0) (y 1).val
def vab (y : S512x256.Idx) : EReal := yv H W B (y 0) (768 + (y 1).val)
def qbb (y : S512x512.Idx) : EReal := yv H W B (y 0) (1024 + (y 1).val) * sc
def pb (b : ℕ) (y : S512x512.Idx) : EReal := yv H W B (y 0) (b + (y 1).val)

theorem rotb_at (b o e : ℕ) (w : ℕ) (hoe : o = 128 * e) (E : ∀ a, (![0, o] : Fin 2 → ℕ) a + (![512, 128] : Fin 2 → ℕ) a ≤ (⟨2, ![512, w]⟩ : Shape).size a) (n : Fin 512) (k : Fin 128)
    (t : ℕ → EReal) (ht : ∀ j, t j = yv H W B n (b + o + j)) :
    rot t (C (ix2 n k)) (S (ix2 n k)) k.val = rotb H W B C S b (((Rect.unit (s := ⟨2, ![512, w]⟩) ![0, o] ![512, 128] E).idx (ix2 n k)) 0) (((Rect.unit (s := ⟨2, ![512, w]⟩) ![0, o] ![512, 128] E).idx (ix2 n k)) 1).val := by
  have e0 : (((Rect.unit (s := ⟨2, ![512, w]⟩) ![0, o] ![512, 128] E).idx (ix2 n k)) 0 : Fin 512) = n := Fin.ext ((Rect.idx_unit_val _ _ _ _ _).trans (Nat.zero_add _))
  have e1 : (((Rect.unit (s := ⟨2, ![512, w]⟩) ![0, o] ![512, 128] E).idx (ix2 n k)) 1).val = o + k.val := Rect.idx_unit_val _ _ _ _ _
  rw [e1]
  refine Eq.trans ?_ (congrArg (fun i : Fin 512 => rotb H W B C S b i (o + k.val)) e0.symm)
  show _ = rotb H W B C S b n (o + k.val)
  unfold rotb
  rw [show lane (o + k.val) = k from Fin.ext (by show (o + k.val) % 128 = k.val; omega), show (o + k.val) % 128 = k.val by omega, show 128 * ((o + k.val) / 128) = o by omega,
    show t = _ from funext ht]

theorem yv_at (b o : ℕ) (w : ℕ) (E : ∀ a, (![0, o] : Fin 2 → ℕ) a + (![512, 128] : Fin 2 → ℕ) a ≤ (⟨2, ![512, w]⟩ : Shape).size a) (n : Fin 512) (k : Fin 128) :
    yv H W B n (b + o + k.val) = yv H W B (((Rect.unit (s := ⟨2, ![512, w]⟩) ![0, o] ![512, 128] E).idx (ix2 n k)) 0) (b + (((Rect.unit (s := ⟨2, ![512, w]⟩) ![0, o] ![512, 128] E).idx (ix2 n k)) 1).val) := by
  have e0 : (((Rect.unit (s := ⟨2, ![512, w]⟩) ![0, o] ![512, 128] E).idx (ix2 n k)) 0 : Fin 512) = n := Fin.ext ((Rect.idx_unit_val _ _ _ _ _).trans (Nat.zero_add _))
  have e1 : (((Rect.unit (s := ⟨2, ![512, w]⟩) ![0, o] ![512, 128] E).idx (ix2 n k)) 1).val = o + k.val := Rect.idx_unit_val _ _ _ _ _
  rw [e1, ← Nat.add_assoc]
  exact congrArg (fun i : Fin 512 => yv H W B i (b + o + k.val)) e0.symm

end blocks

/-! ## The scratch -/

/-- Rows `dil` apart laid side by side: an array of `n` rows and `w` columns read off the four planes. -/
def restride (n w dil : ℕ) (P : S4x512x128.Idx → EReal) (y : (⟨2, ![n, w]⟩ : Shape).Idx) : EReal :=
  P (ix3 ⟨(y 1).val / 128 % 4, Nat.mod_lt _ (by norm_num)⟩ ⟨(dil * (y 0).val + (y 1).val / 512) % 512, Nat.mod_lt _ (by norm_num)⟩
    ⟨(y 1).val % 128, Nat.mod_lt _ (by norm_num)⟩)

/-- The planes of an array of 512 columns. -/
def planes (D : S512x512.Idx → EReal) (y : S4x512x128.Idx) : EReal :=
  D (ix2 (y 1) ⟨128 * (y 0).val + (y 2).val, by have h : (y 0).val < 4 := (y 0).isLt; have h' : (y 2).val < 128 := (y 2).isLt; omega⟩)

theorem canon_planes (D : S512x512.Idx → EReal) (p0 p1 p2 p3 : S1x512x128.Idx → EReal)
    (h0 : ∀ z n (k : Fin 128), p0 (ix3 z n k) = D (ix2 n ⟨k.val, by omega⟩)) (h1 : ∀ z n (k : Fin 128), p1 (ix3 z n k) = D (ix2 n ⟨128 + k.val, by omega⟩))
    (h2 : ∀ z n (k : Fin 128), p2 (ix3 z n k) = D (ix2 n ⟨256 + k.val, by omega⟩)) (h3 : ∀ z n (k : Fin 128), p3 (ix3 z n k) = D (ix2 n ⟨384 + k.val, by omega⟩))
    (L' : List (View.Piece (Elt Ideal) S4x512x128 .f32)) :
    View.canon (Val := Elt Ideal) (s := S4x512x128) (e := .f32)
      (⟨Rect.unit (s := S4x512x128) ![3, 0, 0] ![1, 512, 128] inb_S4x512x128_S1x512x128_3_0_0, p3⟩ ::
       ⟨Rect.unit (s := S4x512x128) ![2, 0, 0] ![1, 512, 128] inb_S4x512x128_S1x512x128_2_0_0, p2⟩ ::
       ⟨Rect.unit (s := S4x512x128) ![1, 0, 0] ![1, 512, 128] inb_S4x512x128_S1x512x128_1_0_0, p1⟩ ::
       ⟨Rect.unit (s := S4x512x128) ![0, 0, 0] ![1, 512, 128] inb_S4x512x128_S1x512x128_0_0_0, p0⟩ :: L')
      = planes D := by
  have key : ∀ (j : Fin 4) (A : ∀ a, (![j.val, 0, 0] : Fin 3 → ℕ) a + S1x512x128.size a ≤ S4x512x128.size a) (p : S1x512x128.Idx → EReal)
      (_ : ∀ z n (k : Fin 128), p (ix3 z n k) = D (ix2 n ⟨128 * j.val + k.val, by omega⟩)) (x : S1x512x128.Idx),
      p x = planes D ((Rect.unit (s := S4x512x128) ![j.val, 0, 0] S1x512x128.size A).idx x) := by
    intro j A p hp x
    obtain ⟨z, n, k, rfl⟩ : ∃ z n k, x = ix3 z n k :=
      ⟨x 0, x 1, x 2, by funext a; match a with | ⟨0, _⟩ => rfl | ⟨1, _⟩ => rfl | ⟨2, _⟩ => rfl⟩
    rw [hp]
    refine congrArg D (congrArg₂ ix2 (Fin.ext ?_) (Fin.ext ?_))
    · exact ((Rect.idx_unit_val _ _ _ _ _).trans (Nat.zero_add _)).symm
    · show 128 * j.val + k.val = 128 * ((Rect.unit (s := S4x512x128) ![j.val, 0, 0] S1x512x128.size A).idx (ix3 z n k) 0).val
        + ((Rect.unit (s := S4x512x128) ![j.val, 0, 0] S1x512x128.size A).idx (ix3 z n k) 2).val
      rw [Rect.idx_unit_val, Rect.idx_unit_val]
      show 128 * j.val + k.val = 128 * (j.val + z.val) + (0 + k.val)
      omega
  funext y
  refine View.canon_append_of_piecesOf (Val := Elt Ideal) (e := .f32) (planes D) L'
    [⟨Rect.unit (s := S4x512x128) ![3, 0, 0] ![1, 512, 128] inb_S4x512x128_S1x512x128_3_0_0, p3⟩,
       ⟨Rect.unit (s := S4x512x128) ![2, 0, 0] ![1, 512, 128] inb_S4x512x128_S1x512x128_2_0_0, p2⟩,
       ⟨Rect.unit (s := S4x512x128) ![1, 0, 0] ![1, 512, 128] inb_S4x512x128_S1x512x128_1_0_0, p1⟩,
       ⟨Rect.unit (s := S4x512x128) ![0, 0, 0] ![1, 512, 128] inb_S4x512x128_S1x512x128_0_0_0, p0⟩] ?_ y
    (View.cover_of_tiledL (s := S4x512x128) _ S1x512x128.size (by sl_kernel_rfl) y)
  exact And.intro (key 3 inb_S4x512x128_S1x512x128_3_0_0 _ fun z n k => h3 z n k)
    (And.intro (key 2 inb_S4x512x128_S1x512x128_2_0_0 _ fun z n k => h2 z n k)
      (And.intro (key 1 inb_S4x512x128_S1x512x128_1_0_0 _ fun z n k => h1 z n k)
        (And.intro (key 0 inb_S4x512x128_S1x512x128_0_0_0 _ fun z n k => (h0 z n k).trans (congrArg D (congrArg (ix2 n) (Fin.ext (Nat.zero_add _).symm)))) trivial)))

/-- A load of a plane is a column chunk of the array. -/
theorem plane (P : S4x512x128.Idx → EReal) (j o : ℕ) (hj : j < 4) (ho : o = 128 * j)
    (A : ∀ a, (![j, 0, 0] : Fin 3 → ℕ) a + (![1, 512, 128] : Fin 3 → ℕ) a ≤ S4x512x128.size a)
    (E : ∀ a, (![0, o] : Fin 2 → ℕ) a + (![512, 128] : Fin 2 → ℕ) a ≤ S512x512.size a) (x : S512x128.Idx) :
    k0_pay27 (F := Ideal) (fun q => P ((Rect.unit (s := S4x512x128) ![j, 0, 0] ![1, 512, 128] A).toLoadRect.idx q)) x
      = restride 512 512 1 P ((Rect.unit (s := S512x512) ![0, o] ![512, 128] E).idx x) := by
  obtain ⟨n, k, rfl⟩ : ∃ n k, x = ix2 n k := ⟨x 0, x 1, ix2_self x⟩
  rw [q27]
  unfold restride
  refine congrArg P (funext fun a => Fin.ext ?_)
  have e0 : ((Rect.unit (s := S512x512) ![0, o] ![512, 128] E).idx (ix2 n k) 0).val = n.val := (Rect.idx_unit_val _ _ _ _ _).trans (Nat.zero_add _)
  have e1 : ((Rect.unit (s := S512x512) ![0, o] ![512, 128] E).idx (ix2 n k) 1).val = o + k.val := Rect.idx_unit_val _ _ _ _ _
  match a with
  | ⟨0, _⟩ =>
    refine (Rect.idx_unit_val (s := S4x512x128) _ _ _ _ _).trans ?_
    show j + 0 = ((Rect.unit (s := S512x512) ![0, o] ![512, 128] E).idx (ix2 n k) 1).val / 128 % 4
    rw [e1]; omega
  | ⟨1, _⟩ =>
    refine (Rect.idx_unit_val (s := S4x512x128) _ _ _ _ _).trans ?_
    show 0 + n.val = (1 * ((Rect.unit (s := S512x512) ![0, o] ![512, 128] E).idx (ix2 n k) 0).val + ((Rect.unit (s := S512x512) ![0, o] ![512, 128] E).idx (ix2 n k) 1).val / 512) % 512
    rw [e0, e1]; omega
  | ⟨2, _⟩ =>
    refine (Rect.idx_unit_val (s := S4x512x128) _ _ _ _ _).trans ?_
    show 0 + k.val = ((Rect.unit (s := S512x512) ![0, o] ![512, 128] E).idx (ix2 n k) 1).val % 128
    rw [e1]; omega

theorem hs3 : ∀ i : Fin 2, (![1, 512, 128] : Fin 3 → ℕ) i.succ = (![512, 128] : Fin 2 → ℕ) i := fun i => by fin_cases i <;> rfl

/-- A strided load of a plane is a column chunk of the restrided array. -/
theorem piece (P : S4x512x128.Idx → EReal) (n w dil j r o : ℕ) (hj : j < 4) (ho : o = 512 * r + 128 * j)
    (A : ∀ a, (![j, 0, 0] : Fin 3 → ℕ) a + (![1, 512, 128] : Fin 3 → ℕ) a ≤ S4x512x128.size a)
    (B) (h0) (hs) (h1) (hR)
    (E : ∀ a, (![0, o] : Fin 2 → ℕ) a + (![n, 128] : Fin 2 → ℕ) a ≤ (⟨2, ![n, w]⟩ : Shape).size a) (x : (⟨2, ![n, 128]⟩ : Shape).Idx) :
    LoadRect.valAlong (lr := (⟨![r, 0], ![n, 128], ![dil, 1], B⟩ : LoadRect ⟨2, ![512, 128]⟩)) hR (fun q => P (((Rect.unit (s := S4x512x128) ![j, 0, 0] ![1, 512, 128] A).withinL
        ((⟨![r, 0], ![n, 128], ![dil, 1], B⟩ : LoadRect ⟨2, ![512, 128]⟩).consLift ![1, 512, 128] h0 hs) h1).idx q)) x
      = restride n w dil P ((Rect.unit (s := ⟨2, ![n, w]⟩) ![0, o] ![n, 128] E).idx x) := by
  have e2 := (LoadRect.liftsTo_consLift (⟨![r, 0], ![n, 128], ![dil, 1], B⟩ : LoadRect ⟨2, ![512, 128]⟩) ![1, 512, 128] h0 hs x).symm.trans
    (Shape.reshapeEquiv_cons_one _ _)
  refine (congrArg P (Rect.idx_withinL (Rect.unit (s := S4x512x128) ![j, 0, 0] ![1, 512, 128] A)
    ((⟨![r, 0], ![n, 128], ![dil, 1], B⟩ : LoadRect ⟨2, ![512, 128]⟩).consLift ![1, 512, 128] h0 hs) h1 (Shape.reshapeEquiv hR x))).trans ?_
  refine (congrArg (fun q => P ((Rect.unit (s := S4x512x128) ![j, 0, 0] ![1, 512, 128] A).emb q)) e2).trans ?_
  unfold restride
  have e0 : ((Rect.unit (s := ⟨2, ![n, w]⟩) ![0, o] ![n, 128] E).idx x 0).val = (x 0).val := (Rect.idx_unit_val _ _ _ _ _).trans (Nat.zero_add _)
  have e1 : ((Rect.unit (s := ⟨2, ![n, w]⟩) ![0, o] ![n, 128] E).idx x 1).val = o + (x 1).val := Rect.idx_unit_val _ _ _ _ _
  have hx : (x 1).val < 128 := (x 1).isLt
  have hb := (LoadRect.idx (⟨![r, 0], ![n, 128], ![dil, 1], B⟩ : LoadRect ⟨2, ![512, 128]⟩) x 0).isLt
  have hc : r + dil * (x 0).val < 512 := hb
  refine congrArg P (funext fun a => Fin.ext ?_)
  match a with
  | ⟨0, _⟩ =>
    refine (Rect.idx_unit_val (s := S4x512x128) _ _ _ _ _).trans ?_
    show j + 0 = ((Rect.unit (s := ⟨2, ![n, w]⟩) ![0, o] ![n, 128] E).idx x 1).val / 128 % 4
    rw [e1]; omega
  | ⟨1, _⟩ =>
    refine (Rect.idx_unit_val (s := S4x512x128) _ _ _ _ _).trans ?_
    show 0 + (r + dil * (x 0).val) = (dil * ((Rect.unit (s := ⟨2, ![n, w]⟩) ![0, o] ![n, 128] E).idx x 0).val + ((Rect.unit (s := ⟨2, ![n, w]⟩) ![0, o] ![n, 128] E).idx x 1).val / 512) % 512
    rw [e0, e1]; generalize dil * (x 0).val = u at *; omega
  | ⟨2, _⟩ =>
    refine (Rect.idx_unit_val (s := S4x512x128) _ _ _ _ _).trans ?_
    show 0 + (0 + 1 * (x 1).val) = ((Rect.unit (s := ⟨2, ![n, w]⟩) ![0, o] ![n, 128] E).idx x 1).val % 128
    rw [e1]; omega

/-- Restriding the planes of an array reads its rows and columns. -/
theorem restride_planes (n w dil : ℕ) (D : S512x512.Idx → EReal) (y : (⟨2, ![n, w]⟩ : Shape).Idx) :
    restride n w dil (planes D) y = D (ix2 ⟨(dil * (y 0).val + (y 1).val / 512) % 512, Nat.mod_lt _ (by norm_num)⟩ ⟨(y 1).val % 512, Nat.mod_lt _ (by norm_num)⟩) := by
  refine congrArg D (congrArg (ix2 _) (Fin.ext ?_))
  show 128 * ((y 1).val / 128 % 4) + (y 1).val % 128 = (y 1).val % 512
  omega

end Cert.ProjPlane

end
-- ==== Proof.ProjOut.lean ====
/- What one grid point of the normed projections' kernel leaves in its thirteen output blocks, as functions of the input blocks. -/
module

public import proofs.«01_k».proof.Proof.ProjPlane
public import proofs.«01_k».proof.Proof.Gen.ProjIdeal.Frame

@[expose] public section

noncomputable section

namespace Cert.ProjOut

open Idealize.ShloMosaic Idealize.ShloMosaic.TcCoe Idealize.SL.Sem
open Cert.ProjIdeal Cert.ProjIdeal.Gen Cert.Lift Cert.ProjBlock Cert.ProjPlane

section planes
variable (H : S512x1024.Idx → EReal) (W : S2560x1024.Idx → EReal) (B : S1x2560.Idx → EReal)

/-- The weights' rows and the bias's columns from `o` on. -/
abbrev wl (o : ℕ) (hA : ∀ a, (![o, 0] : Fin 2 → ℕ) a + (![256, 1024] : Fin 2 → ℕ) a ≤ S2560x1024.size a) : S256x1024.Idx → EReal :=
  View.ld (Val := Elt Ideal) (e' := .bf16) W (Rect.unit (s := S2560x1024) ![o, 0] ![256, 1024] hA)
abbrev bl (o : ℕ) (hB : ∀ a, (![0, o] : Fin 2 → ℕ) a + (![1, 256] : Fin 2 → ℕ) a ≤ S1x2560.size a) : S1x256.Idx → EReal :=
  View.ld (Val := Elt Ideal) (e' := .f32) B (Rect.unit (s := S1x2560) ![0, o] ![1, 256] hB)

theorem canonQ (L' : List (View.Piece (Elt Ideal) S4x512x128 .f32)) : View.canon (Val := Elt Ideal) (s := S4x512x128) (e := .f32)
      (⟨Rect.unit (s := S4x512x128) ![3, 0, 0] ![1, 512, 128] inb_S4x512x128_S1x512x128_3_0_0, k0_pay26 (F := Ideal) H (View.ld (Val := Elt Ideal) (e' := .bf16) W (Rect.unit (s := S2560x1024) ![1280, 0] ![256, 1024] inb_S2560x1024_S256x1024_1280_0)) (View.ld (Val := Elt Ideal) (e' := .f32) B (Rect.unit (s := S1x2560) ![0, 1280] ![1, 256] inb_S1x2560_S1x256_0_1280))⟩ ::
       ⟨Rect.unit (s := S4x512x128) ![2, 0, 0] ![1, 512, 128] inb_S4x512x128_S1x512x128_2_0_0, k0_pay25 (F := Ideal) H (View.ld (Val := Elt Ideal) (e' := .bf16) W (Rect.unit (s := S2560x1024) ![1280, 0] ![256, 1024] inb_S2560x1024_S256x1024_1280_0)) (View.ld (Val := Elt Ideal) (e' := .f32) B (Rect.unit (s := S1x2560) ![0, 1280] ![1, 256] inb_S1x2560_S1x256_0_1280))⟩ ::
       ⟨Rect.unit (s := S4x512x128) ![1, 0, 0] ![1, 512, 128] inb_S4x512x128_S1x512x128_1_0_0, k0_pay23 (F := Ideal) (k0_pay21 (F := Ideal) H (View.ld (Val := Elt Ideal) (e' := .bf16) W (Rect.unit (s := S2560x1024) ![1024, 0] ![256, 1024] inb_S2560x1024_S256x1024_1024_0)) (View.ld (Val := Elt Ideal) (e' := .f32) B (Rect.unit (s := S1x2560) ![0, 1024] ![1, 256] inb_S1x2560_S1x256_0_1024)))⟩ ::
       ⟨Rect.unit (s := S4x512x128) ![0, 0, 0] ![1, 512, 128] inb_S4x512x128_S1x512x128_0_0_0, k0_pay22 (F := Ideal) H (View.ld (Val := Elt Ideal) (e' := .bf16) W (Rect.unit (s := S2560x1024) ![1024, 0] ![256, 1024] inb_S2560x1024_S256x1024_1024_0)) (View.ld (Val := Elt Ideal) (e' := .f32) B (Rect.unit (s := S1x2560) ![0, 1024] ![1, 256] inb_S1x2560_S1x256_0_1024))⟩ :: L')
      = planes (qbb H W B) := by
  refine canon_planes (qbb H W B) _ _ _ _ ?_ ?_ ?_ ?_ L' <;> intro z n k
  · exact (q22 H _ _ z n k).trans ((congrArg (· * sc) (prod H W B 1024 (by norm_num) inb_S2560x1024_S256x1024_1024_0 inb_S1x2560_S1x256_0_1024 n ⟨k.val, by omega⟩)).trans (congrArg (fun e => yv H W B n e * sc) (by show 1024 + k.val = 1024 + k.val; omega)))
  · exact (q23 H _ _ z n k).trans ((congrArg (· * sc) (prod H W B 1024 (by norm_num) inb_S2560x1024_S256x1024_1024_0 inb_S1x2560_S1x256_0_1024 n ⟨128 + k.val, by omega⟩)).trans (congrArg (fun e => yv H W B n e * sc) (by show 1024 + (128 + k.val) = 1024 + (128 + k.val); omega)))
  · exact (q22 H _ _ z n k).trans ((congrArg (· * sc) (prod H W B 1280 (by norm_num) inb_S2560x1024_S256x1024_1280_0 inb_S1x2560_S1x256_0_1280 n ⟨k.val, by omega⟩)).trans (congrArg (fun e => yv H W B n e * sc) (by show 1280 + k.val = 1024 + (256 + k.val); omega)))
  · exact (q23 H _ _ z n k).trans ((congrArg (· * sc) (prod H W B 1280 (by norm_num) inb_S2560x1024_S256x1024_1280_0 inb_S1x2560_S1x256_0_1280 n ⟨128 + k.val, by omega⟩)).trans (congrArg (fun e => yv H W B n e * sc) (by show 1280 + (128 + k.val) = 1024 + (384 + k.val); omega)))

theorem canonK (L' : List (View.Piece (Elt Ideal) S4x512x128 .f32)) : View.canon (Val := Elt Ideal) (s := S4x512x128) (e := .f32)
      (⟨Rect.unit (s := S4x512x128) ![3, 0, 0] ![1, 512, 128] inb_S4x512x128_S1x512x128_3_0_0, k0_pay116 (F := Ideal) H (View.ld (Val := Elt Ideal) (e' := .bf16) W (Rect.unit (s := S2560x1024) ![1792, 0] ![256, 1024] inb_S2560x1024_S256x1024_1792_0)) (View.ld (Val := Elt Ideal) (e' := .f32) B (Rect.unit (s := S1x2560) ![0, 1792] ![1, 256] inb_S1x2560_S1x256_0_1792))⟩ ::
       ⟨Rect.unit (s := S4x512x128) ![2, 0, 0] ![1, 512, 128] inb_S4x512x128_S1x512x128_2_0_0, k0_pay115 (F := Ideal) H (View.ld (Val := Elt Ideal) (e' := .bf16) W (Rect.unit (s := S2560x1024) ![1792, 0] ![256, 1024] inb_S2560x1024_S256x1024_1792_0)) (View.ld (Val := Elt Ideal) (e' := .f32) B (Rect.unit (s := S1x2560) ![0, 1792] ![1, 256] inb_S1x2560_S1x256_0_1792))⟩ ::
       ⟨Rect.unit (s := S4x512x128) ![1, 0, 0] ![1, 512, 128] inb_S4x512x128_S1x512x128_1_0_0, k0_pay113 (F := Ideal) (k0_pay111 (F := Ideal) H (View.ld (Val := Elt Ideal) (e' := .bf16) W (Rect.unit (s := S2560x1024) ![1536, 0] ![256, 1024] inb_S2560x1024_S256x1024_1536_0)) (View.ld (Val := Elt Ideal) (e' := .f32) B (Rect.unit (s := S1x2560) ![0, 1536] ![1, 256] inb_S1x2560_S1x256_0_1536)))⟩ ::
       ⟨Rect.unit (s := S4x512x128) ![0, 0, 0] ![1, 512, 128] inb_S4x512x128_S1x512x128_0_0_0, k0_pay112 (F := Ideal) H (View.ld (Val := Elt Ideal) (e' := .bf16) W (Rect.unit (s := S2560x1024) ![1536, 0] ![256, 1024] inb_S2560x1024_S256x1024_1536_0)) (View.ld (Val := Elt Ideal) (e' := .f32) B (Rect.unit (s := S1x2560) ![0, 1536] ![1, 256] inb_S1x2560_S1x256_0_1536))⟩ :: L')
      = planes (pb H W B 1536) := by
  refine canon_planes (pb H W B 1536) _ _ _ _ ?_ ?_ ?_ ?_ L' <;> intro z n k
  · exact (q112 H _ _ z n k).trans ((prod H W B 1536 (by norm_num) inb_S2560x1024_S256x1024_1536_0 inb_S1x2560_S1x256_0_1536 n ⟨k.val, by omega⟩).trans (congrArg (fun e => yv H W B n e) (by show 1536 + k.val = 1536 + k.val; omega)))
  · exact (q113 H _ _ z n k).trans ((prod H W B 1536 (by norm_num) inb_S2560x1024_S256x1024_1536_0 inb_S1x2560_S1x256_0_1536 n ⟨128 + k.val, by omega⟩).trans (congrArg (fun e => yv H W B n e) (by show 1536 + (128 + k.val) = 1536 + (128 + k.val); omega)))
  · exact (q112 H _ _ z n k).trans ((prod H W B 1792 (by norm_num) inb_S2560x1024_S256x1024_1792_0 inb_S1x2560_S1x256_0_1792 n ⟨k.val, by omega⟩).trans (congrArg (fun e => yv H W B n e) (by show 1792 + k.val = 1536 + (256 + k.val); omega)))
  · exact (q113 H _ _ z n k).trans ((prod H W B 1792 (by norm_num) inb_S2560x1024_S256x1024_1792_0 inb_S1x2560_S1x256_0_1792 n ⟨128 + k.val, by omega⟩).trans (congrArg (fun e => yv H W B n e) (by show 1792 + (128 + k.val) = 1536 + (384 + k.val); omega)))

theorem canonV (L' : List (View.Piece (Elt Ideal) S4x512x128 .f32)) : View.canon (Val := Elt Ideal) (s := S4x512x128) (e := .f32)
      (⟨Rect.unit (s := S4x512x128) ![3, 0, 0] ![1, 512, 128] inb_S4x512x128_S1x512x128_3_0_0, k0_pay207 (F := Ideal) H (View.ld (Val := Elt Ideal) (e' := .bf16) W (Rect.unit (s := S2560x1024) ![2304, 0] ![256, 1024] inb_S2560x1024_S256x1024_2304_0)) (View.ld (Val := Elt Ideal) (e' := .f32) B (Rect.unit (s := S1x2560) ![0, 2304] ![1, 256] inb_S1x2560_S1x256_0_2304))⟩ ::
       ⟨Rect.unit (s := S4x512x128) ![2, 0, 0] ![1, 512, 128] inb_S4x512x128_S1x512x128_2_0_0, k0_pay206 (F := Ideal) H (View.ld (Val := Elt Ideal) (e' := .bf16) W (Rect.unit (s := S2560x1024) ![2304, 0] ![256, 1024] inb_S2560x1024_S256x1024_2304_0)) (View.ld (Val := Elt Ideal) (e' := .f32) B (Rect.unit (s := S1x2560) ![0, 2304] ![1, 256] inb_S1x2560_S1x256_0_2304))⟩ ::
       ⟨Rect.unit (s := S4x512x128) ![1, 0, 0] ![1, 512, 128] inb_S4x512x128_S1x512x128_1_0_0, k0_pay204 (F := Ideal) (k0_pay203 (F := Ideal) H (View.ld (Val := Elt Ideal) (e' := .bf16) W (Rect.unit (s := S2560x1024) ![2048, 0] ![256, 1024] inb_S2560x1024_S256x1024_2048_0)) (View.ld (Val := Elt Ideal) (e' := .f32) B (Rect.unit (s := S1x2560) ![0, 2048] ![1, 256] inb_S1x2560_S1x256_0_2048)))⟩ ::
       ⟨Rect.unit (s := S4x512x128) ![0, 0, 0] ![1, 512, 128] inb_S4x512x128_S1x512x128_0_0_0, k0_pay202 (F := Ideal) H (View.ld (Val := Elt Ideal) (e' := .bf16) W (Rect.unit (s := S2560x1024) ![2048, 0] ![256, 1024] inb_S2560x1024_S256x1024_2048_0)) (View.ld (Val := Elt Ideal) (e' := .f32) B (Rect.unit (s := S1x2560) ![0, 2048] ![1, 256] inb_S1x2560_S1x256_0_2048))⟩ :: L')
      = planes (pb H W B 2048) := by
  refine canon_planes (pb H W B 2048) _ _ _ _ ?_ ?_ ?_ ?_ L' <;> intro z n k
  · exact (q112 H _ _ z n k).trans ((prod H W B 2048 (by norm_num) inb_S2560x1024_S256x1024_2048_0 inb_S1x2560_S1x256_0_2048 n ⟨k.val, by omega⟩).trans (congrArg (fun e => yv H W B n e) (by show 2048 + k.val = 2048 + k.val; omega)))
  · exact (q113 H _ _ z n k).trans ((prod H W B 2048 (by norm_num) inb_S2560x1024_S256x1024_2048_0 inb_S1x2560_S1x256_0_2048 n ⟨128 + k.val, by omega⟩).trans (congrArg (fun e => yv H W B n e) (by show 2048 + (128 + k.val) = 2048 + (128 + k.val); omega)))
  · exact (q112 H _ _ z n k).trans ((prod H W B 2304 (by norm_num) inb_S2560x1024_S256x1024_2304_0 inb_S1x2560_S1x256_0_2304 n ⟨k.val, by omega⟩).trans (congrArg (fun e => yv H W B n e) (by show 2304 + k.val = 2048 + (256 + k.val); omega)))
  · exact (q113 H _ _ z n k).trans ((prod H W B 2304 (by norm_num) inb_S2560x1024_S256x1024_2304_0 inb_S1x2560_S1x256_0_2304 n ⟨128 + k.val, by omega⟩).trans (congrArg (fun e => yv H W B n e) (by show 2304 + (128 + k.val) = 2048 + (384 + k.val); omega)))

end planes

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2560x1024 .bf16) (harg3 : arg3.IsWhole) (arg4 : Memref sig .tc .vmem S1x2560 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S128x2048 .bf16) (harg12 : arg12.IsWhole) (arg13 : Memref sig .tc .vmem S32x8192 .bf16) (harg13 : arg13.IsWhole) (arg14 : Memref sig .tc .vmem S512x512 .bf16) (harg14 : arg14.IsWhole) (arg15 : Memref sig .tc .vmem S128x2048 .bf16) (harg15 : arg15.IsWhole) (arg16 : Memref sig .tc .vmem S32x8192 .bf16) (harg16 : arg16.IsWhole) (arg17 : Memref sig .tc .vmem S512x512 .bf16) (harg17 : arg17.IsWhole) (arg18 : Memref sig .tc .vmem S128x2048 .bf16) (harg18 : arg18.IsWhole) (arg19 : Memref sig .tc .vmem S32x8192 .bf16) (harg19 : arg19.IsWhole) (arg20 : Memref sig .tc .vmem S4x512x128 .f32) (harg20 : arg20.IsWhole)
  (x0 : Vec Ideal S512x1024 .f32) (x1 : Vec Ideal S1x1024 .f32) (x2 : Vec Ideal S2560x1024 .bf16) (x3 : Vec Ideal S1x2560 .f32) (x4 : Vec Ideal S512x128 .f32) (x5 : Vec Ideal S512x128 .f32)

theorem out6 : out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = k0_pay4 (F := Ideal) x0 x1 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  exact View.canon_cons_unit_zero (S := S512x1024) hz _ _ _

theorem out7 : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = qab (k0_pay4 (F := Ideal) x0 x1) x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [q5, q6, q10, q11, q12]
  funext y
  refine View.canon_apply_of_pieces (Val := Elt Ideal) (e := .bf16) (qab (k0_pay4 (F := Ideal) x0 x1) x2 x3 x4 x5) _ (View.PiecesOf.mem ?_) y
    (View.cover_of_tiledL (s := S512x512) _ S512x128.size (by sl_kernel_rfl) y)
  refine And.intro (fun x => ?_) ?_
  · obtain ⟨n, k, rfl⟩ : ∃ n k, x = ix2 n k := ⟨x 0, x 1, ix2_self x⟩
    refine (q14 x4 x5 _ (fun j => yv (k0_pay4 (F := Ideal) x0 x1) x2 x3 n (256 + j)) n (fun k => prod (k0_pay4 (F := Ideal) x0 x1) x2 x3 256 (by norm_num) inb_S2560x1024_S256x1024_256_0 inb_S1x2560_S1x256_0_256 n k) k).trans ?_
    exact congrArg (· * sc) (rotb_at (k0_pay4 (F := Ideal) x0 x1) x2 x3 x4 x5 0 384 3 512 (by norm_num) inb_S512x512_S512x128_0_384 n k _ (fun j => congrArg (yv (k0_pay4 (F := Ideal) x0 x1) x2 x3 n) (by omega)))
  refine And.intro (fun x => ?_) ?_
  · obtain ⟨n, k, rfl⟩ : ∃ n k, x = ix2 n k := ⟨x 0, x 1, ix2_self x⟩
    refine (q13 x4 x5 _ (fun j => yv (k0_pay4 (F := Ideal) x0 x1) x2 x3 n (256 + j)) n (fun k => prod (k0_pay4 (F := Ideal) x0 x1) x2 x3 256 (by norm_num) inb_S2560x1024_S256x1024_256_0 inb_S1x2560_S1x256_0_256 n k) k).trans ?_
    exact congrArg (· * sc) (rotb_at (k0_pay4 (F := Ideal) x0 x1) x2 x3 x4 x5 0 256 2 512 (by norm_num) inb_S512x512_S512x128_0_256 n k _ (fun j => congrArg (yv (k0_pay4 (F := Ideal) x0 x1) x2 x3 n) (by omega)))
  refine And.intro (fun x => ?_) ?_
  · obtain ⟨n, k, rfl⟩ : ∃ n k, x = ix2 n k := ⟨x 0, x 1, ix2_self x⟩
    refine (q14 x4 x5 _ (fun j => yv (k0_pay4 (F := Ideal) x0 x1) x2 x3 n (0 + j)) n (fun k => prod (k0_pay4 (F := Ideal) x0 x1) x2 x3 0 (by norm_num) inb_S2560x1024_S256x1024_0_0 inb_S1x2560_S1x256_0_0 n k) k).trans ?_
    exact congrArg (· * sc) (rotb_at (k0_pay4 (F := Ideal) x0 x1) x2 x3 x4 x5 0 128 1 512 (by norm_num) inb_S512x512_S512x128_0_128 n k _ (fun j => congrArg (yv (k0_pay4 (F := Ideal) x0 x1) x2 x3 n) (by omega)))
  refine And.intro (fun x => ?_) ?_
  · obtain ⟨n, k, rfl⟩ : ∃ n k, x = ix2 n k := ⟨x 0, x 1, ix2_self x⟩
    refine (q13 x4 x5 _ (fun j => yv (k0_pay4 (F := Ideal) x0 x1) x2 x3 n (0 + j)) n (fun k => prod (k0_pay4 (F := Ideal) x0 x1) x2 x3 0 (by norm_num) inb_S2560x1024_S256x1024_0_0 inb_S1x2560_S1x256_0_0 n k) k).trans ?_
    exact congrArg (· * sc) (rotb_at (k0_pay4 (F := Ideal) x0 x1) x2 x3 x4 x5 0 0 0 512 (by norm_num) inb_S512x512_S512x128_0_0 n k _ (fun j => congrArg (yv (k0_pay4 (F := Ideal) x0 x1) x2 x3 n) (by omega)))
  exact trivial

theorem out8 : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = kab (k0_pay4 (F := Ideal) x0 x1) x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [q5, q6, q15]
  funext y
  refine View.canon_apply_of_pieces (Val := Elt Ideal) (e := .bf16) (kab (k0_pay4 (F := Ideal) x0 x1) x2 x3 x4 x5) _ (View.PiecesOf.mem ?_) y
    (View.cover_of_tiledL (s := S512x256) _ S512x128.size (by sl_kernel_rfl) y)
  refine And.intro (fun x => ?_) ?_
  · obtain ⟨n, k, rfl⟩ : ∃ n k, x = ix2 n k := ⟨x 0, x 1, ix2_self x⟩
    refine (q16 x4 x5 _ (fun j => yv (k0_pay4 (F := Ideal) x0 x1) x2 x3 n (512 + j)) n (fun k => prod (k0_pay4 (F := Ideal) x0 x1) x2 x3 512 (by norm_num) inb_S2560x1024_S256x1024_512_0 inb_S1x2560_S1x256_0_512 n k) k _ rfl).trans ?_
    exact (rotb_at (k0_pay4 (F := Ideal) x0 x1) x2 x3 x4 x5 512 128 1 256 (by norm_num) inb_S512x256_S512x128_0_128 n k _ (fun j => congrArg (yv (k0_pay4 (F := Ideal) x0 x1) x2 x3 n) (by omega)))
  refine And.intro (fun x => ?_) ?_
  · obtain ⟨n, k, rfl⟩ : ∃ n k, x = ix2 n k := ⟨x 0, x 1, ix2_self x⟩
    refine (q16' (k0_pay4 (F := Ideal) x0 x1) x4 x5 _ _ (fun j => yv (k0_pay4 (F := Ideal) x0 x1) x2 x3 n (512 + j)) n (fun k => prod (k0_pay4 (F := Ideal) x0 x1) x2 x3 512 (by norm_num) inb_S2560x1024_S256x1024_512_0 inb_S1x2560_S1x256_0_512 n k) k).trans ?_
    exact (rotb_at (k0_pay4 (F := Ideal) x0 x1) x2 x3 x4 x5 512 0 0 256 (by norm_num) inb_S512x256_S512x128_0_0 n k _ (fun j => congrArg (yv (k0_pay4 (F := Ideal) x0 x1) x2 x3 n) (by omega)))
  exact trivial

theorem out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = vab (k0_pay4 (F := Ideal) x0 x1) x2 x3 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  funext y
  refine View.canon_apply_of_pieces (Val := Elt Ideal) (e := .bf16) (vab (k0_pay4 (F := Ideal) x0 x1) x2 x3) _ (View.PiecesOf.mem ?_) y
    (View.cover_of_tiledL (s := S512x256) _ S512x128.size (by sl_kernel_rfl) y)
  refine And.intro (fun x => ?_) ?_
  · obtain ⟨n, k, rfl⟩ : ∃ n k, x = ix2 n k := ⟨x 0, x 1, ix2_self x⟩
    refine (q20 (k0_pay4 (F := Ideal) x0 x1) _ _ n k).trans ((prod (k0_pay4 (F := Ideal) x0 x1) x2 x3 768 (by norm_num) inb_S2560x1024_S256x1024_768_0 inb_S1x2560_S1x256_0_768 n ⟨128 + k.val, by omega⟩).trans ?_)
    refine Eq.trans (congrArg (yv (k0_pay4 (F := Ideal) x0 x1) x2 x3 n) ?_) (yv_at (k0_pay4 (F := Ideal) x0 x1) x2 x3 768 128 256 inb_S512x256_S512x128_0_128 n k)
    show 768 + (128 + k.val) = 768 + 128 + k.val
    omega
  refine And.intro (fun x => ?_) ?_
  · obtain ⟨n, k, rfl⟩ : ∃ n k, x = ix2 n k := ⟨x 0, x 1, ix2_self x⟩
    refine (q19 (k0_pay4 (F := Ideal) x0 x1) _ _ n k).trans ((prod (k0_pay4 (F := Ideal) x0 x1) x2 x3 768 (by norm_num) inb_S2560x1024_S256x1024_768_0 inb_S1x2560_S1x256_0_768 n ⟨k.val, by omega⟩).trans ?_)
    refine Eq.trans (congrArg (yv (k0_pay4 (F := Ideal) x0 x1) x2 x3 n) ?_) (yv_at (k0_pay4 (F := Ideal) x0 x1) x2 x3 768 0 256 inb_S512x256_S512x128_0_0 n k)
    show 768 + k.val = 768 + 0 + k.val
    omega
  exact trivial

theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = restride 512 512 1 (planes (qbb (k0_pay4 (F := Ideal) x0 x1) x2 x3)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [View.readCov_eq_canon', canonQ]
  funext y
  refine View.canon_apply_of_pieces (Val := Elt Ideal) (e := .bf16) (restride 512 512 1 (planes (qbb (k0_pay4 (F := Ideal) x0 x1) x2 x3))) _ (View.PiecesOf.mem ?_) y
    (View.cover_of_tiledL (s := S512x512) _ S512x128.size (by sl_kernel_rfl) y)
  refine And.intro (fun x => plane (planes (qbb (k0_pay4 (F := Ideal) x0 x1) x2 x3)) 3 384 (by norm_num) (by norm_num) inb_S4x512x128_S1x512x128_3_0_0 inb_S512x512_S512x128_0_384 x) ?_
  refine And.intro (fun x => plane (planes (qbb (k0_pay4 (F := Ideal) x0 x1) x2 x3)) 2 256 (by norm_num) (by norm_num) inb_S4x512x128_S1x512x128_2_0_0 inb_S512x512_S512x128_0_256 x) ?_
  refine And.intro (fun x => plane (planes (qbb (k0_pay4 (F := Ideal) x0 x1) x2 x3)) 1 128 (by norm_num) (by norm_num) inb_S4x512x128_S1x512x128_1_0_0 inb_S512x512_S512x128_0_128 x) ?_
  refine And.intro (fun x => plane (planes (qbb (k0_pay4 (F := Ideal) x0 x1) x2 x3)) 0 0 (by norm_num) (by norm_num) inb_S4x512x128_S1x512x128_0_0_0 inb_S512x512_S512x128_0_0 x) ?_
  exact trivial

theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = restride 128 2048 4 (planes (qbb (k0_pay4 (F := Ideal) x0 x1) x2 x3)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [View.readCov_eq_canon', canonQ]
  simp only [k0_pay31, k0_pay32, k0_pay33, k0_pay34, k0_pay35, k0_pay36, k0_pay37, k0_pay38, k0_pay39, k0_pay40, k0_pay41, k0_pay42, k0_pay43, k0_pay44, k0_pay45, k0_pay46, narrow]
  funext y
  refine View.canon_apply_of_pieces (Val := Elt Ideal) (e := .bf16) (restride 128 2048 4 (planes (qbb (k0_pay4 (F := Ideal) x0 x1) x2 x3))) _ (View.PiecesOf.mem ?_) y
    (View.cover_of_tiledL (s := S128x2048) _ S128x128.size (by sl_kernel_rfl) y)
  repeat refine And.intro (fun x => piece (planes (qbb (k0_pay4 (F := Ideal) x0 x1) x2 x3)) 128 2048 4 _ _ _ (by norm_num) (by norm_num) _ _ rfl hs3 (fun _ => rfl) (LoadRect.numel_consLift _ _ rfl hs3) (by decide) x) ?_
  exact trivial

set_option maxHeartbeats 1000000 in
theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = restride 32 8192 16 (planes (qbb (k0_pay4 (F := Ideal) x0 x1) x2 x3)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [View.readCov_eq_canon', canonQ]
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, narrow]
  funext y
  refine View.canon_apply_of_pieces (Val := Elt Ideal) (e := .bf16) (restride 32 8192 16 (planes (qbb (k0_pay4 (F := Ideal) x0 x1) x2 x3))) _ (View.PiecesOf.mem ?_) y
    (View.cover_of_tiledL (s := S32x8192) _ S32x128.size (by sl_kernel_rfl) y)
  repeat refine And.intro (fun x => piece (planes (qbb (k0_pay4 (F := Ideal) x0 x1) x2 x3)) 32 8192 16 _ _ _ (by norm_num) (by norm_num) _ _ rfl hs3 (fun _ => rfl) (LoadRect.numel_consLift _ _ rfl hs3) (by decide) x) ?_
  exact trivial

theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = restride 512 512 1 (planes (pb (k0_pay4 (F := Ideal) x0 x1) x2 x3 1536)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [View.readCov_eq_canon', canonK]
  funext y
  refine View.canon_apply_of_pieces (Val := Elt Ideal) (e := .bf16) (restride 512 512 1 (planes (pb (k0_pay4 (F := Ideal) x0 x1) x2 x3 1536))) _ (View.PiecesOf.mem ?_) y
    (View.cover_of_tiledL (s := S512x512) _ S512x128.size (by sl_kernel_rfl) y)
  refine And.intro (fun x => plane (planes (pb (k0_pay4 (F := Ideal) x0 x1) x2 x3 1536)) 3 384 (by norm_num) (by norm_num) inb_S4x512x128_S1x512x128_3_0_0 inb_S512x512_S512x128_0_384 x) ?_
  refine And.intro (fun x => plane (planes (pb (k0_pay4 (F := Ideal) x0 x1) x2 x3 1536)) 2 256 (by norm_num) (by norm_num) inb_S4x512x128_S1x512x128_2_0_0 inb_S512x512_S512x128_0_256 x) ?_
  refine And.intro (fun x => plane (planes (pb (k0_pay4 (F := Ideal) x0 x1) x2 x3 1536)) 1 128 (by norm_num) (by norm_num) inb_S4x512x128_S1x512x128_1_0_0 inb_S512x512_S512x128_0_128 x) ?_
  refine And.intro (fun x => plane (planes (pb (k0_pay4 (F := Ideal) x0 x1) x2 x3 1536)) 0 0 (by norm_num) (by norm_num) inb_S4x512x128_S1x512x128_0_0_0 inb_S512x512_S512x128_0_0 x) ?_
  exact trivial

theorem out14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = restride 128 2048 4 (planes (pb (k0_pay4 (F := Ideal) x0 x1) x2 x3 1536)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [View.readCov_eq_canon', canonK]
  simp only [k0_pay121, k0_pay122, k0_pay123, k0_pay124, k0_pay125, k0_pay126, k0_pay127, k0_pay128, k0_pay129, k0_pay130, k0_pay131, k0_pay132, k0_pay133, k0_pay134, k0_pay135, k0_pay136, narrow]
  funext y
  refine View.canon_apply_of_pieces (Val := Elt Ideal) (e := .bf16) (restride 128 2048 4 (planes (pb (k0_pay4 (F := Ideal) x0 x1) x2 x3 1536))) _ (View.PiecesOf.mem ?_) y
    (View.cover_of_tiledL (s := S128x2048) _ S128x128.size (by sl_kernel_rfl) y)
  repeat refine And.intro (fun x => piece (planes (pb (k0_pay4 (F := Ideal) x0 x1) x2 x3 1536)) 128 2048 4 _ _ _ (by norm_num) (by norm_num) _ _ rfl hs3 (fun _ => rfl) (LoadRect.numel_consLift _ _ rfl hs3) (by decide) x) ?_
  exact trivial

set_option maxHeartbeats 1000000 in
theorem out15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = restride 32 8192 16 (planes (pb (k0_pay4 (F := Ideal) x0 x1) x2 x3 1536)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [View.readCov_eq_canon', canonK]
  simp only [k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, narrow]
  funext y
  refine View.canon_apply_of_pieces (Val := Elt Ideal) (e := .bf16) (restride 32 8192 16 (planes (pb (k0_pay4 (F := Ideal) x0 x1) x2 x3 1536))) _ (View.PiecesOf.mem ?_) y
    (View.cover_of_tiledL (s := S32x8192) _ S32x128.size (by sl_kernel_rfl) y)
  repeat refine And.intro (fun x => piece (planes (pb (k0_pay4 (F := Ideal) x0 x1) x2 x3 1536)) 32 8192 16 _ _ _ (by norm_num) (by norm_num) _ _ rfl hs3 (fun _ => rfl) (LoadRect.numel_consLift _ _ rfl hs3) (by decide) x) ?_
  exact trivial

theorem out16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = restride 512 512 1 (planes (pb (k0_pay4 (F := Ideal) x0 x1) x2 x3 2048)) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [View.readCov_eq_canon', canonV]
  funext y
  refine View.canon_apply_of_pieces (Val := Elt Ideal) (e := .bf16) (restride 512 512 1 (planes (pb (k0_pay4 (F := Ideal) x0 x1) x2 x3 2048))) _ (View.PiecesOf.mem ?_) y
    (View.cover_of_tiledL (s := S512x512) _ S512x128.size (by sl_kernel_rfl) y)
  refine And.intro (fun x => plane (planes (pb (k0_pay4 (F := Ideal) x0 x1) x2 x3 2048)) 3 384 (by norm_num) (by norm_num) inb_S4x512x128_S1x512x128_3_0_0 inb_S512x512_S512x128_0_384 x) ?_
  refine And.intro (fun x => plane (planes (pb (k0_pay4 (F := Ideal) x0 x1) x2 x3 2048)) 2 256 (by norm_num) (by norm_num) inb_S4x512x128_S1x512x128_2_0_0 inb_S512x512_S512x128_0_256 x) ?_
  refine And.intro (fun x => plane (planes (pb (k0_pay4 (F := Ideal) x0 x1) x2 x3 2048)) 1 128 (by norm_num) (by norm_num) inb_S4x512x128_S1x512x128_1_0_0 inb_S512x512_S512x128_0_128 x) ?_
  refine And.intro (fun x => plane (planes (pb (k0_pay4 (F := Ideal) x0 x1) x2 x3 2048)) 0 0 (by norm_num) (by norm_num) inb_S4x512x128_S1x512x128_0_0_0 inb_S512x512_S512x128_0_0 x) ?_
  exact trivial

theorem out17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = restride 128 2048 4 (planes (pb (k0_pay4 (F := Ideal) x0 x1) x2 x3 2048)) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [View.readCov_eq_canon', canonV]
  simp only [k0_pay212, k0_pay213, k0_pay214, k0_pay215, k0_pay216, k0_pay217, k0_pay218, k0_pay219, k0_pay220, k0_pay221, k0_pay222, k0_pay223, k0_pay224, k0_pay225, k0_pay226, k0_pay227, narrow]
  funext y
  refine View.canon_apply_of_pieces (Val := Elt Ideal) (e := .bf16) (restride 128 2048 4 (planes (pb (k0_pay4 (F := Ideal) x0 x1) x2 x3 2048))) _ (View.PiecesOf.mem ?_) y
    (View.cover_of_tiledL (s := S128x2048) _ S128x128.size (by sl_kernel_rfl) y)
  repeat refine And.intro (fun x => piece (planes (pb (k0_pay4 (F := Ideal) x0 x1) x2 x3 2048)) 128 2048 4 _ _ _ (by norm_num) (by norm_num) _ _ rfl hs3 (fun _ => rfl) (LoadRect.numel_consLift _ _ rfl hs3) (by decide) x) ?_
  exact trivial

set_option maxHeartbeats 1000000 in
theorem out18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = restride 32 8192 16 (planes (pb (k0_pay4 (F := Ideal) x0 x1) x2 x3 2048)) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp only [View.ld_unit_zero (S := S512x1024) hz, View.ld_unit_zero (S := S1x1024) hz, View.ld_unit_zero (S := S512x128) hz]
  simp only [View.readCov_eq_canon', canonV]
  simp only [k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay1, k0_pay2, k0_pay3, narrow]
  funext y
  refine View.canon_apply_of_pieces (Val := Elt Ideal) (e := .bf16) (restride 32 8192 16 (planes (pb (k0_pay4 (F := Ideal) x0 x1) x2 x3 2048))) _ (View.PiecesOf.mem ?_) y
    (View.cover_of_tiledL (s := S32x8192) _ S32x128.size (by sl_kernel_rfl) y)
  repeat refine And.intro (fun x => piece (planes (pb (k0_pay4 (F := Ideal) x0 x1) x2 x3 2048)) 32 8192 16 _ _ _ (by norm_num) (by norm_num) _ _ rfl hs3 (fun _ => rfl) (LoadRect.numel_consLift _ _ rfl hs3) (by decide) x) ?_
  exact trivial

end Cert.ProjOut

end
-- ==== Proof.ProjRef.lean ====
/- What the reference of the normed projections writes, read at an index. -/
module

public import proofs.«01_k».proof.Proof.ProjPlane
public import proofs.«01_k».proof.Proof.Gen.ProjRefIdeal.Read

@[expose] public section

noncomputable section

namespace Cert.ProjRef

open Idealize.ShloMosaic Idealize.ShloMosaic.TcCoe Idealize.SL.Sem
open Cert.ProjRefIdeal Cert.ProjRefIdeal.Read Cert.Lift Cert.ProjBlock

/-- A head's lane rotated, with the angle's own cosine and sine. -/
def turn (t : ℕ → EReal) (c s : EReal) (k : ℕ) : EReal := if k % 64 < 32 then t k * c - t (k + 32) * s else t (k - 32) * s + t k * c

theorem rot_eq (t : ℕ → EReal) (c s : EReal) (k : ℕ) : rot t c (if k % 64 < 32 then -s else s) k = turn t c s k := by
  unfold rot turn
  by_cases h : k % 64 < 32
  · rw [if_pos h, if_pos h, if_pos h, mul_neg, sub_eq_add_neg]
  · rw [if_neg h, if_neg h, if_neg h, add_comm]

variable (x0 : S8192x1024.Idx → EReal) (x1 : S1024.Idx → EReal) (x2 : S1024x2304.Idx → EReal) (x3 : S2304.Idx → EReal)

/-- A column of the product, the bias added. -/
def yr (i : Fin 8192) (e : ℕ) : EReal := if h : e < 2304 then val_main_v16 (F := Ideal) x0 x1 x2 x3 (ix2 i ⟨e, h⟩) else 0

def cs (i : Fin 8192) (k : ℕ) : EReal := val_main_v36 (F := Ideal) (ix2 i ⟨k % 32, Nat.mod_lt _ (by norm_num)⟩)
def sn (i : Fin 8192) (k : ℕ) : EReal := val_main_v38 (F := Ideal) (ix2 i ⟨k % 32, Nat.mod_lt _ (by norm_num)⟩)

theorem at_y (i : Fin 8192) (e : Fin 2304) (j : ℕ) (h : e.val = j) : val_main_v16 (F := Ideal) x0 x1 x2 x3 (ix2 i e) = yr x0 x1 x2 x3 i j := by
  subst h
  unfold yr
  rw [dif_pos e.isLt]

theorem at_c (i : Fin 8192) (e : Fin 32) (j : ℕ) (h : e.val = j % 32) : val_main_v36 (F := Ideal) (ix2 i e) = cs i j := congrArg (fun e => val_main_v36 (F := Ideal) (ix2 i e)) (Fin.ext h)
theorem at_s (i : Fin 8192) (e : Fin 32) (j : ℕ) (h : e.val = j % 32) : val_main_v38 (F := Ideal) (ix2 i e) = sn i j := congrArg (fun e => val_main_v38 (F := Ideal) (ix2 i e)) (Fin.ext h)

theorem yr_sum (i : Fin 8192) (e : Fin 2304) : yr x0 x1 x2 x3 i e.val = (∑ d : Fin 1024, val_main_v12 (F := Ideal) x0 x1 (ix2 i d) * x2 (ix2 d e)) + x3 (ix1 e) := by
  unfold yr
  rw [dif_pos e.isLt]
  rw [val_main_v16_apply, val_main_v13_apply]
  generalize val_main_v12 (F := Ideal) x0 x1 = H
  unfold val_main_v15 val_main_v14
  pointwise
  simp only [show ∀ x, lidx_main_v13 (ix2 i e) x = ix2 i x from fun x => funext fun a => match a with | ⟨0, _⟩ => rfl | ⟨1, _⟩ => rfl]
  simp only [show ∀ x, ridx_main_v13 (ix2 i e) x = ix2 x e from fun x => funext fun a => match a with | ⟨0, _⟩ => rfl | ⟨1, _⟩ => rfl]

theorem qa (i : Fin 8192) (k : Fin 512) : val_main_v113 (F := Ideal) x0 x1 x2 x3 (ix2 i k) = turn (yr x0 x1 x2 x3 i) (cs i k.val) (sn i k.val) k.val * sc := by
  generalize hR : turn (yr x0 x1 x2 x3 i) (cs i k.val) (sn i k.val) k.val * sc = R
  unfold val_main_v113 val_main_v112 val_main_v54 val_main_v53 val_main_v52 val_main_v51 val_main_v50 val_main_v49 val_main_v48 val_main_v47 val_main_v46 val_main_v45 val_main_v44 val_main_v43 val_main_v42 val_main_v41 val_main_v40 val_main_v39 val_main_v37 val_main_v23 val_main_v17
  have hY := at_y x0 x1 x2 x3 i
  have hC := at_c i
  have hS := at_s i
  generalize val_main_v16 (F := Ideal) x0 x1 x2 x3 = Y at *
  generalize val_main_v36 (F := Ideal) = C at *
  generalize val_main_v38 (F := Ideal) = S at *
  pointwise
  rw [← hR]
  unfold turn
  beta_reduce
  refine congrArg (· * sc) ?_
  by_cases h : k.val % 64 < 32
  · rw [dif_pos h, if_pos h]
    refine congrArg₂ (fun a b : EReal => a - b) (congrArg₂ (fun a b : EReal => a * b) (hY _ _ ?_) (hC _ _ ?_)) (congrArg₂ (fun a b : EReal => a * b) (hY _ _ ?_) (hS _ _ ?_)) <;> first | omega | rfl | (dsimp only; omega)
  · rw [dif_neg h, if_neg h]
    refine congrArg₂ (fun a b : EReal => a + b) (congrArg₂ (fun a b : EReal => a * b) (hY _ _ ?_) (hS _ _ ?_)) (congrArg₂ (fun a b : EReal => a * b) (hY _ _ ?_) (hC _ _ ?_)) <;> first | omega | rfl | (dsimp only; omega)

/-- The rotated keys' lane over any columns, cosines and sines. -/
def kraw (Y : S8192x2304.Idx → EReal) (C S : S8192x32.Idx → EReal) (i : Fin 8192) (k : Fin 256) : EReal :=
  (if h : k.val % 64 < 32 then
      Y (ix2 i ⟨512 + (k.val / 128 * 64 + k.val % 64), by omega⟩) * C (ix2 i ⟨k.val % 64, h⟩) -
        Y (ix2 i ⟨512 + (k.val / 128 * 64 + (32 + k.val % 64)), by omega⟩) * S (ix2 i ⟨k.val % 64, h⟩)
    else
      Y (ix2 i ⟨512 + (k.val / 128 * 64 + (k.val % 64 - 32)), by omega⟩) * S (ix2 i ⟨k.val % 64 - 32, by omega⟩) +
        Y (ix2 i ⟨512 + (k.val / 128 * 64 + (32 + (k.val % 64 - 32))), by omega⟩) * C (ix2 i ⟨k.val % 64 - 32, by omega⟩))

theorem kraw_eq (Y : S8192x2304.Idx → EReal) (C S : S8192x32.Idx → EReal) (i : Fin 8192) (k : Fin 256) (t : ℕ → EReal) (c s : EReal)
    (hY : ∀ (e : Fin 2304) (j : ℕ), e.val = 512 + 64 * (k.val / 128) + j → Y (ix2 i e) = t j) (hC : ∀ e : Fin 32, e.val = k.val % 32 → C (ix2 i e) = c)
    (hS : ∀ e : Fin 32, e.val = k.val % 32 → S (ix2 i e) = s) : kraw Y C S i k = turn t c s (k.val % 64) := by
  unfold kraw turn
  by_cases h : k.val % 64 < 32
  · rw [dif_pos h, if_pos (show k.val % 64 % 64 < 32 by omega)]
    rw [hY _ (k.val % 64) (show 512 + (k.val / 128 * 64 + k.val % 64) = _ by omega), hY _ (k.val % 64 + 32) (show 512 + (k.val / 128 * 64 + (32 + k.val % 64)) = _ by omega),
      hC _ (show k.val % 64 = _ by omega), hS _ (show k.val % 64 = _ by omega)]
  · rw [dif_neg h, if_neg (show ¬k.val % 64 % 64 < 32 by omega)]
    rw [hY _ (k.val % 64 - 32) (show 512 + (k.val / 128 * 64 + (k.val % 64 - 32)) = _ by omega), hY _ (k.val % 64) (show 512 + (k.val / 128 * 64 + (32 + (k.val % 64 - 32))) = _ by omega),
      hC _ (show k.val % 64 - 32 = _ by omega), hS _ (show k.val % 64 - 32 = _ by omega)]

theorem ka_raw (i : Fin 8192) (k : Fin 256) : val_main_v90 (F := Ideal) x0 x1 x2 x3 (ix2 i k) = kraw (val_main_v16 (F := Ideal) x0 x1 x2 x3) (val_main_v36 (F := Ideal)) (val_main_v38 (F := Ideal)) i k := by
  unfold val_main_v90 val_main_v89 val_main_v88 val_main_v87 val_main_v84 val_main_v83 val_main_v82 val_main_v81 val_main_v80 val_main_v79 val_main_v78 val_main_v77 val_main_v76 val_main_v75 val_main_v74 val_main_v73 val_main_v72 val_main_v71 val_main_v69 val_main_v55 val_main_v18
  rw [show val_main_v68 (F := Ideal) = val_main_v36 (F := Ideal) from rfl, show val_main_v70 (F := Ideal) = val_main_v38 (F := Ideal) from rfl]
  generalize val_main_v16 (F := Ideal) x0 x1 x2 x3 = Y at *
  generalize val_main_v36 (F := Ideal) = C at *
  generalize val_main_v38 (F := Ideal) = S at *
  generalize hR : kraw Y C S i k = R
  unfold kraw at hR
  pointwise
  exact hR

theorem ka (i : Fin 8192) (k : Fin 256) : val_main_v90 (F := Ideal) x0 x1 x2 x3 (ix2 i k) = turn (fun j => yr x0 x1 x2 x3 i (512 + 64 * (k.val / 128) + j)) (cs i k.val) (sn i k.val) (k.val % 64) :=
  (ka_raw x0 x1 x2 x3 i k).trans (kraw_eq _ _ _ i k _ _ _ (fun e j h => at_y x0 x1 x2 x3 i e _ h) (fun e h => at_c i e _ h) (fun e h => at_s i e _ h))

theorem va (i : Fin 8192) (k : Fin 256) : val_main_v95 (F := Ideal) x0 x1 x2 x3 (ix2 i k) = yr x0 x1 x2 x3 i (640 + 64 * (k.val / 128) + k.val % 64) := by
  generalize hR : yr x0 x1 x2 x3 i (640 + 64 * (k.val / 128) + k.val % 64) = R
  unfold val_main_v95 val_main_v94 val_main_v93 val_main_v92 val_main_v91 val_main_v19
  pointwise
  rw [← hR]
  exact at_y x0 x1 x2 x3 i _ _ (by dsimp only; omega)

theorem qb (i : Fin 8192) (k : Fin 512) : val_main_v96 (F := Ideal) x0 x1 x2 x3 (ix2 i k) = yr x0 x1 x2 x3 i (768 + k.val) * sc := by
  generalize hR : yr x0 x1 x2 x3 i (768 + k.val) * sc = R
  unfold val_main_v96 val_main_v86 val_main_v85 val_main_v20
  pointwise
  rw [← hR]
  unfold yr
  rw [dif_pos (by omega)]
  rfl

theorem kb (i : Fin 8192) (k : Fin 512) : val_main_v101 (F := Ideal) x0 x1 x2 x3 (ix2 i k) = yr x0 x1 x2 x3 i (1280 + k.val) := by
  generalize hR : yr x0 x1 x2 x3 i (1280 + k.val) = R
  unfold val_main_v101 val_main_v21
  pointwise
  rw [← hR]
  unfold yr
  rw [dif_pos (by omega)]

theorem vb (i : Fin 8192) (k : Fin 512) : val_main_v106 (F := Ideal) x0 x1 x2 x3 (ix2 i k) = yr x0 x1 x2 x3 i (1792 + k.val) := by
  generalize hR : yr x0 x1 x2 x3 i (1792 + k.val) = R
  unfold val_main_v106 val_main_v22
  pointwise
  rw [← hR]
  unfold yr
  rw [dif_pos (by omega)]

theorem h12 : (val_main_v111 (F := Ideal) x0 x1 : S8192x1024.Idx → EReal) = val_main_v12 (F := Ideal) x0 x1 := rfl

end Cert.ProjRef
end
-- ==== Proof.ProjHost.lean ====
/- The arrays the normed projections' kernel is called with: the widened weights and bias, and the two tables of the rotation. -/
module

public import proofs.«01_k».proof.Proof.ProjRef
public import proofs.«01_k».proof.Proof.Gen.ProjIdeal.Value
public import proofs.«01_k».proof.Proof.Gen.ProjRefIdeal.Read
public import Idealize.ShloMosaic.Lib.StableHlo.RunRead

@[expose] public section

noncomputable section

namespace Cert.ProjHost

open Idealize.ShloMosaic Idealize.ShloMosaic.TcCoe Idealize.SL.Sem
open Cert.ProjIdeal Cert.ProjIdeal.Gen Cert.Lift

/-- The column of the projection that column `e` of the widened one repeats. -/
def src (e : ℕ) : ℕ := if e < 512 then e else if e < 768 then 512 + 64 * ((e - 512) / 128) + e % 64 else if e < 1024 then 640 + 64 * ((e - 768) / 128) + e % 64 else e - 256

theorem src_lt {e : ℕ} (h : e < 2560) : src e < 2304 := by unfold src; split_ifs <;> omega

set_option maxHeartbeats 4000000 in
theorem cat_bias (T : ℕ → EReal) (p0 : S1x512.Idx → EReal) (p1 : S1x64.Idx → EReal) (p2 : S1x64.Idx → EReal) (p3 : S1x64.Idx → EReal) (p4 : S1x64.Idx → EReal) (p5 : S1x64.Idx → EReal) (p6 : S1x64.Idx → EReal) (p7 : S1x64.Idx → EReal) (p8 : S1x64.Idx → EReal) (p9 : S1x1536.Idx → EReal)
    (h0 : ∀ k : Fin 512, p0 (ix2 (0 : Fin 1) k) = T (0 + k.val))
    (h1 : ∀ k : Fin 64, p1 (ix2 (0 : Fin 1) k) = T (512 + k.val))
    (h2 : ∀ k : Fin 64, p2 (ix2 (0 : Fin 1) k) = T (576 + k.val))
    (h3 : ∀ k : Fin 64, p3 (ix2 (0 : Fin 1) k) = T (640 + k.val))
    (h4 : ∀ k : Fin 64, p4 (ix2 (0 : Fin 1) k) = T (704 + k.val))
    (h5 : ∀ k : Fin 64, p5 (ix2 (0 : Fin 1) k) = T (768 + k.val))
    (h6 : ∀ k : Fin 64, p6 (ix2 (0 : Fin 1) k) = T (832 + k.val))
    (h7 : ∀ k : Fin 64, p7 (ix2 (0 : Fin 1) k) = T (896 + k.val))
    (h8 : ∀ k : Fin 64, p8 (ix2 (0 : Fin 1) k) = T (960 + k.val))
    (h9 : ∀ k : Fin 1536, p9 (ix2 (0 : Fin 1) k) = T (1024 + k.val)) (k : Fin 2560) :
    concatenate S1x2560 1 [⟨S1x512, p0⟩, ⟨S1x64, p1⟩, ⟨S1x64, p2⟩, ⟨S1x64, p3⟩, ⟨S1x64, p4⟩, ⟨S1x64, p5⟩, ⟨S1x64, p6⟩, ⟨S1x64, p7⟩, ⟨S1x64, p8⟩, ⟨S1x1536, p9⟩] concatenates_S1x512_S1x64_S1x64_S1x64_S1x64_S1x64_S1x64_S1x64_S1x64_S1x1536_S1x2560_d1 (ix2 (0 : Fin 1) k) = T k.val := by
  generalize hR : T k.val = R
  pointwise
  rw [← hR]
  clear hR
  split_ifs
  all_goals first | exact (h0 _).trans (congrArg T (by dsimp only; omega)) | exact (h1 _).trans (congrArg T (by dsimp only; omega)) | exact (h2 _).trans (congrArg T (by dsimp only; omega)) | exact (h3 _).trans (congrArg T (by dsimp only; omega)) | exact (h4 _).trans (congrArg T (by dsimp only; omega)) | exact (h5 _).trans (congrArg T (by dsimp only; omega)) | exact (h6 _).trans (congrArg T (by dsimp only; omega)) | exact (h7 _).trans (congrArg T (by dsimp only; omega)) | exact (h8 _).trans (congrArg T (by dsimp only; omega)) | exact (h9 _).trans (congrArg T (by dsimp only; omega))

set_option maxHeartbeats 4000000 in
theorem cat_w (T : ℕ → Fin 1024 → EReal) (p0 : S512x1024.Idx → EReal) (p1 : S64x1024.Idx → EReal) (p2 : S64x1024.Idx → EReal) (p3 : S64x1024.Idx → EReal) (p4 : S64x1024.Idx → EReal) (p5 : S64x1024.Idx → EReal) (p6 : S64x1024.Idx → EReal) (p7 : S64x1024.Idx → EReal) (p8 : S64x1024.Idx → EReal) (p9 : S1536x1024.Idx → EReal)
    (h0 : ∀ (k : Fin 512) (d : Fin 1024), p0 (ix2 k d) = T (0 + k.val) d)
    (h1 : ∀ (k : Fin 64) (d : Fin 1024), p1 (ix2 k d) = T (512 + k.val) d)
    (h2 : ∀ (k : Fin 64) (d : Fin 1024), p2 (ix2 k d) = T (576 + k.val) d)
    (h3 : ∀ (k : Fin 64) (d : Fin 1024), p3 (ix2 k d) = T (640 + k.val) d)
    (h4 : ∀ (k : Fin 64) (d : Fin 1024), p4 (ix2 k d) = T (704 + k.val) d)
    (h5 : ∀ (k : Fin 64) (d : Fin 1024), p5 (ix2 k d) = T (768 + k.val) d)
    (h6 : ∀ (k : Fin 64) (d : Fin 1024), p6 (ix2 k d) = T (832 + k.val) d)
    (h7 : ∀ (k : Fin 64) (d : Fin 1024), p7 (ix2 k d) = T (896 + k.val) d)
    (h8 : ∀ (k : Fin 64) (d : Fin 1024), p8 (ix2 k d) = T (960 + k.val) d)
    (h9 : ∀ (k : Fin 1536) (d : Fin 1024), p9 (ix2 k d) = T (1024 + k.val) d) (k : Fin 2560) (d : Fin 1024) :
    concatenate S2560x1024 0 [⟨S512x1024, p0⟩, ⟨S64x1024, p1⟩, ⟨S64x1024, p2⟩, ⟨S64x1024, p3⟩, ⟨S64x1024, p4⟩, ⟨S64x1024, p5⟩, ⟨S64x1024, p6⟩, ⟨S64x1024, p7⟩, ⟨S64x1024, p8⟩, ⟨S1536x1024, p9⟩] concatenates_S512x1024_S64x1024_S64x1024_S64x1024_S64x1024_S64x1024_S64x1024_S64x1024_S64x1024_S1536x1024_S2560x1024_d0 (ix2 k d) = T k.val d := by
  generalize hR : T k.val d = R
  pointwise
  rw [← hR]
  clear hR
  split_ifs
  all_goals first | exact (h0 _ _).trans (congrArg (fun e => T e d) (by dsimp only; omega)) | exact (h1 _ _).trans (congrArg (fun e => T e d) (by dsimp only; omega)) | exact (h2 _ _).trans (congrArg (fun e => T e d) (by dsimp only; omega)) | exact (h3 _ _).trans (congrArg (fun e => T e d) (by dsimp only; omega)) | exact (h4 _ _).trans (congrArg (fun e => T e d) (by dsimp only; omega)) | exact (h5 _ _).trans (congrArg (fun e => T e d) (by dsimp only; omega)) | exact (h6 _ _).trans (congrArg (fun e => T e d) (by dsimp only; omega)) | exact (h7 _ _).trans (congrArg (fun e => T e d) (by dsimp only; omega)) | exact (h8 _ _).trans (congrArg (fun e => T e d) (by dsimp only; omega)) | exact (h9 _ _).trans (congrArg (fun e => T e d) (by dsimp only; omega))

/-- The widened bias's entry, and the widened weights', from the arguments. -/
def wideB (a : S2304.Idx → EReal) (e : ℕ) : EReal := if h : e < 2560 then a (ix1 ⟨src e, src_lt h⟩) else 0
def wideW (a : S1024x2304.Idx → EReal) (e : ℕ) (d : Fin 1024) : EReal := if h : e < 2560 then a (ix2 d ⟨src e, src_lt h⟩) else 0

theorem wideB_of (a : S2304.Idx → EReal) (e : ℕ) (j : Fin 2304) (h : e < 2560) (hj : j.val = src e) : a (ix1 j) = wideB a e := by
  unfold wideB
  rw [dif_pos h]
  exact congrArg (fun j => a (ix1 j)) (Fin.ext hj)

theorem wideW_of (a : S1024x2304.Idx → EReal) (e : ℕ) (d : Fin 1024) (j : Fin 2304) (h : e < 2560) (hj : j.val = src e) : a (ix2 d j) = wideW a e d := by
  unfold wideW
  rw [dif_pos h]
  exact congrArg (fun j => a (ix2 d j)) (Fin.ext hj)

theorem src0 (k : ℕ) (h : k < 512) : 0 + k = src (0 + k) := by unfold src; split_ifs <;> omega
theorem src1 (k : ℕ) (h : k < 64) : 512 + k = src (512 + k) := by unfold src; split_ifs <;> omega
theorem src2 (k : ℕ) (h : k < 64) : 512 + k = src (576 + k) := by unfold src; split_ifs <;> omega
theorem src3 (k : ℕ) (h : k < 64) : 576 + k = src (640 + k) := by unfold src; split_ifs <;> omega
theorem src4 (k : ℕ) (h : k < 64) : 576 + k = src (704 + k) := by unfold src; split_ifs <;> omega
theorem src5 (k : ℕ) (h : k < 64) : 640 + k = src (768 + k) := by unfold src; split_ifs <;> omega
theorem src6 (k : ℕ) (h : k < 64) : 640 + k = src (832 + k) := by unfold src; split_ifs <;> omega
theorem src7 (k : ℕ) (h : k < 64) : 704 + k = src (896 + k) := by unfold src; split_ifs <;> omega
theorem src8 (k : ℕ) (h : k < 64) : 704 + k = src (960 + k) := by unfold src; split_ifs <;> omega
theorem src9 (k : ℕ) (h : k < 1536) : 768 + k = src (1024 + k) := by unfold src; split_ifs <;> omega

theorem sb0 (a : S2304.Idx → EReal) (k : Fin 512) : extractStridedSlice S1x512 ![0, 0] (shapeCast S1x2304 a shapeCasts_S2304_S1x2304) slices_S1x2304_S1x512_0_0 (ix2 (0 : Fin 1) k) = wideB a (0 + k.val) := by
  generalize hR : wideB a (0 + k.val) = R
  pointwise
  rw [← hR]
  exact wideB_of a _ _ (by omega) ((Nat.zero_add _).symm.trans <| src0 k.val k.isLt)
theorem sw0 (a : S1024x2304.Idx → EReal) (k : Fin 512) (d : Fin 1024) : extractStridedSlice S512x1024 ![0, 0] (truncf (F := Ideal) .bf16 (transpose S2304x1024 [1, 0] a transposes_S1024x2304_S2304x1024_1_0) bitsLt_bf16_f32) slices_S2304x1024_S512x1024_0_0 (ix2 k d) = wideW a (0 + k.val) d := by
  generalize hR : wideW a (0 + k.val) d = R
  pointwise
  rw [← hR]
  exact wideW_of a _ _ _ (by omega) ((Nat.zero_add _).symm.trans <| src0 k.val k.isLt)
theorem sb1 (a : S2304.Idx → EReal) (k : Fin 64) : extractStridedSlice S1x64 ![0, 512] (shapeCast S1x2304 a shapeCasts_S2304_S1x2304) slices_S1x2304_S1x64_0_512 (ix2 (0 : Fin 1) k) = wideB a (512 + k.val) := by
  generalize hR : wideB a (512 + k.val) = R
  pointwise
  rw [← hR]
  exact wideB_of a _ _ (by omega) (src1 k.val k.isLt)
theorem sw1 (a : S1024x2304.Idx → EReal) (k : Fin 64) (d : Fin 1024) : extractStridedSlice S64x1024 ![512, 0] (truncf (F := Ideal) .bf16 (transpose S2304x1024 [1, 0] a transposes_S1024x2304_S2304x1024_1_0) bitsLt_bf16_f32) slices_S2304x1024_S64x1024_512_0 (ix2 k d) = wideW a (512 + k.val) d := by
  generalize hR : wideW a (512 + k.val) d = R
  pointwise
  rw [← hR]
  exact wideW_of a _ _ _ (by omega) (src1 k.val k.isLt)
theorem sb2 (a : S2304.Idx → EReal) (k : Fin 64) : extractStridedSlice S1x64 ![0, 512] (shapeCast S1x2304 a shapeCasts_S2304_S1x2304) slices_S1x2304_S1x64_0_512 (ix2 (0 : Fin 1) k) = wideB a (576 + k.val) := by
  generalize hR : wideB a (576 + k.val) = R
  pointwise
  rw [← hR]
  exact wideB_of a _ _ (by omega) (src2 k.val k.isLt)
theorem sw2 (a : S1024x2304.Idx → EReal) (k : Fin 64) (d : Fin 1024) : extractStridedSlice S64x1024 ![512, 0] (truncf (F := Ideal) .bf16 (transpose S2304x1024 [1, 0] a transposes_S1024x2304_S2304x1024_1_0) bitsLt_bf16_f32) slices_S2304x1024_S64x1024_512_0 (ix2 k d) = wideW a (576 + k.val) d := by
  generalize hR : wideW a (576 + k.val) d = R
  pointwise
  rw [← hR]
  exact wideW_of a _ _ _ (by omega) (src2 k.val k.isLt)
theorem sb3 (a : S2304.Idx → EReal) (k : Fin 64) : extractStridedSlice S1x64 ![0, 576] (shapeCast S1x2304 a shapeCasts_S2304_S1x2304) slices_S1x2304_S1x64_0_576 (ix2 (0 : Fin 1) k) = wideB a (640 + k.val) := by
  generalize hR : wideB a (640 + k.val) = R
  pointwise
  rw [← hR]
  exact wideB_of a _ _ (by omega) (src3 k.val k.isLt)
theorem sw3 (a : S1024x2304.Idx → EReal) (k : Fin 64) (d : Fin 1024) : extractStridedSlice S64x1024 ![576, 0] (truncf (F := Ideal) .bf16 (transpose S2304x1024 [1, 0] a transposes_S1024x2304_S2304x1024_1_0) bitsLt_bf16_f32) slices_S2304x1024_S64x1024_576_0 (ix2 k d) = wideW a (640 + k.val) d := by
  generalize hR : wideW a (640 + k.val) d = R
  pointwise
  rw [← hR]
  exact wideW_of a _ _ _ (by omega) (src3 k.val k.isLt)
theorem sb4 (a : S2304.Idx → EReal) (k : Fin 64) : extractStridedSlice S1x64 ![0, 576] (shapeCast S1x2304 a shapeCasts_S2304_S1x2304) slices_S1x2304_S1x64_0_576 (ix2 (0 : Fin 1) k) = wideB a (704 + k.val) := by
  generalize hR : wideB a (704 + k.val) = R
  pointwise
  rw [← hR]
  exact wideB_of a _ _ (by omega) (src4 k.val k.isLt)
theorem sw4 (a : S1024x2304.Idx → EReal) (k : Fin 64) (d : Fin 1024) : extractStridedSlice S64x1024 ![576, 0] (truncf (F := Ideal) .bf16 (transpose S2304x1024 [1, 0] a transposes_S1024x2304_S2304x1024_1_0) bitsLt_bf16_f32) slices_S2304x1024_S64x1024_576_0 (ix2 k d) = wideW a (704 + k.val) d := by
  generalize hR : wideW a (704 + k.val) d = R
  pointwise
  rw [← hR]
  exact wideW_of a _ _ _ (by omega) (src4 k.val k.isLt)
theorem sb5 (a : S2304.Idx → EReal) (k : Fin 64) : extractStridedSlice S1x64 ![0, 640] (shapeCast S1x2304 a shapeCasts_S2304_S1x2304) slices_S1x2304_S1x64_0_640 (ix2 (0 : Fin 1) k) = wideB a (768 + k.val) := by
  generalize hR : wideB a (768 + k.val) = R
  pointwise
  rw [← hR]
  exact wideB_of a _ _ (by omega) (src5 k.val k.isLt)
theorem sw5 (a : S1024x2304.Idx → EReal) (k : Fin 64) (d : Fin 1024) : extractStridedSlice S64x1024 ![640, 0] (truncf (F := Ideal) .bf16 (transpose S2304x1024 [1, 0] a transposes_S1024x2304_S2304x1024_1_0) bitsLt_bf16_f32) slices_S2304x1024_S64x1024_640_0 (ix2 k d) = wideW a (768 + k.val) d := by
  generalize hR : wideW a (768 + k.val) d = R
  pointwise
  rw [← hR]
  exact wideW_of a _ _ _ (by omega) (src5 k.val k.isLt)
theorem sb6 (a : S2304.Idx → EReal) (k : Fin 64) : extractStridedSlice S1x64 ![0, 640] (shapeCast S1x2304 a shapeCasts_S2304_S1x2304) slices_S1x2304_S1x64_0_640 (ix2 (0 : Fin 1) k) = wideB a (832 + k.val) := by
  generalize hR : wideB a (832 + k.val) = R
  pointwise
  rw [← hR]
  exact wideB_of a _ _ (by omega) (src6 k.val k.isLt)
theorem sw6 (a : S1024x2304.Idx → EReal) (k : Fin 64) (d : Fin 1024) : extractStridedSlice S64x1024 ![640, 0] (truncf (F := Ideal) .bf16 (transpose S2304x1024 [1, 0] a transposes_S1024x2304_S2304x1024_1_0) bitsLt_bf16_f32) slices_S2304x1024_S64x1024_640_0 (ix2 k d) = wideW a (832 + k.val) d := by
  generalize hR : wideW a (832 + k.val) d = R
  pointwise
  rw [← hR]
  exact wideW_of a _ _ _ (by omega) (src6 k.val k.isLt)
theorem sb7 (a : S2304.Idx → EReal) (k : Fin 64) : extractStridedSlice S1x64 ![0, 704] (shapeCast S1x2304 a shapeCasts_S2304_S1x2304) slices_S1x2304_S1x64_0_704 (ix2 (0 : Fin 1) k) = wideB a (896 + k.val) := by
  generalize hR : wideB a (896 + k.val) = R
  pointwise
  rw [← hR]
  exact wideB_of a _ _ (by omega) (src7 k.val k.isLt)
theorem sw7 (a : S1024x2304.Idx → EReal) (k : Fin 64) (d : Fin 1024) : extractStridedSlice S64x1024 ![704, 0] (truncf (F := Ideal) .bf16 (transpose S2304x1024 [1, 0] a transposes_S1024x2304_S2304x1024_1_0) bitsLt_bf16_f32) slices_S2304x1024_S64x1024_704_0 (ix2 k d) = wideW a (896 + k.val) d := by
  generalize hR : wideW a (896 + k.val) d = R
  pointwise
  rw [← hR]
  exact wideW_of a _ _ _ (by omega) (src7 k.val k.isLt)
theorem sb8 (a : S2304.Idx → EReal) (k : Fin 64) : extractStridedSlice S1x64 ![0, 704] (shapeCast S1x2304 a shapeCasts_S2304_S1x2304) slices_S1x2304_S1x64_0_704 (ix2 (0 : Fin 1) k) = wideB a (960 + k.val) := by
  generalize hR : wideB a (960 + k.val) = R
  pointwise
  rw [← hR]
  exact wideB_of a _ _ (by omega) (src8 k.val k.isLt)
theorem sw8 (a : S1024x2304.Idx → EReal) (k : Fin 64) (d : Fin 1024) : extractStridedSlice S64x1024 ![704, 0] (truncf (F := Ideal) .bf16 (transpose S2304x1024 [1, 0] a transposes_S1024x2304_S2304x1024_1_0) bitsLt_bf16_f32) slices_S2304x1024_S64x1024_704_0 (ix2 k d) = wideW a (960 + k.val) d := by
  generalize hR : wideW a (960 + k.val) d = R
  pointwise
  rw [← hR]
  exact wideW_of a _ _ _ (by omega) (src8 k.val k.isLt)
theorem sb9 (a : S2304.Idx → EReal) (k : Fin 1536) : extractStridedSlice S1x1536 ![0, 768] (shapeCast S1x2304 a shapeCasts_S2304_S1x2304) slices_S1x2304_S1x1536_0_768 (ix2 (0 : Fin 1) k) = wideB a (1024 + k.val) := by
  generalize hR : wideB a (1024 + k.val) = R
  pointwise
  rw [← hR]
  exact wideB_of a _ _ (by omega) (src9 k.val k.isLt)
theorem sw9 (a : S1024x2304.Idx → EReal) (k : Fin 1536) (d : Fin 1024) : extractStridedSlice S1536x1024 ![768, 0] (truncf (F := Ideal) .bf16 (transpose S2304x1024 [1, 0] a transposes_S1024x2304_S2304x1024_1_0) bitsLt_bf16_f32) slices_S2304x1024_S1536x1024_768_0 (ix2 k d) = wideW a (1024 + k.val) d := by
  generalize hR : wideW a (1024 + k.val) d = R
  pointwise
  rw [← hR]
  exact wideW_of a _ _ _ (by omega) (src9 k.val k.isLt)

variable (m : (ℓ : Loc nD τ sig) → Buf (Elt Ideal) ℓ) (c : Dev nD)

theorem V_gain : (V m c main_v47 : Vec Ideal S1x1024 .f32) = fun y : S1x1024.Idx => (m ((c : Thread nD τ).loc main_arg1) : Vec Ideal S1024 .f32) (ix1 (y 1)) := by
  unfold_abbrev_sides
  after_results
  funext y
  pointwise

theorem V_cos : (V m c main_v16 : Vec Ideal S8192x128 .f32) = fun y : S8192x128.Idx => ProjRef.cs (y 0) (y 1).val := by
  unfold_abbrev_sides
  after_results
  funext y
  unfold ProjRef.cs
  unfold Cert.ProjRefIdeal.Read.val_main_v36 Cert.ProjRefIdeal.Read.val_main_v35 Cert.ProjRefIdeal.Read.val_main_v34 Cert.ProjRefIdeal.Read.val_main_v33 Cert.ProjRefIdeal.Read.val_main_v32 Cert.ProjRefIdeal.Read.val_main_v31 Cert.ProjRefIdeal.Read.val_main_v30 Cert.ProjRefIdeal.Read.val_main_v29 Cert.ProjRefIdeal.Read.val_main_v28 Cert.ProjRefIdeal.Read.val_main_v27 Cert.ProjRefIdeal.Read.val_main_v26 Cert.ProjRefIdeal.Read.val_main_v25 Cert.ProjRefIdeal.Read.val_main_v24
  pointwise
  rfl

theorem sn_apply (i : Fin 8192) (k : Fin 32) : Cert.ProjRefIdeal.Read.val_main_v38 (F := Ideal) (ix2 i k) = Ideal.sin (FloatOps.sitofp (F := Ideal) FTy.f32 (BitVec.ofNat 32 i.val) *
    Ideal.pow (Ideal.ofBits FTy.f32 1209170944#32) (Ideal.div (-FloatOps.sitofp (F := Ideal) FTy.f32 (BitVec.ofNat 32 k.val)) (Ideal.ofBits FTy.f32 1107296256#32))) := by
  unfold Cert.ProjRefIdeal.Read.val_main_v38 Cert.ProjRefIdeal.Read.val_main_v35 Cert.ProjRefIdeal.Read.val_main_v34 Cert.ProjRefIdeal.Read.val_main_v33 Cert.ProjRefIdeal.Read.val_main_v32 Cert.ProjRefIdeal.Read.val_main_v31 Cert.ProjRefIdeal.Read.val_main_v30 Cert.ProjRefIdeal.Read.val_main_v29 Cert.ProjRefIdeal.Read.val_main_v28 Cert.ProjRefIdeal.Read.val_main_v27 Cert.ProjRefIdeal.Read.val_main_v26 Cert.ProjRefIdeal.Read.val_main_v25 Cert.ProjRefIdeal.Read.val_main_v24
  pointwise
  rfl

theorem V_sin : (V m c main_v21 : Vec Ideal S8192x128 .f32) = fun y : S8192x128.Idx => if (y 1).val % 64 < 32 then -ProjRef.sn (y 0) (y 1).val else ProjRef.sn (y 0) (y 1).val := by
  unfold_abbrev_sides
  after_results
  funext y
  obtain ⟨i, k, rfl⟩ : ∃ (i : Fin 8192) (k : Fin 128), y = ix2 i k := ⟨y 0, y 1, eq_ix2 y⟩
  show _ = if k.val % 64 < 32 then -ProjRef.sn i k.val else ProjRef.sn i k.val
  generalize hR : (if k.val % 64 < 32 then -ProjRef.sn i k.val else ProjRef.sn i k.val) = R
  pointwise
  rw [← hR]
  unfold ProjRef.sn
  rw [sn_apply]
  by_cases h : k.val % 64 < 32
  · rw [dif_pos h, if_pos h, show k.val % 64 = k.val % 32 by omega]
  · rw [dif_neg h, if_neg h, show k.val % 64 - 32 = k.val % 32 by omega]

theorem V_bias : (V m c main_v46 : Vec Ideal S1x2560 .f32) = fun y : S1x2560.Idx => wideB (m ((c : Thread nD τ).loc main_arg3) : Vec Ideal S2304 .f32) (y 1).val := by
  unfold_abbrev_sides
  generalize hR : (fun y : S1x2560.Idx => wideB (m ((c : Thread nD τ).loc main_arg3) : Vec Ideal S2304 .f32) (y 1).val) = R
  after_reads_simp
  show concatenate S1x2560 1 [⟨S1x512, (StableHlo.upto hostOps0 (fun b => m (c, b)) _ (Proc.tc.devRef main_v36) : S1x512.Idx → EReal)⟩, ⟨S1x64, (StableHlo.upto hostOps0 (fun b => m (c, b)) _ (Proc.tc.devRef main_v37) : S1x64.Idx → EReal)⟩, ⟨S1x64, (StableHlo.upto hostOps0 (fun b => m (c, b)) _ (Proc.tc.devRef main_v38) : S1x64.Idx → EReal)⟩, ⟨S1x64, (StableHlo.upto hostOps0 (fun b => m (c, b)) _ (Proc.tc.devRef main_v39) : S1x64.Idx → EReal)⟩, ⟨S1x64, (StableHlo.upto hostOps0 (fun b => m (c, b)) _ (Proc.tc.devRef main_v40) : S1x64.Idx → EReal)⟩, ⟨S1x64, (StableHlo.upto hostOps0 (fun b => m (c, b)) _ (Proc.tc.devRef main_v41) : S1x64.Idx → EReal)⟩, ⟨S1x64, (StableHlo.upto hostOps0 (fun b => m (c, b)) _ (Proc.tc.devRef main_v42) : S1x64.Idx → EReal)⟩, ⟨S1x64, (StableHlo.upto hostOps0 (fun b => m (c, b)) _ (Proc.tc.devRef main_v43) : S1x64.Idx → EReal)⟩, ⟨S1x64, (StableHlo.upto hostOps0 (fun b => m (c, b)) _ (Proc.tc.devRef main_v44) : S1x64.Idx → EReal)⟩, ⟨S1x1536, (StableHlo.upto hostOps0 (fun b => m (c, b)) _ (Proc.tc.devRef main_v45) : S1x1536.Idx → EReal)⟩] concatenates_S1x512_S1x64_S1x64_S1x64_S1x64_S1x64_S1x64_S1x64_S1x64_S1x1536_S1x2560_d1 = R
  have e36 : (StableHlo.upto hostOps0 (fun b => m (c, b)) 48 (Proc.tc.devRef main_v36) : S1x512.Idx → EReal) = extractStridedSlice S1x512 ![0, 0] (shapeCast S1x2304 (m ((c : Thread nD τ).loc main_arg3) : Vec Ideal S2304 .f32) shapeCasts_S2304_S1x2304) slices_S1x2304_S1x512_0_0 := by
    after_reads_simp
    try rfl
  have e37 : (StableHlo.upto hostOps0 (fun b => m (c, b)) 48 (Proc.tc.devRef main_v37) : S1x64.Idx → EReal) = extractStridedSlice S1x64 ![0, 512] (shapeCast S1x2304 (m ((c : Thread nD τ).loc main_arg3) : Vec Ideal S2304 .f32) shapeCasts_S2304_S1x2304) slices_S1x2304_S1x64_0_512 := by
    after_reads_simp
    try rfl
  have e38 : (StableHlo.upto hostOps0 (fun b => m (c, b)) 48 (Proc.tc.devRef main_v38) : S1x64.Idx → EReal) = extractStridedSlice S1x64 ![0, 512] (shapeCast S1x2304 (m ((c : Thread nD τ).loc main_arg3) : Vec Ideal S2304 .f32) shapeCasts_S2304_S1x2304) slices_S1x2304_S1x64_0_512 := by
    after_reads_simp
    try rfl
  have e39 : (StableHlo.upto hostOps0 (fun b => m (c, b)) 48 (Proc.tc.devRef main_v39) : S1x64.Idx → EReal) = extractStridedSlice S1x64 ![0, 576] (shapeCast S1x2304 (m ((c : Thread nD τ).loc main_arg3) : Vec Ideal S2304 .f32) shapeCasts_S2304_S1x2304) slices_S1x2304_S1x64_0_576 := by
    after_reads_simp
    try rfl
  have e40 : (StableHlo.upto hostOps0 (fun b => m (c, b)) 48 (Proc.tc.devRef main_v40) : S1x64.Idx → EReal) = extractStridedSlice S1x64 ![0, 576] (shapeCast S1x2304 (m ((c : Thread nD τ).loc main_arg3) : Vec Ideal S2304 .f32) shapeCasts_S2304_S1x2304) slices_S1x2304_S1x64_0_576 := by
    after_reads_simp
    try rfl
  have e41 : (StableHlo.upto hostOps0 (fun b => m (c, b)) 48 (Proc.tc.devRef main_v41) : S1x64.Idx → EReal) = extractStridedSlice S1x64 ![0, 640] (shapeCast S1x2304 (m ((c : Thread nD τ).loc main_arg3) : Vec Ideal S2304 .f32) shapeCasts_S2304_S1x2304) slices_S1x2304_S1x64_0_640 := by
    after_reads_simp
    try rfl
  have e42 : (StableHlo.upto hostOps0 (fun b => m (c, b)) 48 (Proc.tc.devRef main_v42) : S1x64.Idx → EReal) = extractStridedSlice S1x64 ![0, 640] (shapeCast S1x2304 (m ((c : Thread nD τ).loc main_arg3) : Vec Ideal S2304 .f32) shapeCasts_S2304_S1x2304) slices_S1x2304_S1x64_0_640 := by
    after_reads_simp
    try rfl
  have e43 : (StableHlo.upto hostOps0 (fun b => m (c, b)) 48 (Proc.tc.devRef main_v43) : S1x64.Idx → EReal) = extractStridedSlice S1x64 ![0, 704] (shapeCast S1x2304 (m ((c : Thread nD τ).loc main_arg3) : Vec Ideal S2304 .f32) shapeCasts_S2304_S1x2304) slices_S1x2304_S1x64_0_704 := by
    after_reads_simp
    try rfl
  have e44 : (StableHlo.upto hostOps0 (fun b => m (c, b)) 48 (Proc.tc.devRef main_v44) : S1x64.Idx → EReal) = extractStridedSlice S1x64 ![0, 704] (shapeCast S1x2304 (m ((c : Thread nD τ).loc main_arg3) : Vec Ideal S2304 .f32) shapeCasts_S2304_S1x2304) slices_S1x2304_S1x64_0_704 := by
    after_reads_simp
    try rfl
  have e45 : (StableHlo.upto hostOps0 (fun b => m (c, b)) 48 (Proc.tc.devRef main_v45) : S1x1536.Idx → EReal) = extractStridedSlice S1x1536 ![0, 768] (shapeCast S1x2304 (m ((c : Thread nD τ).loc main_arg3) : Vec Ideal S2304 .f32) shapeCasts_S2304_S1x2304) slices_S1x2304_S1x1536_0_768 := by
    after_reads_simp
    try rfl
  rw [e36, e37, e38, e39, e40, e41, e42, e43, e44, e45]
  clear e36 e37 e38 e39 e40 e41 e42 e43 e44 e45
  rw [← hR]
  clear hR
  funext y
  obtain ⟨z, k, rfl⟩ : ∃ (z : Fin 1) (k : Fin 2560), y = ix2 z k := ⟨y 0, y 1, eq_ix2 y⟩
  obtain rfl : z = 0 := Subsingleton.elim _ _
  exact cat_bias (wideB _) _ _ _ _ _ _ _ _ _ _ (sb0 _) (sb1 _) (sb2 _) (sb3 _) (sb4 _) (sb5 _) (sb6 _) (sb7 _) (sb8 _) (sb9 _) k

theorem V_w : (V m c main_v34 : Vec Ideal S2560x1024 .bf16) = fun y : S2560x1024.Idx => wideW (m ((c : Thread nD τ).loc main_arg2) : Vec Ideal S1024x2304 .f32) (y 0).val (y 1) := by
  unfold_abbrev_sides
  generalize hR : (fun y : S2560x1024.Idx => wideW (m ((c : Thread nD τ).loc main_arg2) : Vec Ideal S1024x2304 .f32) (y 0).val (y 1)) = R
  after_reads_simp
  show concatenate S2560x1024 0 [⟨S512x1024, (StableHlo.upto hostOps0 (fun b => m (c, b)) _ (Proc.tc.devRef main_v24) : S512x1024.Idx → EReal)⟩, ⟨S64x1024, (StableHlo.upto hostOps0 (fun b => m (c, b)) _ (Proc.tc.devRef main_v25) : S64x1024.Idx → EReal)⟩, ⟨S64x1024, (StableHlo.upto hostOps0 (fun b => m (c, b)) _ (Proc.tc.devRef main_v26) : S64x1024.Idx → EReal)⟩, ⟨S64x1024, (StableHlo.upto hostOps0 (fun b => m (c, b)) _ (Proc.tc.devRef main_v27) : S64x1024.Idx → EReal)⟩, ⟨S64x1024, (StableHlo.upto hostOps0 (fun b => m (c, b)) _ (Proc.tc.devRef main_v28) : S64x1024.Idx → EReal)⟩, ⟨S64x1024, (StableHlo.upto hostOps0 (fun b => m (c, b)) _ (Proc.tc.devRef main_v29) : S64x1024.Idx → EReal)⟩, ⟨S64x1024, (StableHlo.upto hostOps0 (fun b => m (c, b)) _ (Proc.tc.devRef main_v30) : S64x1024.Idx → EReal)⟩, ⟨S64x1024, (StableHlo.upto hostOps0 (fun b => m (c, b)) _ (Proc.tc.devRef main_v31) : S64x1024.Idx → EReal)⟩, ⟨S64x1024, (StableHlo.upto hostOps0 (fun b => m (c, b)) _ (Proc.tc.devRef main_v32) : S64x1024.Idx → EReal)⟩, ⟨S1536x1024, (StableHlo.upto hostOps0 (fun b => m (c, b)) _ (Proc.tc.devRef main_v33) : S1536x1024.Idx → EReal)⟩] concatenates_S512x1024_S64x1024_S64x1024_S64x1024_S64x1024_S64x1024_S64x1024_S64x1024_S64x1024_S1536x1024_S2560x1024_d0 = R
  have e24 : (StableHlo.upto hostOps0 (fun b => m (c, b)) 36 (Proc.tc.devRef main_v24) : S512x1024.Idx → EReal) = extractStridedSlice S512x1024 ![0, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S512x1024_0_0 := by
    after_reads_simp
    try rfl
  have e25 : (StableHlo.upto hostOps0 (fun b => m (c, b)) 36 (Proc.tc.devRef main_v25) : S64x1024.Idx → EReal) = extractStridedSlice S64x1024 ![512, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S64x1024_512_0 := by
    after_reads_simp
    try rfl
  have e26 : (StableHlo.upto hostOps0 (fun b => m (c, b)) 36 (Proc.tc.devRef main_v26) : S64x1024.Idx → EReal) = extractStridedSlice S64x1024 ![512, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S64x1024_512_0 := by
    after_reads_simp
    try rfl
  have e27 : (StableHlo.upto hostOps0 (fun b => m (c, b)) 36 (Proc.tc.devRef main_v27) : S64x1024.Idx → EReal) = extractStridedSlice S64x1024 ![576, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S64x1024_576_0 := by
    after_reads_simp
    try rfl
  have e28 : (StableHlo.upto hostOps0 (fun b => m (c, b)) 36 (Proc.tc.devRef main_v28) : S64x1024.Idx → EReal) = extractStridedSlice S64x1024 ![576, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S64x1024_576_0 := by
    after_reads_simp
    try rfl
  have e29 : (StableHlo.upto hostOps0 (fun b => m (c, b)) 36 (Proc.tc.devRef main_v29) : S64x1024.Idx → EReal) = extractStridedSlice S64x1024 ![640, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S64x1024_640_0 := by
    after_reads_simp
    try rfl
  have e30 : (StableHlo.upto hostOps0 (fun b => m (c, b)) 36 (Proc.tc.devRef main_v30) : S64x1024.Idx → EReal) = extractStridedSlice S64x1024 ![640, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S64x1024_640_0 := by
    after_reads_simp
    try rfl
  have e31 : (StableHlo.upto hostOps0 (fun b => m (c, b)) 36 (Proc.tc.devRef main_v31) : S64x1024.Idx → EReal) = extractStridedSlice S64x1024 ![704, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S64x1024_704_0 := by
    after_reads_simp
    try rfl
  have e32 : (StableHlo.upto hostOps0 (fun b => m (c, b)) 36 (Proc.tc.devRef main_v32) : S64x1024.Idx → EReal) = extractStridedSlice S64x1024 ![704, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S64x1024_704_0 := by
    after_reads_simp
    try rfl
  have e33 : (StableHlo.upto hostOps0 (fun b => m (c, b)) 36 (Proc.tc.devRef main_v33) : S1536x1024.Idx → EReal) = extractStridedSlice S1536x1024 ![768, 0] (truncf (F := Ideal) .bf16 (transpose S2304x1024 [1, 0] (m ((c : Thread nD τ).loc main_arg2) : Vec Ideal S1024x2304 .f32) transposes_S1024x2304_S2304x1024_1_0) bitsLt_bf16_f32) slices_S2304x1024_S1536x1024_768_0 := by
    after_reads_simp
    try rfl
  rw [e24, e25, e26, e27, e28, e29, e30, e31, e32, e33]
  clear e24 e25 e26 e27 e28 e29 e30 e31 e32 e33
  rw [← hR]
  clear hR
  funext y
  obtain ⟨k, d, rfl⟩ : ∃ (k : Fin 2560) (d : Fin 1024), y = ix2 k d := ⟨y 0, y 1, eq_ix2 y⟩
  exact cat_w (wideW _) _ _ _ _ _ _ _ _ _ _ (sw0 _) (sw1 _) (sw2 _) (sw3 _) (sw4 _) (sw5 _) (sw6 _) (sw7 _) (sw8 _) (sw9 _) k d

end Cert.ProjHost
end
-- ==== Proof.ProjValue.lean ====
/- What the normed projections' kernel leaves in its thirteen result arrays, against the reference's. -/
module

public import proofs.«01_k».proof.Proof.ProjOut
public import proofs.«01_k».proof.Proof.ProjHost
public import Idealize.ShloMosaic.Lib.Tactic

@[expose] public section

noncomputable section

namespace Cert.ProjValue

open Idealize.ShloMosaic Idealize.ShloMosaic.TcCoe Idealize.SL.Sem
open Idealize.ShloMosaic.Pipeline (Dat)
open Cert.ProjIdeal Cert.ProjIdeal.Gen Cert.Lift Cert.ProjBlock Cert.ProjPlane Cert.ProjHost Cert.ProjRef

variable (m : (ℓ : Loc nD τ sig) → Buf (Elt Ideal) ℓ) (c : Dev nD)

theorem lt16 (t : Fin cfg0.N) : t.val < 16 := lt_of_lt_of_eq t.isLt (show cfg0.N = 16 from N_0)

/-- Row `n` of point `t`'s block of rows; and of its blocks of packed rows, four or sixteen to one. -/
def rowOf (t : Fin cfg0.N) (n : Fin 512) : Fin 8192 := ⟨512 * t.val + n.val, by have := lt16 t; omega⟩
def row4 (t : Fin cfg0.N) (n : Fin 128) : Fin 2048 := ⟨128 * t.val + n.val, by have := lt16 t; omega⟩
def row16 (t : Fin cfg0.N) (n : Fin 32) : Fin 512 := ⟨32 * t.val + n.val, by have := lt16 t; omega⟩

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0) :=
  (by decide +kernel : ∀ t : Fin grid0.N, _)

theorem emb0 (t : Fin cfg0.N) (y : S512x1024.Idx) : ((cfg0.win 0).blk t).view.emb y = ix2 (rowOf t (y 0)) (y 1) := by
  have e := (idx_facts t).1.1
  have e' := (idx_facts t).1.2
  funext a; apply Fin.ext
  match a with
  | ⟨0, _⟩ => show win0_0.index t (0 : Fin 2) * 512 + 1 * (y 0).val = 512 * t.val + (y 0).val; omega
  | ⟨1, _⟩ => show win0_0.index t (1 : Fin 2) * 1024 + 1 * (y 1).val = (y 1).val; omega

theorem emb1 (t : Fin cfg0.N) (y : S1x1024.Idx) : ((cfg0.win 1).blk t).view.emb y = y := by
  have e := (idx_facts t).2.1.1
  have e' := (idx_facts t).2.1.2
  funext a; apply Fin.ext
  match a with
  | ⟨0, _⟩ => show win0_1.index t (0 : Fin 2) * 1 + 1 * (y 0).val = (y 0).val; omega
  | ⟨1, _⟩ => show win0_1.index t (1 : Fin 2) * 1024 + 1 * (y 1).val = (y 1).val; omega

theorem emb2 (t : Fin cfg0.N) (y : S2560x1024.Idx) : ((cfg0.win 2).blk t).view.emb y = y := by
  have e := (idx_facts t).2.2.1.1
  have e' := (idx_facts t).2.2.1.2
  funext a; apply Fin.ext
  match a with
  | ⟨0, _⟩ => show win0_2.index t (0 : Fin 2) * 2560 + 1 * (y 0).val = (y 0).val; omega
  | ⟨1, _⟩ => show win0_2.index t (1 : Fin 2) * 1024 + 1 * (y 1).val = (y 1).val; omega

theorem emb3 (t : Fin cfg0.N) (y : S1x2560.Idx) : ((cfg0.win 3).blk t).view.emb y = y := by
  have e := (idx_facts t).2.2.2.1.1
  have e' := (idx_facts t).2.2.2.1.2
  funext a; apply Fin.ext
  match a with
  | ⟨0, _⟩ => show win0_3.index t (0 : Fin 2) * 1 + 1 * (y 0).val = (y 0).val; omega
  | ⟨1, _⟩ => show win0_3.index t (1 : Fin 2) * 2560 + 1 * (y 1).val = (y 1).val; omega

theorem emb4 (t : Fin cfg0.N) (y : S512x128.Idx) : ((cfg0.win 4).blk t).view.emb y = ix2 (rowOf t (y 0)) (y 1) := by
  have e := (idx_facts t).2.2.2.2.1.1
  have e' := (idx_facts t).2.2.2.2.1.2
  funext a; apply Fin.ext
  match a with
  | ⟨0, _⟩ => show win0_4.index t (0 : Fin 2) * 512 + 1 * (y 0).val = 512 * t.val + (y 0).val; omega
  | ⟨1, _⟩ => show win0_4.index t (1 : Fin 2) * 128 + 1 * (y 1).val = (y 1).val; omega

theorem emb5 (t : Fin cfg0.N) (y : S512x128.Idx) : ((cfg0.win 5).blk t).view.emb y = ix2 (rowOf t (y 0)) (y 1) := by
  have e := (idx_facts t).2.2.2.2.2.1.1
  have e' := (idx_facts t).2.2.2.2.2.1.2
  funext a; apply Fin.ext
  match a with
  | ⟨0, _⟩ => show win0_5.index t (0 : Fin 2) * 512 + 1 * (y 0).val = 512 * t.val + (y 0).val; omega
  | ⟨1, _⟩ => show win0_5.index t (1 : Fin 2) * 128 + 1 * (y 1).val = (y 1).val; omega

theorem emb6 (t : Fin cfg0.N) (y : S512x1024.Idx) : ((cfg0.win 6).blk t).view.emb y = ix2 (rowOf t (y 0)) (y 1) := by
  have e := (idx_facts t).2.2.2.2.2.2.1.1
  have e' := (idx_facts t).2.2.2.2.2.2.1.2
  funext a; apply Fin.ext
  match a with
  | ⟨0, _⟩ => show win0_6.index t (0 : Fin 2) * 512 + 1 * (y 0).val = 512 * t.val + (y 0).val; omega
  | ⟨1, _⟩ => show win0_6.index t (1 : Fin 2) * 1024 + 1 * (y 1).val = (y 1).val; omega

theorem emb7 (t : Fin cfg0.N) (y : S512x512.Idx) : ((cfg0.win 7).blk t).view.emb y = ix2 (rowOf t (y 0)) (y 1) := by
  have e := (idx_facts t).2.2.2.2.2.2.2.1.1
  have e' := (idx_facts t).2.2.2.2.2.2.2.1.2
  funext a; apply Fin.ext
  match a with
  | ⟨0, _⟩ => show win0_7.index t (0 : Fin 2) * 512 + 1 * (y 0).val = 512 * t.val + (y 0).val; omega
  | ⟨1, _⟩ => show win0_7.index t (1 : Fin 2) * 512 + 1 * (y 1).val = (y 1).val; omega

theorem emb8 (t : Fin cfg0.N) (y : S512x256.Idx) : ((cfg0.win 8).blk t).view.emb y = ix2 (rowOf t (y 0)) (y 1) := by
  have e := (idx_facts t).2.2.2.2.2.2.2.2.1.1
  have e' := (idx_facts t).2.2.2.2.2.2.2.2.1.2
  funext a; apply Fin.ext
  match a with
  | ⟨0, _⟩ => show win0_8.index t (0 : Fin 2) * 512 + 1 * (y 0).val = 512 * t.val + (y 0).val; omega
  | ⟨1, _⟩ => show win0_8.index t (1 : Fin 2) * 256 + 1 * (y 1).val = (y 1).val; omega

theorem emb9 (t : Fin cfg0.N) (y : S512x256.Idx) : ((cfg0.win 9).blk t).view.emb y = ix2 (rowOf t (y 0)) (y 1) := by
  have e := (idx_facts t).2.2.2.2.2.2.2.2.2.1.1
  have e' := (idx_facts t).2.2.2.2.2.2.2.2.2.1.2
  funext a; apply Fin.ext
  match a with
  | ⟨0, _⟩ => show win0_9.index t (0 : Fin 2) * 512 + 1 * (y 0).val = 512 * t.val + (y 0).val; omega
  | ⟨1, _⟩ => show win0_9.index t (1 : Fin 2) * 256 + 1 * (y 1).val = (y 1).val; omega

theorem emb10 (t : Fin cfg0.N) (y : S512x512.Idx) : ((cfg0.win 10).blk t).view.emb y = ix2 (rowOf t (y 0)) (y 1) := by
  have e := (idx_facts t).2.2.2.2.2.2.2.2.2.2.1.1
  have e' := (idx_facts t).2.2.2.2.2.2.2.2.2.2.1.2
  funext a; apply Fin.ext
  match a with
  | ⟨0, _⟩ => show win0_10.index t (0 : Fin 2) * 512 + 1 * (y 0).val = 512 * t.val + (y 0).val; omega
  | ⟨1, _⟩ => show win0_10.index t (1 : Fin 2) * 512 + 1 * (y 1).val = (y 1).val; omega

theorem emb11 (t : Fin cfg0.N) (y : S128x2048.Idx) : ((cfg0.win 11).blk t).view.emb y = ix2 (row4 t (y 0)) (y 1) := by
  have e := (idx_facts t).2.2.2.2.2.2.2.2.2.2.2.1.1
  have e' := (idx_facts t).2.2.2.2.2.2.2.2.2.2.2.1.2
  funext a; apply Fin.ext
  match a with
  | ⟨0, _⟩ => show win0_11.index t (0 : Fin 2) * 128 + 1 * (y 0).val = 128 * t.val + (y 0).val; omega
  | ⟨1, _⟩ => show win0_11.index t (1 : Fin 2) * 2048 + 1 * (y 1).val = (y 1).val; omega

theorem emb12 (t : Fin cfg0.N) (y : S32x8192.Idx) : ((cfg0.win 12).blk t).view.emb y = ix2 (row16 t (y 0)) (y 1) := by
  have e := (idx_facts t).2.2.2.2.2.2.2.2.2.2.2.2.1.1
  have e' := (idx_facts t).2.2.2.2.2.2.2.2.2.2.2.2.1.2
  funext a; apply Fin.ext
  match a with
  | ⟨0, _⟩ => show win0_12.index t (0 : Fin 2) * 32 + 1 * (y 0).val = 32 * t.val + (y 0).val; omega
  | ⟨1, _⟩ => show win0_12.index t (1 : Fin 2) * 8192 + 1 * (y 1).val = (y 1).val; omega

theorem emb13 (t : Fin cfg0.N) (y : S512x512.Idx) : ((cfg0.win 13).blk t).view.emb y = ix2 (rowOf t (y 0)) (y 1) := by
  have e := (idx_facts t).2.2.2.2.2.2.2.2.2.2.2.2.2.1.1
  have e' := (idx_facts t).2.2.2.2.2.2.2.2.2.2.2.2.2.1.2
  funext a; apply Fin.ext
  match a with
  | ⟨0, _⟩ => show win0_13.index t (0 : Fin 2) * 512 + 1 * (y 0).val = 512 * t.val + (y 0).val; omega
  | ⟨1, _⟩ => show win0_13.index t (1 : Fin 2) * 512 + 1 * (y 1).val = (y 1).val; omega

theorem emb14 (t : Fin cfg0.N) (y : S128x2048.Idx) : ((cfg0.win 14).blk t).view.emb y = ix2 (row4 t (y 0)) (y 1) := by
  have e := (idx_facts t).2.2.2.2.2.2.2.2.2.2.2.2.2.2.1.1
  have e' := (idx_facts t).2.2.2.2.2.2.2.2.2.2.2.2.2.2.1.2
  funext a; apply Fin.ext
  match a with
  | ⟨0, _⟩ => show win0_14.index t (0 : Fin 2) * 128 + 1 * (y 0).val = 128 * t.val + (y 0).val; omega
  | ⟨1, _⟩ => show win0_14.index t (1 : Fin 2) * 2048 + 1 * (y 1).val = (y 1).val; omega

theorem emb15 (t : Fin cfg0.N) (y : S32x8192.Idx) : ((cfg0.win 15).blk t).view.emb y = ix2 (row16 t (y 0)) (y 1) := by
  have e := (idx_facts t).2.2.2.2.2.2.2.2.2.2.2.2.2.2.2.1.1
  have e' := (idx_facts t).2.2.2.2.2.2.2.2.2.2.2.2.2.2.2.1.2
  funext a; apply Fin.ext
  match a with
  | ⟨0, _⟩ => show win0_15.index t (0 : Fin 2) * 32 + 1 * (y 0).val = 32 * t.val + (y 0).val; omega
  | ⟨1, _⟩ => show win0_15.index t (1 : Fin 2) * 8192 + 1 * (y 1).val = (y 1).val; omega

theorem emb16 (t : Fin cfg0.N) (y : S512x512.Idx) : ((cfg0.win 16).blk t).view.emb y = ix2 (rowOf t (y 0)) (y 1) := by
  have e := (idx_facts t).2.2.2.2.2.2.2.2.2.2.2.2.2.2.2.2.1.1
  have e' := (idx_facts t).2.2.2.2.2.2.2.2.2.2.2.2.2.2.2.2.1.2
  funext a; apply Fin.ext
  match a with
  | ⟨0, _⟩ => show win0_16.index t (0 : Fin 2) * 512 + 1 * (y 0).val = 512 * t.val + (y 0).val; omega
  | ⟨1, _⟩ => show win0_16.index t (1 : Fin 2) * 512 + 1 * (y 1).val = (y 1).val; omega

theorem emb17 (t : Fin cfg0.N) (y : S128x2048.Idx) : ((cfg0.win 17).blk t).view.emb y = ix2 (row4 t (y 0)) (y 1) := by
  have e := (idx_facts t).2.2.2.2.2.2.2.2.2.2.2.2.2.2.2.2.2.1.1
  have e' := (idx_facts t).2.2.2.2.2.2.2.2.2.2.2.2.2.2.2.2.2.1.2
  funext a; apply Fin.ext
  match a with
  | ⟨0, _⟩ => show win0_17.index t (0 : Fin 2) * 128 + 1 * (y 0).val = 128 * t.val + (y 0).val; omega
  | ⟨1, _⟩ => show win0_17.index t (1 : Fin 2) * 2048 + 1 * (y 1).val = (y 1).val; omega

theorem emb18 (t : Fin cfg0.N) (y : S32x8192.Idx) : ((cfg0.win 18).blk t).view.emb y = ix2 (row16 t (y 0)) (y 1) := by
  have e := (idx_facts t).2.2.2.2.2.2.2.2.2.2.2.2.2.2.2.2.2.2.1
  have e' := (idx_facts t).2.2.2.2.2.2.2.2.2.2.2.2.2.2.2.2.2.2.2
  funext a; apply Fin.ext
  match a with
  | ⟨0, _⟩ => show win0_18.index t (0 : Fin 2) * 32 + 1 * (y 0).val = 32 * t.val + (y 0).val; omega
  | ⟨1, _⟩ => show win0_18.index t (1 : Fin 2) * 8192 + 1 * (y 1).val = (y 1).val; omega

theorem split {b : ℕ} (y : (⟨2, ![8192, b]⟩ : Shape).Idx) : ∃ (t : Fin cfg0.N) (i : Fin 512) (k : Fin b), y = ix2 (rowOf t i) k := by
  have h0 : (y 0).val < 8192 := (y 0).isLt
  have hN : cfg0.N = 16 := N_0
  refine ⟨⟨(y 0).val / 512, by omega⟩, ⟨(y 0).val % 512, Nat.mod_lt _ (by norm_num)⟩, y 1, ?_⟩
  funext a
  match a with
  | ⟨0, _⟩ => exact Fin.ext (Nat.div_add_mod _ _).symm
  | ⟨1, _⟩ => rfl

theorem split4 (y : (⟨2, ![2048, 2048]⟩ : Shape).Idx) : ∃ (t : Fin cfg0.N) (i : Fin 128) (k : Fin 2048), y = ix2 (row4 t i) k := by
  have h0 : (y 0).val < 2048 := (y 0).isLt
  have hN : cfg0.N = 16 := N_0
  refine ⟨⟨(y 0).val / 128, by omega⟩, ⟨(y 0).val % 128, Nat.mod_lt _ (by norm_num)⟩, y 1, ?_⟩
  funext a
  match a with
  | ⟨0, _⟩ => exact Fin.ext (Nat.div_add_mod _ _).symm
  | ⟨1, _⟩ => rfl

theorem split16 (y : (⟨2, ![512, 8192]⟩ : Shape).Idx) : ∃ (t : Fin cfg0.N) (i : Fin 32) (k : Fin 8192), y = ix2 (row16 t i) k := by
  have h0 : (y 0).val < 512 := (y 0).isLt
  have hN : cfg0.N = 16 := N_0
  refine ⟨⟨(y 0).val / 32, by omega⟩, ⟨(y 0).val % 32, Nat.mod_lt _ (by norm_num)⟩, y 1, ?_⟩
  funext a
  match a with
  | ⟨0, _⟩ => exact Fin.ext (Nat.div_add_mod _ _).symm
  | ⟨1, _⟩ => rfl

/-! ## The blocks the kernel reads -/

/-- The four argument arrays. -/
abbrev X : S8192x1024.Idx → EReal := m ((c : Thread nD τ).loc main_arg0)
abbrev G : S1024.Idx → EReal := m ((c : Thread nD τ).loc main_arg1)
abbrev W : S1024x2304.Idx → EReal := m ((c : Thread nD τ).loc main_arg2)
abbrev B : S2304.Idx → EReal := m ((c : Thread nD τ).loc main_arg3)

theorem iblk0 (t : Fin cfg0.N) : (iblk m c 0 t : Vec Ideal S512x1024 .f32) = fun y : S512x1024.Idx => X m c (ix2 (rowOf t (y 0)) (y 1)) := by
  funext y
  show V m c main_arg0 (((cfg0.win 0).blk t).view.emb y) = _
  rw [emb0]
  rfl

theorem iblk1 (t : Fin cfg0.N) : (iblk m c 1 t : Vec Ideal S1x1024 .f32) = fun y : S1x1024.Idx => G m c (ix1 (y 1)) := by
  funext y
  show V m c main_v47 (((cfg0.win 1).blk t).view.emb y) = _
  rw [V_gain, emb1]

theorem iblk2 (t : Fin cfg0.N) : (iblk m c 2 t : Vec Ideal S2560x1024 .bf16) = fun y : S2560x1024.Idx => wideW (W m c) (y 0).val (y 1) := by
  funext y
  show V m c main_v34 (((cfg0.win 2).blk t).view.emb y) = _
  rw [V_w, emb2]

theorem iblk3 (t : Fin cfg0.N) : (iblk m c 3 t : Vec Ideal S1x2560 .f32) = fun y : S1x2560.Idx => wideB (B m c) (y 1).val := by
  funext y
  show V m c main_v46 (((cfg0.win 3).blk t).view.emb y) = _
  rw [V_bias, emb3]

theorem iblk4 (t : Fin cfg0.N) : (iblk m c 4 t : Vec Ideal S512x128 .f32) = fun y : S512x128.Idx => cs (rowOf t (y 0)) (y 1).val := by
  funext y
  show V m c main_v16 (((cfg0.win 4).blk t).view.emb y) = _
  rw [V_cos, emb4]
  rfl

theorem iblk5 (t : Fin cfg0.N) : (iblk m c 5 t : Vec Ideal S512x128 .f32) = fun y : S512x128.Idx => if (y 1).val % 64 < 32 then -sn (rowOf t (y 0)) (y 1).val else sn (rowOf t (y 0)) (y 1).val := by
  funext y
  show V m c main_v21 (((cfg0.win 5).blk t).view.emb y) = _
  rw [V_sin, emb5]
  rfl

/-! ## The normed rows, and a column of the product -/

theorem ofBits_zero : Ideal.ofBits .f32 0x00000000#32 = 0 := by simp [Ideal.ofBits, Ideal.ieee]

theorem hrow (t : Fin cfg0.N) (n : Fin 512) (d : Fin 1024) : k0_pay4 (F := Ideal) (iblk m c 0 t) (iblk m c 1 t) (ix2 n d)
    = Cert.ProjRefIdeal.Read.val_main_v12 (F := Ideal) (X m c) (G m c) (ix2 (rowOf t n) d) := by
  rw [iblk0, iblk1]
  generalize X m c = x
  generalize G m c = g
  generalize hR : Cert.ProjRefIdeal.Read.val_main_v12 (F := Ideal) x g (ix2 (rowOf t n) d) = R
  unfold k0_pay4
  pointwise
  rw [← hR]
  clear hR
  unfold Cert.ProjRefIdeal.Read.val_main_v12 Cert.ProjRefIdeal.Read.val_main_v11 Cert.ProjRefIdeal.Read.val_main_v10 Cert.ProjRefIdeal.Read.val_main_v9 Cert.ProjRefIdeal.Read.val_main_v8 Cert.ProjRefIdeal.Read.val_main_v7 Cert.ProjRefIdeal.Read.val_main_v6 Cert.ProjRefIdeal.Read.val_main_v5 Cert.ProjRefIdeal.Read.val_main_v4 Cert.ProjRefIdeal.Read.val_main_v3 Cert.ProjRefIdeal.Read.val_main_v2 Cert.ProjRefIdeal.Read.val_main_v1 Cert.ProjRefIdeal.Read.val_main_v0
  pointwise
  rw [show Cert.ProjRefIdeal.Read.val_main_cst (F := Ideal) (Shape.Idx.first Cert.ProjRefIdeal.Gen.h_S_) = 0 from ofBits_zero, zero_add]
  rfl

abbrev H (t : Fin cfg0.N) : S512x1024.Idx → EReal := k0_pay4 (F := Ideal) (iblk m c 0 t) (iblk m c 1 t)
abbrev Y (i : Fin 8192) (e : ℕ) : EReal := yr (X m c) (G m c) (W m c) (B m c) i e

theorem col (t : Fin cfg0.N) (n : Fin 512) (e j : ℕ) (he : e < 2560) (hj : j = src e) : yv (H m c t) (iblk m c 2 t) (iblk m c 3 t) n e = Y m c (rowOf t n) j := by
  subst hj
  refine Eq.trans ?_ (yr_sum (X m c) (G m c) (W m c) (B m c) (rowOf t n) ⟨src e, src_lt he⟩).symm
  rw [iblk2, iblk3]
  unfold yv wideW wideB
  rw [dif_pos he]
  refine congrArg₂ (fun a b : EReal => a + b) (Finset.sum_congr rfl fun d _ => ?_) ?_
  · show H m c t (ix2 n d) * (if h : e < 2560 then _ else 0) = _
    rw [dif_pos he]
    exact congrArg (fun a : EReal => a * W m c (ix2 d ⟨src e, src_lt he⟩)) (hrow m c t n d)
  · show (if h : e < 2560 then _ else 0) = _
    rw [dif_pos he]
    rfl

theorem turn_congr (t t' : ℕ → EReal) (c' s' : EReal) (k k' : ℕ) (hk : k % 64 = k' % 64) (h0 : t k = t' k') (h1 : k % 64 < 32 → t (k + 32) = t' (k' + 32))
    (h2 : ¬k % 64 < 32 → t (k - 32) = t' (k' - 32)) : turn t c' s' k = turn t' c' s' k' := by
  unfold turn
  by_cases h : k % 64 < 32
  · rw [if_pos h, if_pos (hk ▸ h), h0, h1 h]
  · rw [if_neg h, if_neg (hk ▸ h), h0, h2 h]

theorem cs_congr (i : Fin 8192) (k k' : ℕ) (h : k % 32 = k' % 32) : cs i k = cs i k' := congrArg (fun e => Cert.ProjRefIdeal.Read.val_main_v36 (F := Ideal) (ix2 i e)) (Fin.ext h)
theorem sn_congr (i : Fin 8192) (k k' : ℕ) (h : k % 32 = k' % 32) : sn i k = sn i k' := congrArg (fun e => Cert.ProjRefIdeal.Read.val_main_v38 (F := Ideal) (ix2 i e)) (Fin.ext h)

theorem rotb_eq (t : Fin cfg0.N) (b : ℕ) (n : Fin 512) (k : ℕ) : rotb (H m c t) (iblk m c 2 t) (iblk m c 3 t) (iblk m c 4 t) (iblk m c 5 t) b n k
    = turn (fun j => yv (H m c t) (iblk m c 2 t) (iblk m c 3 t) n (b + 128 * (k / 128) + j)) (cs (rowOf t n) k) (sn (rowOf t n) k) (k % 128) := by
  rw [iblk4, iblk5]
  unfold rotb
  rw [cs_congr (rowOf t n) k (k % 128) (by omega), sn_congr (rowOf t n) k (k % 128) (by omega)]
  exact rot_eq _ _ _ _

set_option maxRecDepth 100000 in
theorem final6 : ((dats m 0 c).arrAt 6 cfg0.N : S8192x1024.Idx → EReal) = Cert.ProjRefIdeal.Read.val_main_v111 (F := Ideal) (X m c) (G m c) := by
  funext y
  obtain ⟨t, i, k, rfl⟩ := split y
  have b := congrFun (Value.blocks6 m c t (flush0_6 t)) (ix2 i k)
  rw [Value.flushed6_A, ProjOut.out6] at b
  have b' : (dats m 0 c).arrAt 6 cfg0.N (((cfg0.win 6).blk t).view.emb (ix2 i k)) = H m c t (ix2 i k) := b
  rw [emb6] at b'
  refine b'.trans ?_
  clear b b'
  exact hrow m c t i k

set_option maxRecDepth 100000 in
theorem final7 : ((dats m 0 c).arrAt 7 cfg0.N : S8192x512.Idx → EReal) = Cert.ProjRefIdeal.Read.val_main_v113 (F := Ideal) (X m c) (G m c) (W m c) (B m c) := by
  funext y
  obtain ⟨t, i, k, rfl⟩ := split y
  have b := congrFun (Value.blocks7 m c t (flush0_7 t)) (ix2 i k)
  rw [Value.flushed7_A, ProjOut.out7] at b
  have b' : (dats m 0 c).arrAt 7 cfg0.N (((cfg0.win 7).blk t).view.emb (ix2 i k)) = qab (H m c t) (iblk m c 2 t) (iblk m c 3 t) (iblk m c 4 t) (iblk m c 5 t) (ix2 i k) := b
  rw [emb7] at b'
  refine b'.trans ?_
  clear b b'
  refine Eq.trans ?_ (ProjRef.qa (X m c) (G m c) (W m c) (B m c) (rowOf t i) k).symm
  refine congrArg (· * sc) ((rotb_eq m c t 0 i k.val).trans (turn_congr _ _ _ _ _ _ (by omega) ?_ (fun h => ?_) (fun h => ?_)))
  all_goals
    have hk := k.isLt
    refine col m c t i _ _ (by omega) ?_
    unfold src
    split_ifs <;> omega

set_option maxRecDepth 100000 in
theorem final8 : ((dats m 0 c).arrAt 8 cfg0.N : S8192x256.Idx → EReal) = Cert.ProjRefIdeal.Read.val_main_v90 (F := Ideal) (X m c) (G m c) (W m c) (B m c) := by
  funext y
  obtain ⟨t, i, k, rfl⟩ := split y
  have b := congrFun (Value.blocks8 m c t (flush0_8 t)) (ix2 i k)
  rw [Value.flushed8_A, ProjOut.out8] at b
  have b' : (dats m 0 c).arrAt 8 cfg0.N (((cfg0.win 8).blk t).view.emb (ix2 i k)) = kab (H m c t) (iblk m c 2 t) (iblk m c 3 t) (iblk m c 4 t) (iblk m c 5 t) (ix2 i k) := b
  rw [emb8] at b'
  refine b'.trans ?_
  clear b b'
  refine Eq.trans ?_ (ProjRef.ka (X m c) (G m c) (W m c) (B m c) (rowOf t i) k).symm
  refine (rotb_eq m c t 512 i k.val).trans (turn_congr _ _ _ _ _ _ (by omega) ?_ (fun h => ?_) (fun h => ?_))
  all_goals
    have hk := k.isLt
    refine col m c t i _ _ (by omega) ?_
    unfold src
    split_ifs <;> omega

set_option maxRecDepth 100000 in
theorem final9 : ((dats m 0 c).arrAt 9 cfg0.N : S8192x256.Idx → EReal) = Cert.ProjRefIdeal.Read.val_main_v95 (F := Ideal) (X m c) (G m c) (W m c) (B m c) := by
  funext y
  obtain ⟨t, i, k, rfl⟩ := split y
  have b := congrFun (Value.blocks9 m c t (flush0_9 t)) (ix2 i k)
  rw [Value.flushed9_A, ProjOut.out9] at b
  have b' : (dats m 0 c).arrAt 9 cfg0.N (((cfg0.win 9).blk t).view.emb (ix2 i k)) = vab (H m c t) (iblk m c 2 t) (iblk m c 3 t) (ix2 i k) := b
  rw [emb9] at b'
  refine b'.trans ?_
  clear b b'
  refine Eq.trans ?_ (ProjRef.va (X m c) (G m c) (W m c) (B m c) (rowOf t i) k).symm
  have hk := k.isLt
  refine col m c t i (768 + k.val) _ (by omega) ?_
  unfold src
  split_ifs <;> omega

set_option maxRecDepth 100000 in
theorem final10 : ((dats m 0 c).arrAt 10 cfg0.N : S8192x512.Idx → EReal) = Cert.ProjRefIdeal.Read.val_main_v96 (F := Ideal) (X m c) (G m c) (W m c) (B m c) := by
  funext y
  obtain ⟨t, i, k, rfl⟩ := split y
  have b := congrFun (Value.blocks10 m c t (flush0_10 t)) (ix2 i k)
  rw [Value.flushed10_A, ProjOut.out10] at b
  have b' : (dats m 0 c).arrAt 10 cfg0.N (((cfg0.win 10).blk t).view.emb (ix2 i k)) = restride 512 512 1 (planes (qbb (H m c t) (iblk m c 2 t) (iblk m c 3 t))) (ix2 i k) := b
  rw [emb10] at b'
  refine b'.trans ?_
  clear b b'
  refine (restride_planes _ _ _ _ _).trans ?_
  have hi := i.isLt
  have hk := k.isLt
  have hr : rowOf t ⟨(1 * i.val + k.val / 512) % 512, Nat.mod_lt _ (by norm_num)⟩ = ⟨512 * t.val + i.val, by have := lt16 t; omega⟩ := Fin.ext (by
    show 512 * t.val + (1 * i.val + k.val / 512) % 512 = 512 * t.val + i.val
    omega)
  have h := congrArg (· * sc) (col m c t ⟨(1 * i.val + k.val / 512) % 512, Nat.mod_lt _ (by norm_num)⟩ (1024 + k.val % 512) (768 + k.val % 512) (by omega) (by unfold src; split_ifs <;> omega))
  rw [hr] at h
  refine Eq.trans h ?_
  rw [show k.val % 512 = k.val by omega]
  exact (ProjRef.qb (X m c) (G m c) (W m c) (B m c) (rowOf t i) k).symm

set_option maxRecDepth 100000 in
theorem final13 : ((dats m 0 c).arrAt 13 cfg0.N : S8192x512.Idx → EReal) = Cert.ProjRefIdeal.Read.val_main_v101 (F := Ideal) (X m c) (G m c) (W m c) (B m c) := by
  funext y
  obtain ⟨t, i, k, rfl⟩ := split y
  have b := congrFun (Value.blocks13 m c t (flush0_13 t)) (ix2 i k)
  rw [Value.flushed13_A, ProjOut.out13] at b
  have b' : (dats m 0 c).arrAt 13 cfg0.N (((cfg0.win 13).blk t).view.emb (ix2 i k)) = restride 512 512 1 (planes (pb (H m c t) (iblk m c 2 t) (iblk m c 3 t) 1536)) (ix2 i k) := b
  rw [emb13] at b'
  refine b'.trans ?_
  clear b b'
  refine (restride_planes _ _ _ _ _).trans ?_
  have hi := i.isLt
  have hk := k.isLt
  have hr : rowOf t ⟨(1 * i.val + k.val / 512) % 512, Nat.mod_lt _ (by norm_num)⟩ = ⟨512 * t.val + i.val, by have := lt16 t; omega⟩ := Fin.ext (by
    show 512 * t.val + (1 * i.val + k.val / 512) % 512 = 512 * t.val + i.val
    omega)
  have h := col m c t ⟨(1 * i.val + k.val / 512) % 512, Nat.mod_lt _ (by norm_num)⟩ (1536 + k.val % 512) (1280 + k.val % 512) (by omega) (by unfold src; split_ifs <;> omega)
  rw [hr] at h
  refine Eq.trans h ?_
  rw [show k.val % 512 = k.val by omega]
  exact (ProjRef.kb (X m c) (G m c) (W m c) (B m c) (rowOf t i) k).symm

set_option maxRecDepth 100000 in
theorem final16 : ((dats m 0 c).arrAt 16 cfg0.N : S8192x512.Idx → EReal) = Cert.ProjRefIdeal.Read.val_main_v106 (F := Ideal) (X m c) (G m c) (W m c) (B m c) := by
  funext y
  obtain ⟨t, i, k, rfl⟩ := split y
  have b := congrFun (Value.blocks16 m c t (flush0_16 t)) (ix2 i k)
  rw [Value.flushed16_A, ProjOut.out16] at b
  have b' : (dats m 0 c).arrAt 16 cfg0.N (((cfg0.win 16).blk t).view.emb (ix2 i k)) = restride 512 512 1 (planes (pb (H m c t) (iblk m c 2 t) (iblk m c 3 t) 2048)) (ix2 i k) := b
  rw [emb16] at b'
  refine b'.trans ?_
  clear b b'
  refine (restride_planes _ _ _ _ _).trans ?_
  have hi := i.isLt
  have hk := k.isLt
  have hr : rowOf t ⟨(1 * i.val + k.val / 512) % 512, Nat.mod_lt _ (by norm_num)⟩ = ⟨512 * t.val + i.val, by have := lt16 t; omega⟩ := Fin.ext (by
    show 512 * t.val + (1 * i.val + k.val / 512) % 512 = 512 * t.val + i.val
    omega)
  have h := col m c t ⟨(1 * i.val + k.val / 512) % 512, Nat.mod_lt _ (by norm_num)⟩ (2048 + k.val % 512) (1792 + k.val % 512) (by omega) (by unfold src; split_ifs <;> omega)
  rw [hr] at h
  refine Eq.trans h ?_
  rw [show k.val % 512 = k.val by omega]
  exact (ProjRef.vb (X m c) (G m c) (W m c) (B m c) (rowOf t i) k).symm

end Cert.ProjValue

end
-- ==== Proof.ProjViews.lean ====
/- The two wider layouts of the normed projections: four and sixteen rows side by side. -/
module

public import proofs.«01_k».proof.Proof.ProjValue
public import Idealize.ShloMosaic.Lib.Tactic

@[expose] public section

noncomputable section

namespace Cert.ProjViews

open Idealize.ShloMosaic Idealize.ShloMosaic.TcCoe Idealize.SL.Sem
open Idealize.ShloMosaic.Pipeline (Dat)
open Cert.ProjIdeal Cert.ProjIdeal.Gen Cert.Lift Cert.ProjBlock Cert.ProjPlane Cert.ProjHost Cert.ProjRef Cert.ProjValue

variable (m : (ℓ : Loc nD τ sig) → Buf (Elt Ideal) ℓ) (c : Dev nD)

theorem at98 (t : Fin cfg0.N) (i : Fin 128) (k : Fin 2048) : Cert.ProjRefIdeal.Read.idx_main_v98 (ix2 (row4 t i) k) = ix2 ⟨((128 * t.val + i.val) * 2048 + k.val) / 512, by have := lt16 t; omega⟩ ⟨((128 * t.val + i.val) * 2048 + k.val) % 512, Nat.mod_lt _ (by norm_num)⟩ := by
  funext a
  apply Fin.ext
  match a with
  | ⟨0, _⟩ => rfl
  | ⟨1, _⟩ => rfl

theorem same97 (x : S8192x1024.Idx → EReal) (g : S1024.Idx → EReal) (w : S1024x2304.Idx → EReal) (b : S2304.Idx → EReal) :
    (Cert.ProjRefIdeal.Read.val_main_v97 (F := Ideal) x g w b : S8192x512.Idx → EReal) = Cert.ProjRefIdeal.Read.val_main_v96 (F := Ideal) x g w b := by
  unfold Cert.ProjRefIdeal.Read.val_main_v97 Cert.ProjRefIdeal.Read.val_main_v96
  rfl

set_option maxHeartbeats 400000 in
set_option maxRecDepth 100000 in
theorem final11 : ((dats m 0 c).arrAt 11 cfg0.N : S2048x2048.Idx → EReal) = Cert.ProjRefIdeal.Read.val_main_v98 (F := Ideal) (X m c) (G m c) (W m c) (B m c) := by
  funext y
  obtain ⟨t, i, k, rfl⟩ := split4 y
  have b := congrFun (Value.blocks11 m c t (flush0_11 t)) (ix2 i k)
  rw [Value.flushed11_A, ProjOut.out11] at b
  have b' : (dats m 0 c).arrAt 11 cfg0.N (((cfg0.win 11).blk t).view.emb (ix2 i k)) = restride 128 2048 4 (planes (qbb (H m c t) (iblk m c 2 t) (iblk m c 3 t))) (ix2 i k) := b
  rw [emb11] at b'
  refine b'.trans ?_
  clear b b'
  refine (restride_planes _ _ _ _ _).trans ?_
  have hi := i.isLt
  have hk := k.isLt
  have hr : rowOf t ⟨(4 * i.val + k.val / 512) % 512, Nat.mod_lt _ (by norm_num)⟩ = ⟨((128 * t.val + i.val) * 2048 + k.val) / 512, by have := lt16 t; omega⟩ := Fin.ext (by
    show 512 * t.val + (4 * i.val + k.val / 512) % 512 = ((128 * t.val + i.val) * 2048 + k.val) / 512
    omega)
  have h := congrArg (· * sc) (col m c t ⟨(4 * i.val + k.val / 512) % 512, Nat.mod_lt _ (by norm_num)⟩ (1024 + k.val % 512) (768 + k.val % 512) (by omega) (by unfold src; split_ifs <;> omega))
  rw [hr] at h
  refine Eq.trans h ?_
  rw [show k.val % 512 = ((128 * t.val + i.val) * 2048 + k.val) % 512 by omega]
  refine Eq.symm ?_
  refine (Cert.ProjRefIdeal.Read.val_main_v98_apply (F := Ideal) (X m c) (G m c) (W m c) (B m c) (ix2 (row4 t i) k)).trans ?_
  rw [at98, same97]
  exact ProjRef.qb (X m c) (G m c) (W m c) (B m c) _ _

theorem at100 (t : Fin cfg0.N) (i : Fin 32) (k : Fin 8192) : Cert.ProjRefIdeal.Read.idx_main_v100 (ix2 (row16 t i) k) = ix2 ⟨((32 * t.val + i.val) * 8192 + k.val) / 512, by have := lt16 t; omega⟩ ⟨((32 * t.val + i.val) * 8192 + k.val) % 512, Nat.mod_lt _ (by norm_num)⟩ := by
  funext a
  apply Fin.ext
  match a with
  | ⟨0, _⟩ => rfl
  | ⟨1, _⟩ => rfl

theorem same99 (x : S8192x1024.Idx → EReal) (g : S1024.Idx → EReal) (w : S1024x2304.Idx → EReal) (b : S2304.Idx → EReal) :
    (Cert.ProjRefIdeal.Read.val_main_v99 (F := Ideal) x g w b : S8192x512.Idx → EReal) = Cert.ProjRefIdeal.Read.val_main_v96 (F := Ideal) x g w b := by
  unfold Cert.ProjRefIdeal.Read.val_main_v99 Cert.ProjRefIdeal.Read.val_main_v96
  rfl

set_option maxHeartbeats 400000 in
set_option maxRecDepth 100000 in
theorem final12 : ((dats m 0 c).arrAt 12 cfg0.N : S512x8192.Idx → EReal) = Cert.ProjRefIdeal.Read.val_main_v100 (F := Ideal) (X m c) (G m c) (W m c) (B m c) := by
  funext y
  obtain ⟨t, i, k, rfl⟩ := split16 y
  have b := congrFun (Value.blocks12 m c t (flush0_12 t)) (ix2 i k)
  rw [Value.flushed12_A, ProjOut.out12] at b
  have b' : (dats m 0 c).arrAt 12 cfg0.N (((cfg0.win 12).blk t).view.emb (ix2 i k)) = restride 32 8192 16 (planes (qbb (H m c t) (iblk m c 2 t) (iblk m c 3 t))) (ix2 i k) := b
  rw [emb12] at b'
  refine b'.trans ?_
  clear b b'
  refine (restride_planes _ _ _ _ _).trans ?_
  have hi := i.isLt
  have hk := k.isLt
  have hr : rowOf t ⟨(16 * i.val + k.val / 512) % 512, Nat.mod_lt _ (by norm_num)⟩ = ⟨((32 * t.val + i.val) * 8192 + k.val) / 512, by have := lt16 t; omega⟩ := Fin.ext (by
    show 512 * t.val + (16 * i.val + k.val / 512) % 512 = ((32 * t.val + i.val) * 8192 + k.val) / 512
    omega)
  have h := congrArg (· * sc) (col m c t ⟨(16 * i.val + k.val / 512) % 512, Nat.mod_lt _ (by norm_num)⟩ (1024 + k.val % 512) (768 + k.val % 512) (by omega) (by unfold src; split_ifs <;> omega))
  rw [hr] at h
  refine Eq.trans h ?_
  rw [show k.val % 512 = ((32 * t.val + i.val) * 8192 + k.val) % 512 by omega]
  refine Eq.symm ?_
  refine (Cert.ProjRefIdeal.Read.val_main_v100_apply (F := Ideal) (X m c) (G m c) (W m c) (B m c) (ix2 (row16 t i) k)).trans ?_
  rw [at100, same99]
  exact ProjRef.qb (X m c) (G m c) (W m c) (B m c) _ _

theorem at103 (t : Fin cfg0.N) (i : Fin 128) (k : Fin 2048) : Cert.ProjRefIdeal.Read.idx_main_v103 (ix2 (row4 t i) k) = ix2 ⟨((128 * t.val + i.val) * 2048 + k.val) / 512, by have := lt16 t; omega⟩ ⟨((128 * t.val + i.val) * 2048 + k.val) % 512, Nat.mod_lt _ (by norm_num)⟩ := by
  funext a
  apply Fin.ext
  match a with
  | ⟨0, _⟩ => rfl
  | ⟨1, _⟩ => rfl

theorem same102 (x : S8192x1024.Idx → EReal) (g : S1024.Idx → EReal) (w : S1024x2304.Idx → EReal) (b : S2304.Idx → EReal) :
    (Cert.ProjRefIdeal.Read.val_main_v102 (F := Ideal) x g w b : S8192x512.Idx → EReal) = Cert.ProjRefIdeal.Read.val_main_v101 (F := Ideal) x g w b := by
  unfold Cert.ProjRefIdeal.Read.val_main_v102 Cert.ProjRefIdeal.Read.val_main_v101
  rfl

set_option maxHeartbeats 400000 in
set_option maxRecDepth 100000 in
theorem final14 : ((dats m 0 c).arrAt 14 cfg0.N : S2048x2048.Idx → EReal) = Cert.ProjRefIdeal.Read.val_main_v103 (F := Ideal) (X m c) (G m c) (W m c) (B m c) := by
  funext y
  obtain ⟨t, i, k, rfl⟩ := split4 y
  have b := congrFun (Value.blocks14 m c t (flush0_14 t)) (ix2 i k)
  rw [Value.flushed14_A, ProjOut.out14] at b
  have b' : (dats m 0 c).arrAt 14 cfg0.N (((cfg0.win 14).blk t).view.emb (ix2 i k)) = restride 128 2048 4 (planes (pb (H m c t) (iblk m c 2 t) (iblk m c 3 t) 1536)) (ix2 i k) := b
  rw [emb14] at b'
  refine b'.trans ?_
  clear b b'
  refine (restride_planes _ _ _ _ _).trans ?_
  have hi := i.isLt
  have hk := k.isLt
  have hr : rowOf t ⟨(4 * i.val + k.val / 512) % 512, Nat.mod_lt _ (by norm_num)⟩ = ⟨((128 * t.val + i.val) * 2048 + k.val) / 512, by have := lt16 t; omega⟩ := Fin.ext (by
    show 512 * t.val + (4 * i.val + k.val / 512) % 512 = ((128 * t.val + i.val) * 2048 + k.val) / 512
    omega)
  have h := col m c t ⟨(4 * i.val + k.val / 512) % 512, Nat.mod_lt _ (by norm_num)⟩ (1536 + k.val % 512) (1280 + k.val % 512) (by omega) (by unfold src; split_ifs <;> omega)
  rw [hr] at h
  refine Eq.trans h ?_
  rw [show k.val % 512 = ((128 * t.val + i.val) * 2048 + k.val) % 512 by omega]
  refine Eq.symm ?_
  refine (Cert.ProjRefIdeal.Read.val_main_v103_apply (F := Ideal) (X m c) (G m c) (W m c) (B m c) (ix2 (row4 t i) k)).trans ?_
  rw [at103, same102]
  exact ProjRef.kb (X m c) (G m c) (W m c) (B m c) _ _

theorem at105 (t : Fin cfg0.N) (i : Fin 32) (k : Fin 8192) : Cert.ProjRefIdeal.Read.idx_main_v105 (ix2 (row16 t i) k) = ix2 ⟨((32 * t.val + i.val) * 8192 + k.val) / 512, by have := lt16 t; omega⟩ ⟨((32 * t.val + i.val) * 8192 + k.val) % 512, Nat.mod_lt _ (by norm_num)⟩ := by
  funext a
  apply Fin.ext
  match a with
  | ⟨0, _⟩ => rfl
  | ⟨1, _⟩ => rfl

theorem same104 (x : S8192x1024.Idx → EReal) (g : S1024.Idx → EReal) (w : S1024x2304.Idx → EReal) (b : S2304.Idx → EReal) :
    (Cert.ProjRefIdeal.Read.val_main_v104 (F := Ideal) x g w b : S8192x512.Idx → EReal) = Cert.ProjRefIdeal.Read.val_main_v101 (F := Ideal) x g w b := by
  unfold Cert.ProjRefIdeal.Read.val_main_v104 Cert.ProjRefIdeal.Read.val_main_v101
  rfl

set_option maxHeartbeats 400000 in
set_option maxRecDepth 100000 in
theorem final15 : ((dats m 0 c).arrAt 15 cfg0.N : S512x8192.Idx → EReal) = Cert.ProjRefIdeal.Read.val_main_v105 (F := Ideal) (X m c) (G m c) (W m c) (B m c) := by
  funext y
  obtain ⟨t, i, k, rfl⟩ := split16 y
  have b := congrFun (Value.blocks15 m c t (flush0_15 t)) (ix2 i k)
  rw [Value.flushed15_A, ProjOut.out15] at b
  have b' : (dats m 0 c).arrAt 15 cfg0.N (((cfg0.win 15).blk t).view.emb (ix2 i k)) = restride 32 8192 16 (planes (pb (H m c t) (iblk m c 2 t) (iblk m c 3 t) 1536)) (ix2 i k) := b
  rw [emb15] at b'
  refine b'.trans ?_
  clear b b'
  refine (restride_planes _ _ _ _ _).trans ?_
  have hi := i.isLt
  have hk := k.isLt
  have hr : rowOf t ⟨(16 * i.val + k.val / 512) % 512, Nat.mod_lt _ (by norm_num)⟩ = ⟨((32 * t.val + i.val) * 8192 + k.val) / 512, by have := lt16 t; omega⟩ := Fin.ext (by
    show 512 * t.val + (16 * i.val + k.val / 512) % 512 = ((32 * t.val + i.val) * 8192 + k.val) / 512
    omega)
  have h := col m c t ⟨(16 * i.val + k.val / 512) % 512, Nat.mod_lt _ (by norm_num)⟩ (1536 + k.val % 512) (1280 + k.val % 512) (by omega) (by unfold src; split_ifs <;> omega)
  rw [hr] at h
  refine Eq.trans h ?_
  rw [show k.val % 512 = ((32 * t.val + i.val) * 8192 + k.val) % 512 by omega]
  refine Eq.symm ?_
  refine (Cert.ProjRefIdeal.Read.val_main_v105_apply (F := Ideal) (X m c) (G m c) (W m c) (B m c) (ix2 (row16 t i) k)).trans ?_
  rw [at105, same104]
  exact ProjRef.kb (X m c) (G m c) (W m c) (B m c) _ _

theorem at108 (t : Fin cfg0.N) (i : Fin 128) (k : Fin 2048) : Cert.ProjRefIdeal.Read.idx_main_v108 (ix2 (row4 t i) k) = ix2 ⟨((128 * t.val + i.val) * 2048 + k.val) / 512, by have := lt16 t; omega⟩ ⟨((128 * t.val + i.val) * 2048 + k.val) % 512, Nat.mod_lt _ (by norm_num)⟩ := by
  funext a
  apply Fin.ext
  match a with
  | ⟨0, _⟩ => rfl
  | ⟨1, _⟩ => rfl

theorem same107 (x : S8192x1024.Idx → EReal) (g : S1024.Idx → EReal) (w : S1024x2304.Idx → EReal) (b : S2304.Idx → EReal) :
    (Cert.ProjRefIdeal.Read.val_main_v107 (F := Ideal) x g w b : S8192x512.Idx → EReal) = Cert.ProjRefIdeal.Read.val_main_v106 (F := Ideal) x g w b := by
  unfold Cert.ProjRefIdeal.Read.val_main_v107 Cert.ProjRefIdeal.Read.val_main_v106
  rfl

set_option maxHeartbeats 400000 in
set_option maxRecDepth 100000 in
theorem final17 : ((dats m 0 c).arrAt 17 cfg0.N : S2048x2048.Idx → EReal) = Cert.ProjRefIdeal.Read.val_main_v108 (F := Ideal) (X m c) (G m c) (W m c) (B m c) := by
  funext y
  obtain ⟨t, i, k, rfl⟩ := split4 y
  have b := congrFun (Value.blocks17 m c t (flush0_17 t)) (ix2 i k)
  rw [Value.flushed17_A, ProjOut.out17] at b
  have b' : (dats m 0 c).arrAt 17 cfg0.N (((cfg0.win 17).blk t).view.emb (ix2 i k)) = restride 128 2048 4 (planes (pb (H m c t) (iblk m c 2 t) (iblk m c 3 t) 2048)) (ix2 i k) := b
  rw [emb17] at b'
  refine b'.trans ?_
  clear b b'
  refine (restride_planes _ _ _ _ _).trans ?_
  have hi := i.isLt
  have hk := k.isLt
  have hr : rowOf t ⟨(4 * i.val + k.val / 512) % 512, Nat.mod_lt _ (by norm_num)⟩ = ⟨((128 * t.val + i.val) * 2048 + k.val) / 512, by have := lt16 t; omega⟩ := Fin.ext (by
    show 512 * t.val + (4 * i.val + k.val / 512) % 512 = ((128 * t.val + i.val) * 2048 + k.val) / 512
    omega)
  have h := col m c t ⟨(4 * i.val + k.val / 512) % 512, Nat.mod_lt _ (by norm_num)⟩ (2048 + k.val % 512) (1792 + k.val % 512) (by omega) (by unfold src; split_ifs <;> omega)
  rw [hr] at h
  refine Eq.trans h ?_
  rw [show k.val % 512 = ((128 * t.val + i.val) * 2048 + k.val) % 512 by omega]
  refine Eq.symm ?_
  refine (Cert.ProjRefIdeal.Read.val_main_v108_apply (F := Ideal) (X m c) (G m c) (W m c) (B m c) (ix2 (row4 t i) k)).trans ?_
  rw [at108, same107]
  exact ProjRef.vb (X m c) (G m c) (W m c) (B m c) _ _

theorem at110 (t : Fin cfg0.N) (i : Fin 32) (k : Fin 8192) : Cert.ProjRefIdeal.Read.idx_main_v110 (ix2 (row16 t i) k) = ix2 ⟨((32 * t.val + i.val) * 8192 + k.val) / 512, by have := lt16 t; omega⟩ ⟨((32 * t.val + i.val) * 8192 + k.val) % 512, Nat.mod_lt _ (by norm_num)⟩ := by
  funext a
  apply Fin.ext
  match a with
  | ⟨0, _⟩ => rfl
  | ⟨1, _⟩ => rfl

theorem same109 (x : S8192x1024.Idx → EReal) (g : S1024.Idx → EReal) (w : S1024x2304.Idx → EReal) (b : S2304.Idx → EReal) :
    (Cert.ProjRefIdeal.Read.val_main_v109 (F := Ideal) x g w b : S8192x512.Idx → EReal) = Cert.ProjRefIdeal.Read.val_main_v106 (F := Ideal) x g w b := by
  unfold Cert.ProjRefIdeal.Read.val_main_v109 Cert.ProjRefIdeal.Read.val_main_v106
  rfl

set_option maxHeartbeats 400000 in
set_option maxRecDepth 100000 in
theorem final18 : ((dats m 0 c).arrAt 18 cfg0.N : S512x8192.Idx → EReal) = Cert.ProjRefIdeal.Read.val_main_v110 (F := Ideal) (X m c) (G m c) (W m c) (B m c) := by
  funext y
  obtain ⟨t, i, k, rfl⟩ := split16 y
  have b := congrFun (Value.blocks18 m c t (flush0_18 t)) (ix2 i k)
  rw [Value.flushed18_A, ProjOut.out18] at b
  have b' : (dats m 0 c).arrAt 18 cfg0.N (((cfg0.win 18).blk t).view.emb (ix2 i k)) = restride 32 8192 16 (planes (pb (H m c t) (iblk m c 2 t) (iblk m c 3 t) 2048)) (ix2 i k) := b
  rw [emb18] at b'
  refine b'.trans ?_
  clear b b'
  refine (restride_planes _ _ _ _ _).trans ?_
  have hi := i.isLt
  have hk := k.isLt
  have hr : rowOf t ⟨(16 * i.val + k.val / 512) % 512, Nat.mod_lt _ (by norm_num)⟩ = ⟨((32 * t.val + i.val) * 8192 + k.val) / 512, by have := lt16 t; omega⟩ := Fin.ext (by
    show 512 * t.val + (16 * i.val + k.val / 512) % 512 = ((32 * t.val + i.val) * 8192 + k.val) / 512
    omega)
  have h := col m c t ⟨(16 * i.val + k.val / 512) % 512, Nat.mod_lt _ (by norm_num)⟩ (2048 + k.val % 512) (1792 + k.val % 512) (by omega) (by unfold src; split_ifs <;> omega)
  rw [hr] at h
  refine Eq.trans h ?_
  rw [show k.val % 512 = ((32 * t.val + i.val) * 8192 + k.val) % 512 by omega]
  refine Eq.symm ?_
  refine (Cert.ProjRefIdeal.Read.val_main_v110_apply (F := Ideal) (X m c) (G m c) (W m c) (B m c) (ix2 (row16 t i) k)).trans ?_
  rw [at110, same109]
  exact ProjRef.vb (X m c) (G m c) (W m c) (B m c) _ _

end Cert.ProjViews

end
-- ==== Proof.ProjClaims.lean ====
/- The claims about the normed projections' kernel: what it leaves, against the reference. -/
module

public import proofs.«01_k».proof.Defs
public import proofs.«01_k».proof.Proof.ProjViews
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import Idealize.ShloMosaic.Adequacy
public import Idealize.ShloMosaic.Init
public import Idealize.ShloMosaic.Lib.StableHlo.RunRead

@[expose] public section

noncomputable section

namespace Cert.ProjClaims

open Idealize.ShloMosaic Idealize.ShloMosaic.TcCoe Idealize.SL.Sem Cert.ProjValue Cert.ProjViews

theorem frame_p : quiescent_Proj := fun m ρ _ => Cert.Proj.Gen.frame m ρ
theorem frame_pi : quiescent_ProjIdeal := fun m ρ _ => Cert.ProjIdeal.Gen.frame m ρ
theorem frame_ri : quiescent_ProjRefIdeal := fun m ρ _ =>
  (θ_run Cert.ProjRefIdeal.defs _ _).mono
    (fun r h => ⟨fun c => (h c).2.2.2.2.2.2.2.2.2.2.2.2.2, sem_eq_zero_of_no_sems (by decide) r.2⟩) (Cert.ProjRefIdeal.Value.run (F := Ideal) m ρ)

set_option maxHeartbeats 4000000 in
theorem algebraic : algebraic_ProjIdeal_ProjRefIdeal := by
  intro m ρ m' ρ' _ hagree
  refine ⟨_, _, _, _, _, _, _, _, _, _, _, _, _, Cert.ProjIdeal.Value.run_blocks m ρ, ?_⟩
  refine (θ_run Cert.ProjRefIdeal.defs _ _).mono (fun r h c => ?_) (Cert.ProjRefIdeal.Value.run (F := Ideal) m' ρ')
  obtain ⟨a0, a1, a2, a3⟩ := hagree c
  obtain ⟨h0, h1, h2, h3, h4, h5, h6, h7, h8, h9, h10, h11, h12, rest⟩ := h c
  replace h0 := h0.trans (Cert.ProjRefIdeal.Read.val_main_v111_eq (F := Ideal) _ _)
  rw [a0, a1] at h0
  replace h1 := h1.trans (Cert.ProjRefIdeal.Read.val_main_v113_eq (F := Ideal) m' c)
  rw [a0, a1, a2, a3] at h1
  replace h2 := h2.trans (Cert.ProjRefIdeal.Read.val_main_v90_eq (F := Ideal) m' c)
  rw [a0, a1, a2, a3] at h2
  replace h3 := h3.trans (Cert.ProjRefIdeal.Read.val_main_v95_eq (F := Ideal) _ _ _ _)
  rw [a0, a1, a2, a3] at h3
  replace h4 := h4.trans (Cert.ProjRefIdeal.Read.val_main_v96_eq (F := Ideal) _ _ _ _)
  rw [a0, a1, a2, a3] at h4
  replace h5 := h5.trans (Cert.ProjRefIdeal.Read.val_main_v98_eq (F := Ideal) _ _ _ _)
  rw [a0, a1, a2, a3] at h5
  replace h6 := h6.trans (Cert.ProjRefIdeal.Read.val_main_v100_eq (F := Ideal) _ _ _ _)
  rw [a0, a1, a2, a3] at h6
  replace h7 := h7.trans (Cert.ProjRefIdeal.Read.val_main_v101_eq (F := Ideal) _ _ _ _)
  rw [a0, a1, a2, a3] at h7
  replace h8 := h8.trans (Cert.ProjRefIdeal.Read.val_main_v103_eq (F := Ideal) _ _ _ _)
  rw [a0, a1, a2, a3] at h8
  replace h9 := h9.trans (Cert.ProjRefIdeal.Read.val_main_v105_eq (F := Ideal) _ _ _ _)
  rw [a0, a1, a2, a3] at h9
  replace h10 := h10.trans (Cert.ProjRefIdeal.Read.val_main_v106_eq (F := Ideal) _ _ _ _)
  rw [a0, a1, a2, a3] at h10
  replace h11 := h11.trans (Cert.ProjRefIdeal.Read.val_main_v108_eq (F := Ideal) _ _ _ _)
  rw [a0, a1, a2, a3] at h11
  replace h12 := h12.trans (Cert.ProjRefIdeal.Read.val_main_v110_eq (F := Ideal) _ _ _ _)
  rw [a0, a1, a2, a3] at h12
  exact ⟨h0.trans (final6 m c).symm, h1.trans (final7 m c).symm, h2.trans (final8 m c).symm,
    h3.trans (final9 m c).symm, h4.trans (final10 m c).symm, h5.trans (final11 m c).symm,
    h6.trans (final12 m c).symm, h7.trans (final13 m c).symm, h8.trans (final14 m c).symm,
    h9.trans (final15 m c).symm, h10.trans (final16 m c).symm, h11.trans (final17 m c).symm,
    h12.trans (final18 m c).symm, rest⟩

end Cert.ProjClaims

end
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.Gen.Wo
public import proofs.«01_k».proof.Proof.Gen.Wo.Skeleton
public import proofs.«01_k».proof.Proof.Gen.Wo.Launch
public import proofs.«01_k».proof.Proof.Gen.Wo.Points
public import proofs.«01_k».proof.Proof.Gen.Wo.Frame
public import proofs.«01_k».proof.Proof.Gen.WoIdeal
public import proofs.«01_k».proof.Proof.Gen.WoIdeal.Skeleton
public import proofs.«01_k».proof.Proof.Gen.WoIdeal.Launch
public import proofs.«01_k».proof.Proof.Gen.WoIdeal.Points
public import proofs.«01_k».proof.Proof.Gen.WoIdeal.Frame
public import proofs.«01_k».proof.Proof.Gen.WoIdeal.Value
public import proofs.«01_k».proof.Proof.Gen.WoRefIdeal
public import proofs.«01_k».proof.Proof.Gen.WoRefIdeal.Run
public import proofs.«01_k».proof.Proof.Gen.WoRefIdeal.Read
public import proofs.«01_k».proof.Proof.Gen.Pre_wo_finite
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.Pre_ffnup_finite
public import proofs.«01_k».proof.Proof.Gen.Product
public import proofs.«01_k».proof.Proof.Gen.Product.Skeleton
public import proofs.«01_k».proof.Proof.Gen.Product.Launch
public import proofs.«01_k».proof.Proof.Gen.Product.Points
public import proofs.«01_k».proof.Proof.Gen.Product.Frame
public import proofs.«01_k».proof.Proof.Gen.ProductIdeal
public import proofs.«01_k».proof.Proof.Gen.ProductIdeal.Skeleton
public import proofs.«01_k».proof.Proof.Gen.ProductIdeal.Launch
public import proofs.«01_k».proof.Proof.Gen.ProductIdeal.Points
public import proofs.«01_k».proof.Proof.Gen.ProductIdeal.Frame
public import proofs.«01_k».proof.Proof.Gen.ProductIdeal.Value
public import proofs.«01_k».proof.Proof.Gen.ProductRefIdeal
public import proofs.«01_k».proof.Proof.Gen.ProductRefIdeal.Run
public import proofs.«01_k».proof.Proof.Gen.ProductRefIdeal.Read
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepIdeal.Value
public import proofs.«01_k».proof.Proof.Gen.StepRefIdeal
public import proofs.«01_k».proof.Proof.Gen.StepRefIdeal.Run
public import proofs.«01_k».proof.Proof.Gen.StepRefIdeal.Read
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallIdeal.Value
public import proofs.«01_k».proof.Proof.Gen.SmallRefIdeal
public import proofs.«01_k».proof.Proof.Gen.SmallRefIdeal.Run
public import proofs.«01_k».proof.Proof.Gen.SmallRefIdeal.Read
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasRefIdeal
public import proofs.«01_k».proof.Proof.Gen.BiasRefIdeal.Run
public import proofs.«01_k».proof.Proof.Gen.BiasRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.LossClaims
public import proofs.«01_k».proof.Proof.FfnClaims
public import proofs.«01_k».proof.Proof.WoClaims
public import proofs.«01_k».proof.Proof.FfnUpClaims
public import proofs.«01_k».proof.Proof.ProductClaims
public import proofs.«01_k».proof.Proof.StepClaims
public import proofs.«01_k».proof.Proof.SmallClaims
public import proofs.«01_k».proof.Proof.BiasClaims
public import proofs.«01_k».proof.Proof.ProjClaims
public import Idealize.ShloMosaic.Adequacy
public import Idealize.ShloMosaic.Init

@[expose] public section

noncomputable section

namespace Cert.Proof

theorem claim : Cert.Claim := ⟨
  Cert.Loss.Gen.facts, Cert.LossIdeal.Gen.facts, Cert.LossRefIdeal.Gen.facts, Cert.Ffn.Gen.facts, Cert.FfnIdeal.Gen.facts, Cert.FfnRefIdeal.Gen.facts,
  Cert.Wo.Gen.facts, Cert.WoIdeal.Gen.facts, Cert.WoRefIdeal.Gen.facts, Cert.FfnUp.Gen.facts, Cert.FfnUpIdeal.Gen.facts, Cert.FfnUpRefIdeal.Gen.facts,
  Cert.Product.Gen.facts, Cert.ProductIdeal.Gen.facts, Cert.ProductRefIdeal.Gen.facts, Cert.Step.Gen.facts, Cert.StepIdeal.Gen.facts,
  Cert.StepRefIdeal.Gen.facts, Cert.Small.Gen.facts, Cert.SmallIdeal.Gen.facts, Cert.SmallRefIdeal.Gen.facts, Cert.Bias.Gen.facts,
  Cert.BiasIdeal.Gen.facts, Cert.BiasRefIdeal.Gen.facts,
  Cert.Proj.Gen.facts, Cert.ProjIdeal.Gen.facts, Cert.ProjRefIdeal.Gen.facts, Cert.Pre_loss_finite.Gen.facts, Cert.Pre_ffn_finite.Gen.facts, Cert.Pre_wo_finite.Gen.facts,
  Cert.Pre_ffnup_finite.Gen.facts, LossClaims.frame_p, LossClaims.frame_pi, LossClaims.frame_pi', LossClaims.frame_ri, LossClaims.frame_ri',
  FfnClaims.frame_p, FfnClaims.frame_pi, FfnClaims.frame_pi', FfnClaims.frame_ri, FfnClaims.frame_ri', WoClaims.frame_p, WoClaims.frame_pi,
  WoClaims.frame_pi', WoClaims.frame_ri, WoClaims.frame_ri', FfnUpClaims.frame_p, FfnUpClaims.frame_pi, FfnUpClaims.frame_pi', FfnUpClaims.frame_ri,
  FfnUpClaims.frame_ri', ProductClaims.frame_p, ProductClaims.frame_pi, ProductClaims.frame_ri, StepClaims.frame_p, StepClaims.frame_pi,
  StepClaims.frame_ri, SmallClaims.frame_p, SmallClaims.frame_pi, SmallClaims.frame_ri, BiasClaims.frame_p,
  BiasClaims.frame_pi, BiasClaims.frame_ri, ProjClaims.frame_p, ProjClaims.frame_pi, ProjClaims.frame_ri,
  trivial, LossClaims.algebraic, FfnClaims.preserves, FfnClaims.algebraic, trivial, WoClaims.algebraic,
  FfnUpClaims.preserves, FfnUpClaims.algebraic, trivial, ProductClaims.algebraic, trivial, StepClaims.algebraic, trivial, SmallClaims.algebraic,
  trivial, BiasClaims.algebraic, trivial, ProjClaims.algebraic⟩

end Cert.Proof

end
